-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Dwo (m : (ℓ : Loc Cert.Dwo.nD Cert.Dwo.τ Cert.Dwo.sig) → Buf (Elt Bits) ℓ) : Prop :=
  True

def Pre_DwoIdeal (m : (ℓ : Loc Cert.DwoIdeal.nD Cert.DwoIdeal.τ Cert.DwoIdeal.sig) → Buf (Elt Ideal) ℓ) : Prop :=
  True

def Pre_DwoRefIdeal (m : (ℓ : Loc Cert.DwoRefIdeal.nD Cert.DwoRefIdeal.τ Cert.DwoRefIdeal.sig) → Buf (Elt Ideal) ℓ) : Prop :=
  True

def Pre_Dwi (m : (ℓ : Loc Cert.Dwi.nD Cert.Dwi.τ Cert.Dwi.sig) → Buf (Elt Bits) ℓ) : Prop :=
  True

def Pre_DwiIdeal (m : (ℓ : Loc Cert.DwiIdeal.nD Cert.DwiIdeal.τ Cert.DwiIdeal.sig) → Buf (Elt Ideal) ℓ) : Prop :=
  True

def Pre_DwiRefIdeal (m : (ℓ : Loc Cert.DwiRefIdeal.nD Cert.DwiRefIdeal.τ Cert.DwiRefIdeal.sig) → Buf (Elt Ideal) ℓ) : Prop :=
  True

def Pre_Act (m : (ℓ : Loc Cert.Act.nD Cert.Act.τ Cert.Act.sig) → Buf (Elt Bits) ℓ) : Prop :=
  True

def Pre_ActIdeal (m : (ℓ : Loc Cert.ActIdeal.nD Cert.ActIdeal.τ Cert.ActIdeal.sig) → Buf (Elt Ideal) ℓ) : Prop :=
  True

def Pre_ActRefIdeal (m : (ℓ : Loc Cert.ActRefIdeal.nD Cert.ActRefIdeal.τ Cert.ActRefIdeal.sig) → Buf (Elt Ideal) ℓ) : Prop :=
  True

def Pre_Dact0 (m : (ℓ : Loc Cert.Dact0.nD Cert.Dact0.τ Cert.Dact0.sig) → Buf (Elt Bits) ℓ) : Prop :=
  True

def Pre_Dact0Ideal (m : (ℓ : Loc Cert.Dact0Ideal.nD Cert.Dact0Ideal.τ Cert.Dact0Ideal.sig) → Buf (Elt Ideal) ℓ) : Prop :=
  True

def Pre_Dact0RefIdeal (m : (ℓ : Loc Cert.Dact0RefIdeal.nD Cert.Dact0RefIdeal.τ Cert.Dact0RefIdeal.sig) → Buf (Elt Ideal) ℓ) : Prop :=
  True

def Pre_Dh0 (m : (ℓ : Loc Cert.Dh0.nD Cert.Dh0.τ Cert.Dh0.sig) → Buf (Elt Bits) ℓ) : Prop :=
  True

def Pre_Dh0Ideal (m : (ℓ : Loc Cert.Dh0Ideal.nD Cert.Dh0Ideal.τ Cert.Dh0Ideal.sig) → Buf (Elt Ideal) ℓ) : Prop :=
  True

def Pre_Dh0RefIdeal (m : (ℓ : Loc Cert.Dh0RefIdeal.nD Cert.Dh0RefIdeal.τ Cert.Dh0RefIdeal.sig) → Buf (Elt Ideal) ℓ) : Prop :=
  True

def Pre_In0 (m : (ℓ : Loc Cert.In0.nD Cert.In0.τ Cert.In0.sig) → Buf (Elt Bits) ℓ) : Prop :=
  True

def Pre_In0Ideal (m : (ℓ : Loc Cert.In0Ideal.nD Cert.In0Ideal.τ Cert.In0Ideal.sig) → Buf (Elt Ideal) ℓ) : Prop :=
  True

def Pre_In0RefIdeal (m : (ℓ : Loc Cert.In0RefIdeal.nD Cert.In0RefIdeal.τ Cert.In0RefIdeal.sig) → Buf (Elt Ideal) ℓ) : Prop :=
  True

def Pre_Out0 (m : (ℓ : Loc Cert.Out0.nD Cert.Out0.τ Cert.Out0.sig) → Buf (Elt Bits) ℓ) : Prop :=
  True

def Pre_Out0Ideal (m : (ℓ : Loc Cert.Out0Ideal.nD Cert.Out0Ideal.τ Cert.Out0Ideal.sig) → Buf (Elt Ideal) ℓ) : Prop :=
  True

def Pre_Out0RefIdeal (m : (ℓ : Loc Cert.Out0RefIdeal.nD Cert.Out0RefIdeal.τ Cert.Out0RefIdeal.sig) → Buf (Elt Ideal) ℓ) : Prop :=
  True

def Pre_Dact1 (m : (ℓ : Loc Cert.Dact1.nD Cert.Dact1.τ Cert.Dact1.sig) → Buf (Elt Bits) ℓ) : Prop :=
  True

def Pre_Dact1Ideal (m : (ℓ : Loc Cert.Dact1Ideal.nD Cert.Dact1Ideal.τ Cert.Dact1Ideal.sig) → Buf (Elt Ideal) ℓ) : Prop :=
  True

def Pre_Dact1RefIdeal (m : (ℓ : Loc Cert.Dact1RefIdeal.nD Cert.Dact1RefIdeal.τ Cert.Dact1RefIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1RefIdeal (m : (ℓ : Loc Cert.Dh1RefIdeal.nD Cert.Dh1RefIdeal.τ Cert.Dh1RefIdeal.sig) → Buf (Elt Ideal) ℓ) : Prop :=
  True

def Pre_In1 (m : (ℓ : Loc Cert.In1.nD Cert.In1.τ Cert.In1.sig) → Buf (Elt Bits) ℓ) : Prop :=
  True

def Pre_In1Ideal (m : (ℓ : Loc Cert.In1Ideal.nD Cert.In1Ideal.τ Cert.In1Ideal.sig) → Buf (Elt Ideal) ℓ) : Prop :=
  True

def Pre_In1RefIdeal (m : (ℓ : Loc Cert.In1RefIdeal.nD Cert.In1RefIdeal.τ Cert.In1RefIdeal.sig) → Buf (Elt Ideal) ℓ) : Prop :=
  True

def Pre_Out1 (m : (ℓ : Loc Cert.Out1.nD Cert.Out1.τ Cert.Out1.sig) → Buf (Elt Bits) ℓ) : Prop :=
  True

def Pre_Out1Ideal (m : (ℓ : Loc Cert.Out1Ideal.nD Cert.Out1Ideal.τ Cert.Out1Ideal.sig) → Buf (Elt Ideal) ℓ) : Prop :=
  True

def Pre_Out1RefIdeal (m : (ℓ : Loc Cert.Out1RefIdeal.nD Cert.Out1RefIdeal.τ Cert.Out1RefIdeal.sig) → Buf (Elt Ideal) ℓ) : Prop :=
  True

def Pre_Dact2 (m : (ℓ : Loc Cert.Dact2.nD Cert.Dact2.τ Cert.Dact2.sig) → Buf (Elt Bits) ℓ) : Prop :=
  True

def Pre_Dact2Ideal (m : (ℓ : Loc Cert.Dact2Ideal.nD Cert.Dact2Ideal.τ Cert.Dact2Ideal.sig) → Buf (Elt Ideal) ℓ) : Prop :=
  True

def Pre_Dact2RefIdeal (m : (ℓ : Loc Cert.Dact2RefIdeal.nD Cert.Dact2RefIdeal.τ Cert.Dact2RefIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2RefIdeal (m : (ℓ : Loc Cert.Dh2RefIdeal.nD Cert.Dh2RefIdeal.τ Cert.Dh2RefIdeal.sig) → Buf (Elt Ideal) ℓ) : Prop :=
  True

def Pre_In2 (m : (ℓ : Loc Cert.In2.nD Cert.In2.τ Cert.In2.sig) → Buf (Elt Bits) ℓ) : Prop :=
  True

def Pre_In2Ideal (m : (ℓ : Loc Cert.In2Ideal.nD Cert.In2Ideal.τ Cert.In2Ideal.sig) → Buf (Elt Ideal) ℓ) : Prop :=
  True

def Pre_In2RefIdeal (m : (ℓ : Loc Cert.In2RefIdeal.nD Cert.In2RefIdeal.τ Cert.In2RefIdeal.sig) → Buf (Elt Ideal) ℓ) : Prop :=
  True

def Pre_Out2 (m : (ℓ : Loc Cert.Out2.nD Cert.Out2.τ Cert.Out2.sig) → Buf (Elt Bits) ℓ) : Prop :=
  True

def Pre_Out2Ideal (m : (ℓ : Loc Cert.Out2Ideal.nD Cert.Out2Ideal.τ Cert.Out2Ideal.sig) → Buf (Elt Ideal) ℓ) : Prop :=
  True

def Pre_Out2RefIdeal (m : (ℓ : Loc Cert.Out2RefIdeal.nD Cert.Out2RefIdeal.τ Cert.Out2RefIdeal.sig) → Buf (Elt Ideal) ℓ) : Prop :=
  True

def Pre_Dact3 (m : (ℓ : Loc Cert.Dact3.nD Cert.Dact3.τ Cert.Dact3.sig) → Buf (Elt Bits) ℓ) : Prop :=
  True

def Pre_Dact3Ideal (m : (ℓ : Loc Cert.Dact3Ideal.nD Cert.Dact3Ideal.τ Cert.Dact3Ideal.sig) → Buf (Elt Ideal) ℓ) : Prop :=
  True

def Pre_Dact3RefIdeal (m : (ℓ : Loc Cert.Dact3RefIdeal.nD Cert.Dact3RefIdeal.τ Cert.Dact3RefIdeal.sig) → Buf (Elt Ideal) ℓ) : Prop :=
  True

def Pre_Dh3 (m : (ℓ : Loc Cert.Dh3.nD Cert.Dh3.τ Cert.Dh3.sig) → Buf (Elt Bits) ℓ) : Prop :=
  True

def Pre_Dh3Ideal (m : (ℓ : Loc Cert.Dh3Ideal.nD Cert.Dh3Ideal.τ Cert.Dh3Ideal.sig) → Buf (Elt Ideal) ℓ) : Prop :=
  True

def Pre_Dh3RefIdeal (m : (ℓ : Loc Cert.Dh3RefIdeal.nD Cert.Dh3RefIdeal.τ Cert.Dh3RefIdeal.sig) → Buf (Elt Ideal) ℓ) : Prop :=
  True

def Pre_In3 (m : (ℓ : Loc Cert.In3.nD Cert.In3.τ Cert.In3.sig) → Buf (Elt Bits) ℓ) : Prop :=
  True

def Pre_In3Ideal (m : (ℓ : Loc Cert.In3Ideal.nD Cert.In3Ideal.τ Cert.In3Ideal.sig) → Buf (Elt Ideal) ℓ) : Prop :=
  True

def Pre_In3RefIdeal (m : (ℓ : Loc Cert.In3RefIdeal.nD Cert.In3RefIdeal.τ Cert.In3RefIdeal.sig) → Buf (Elt Ideal) ℓ) : Prop :=
  True

def Pre_Out3 (m : (ℓ : Loc Cert.Out3.nD Cert.Out3.τ Cert.Out3.sig) → Buf (Elt Bits) ℓ) : Prop :=
  True

def Pre_Out3Ideal (m : (ℓ : Loc Cert.Out3Ideal.nD Cert.Out3Ideal.τ Cert.Out3Ideal.sig) → Buf (Elt Ideal) ℓ) : Prop :=
  True

def Pre_Out3RefIdeal (m : (ℓ : Loc Cert.Out3RefIdeal.nD Cert.Out3RefIdeal.τ Cert.Out3RefIdeal.sig) → Buf (Elt Ideal) ℓ) : Prop :=
  True

def Pre_MixDw (m : (ℓ : Loc Cert.MixDw.nD Cert.MixDw.τ Cert.MixDw.sig) → Buf (Elt Bits) ℓ) : Prop :=
  True

def Pre_MixDwIdeal (m : (ℓ : Loc Cert.MixDwIdeal.nD Cert.MixDwIdeal.τ Cert.MixDwIdeal.sig) → Buf (Elt Ideal) ℓ) : Prop :=
  True

def Pre_MixDwRefIdeal (m : (ℓ : Loc Cert.MixDwRefIdeal.nD Cert.MixDwRefIdeal.τ Cert.MixDwRefIdeal.sig) → Buf (Elt Ideal) ℓ) : Prop :=
  True

def Pre_EvDw (m : (ℓ : Loc Cert.EvDw.nD Cert.EvDw.τ Cert.EvDw.sig) → Buf (Elt Bits) ℓ) : Prop :=
  True

def Pre_EvDwIdeal (m : (ℓ : Loc Cert.EvDwIdeal.nD Cert.EvDwIdeal.τ Cert.EvDwIdeal.sig) → Buf (Elt Ideal) ℓ) : Prop :=
  True

def Pre_EvDwRefIdeal (m : (ℓ : Loc Cert.EvDwRefIdeal.nD Cert.EvDwRefIdeal.τ Cert.EvDwRefIdeal.sig) → Buf (Elt Ideal) ℓ) : Prop :=
  True

def Pre_OdDw (m : (ℓ : Loc Cert.OdDw.nD Cert.OdDw.τ Cert.OdDw.sig) → Buf (Elt Bits) ℓ) : Prop :=
  True

def Pre_OdDwIdeal (m : (ℓ : Loc Cert.OdDwIdeal.nD Cert.OdDwIdeal.τ Cert.OdDwIdeal.sig) → Buf (Elt Ideal) ℓ) : Prop :=
  True

def Pre_OdDwRefIdeal (m : (ℓ : Loc Cert.OdDwRefIdeal.nD Cert.OdDwRefIdeal.τ Cert.OdDwRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_MixD0 (m : (ℓ : Loc Cert.MixD0.nD Cert.MixD0.τ Cert.MixD0.sig) → Buf (Elt Bits) ℓ) : Prop :=
  True

def Pre_MixD0Ideal (m : (ℓ : Loc Cert.MixD0Ideal.nD Cert.MixD0Ideal.τ Cert.MixD0Ideal.sig) → Buf (Elt Ideal) ℓ) : Prop :=
  True

def Pre_MixD0RefIdeal (m : (ℓ : Loc Cert.MixD0RefIdeal.nD Cert.MixD0RefIdeal.τ Cert.MixD0RefIdeal.sig) → Buf (Elt Ideal) ℓ) : Prop :=
  True

def Pre_EvDh0 (m : (ℓ : Loc Cert.EvDh0.nD Cert.EvDh0.τ Cert.EvDh0.sig) → Buf (Elt Bits) ℓ) : Prop :=
  True

def Pre_EvDh0Ideal (m : (ℓ : Loc Cert.EvDh0Ideal.nD Cert.EvDh0Ideal.τ Cert.EvDh0Ideal.sig) → Buf (Elt Ideal) ℓ) : Prop :=
  True

def Pre_EvDh0RefIdeal (m : (ℓ : Loc Cert.EvDh0RefIdeal.nD Cert.EvDh0RefIdeal.τ Cert.EvDh0RefIdeal.sig) → Buf (Elt Ideal) ℓ) : Prop :=
  True

def Pre_OdDh0 (m : (ℓ : Loc Cert.OdDh0.nD Cert.OdDh0.τ Cert.OdDh0.sig) → Buf (Elt Bits) ℓ) : Prop :=
  True

def Pre_OdDh0Ideal (m : (ℓ : Loc Cert.OdDh0Ideal.nD Cert.OdDh0Ideal.τ Cert.OdDh0Ideal.sig) → Buf (Elt Ideal) ℓ) : Prop :=
  True

def Pre_OdDh0RefIdeal (m : (ℓ : Loc Cert.OdDh0RefIdeal.nD Cert.OdDh0RefIdeal.τ Cert.OdDh0RefIdeal.sig) → Buf (Elt Ideal) ℓ) : Prop :=
  True

def Pre_GluDz0 (m : (ℓ : Loc Cert.GluDz0.nD Cert.GluDz0.τ Cert.GluDz0.sig) → Buf (Elt Bits) ℓ) : Prop :=
  True

def Pre_GluDz0Ideal (m : (ℓ : Loc Cert.GluDz0Ideal.nD Cert.GluDz0Ideal.τ Cert.GluDz0Ideal.sig) → Buf (Elt Ideal) ℓ) : Prop :=
  True

def Pre_GluDz0RefIdeal (m : (ℓ : Loc Cert.GluDz0RefIdeal.nD Cert.GluDz0RefIdeal.τ Cert.GluDz0RefIdeal.sig) → Buf (Elt Ideal) ℓ) : Prop :=
  True

def Pre_EvIn0 (m : (ℓ : Loc Cert.EvIn0.nD Cert.EvIn0.τ Cert.EvIn0.sig) → Buf (Elt Bits) ℓ) : Prop :=
  True

def Pre_EvIn0Ideal (m : (ℓ : Loc Cert.EvIn0Ideal.nD Cert.EvIn0Ideal.τ Cert.EvIn0Ideal.sig) → Buf (Elt Ideal) ℓ) : Prop :=
  True

def Pre_EvIn0RefIdeal (m : (ℓ : Loc Cert.EvIn0RefIdeal.nD Cert.EvIn0RefIdeal.τ Cert.EvIn0RefIdeal.sig) → Buf (Elt Ideal) ℓ) : Prop :=
  True

def Pre_OdIn0 (m : (ℓ : Loc Cert.OdIn0.nD Cert.OdIn0.τ Cert.OdIn0.sig) → Buf (Elt Bits) ℓ) : Prop :=
  True

def Pre_OdIn0Ideal (m : (ℓ : Loc Cert.OdIn0Ideal.nD Cert.OdIn0Ideal.τ Cert.OdIn0Ideal.sig) → Buf (Elt Ideal) ℓ) : Prop :=
  True

def Pre_OdIn0RefIdeal (m : (ℓ : Loc Cert.OdIn0RefIdeal.nD Cert.OdIn0RefIdeal.τ Cert.OdIn0RefIdeal.sig) → Buf (Elt Ideal) ℓ) : Prop :=
  True

def Pre_GluMm0 (m : (ℓ : Loc Cert.GluMm0.nD Cert.GluMm0.τ Cert.GluMm0.sig) → Buf (Elt Bits) ℓ) : Prop :=
  True

def Pre_GluMm0Ideal (m : (ℓ : Loc Cert.GluMm0Ideal.nD Cert.GluMm0Ideal.τ Cert.GluMm0Ideal.sig) → Buf (Elt Ideal) ℓ) : Prop :=
  True

def Pre_GluMm0RefIdeal (m : (ℓ : Loc Cert.GluMm0RefIdeal.nD Cert.GluMm0RefIdeal.τ Cert.GluMm0RefIdeal.sig) → Buf (Elt Ideal) ℓ) : Prop :=
  True

def Pre_MixOut0 (m : (ℓ : Loc Cert.MixOut0.nD Cert.MixOut0.τ Cert.MixOut0.sig) → Buf (Elt Bits) ℓ) : Prop :=
  True

def Pre_MixOut0Ideal (m : (ℓ : Loc Cert.MixOut0Ideal.nD Cert.MixOut0Ideal.τ Cert.MixOut0Ideal.sig) → Buf (Elt Ideal) ℓ) : Prop :=
  True

def Pre_MixOut0RefIdeal (m : (ℓ : Loc Cert.MixOut0RefIdeal.nD Cert.MixOut0RefIdeal.τ Cert.MixOut0RefIdeal.sig) → Buf (Elt Ideal) ℓ) : Prop :=
  True

def Pre_MixD1 (m : (ℓ : Loc Cert.MixD1.nD Cert.MixD1.τ Cert.MixD1.sig) → Buf (Elt Bits) ℓ) : Prop :=
  True

def Pre_MixD1Ideal (m : (ℓ : Loc Cert.MixD1Ideal.nD Cert.MixD1Ideal.τ Cert.MixD1Ideal.sig) → Buf (Elt Ideal) ℓ) : Prop :=
  True

def Pre_MixD1RefIdeal (m : (ℓ : Loc Cert.MixD1RefIdeal.nD Cert.MixD1RefIdeal.τ Cert.MixD1RefIdeal.sig) → Buf (Elt Ideal) ℓ) : Prop :=
  True

def Pre_EvDh1 (m : (ℓ : Loc Cert.EvDh1.nD Cert.EvDh1.τ Cert.EvDh1.sig) → Buf (Elt Bits) ℓ) : Prop :=
  True

def Pre_EvDh1Ideal (m : (ℓ : Loc Cert.EvDh1Ideal.nD Cert.EvDh1Ideal.τ Cert.EvDh1Ideal.sig) → Buf (Elt Ideal) ℓ) : Prop :=
  True

def Pre_EvDh1RefIdeal (m : (ℓ : Loc Cert.EvDh1RefIdeal.nD Cert.EvDh1RefIdeal.τ Cert.EvDh1RefIdeal.sig) → Buf (Elt Ideal) ℓ) : Prop :=
  True

def Pre_OdDh1 (m : (ℓ : Loc Cert.OdDh1.nD Cert.OdDh1.τ Cert.OdDh1.sig) → Buf (Elt Bits) ℓ) : Prop :=
  True

def Pre_OdDh1Ideal (m : (ℓ : Loc Cert.OdDh1Ideal.nD Cert.OdDh1Ideal.τ Cert.OdDh1Ideal.sig) → Buf (Elt Ideal) ℓ) : Prop :=
  True

def Pre_OdDh1RefIdeal (m : (ℓ : Loc Cert.OdDh1RefIdeal.nD Cert.OdDh1RefIdeal.τ Cert.OdDh1RefIdeal.sig) → Buf (Elt Ideal) ℓ) : Prop :=
  True

def Pre_GluDz1 (m : (ℓ : Loc Cert.GluDz1.nD Cert.GluDz1.τ Cert.GluDz1.sig) → Buf (Elt Bits) ℓ) : Prop :=
  True

def Pre_GluDz1Ideal (m : (ℓ : Loc Cert.GluDz1Ideal.nD Cert.GluDz1Ideal.τ Cert.GluDz1Ideal.sig) → Buf (Elt Ideal) ℓ) : Prop :=
  True

def Pre_GluDz1RefIdeal (m : (ℓ : Loc Cert.GluDz1RefIdeal.nD Cert.GluDz1RefIdeal.τ Cert.GluDz1RefIdeal.sig) → Buf (Elt Ideal) ℓ) : Prop :=
  True

def Pre_EvIn1 (m : (ℓ : Loc Cert.EvIn1.nD Cert.EvIn1.τ Cert.EvIn1.sig) → Buf (Elt Bits) ℓ) : Prop :=
  True

def Pre_EvIn1Ideal (m : (ℓ : Loc Cert.EvIn1Ideal.nD Cert.EvIn1Ideal.τ Cert.EvIn1Ideal.sig) → Buf (Elt Ideal) ℓ) : Prop :=
  True

def Pre_EvIn1RefIdeal (m : (ℓ : Loc Cert.EvIn1RefIdeal.nD Cert.EvIn1RefIdeal.τ Cert.EvIn1RefIdeal.sig) → Buf (Elt Ideal) ℓ) : Prop :=
  True

def Pre_OdIn1 (m : (ℓ : Loc Cert.OdIn1.nD Cert.OdIn1.τ Cert.OdIn1.sig) → Buf (Elt Bits) ℓ) : Prop :=
  True

def Pre_OdIn1Ideal (m : (ℓ : Loc Cert.OdIn1Ideal.nD Cert.OdIn1Ideal.τ Cert.OdIn1Ideal.sig) → Buf (Elt Ideal) ℓ) : Prop :=
  True

def Pre_OdIn1RefIdeal (m : (ℓ : Loc Cert.OdIn1RefIdeal.nD Cert.OdIn1RefIdeal.τ Cert.OdIn1RefIdeal.sig) → Buf (Elt Ideal) ℓ) : Prop :=
  True

def Pre_GluMm1 (m : (ℓ : Loc Cert.GluMm1.nD Cert.GluMm1.τ Cert.GluMm1.sig) → Buf (Elt Bits) ℓ) : Prop :=
  True

def Pre_GluMm1Ideal (m : (ℓ : Loc Cert.GluMm1Ideal.nD Cert.GluMm1Ideal.τ Cert.GluMm1Ideal.sig) → Buf (Elt Ideal) ℓ) : Prop :=
  True

def Pre_GluMm1RefIdeal (m : (ℓ : Loc Cert.GluMm1RefIdeal.nD Cert.GluMm1RefIdeal.τ Cert.GluMm1RefIdeal.sig) → Buf (Elt Ideal) ℓ) : Prop :=
  True

def Pre_MixOut1 (m : (ℓ : Loc Cert.MixOut1.nD Cert.MixOut1.τ Cert.MixOut1.sig) → Buf (Elt Bits) ℓ) : Prop :=
  True

def Pre_MixOut1Ideal (m : (ℓ : Loc Cert.MixOut1Ideal.nD Cert.MixOut1Ideal.τ Cert.MixOut1Ideal.sig) → Buf (Elt Ideal) ℓ) : Prop :=
  True

def Pre_MixOut1RefIdeal (m : (ℓ : Loc Cert.MixOut1RefIdeal.nD Cert.MixOut1RefIdeal.τ Cert.MixOut1RefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_attn [hPre_finite_attn : Cert.Pre_finite_attn.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_attn.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4))) = (fun _ => 1#1)

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_Mod0 (m : (ℓ : Loc Cert.Mod0.nD Cert.Mod0.τ Cert.Mod0.sig) → Buf (Elt Bits) ℓ) : Prop :=
  True

def Pre_Mod0Ideal (m : (ℓ : Loc Cert.Mod0Ideal.nD Cert.Mod0Ideal.τ Cert.Mod0Ideal.sig) → Buf (Elt Ideal) ℓ) : Prop :=
  True

def Pre_Mod0RefIdeal (m : (ℓ : Loc Cert.Mod0RefIdeal.nD Cert.Mod0RefIdeal.τ Cert.Mod0RefIdeal.sig) → Buf (Elt Ideal) ℓ) : Prop :=
  True

def Pre_Mod1 (m : (ℓ : Loc Cert.Mod1.nD Cert.Mod1.τ Cert.Mod1.sig) → Buf (Elt Bits) ℓ) : Prop :=
  True

def Pre_Mod1Ideal (m : (ℓ : Loc Cert.Mod1Ideal.nD Cert.Mod1Ideal.τ Cert.Mod1Ideal.sig) → Buf (Elt Ideal) ℓ) : Prop :=
  True

def Pre_Mod1RefIdeal (m : (ℓ : Loc Cert.Mod1RefIdeal.nD Cert.Mod1RefIdeal.τ Cert.Mod1RefIdeal.sig) → Buf (Elt Ideal) ℓ) : Prop :=
  True

def Pre_Mod2 (m : (ℓ : Loc Cert.Mod2.nD Cert.Mod2.τ Cert.Mod2.sig) → Buf (Elt Bits) ℓ) : Prop :=
  True

def Pre_Mod2Ideal (m : (ℓ : Loc Cert.Mod2Ideal.nD Cert.Mod2Ideal.τ Cert.Mod2Ideal.sig) → Buf (Elt Ideal) ℓ) : Prop :=
  True

def Pre_Mod2RefIdeal (m : (ℓ : Loc Cert.Mod2RefIdeal.nD Cert.Mod2RefIdeal.τ Cert.Mod2RefIdeal.sig) → Buf (Elt Ideal) ℓ) : Prop :=
  True

def Pre_Mod3 (m : (ℓ : Loc Cert.Mod3.nD Cert.Mod3.τ Cert.Mod3.sig) → Buf (Elt Bits) ℓ) : Prop :=
  True

def Pre_Mod3Ideal (m : (ℓ : Loc Cert.Mod3Ideal.nD Cert.Mod3Ideal.τ Cert.Mod3Ideal.sig) → Buf (Elt Ideal) ℓ) : Prop :=
  True

def Pre_Mod3RefIdeal (m : (ℓ : Loc Cert.Mod3RefIdeal.nD Cert.Mod3RefIdeal.τ Cert.Mod3RefIdeal.sig) → Buf (Elt Ideal) ℓ) : Prop :=
  True

def Pre_Silu (m : (ℓ : Loc Cert.Silu.nD Cert.Silu.τ Cert.Silu.sig) → Buf (Elt Bits) ℓ) : Prop :=
  True

def Pre_SiluIdeal (m : (ℓ : Loc Cert.SiluIdeal.nD Cert.SiluIdeal.τ Cert.SiluIdeal.sig) → Buf (Elt Ideal) ℓ) : Prop :=
  True

def Pre_SiluRefIdeal (m : (ℓ : Loc Cert.SiluRefIdeal.nD Cert.SiluRefIdeal.τ Cert.SiluRefIdeal.sig) → Buf (Elt Ideal) ℓ) : Prop :=
  True

def Pre_Resid (m : (ℓ : Loc Cert.Resid.nD Cert.Resid.τ Cert.Resid.sig) → Buf (Elt Bits) ℓ) : Prop :=
  True

def Pre_ResidIdeal (m : (ℓ : Loc Cert.ResidIdeal.nD Cert.ResidIdeal.τ Cert.ResidIdeal.sig) → Buf (Elt Ideal) ℓ) : Prop :=
  True

def Pre_ResidRefIdeal (m : (ℓ : Loc Cert.ResidRefIdeal.nD Cert.ResidRefIdeal.τ Cert.ResidRefIdeal.sig) → Buf (Elt Ideal) ℓ) : Prop :=
  True

def Pre_ResidB (m : (ℓ : Loc Cert.ResidB.nD Cert.ResidB.τ Cert.ResidB.sig) → Buf (Elt Bits) ℓ) : Prop :=
  True

def Pre_ResidBIdeal (m : (ℓ : Loc Cert.ResidBIdeal.nD Cert.ResidBIdeal.τ Cert.ResidBIdeal.sig) → Buf (Elt Ideal) ℓ) : Prop :=
  True

def Pre_ResidBRefIdeal (m : (ℓ : Loc Cert.ResidBRefIdeal.nD Cert.ResidBRefIdeal.τ Cert.ResidBRefIdeal.sig) → Buf (Elt Ideal) ℓ) : Prop :=
  True

def Pre_GluZ (m : (ℓ : Loc Cert.GluZ.nD Cert.GluZ.τ Cert.GluZ.sig) → Buf (Elt Bits) ℓ) : Prop :=
  True

def Pre_GluZIdeal (m : (ℓ : Loc Cert.GluZIdeal.nD Cert.GluZIdeal.τ Cert.GluZIdeal.sig) → Buf (Elt Ideal) ℓ) : Prop :=
  True

def Pre_GluZRefIdeal (m : (ℓ : Loc Cert.GluZRefIdeal.nD Cert.GluZRefIdeal.τ Cert.GluZRefIdeal.sig) → Buf (Elt Ideal) ℓ) : Prop :=
  True

def Pre_GluOut (m : (ℓ : Loc Cert.GluOut.nD Cert.GluOut.τ Cert.GluOut.sig) → Buf (Elt Bits) ℓ) : Prop :=
  True

def Pre_GluOutIdeal (m : (ℓ : Loc Cert.GluOutIdeal.nD Cert.GluOutIdeal.τ Cert.GluOutIdeal.sig) → Buf (Elt Ideal) ℓ) : Prop :=
  True

def Pre_GluOutRefIdeal (m : (ℓ : Loc Cert.GluOutRefIdeal.nD Cert.GluOutRefIdeal.τ Cert.GluOutRefIdeal.sig) → Buf (Elt Ideal) ℓ) : Prop :=
  True

def Pre_GluGate (m : (ℓ : Loc Cert.GluGate.nD Cert.GluGate.τ Cert.GluGate.sig) → Buf (Elt Bits) ℓ) : Prop :=
  True

def Pre_GluGateIdeal (m : (ℓ : Loc Cert.GluGateIdeal.nD Cert.GluGateIdeal.τ Cert.GluGateIdeal.sig) → Buf (Elt Ideal) ℓ) : Prop :=
  True

def Pre_GluGateRefIdeal (m : (ℓ : Loc Cert.GluGateRefIdeal.nD Cert.GluGateRefIdeal.τ Cert.GluGateRefIdeal.sig) → Buf (Elt Ideal) ℓ) : Prop :=
  True

def Pre_GluY (m : (ℓ : Loc Cert.GluY.nD Cert.GluY.τ Cert.GluY.sig) → Buf (Elt Bits) ℓ) : Prop :=
  True

def Pre_GluYIdeal (m : (ℓ : Loc Cert.GluYIdeal.nD Cert.GluYIdeal.τ Cert.GluYIdeal.sig) → Buf (Elt Ideal) ℓ) : Prop :=
  True

def Pre_GluYIdeal_finite_glu [hPre_finite_glu : Cert.Pre_finite_glu.Facts] (m : (ℓ : Loc Cert.GluYIdeal.nD Cert.GluYIdeal.τ Cert.GluYIdeal.sig) → Buf (Elt Ideal) ℓ) : Prop :=
  ∀ c : Dev Cert.GluYIdeal.nD,
    (Cert.Pre_finite_glu.fn (F := Ideal) (m ((c.tc : Thread Cert.GluYIdeal.nD Cert.GluYIdeal.τ).loc Cert.GluYIdeal.main_arg0)) (m ((c.tc : Thread Cert.GluYIdeal.nD Cert.GluYIdeal.τ).loc Cert.GluYIdeal.main_arg1)) (m ((c.tc : Thread Cert.GluYIdeal.nD Cert.GluYIdeal.τ).loc Cert.GluYIdeal.main_arg2)) (m ((c.tc : Thread Cert.GluYIdeal.nD Cert.GluYIdeal.τ).loc Cert.GluYIdeal.main_arg3)) (m ((c.tc : Thread Cert.GluYIdeal.nD Cert.GluYIdeal.τ).loc Cert.GluYIdeal.main_arg4))) = (fun _ => 1#1)

def Pre_GluYRefIdeal (m : (ℓ : Loc Cert.GluYRefIdeal.nD Cert.GluYRefIdeal.τ Cert.GluYRefIdeal.sig) → Buf (Elt Ideal) ℓ) : Prop :=
  True

def Pre_GluYRefIdeal_finite_glu [hPre_finite_glu : Cert.Pre_finite_glu.Facts] (m : (ℓ : Loc Cert.GluYRefIdeal.nD Cert.GluYRefIdeal.τ Cert.GluYRefIdeal.sig) → Buf (Elt Ideal) ℓ) : Prop :=
  ∀ c : Dev Cert.GluYRefIdeal.nD,
    (Cert.Pre_finite_glu.fn (F := Ideal) (m ((c.tc : Thread Cert.GluYRefIdeal.nD Cert.GluYRefIdeal.τ).loc Cert.GluYRefIdeal.main_arg0)) (m ((c.tc : Thread Cert.GluYRefIdeal.nD Cert.GluYRefIdeal.τ).loc Cert.GluYRefIdeal.main_arg1)) (m ((c.tc : Thread Cert.GluYRefIdeal.nD Cert.GluYRefIdeal.τ).loc Cert.GluYRefIdeal.main_arg2)) (m ((c.tc : Thread Cert.GluYRefIdeal.nD Cert.GluYRefIdeal.τ).loc Cert.GluYRefIdeal.main_arg3)) (m ((c.tc : Thread Cert.GluYRefIdeal.nD Cert.GluYRefIdeal.τ).loc Cert.GluYRefIdeal.main_arg4))) = (fun _ => 1#1)

def Pre_Sink (m : (ℓ : Loc Cert.Sink.nD Cert.Sink.τ Cert.Sink.sig) → Buf (Elt Bits) ℓ) : Prop :=
  True

def Pre_SinkIdeal (m : (ℓ : Loc Cert.SinkIdeal.nD Cert.SinkIdeal.τ Cert.SinkIdeal.sig) → Buf (Elt Ideal) ℓ) : Prop :=
  True

def Pre_SinkRefIdeal (m : (ℓ : Loc Cert.SinkRefIdeal.nD Cert.SinkRefIdeal.τ Cert.SinkRefIdeal.sig) → Buf (Elt Ideal) ℓ) : Prop :=
  True

def Pre_Adamw (m : (ℓ : Loc Cert.Adamw.nD Cert.Adamw.τ Cert.Adamw.sig) → Buf (Elt Bits) ℓ) : Prop :=
  True

def Pre_AdamwIdeal (m : (ℓ : Loc Cert.AdamwIdeal.nD Cert.AdamwIdeal.τ Cert.AdamwIdeal.sig) → Buf (Elt Ideal) ℓ) : Prop :=
  True

def Pre_AdamwRefIdeal (m : (ℓ : Loc Cert.AdamwRefIdeal.nD Cert.AdamwRefIdeal.τ Cert.AdamwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Dwo [hDwo : Cert.Dwo.Facts] : Prop :=
  ∀ (m : (ℓ : Loc Cert.Dwo.nD Cert.Dwo.τ Cert.Dwo.sig) → Buf (Elt Bits) ℓ) (g : Dev Cert.Dwo.nD → PrngReg), Pre_Dwo m →
    θ_run (Cert.Dwo.defs (F := Bits)) (onTc (τ := Cert.Dwo.τ) (Cert.Dwo.main (F := Bits))) ⟨m, fun _ => 0, g⟩ (fun r => (∀ c : Dev Cert.Dwo.nD,
      r.2.mem ((c.tc : Thread Cert.Dwo.nD Cert.Dwo.τ).loc Cert.Dwo.main_arg0) = m ((c.tc : Thread Cert.Dwo.nD Cert.Dwo.τ).loc Cert.Dwo.main_arg0)
      ∧ r.2.mem ((c.tc : Thread Cert.Dwo.nD Cert.Dwo.τ).loc Cert.Dwo.main_arg1) = m ((c.tc : Thread Cert.Dwo.nD Cert.Dwo.τ).loc Cert.Dwo.main_arg1))
      ∧ r.2.sem = fun _ => 0)

def quiescent_DwoIdeal [hDwoIdeal : Cert.DwoIdeal.Facts] : Prop :=
  ∀ (m : (ℓ : Loc Cert.DwoIdeal.nD Cert.DwoIdeal.τ Cert.DwoIdeal.sig) → Buf (Elt Ideal) ℓ) (g : Dev Cert.DwoIdeal.nD → PrngReg), Pre_DwoIdeal m →
    θ_run (Cert.DwoIdeal.defs (F := Ideal)) (onTc (τ := Cert.DwoIdeal.τ) (Cert.DwoIdeal.main (F := Ideal))) ⟨m, fun _ => 0, g⟩ (fun r => (∀ c : Dev Cert.DwoIdeal.nD,
      r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
      ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ r.2.sem = fun _ => 0)

def quiescent_DwoRefIdeal [hDwoRefIdeal : Cert.DwoRefIdeal.Facts] : Prop :=
  ∀ (m : (ℓ : Loc Cert.DwoRefIdeal.nD Cert.DwoRefIdeal.τ Cert.DwoRefIdeal.sig) → Buf (Elt Ideal) ℓ) (g : Dev Cert.DwoRefIdeal.nD → PrngReg), Pre_DwoRefIdeal m →
    θ_run (Cert.DwoRefIdeal.defs (F := Ideal)) (onTc (τ := Cert.DwoRefIdeal.τ) (Cert.DwoRefIdeal.main (F := Ideal))) ⟨m, fun _ => 0, g⟩ (fun r => (∀ c : Dev Cert.DwoRefIdeal.nD,
      r.2.mem ((c.tc : Thread Cert.DwoRefIdeal.nD Cert.DwoRefIdeal.τ).loc Cert.DwoRefIdeal.main_arg0) = m ((c.tc : Thread Cert.DwoRefIdeal.nD Cert.DwoRefIdeal.τ).loc Cert.DwoRefIdeal.main_arg0)
      ∧ r.2.mem ((c.tc : Thread Cert.DwoRefIdeal.nD Cert.DwoRefIdeal.τ).loc Cert.DwoRefIdeal.main_arg1) = m ((c.tc : Thread Cert.DwoRefIdeal.nD Cert.DwoRefIdeal.τ).loc Cert.DwoRefIdeal.main_arg1))
      ∧ r.2.sem = fun _ => 0)

def quiescent_Dwi [hDwi : Cert.Dwi.Facts] : Prop :=
  ∀ (m : (ℓ : Loc Cert.Dwi.nD Cert.Dwi.τ Cert.Dwi.sig) → Buf (Elt Bits) ℓ) (g : Dev Cert.Dwi.nD → PrngReg), Pre_Dwi m →
    θ_run (Cert.Dwi.defs (F := Bits)) (onTc (τ := Cert.Dwi.τ) (Cert.Dwi.main (F := Bits))) ⟨m, fun _ => 0, g⟩ (fun r => (∀ c : Dev Cert.Dwi.nD,
      r.2.mem ((c.tc : Thread Cert.Dwi.nD Cert.Dwi.τ).loc Cert.Dwi.main_arg0) = m ((c.tc : Thread Cert.Dwi.nD Cert.Dwi.τ).loc Cert.Dwi.main_arg0)
      ∧ r.2.mem ((c.tc : Thread Cert.Dwi.nD Cert.Dwi.τ).loc Cert.Dwi.main_arg1) = m ((c.tc : Thread Cert.Dwi.nD Cert.Dwi.τ).loc Cert.Dwi.main_arg1))
      ∧ r.2.sem = fun _ => 0)

def quiescent_DwiIdeal [hDwiIdeal : Cert.DwiIdeal.Facts] : Prop :=
  ∀ (m : (ℓ : Loc Cert.DwiIdeal.nD Cert.DwiIdeal.τ Cert.DwiIdeal.sig) → Buf (Elt Ideal) ℓ) (g : Dev Cert.DwiIdeal.nD → PrngReg), Pre_DwiIdeal m →
    θ_run (Cert.DwiIdeal.defs (F := Ideal)) (onTc (τ := Cert.DwiIdeal.τ) (Cert.DwiIdeal.main (F := Ideal))) ⟨m, fun _ => 0, g⟩ (fun r => (∀ c : Dev Cert.DwiIdeal.nD,
      r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
      ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1))
      ∧ r.2.sem = fun _ => 0)

def quiescent_DwiRefIdeal [hDwiRefIdeal : Cert.DwiRefIdeal.Facts] : Prop :=
  ∀ (m : (ℓ : Loc Cert.DwiRefIdeal.nD Cert.DwiRefIdeal.τ Cert.DwiRefIdeal.sig) → Buf (Elt Ideal) ℓ) (g : Dev Cert.DwiRefIdeal.nD → PrngReg), Pre_DwiRefIdeal m →
    θ_run (Cert.DwiRefIdeal.defs (F := Ideal)) (onTc (τ := Cert.DwiRefIdeal.τ) (Cert.DwiRefIdeal.main (F := Ideal))) ⟨m, fun _ => 0, g⟩ (fun r => (∀ c : Dev Cert.DwiRefIdeal.nD,
      r.2.mem ((c.tc : Thread Cert.DwiRefIdeal.nD Cert.DwiRefIdeal.τ).loc Cert.DwiRefIdeal.main_arg0) = m ((c.tc : Thread Cert.DwiRefIdeal.nD Cert.DwiRefIdeal.τ).loc Cert.DwiRefIdeal.main_arg0)
      ∧ r.2.mem ((c.tc : Thread Cert.DwiRefIdeal.nD Cert.DwiRefIdeal.τ).loc Cert.DwiRefIdeal.main_arg1) = m ((c.tc : Thread Cert.DwiRefIdeal.nD Cert.DwiRefIdeal.τ).loc Cert.DwiRefIdeal.main_arg1))
      ∧ r.2.sem = fun _ => 0)

def quiescent_Act [hAct : Cert.Act.Facts] : Prop :=
  ∀ (m : (ℓ : Loc Cert.Act.nD Cert.Act.τ Cert.Act.sig) → Buf (Elt Bits) ℓ) (g : Dev Cert.Act.nD → PrngReg), Pre_Act m →
    θ_run (Cert.Act.defs (F := Bits)) (onTc (τ := Cert.Act.τ) (Cert.Act.main (F := Bits))) ⟨m, fun _ => 0, g⟩ (fun r => (∀ c : Dev Cert.Act.nD,
      r.2.mem ((c.tc : Thread Cert.Act.nD Cert.Act.τ).loc Cert.Act.main_arg0) = m ((c.tc : Thread Cert.Act.nD Cert.Act.τ).loc Cert.Act.main_arg0)
      ∧ r.2.mem ((c.tc : Thread Cert.Act.nD Cert.Act.τ).loc Cert.Act.main_arg1) = m ((c.tc : Thread Cert.Act.nD Cert.Act.τ).loc Cert.Act.main_arg1)
      ∧ r.2.mem ((c.tc : Thread Cert.Act.nD Cert.Act.τ).loc Cert.Act.main_arg2) = m ((c.tc : Thread Cert.Act.nD Cert.Act.τ).loc Cert.Act.main_arg2))
      ∧ r.2.sem = fun _ => 0)

def quiescent_ActIdeal [hActIdeal : Cert.ActIdeal.Facts] : Prop :=
  ∀ (m : (ℓ : Loc Cert.ActIdeal.nD Cert.ActIdeal.τ Cert.ActIdeal.sig) → Buf (Elt Ideal) ℓ) (g : Dev Cert.ActIdeal.nD → PrngReg), Pre_ActIdeal m →
    θ_run (Cert.ActIdeal.defs (F := Ideal)) (onTc (τ := Cert.ActIdeal.τ) (Cert.ActIdeal.main (F := Ideal))) ⟨m, fun _ => 0, g⟩ (fun r => (∀ c : Dev Cert.ActIdeal.nD,
      r.2.mem ((c.tc : Thread Cert.ActIdeal.nD Cert.ActIdeal.τ).loc Cert.ActIdeal.main_arg0) = m ((c.tc : Thread Cert.ActIdeal.nD Cert.ActIdeal.τ).loc Cert.ActIdeal.main_arg0)
      ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
      ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ r.2.sem = fun _ => 0)

def quiescent_ActRefIdeal [hActRefIdeal : Cert.ActRefIdeal.Facts] : Prop :=
  ∀ (m : (ℓ : Loc Cert.ActRefIdeal.nD Cert.ActRefIdeal.τ Cert.ActRefIdeal.sig) → Buf (Elt Ideal) ℓ) (g : Dev Cert.ActRefIdeal.nD → PrngReg), Pre_ActRefIdeal m →
    θ_run (Cert.ActRefIdeal.defs (F := Ideal)) (onTc (τ := Cert.ActRefIdeal.τ) (Cert.ActRefIdeal.main (F := Ideal))) ⟨m, fun _ => 0, g⟩ (fun r => (∀ c : Dev Cert.ActRefIdeal.nD,
      r.2.mem ((c.tc : Thread Cert.ActRefIdeal.nD Cert.ActRefIdeal.τ).loc Cert.ActRefIdeal.main_arg0) = m ((c.tc : Thread Cert.ActRefIdeal.nD Cert.ActRefIdeal.τ).loc Cert.ActRefIdeal.main_arg0)
      ∧ r.2.mem ((c.tc : Thread Cert.ActRefIdeal.nD Cert.ActRefIdeal.τ).loc Cert.ActRefIdeal.main_arg1) = m ((c.tc : Thread Cert.ActRefIdeal.nD Cert.ActRefIdeal.τ).loc Cert.ActRefIdeal.main_arg1)
      ∧ r.2.mem ((c.tc : Thread Cert.ActRefIdeal.nD Cert.ActRefIdeal.τ).loc Cert.ActRefIdeal.main_arg2) = m ((c.tc : Thread Cert.ActRefIdeal.nD Cert.ActRefIdeal.τ).loc Cert.ActRefIdeal.main_arg2))
      ∧ r.2.sem = fun _ => 0)

def quiescent_Dact0 [hDact0 : Cert.Dact0.Facts] : Prop :=
  ∀ (m : (ℓ : Loc Cert.Dact0.nD Cert.Dact0.τ Cert.Dact0.sig) → Buf (Elt Bits) ℓ) (g : Dev Cert.Dact0.nD → PrngReg), Pre_Dact0 m →
    θ_run (Cert.Dact0.defs (F := Bits)) (onTc (τ := Cert.Dact0.τ) (Cert.Dact0.main (F := Bits))) ⟨m, fun _ => 0, g⟩ (fun r => (∀ c : Dev Cert.Dact0.nD,
      r.2.mem ((c.tc : Thread Cert.Dact0.nD Cert.Dact0.τ).loc Cert.Dact0.main_arg0) = m ((c.tc : Thread Cert.Dact0.nD Cert.Dact0.τ).loc Cert.Dact0.main_arg0)
      ∧ r.2.mem ((c.tc : Thread Cert.Dact0.nD Cert.Dact0.τ).loc Cert.Dact0.main_arg1) = m ((c.tc : Thread Cert.Dact0.nD Cert.Dact0.τ).loc Cert.Dact0.main_arg1))
      ∧ r.2.sem = fun _ => 0)

def quiescent_Dact0Ideal [hDact0Ideal : Cert.Dact0Ideal.Facts] : Prop :=
  ∀ (m : (ℓ : Loc Cert.Dact0Ideal.nD Cert.Dact0Ideal.τ Cert.Dact0Ideal.sig) → Buf (Elt Ideal) ℓ) (g : Dev Cert.Dact0Ideal.nD → PrngReg), Pre_Dact0Ideal m →
    θ_run (Cert.Dact0Ideal.defs (F := Ideal)) (onTc (τ := Cert.Dact0Ideal.τ) (Cert.Dact0Ideal.main (F := Ideal))) ⟨m, fun _ => 0, g⟩ (fun r => (∀ c : Dev Cert.Dact0Ideal.nD,
      r.2.mem ((c.tc : Thread Cert.Dact0Ideal.nD Cert.Dact0Ideal.τ).loc Cert.Dact0Ideal.main_arg0) = m ((c.tc : Thread Cert.Dact0Ideal.nD Cert.Dact0Ideal.τ).loc Cert.Dact0Ideal.main_arg0)
      ∧ r.2.mem ((c.tc : Thread Cert.Dact0Ideal.nD Cert.Dact0Ideal.τ).loc Cert.Dact0Ideal.main_arg1) = m ((c.tc : Thread Cert.Dact0Ideal.nD Cert.Dact0Ideal.τ).loc Cert.Dact0Ideal.main_arg1))
      ∧ r.2.sem = fun _ => 0)

def quiescent_Dact0RefIdeal [hDact0RefIdeal : Cert.Dact0RefIdeal.Facts] : Prop :=
  ∀ (m : (ℓ : Loc Cert.Dact0RefIdeal.nD Cert.Dact0RefIdeal.τ Cert.Dact0RefIdeal.sig) → Buf (Elt Ideal) ℓ) (g : Dev Cert.Dact0RefIdeal.nD → PrngReg), Pre_Dact0RefIdeal m →
    θ_run (Cert.Dact0RefIdeal.defs (F := Ideal)) (onTc (τ := Cert.Dact0RefIdeal.τ) (Cert.Dact0RefIdeal.main (F := Ideal))) ⟨m, fun _ => 0, g⟩ (fun r => (∀ c : Dev Cert.Dact0RefIdeal.nD,
      r.2.mem ((c.tc : Thread Cert.Dact0RefIdeal.nD Cert.Dact0RefIdeal.τ).loc Cert.Dact0RefIdeal.main_arg0) = m ((c.tc : Thread Cert.Dact0RefIdeal.nD Cert.Dact0RefIdeal.τ).loc Cert.Dact0RefIdeal.main_arg0)
      ∧ r.2.mem ((c.tc : Thread Cert.Dact0RefIdeal.nD Cert.Dact0RefIdeal.τ).loc Cert.Dact0RefIdeal.main_arg1) = m ((c.tc : Thread Cert.Dact0RefIdeal.nD Cert.Dact0RefIdeal.τ).loc Cert.Dact0RefIdeal.main_arg1))
      ∧ r.2.sem = fun _ => 0)

def quiescent_Dh0 [hDh0 : Cert.Dh0.Facts] : Prop :=
  ∀ (m : (ℓ : Loc Cert.Dh0.nD Cert.Dh0.τ Cert.Dh0.sig) → Buf (Elt Bits) ℓ) (g : Dev Cert.Dh0.nD → PrngReg), Pre_Dh0 m →
    θ_run (Cert.Dh0.defs (F := Bits)) (onTc (τ := Cert.Dh0.τ) (Cert.Dh0.main (F := Bits))) ⟨m, fun _ => 0, g⟩ (fun r => (∀ c : Dev Cert.Dh0.nD,
      r.2.mem ((c.tc : Thread Cert.Dh0.nD Cert.Dh0.τ).loc Cert.Dh0.main_arg0) = m ((c.tc : Thread Cert.Dh0.nD Cert.Dh0.τ).loc Cert.Dh0.main_arg0)
      ∧ r.2.mem ((c.tc : Thread Cert.Dh0.nD Cert.Dh0.τ).loc Cert.Dh0.main_arg1) = m ((c.tc : Thread Cert.Dh0.nD Cert.Dh0.τ).loc Cert.Dh0.main_arg1))
      ∧ r.2.sem = fun _ => 0)

def quiescent_Dh0Ideal [hDh0Ideal : Cert.Dh0Ideal.Facts] : Prop :=
  ∀ (m : (ℓ : Loc Cert.Dh0Ideal.nD Cert.Dh0Ideal.τ Cert.Dh0Ideal.sig) → Buf (Elt Ideal) ℓ) (g : Dev Cert.Dh0Ideal.nD → PrngReg), Pre_Dh0Ideal m →
    θ_run (Cert.Dh0Ideal.defs (F := Ideal)) (onTc (τ := Cert.Dh0Ideal.τ) (Cert.Dh0Ideal.main (F := Ideal))) ⟨m, fun _ => 0, g⟩ (fun r => (∀ c : Dev Cert.Dh0Ideal.nD,
      r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
      ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1))
      ∧ r.2.sem = fun _ => 0)

def quiescent_Dh0RefIdeal [hDh0RefIdeal : Cert.Dh0RefIdeal.Facts] : Prop :=
  ∀ (m : (ℓ : Loc Cert.Dh0RefIdeal.nD Cert.Dh0RefIdeal.τ Cert.Dh0RefIdeal.sig) → Buf (Elt Ideal) ℓ) (g : Dev Cert.Dh0RefIdeal.nD → PrngReg), Pre_Dh0RefIdeal m →
    θ_run (Cert.Dh0RefIdeal.defs (F := Ideal)) (onTc (τ := Cert.Dh0RefIdeal.τ) (Cert.Dh0RefIdeal.main (F := Ideal))) ⟨m, fun _ => 0, g⟩ (fun r => (∀ c : Dev Cert.Dh0RefIdeal.nD,
      r.2.mem ((c.tc : Thread Cert.Dh0RefIdeal.nD Cert.Dh0RefIdeal.τ).loc Cert.Dh0RefIdeal.main_arg0) = m ((c.tc : Thread Cert.Dh0RefIdeal.nD Cert.Dh0RefIdeal.τ).loc Cert.Dh0RefIdeal.main_arg0)
      ∧ r.2.mem ((c.tc : Thread Cert.Dh0RefIdeal.nD Cert.Dh0RefIdeal.τ).loc Cert.Dh0RefIdeal.main_arg1) = m ((c.tc : Thread Cert.Dh0RefIdeal.nD Cert.Dh0RefIdeal.τ).loc Cert.Dh0RefIdeal.main_arg1))
      ∧ r.2.sem = fun _ => 0)

def quiescent_In0 [hIn0 : Cert.In0.Facts] : Prop :=
  ∀ (m : (ℓ : Loc Cert.In0.nD Cert.In0.τ Cert.In0.sig) → Buf (Elt Bits) ℓ) (g : Dev Cert.In0.nD → PrngReg), Pre_In0 m →
    θ_run (Cert.In0.defs (F := Bits)) (onTc (τ := Cert.In0.τ) (Cert.In0.main (F := Bits))) ⟨m, fun _ => 0, g⟩ (fun r => (∀ c : Dev Cert.In0.nD,
      r.2.mem ((c.tc : Thread Cert.In0.nD Cert.In0.τ).loc Cert.In0.main_arg0) = m ((c.tc : Thread Cert.In0.nD Cert.In0.τ).loc Cert.In0.main_arg0)
      ∧ r.2.mem ((c.tc : Thread Cert.In0.nD Cert.In0.τ).loc Cert.In0.main_arg1) = m ((c.tc : Thread Cert.In0.nD Cert.In0.τ).loc Cert.In0.main_arg1))
      ∧ r.2.sem = fun _ => 0)

def quiescent_In0Ideal [hIn0Ideal : Cert.In0Ideal.Facts] : Prop :=
  ∀ (m : (ℓ : Loc Cert.In0Ideal.nD Cert.In0Ideal.τ Cert.In0Ideal.sig) → Buf (Elt Ideal) ℓ) (g : Dev Cert.In0Ideal.nD → PrngReg), Pre_In0Ideal m →
    θ_run (Cert.In0Ideal.defs (F := Ideal)) (onTc (τ := Cert.In0Ideal.τ) (Cert.In0Ideal.main (F := Ideal))) ⟨m, fun _ => 0, g⟩ (fun r => (∀ c : Dev Cert.In0Ideal.nD,
      r.2.mem ((c.tc : Thread Cert.In0Ideal.nD Cert.In0Ideal.τ).loc Cert.In0Ideal.main_arg0) = m ((c.tc : Thread Cert.In0Ideal.nD Cert.In0Ideal.τ).loc Cert.In0Ideal.main_arg0)
      ∧ r.2.mem ((c.tc : Thread Cert.In0Ideal.nD Cert.In0Ideal.τ).loc Cert.In0Ideal.main_arg1) = m ((c.tc : Thread Cert.In0Ideal.nD Cert.In0Ideal.τ).loc Cert.In0Ideal.main_arg1))
      ∧ r.2.sem = fun _ => 0)

def quiescent_In0RefIdeal [hIn0RefIdeal : Cert.In0RefIdeal.Facts] : Prop :=
  ∀ (m : (ℓ : Loc Cert.In0RefIdeal.nD Cert.In0RefIdeal.τ Cert.In0RefIdeal.sig) → Buf (Elt Ideal) ℓ) (g : Dev Cert.In0RefIdeal.nD → PrngReg), Pre_In0RefIdeal m →
    θ_run (Cert.In0RefIdeal.defs (F := Ideal)) (onTc (τ := Cert.In0RefIdeal.τ) (Cert.In0RefIdeal.main (F := Ideal))) ⟨m, fun _ => 0, g⟩ (fun r => (∀ c : Dev Cert.In0RefIdeal.nD,
      r.2.mem ((c.tc : Thread Cert.In0RefIdeal.nD Cert.In0RefIdeal.τ).loc Cert.In0RefIdeal.main_arg0) = m ((c.tc : Thread Cert.In0RefIdeal.nD Cert.In0RefIdeal.τ).loc Cert.In0RefIdeal.main_arg0)
      ∧ r.2.mem ((c.tc : Thread Cert.In0RefIdeal.nD Cert.In0RefIdeal.τ).loc Cert.In0RefIdeal.main_arg1) = m ((c.tc : Thread Cert.In0RefIdeal.nD Cert.In0RefIdeal.τ).loc Cert.In0RefIdeal.main_arg1))
      ∧ r.2.sem = fun _ => 0)

def quiescent_Out0 [hOut0 : Cert.Out0.Facts] : Prop :=
  ∀ (m : (ℓ : Loc Cert.Out0.nD Cert.Out0.τ Cert.Out0.sig) → Buf (Elt Bits) ℓ) (g : Dev Cert.Out0.nD → PrngReg), Pre_Out0 m →
    θ_run (Cert.Out0.defs (F := Bits)) (onTc (τ := Cert.Out0.τ) (Cert.Out0.main (F := Bits))) ⟨m, fun _ => 0, g⟩ (fun r => (∀ c : Dev Cert.Out0.nD,
      r.2.mem ((c.tc : Thread Cert.Out0.nD Cert.Out0.τ).loc Cert.Out0.main_arg0) = m ((c.tc : Thread Cert.Out0.nD Cert.Out0.τ).loc Cert.Out0.main_arg0)
      ∧ r.2.mem ((c.tc : Thread Cert.Out0.nD Cert.Out0.τ).loc Cert.Out0.main_arg1) = m ((c.tc : Thread Cert.Out0.nD Cert.Out0.τ).loc Cert.Out0.main_arg1))
      ∧ r.2.sem = fun _ => 0)

def quiescent_Out0Ideal [hOut0Ideal : Cert.Out0Ideal.Facts] : Prop :=
  ∀ (m : (ℓ : Loc Cert.Out0Ideal.nD Cert.Out0Ideal.τ Cert.Out0Ideal.sig) → Buf (Elt Ideal) ℓ) (g : Dev Cert.Out0Ideal.nD → PrngReg), Pre_Out0Ideal m →
    θ_run (Cert.Out0Ideal.defs (F := Ideal)) (onTc (τ := Cert.Out0Ideal.τ) (Cert.Out0Ideal.main (F := Ideal))) ⟨m, fun _ => 0, g⟩ (fun r => (∀ c : Dev Cert.Out0Ideal.nD,
      r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
      ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1))
      ∧ r.2.sem = fun _ => 0)

def quiescent_Out0RefIdeal [hOut0RefIdeal : Cert.Out0RefIdeal.Facts] : Prop :=
  ∀ (m : (ℓ : Loc Cert.Out0RefIdeal.nD Cert.Out0RefIdeal.τ Cert.Out0RefIdeal.sig) → Buf (Elt Ideal) ℓ) (g : Dev Cert.Out0RefIdeal.nD → PrngReg), Pre_Out0RefIdeal m →
    θ_run (Cert.Out0RefIdeal.defs (F := Ideal)) (onTc (τ := Cert.Out0RefIdeal.τ) (Cert.Out0RefIdeal.main (F := Ideal))) ⟨m, fun _ => 0, g⟩ (fun r => (∀ c : Dev Cert.Out0RefIdeal.nD,
      r.2.mem ((c.tc : Thread Cert.Out0RefIdeal.nD Cert.Out0RefIdeal.τ).loc Cert.Out0RefIdeal.main_arg0) = m ((c.tc : Thread Cert.Out0RefIdeal.nD Cert.Out0RefIdeal.τ).loc Cert.Out0RefIdeal.main_arg0)
      ∧ r.2.mem ((c.tc : Thread Cert.Out0RefIdeal.nD Cert.Out0RefIdeal.τ).loc Cert.Out0RefIdeal.main_arg1) = m ((c.tc : Thread Cert.Out0RefIdeal.nD Cert.Out0RefIdeal.τ).loc Cert.Out0RefIdeal.main_arg1))
      ∧ r.2.sem = fun _ => 0)

def quiescent_Dact1 [hDact1 : Cert.Dact1.Facts] : Prop :=
  ∀ (m : (ℓ : Loc Cert.Dact1.nD Cert.Dact1.τ Cert.Dact1.sig) → Buf (Elt Bits) ℓ) (g : Dev Cert.Dact1.nD → PrngReg), Pre_Dact1 m →
    θ_run (Cert.Dact1.defs (F := Bits)) (onTc (τ := Cert.Dact1.τ) (Cert.Dact1.main (F := Bits))) ⟨m, fun _ => 0, g⟩ (fun r => (∀ c : Dev Cert.Dact1.nD,
      r.2.mem ((c.tc : Thread Cert.Dact1.nD Cert.Dact1.τ).loc Cert.Dact1.main_arg0) = m ((c.tc : Thread Cert.Dact1.nD Cert.Dact1.τ).loc Cert.Dact1.main_arg0)
      ∧ r.2.mem ((c.tc : Thread Cert.Dact1.nD Cert.Dact1.τ).loc Cert.Dact1.main_arg1) = m ((c.tc : Thread Cert.Dact1.nD Cert.Dact1.τ).loc Cert.Dact1.main_arg1))
      ∧ r.2.sem = fun _ => 0)

def quiescent_Dact1Ideal [hDact1Ideal : Cert.Dact1Ideal.Facts] : Prop :=
  ∀ (m : (ℓ : Loc Cert.Dact1Ideal.nD Cert.Dact1Ideal.τ Cert.Dact1Ideal.sig) → Buf (Elt Ideal) ℓ) (g : Dev Cert.Dact1Ideal.nD → PrngReg), Pre_Dact1Ideal m →
    θ_run (Cert.Dact1Ideal.defs (F := Ideal)) (onTc (τ := Cert.Dact1Ideal.τ) (Cert.Dact1Ideal.main (F := Ideal))) ⟨m, fun _ => 0, g⟩ (fun r => (∀ c : Dev Cert.Dact1Ideal.nD,
      r.2.mem ((c.tc : Thread Cert.Dact1Ideal.nD Cert.Dact1Ideal.τ).loc Cert.Dact1Ideal.main_arg0) = m ((c.tc : Thread Cert.Dact1Ideal.nD Cert.Dact1Ideal.τ).loc Cert.Dact1Ideal.main_arg0)
      ∧ r.2.mem ((c.tc : Thread Cert.Dact1Ideal.nD Cert.Dact1Ideal.τ).loc Cert.Dact1Ideal.main_arg1) = m ((c.tc : Thread Cert.Dact1Ideal.nD Cert.Dact1Ideal.τ).loc Cert.Dact1Ideal.main_arg1))
      ∧ r.2.sem = fun _ => 0)

def quiescent_Dact1RefIdeal [hDact1RefIdeal : Cert.Dact1RefIdeal.Facts] : Prop :=
  ∀ (m : (ℓ : Loc Cert.Dact1RefIdeal.nD Cert.Dact1RefIdeal.τ Cert.Dact1RefIdeal.sig) → Buf (Elt Ideal) ℓ) (g : Dev Cert.Dact1RefIdeal.nD → PrngReg), Pre_Dact1RefIdeal m →
    θ_run (Cert.Dact1RefIdeal.defs (F := Ideal)) (onTc (τ := Cert.Dact1RefIdeal.τ) (Cert.Dact1RefIdeal.main (F := Ideal))) ⟨m, fun _ => 0, g⟩ (fun r => (∀ c : Dev Cert.Dact1RefIdeal.nD,
      r.2.mem ((c.tc : Thread Cert.Dact1RefIdeal.nD Cert.Dact1RefIdeal.τ).loc Cert.Dact1RefIdeal.main_arg0) = m ((c.tc : Thread Cert.Dact1RefIdeal.nD Cert.Dact1RefIdeal.τ).loc Cert.Dact1RefIdeal.main_arg0)
      ∧ r.2.mem ((c.tc : Thread Cert.Dact1RefIdeal.nD Cert.Dact1RefIdeal.τ).loc Cert.Dact1RefIdeal.main_arg1) = m ((c.tc : Thread Cert.Dact1RefIdeal.nD Cert.Dact1RefIdeal.τ).loc Cert.Dact1RefIdeal.main_arg1))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1RefIdeal [hDh1RefIdeal : Cert.Dh1RefIdeal.Facts] : Prop :=
  ∀ (m : (ℓ : Loc Cert.Dh1RefIdeal.nD Cert.Dh1RefIdeal.τ Cert.Dh1RefIdeal.sig) → Buf (Elt Ideal) ℓ) (g : Dev Cert.Dh1RefIdeal.nD → PrngReg), Pre_Dh1RefIdeal m →
    θ_run (Cert.Dh1RefIdeal.defs (F := Ideal)) (onTc (τ := Cert.Dh1RefIdeal.τ) (Cert.Dh1RefIdeal.main (F := Ideal))) ⟨m, fun _ => 0, g⟩ (fun r => (∀ c : Dev Cert.Dh1RefIdeal.nD,
      r.2.mem ((c.tc : Thread Cert.Dh1RefIdeal.nD Cert.Dh1RefIdeal.τ).loc Cert.Dh1RefIdeal.main_arg0) = m ((c.tc : Thread Cert.Dh1RefIdeal.nD Cert.Dh1RefIdeal.τ).loc Cert.Dh1RefIdeal.main_arg0)
      ∧ r.2.mem ((c.tc : Thread Cert.Dh1RefIdeal.nD Cert.Dh1RefIdeal.τ).loc Cert.Dh1RefIdeal.main_arg1) = m ((c.tc : Thread Cert.Dh1RefIdeal.nD Cert.Dh1RefIdeal.τ).loc Cert.Dh1RefIdeal.main_arg1))
      ∧ r.2.sem = fun _ => 0)

def quiescent_In1 [hIn1 : Cert.In1.Facts] : Prop :=
  ∀ (m : (ℓ : Loc Cert.In1.nD Cert.In1.τ Cert.In1.sig) → Buf (Elt Bits) ℓ) (g : Dev Cert.In1.nD → PrngReg), Pre_In1 m →
    θ_run (Cert.In1.defs (F := Bits)) (onTc (τ := Cert.In1.τ) (Cert.In1.main (F := Bits))) ⟨m, fun _ => 0, g⟩ (fun r => (∀ c : Dev Cert.In1.nD,
      r.2.mem ((c.tc : Thread Cert.In1.nD Cert.In1.τ).loc Cert.In1.main_arg0) = m ((c.tc : Thread Cert.In1.nD Cert.In1.τ).loc Cert.In1.main_arg0)
      ∧ r.2.mem ((c.tc : Thread Cert.In1.nD Cert.In1.τ).loc Cert.In1.main_arg1) = m ((c.tc : Thread Cert.In1.nD Cert.In1.τ).loc Cert.In1.main_arg1))
      ∧ r.2.sem = fun _ => 0)

def quiescent_In1Ideal [hIn1Ideal : Cert.In1Ideal.Facts] : Prop :=
  ∀ (m : (ℓ : Loc Cert.In1Ideal.nD Cert.In1Ideal.τ Cert.In1Ideal.sig) → Buf (Elt Ideal) ℓ) (g : Dev Cert.In1Ideal.nD → PrngReg), Pre_In1Ideal m →
    θ_run (Cert.In1Ideal.defs (F := Ideal)) (onTc (τ := Cert.In1Ideal.τ) (Cert.In1Ideal.main (F := Ideal))) ⟨m, fun _ => 0, g⟩ (fun r => (∀ c : Dev Cert.In1Ideal.nD,
      r.2.mem ((c.tc : Thread Cert.In1Ideal.nD Cert.In1Ideal.τ).loc Cert.In1Ideal.main_arg0) = m ((c.tc : Thread Cert.In1Ideal.nD Cert.In1Ideal.τ).loc Cert.In1Ideal.main_arg0)
      ∧ r.2.mem ((c.tc : Thread Cert.In1Ideal.nD Cert.In1Ideal.τ).loc Cert.In1Ideal.main_arg1) = m ((c.tc : Thread Cert.In1Ideal.nD Cert.In1Ideal.τ).loc Cert.In1Ideal.main_arg1))
      ∧ r.2.sem = fun _ => 0)

def quiescent_In1RefIdeal [hIn1RefIdeal : Cert.In1RefIdeal.Facts] : Prop :=
  ∀ (m : (ℓ : Loc Cert.In1RefIdeal.nD Cert.In1RefIdeal.τ Cert.In1RefIdeal.sig) → Buf (Elt Ideal) ℓ) (g : Dev Cert.In1RefIdeal.nD → PrngReg), Pre_In1RefIdeal m →
    θ_run (Cert.In1RefIdeal.defs (F := Ideal)) (onTc (τ := Cert.In1RefIdeal.τ) (Cert.In1RefIdeal.main (F := Ideal))) ⟨m, fun _ => 0, g⟩ (fun r => (∀ c : Dev Cert.In1RefIdeal.nD,
      r.2.mem ((c.tc : Thread Cert.In1RefIdeal.nD Cert.In1RefIdeal.τ).loc Cert.In1RefIdeal.main_arg0) = m ((c.tc : Thread Cert.In1RefIdeal.nD Cert.In1RefIdeal.τ).loc Cert.In1RefIdeal.main_arg0)
      ∧ r.2.mem ((c.tc : Thread Cert.In1RefIdeal.nD Cert.In1RefIdeal.τ).loc Cert.In1RefIdeal.main_arg1) = m ((c.tc : Thread Cert.In1RefIdeal.nD Cert.In1RefIdeal.τ).loc Cert.In1RefIdeal.main_arg1))
      ∧ r.2.sem = fun _ => 0)

def quiescent_Out1 [hOut1 : Cert.Out1.Facts] : Prop :=
  ∀ (m : (ℓ : Loc Cert.Out1.nD Cert.Out1.τ Cert.Out1.sig) → Buf (Elt Bits) ℓ) (g : Dev Cert.Out1.nD → PrngReg), Pre_Out1 m →
    θ_run (Cert.Out1.defs (F := Bits)) (onTc (τ := Cert.Out1.τ) (Cert.Out1.main (F := Bits))) ⟨m, fun _ => 0, g⟩ (fun r => (∀ c : Dev Cert.Out1.nD,
      r.2.mem ((c.tc : Thread Cert.Out1.nD Cert.Out1.τ).loc Cert.Out1.main_arg0) = m ((c.tc : Thread Cert.Out1.nD Cert.Out1.τ).loc Cert.Out1.main_arg0)
      ∧ r.2.mem ((c.tc : Thread Cert.Out1.nD Cert.Out1.τ).loc Cert.Out1.main_arg1) = m ((c.tc : Thread Cert.Out1.nD Cert.Out1.τ).loc Cert.Out1.main_arg1))
      ∧ r.2.sem = fun _ => 0)

def quiescent_Out1Ideal [hOut1Ideal : Cert.Out1Ideal.Facts] : Prop :=
  ∀ (m : (ℓ : Loc Cert.Out1Ideal.nD Cert.Out1Ideal.τ Cert.Out1Ideal.sig) → Buf (Elt Ideal) ℓ) (g : Dev Cert.Out1Ideal.nD → PrngReg), Pre_Out1Ideal m →
    θ_run (Cert.Out1Ideal.defs (F := Ideal)) (onTc (τ := Cert.Out1Ideal.τ) (Cert.Out1Ideal.main (F := Ideal))) ⟨m, fun _ => 0, g⟩ (fun r => (∀ c : Dev Cert.Out1Ideal.nD,
      r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
      ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1))
      ∧ r.2.sem = fun _ => 0)

def quiescent_Out1RefIdeal [hOut1RefIdeal : Cert.Out1RefIdeal.Facts] : Prop :=
  ∀ (m : (ℓ : Loc Cert.Out1RefIdeal.nD Cert.Out1RefIdeal.τ Cert.Out1RefIdeal.sig) → Buf (Elt Ideal) ℓ) (g : Dev Cert.Out1RefIdeal.nD → PrngReg), Pre_Out1RefIdeal m →
    θ_run (Cert.Out1RefIdeal.defs (F := Ideal)) (onTc (τ := Cert.Out1RefIdeal.τ) (Cert.Out1RefIdeal.main (F := Ideal))) ⟨m, fun _ => 0, g⟩ (fun r => (∀ c : Dev Cert.Out1RefIdeal.nD,
      r.2.mem ((c.tc : Thread Cert.Out1RefIdeal.nD Cert.Out1RefIdeal.τ).loc Cert.Out1RefIdeal.main_arg0) = m ((c.tc : Thread Cert.Out1RefIdeal.nD Cert.Out1RefIdeal.τ).loc Cert.Out1RefIdeal.main_arg0)
      ∧ r.2.mem ((c.tc : Thread Cert.Out1RefIdeal.nD Cert.Out1RefIdeal.τ).loc Cert.Out1RefIdeal.main_arg1) = m ((c.tc : Thread Cert.Out1RefIdeal.nD Cert.Out1RefIdeal.τ).loc Cert.Out1RefIdeal.main_arg1))
      ∧ r.2.sem = fun _ => 0)

def quiescent_Dact2 [hDact2 : Cert.Dact2.Facts] : Prop :=
  ∀ (m : (ℓ : Loc Cert.Dact2.nD Cert.Dact2.τ Cert.Dact2.sig) → Buf (Elt Bits) ℓ) (g : Dev Cert.Dact2.nD → PrngReg), Pre_Dact2 m →
    θ_run (Cert.Dact2.defs (F := Bits)) (onTc (τ := Cert.Dact2.τ) (Cert.Dact2.main (F := Bits))) ⟨m, fun _ => 0, g⟩ (fun r => (∀ c : Dev Cert.Dact2.nD,
      r.2.mem ((c.tc : Thread Cert.Dact2.nD Cert.Dact2.τ).loc Cert.Dact2.main_arg0) = m ((c.tc : Thread Cert.Dact2.nD Cert.Dact2.τ).loc Cert.Dact2.main_arg0)
      ∧ r.2.mem ((c.tc : Thread Cert.Dact2.nD Cert.Dact2.τ).loc Cert.Dact2.main_arg1) = m ((c.tc : Thread Cert.Dact2.nD Cert.Dact2.τ).loc Cert.Dact2.main_arg1))
      ∧ r.2.sem = fun _ => 0)

def quiescent_Dact2Ideal [hDact2Ideal : Cert.Dact2Ideal.Facts] : Prop :=
  ∀ (m : (ℓ : Loc Cert.Dact2Ideal.nD Cert.Dact2Ideal.τ Cert.Dact2Ideal.sig) → Buf (Elt Ideal) ℓ) (g : Dev Cert.Dact2Ideal.nD → PrngReg), Pre_Dact2Ideal m →
    θ_run (Cert.Dact2Ideal.defs (F := Ideal)) (onTc (τ := Cert.Dact2Ideal.τ) (Cert.Dact2Ideal.main (F := Ideal))) ⟨m, fun _ => 0, g⟩ (fun r => (∀ c : Dev Cert.Dact2Ideal.nD,
      r.2.mem ((c.tc : Thread Cert.Dact2Ideal.nD Cert.Dact2Ideal.τ).loc Cert.Dact2Ideal.main_arg0) = m ((c.tc : Thread Cert.Dact2Ideal.nD Cert.Dact2Ideal.τ).loc Cert.Dact2Ideal.main_arg0)
      ∧ r.2.mem ((c.tc : Thread Cert.Dact2Ideal.nD Cert.Dact2Ideal.τ).loc Cert.Dact2Ideal.main_arg1) = m ((c.tc : Thread Cert.Dact2Ideal.nD Cert.Dact2Ideal.τ).loc Cert.Dact2Ideal.main_arg1))
      ∧ r.2.sem = fun _ => 0)

def quiescent_Dact2RefIdeal [hDact2RefIdeal : Cert.Dact2RefIdeal.Facts] : Prop :=
  ∀ (m : (ℓ : Loc Cert.Dact2RefIdeal.nD Cert.Dact2RefIdeal.τ Cert.Dact2RefIdeal.sig) → Buf (Elt Ideal) ℓ) (g : Dev Cert.Dact2RefIdeal.nD → PrngReg), Pre_Dact2RefIdeal m →
    θ_run (Cert.Dact2RefIdeal.defs (F := Ideal)) (onTc (τ := Cert.Dact2RefIdeal.τ) (Cert.Dact2RefIdeal.main (F := Ideal))) ⟨m, fun _ => 0, g⟩ (fun r => (∀ c : Dev Cert.Dact2RefIdeal.nD,
      r.2.mem ((c.tc : Thread Cert.Dact2RefIdeal.nD Cert.Dact2RefIdeal.τ).loc Cert.Dact2RefIdeal.main_arg0) = m ((c.tc : Thread Cert.Dact2RefIdeal.nD Cert.Dact2RefIdeal.τ).loc Cert.Dact2RefIdeal.main_arg0)
      ∧ r.2.mem ((c.tc : Thread Cert.Dact2RefIdeal.nD Cert.Dact2RefIdeal.τ).loc Cert.Dact2RefIdeal.main_arg1) = m ((c.tc : Thread Cert.Dact2RefIdeal.nD Cert.Dact2RefIdeal.τ).loc Cert.Dact2RefIdeal.main_arg1))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ r.2.sem = fun _ => 0)

def quiescent_Dh2RefIdeal [hDh2RefIdeal : Cert.Dh2RefIdeal.Facts] : Prop :=
  ∀ (m : (ℓ : Loc Cert.Dh2RefIdeal.nD Cert.Dh2RefIdeal.τ Cert.Dh2RefIdeal.sig) → Buf (Elt Ideal) ℓ) (g : Dev Cert.Dh2RefIdeal.nD → PrngReg), Pre_Dh2RefIdeal m →
    θ_run (Cert.Dh2RefIdeal.defs (F := Ideal)) (onTc (τ := Cert.Dh2RefIdeal.τ) (Cert.Dh2RefIdeal.main (F := Ideal))) ⟨m, fun _ => 0, g⟩ (fun r => (∀ c : Dev Cert.Dh2RefIdeal.nD,
      r.2.mem ((c.tc : Thread Cert.Dh2RefIdeal.nD Cert.Dh2RefIdeal.τ).loc Cert.Dh2RefIdeal.main_arg0) = m ((c.tc : Thread Cert.Dh2RefIdeal.nD Cert.Dh2RefIdeal.τ).loc Cert.Dh2RefIdeal.main_arg0)
      ∧ r.2.mem ((c.tc : Thread Cert.Dh2RefIdeal.nD Cert.Dh2RefIdeal.τ).loc Cert.Dh2RefIdeal.main_arg1) = m ((c.tc : Thread Cert.Dh2RefIdeal.nD Cert.Dh2RefIdeal.τ).loc Cert.Dh2RefIdeal.main_arg1))
      ∧ r.2.sem = fun _ => 0)

def quiescent_In2 [hIn2 : Cert.In2.Facts] : Prop :=
  ∀ (m : (ℓ : Loc Cert.In2.nD Cert.In2.τ Cert.In2.sig) → Buf (Elt Bits) ℓ) (g : Dev Cert.In2.nD → PrngReg), Pre_In2 m →
    θ_run (Cert.In2.defs (F := Bits)) (onTc (τ := Cert.In2.τ) (Cert.In2.main (F := Bits))) ⟨m, fun _ => 0, g⟩ (fun r => (∀ c : Dev Cert.In2.nD,
      r.2.mem ((c.tc : Thread Cert.In2.nD Cert.In2.τ).loc Cert.In2.main_arg0) = m ((c.tc : Thread Cert.In2.nD Cert.In2.τ).loc Cert.In2.main_arg0)
      ∧ r.2.mem ((c.tc : Thread Cert.In2.nD Cert.In2.τ).loc Cert.In2.main_arg1) = m ((c.tc : Thread Cert.In2.nD Cert.In2.τ).loc Cert.In2.main_arg1))
      ∧ r.2.sem = fun _ => 0)

def quiescent_In2Ideal [hIn2Ideal : Cert.In2Ideal.Facts] : Prop :=
  ∀ (m : (ℓ : Loc Cert.In2Ideal.nD Cert.In2Ideal.τ Cert.In2Ideal.sig) → Buf (Elt Ideal) ℓ) (g : Dev Cert.In2Ideal.nD → PrngReg), Pre_In2Ideal m →
    θ_run (Cert.In2Ideal.defs (F := Ideal)) (onTc (τ := Cert.In2Ideal.τ) (Cert.In2Ideal.main (F := Ideal))) ⟨m, fun _ => 0, g⟩ (fun r => (∀ c : Dev Cert.In2Ideal.nD,
      r.2.mem ((c.tc : Thread Cert.In2Ideal.nD Cert.In2Ideal.τ).loc Cert.In2Ideal.main_arg0) = m ((c.tc : Thread Cert.In2Ideal.nD Cert.In2Ideal.τ).loc Cert.In2Ideal.main_arg0)
      ∧ r.2.mem ((c.tc : Thread Cert.In2Ideal.nD Cert.In2Ideal.τ).loc Cert.In2Ideal.main_arg1) = m ((c.tc : Thread Cert.In2Ideal.nD Cert.In2Ideal.τ).loc Cert.In2Ideal.main_arg1))
      ∧ r.2.sem = fun _ => 0)

def quiescent_In2RefIdeal [hIn2RefIdeal : Cert.In2RefIdeal.Facts] : Prop :=
  ∀ (m : (ℓ : Loc Cert.In2RefIdeal.nD Cert.In2RefIdeal.τ Cert.In2RefIdeal.sig) → Buf (Elt Ideal) ℓ) (g : Dev Cert.In2RefIdeal.nD → PrngReg), Pre_In2RefIdeal m →
    θ_run (Cert.In2RefIdeal.defs (F := Ideal)) (onTc (τ := Cert.In2RefIdeal.τ) (Cert.In2RefIdeal.main (F := Ideal))) ⟨m, fun _ => 0, g⟩ (fun r => (∀ c : Dev Cert.In2RefIdeal.nD,
      r.2.mem ((c.tc : Thread Cert.In2RefIdeal.nD Cert.In2RefIdeal.τ).loc Cert.In2RefIdeal.main_arg0) = m ((c.tc : Thread Cert.In2RefIdeal.nD Cert.In2RefIdeal.τ).loc Cert.In2RefIdeal.main_arg0)
      ∧ r.2.mem ((c.tc : Thread Cert.In2RefIdeal.nD Cert.In2RefIdeal.τ).loc Cert.In2RefIdeal.main_arg1) = m ((c.tc : Thread Cert.In2RefIdeal.nD Cert.In2RefIdeal.τ).loc Cert.In2RefIdeal.main_arg1))
      ∧ r.2.sem = fun _ => 0)

def quiescent_Out2 [hOut2 : Cert.Out2.Facts] : Prop :=
  ∀ (m : (ℓ : Loc Cert.Out2.nD Cert.Out2.τ Cert.Out2.sig) → Buf (Elt Bits) ℓ) (g : Dev Cert.Out2.nD → PrngReg), Pre_Out2 m →
    θ_run (Cert.Out2.defs (F := Bits)) (onTc (τ := Cert.Out2.τ) (Cert.Out2.main (F := Bits))) ⟨m, fun _ => 0, g⟩ (fun r => (∀ c : Dev Cert.Out2.nD,
      r.2.mem ((c.tc : Thread Cert.Out2.nD Cert.Out2.τ).loc Cert.Out2.main_arg0) = m ((c.tc : Thread Cert.Out2.nD Cert.Out2.τ).loc Cert.Out2.main_arg0)
      ∧ r.2.mem ((c.tc : Thread Cert.Out2.nD Cert.Out2.τ).loc Cert.Out2.main_arg1) = m ((c.tc : Thread Cert.Out2.nD Cert.Out2.τ).loc Cert.Out2.main_arg1))
      ∧ r.2.sem = fun _ => 0)

def quiescent_Out2Ideal [hOut2Ideal : Cert.Out2Ideal.Facts] : Prop :=
  ∀ (m : (ℓ : Loc Cert.Out2Ideal.nD Cert.Out2Ideal.τ Cert.Out2Ideal.sig) → Buf (Elt Ideal) ℓ) (g : Dev Cert.Out2Ideal.nD → PrngReg), Pre_Out2Ideal m →
    θ_run (Cert.Out2Ideal.defs (F := Ideal)) (onTc (τ := Cert.Out2Ideal.τ) (Cert.Out2Ideal.main (F := Ideal))) ⟨m, fun _ => 0, g⟩ (fun r => (∀ c : Dev Cert.Out2Ideal.nD,
      r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
      ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1))
      ∧ r.2.sem = fun _ => 0)

def quiescent_Out2RefIdeal [hOut2RefIdeal : Cert.Out2RefIdeal.Facts] : Prop :=
  ∀ (m : (ℓ : Loc Cert.Out2RefIdeal.nD Cert.Out2RefIdeal.τ Cert.Out2RefIdeal.sig) → Buf (Elt Ideal) ℓ) (g : Dev Cert.Out2RefIdeal.nD → PrngReg), Pre_Out2RefIdeal m →
    θ_run (Cert.Out2RefIdeal.defs (F := Ideal)) (onTc (τ := Cert.Out2RefIdeal.τ) (Cert.Out2RefIdeal.main (F := Ideal))) ⟨m, fun _ => 0, g⟩ (fun r => (∀ c : Dev Cert.Out2RefIdeal.nD,
      r.2.mem ((c.tc : Thread Cert.Out2RefIdeal.nD Cert.Out2RefIdeal.τ).loc Cert.Out2RefIdeal.main_arg0) = m ((c.tc : Thread Cert.Out2RefIdeal.nD Cert.Out2RefIdeal.τ).loc Cert.Out2RefIdeal.main_arg0)
      ∧ r.2.mem ((c.tc : Thread Cert.Out2RefIdeal.nD Cert.Out2RefIdeal.τ).loc Cert.Out2RefIdeal.main_arg1) = m ((c.tc : Thread Cert.Out2RefIdeal.nD Cert.Out2RefIdeal.τ).loc Cert.Out2RefIdeal.main_arg1))
      ∧ r.2.sem = fun _ => 0)

def quiescent_Dact3 [hDact3 : Cert.Dact3.Facts] : Prop :=
  ∀ (m : (ℓ : Loc Cert.Dact3.nD Cert.Dact3.τ Cert.Dact3.sig) → Buf (Elt Bits) ℓ) (g : Dev Cert.Dact3.nD → PrngReg), Pre_Dact3 m →
    θ_run (Cert.Dact3.defs (F := Bits)) (onTc (τ := Cert.Dact3.τ) (Cert.Dact3.main (F := Bits))) ⟨m, fun _ => 0, g⟩ (fun r => (∀ c : Dev Cert.Dact3.nD,
      r.2.mem ((c.tc : Thread Cert.Dact3.nD Cert.Dact3.τ).loc Cert.Dact3.main_arg0) = m ((c.tc : Thread Cert.Dact3.nD Cert.Dact3.τ).loc Cert.Dact3.main_arg0)
      ∧ r.2.mem ((c.tc : Thread Cert.Dact3.nD Cert.Dact3.τ).loc Cert.Dact3.main_arg1) = m ((c.tc : Thread Cert.Dact3.nD Cert.Dact3.τ).loc Cert.Dact3.main_arg1))
      ∧ r.2.sem = fun _ => 0)

def quiescent_Dact3Ideal [hDact3Ideal : Cert.Dact3Ideal.Facts] : Prop :=
  ∀ (m : (ℓ : Loc Cert.Dact3Ideal.nD Cert.Dact3Ideal.τ Cert.Dact3Ideal.sig) → Buf (Elt Ideal) ℓ) (g : Dev Cert.Dact3Ideal.nD → PrngReg), Pre_Dact3Ideal m →
    θ_run (Cert.Dact3Ideal.defs (F := Ideal)) (onTc (τ := Cert.Dact3Ideal.τ) (Cert.Dact3Ideal.main (F := Ideal))) ⟨m, fun _ => 0, g⟩ (fun r => (∀ c : Dev Cert.Dact3Ideal.nD,
      r.2.mem ((c.tc : Thread Cert.Dact3Ideal.nD Cert.Dact3Ideal.τ).loc Cert.Dact3Ideal.main_arg0) = m ((c.tc : Thread Cert.Dact3Ideal.nD Cert.Dact3Ideal.τ).loc Cert.Dact3Ideal.main_arg0)
      ∧ r.2.mem ((c.tc : Thread Cert.Dact3Ideal.nD Cert.Dact3Ideal.τ).loc Cert.Dact3Ideal.main_arg1) = m ((c.tc : Thread Cert.Dact3Ideal.nD Cert.Dact3Ideal.τ).loc Cert.Dact3Ideal.main_arg1))
      ∧ r.2.sem = fun _ => 0)

def quiescent_Dact3RefIdeal [hDact3RefIdeal : Cert.Dact3RefIdeal.Facts] : Prop :=
  ∀ (m : (ℓ : Loc Cert.Dact3RefIdeal.nD Cert.Dact3RefIdeal.τ Cert.Dact3RefIdeal.sig) → Buf (Elt Ideal) ℓ) (g : Dev Cert.Dact3RefIdeal.nD → PrngReg), Pre_Dact3RefIdeal m →
    θ_run (Cert.Dact3RefIdeal.defs (F := Ideal)) (onTc (τ := Cert.Dact3RefIdeal.τ) (Cert.Dact3RefIdeal.main (F := Ideal))) ⟨m, fun _ => 0, g⟩ (fun r => (∀ c : Dev Cert.Dact3RefIdeal.nD,
      r.2.mem ((c.tc : Thread Cert.Dact3RefIdeal.nD Cert.Dact3RefIdeal.τ).loc Cert.Dact3RefIdeal.main_arg0) = m ((c.tc : Thread Cert.Dact3RefIdeal.nD Cert.Dact3RefIdeal.τ).loc Cert.Dact3RefIdeal.main_arg0)
      ∧ r.2.mem ((c.tc : Thread Cert.Dact3RefIdeal.nD Cert.Dact3RefIdeal.τ).loc Cert.Dact3RefIdeal.main_arg1) = m ((c.tc : Thread Cert.Dact3RefIdeal.nD Cert.Dact3RefIdeal.τ).loc Cert.Dact3RefIdeal.main_arg1))
      ∧ r.2.sem = fun _ => 0)

def quiescent_Dh3 [hDh3 : Cert.Dh3.Facts] : Prop :=
  ∀ (m : (ℓ : Loc Cert.Dh3.nD Cert.Dh3.τ Cert.Dh3.sig) → Buf (Elt Bits) ℓ) (g : Dev Cert.Dh3.nD → PrngReg), Pre_Dh3 m →
    θ_run (Cert.Dh3.defs (F := Bits)) (onTc (τ := Cert.Dh3.τ) (Cert.Dh3.main (F := Bits))) ⟨m, fun _ => 0, g⟩ (fun r => (∀ c : Dev Cert.Dh3.nD,
      r.2.mem ((c.tc : Thread Cert.Dh3.nD Cert.Dh3.τ).loc Cert.Dh3.main_arg0) = m ((c.tc : Thread Cert.Dh3.nD Cert.Dh3.τ).loc Cert.Dh3.main_arg0)
      ∧ r.2.mem ((c.tc : Thread Cert.Dh3.nD Cert.Dh3.τ).loc Cert.Dh3.main_arg1) = m ((c.tc : Thread Cert.Dh3.nD Cert.Dh3.τ).loc Cert.Dh3.main_arg1))
      ∧ r.2.sem = fun _ => 0)

def quiescent_Dh3Ideal [hDh3Ideal : Cert.Dh3Ideal.Facts] : Prop :=
  ∀ (m : (ℓ : Loc Cert.Dh3Ideal.nD Cert.Dh3Ideal.τ Cert.Dh3Ideal.sig) → Buf (Elt Ideal) ℓ) (g : Dev Cert.Dh3Ideal.nD → PrngReg), Pre_Dh3Ideal m →
    θ_run (Cert.Dh3Ideal.defs (F := Ideal)) (onTc (τ := Cert.Dh3Ideal.τ) (Cert.Dh3Ideal.main (F := Ideal))) ⟨m, fun _ => 0, g⟩ (fun r => (∀ c : Dev Cert.Dh3Ideal.nD,
      r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
      ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1))
      ∧ r.2.sem = fun _ => 0)

def quiescent_Dh3RefIdeal [hDh3RefIdeal : Cert.Dh3RefIdeal.Facts] : Prop :=
  ∀ (m : (ℓ : Loc Cert.Dh3RefIdeal.nD Cert.Dh3RefIdeal.τ Cert.Dh3RefIdeal.sig) → Buf (Elt Ideal) ℓ) (g : Dev Cert.Dh3RefIdeal.nD → PrngReg), Pre_Dh3RefIdeal m →
    θ_run (Cert.Dh3RefIdeal.defs (F := Ideal)) (onTc (τ := Cert.Dh3RefIdeal.τ) (Cert.Dh3RefIdeal.main (F := Ideal))) ⟨m, fun _ => 0, g⟩ (fun r => (∀ c : Dev Cert.Dh3RefIdeal.nD,
      r.2.mem ((c.tc : Thread Cert.Dh3RefIdeal.nD Cert.Dh3RefIdeal.τ).loc Cert.Dh3RefIdeal.main_arg0) = m ((c.tc : Thread Cert.Dh3RefIdeal.nD Cert.Dh3RefIdeal.τ).loc Cert.Dh3RefIdeal.main_arg0)
      ∧ r.2.mem ((c.tc : Thread Cert.Dh3RefIdeal.nD Cert.Dh3RefIdeal.τ).loc Cert.Dh3RefIdeal.main_arg1) = m ((c.tc : Thread Cert.Dh3RefIdeal.nD Cert.Dh3RefIdeal.τ).loc Cert.Dh3RefIdeal.main_arg1))
      ∧ r.2.sem = fun _ => 0)

def quiescent_In3 [hIn3 : Cert.In3.Facts] : Prop :=
  ∀ (m : (ℓ : Loc Cert.In3.nD Cert.In3.τ Cert.In3.sig) → Buf (Elt Bits) ℓ) (g : Dev Cert.In3.nD → PrngReg), Pre_In3 m →
    θ_run (Cert.In3.defs (F := Bits)) (onTc (τ := Cert.In3.τ) (Cert.In3.main (F := Bits))) ⟨m, fun _ => 0, g⟩ (fun r => (∀ c : Dev Cert.In3.nD,
      r.2.mem ((c.tc : Thread Cert.In3.nD Cert.In3.τ).loc Cert.In3.main_arg0) = m ((c.tc : Thread Cert.In3.nD Cert.In3.τ).loc Cert.In3.main_arg0)
      ∧ r.2.mem ((c.tc : Thread Cert.In3.nD Cert.In3.τ).loc Cert.In3.main_arg1) = m ((c.tc : Thread Cert.In3.nD Cert.In3.τ).loc Cert.In3.main_arg1))
      ∧ r.2.sem = fun _ => 0)

def quiescent_In3Ideal [hIn3Ideal : Cert.In3Ideal.Facts] : Prop :=
  ∀ (m : (ℓ : Loc Cert.In3Ideal.nD Cert.In3Ideal.τ Cert.In3Ideal.sig) → Buf (Elt Ideal) ℓ) (g : Dev Cert.In3Ideal.nD → PrngReg), Pre_In3Ideal m →
    θ_run (Cert.In3Ideal.defs (F := Ideal)) (onTc (τ := Cert.In3Ideal.τ) (Cert.In3Ideal.main (F := Ideal))) ⟨m, fun _ => 0, g⟩ (fun r => (∀ c : Dev Cert.In3Ideal.nD,
      r.2.mem ((c.tc : Thread Cert.In3Ideal.nD Cert.In3Ideal.τ).loc Cert.In3Ideal.main_arg0) = m ((c.tc : Thread Cert.In3Ideal.nD Cert.In3Ideal.τ).loc Cert.In3Ideal.main_arg0)
      ∧ r.2.mem ((c.tc : Thread Cert.In3Ideal.nD Cert.In3Ideal.τ).loc Cert.In3Ideal.main_arg1) = m ((c.tc : Thread Cert.In3Ideal.nD Cert.In3Ideal.τ).loc Cert.In3Ideal.main_arg1))
      ∧ r.2.sem = fun _ => 0)

def quiescent_In3RefIdeal [hIn3RefIdeal : Cert.In3RefIdeal.Facts] : Prop :=
  ∀ (m : (ℓ : Loc Cert.In3RefIdeal.nD Cert.In3RefIdeal.τ Cert.In3RefIdeal.sig) → Buf (Elt Ideal) ℓ) (g : Dev Cert.In3RefIdeal.nD → PrngReg), Pre_In3RefIdeal m →
    θ_run (Cert.In3RefIdeal.defs (F := Ideal)) (onTc (τ := Cert.In3RefIdeal.τ) (Cert.In3RefIdeal.main (F := Ideal))) ⟨m, fun _ => 0, g⟩ (fun r => (∀ c : Dev Cert.In3RefIdeal.nD,
      r.2.mem ((c.tc : Thread Cert.In3RefIdeal.nD Cert.In3RefIdeal.τ).loc Cert.In3RefIdeal.main_arg0) = m ((c.tc : Thread Cert.In3RefIdeal.nD Cert.In3RefIdeal.τ).loc Cert.In3RefIdeal.main_arg0)
      ∧ r.2.mem ((c.tc : Thread Cert.In3RefIdeal.nD Cert.In3RefIdeal.τ).loc Cert.In3RefIdeal.main_arg1) = m ((c.tc : Thread Cert.In3RefIdeal.nD Cert.In3RefIdeal.τ).loc Cert.In3RefIdeal.main_arg1))
      ∧ r.2.sem = fun _ => 0)

def quiescent_Out3 [hOut3 : Cert.Out3.Facts] : Prop :=
  ∀ (m : (ℓ : Loc Cert.Out3.nD Cert.Out3.τ Cert.Out3.sig) → Buf (Elt Bits) ℓ) (g : Dev Cert.Out3.nD → PrngReg), Pre_Out3 m →
    θ_run (Cert.Out3.defs (F := Bits)) (onTc (τ := Cert.Out3.τ) (Cert.Out3.main (F := Bits))) ⟨m, fun _ => 0, g⟩ (fun r => (∀ c : Dev Cert.Out3.nD,
      r.2.mem ((c.tc : Thread Cert.Out3.nD Cert.Out3.τ).loc Cert.Out3.main_arg0) = m ((c.tc : Thread Cert.Out3.nD Cert.Out3.τ).loc Cert.Out3.main_arg0)
      ∧ r.2.mem ((c.tc : Thread Cert.Out3.nD Cert.Out3.τ).loc Cert.Out3.main_arg1) = m ((c.tc : Thread Cert.Out3.nD Cert.Out3.τ).loc Cert.Out3.main_arg1))
      ∧ r.2.sem = fun _ => 0)

def quiescent_Out3Ideal [hOut3Ideal : Cert.Out3Ideal.Facts] : Prop :=
  ∀ (m : (ℓ : Loc Cert.Out3Ideal.nD Cert.Out3Ideal.τ Cert.Out3Ideal.sig) → Buf (Elt Ideal) ℓ) (g : Dev Cert.Out3Ideal.nD → PrngReg), Pre_Out3Ideal m →
    θ_run (Cert.Out3Ideal.defs (F := Ideal)) (onTc (τ := Cert.Out3Ideal.τ) (Cert.Out3Ideal.main (F := Ideal))) ⟨m, fun _ => 0, g⟩ (fun r => (∀ c : Dev Cert.Out3Ideal.nD,
      r.2.mem ((c.tc : Thread Cert.Out3Ideal.nD Cert.Out3Ideal.τ).loc Cert.Out3Ideal.main_arg0) = m ((c.tc : Thread Cert.Out3Ideal.nD Cert.Out3Ideal.τ).loc Cert.Out3Ideal.main_arg0)
      ∧ r.2.mem ((c.tc : Thread Cert.Out3Ideal.nD Cert.Out3Ideal.τ).loc Cert.Out3Ideal.main_arg1) = m ((c.tc : Thread Cert.Out3Ideal.nD Cert.Out3Ideal.τ).loc Cert.Out3Ideal.main_arg1))
      ∧ r.2.sem = fun _ => 0)

def quiescent_Out3RefIdeal [hOut3RefIdeal : Cert.Out3RefIdeal.Facts] : Prop :=
  ∀ (m : (ℓ : Loc Cert.Out3RefIdeal.nD Cert.Out3RefIdeal.τ Cert.Out3RefIdeal.sig) → Buf (Elt Ideal) ℓ) (g : Dev Cert.Out3RefIdeal.nD → PrngReg), Pre_Out3RefIdeal m →
    θ_run (Cert.Out3RefIdeal.defs (F := Ideal)) (onTc (τ := Cert.Out3RefIdeal.τ) (Cert.Out3RefIdeal.main (F := Ideal))) ⟨m, fun _ => 0, g⟩ (fun r => (∀ c : Dev Cert.Out3RefIdeal.nD,
      r.2.mem ((c.tc : Thread Cert.Out3RefIdeal.nD Cert.Out3RefIdeal.τ).loc Cert.Out3RefIdeal.main_arg0) = m ((c.tc : Thread Cert.Out3RefIdeal.nD Cert.Out3RefIdeal.τ).loc Cert.Out3RefIdeal.main_arg0)
      ∧ r.2.mem ((c.tc : Thread Cert.Out3RefIdeal.nD Cert.Out3RefIdeal.τ).loc Cert.Out3RefIdeal.main_arg1) = m ((c.tc : Thread Cert.Out3RefIdeal.nD Cert.Out3RefIdeal.τ).loc Cert.Out3RefIdeal.main_arg1))
      ∧ r.2.sem = fun _ => 0)

def quiescent_MixDw [hMixDw : Cert.MixDw.Facts] : Prop :=
  ∀ (m : (ℓ : Loc Cert.MixDw.nD Cert.MixDw.τ Cert.MixDw.sig) → Buf (Elt Bits) ℓ) (g : Dev Cert.MixDw.nD → PrngReg), Pre_MixDw m →
    θ_run (Cert.MixDw.defs (F := Bits)) (onTc (τ := Cert.MixDw.τ) (Cert.MixDw.main (F := Bits))) ⟨m, fun _ => 0, g⟩ (fun r => (∀ c : Dev Cert.MixDw.nD,
      r.2.mem ((c.tc : Thread Cert.MixDw.nD Cert.MixDw.τ).loc Cert.MixDw.main_arg0) = m ((c.tc : Thread Cert.MixDw.nD Cert.MixDw.τ).loc Cert.MixDw.main_arg0)
      ∧ r.2.mem ((c.tc : Thread Cert.MixDw.nD Cert.MixDw.τ).loc Cert.MixDw.main_arg1) = m ((c.tc : Thread Cert.MixDw.nD Cert.MixDw.τ).loc Cert.MixDw.main_arg1))
      ∧ r.2.sem = fun _ => 0)

def quiescent_MixDwIdeal [hMixDwIdeal : Cert.MixDwIdeal.Facts] : Prop :=
  ∀ (m : (ℓ : Loc Cert.MixDwIdeal.nD Cert.MixDwIdeal.τ Cert.MixDwIdeal.sig) → Buf (Elt Ideal) ℓ) (g : Dev Cert.MixDwIdeal.nD → PrngReg), Pre_MixDwIdeal m →
    θ_run (Cert.MixDwIdeal.defs (F := Ideal)) (onTc (τ := Cert.MixDwIdeal.τ) (Cert.MixDwIdeal.main (F := Ideal))) ⟨m, fun _ => 0, g⟩ (fun r => (∀ c : Dev Cert.MixDwIdeal.nD,
      r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
      ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ r.2.sem = fun _ => 0)

def quiescent_MixDwRefIdeal [hMixDwRefIdeal : Cert.MixDwRefIdeal.Facts] : Prop :=
  ∀ (m : (ℓ : Loc Cert.MixDwRefIdeal.nD Cert.MixDwRefIdeal.τ Cert.MixDwRefIdeal.sig) → Buf (Elt Ideal) ℓ) (g : Dev Cert.MixDwRefIdeal.nD → PrngReg), Pre_MixDwRefIdeal m →
    θ_run (Cert.MixDwRefIdeal.defs (F := Ideal)) (onTc (τ := Cert.MixDwRefIdeal.τ) (Cert.MixDwRefIdeal.main (F := Ideal))) ⟨m, fun _ => 0, g⟩ (fun r => (∀ c : Dev Cert.MixDwRefIdeal.nD,
      r.2.mem ((c.tc : Thread Cert.MixDwRefIdeal.nD Cert.MixDwRefIdeal.τ).loc Cert.MixDwRefIdeal.main_arg0) = m ((c.tc : Thread Cert.MixDwRefIdeal.nD Cert.MixDwRefIdeal.τ).loc Cert.MixDwRefIdeal.main_arg0)
      ∧ r.2.mem ((c.tc : Thread Cert.MixDwRefIdeal.nD Cert.MixDwRefIdeal.τ).loc Cert.MixDwRefIdeal.main_arg1) = m ((c.tc : Thread Cert.MixDwRefIdeal.nD Cert.MixDwRefIdeal.τ).loc Cert.MixDwRefIdeal.main_arg1))
      ∧ r.2.sem = fun _ => 0)

def quiescent_EvDw [hEvDw : Cert.EvDw.Facts] : Prop :=
  ∀ (m : (ℓ : Loc Cert.EvDw.nD Cert.EvDw.τ Cert.EvDw.sig) → Buf (Elt Bits) ℓ) (g : Dev Cert.EvDw.nD → PrngReg), Pre_EvDw m →
    θ_run (Cert.EvDw.defs (F := Bits)) (onTc (τ := Cert.EvDw.τ) (Cert.EvDw.main (F := Bits))) ⟨m, fun _ => 0, g⟩ (fun r => (∀ c : Dev Cert.EvDw.nD,
      r.2.mem ((c.tc : Thread Cert.EvDw.nD Cert.EvDw.τ).loc Cert.EvDw.main_arg0) = m ((c.tc : Thread Cert.EvDw.nD Cert.EvDw.τ).loc Cert.EvDw.main_arg0)
      ∧ r.2.mem ((c.tc : Thread Cert.EvDw.nD Cert.EvDw.τ).loc Cert.EvDw.main_arg1) = m ((c.tc : Thread Cert.EvDw.nD Cert.EvDw.τ).loc Cert.EvDw.main_arg1))
      ∧ r.2.sem = fun _ => 0)

def quiescent_EvDwIdeal [hEvDwIdeal : Cert.EvDwIdeal.Facts] : Prop :=
  ∀ (m : (ℓ : Loc Cert.EvDwIdeal.nD Cert.EvDwIdeal.τ Cert.EvDwIdeal.sig) → Buf (Elt Ideal) ℓ) (g : Dev Cert.EvDwIdeal.nD → PrngReg), Pre_EvDwIdeal m →
    θ_run (Cert.EvDwIdeal.defs (F := Ideal)) (onTc (τ := Cert.EvDwIdeal.τ) (Cert.EvDwIdeal.main (F := Ideal))) ⟨m, fun _ => 0, g⟩ (fun r => (∀ c : Dev Cert.EvDwIdeal.nD,
      r.2.mem ((c.tc : Thread Cert.EvDwIdeal.nD Cert.EvDwIdeal.τ).loc Cert.EvDwIdeal.main_arg0) = m ((c.tc : Thread Cert.EvDwIdeal.nD Cert.EvDwIdeal.τ).loc Cert.EvDwIdeal.main_arg0)
      ∧ r.2.mem ((c.tc : Thread Cert.EvDwIdeal.nD Cert.EvDwIdeal.τ).loc Cert.EvDwIdeal.main_arg1) = m ((c.tc : Thread Cert.EvDwIdeal.nD Cert.EvDwIdeal.τ).loc Cert.EvDwIdeal.main_arg1))
      ∧ r.2.sem = fun _ => 0)

def quiescent_EvDwRefIdeal [hEvDwRefIdeal : Cert.EvDwRefIdeal.Facts] : Prop :=
  ∀ (m : (ℓ : Loc Cert.EvDwRefIdeal.nD Cert.EvDwRefIdeal.τ Cert.EvDwRefIdeal.sig) → Buf (Elt Ideal) ℓ) (g : Dev Cert.EvDwRefIdeal.nD → PrngReg), Pre_EvDwRefIdeal m →
    θ_run (Cert.EvDwRefIdeal.defs (F := Ideal)) (onTc (τ := Cert.EvDwRefIdeal.τ) (Cert.EvDwRefIdeal.main (F := Ideal))) ⟨m, fun _ => 0, g⟩ (fun r => (∀ c : Dev Cert.EvDwRefIdeal.nD,
      r.2.mem ((c.tc : Thread Cert.EvDwRefIdeal.nD Cert.EvDwRefIdeal.τ).loc Cert.EvDwRefIdeal.main_arg0) = m ((c.tc : Thread Cert.EvDwRefIdeal.nD Cert.EvDwRefIdeal.τ).loc Cert.EvDwRefIdeal.main_arg0)
      ∧ r.2.mem ((c.tc : Thread Cert.EvDwRefIdeal.nD Cert.EvDwRefIdeal.τ).loc Cert.EvDwRefIdeal.main_arg1) = m ((c.tc : Thread Cert.EvDwRefIdeal.nD Cert.EvDwRefIdeal.τ).loc Cert.EvDwRefIdeal.main_arg1))
      ∧ r.2.sem = fun _ => 0)

def quiescent_OdDw [hOdDw : Cert.OdDw.Facts] : Prop :=
  ∀ (m : (ℓ : Loc Cert.OdDw.nD Cert.OdDw.τ Cert.OdDw.sig) → Buf (Elt Bits) ℓ) (g : Dev Cert.OdDw.nD → PrngReg), Pre_OdDw m →
    θ_run (Cert.OdDw.defs (F := Bits)) (onTc (τ := Cert.OdDw.τ) (Cert.OdDw.main (F := Bits))) ⟨m, fun _ => 0, g⟩ (fun r => (∀ c : Dev Cert.OdDw.nD,
      r.2.mem ((c.tc : Thread Cert.OdDw.nD Cert.OdDw.τ).loc Cert.OdDw.main_arg0) = m ((c.tc : Thread Cert.OdDw.nD Cert.OdDw.τ).loc Cert.OdDw.main_arg0)
      ∧ r.2.mem ((c.tc : Thread Cert.OdDw.nD Cert.OdDw.τ).loc Cert.OdDw.main_arg1) = m ((c.tc : Thread Cert.OdDw.nD Cert.OdDw.τ).loc Cert.OdDw.main_arg1))
      ∧ r.2.sem = fun _ => 0)

def quiescent_OdDwIdeal [hOdDwIdeal : Cert.OdDwIdeal.Facts] : Prop :=
  ∀ (m : (ℓ : Loc Cert.OdDwIdeal.nD Cert.OdDwIdeal.τ Cert.OdDwIdeal.sig) → Buf (Elt Ideal) ℓ) (g : Dev Cert.OdDwIdeal.nD → PrngReg), Pre_OdDwIdeal m →
    θ_run (Cert.OdDwIdeal.defs (F := Ideal)) (onTc (τ := Cert.OdDwIdeal.τ) (Cert.OdDwIdeal.main (F := Ideal))) ⟨m, fun _ => 0, g⟩ (fun r => (∀ c : Dev Cert.OdDwIdeal.nD,
      r.2.mem ((c.tc : Thread Cert.OdDwIdeal.nD Cert.OdDwIdeal.τ).loc Cert.OdDwIdeal.main_arg0) = m ((c.tc : Thread Cert.OdDwIdeal.nD Cert.OdDwIdeal.τ).loc Cert.OdDwIdeal.main_arg0)
      ∧ r.2.mem ((c.tc : Thread Cert.OdDwIdeal.nD Cert.OdDwIdeal.τ).loc Cert.OdDwIdeal.main_arg1) = m ((c.tc : Thread Cert.OdDwIdeal.nD Cert.OdDwIdeal.τ).loc Cert.OdDwIdeal.main_arg1))
      ∧ r.2.sem = fun _ => 0)

def quiescent_OdDwRefIdeal [hOdDwRefIdeal : Cert.OdDwRefIdeal.Facts] : Prop :=
  ∀ (m : (ℓ : Loc Cert.OdDwRefIdeal.nD Cert.OdDwRefIdeal.τ Cert.OdDwRefIdeal.sig) → Buf (Elt Ideal) ℓ) (g : Dev Cert.OdDwRefIdeal.nD → PrngReg), Pre_OdDwRefIdeal m →
    θ_run (Cert.OdDwRefIdeal.defs (F := Ideal)) (onTc (τ := Cert.OdDwRefIdeal.τ) (Cert.OdDwRefIdeal.main (F := Ideal))) ⟨m, fun _ => 0, g⟩ (fun r => (∀ c : Dev Cert.OdDwRefIdeal.nD,
      r.2.mem ((c.tc : Thread Cert.OdDwRefIdeal.nD Cert.OdDwRefIdeal.τ).loc Cert.OdDwRefIdeal.main_arg0) = m ((c.tc : Thread Cert.OdDwRefIdeal.nD Cert.OdDwRefIdeal.τ).loc Cert.OdDwRefIdeal.main_arg0)
      ∧ r.2.mem ((c.tc : Thread Cert.OdDwRefIdeal.nD Cert.OdDwRefIdeal.τ).loc Cert.OdDwRefIdeal.main_arg1) = m ((c.tc : Thread Cert.OdDwRefIdeal.nD Cert.OdDwRefIdeal.τ).loc Cert.OdDwRefIdeal.main_arg1))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_MixD0 [hMixD0 : Cert.MixD0.Facts] : Prop :=
  ∀ (m : (ℓ : Loc Cert.MixD0.nD Cert.MixD0.τ Cert.MixD0.sig) → Buf (Elt Bits) ℓ) (g : Dev Cert.MixD0.nD → PrngReg), Pre_MixD0 m →
    θ_run (Cert.MixD0.defs (F := Bits)) (onTc (τ := Cert.MixD0.τ) (Cert.MixD0.main (F := Bits))) ⟨m, fun _ => 0, g⟩ (fun r => (∀ c : Dev Cert.MixD0.nD,
      r.2.mem ((c.tc : Thread Cert.MixD0.nD Cert.MixD0.τ).loc Cert.MixD0.main_arg0) = m ((c.tc : Thread Cert.MixD0.nD Cert.MixD0.τ).loc Cert.MixD0.main_arg0)
      ∧ r.2.mem ((c.tc : Thread Cert.MixD0.nD Cert.MixD0.τ).loc Cert.MixD0.main_arg1) = m ((c.tc : Thread Cert.MixD0.nD Cert.MixD0.τ).loc Cert.MixD0.main_arg1))
      ∧ r.2.sem = fun _ => 0)

def quiescent_MixD0Ideal [hMixD0Ideal : Cert.MixD0Ideal.Facts] : Prop :=
  ∀ (m : (ℓ : Loc Cert.MixD0Ideal.nD Cert.MixD0Ideal.τ Cert.MixD0Ideal.sig) → Buf (Elt Ideal) ℓ) (g : Dev Cert.MixD0Ideal.nD → PrngReg), Pre_MixD0Ideal m →
    θ_run (Cert.MixD0Ideal.defs (F := Ideal)) (onTc (τ := Cert.MixD0Ideal.τ) (Cert.MixD0Ideal.main (F := Ideal))) ⟨m, fun _ => 0, g⟩ (fun r => (∀ c : Dev Cert.MixD0Ideal.nD,
      r.2.mem ((c.tc : Thread Cert.MixD0Ideal.nD Cert.MixD0Ideal.τ).loc Cert.MixD0Ideal.main_arg0) = m ((c.tc : Thread Cert.MixD0Ideal.nD Cert.MixD0Ideal.τ).loc Cert.MixD0Ideal.main_arg0)
      ∧ r.2.mem ((c.tc : Thread Cert.MixD0Ideal.nD Cert.MixD0Ideal.τ).loc Cert.MixD0Ideal.main_arg1) = m ((c.tc : Thread Cert.MixD0Ideal.nD Cert.MixD0Ideal.τ).loc Cert.MixD0Ideal.main_arg1))
      ∧ r.2.sem = fun _ => 0)

def quiescent_MixD0RefIdeal [hMixD0RefIdeal : Cert.MixD0RefIdeal.Facts] : Prop :=
  ∀ (m : (ℓ : Loc Cert.MixD0RefIdeal.nD Cert.MixD0RefIdeal.τ Cert.MixD0RefIdeal.sig) → Buf (Elt Ideal) ℓ) (g : Dev Cert.MixD0RefIdeal.nD → PrngReg), Pre_MixD0RefIdeal m →
    θ_run (Cert.MixD0RefIdeal.defs (F := Ideal)) (onTc (τ := Cert.MixD0RefIdeal.τ) (Cert.MixD0RefIdeal.main (F := Ideal))) ⟨m, fun _ => 0, g⟩ (fun r => (∀ c : Dev Cert.MixD0RefIdeal.nD,
      r.2.mem ((c.tc : Thread Cert.MixD0RefIdeal.nD Cert.MixD0RefIdeal.τ).loc Cert.MixD0RefIdeal.main_arg0) = m ((c.tc : Thread Cert.MixD0RefIdeal.nD Cert.MixD0RefIdeal.τ).loc Cert.MixD0RefIdeal.main_arg0)
      ∧ r.2.mem ((c.tc : Thread Cert.MixD0RefIdeal.nD Cert.MixD0RefIdeal.τ).loc Cert.MixD0RefIdeal.main_arg1) = m ((c.tc : Thread Cert.MixD0RefIdeal.nD Cert.MixD0RefIdeal.τ).loc Cert.MixD0RefIdeal.main_arg1))
      ∧ r.2.sem = fun _ => 0)

def quiescent_EvDh0 [hEvDh0 : Cert.EvDh0.Facts] : Prop :=
  ∀ (m : (ℓ : Loc Cert.EvDh0.nD Cert.EvDh0.τ Cert.EvDh0.sig) → Buf (Elt Bits) ℓ) (g : Dev Cert.EvDh0.nD → PrngReg), Pre_EvDh0 m →
    θ_run (Cert.EvDh0.defs (F := Bits)) (onTc (τ := Cert.EvDh0.τ) (Cert.EvDh0.main (F := Bits))) ⟨m, fun _ => 0, g⟩ (fun r => (∀ c : Dev Cert.EvDh0.nD,
      r.2.mem ((c.tc : Thread Cert.EvDh0.nD Cert.EvDh0.τ).loc Cert.EvDh0.main_arg0) = m ((c.tc : Thread Cert.EvDh0.nD Cert.EvDh0.τ).loc Cert.EvDh0.main_arg0)
      ∧ r.2.mem ((c.tc : Thread Cert.EvDh0.nD Cert.EvDh0.τ).loc Cert.EvDh0.main_arg1) = m ((c.tc : Thread Cert.EvDh0.nD Cert.EvDh0.τ).loc Cert.EvDh0.main_arg1))
      ∧ r.2.sem = fun _ => 0)

def quiescent_EvDh0Ideal [hEvDh0Ideal : Cert.EvDh0Ideal.Facts] : Prop :=
  ∀ (m : (ℓ : Loc Cert.EvDh0Ideal.nD Cert.EvDh0Ideal.τ Cert.EvDh0Ideal.sig) → Buf (Elt Ideal) ℓ) (g : Dev Cert.EvDh0Ideal.nD → PrngReg), Pre_EvDh0Ideal m →
    θ_run (Cert.EvDh0Ideal.defs (F := Ideal)) (onTc (τ := Cert.EvDh0Ideal.τ) (Cert.EvDh0Ideal.main (F := Ideal))) ⟨m, fun _ => 0, g⟩ (fun r => (∀ c : Dev Cert.EvDh0Ideal.nD,
      r.2.mem ((c.tc : Thread Cert.EvDh0Ideal.nD Cert.EvDh0Ideal.τ).loc Cert.EvDh0Ideal.main_arg0) = m ((c.tc : Thread Cert.EvDh0Ideal.nD Cert.EvDh0Ideal.τ).loc Cert.EvDh0Ideal.main_arg0)
      ∧ r.2.mem ((c.tc : Thread Cert.EvDh0Ideal.nD Cert.EvDh0Ideal.τ).loc Cert.EvDh0Ideal.main_arg1) = m ((c.tc : Thread Cert.EvDh0Ideal.nD Cert.EvDh0Ideal.τ).loc Cert.EvDh0Ideal.main_arg1))
      ∧ r.2.sem = fun _ => 0)

def quiescent_EvDh0RefIdeal [hEvDh0RefIdeal : Cert.EvDh0RefIdeal.Facts] : Prop :=
  ∀ (m : (ℓ : Loc Cert.EvDh0RefIdeal.nD Cert.EvDh0RefIdeal.τ Cert.EvDh0RefIdeal.sig) → Buf (Elt Ideal) ℓ) (g : Dev Cert.EvDh0RefIdeal.nD → PrngReg), Pre_EvDh0RefIdeal m →
    θ_run (Cert.EvDh0RefIdeal.defs (F := Ideal)) (onTc (τ := Cert.EvDh0RefIdeal.τ) (Cert.EvDh0RefIdeal.main (F := Ideal))) ⟨m, fun _ => 0, g⟩ (fun r => (∀ c : Dev Cert.EvDh0RefIdeal.nD,
      r.2.mem ((c.tc : Thread Cert.EvDh0RefIdeal.nD Cert.EvDh0RefIdeal.τ).loc Cert.EvDh0RefIdeal.main_arg0) = m ((c.tc : Thread Cert.EvDh0RefIdeal.nD Cert.EvDh0RefIdeal.τ).loc Cert.EvDh0RefIdeal.main_arg0)
      ∧ r.2.mem ((c.tc : Thread Cert.EvDh0RefIdeal.nD Cert.EvDh0RefIdeal.τ).loc Cert.EvDh0RefIdeal.main_arg1) = m ((c.tc : Thread Cert.EvDh0RefIdeal.nD Cert.EvDh0RefIdeal.τ).loc Cert.EvDh0RefIdeal.main_arg1))
      ∧ r.2.sem = fun _ => 0)

def quiescent_OdDh0 [hOdDh0 : Cert.OdDh0.Facts] : Prop :=
  ∀ (m : (ℓ : Loc Cert.OdDh0.nD Cert.OdDh0.τ Cert.OdDh0.sig) → Buf (Elt Bits) ℓ) (g : Dev Cert.OdDh0.nD → PrngReg), Pre_OdDh0 m →
    θ_run (Cert.OdDh0.defs (F := Bits)) (onTc (τ := Cert.OdDh0.τ) (Cert.OdDh0.main (F := Bits))) ⟨m, fun _ => 0, g⟩ (fun r => (∀ c : Dev Cert.OdDh0.nD,
      r.2.mem ((c.tc : Thread Cert.OdDh0.nD Cert.OdDh0.τ).loc Cert.OdDh0.main_arg0) = m ((c.tc : Thread Cert.OdDh0.nD Cert.OdDh0.τ).loc Cert.OdDh0.main_arg0)
      ∧ r.2.mem ((c.tc : Thread Cert.OdDh0.nD Cert.OdDh0.τ).loc Cert.OdDh0.main_arg1) = m ((c.tc : Thread Cert.OdDh0.nD Cert.OdDh0.τ).loc Cert.OdDh0.main_arg1))
      ∧ r.2.sem = fun _ => 0)

def quiescent_OdDh0Ideal [hOdDh0Ideal : Cert.OdDh0Ideal.Facts] : Prop :=
  ∀ (m : (ℓ : Loc Cert.OdDh0Ideal.nD Cert.OdDh0Ideal.τ Cert.OdDh0Ideal.sig) → Buf (Elt Ideal) ℓ) (g : Dev Cert.OdDh0Ideal.nD → PrngReg), Pre_OdDh0Ideal m →
    θ_run (Cert.OdDh0Ideal.defs (F := Ideal)) (onTc (τ := Cert.OdDh0Ideal.τ) (Cert.OdDh0Ideal.main (F := Ideal))) ⟨m, fun _ => 0, g⟩ (fun r => (∀ c : Dev Cert.OdDh0Ideal.nD,
      r.2.mem ((c.tc : Thread Cert.OdDh0Ideal.nD Cert.OdDh0Ideal.τ).loc Cert.OdDh0Ideal.main_arg0) = m ((c.tc : Thread Cert.OdDh0Ideal.nD Cert.OdDh0Ideal.τ).loc Cert.OdDh0Ideal.main_arg0)
      ∧ r.2.mem ((c.tc : Thread Cert.OdDh0Ideal.nD Cert.OdDh0Ideal.τ).loc Cert.OdDh0Ideal.main_arg1) = m ((c.tc : Thread Cert.OdDh0Ideal.nD Cert.OdDh0Ideal.τ).loc Cert.OdDh0Ideal.main_arg1))
      ∧ r.2.sem = fun _ => 0)

def quiescent_OdDh0RefIdeal [hOdDh0RefIdeal : Cert.OdDh0RefIdeal.Facts] : Prop :=
  ∀ (m : (ℓ : Loc Cert.OdDh0RefIdeal.nD Cert.OdDh0RefIdeal.τ Cert.OdDh0RefIdeal.sig) → Buf (Elt Ideal) ℓ) (g : Dev Cert.OdDh0RefIdeal.nD → PrngReg), Pre_OdDh0RefIdeal m →
    θ_run (Cert.OdDh0RefIdeal.defs (F := Ideal)) (onTc (τ := Cert.OdDh0RefIdeal.τ) (Cert.OdDh0RefIdeal.main (F := Ideal))) ⟨m, fun _ => 0, g⟩ (fun r => (∀ c : Dev Cert.OdDh0RefIdeal.nD,
      r.2.mem ((c.tc : Thread Cert.OdDh0RefIdeal.nD Cert.OdDh0RefIdeal.τ).loc Cert.OdDh0RefIdeal.main_arg0) = m ((c.tc : Thread Cert.OdDh0RefIdeal.nD Cert.OdDh0RefIdeal.τ).loc Cert.OdDh0RefIdeal.main_arg0)
      ∧ r.2.mem ((c.tc : Thread Cert.OdDh0RefIdeal.nD Cert.OdDh0RefIdeal.τ).loc Cert.OdDh0RefIdeal.main_arg1) = m ((c.tc : Thread Cert.OdDh0RefIdeal.nD Cert.OdDh0RefIdeal.τ).loc Cert.OdDh0RefIdeal.main_arg1))
      ∧ r.2.sem = fun _ => 0)

def quiescent_GluDz0 [hGluDz0 : Cert.GluDz0.Facts] : Prop :=
  ∀ (m : (ℓ : Loc Cert.GluDz0.nD Cert.GluDz0.τ Cert.GluDz0.sig) → Buf (Elt Bits) ℓ) (g : Dev Cert.GluDz0.nD → PrngReg), Pre_GluDz0 m →
    θ_run (Cert.GluDz0.defs (F := Bits)) (onTc (τ := Cert.GluDz0.τ) (Cert.GluDz0.main (F := Bits))) ⟨m, fun _ => 0, g⟩ (fun r => (∀ c : Dev Cert.GluDz0.nD,
      r.2.mem ((c.tc : Thread Cert.GluDz0.nD Cert.GluDz0.τ).loc Cert.GluDz0.main_arg0) = m ((c.tc : Thread Cert.GluDz0.nD Cert.GluDz0.τ).loc Cert.GluDz0.main_arg0)
      ∧ r.2.mem ((c.tc : Thread Cert.GluDz0.nD Cert.GluDz0.τ).loc Cert.GluDz0.main_arg1) = m ((c.tc : Thread Cert.GluDz0.nD Cert.GluDz0.τ).loc Cert.GluDz0.main_arg1))
      ∧ r.2.sem = fun _ => 0)

def quiescent_GluDz0Ideal [hGluDz0Ideal : Cert.GluDz0Ideal.Facts] : Prop :=
  ∀ (m : (ℓ : Loc Cert.GluDz0Ideal.nD Cert.GluDz0Ideal.τ Cert.GluDz0Ideal.sig) → Buf (Elt Ideal) ℓ) (g : Dev Cert.GluDz0Ideal.nD → PrngReg), Pre_GluDz0Ideal m →
    θ_run (Cert.GluDz0Ideal.defs (F := Ideal)) (onTc (τ := Cert.GluDz0Ideal.τ) (Cert.GluDz0Ideal.main (F := Ideal))) ⟨m, fun _ => 0, g⟩ (fun r => (∀ c : Dev Cert.GluDz0Ideal.nD,
      r.2.mem ((c.tc : Thread Cert.GluDz0Ideal.nD Cert.GluDz0Ideal.τ).loc Cert.GluDz0Ideal.main_arg0) = m ((c.tc : Thread Cert.GluDz0Ideal.nD Cert.GluDz0Ideal.τ).loc Cert.GluDz0Ideal.main_arg0)
      ∧ r.2.mem ((c.tc : Thread Cert.GluDz0Ideal.nD Cert.GluDz0Ideal.τ).loc Cert.GluDz0Ideal.main_arg1) = m ((c.tc : Thread Cert.GluDz0Ideal.nD Cert.GluDz0Ideal.τ).loc Cert.GluDz0Ideal.main_arg1))
      ∧ r.2.sem = fun _ => 0)

def quiescent_GluDz0RefIdeal [hGluDz0RefIdeal : Cert.GluDz0RefIdeal.Facts] : Prop :=
  ∀ (m : (ℓ : Loc Cert.GluDz0RefIdeal.nD Cert.GluDz0RefIdeal.τ Cert.GluDz0RefIdeal.sig) → Buf (Elt Ideal) ℓ) (g : Dev Cert.GluDz0RefIdeal.nD → PrngReg), Pre_GluDz0RefIdeal m →
    θ_run (Cert.GluDz0RefIdeal.defs (F := Ideal)) (onTc (τ := Cert.GluDz0RefIdeal.τ) (Cert.GluDz0RefIdeal.main (F := Ideal))) ⟨m, fun _ => 0, g⟩ (fun r => (∀ c : Dev Cert.GluDz0RefIdeal.nD,
      r.2.mem ((c.tc : Thread Cert.GluDz0RefIdeal.nD Cert.GluDz0RefIdeal.τ).loc Cert.GluDz0RefIdeal.main_arg0) = m ((c.tc : Thread Cert.GluDz0RefIdeal.nD Cert.GluDz0RefIdeal.τ).loc Cert.GluDz0RefIdeal.main_arg0)
      ∧ r.2.mem ((c.tc : Thread Cert.GluDz0RefIdeal.nD Cert.GluDz0RefIdeal.τ).loc Cert.GluDz0RefIdeal.main_arg1) = m ((c.tc : Thread Cert.GluDz0RefIdeal.nD Cert.GluDz0RefIdeal.τ).loc Cert.GluDz0RefIdeal.main_arg1))
      ∧ r.2.sem = fun _ => 0)

def quiescent_EvIn0 [hEvIn0 : Cert.EvIn0.Facts] : Prop :=
  ∀ (m : (ℓ : Loc Cert.EvIn0.nD Cert.EvIn0.τ Cert.EvIn0.sig) → Buf (Elt Bits) ℓ) (g : Dev Cert.EvIn0.nD → PrngReg), Pre_EvIn0 m →
    θ_run (Cert.EvIn0.defs (F := Bits)) (onTc (τ := Cert.EvIn0.τ) (Cert.EvIn0.main (F := Bits))) ⟨m, fun _ => 0, g⟩ (fun r => (∀ c : Dev Cert.EvIn0.nD,
      r.2.mem ((c.tc : Thread Cert.EvIn0.nD Cert.EvIn0.τ).loc Cert.EvIn0.main_arg0) = m ((c.tc : Thread Cert.EvIn0.nD Cert.EvIn0.τ).loc Cert.EvIn0.main_arg0)
      ∧ r.2.mem ((c.tc : Thread Cert.EvIn0.nD Cert.EvIn0.τ).loc Cert.EvIn0.main_arg1) = m ((c.tc : Thread Cert.EvIn0.nD Cert.EvIn0.τ).loc Cert.EvIn0.main_arg1))
      ∧ r.2.sem = fun _ => 0)

def quiescent_EvIn0Ideal [hEvIn0Ideal : Cert.EvIn0Ideal.Facts] : Prop :=
  ∀ (m : (ℓ : Loc Cert.EvIn0Ideal.nD Cert.EvIn0Ideal.τ Cert.EvIn0Ideal.sig) → Buf (Elt Ideal) ℓ) (g : Dev Cert.EvIn0Ideal.nD → PrngReg), Pre_EvIn0Ideal m →
    θ_run (Cert.EvIn0Ideal.defs (F := Ideal)) (onTc (τ := Cert.EvIn0Ideal.τ) (Cert.EvIn0Ideal.main (F := Ideal))) ⟨m, fun _ => 0, g⟩ (fun r => (∀ c : Dev Cert.EvIn0Ideal.nD,
      r.2.mem ((c.tc : Thread Cert.EvIn0Ideal.nD Cert.EvIn0Ideal.τ).loc Cert.EvIn0Ideal.main_arg0) = m ((c.tc : Thread Cert.EvIn0Ideal.nD Cert.EvIn0Ideal.τ).loc Cert.EvIn0Ideal.main_arg0)
      ∧ r.2.mem ((c.tc : Thread Cert.EvIn0Ideal.nD Cert.EvIn0Ideal.τ).loc Cert.EvIn0Ideal.main_arg1) = m ((c.tc : Thread Cert.EvIn0Ideal.nD Cert.EvIn0Ideal.τ).loc Cert.EvIn0Ideal.main_arg1))
      ∧ r.2.sem = fun _ => 0)

def quiescent_EvIn0RefIdeal [hEvIn0RefIdeal : Cert.EvIn0RefIdeal.Facts] : Prop :=
  ∀ (m : (ℓ : Loc Cert.EvIn0RefIdeal.nD Cert.EvIn0RefIdeal.τ Cert.EvIn0RefIdeal.sig) → Buf (Elt Ideal) ℓ) (g : Dev Cert.EvIn0RefIdeal.nD → PrngReg), Pre_EvIn0RefIdeal m →
    θ_run (Cert.EvIn0RefIdeal.defs (F := Ideal)) (onTc (τ := Cert.EvIn0RefIdeal.τ) (Cert.EvIn0RefIdeal.main (F := Ideal))) ⟨m, fun _ => 0, g⟩ (fun r => (∀ c : Dev Cert.EvIn0RefIdeal.nD,
      r.2.mem ((c.tc : Thread Cert.EvIn0RefIdeal.nD Cert.EvIn0RefIdeal.τ).loc Cert.EvIn0RefIdeal.main_arg0) = m ((c.tc : Thread Cert.EvIn0RefIdeal.nD Cert.EvIn0RefIdeal.τ).loc Cert.EvIn0RefIdeal.main_arg0)
      ∧ r.2.mem ((c.tc : Thread Cert.EvIn0RefIdeal.nD Cert.EvIn0RefIdeal.τ).loc Cert.EvIn0RefIdeal.main_arg1) = m ((c.tc : Thread Cert.EvIn0RefIdeal.nD Cert.EvIn0RefIdeal.τ).loc Cert.EvIn0RefIdeal.main_arg1))
      ∧ r.2.sem = fun _ => 0)

def quiescent_OdIn0 [hOdIn0 : Cert.OdIn0.Facts] : Prop :=
  ∀ (m : (ℓ : Loc Cert.OdIn0.nD Cert.OdIn0.τ Cert.OdIn0.sig) → Buf (Elt Bits) ℓ) (g : Dev Cert.OdIn0.nD → PrngReg), Pre_OdIn0 m →
    θ_run (Cert.OdIn0.defs (F := Bits)) (onTc (τ := Cert.OdIn0.τ) (Cert.OdIn0.main (F := Bits))) ⟨m, fun _ => 0, g⟩ (fun r => (∀ c : Dev Cert.OdIn0.nD,
      r.2.mem ((c.tc : Thread Cert.OdIn0.nD Cert.OdIn0.τ).loc Cert.OdIn0.main_arg0) = m ((c.tc : Thread Cert.OdIn0.nD Cert.OdIn0.τ).loc Cert.OdIn0.main_arg0)
      ∧ r.2.mem ((c.tc : Thread Cert.OdIn0.nD Cert.OdIn0.τ).loc Cert.OdIn0.main_arg1) = m ((c.tc : Thread Cert.OdIn0.nD Cert.OdIn0.τ).loc Cert.OdIn0.main_arg1))
      ∧ r.2.sem = fun _ => 0)

def quiescent_OdIn0Ideal [hOdIn0Ideal : Cert.OdIn0Ideal.Facts] : Prop :=
  ∀ (m : (ℓ : Loc Cert.OdIn0Ideal.nD Cert.OdIn0Ideal.τ Cert.OdIn0Ideal.sig) → Buf (Elt Ideal) ℓ) (g : Dev Cert.OdIn0Ideal.nD → PrngReg), Pre_OdIn0Ideal m →
    θ_run (Cert.OdIn0Ideal.defs (F := Ideal)) (onTc (τ := Cert.OdIn0Ideal.τ) (Cert.OdIn0Ideal.main (F := Ideal))) ⟨m, fun _ => 0, g⟩ (fun r => (∀ c : Dev Cert.OdIn0Ideal.nD,
      r.2.mem ((c.tc : Thread Cert.OdIn0Ideal.nD Cert.OdIn0Ideal.τ).loc Cert.OdIn0Ideal.main_arg0) = m ((c.tc : Thread Cert.OdIn0Ideal.nD Cert.OdIn0Ideal.τ).loc Cert.OdIn0Ideal.main_arg0)
      ∧ r.2.mem ((c.tc : Thread Cert.OdIn0Ideal.nD Cert.OdIn0Ideal.τ).loc Cert.OdIn0Ideal.main_arg1) = m ((c.tc : Thread Cert.OdIn0Ideal.nD Cert.OdIn0Ideal.τ).loc Cert.OdIn0Ideal.main_arg1))
      ∧ r.2.sem = fun _ => 0)

def quiescent_OdIn0RefIdeal [hOdIn0RefIdeal : Cert.OdIn0RefIdeal.Facts] : Prop :=
  ∀ (m : (ℓ : Loc Cert.OdIn0RefIdeal.nD Cert.OdIn0RefIdeal.τ Cert.OdIn0RefIdeal.sig) → Buf (Elt Ideal) ℓ) (g : Dev Cert.OdIn0RefIdeal.nD → PrngReg), Pre_OdIn0RefIdeal m →
    θ_run (Cert.OdIn0RefIdeal.defs (F := Ideal)) (onTc (τ := Cert.OdIn0RefIdeal.τ) (Cert.OdIn0RefIdeal.main (F := Ideal))) ⟨m, fun _ => 0, g⟩ (fun r => (∀ c : Dev Cert.OdIn0RefIdeal.nD,
      r.2.mem ((c.tc : Thread Cert.OdIn0RefIdeal.nD Cert.OdIn0RefIdeal.τ).loc Cert.OdIn0RefIdeal.main_arg0) = m ((c.tc : Thread Cert.OdIn0RefIdeal.nD Cert.OdIn0RefIdeal.τ).loc Cert.OdIn0RefIdeal.main_arg0)
      ∧ r.2.mem ((c.tc : Thread Cert.OdIn0RefIdeal.nD Cert.OdIn0RefIdeal.τ).loc Cert.OdIn0RefIdeal.main_arg1) = m ((c.tc : Thread Cert.OdIn0RefIdeal.nD Cert.OdIn0RefIdeal.τ).loc Cert.OdIn0RefIdeal.main_arg1))
      ∧ r.2.sem = fun _ => 0)

def quiescent_GluMm0 [hGluMm0 : Cert.GluMm0.Facts] : Prop :=
  ∀ (m : (ℓ : Loc Cert.GluMm0.nD Cert.GluMm0.τ Cert.GluMm0.sig) → Buf (Elt Bits) ℓ) (g : Dev Cert.GluMm0.nD → PrngReg), Pre_GluMm0 m →
    θ_run (Cert.GluMm0.defs (F := Bits)) (onTc (τ := Cert.GluMm0.τ) (Cert.GluMm0.main (F := Bits))) ⟨m, fun _ => 0, g⟩ (fun r => (∀ c : Dev Cert.GluMm0.nD,
      r.2.mem ((c.tc : Thread Cert.GluMm0.nD Cert.GluMm0.τ).loc Cert.GluMm0.main_arg0) = m ((c.tc : Thread Cert.GluMm0.nD Cert.GluMm0.τ).loc Cert.GluMm0.main_arg0)
      ∧ r.2.mem ((c.tc : Thread Cert.GluMm0.nD Cert.GluMm0.τ).loc Cert.GluMm0.main_arg1) = m ((c.tc : Thread Cert.GluMm0.nD Cert.GluMm0.τ).loc Cert.GluMm0.main_arg1))
      ∧ r.2.sem = fun _ => 0)

def quiescent_GluMm0Ideal [hGluMm0Ideal : Cert.GluMm0Ideal.Facts] : Prop :=
  ∀ (m : (ℓ : Loc Cert.GluMm0Ideal.nD Cert.GluMm0Ideal.τ Cert.GluMm0Ideal.sig) → Buf (Elt Ideal) ℓ) (g : Dev Cert.GluMm0Ideal.nD → PrngReg), Pre_GluMm0Ideal m →
    θ_run (Cert.GluMm0Ideal.defs (F := Ideal)) (onTc (τ := Cert.GluMm0Ideal.τ) (Cert.GluMm0Ideal.main (F := Ideal))) ⟨m, fun _ => 0, g⟩ (fun r => (∀ c : Dev Cert.GluMm0Ideal.nD,
      r.2.mem ((c.tc : Thread Cert.GluMm0Ideal.nD Cert.GluMm0Ideal.τ).loc Cert.GluMm0Ideal.main_arg0) = m ((c.tc : Thread Cert.GluMm0Ideal.nD Cert.GluMm0Ideal.τ).loc Cert.GluMm0Ideal.main_arg0)
      ∧ r.2.mem ((c.tc : Thread Cert.GluMm0Ideal.nD Cert.GluMm0Ideal.τ).loc Cert.GluMm0Ideal.main_arg1) = m ((c.tc : Thread Cert.GluMm0Ideal.nD Cert.GluMm0Ideal.τ).loc Cert.GluMm0Ideal.main_arg1))
      ∧ r.2.sem = fun _ => 0)

def quiescent_GluMm0RefIdeal [hGluMm0RefIdeal : Cert.GluMm0RefIdeal.Facts] : Prop :=
  ∀ (m : (ℓ : Loc Cert.GluMm0RefIdeal.nD Cert.GluMm0RefIdeal.τ Cert.GluMm0RefIdeal.sig) → Buf (Elt Ideal) ℓ) (g : Dev Cert.GluMm0RefIdeal.nD → PrngReg), Pre_GluMm0RefIdeal m →
    θ_run (Cert.GluMm0RefIdeal.defs (F := Ideal)) (onTc (τ := Cert.GluMm0RefIdeal.τ) (Cert.GluMm0RefIdeal.main (F := Ideal))) ⟨m, fun _ => 0, g⟩ (fun r => (∀ c : Dev Cert.GluMm0RefIdeal.nD,
      r.2.mem ((c.tc : Thread Cert.GluMm0RefIdeal.nD Cert.GluMm0RefIdeal.τ).loc Cert.GluMm0RefIdeal.main_arg0) = m ((c.tc : Thread Cert.GluMm0RefIdeal.nD Cert.GluMm0RefIdeal.τ).loc Cert.GluMm0RefIdeal.main_arg0)
      ∧ r.2.mem ((c.tc : Thread Cert.GluMm0RefIdeal.nD Cert.GluMm0RefIdeal.τ).loc Cert.GluMm0RefIdeal.main_arg1) = m ((c.tc : Thread Cert.GluMm0RefIdeal.nD Cert.GluMm0RefIdeal.τ).loc Cert.GluMm0RefIdeal.main_arg1))
      ∧ r.2.sem = fun _ => 0)

def quiescent_MixOut0 [hMixOut0 : Cert.MixOut0.Facts] : Prop :=
  ∀ (m : (ℓ : Loc Cert.MixOut0.nD Cert.MixOut0.τ Cert.MixOut0.sig) → Buf (Elt Bits) ℓ) (g : Dev Cert.MixOut0.nD → PrngReg), Pre_MixOut0 m →
    θ_run (Cert.MixOut0.defs (F := Bits)) (onTc (τ := Cert.MixOut0.τ) (Cert.MixOut0.main (F := Bits))) ⟨m, fun _ => 0, g⟩ (fun r => (∀ c : Dev Cert.MixOut0.nD,
      r.2.mem ((c.tc : Thread Cert.MixOut0.nD Cert.MixOut0.τ).loc Cert.MixOut0.main_arg0) = m ((c.tc : Thread Cert.MixOut0.nD Cert.MixOut0.τ).loc Cert.MixOut0.main_arg0)
      ∧ r.2.mem ((c.tc : Thread Cert.MixOut0.nD Cert.MixOut0.τ).loc Cert.MixOut0.main_arg1) = m ((c.tc : Thread Cert.MixOut0.nD Cert.MixOut0.τ).loc Cert.MixOut0.main_arg1))
      ∧ r.2.sem = fun _ => 0)

def quiescent_MixOut0Ideal [hMixOut0Ideal : Cert.MixOut0Ideal.Facts] : Prop :=
  ∀ (m : (ℓ : Loc Cert.MixOut0Ideal.nD Cert.MixOut0Ideal.τ Cert.MixOut0Ideal.sig) → Buf (Elt Ideal) ℓ) (g : Dev Cert.MixOut0Ideal.nD → PrngReg), Pre_MixOut0Ideal m →
    θ_run (Cert.MixOut0Ideal.defs (F := Ideal)) (onTc (τ := Cert.MixOut0Ideal.τ) (Cert.MixOut0Ideal.main (F := Ideal))) ⟨m, fun _ => 0, g⟩ (fun r => (∀ c : Dev Cert.MixOut0Ideal.nD,
      r.2.mem ((c.tc : Thread Cert.MixOut0Ideal.nD Cert.MixOut0Ideal.τ).loc Cert.MixOut0Ideal.main_arg0) = m ((c.tc : Thread Cert.MixOut0Ideal.nD Cert.MixOut0Ideal.τ).loc Cert.MixOut0Ideal.main_arg0)
      ∧ r.2.mem ((c.tc : Thread Cert.MixOut0Ideal.nD Cert.MixOut0Ideal.τ).loc Cert.MixOut0Ideal.main_arg1) = m ((c.tc : Thread Cert.MixOut0Ideal.nD Cert.MixOut0Ideal.τ).loc Cert.MixOut0Ideal.main_arg1))
      ∧ r.2.sem = fun _ => 0)

def quiescent_MixOut0RefIdeal [hMixOut0RefIdeal : Cert.MixOut0RefIdeal.Facts] : Prop :=
  ∀ (m : (ℓ : Loc Cert.MixOut0RefIdeal.nD Cert.MixOut0RefIdeal.τ Cert.MixOut0RefIdeal.sig) → Buf (Elt Ideal) ℓ) (g : Dev Cert.MixOut0RefIdeal.nD → PrngReg), Pre_MixOut0RefIdeal m →
    θ_run (Cert.MixOut0RefIdeal.defs (F := Ideal)) (onTc (τ := Cert.MixOut0RefIdeal.τ) (Cert.MixOut0RefIdeal.main (F := Ideal))) ⟨m, fun _ => 0, g⟩ (fun r => (∀ c : Dev Cert.MixOut0RefIdeal.nD,
      r.2.mem ((c.tc : Thread Cert.MixOut0RefIdeal.nD Cert.MixOut0RefIdeal.τ).loc Cert.MixOut0RefIdeal.main_arg0) = m ((c.tc : Thread Cert.MixOut0RefIdeal.nD Cert.MixOut0RefIdeal.τ).loc Cert.MixOut0RefIdeal.main_arg0)
      ∧ r.2.mem ((c.tc : Thread Cert.MixOut0RefIdeal.nD Cert.MixOut0RefIdeal.τ).loc Cert.MixOut0RefIdeal.main_arg1) = m ((c.tc : Thread Cert.MixOut0RefIdeal.nD Cert.MixOut0RefIdeal.τ).loc Cert.MixOut0RefIdeal.main_arg1))
      ∧ r.2.sem = fun _ => 0)

def quiescent_MixD1 [hMixD1 : Cert.MixD1.Facts] : Prop :=
  ∀ (m : (ℓ : Loc Cert.MixD1.nD Cert.MixD1.τ Cert.MixD1.sig) → Buf (Elt Bits) ℓ) (g : Dev Cert.MixD1.nD → PrngReg), Pre_MixD1 m →
    θ_run (Cert.MixD1.defs (F := Bits)) (onTc (τ := Cert.MixD1.τ) (Cert.MixD1.main (F := Bits))) ⟨m, fun _ => 0, g⟩ (fun r => (∀ c : Dev Cert.MixD1.nD,
      r.2.mem ((c.tc : Thread Cert.MixD1.nD Cert.MixD1.τ).loc Cert.MixD1.main_arg0) = m ((c.tc : Thread Cert.MixD1.nD Cert.MixD1.τ).loc Cert.MixD1.main_arg0)
      ∧ r.2.mem ((c.tc : Thread Cert.MixD1.nD Cert.MixD1.τ).loc Cert.MixD1.main_arg1) = m ((c.tc : Thread Cert.MixD1.nD Cert.MixD1.τ).loc Cert.MixD1.main_arg1))
      ∧ r.2.sem = fun _ => 0)

def quiescent_MixD1Ideal [hMixD1Ideal : Cert.MixD1Ideal.Facts] : Prop :=
  ∀ (m : (ℓ : Loc Cert.MixD1Ideal.nD Cert.MixD1Ideal.τ Cert.MixD1Ideal.sig) → Buf (Elt Ideal) ℓ) (g : Dev Cert.MixD1Ideal.nD → PrngReg), Pre_MixD1Ideal m →
    θ_run (Cert.MixD1Ideal.defs (F := Ideal)) (onTc (τ := Cert.MixD1Ideal.τ) (Cert.MixD1Ideal.main (F := Ideal))) ⟨m, fun _ => 0, g⟩ (fun r => (∀ c : Dev Cert.MixD1Ideal.nD,
      r.2.mem ((c.tc : Thread Cert.MixD1Ideal.nD Cert.MixD1Ideal.τ).loc Cert.MixD1Ideal.main_arg0) = m ((c.tc : Thread Cert.MixD1Ideal.nD Cert.MixD1Ideal.τ).loc Cert.MixD1Ideal.main_arg0)
      ∧ r.2.mem ((c.tc : Thread Cert.MixD1Ideal.nD Cert.MixD1Ideal.τ).loc Cert.MixD1Ideal.main_arg1) = m ((c.tc : Thread Cert.MixD1Ideal.nD Cert.MixD1Ideal.τ).loc Cert.MixD1Ideal.main_arg1))
      ∧ r.2.sem = fun _ => 0)

def quiescent_MixD1RefIdeal [hMixD1RefIdeal : Cert.MixD1RefIdeal.Facts] : Prop :=
  ∀ (m : (ℓ : Loc Cert.MixD1RefIdeal.nD Cert.MixD1RefIdeal.τ Cert.MixD1RefIdeal.sig) → Buf (Elt Ideal) ℓ) (g : Dev Cert.MixD1RefIdeal.nD → PrngReg), Pre_MixD1RefIdeal m →
    θ_run (Cert.MixD1RefIdeal.defs (F := Ideal)) (onTc (τ := Cert.MixD1RefIdeal.τ) (Cert.MixD1RefIdeal.main (F := Ideal))) ⟨m, fun _ => 0, g⟩ (fun r => (∀ c : Dev Cert.MixD1RefIdeal.nD,
      r.2.mem ((c.tc : Thread Cert.MixD1RefIdeal.nD Cert.MixD1RefIdeal.τ).loc Cert.MixD1RefIdeal.main_arg0) = m ((c.tc : Thread Cert.MixD1RefIdeal.nD Cert.MixD1RefIdeal.τ).loc Cert.MixD1RefIdeal.main_arg0)
      ∧ r.2.mem ((c.tc : Thread Cert.MixD1RefIdeal.nD Cert.MixD1RefIdeal.τ).loc Cert.MixD1RefIdeal.main_arg1) = m ((c.tc : Thread Cert.MixD1RefIdeal.nD Cert.MixD1RefIdeal.τ).loc Cert.MixD1RefIdeal.main_arg1))
      ∧ r.2.sem = fun _ => 0)

def quiescent_EvDh1 [hEvDh1 : Cert.EvDh1.Facts] : Prop :=
  ∀ (m : (ℓ : Loc Cert.EvDh1.nD Cert.EvDh1.τ Cert.EvDh1.sig) → Buf (Elt Bits) ℓ) (g : Dev Cert.EvDh1.nD → PrngReg), Pre_EvDh1 m →
    θ_run (Cert.EvDh1.defs (F := Bits)) (onTc (τ := Cert.EvDh1.τ) (Cert.EvDh1.main (F := Bits))) ⟨m, fun _ => 0, g⟩ (fun r => (∀ c : Dev Cert.EvDh1.nD,
      r.2.mem ((c.tc : Thread Cert.EvDh1.nD Cert.EvDh1.τ).loc Cert.EvDh1.main_arg0) = m ((c.tc : Thread Cert.EvDh1.nD Cert.EvDh1.τ).loc Cert.EvDh1.main_arg0)
      ∧ r.2.mem ((c.tc : Thread Cert.EvDh1.nD Cert.EvDh1.τ).loc Cert.EvDh1.main_arg1) = m ((c.tc : Thread Cert.EvDh1.nD Cert.EvDh1.τ).loc Cert.EvDh1.main_arg1))
      ∧ r.2.sem = fun _ => 0)

def quiescent_EvDh1Ideal [hEvDh1Ideal : Cert.EvDh1Ideal.Facts] : Prop :=
  ∀ (m : (ℓ : Loc Cert.EvDh1Ideal.nD Cert.EvDh1Ideal.τ Cert.EvDh1Ideal.sig) → Buf (Elt Ideal) ℓ) (g : Dev Cert.EvDh1Ideal.nD → PrngReg), Pre_EvDh1Ideal m →
    θ_run (Cert.EvDh1Ideal.defs (F := Ideal)) (onTc (τ := Cert.EvDh1Ideal.τ) (Cert.EvDh1Ideal.main (F := Ideal))) ⟨m, fun _ => 0, g⟩ (fun r => (∀ c : Dev Cert.EvDh1Ideal.nD,
      r.2.mem ((c.tc : Thread Cert.EvDh1Ideal.nD Cert.EvDh1Ideal.τ).loc Cert.EvDh1Ideal.main_arg0) = m ((c.tc : Thread Cert.EvDh1Ideal.nD Cert.EvDh1Ideal.τ).loc Cert.EvDh1Ideal.main_arg0)
      ∧ r.2.mem ((c.tc : Thread Cert.EvDh1Ideal.nD Cert.EvDh1Ideal.τ).loc Cert.EvDh1Ideal.main_arg1) = m ((c.tc : Thread Cert.EvDh1Ideal.nD Cert.EvDh1Ideal.τ).loc Cert.EvDh1Ideal.main_arg1))
      ∧ r.2.sem = fun _ => 0)

def quiescent_EvDh1RefIdeal [hEvDh1RefIdeal : Cert.EvDh1RefIdeal.Facts] : Prop :=
  ∀ (m : (ℓ : Loc Cert.EvDh1RefIdeal.nD Cert.EvDh1RefIdeal.τ Cert.EvDh1RefIdeal.sig) → Buf (Elt Ideal) ℓ) (g : Dev Cert.EvDh1RefIdeal.nD → PrngReg), Pre_EvDh1RefIdeal m →
    θ_run (Cert.EvDh1RefIdeal.defs (F := Ideal)) (onTc (τ := Cert.EvDh1RefIdeal.τ) (Cert.EvDh1RefIdeal.main (F := Ideal))) ⟨m, fun _ => 0, g⟩ (fun r => (∀ c : Dev Cert.EvDh1RefIdeal.nD,
      r.2.mem ((c.tc : Thread Cert.EvDh1RefIdeal.nD Cert.EvDh1RefIdeal.τ).loc Cert.EvDh1RefIdeal.main_arg0) = m ((c.tc : Thread Cert.EvDh1RefIdeal.nD Cert.EvDh1RefIdeal.τ).loc Cert.EvDh1RefIdeal.main_arg0)
      ∧ r.2.mem ((c.tc : Thread Cert.EvDh1RefIdeal.nD Cert.EvDh1RefIdeal.τ).loc Cert.EvDh1RefIdeal.main_arg1) = m ((c.tc : Thread Cert.EvDh1RefIdeal.nD Cert.EvDh1RefIdeal.τ).loc Cert.EvDh1RefIdeal.main_arg1))
      ∧ r.2.sem = fun _ => 0)

def quiescent_OdDh1 [hOdDh1 : Cert.OdDh1.Facts] : Prop :=
  ∀ (m : (ℓ : Loc Cert.OdDh1.nD Cert.OdDh1.τ Cert.OdDh1.sig) → Buf (Elt Bits) ℓ) (g : Dev Cert.OdDh1.nD → PrngReg), Pre_OdDh1 m →
    θ_run (Cert.OdDh1.defs (F := Bits)) (onTc (τ := Cert.OdDh1.τ) (Cert.OdDh1.main (F := Bits))) ⟨m, fun _ => 0, g⟩ (fun r => (∀ c : Dev Cert.OdDh1.nD,
      r.2.mem ((c.tc : Thread Cert.OdDh1.nD Cert.OdDh1.τ).loc Cert.OdDh1.main_arg0) = m ((c.tc : Thread Cert.OdDh1.nD Cert.OdDh1.τ).loc Cert.OdDh1.main_arg0)
      ∧ r.2.mem ((c.tc : Thread Cert.OdDh1.nD Cert.OdDh1.τ).loc Cert.OdDh1.main_arg1) = m ((c.tc : Thread Cert.OdDh1.nD Cert.OdDh1.τ).loc Cert.OdDh1.main_arg1))
      ∧ r.2.sem = fun _ => 0)

def quiescent_OdDh1Ideal [hOdDh1Ideal : Cert.OdDh1Ideal.Facts] : Prop :=
  ∀ (m : (ℓ : Loc Cert.OdDh1Ideal.nD Cert.OdDh1Ideal.τ Cert.OdDh1Ideal.sig) → Buf (Elt Ideal) ℓ) (g : Dev Cert.OdDh1Ideal.nD → PrngReg), Pre_OdDh1Ideal m →
    θ_run (Cert.OdDh1Ideal.defs (F := Ideal)) (onTc (τ := Cert.OdDh1Ideal.τ) (Cert.OdDh1Ideal.main (F := Ideal))) ⟨m, fun _ => 0, g⟩ (fun r => (∀ c : Dev Cert.OdDh1Ideal.nD,
      r.2.mem ((c.tc : Thread Cert.OdDh1Ideal.nD Cert.OdDh1Ideal.τ).loc Cert.OdDh1Ideal.main_arg0) = m ((c.tc : Thread Cert.OdDh1Ideal.nD Cert.OdDh1Ideal.τ).loc Cert.OdDh1Ideal.main_arg0)
      ∧ r.2.mem ((c.tc : Thread Cert.OdDh1Ideal.nD Cert.OdDh1Ideal.τ).loc Cert.OdDh1Ideal.main_arg1) = m ((c.tc : Thread Cert.OdDh1Ideal.nD Cert.OdDh1Ideal.τ).loc Cert.OdDh1Ideal.main_arg1))
      ∧ r.2.sem = fun _ => 0)

def quiescent_OdDh1RefIdeal [hOdDh1RefIdeal : Cert.OdDh1RefIdeal.Facts] : Prop :=
  ∀ (m : (ℓ : Loc Cert.OdDh1RefIdeal.nD Cert.OdDh1RefIdeal.τ Cert.OdDh1RefIdeal.sig) → Buf (Elt Ideal) ℓ) (g : Dev Cert.OdDh1RefIdeal.nD → PrngReg), Pre_OdDh1RefIdeal m →
    θ_run (Cert.OdDh1RefIdeal.defs (F := Ideal)) (onTc (τ := Cert.OdDh1RefIdeal.τ) (Cert.OdDh1RefIdeal.main (F := Ideal))) ⟨m, fun _ => 0, g⟩ (fun r => (∀ c : Dev Cert.OdDh1RefIdeal.nD,
      r.2.mem ((c.tc : Thread Cert.OdDh1RefIdeal.nD Cert.OdDh1RefIdeal.τ).loc Cert.OdDh1RefIdeal.main_arg0) = m ((c.tc : Thread Cert.OdDh1RefIdeal.nD Cert.OdDh1RefIdeal.τ).loc Cert.OdDh1RefIdeal.main_arg0)
      ∧ r.2.mem ((c.tc : Thread Cert.OdDh1RefIdeal.nD Cert.OdDh1RefIdeal.τ).loc Cert.OdDh1RefIdeal.main_arg1) = m ((c.tc : Thread Cert.OdDh1RefIdeal.nD Cert.OdDh1RefIdeal.τ).loc Cert.OdDh1RefIdeal.main_arg1))
      ∧ r.2.sem = fun _ => 0)

def quiescent_GluDz1 [hGluDz1 : Cert.GluDz1.Facts] : Prop :=
  ∀ (m : (ℓ : Loc Cert.GluDz1.nD Cert.GluDz1.τ Cert.GluDz1.sig) → Buf (Elt Bits) ℓ) (g : Dev Cert.GluDz1.nD → PrngReg), Pre_GluDz1 m →
    θ_run (Cert.GluDz1.defs (F := Bits)) (onTc (τ := Cert.GluDz1.τ) (Cert.GluDz1.main (F := Bits))) ⟨m, fun _ => 0, g⟩ (fun r => (∀ c : Dev Cert.GluDz1.nD,
      r.2.mem ((c.tc : Thread Cert.GluDz1.nD Cert.GluDz1.τ).loc Cert.GluDz1.main_arg0) = m ((c.tc : Thread Cert.GluDz1.nD Cert.GluDz1.τ).loc Cert.GluDz1.main_arg0)
      ∧ r.2.mem ((c.tc : Thread Cert.GluDz1.nD Cert.GluDz1.τ).loc Cert.GluDz1.main_arg1) = m ((c.tc : Thread Cert.GluDz1.nD Cert.GluDz1.τ).loc Cert.GluDz1.main_arg1))
      ∧ r.2.sem = fun _ => 0)

def quiescent_GluDz1Ideal [hGluDz1Ideal : Cert.GluDz1Ideal.Facts] : Prop :=
  ∀ (m : (ℓ : Loc Cert.GluDz1Ideal.nD Cert.GluDz1Ideal.τ Cert.GluDz1Ideal.sig) → Buf (Elt Ideal) ℓ) (g : Dev Cert.GluDz1Ideal.nD → PrngReg), Pre_GluDz1Ideal m →
    θ_run (Cert.GluDz1Ideal.defs (F := Ideal)) (onTc (τ := Cert.GluDz1Ideal.τ) (Cert.GluDz1Ideal.main (F := Ideal))) ⟨m, fun _ => 0, g⟩ (fun r => (∀ c : Dev Cert.GluDz1Ideal.nD,
      r.2.mem ((c.tc : Thread Cert.GluDz1Ideal.nD Cert.GluDz1Ideal.τ).loc Cert.GluDz1Ideal.main_arg0) = m ((c.tc : Thread Cert.GluDz1Ideal.nD Cert.GluDz1Ideal.τ).loc Cert.GluDz1Ideal.main_arg0)
      ∧ r.2.mem ((c.tc : Thread Cert.GluDz1Ideal.nD Cert.GluDz1Ideal.τ).loc Cert.GluDz1Ideal.main_arg1) = m ((c.tc : Thread Cert.GluDz1Ideal.nD Cert.GluDz1Ideal.τ).loc Cert.GluDz1Ideal.main_arg1))
      ∧ r.2.sem = fun _ => 0)

def quiescent_GluDz1RefIdeal [hGluDz1RefIdeal : Cert.GluDz1RefIdeal.Facts] : Prop :=
  ∀ (m : (ℓ : Loc Cert.GluDz1RefIdeal.nD Cert.GluDz1RefIdeal.τ Cert.GluDz1RefIdeal.sig) → Buf (Elt Ideal) ℓ) (g : Dev Cert.GluDz1RefIdeal.nD → PrngReg), Pre_GluDz1RefIdeal m →
    θ_run (Cert.GluDz1RefIdeal.defs (F := Ideal)) (onTc (τ := Cert.GluDz1RefIdeal.τ) (Cert.GluDz1RefIdeal.main (F := Ideal))) ⟨m, fun _ => 0, g⟩ (fun r => (∀ c : Dev Cert.GluDz1RefIdeal.nD,
      r.2.mem ((c.tc : Thread Cert.GluDz1RefIdeal.nD Cert.GluDz1RefIdeal.τ).loc Cert.GluDz1RefIdeal.main_arg0) = m ((c.tc : Thread Cert.GluDz1RefIdeal.nD Cert.GluDz1RefIdeal.τ).loc Cert.GluDz1RefIdeal.main_arg0)
      ∧ r.2.mem ((c.tc : Thread Cert.GluDz1RefIdeal.nD Cert.GluDz1RefIdeal.τ).loc Cert.GluDz1RefIdeal.main_arg1) = m ((c.tc : Thread Cert.GluDz1RefIdeal.nD Cert.GluDz1RefIdeal.τ).loc Cert.GluDz1RefIdeal.main_arg1))
      ∧ r.2.sem = fun _ => 0)

def quiescent_EvIn1 [hEvIn1 : Cert.EvIn1.Facts] : Prop :=
  ∀ (m : (ℓ : Loc Cert.EvIn1.nD Cert.EvIn1.τ Cert.EvIn1.sig) → Buf (Elt Bits) ℓ) (g : Dev Cert.EvIn1.nD → PrngReg), Pre_EvIn1 m →
    θ_run (Cert.EvIn1.defs (F := Bits)) (onTc (τ := Cert.EvIn1.τ) (Cert.EvIn1.main (F := Bits))) ⟨m, fun _ => 0, g⟩ (fun r => (∀ c : Dev Cert.EvIn1.nD,
      r.2.mem ((c.tc : Thread Cert.EvIn1.nD Cert.EvIn1.τ).loc Cert.EvIn1.main_arg0) = m ((c.tc : Thread Cert.EvIn1.nD Cert.EvIn1.τ).loc Cert.EvIn1.main_arg0)
      ∧ r.2.mem ((c.tc : Thread Cert.EvIn1.nD Cert.EvIn1.τ).loc Cert.EvIn1.main_arg1) = m ((c.tc : Thread Cert.EvIn1.nD Cert.EvIn1.τ).loc Cert.EvIn1.main_arg1))
      ∧ r.2.sem = fun _ => 0)

def quiescent_EvIn1Ideal [hEvIn1Ideal : Cert.EvIn1Ideal.Facts] : Prop :=
  ∀ (m : (ℓ : Loc Cert.EvIn1Ideal.nD Cert.EvIn1Ideal.τ Cert.EvIn1Ideal.sig) → Buf (Elt Ideal) ℓ) (g : Dev Cert.EvIn1Ideal.nD → PrngReg), Pre_EvIn1Ideal m →
    θ_run (Cert.EvIn1Ideal.defs (F := Ideal)) (onTc (τ := Cert.EvIn1Ideal.τ) (Cert.EvIn1Ideal.main (F := Ideal))) ⟨m, fun _ => 0, g⟩ (fun r => (∀ c : Dev Cert.EvIn1Ideal.nD,
      r.2.mem ((c.tc : Thread Cert.EvIn1Ideal.nD Cert.EvIn1Ideal.τ).loc Cert.EvIn1Ideal.main_arg0) = m ((c.tc : Thread Cert.EvIn1Ideal.nD Cert.EvIn1Ideal.τ).loc Cert.EvIn1Ideal.main_arg0)
      ∧ r.2.mem ((c.tc : Thread Cert.EvIn1Ideal.nD Cert.EvIn1Ideal.τ).loc Cert.EvIn1Ideal.main_arg1) = m ((c.tc : Thread Cert.EvIn1Ideal.nD Cert.EvIn1Ideal.τ).loc Cert.EvIn1Ideal.main_arg1))
      ∧ r.2.sem = fun _ => 0)

def quiescent_EvIn1RefIdeal [hEvIn1RefIdeal : Cert.EvIn1RefIdeal.Facts] : Prop :=
  ∀ (m : (ℓ : Loc Cert.EvIn1RefIdeal.nD Cert.EvIn1RefIdeal.τ Cert.EvIn1RefIdeal.sig) → Buf (Elt Ideal) ℓ) (g : Dev Cert.EvIn1RefIdeal.nD → PrngReg), Pre_EvIn1RefIdeal m →
    θ_run (Cert.EvIn1RefIdeal.defs (F := Ideal)) (onTc (τ := Cert.EvIn1RefIdeal.τ) (Cert.EvIn1RefIdeal.main (F := Ideal))) ⟨m, fun _ => 0, g⟩ (fun r => (∀ c : Dev Cert.EvIn1RefIdeal.nD,
      r.2.mem ((c.tc : Thread Cert.EvIn1RefIdeal.nD Cert.EvIn1RefIdeal.τ).loc Cert.EvIn1RefIdeal.main_arg0) = m ((c.tc : Thread Cert.EvIn1RefIdeal.nD Cert.EvIn1RefIdeal.τ).loc Cert.EvIn1RefIdeal.main_arg0)
      ∧ r.2.mem ((c.tc : Thread Cert.EvIn1RefIdeal.nD Cert.EvIn1RefIdeal.τ).loc Cert.EvIn1RefIdeal.main_arg1) = m ((c.tc : Thread Cert.EvIn1RefIdeal.nD Cert.EvIn1RefIdeal.τ).loc Cert.EvIn1RefIdeal.main_arg1))
      ∧ r.2.sem = fun _ => 0)

def quiescent_OdIn1 [hOdIn1 : Cert.OdIn1.Facts] : Prop :=
  ∀ (m : (ℓ : Loc Cert.OdIn1.nD Cert.OdIn1.τ Cert.OdIn1.sig) → Buf (Elt Bits) ℓ) (g : Dev Cert.OdIn1.nD → PrngReg), Pre_OdIn1 m →
    θ_run (Cert.OdIn1.defs (F := Bits)) (onTc (τ := Cert.OdIn1.τ) (Cert.OdIn1.main (F := Bits))) ⟨m, fun _ => 0, g⟩ (fun r => (∀ c : Dev Cert.OdIn1.nD,
      r.2.mem ((c.tc : Thread Cert.OdIn1.nD Cert.OdIn1.τ).loc Cert.OdIn1.main_arg0) = m ((c.tc : Thread Cert.OdIn1.nD Cert.OdIn1.τ).loc Cert.OdIn1.main_arg0)
      ∧ r.2.mem ((c.tc : Thread Cert.OdIn1.nD Cert.OdIn1.τ).loc Cert.OdIn1.main_arg1) = m ((c.tc : Thread Cert.OdIn1.nD Cert.OdIn1.τ).loc Cert.OdIn1.main_arg1))
      ∧ r.2.sem = fun _ => 0)

def quiescent_OdIn1Ideal [hOdIn1Ideal : Cert.OdIn1Ideal.Facts] : Prop :=
  ∀ (m : (ℓ : Loc Cert.OdIn1Ideal.nD Cert.OdIn1Ideal.τ Cert.OdIn1Ideal.sig) → Buf (Elt Ideal) ℓ) (g : Dev Cert.OdIn1Ideal.nD → PrngReg), Pre_OdIn1Ideal m →
    θ_run (Cert.OdIn1Ideal.defs (F := Ideal)) (onTc (τ := Cert.OdIn1Ideal.τ) (Cert.OdIn1Ideal.main (F := Ideal))) ⟨m, fun _ => 0, g⟩ (fun r => (∀ c : Dev Cert.OdIn1Ideal.nD,
      r.2.mem ((c.tc : Thread Cert.OdIn1Ideal.nD Cert.OdIn1Ideal.τ).loc Cert.OdIn1Ideal.main_arg0) = m ((c.tc : Thread Cert.OdIn1Ideal.nD Cert.OdIn1Ideal.τ).loc Cert.OdIn1Ideal.main_arg0)
      ∧ r.2.mem ((c.tc : Thread Cert.OdIn1Ideal.nD Cert.OdIn1Ideal.τ).loc Cert.OdIn1Ideal.main_arg1) = m ((c.tc : Thread Cert.OdIn1Ideal.nD Cert.OdIn1Ideal.τ).loc Cert.OdIn1Ideal.main_arg1))
      ∧ r.2.sem = fun _ => 0)

def quiescent_OdIn1RefIdeal [hOdIn1RefIdeal : Cert.OdIn1RefIdeal.Facts] : Prop :=
  ∀ (m : (ℓ : Loc Cert.OdIn1RefIdeal.nD Cert.OdIn1RefIdeal.τ Cert.OdIn1RefIdeal.sig) → Buf (Elt Ideal) ℓ) (g : Dev Cert.OdIn1RefIdeal.nD → PrngReg), Pre_OdIn1RefIdeal m →
    θ_run (Cert.OdIn1RefIdeal.defs (F := Ideal)) (onTc (τ := Cert.OdIn1RefIdeal.τ) (Cert.OdIn1RefIdeal.main (F := Ideal))) ⟨m, fun _ => 0, g⟩ (fun r => (∀ c : Dev Cert.OdIn1RefIdeal.nD,
      r.2.mem ((c.tc : Thread Cert.OdIn1RefIdeal.nD Cert.OdIn1RefIdeal.τ).loc Cert.OdIn1RefIdeal.main_arg0) = m ((c.tc : Thread Cert.OdIn1RefIdeal.nD Cert.OdIn1RefIdeal.τ).loc Cert.OdIn1RefIdeal.main_arg0)
      ∧ r.2.mem ((c.tc : Thread Cert.OdIn1RefIdeal.nD Cert.OdIn1RefIdeal.τ).loc Cert.OdIn1RefIdeal.main_arg1) = m ((c.tc : Thread Cert.OdIn1RefIdeal.nD Cert.OdIn1RefIdeal.τ).loc Cert.OdIn1RefIdeal.main_arg1))
      ∧ r.2.sem = fun _ => 0)

def quiescent_GluMm1 [hGluMm1 : Cert.GluMm1.Facts] : Prop :=
  ∀ (m : (ℓ : Loc Cert.GluMm1.nD Cert.GluMm1.τ Cert.GluMm1.sig) → Buf (Elt Bits) ℓ) (g : Dev Cert.GluMm1.nD → PrngReg), Pre_GluMm1 m →
    θ_run (Cert.GluMm1.defs (F := Bits)) (onTc (τ := Cert.GluMm1.τ) (Cert.GluMm1.main (F := Bits))) ⟨m, fun _ => 0, g⟩ (fun r => (∀ c : Dev Cert.GluMm1.nD,
      r.2.mem ((c.tc : Thread Cert.GluMm1.nD Cert.GluMm1.τ).loc Cert.GluMm1.main_arg0) = m ((c.tc : Thread Cert.GluMm1.nD Cert.GluMm1.τ).loc Cert.GluMm1.main_arg0)
      ∧ r.2.mem ((c.tc : Thread Cert.GluMm1.nD Cert.GluMm1.τ).loc Cert.GluMm1.main_arg1) = m ((c.tc : Thread Cert.GluMm1.nD Cert.GluMm1.τ).loc Cert.GluMm1.main_arg1))
      ∧ r.2.sem = fun _ => 0)

def quiescent_GluMm1Ideal [hGluMm1Ideal : Cert.GluMm1Ideal.Facts] : Prop :=
  ∀ (m : (ℓ : Loc Cert.GluMm1Ideal.nD Cert.GluMm1Ideal.τ Cert.GluMm1Ideal.sig) → Buf (Elt Ideal) ℓ) (g : Dev Cert.GluMm1Ideal.nD → PrngReg), Pre_GluMm1Ideal m →
    θ_run (Cert.GluMm1Ideal.defs (F := Ideal)) (onTc (τ := Cert.GluMm1Ideal.τ) (Cert.GluMm1Ideal.main (F := Ideal))) ⟨m, fun _ => 0, g⟩ (fun r => (∀ c : Dev Cert.GluMm1Ideal.nD,
      r.2.mem ((c.tc : Thread Cert.GluMm1Ideal.nD Cert.GluMm1Ideal.τ).loc Cert.GluMm1Ideal.main_arg0) = m ((c.tc : Thread Cert.GluMm1Ideal.nD Cert.GluMm1Ideal.τ).loc Cert.GluMm1Ideal.main_arg0)
      ∧ r.2.mem ((c.tc : Thread Cert.GluMm1Ideal.nD Cert.GluMm1Ideal.τ).loc Cert.GluMm1Ideal.main_arg1) = m ((c.tc : Thread Cert.GluMm1Ideal.nD Cert.GluMm1Ideal.τ).loc Cert.GluMm1Ideal.main_arg1))
      ∧ r.2.sem = fun _ => 0)

def quiescent_GluMm1RefIdeal [hGluMm1RefIdeal : Cert.GluMm1RefIdeal.Facts] : Prop :=
  ∀ (m : (ℓ : Loc Cert.GluMm1RefIdeal.nD Cert.GluMm1RefIdeal.τ Cert.GluMm1RefIdeal.sig) → Buf (Elt Ideal) ℓ) (g : Dev Cert.GluMm1RefIdeal.nD → PrngReg), Pre_GluMm1RefIdeal m →
    θ_run (Cert.GluMm1RefIdeal.defs (F := Ideal)) (onTc (τ := Cert.GluMm1RefIdeal.τ) (Cert.GluMm1RefIdeal.main (F := Ideal))) ⟨m, fun _ => 0, g⟩ (fun r => (∀ c : Dev Cert.GluMm1RefIdeal.nD,
      r.2.mem ((c.tc : Thread Cert.GluMm1RefIdeal.nD Cert.GluMm1RefIdeal.τ).loc Cert.GluMm1RefIdeal.main_arg0) = m ((c.tc : Thread Cert.GluMm1RefIdeal.nD Cert.GluMm1RefIdeal.τ).loc Cert.GluMm1RefIdeal.main_arg0)
      ∧ r.2.mem ((c.tc : Thread Cert.GluMm1RefIdeal.nD Cert.GluMm1RefIdeal.τ).loc Cert.GluMm1RefIdeal.main_arg1) = m ((c.tc : Thread Cert.GluMm1RefIdeal.nD Cert.GluMm1RefIdeal.τ).loc Cert.GluMm1RefIdeal.main_arg1))
      ∧ r.2.sem = fun _ => 0)

def quiescent_MixOut1 [hMixOut1 : Cert.MixOut1.Facts] : Prop :=
  ∀ (m : (ℓ : Loc Cert.MixOut1.nD Cert.MixOut1.τ Cert.MixOut1.sig) → Buf (Elt Bits) ℓ) (g : Dev Cert.MixOut1.nD → PrngReg), Pre_MixOut1 m →
    θ_run (Cert.MixOut1.defs (F := Bits)) (onTc (τ := Cert.MixOut1.τ) (Cert.MixOut1.main (F := Bits))) ⟨m, fun _ => 0, g⟩ (fun r => (∀ c : Dev Cert.MixOut1.nD,
      r.2.mem ((c.tc : Thread Cert.MixOut1.nD Cert.MixOut1.τ).loc Cert.MixOut1.main_arg0) = m ((c.tc : Thread Cert.MixOut1.nD Cert.MixOut1.τ).loc Cert.MixOut1.main_arg0)
      ∧ r.2.mem ((c.tc : Thread Cert.MixOut1.nD Cert.MixOut1.τ).loc Cert.MixOut1.main_arg1) = m ((c.tc : Thread Cert.MixOut1.nD Cert.MixOut1.τ).loc Cert.MixOut1.main_arg1))
      ∧ r.2.sem = fun _ => 0)

def quiescent_MixOut1Ideal [hMixOut1Ideal : Cert.MixOut1Ideal.Facts] : Prop :=
  ∀ (m : (ℓ : Loc Cert.MixOut1Ideal.nD Cert.MixOut1Ideal.τ Cert.MixOut1Ideal.sig) → Buf (Elt Ideal) ℓ) (g : Dev Cert.MixOut1Ideal.nD → PrngReg), Pre_MixOut1Ideal m →
    θ_run (Cert.MixOut1Ideal.defs (F := Ideal)) (onTc (τ := Cert.MixOut1Ideal.τ) (Cert.MixOut1Ideal.main (F := Ideal))) ⟨m, fun _ => 0, g⟩ (fun r => (∀ c : Dev Cert.MixOut1Ideal.nD,
      r.2.mem ((c.tc : Thread Cert.MixOut1Ideal.nD Cert.MixOut1Ideal.τ).loc Cert.MixOut1Ideal.main_arg0) = m ((c.tc : Thread Cert.MixOut1Ideal.nD Cert.MixOut1Ideal.τ).loc Cert.MixOut1Ideal.main_arg0)
      ∧ r.2.mem ((c.tc : Thread Cert.MixOut1Ideal.nD Cert.MixOut1Ideal.τ).loc Cert.MixOut1Ideal.main_arg1) = m ((c.tc : Thread Cert.MixOut1Ideal.nD Cert.MixOut1Ideal.τ).loc Cert.MixOut1Ideal.main_arg1))
      ∧ r.2.sem = fun _ => 0)

def quiescent_MixOut1RefIdeal [hMixOut1RefIdeal : Cert.MixOut1RefIdeal.Facts] : Prop :=
  ∀ (m : (ℓ : Loc Cert.MixOut1RefIdeal.nD Cert.MixOut1RefIdeal.τ Cert.MixOut1RefIdeal.sig) → Buf (Elt Ideal) ℓ) (g : Dev Cert.MixOut1RefIdeal.nD → PrngReg), Pre_MixOut1RefIdeal m →
    θ_run (Cert.MixOut1RefIdeal.defs (F := Ideal)) (onTc (τ := Cert.MixOut1RefIdeal.τ) (Cert.MixOut1RefIdeal.main (F := Ideal))) ⟨m, fun _ => 0, g⟩ (fun r => (∀ c : Dev Cert.MixOut1RefIdeal.nD,
      r.2.mem ((c.tc : Thread Cert.MixOut1RefIdeal.nD Cert.MixOut1RefIdeal.τ).loc Cert.MixOut1RefIdeal.main_arg0) = m ((c.tc : Thread Cert.MixOut1RefIdeal.nD Cert.MixOut1RefIdeal.τ).loc Cert.MixOut1RefIdeal.main_arg0)
      ∧ r.2.mem ((c.tc : Thread Cert.MixOut1RefIdeal.nD Cert.MixOut1RefIdeal.τ).loc Cert.MixOut1RefIdeal.main_arg1) = m ((c.tc : Thread Cert.MixOut1RefIdeal.nD Cert.MixOut1RefIdeal.τ).loc Cert.MixOut1RefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AttnRefIdeal_pre_finite_attn [hAttnRefIdeal : Cert.AttnRefIdeal.Facts] [hPre_finite_attn : Cert.Pre_finite_attn.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_attn m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_Mod0 [hMod0 : Cert.Mod0.Facts] : Prop :=
  ∀ (m : (ℓ : Loc Cert.Mod0.nD Cert.Mod0.τ Cert.Mod0.sig) → Buf (Elt Bits) ℓ) (g : Dev Cert.Mod0.nD → PrngReg), Pre_Mod0 m →
    θ_run (Cert.Mod0.defs (F := Bits)) (onTc (τ := Cert.Mod0.τ) (Cert.Mod0.main (F := Bits))) ⟨m, fun _ => 0, g⟩ (fun r => (∀ c : Dev Cert.Mod0.nD,
      r.2.mem ((c.tc : Thread Cert.Mod0.nD Cert.Mod0.τ).loc Cert.Mod0.main_arg0) = m ((c.tc : Thread Cert.Mod0.nD Cert.Mod0.τ).loc Cert.Mod0.main_arg0)
      ∧ r.2.mem ((c.tc : Thread Cert.Mod0.nD Cert.Mod0.τ).loc Cert.Mod0.main_arg1) = m ((c.tc : Thread Cert.Mod0.nD Cert.Mod0.τ).loc Cert.Mod0.main_arg1))
      ∧ r.2.sem = fun _ => 0)

def quiescent_Mod0Ideal [hMod0Ideal : Cert.Mod0Ideal.Facts] : Prop :=
  ∀ (m : (ℓ : Loc Cert.Mod0Ideal.nD Cert.Mod0Ideal.τ Cert.Mod0Ideal.sig) → Buf (Elt Ideal) ℓ) (g : Dev Cert.Mod0Ideal.nD → PrngReg), Pre_Mod0Ideal m →
    θ_run (Cert.Mod0Ideal.defs (F := Ideal)) (onTc (τ := Cert.Mod0Ideal.τ) (Cert.Mod0Ideal.main (F := Ideal))) ⟨m, fun _ => 0, g⟩ (fun r => (∀ c : Dev Cert.Mod0Ideal.nD,
      r.2.mem ((c.tc : Thread Cert.Mod0Ideal.nD Cert.Mod0Ideal.τ).loc Cert.Mod0Ideal.main_arg0) = m ((c.tc : Thread Cert.Mod0Ideal.nD Cert.Mod0Ideal.τ).loc Cert.Mod0Ideal.main_arg0)
      ∧ r.2.mem ((c.tc : Thread Cert.Mod0Ideal.nD Cert.Mod0Ideal.τ).loc Cert.Mod0Ideal.main_arg1) = m ((c.tc : Thread Cert.Mod0Ideal.nD Cert.Mod0Ideal.τ).loc Cert.Mod0Ideal.main_arg1))
      ∧ r.2.sem = fun _ => 0)

def quiescent_Mod0RefIdeal [hMod0RefIdeal : Cert.Mod0RefIdeal.Facts] : Prop :=
  ∀ (m : (ℓ : Loc Cert.Mod0RefIdeal.nD Cert.Mod0RefIdeal.τ Cert.Mod0RefIdeal.sig) → Buf (Elt Ideal) ℓ) (g : Dev Cert.Mod0RefIdeal.nD → PrngReg), Pre_Mod0RefIdeal m →
    θ_run (Cert.Mod0RefIdeal.defs (F := Ideal)) (onTc (τ := Cert.Mod0RefIdeal.τ) (Cert.Mod0RefIdeal.main (F := Ideal))) ⟨m, fun _ => 0, g⟩ (fun r => (∀ c : Dev Cert.Mod0RefIdeal.nD,
      r.2.mem ((c.tc : Thread Cert.Mod0RefIdeal.nD Cert.Mod0RefIdeal.τ).loc Cert.Mod0RefIdeal.main_arg0) = m ((c.tc : Thread Cert.Mod0RefIdeal.nD Cert.Mod0RefIdeal.τ).loc Cert.Mod0RefIdeal.main_arg0)
      ∧ r.2.mem ((c.tc : Thread Cert.Mod0RefIdeal.nD Cert.Mod0RefIdeal.τ).loc Cert.Mod0RefIdeal.main_arg1) = m ((c.tc : Thread Cert.Mod0RefIdeal.nD Cert.Mod0RefIdeal.τ).loc Cert.Mod0RefIdeal.main_arg1))
      ∧ r.2.sem = fun _ => 0)

def quiescent_Mod1 [hMod1 : Cert.Mod1.Facts] : Prop :=
  ∀ (m : (ℓ : Loc Cert.Mod1.nD Cert.Mod1.τ Cert.Mod1.sig) → Buf (Elt Bits) ℓ) (g : Dev Cert.Mod1.nD → PrngReg), Pre_Mod1 m →
    θ_run (Cert.Mod1.defs (F := Bits)) (onTc (τ := Cert.Mod1.τ) (Cert.Mod1.main (F := Bits))) ⟨m, fun _ => 0, g⟩ (fun r => (∀ c : Dev Cert.Mod1.nD,
      r.2.mem ((c.tc : Thread Cert.Mod1.nD Cert.Mod1.τ).loc Cert.Mod1.main_arg0) = m ((c.tc : Thread Cert.Mod1.nD Cert.Mod1.τ).loc Cert.Mod1.main_arg0)
      ∧ r.2.mem ((c.tc : Thread Cert.Mod1.nD Cert.Mod1.τ).loc Cert.Mod1.main_arg1) = m ((c.tc : Thread Cert.Mod1.nD Cert.Mod1.τ).loc Cert.Mod1.main_arg1))
      ∧ r.2.sem = fun _ => 0)

def quiescent_Mod1Ideal [hMod1Ideal : Cert.Mod1Ideal.Facts] : Prop :=
  ∀ (m : (ℓ : Loc Cert.Mod1Ideal.nD Cert.Mod1Ideal.τ Cert.Mod1Ideal.sig) → Buf (Elt Ideal) ℓ) (g : Dev Cert.Mod1Ideal.nD → PrngReg), Pre_Mod1Ideal m →
    θ_run (Cert.Mod1Ideal.defs (F := Ideal)) (onTc (τ := Cert.Mod1Ideal.τ) (Cert.Mod1Ideal.main (F := Ideal))) ⟨m, fun _ => 0, g⟩ (fun r => (∀ c : Dev Cert.Mod1Ideal.nD,
      r.2.mem ((c.tc : Thread Cert.Mod1Ideal.nD Cert.Mod1Ideal.τ).loc Cert.Mod1Ideal.main_arg0) = m ((c.tc : Thread Cert.Mod1Ideal.nD Cert.Mod1Ideal.τ).loc Cert.Mod1Ideal.main_arg0)
      ∧ r.2.mem ((c.tc : Thread Cert.Mod1Ideal.nD Cert.Mod1Ideal.τ).loc Cert.Mod1Ideal.main_arg1) = m ((c.tc : Thread Cert.Mod1Ideal.nD Cert.Mod1Ideal.τ).loc Cert.Mod1Ideal.main_arg1))
      ∧ r.2.sem = fun _ => 0)

def quiescent_Mod1RefIdeal [hMod1RefIdeal : Cert.Mod1RefIdeal.Facts] : Prop :=
  ∀ (m : (ℓ : Loc Cert.Mod1RefIdeal.nD Cert.Mod1RefIdeal.τ Cert.Mod1RefIdeal.sig) → Buf (Elt Ideal) ℓ) (g : Dev Cert.Mod1RefIdeal.nD → PrngReg), Pre_Mod1RefIdeal m →
    θ_run (Cert.Mod1RefIdeal.defs (F := Ideal)) (onTc (τ := Cert.Mod1RefIdeal.τ) (Cert.Mod1RefIdeal.main (F := Ideal))) ⟨m, fun _ => 0, g⟩ (fun r => (∀ c : Dev Cert.Mod1RefIdeal.nD,
      r.2.mem ((c.tc : Thread Cert.Mod1RefIdeal.nD Cert.Mod1RefIdeal.τ).loc Cert.Mod1RefIdeal.main_arg0) = m ((c.tc : Thread Cert.Mod1RefIdeal.nD Cert.Mod1RefIdeal.τ).loc Cert.Mod1RefIdeal.main_arg0)
      ∧ r.2.mem ((c.tc : Thread Cert.Mod1RefIdeal.nD Cert.Mod1RefIdeal.τ).loc Cert.Mod1RefIdeal.main_arg1) = m ((c.tc : Thread Cert.Mod1RefIdeal.nD Cert.Mod1RefIdeal.τ).loc Cert.Mod1RefIdeal.main_arg1))
      ∧ r.2.sem = fun _ => 0)

def quiescent_Mod2 [hMod2 : Cert.Mod2.Facts] : Prop :=
  ∀ (m : (ℓ : Loc Cert.Mod2.nD Cert.Mod2.τ Cert.Mod2.sig) → Buf (Elt Bits) ℓ) (g : Dev Cert.Mod2.nD → PrngReg), Pre_Mod2 m →
    θ_run (Cert.Mod2.defs (F := Bits)) (onTc (τ := Cert.Mod2.τ) (Cert.Mod2.main (F := Bits))) ⟨m, fun _ => 0, g⟩ (fun r => (∀ c : Dev Cert.Mod2.nD,
      r.2.mem ((c.tc : Thread Cert.Mod2.nD Cert.Mod2.τ).loc Cert.Mod2.main_arg0) = m ((c.tc : Thread Cert.Mod2.nD Cert.Mod2.τ).loc Cert.Mod2.main_arg0)
      ∧ r.2.mem ((c.tc : Thread Cert.Mod2.nD Cert.Mod2.τ).loc Cert.Mod2.main_arg1) = m ((c.tc : Thread Cert.Mod2.nD Cert.Mod2.τ).loc Cert.Mod2.main_arg1))
      ∧ r.2.sem = fun _ => 0)

def quiescent_Mod2Ideal [hMod2Ideal : Cert.Mod2Ideal.Facts] : Prop :=
  ∀ (m : (ℓ : Loc Cert.Mod2Ideal.nD Cert.Mod2Ideal.τ Cert.Mod2Ideal.sig) → Buf (Elt Ideal) ℓ) (g : Dev Cert.Mod2Ideal.nD → PrngReg), Pre_Mod2Ideal m →
    θ_run (Cert.Mod2Ideal.defs (F := Ideal)) (onTc (τ := Cert.Mod2Ideal.τ) (Cert.Mod2Ideal.main (F := Ideal))) ⟨m, fun _ => 0, g⟩ (fun r => (∀ c : Dev Cert.Mod2Ideal.nD,
      r.2.mem ((c.tc : Thread Cert.Mod2Ideal.nD Cert.Mod2Ideal.τ).loc Cert.Mod2Ideal.main_arg0) = m ((c.tc : Thread Cert.Mod2Ideal.nD Cert.Mod2Ideal.τ).loc Cert.Mod2Ideal.main_arg0)
      ∧ r.2.mem ((c.tc : Thread Cert.Mod2Ideal.nD Cert.Mod2Ideal.τ).loc Cert.Mod2Ideal.main_arg1) = m ((c.tc : Thread Cert.Mod2Ideal.nD Cert.Mod2Ideal.τ).loc Cert.Mod2Ideal.main_arg1))
      ∧ r.2.sem = fun _ => 0)

def quiescent_Mod2RefIdeal [hMod2RefIdeal : Cert.Mod2RefIdeal.Facts] : Prop :=
  ∀ (m : (ℓ : Loc Cert.Mod2RefIdeal.nD Cert.Mod2RefIdeal.τ Cert.Mod2RefIdeal.sig) → Buf (Elt Ideal) ℓ) (g : Dev Cert.Mod2RefIdeal.nD → PrngReg), Pre_Mod2RefIdeal m →
    θ_run (Cert.Mod2RefIdeal.defs (F := Ideal)) (onTc (τ := Cert.Mod2RefIdeal.τ) (Cert.Mod2RefIdeal.main (F := Ideal))) ⟨m, fun _ => 0, g⟩ (fun r => (∀ c : Dev Cert.Mod2RefIdeal.nD,
      r.2.mem ((c.tc : Thread Cert.Mod2RefIdeal.nD Cert.Mod2RefIdeal.τ).loc Cert.Mod2RefIdeal.main_arg0) = m ((c.tc : Thread Cert.Mod2RefIdeal.nD Cert.Mod2RefIdeal.τ).loc Cert.Mod2RefIdeal.main_arg0)
      ∧ r.2.mem ((c.tc : Thread Cert.Mod2RefIdeal.nD Cert.Mod2RefIdeal.τ).loc Cert.Mod2RefIdeal.main_arg1) = m ((c.tc : Thread Cert.Mod2RefIdeal.nD Cert.Mod2RefIdeal.τ).loc Cert.Mod2RefIdeal.main_arg1))
      ∧ r.2.sem = fun _ => 0)

def quiescent_Mod3 [hMod3 : Cert.Mod3.Facts] : Prop :=
  ∀ (m : (ℓ : Loc Cert.Mod3.nD Cert.Mod3.τ Cert.Mod3.sig) → Buf (Elt Bits) ℓ) (g : Dev Cert.Mod3.nD → PrngReg), Pre_Mod3 m →
    θ_run (Cert.Mod3.defs (F := Bits)) (onTc (τ := Cert.Mod3.τ) (Cert.Mod3.main (F := Bits))) ⟨m, fun _ => 0, g⟩ (fun r => (∀ c : Dev Cert.Mod3.nD,
      r.2.mem ((c.tc : Thread Cert.Mod3.nD Cert.Mod3.τ).loc Cert.Mod3.main_arg0) = m ((c.tc : Thread Cert.Mod3.nD Cert.Mod3.τ).loc Cert.Mod3.main_arg0)
      ∧ r.2.mem ((c.tc : Thread Cert.Mod3.nD Cert.Mod3.τ).loc Cert.Mod3.main_arg1) = m ((c.tc : Thread Cert.Mod3.nD Cert.Mod3.τ).loc Cert.Mod3.main_arg1))
      ∧ r.2.sem = fun _ => 0)

def quiescent_Mod3Ideal [hMod3Ideal : Cert.Mod3Ideal.Facts] : Prop :=
  ∀ (m : (ℓ : Loc Cert.Mod3Ideal.nD Cert.Mod3Ideal.τ Cert.Mod3Ideal.sig) → Buf (Elt Ideal) ℓ) (g : Dev Cert.Mod3Ideal.nD → PrngReg), Pre_Mod3Ideal m →
    θ_run (Cert.Mod3Ideal.defs (F := Ideal)) (onTc (τ := Cert.Mod3Ideal.τ) (Cert.Mod3Ideal.main (F := Ideal))) ⟨m, fun _ => 0, g⟩ (fun r => (∀ c : Dev Cert.Mod3Ideal.nD,
      r.2.mem ((c.tc : Thread Cert.Mod3Ideal.nD Cert.Mod3Ideal.τ).loc Cert.Mod3Ideal.main_arg0) = m ((c.tc : Thread Cert.Mod3Ideal.nD Cert.Mod3Ideal.τ).loc Cert.Mod3Ideal.main_arg0)
      ∧ r.2.mem ((c.tc : Thread Cert.Mod3Ideal.nD Cert.Mod3Ideal.τ).loc Cert.Mod3Ideal.main_arg1) = m ((c.tc : Thread Cert.Mod3Ideal.nD Cert.Mod3Ideal.τ).loc Cert.Mod3Ideal.main_arg1))
      ∧ r.2.sem = fun _ => 0)

def quiescent_Mod3RefIdeal [hMod3RefIdeal : Cert.Mod3RefIdeal.Facts] : Prop :=
  ∀ (m : (ℓ : Loc Cert.Mod3RefIdeal.nD Cert.Mod3RefIdeal.τ Cert.Mod3RefIdeal.sig) → Buf (Elt Ideal) ℓ) (g : Dev Cert.Mod3RefIdeal.nD → PrngReg), Pre_Mod3RefIdeal m →
    θ_run (Cert.Mod3RefIdeal.defs (F := Ideal)) (onTc (τ := Cert.Mod3RefIdeal.τ) (Cert.Mod3RefIdeal.main (F := Ideal))) ⟨m, fun _ => 0, g⟩ (fun r => (∀ c : Dev Cert.Mod3RefIdeal.nD,
      r.2.mem ((c.tc : Thread Cert.Mod3RefIdeal.nD Cert.Mod3RefIdeal.τ).loc Cert.Mod3RefIdeal.main_arg0) = m ((c.tc : Thread Cert.Mod3RefIdeal.nD Cert.Mod3RefIdeal.τ).loc Cert.Mod3RefIdeal.main_arg0)
      ∧ r.2.mem ((c.tc : Thread Cert.Mod3RefIdeal.nD Cert.Mod3RefIdeal.τ).loc Cert.Mod3RefIdeal.main_arg1) = m ((c.tc : Thread Cert.Mod3RefIdeal.nD Cert.Mod3RefIdeal.τ).loc Cert.Mod3RefIdeal.main_arg1))
      ∧ r.2.sem = fun _ => 0)

def quiescent_Silu [hSilu : Cert.Silu.Facts] : Prop :=
  ∀ (m : (ℓ : Loc Cert.Silu.nD Cert.Silu.τ Cert.Silu.sig) → Buf (Elt Bits) ℓ) (g : Dev Cert.Silu.nD → PrngReg), Pre_Silu m →
    θ_run (Cert.Silu.defs (F := Bits)) (onTc (τ := Cert.Silu.τ) (Cert.Silu.main (F := Bits))) ⟨m, fun _ => 0, g⟩ (fun r => (∀ c : Dev Cert.Silu.nD,
      r.2.mem ((c.tc : Thread Cert.Silu.nD Cert.Silu.τ).loc Cert.Silu.main_arg0) = m ((c.tc : Thread Cert.Silu.nD Cert.Silu.τ).loc Cert.Silu.main_arg0))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ r.2.sem = fun _ => 0)

def quiescent_SiluRefIdeal [hSiluRefIdeal : Cert.SiluRefIdeal.Facts] : Prop :=
  ∀ (m : (ℓ : Loc Cert.SiluRefIdeal.nD Cert.SiluRefIdeal.τ Cert.SiluRefIdeal.sig) → Buf (Elt Ideal) ℓ) (g : Dev Cert.SiluRefIdeal.nD → PrngReg), Pre_SiluRefIdeal m →
    θ_run (Cert.SiluRefIdeal.defs (F := Ideal)) (onTc (τ := Cert.SiluRefIdeal.τ) (Cert.SiluRefIdeal.main (F := Ideal))) ⟨m, fun _ => 0, g⟩ (fun r => (∀ c : Dev Cert.SiluRefIdeal.nD,
      r.2.mem ((c.tc : Thread Cert.SiluRefIdeal.nD Cert.SiluRefIdeal.τ).loc Cert.SiluRefIdeal.main_arg0) = m ((c.tc : Thread Cert.SiluRefIdeal.nD Cert.SiluRefIdeal.τ).loc Cert.SiluRefIdeal.main_arg0))
      ∧ r.2.sem = fun _ => 0)

def quiescent_Resid [hResid : Cert.Resid.Facts] : Prop :=
  ∀ (m : (ℓ : Loc Cert.Resid.nD Cert.Resid.τ Cert.Resid.sig) → Buf (Elt Bits) ℓ) (g : Dev Cert.Resid.nD → PrngReg), Pre_Resid m →
    θ_run (Cert.Resid.defs (F := Bits)) (onTc (τ := Cert.Resid.τ) (Cert.Resid.main (F := Bits))) ⟨m, fun _ => 0, g⟩ (fun r => (∀ c : Dev Cert.Resid.nD,
      r.2.mem ((c.tc : Thread Cert.Resid.nD Cert.Resid.τ).loc Cert.Resid.main_arg0) = m ((c.tc : Thread Cert.Resid.nD Cert.Resid.τ).loc Cert.Resid.main_arg0)
      ∧ r.2.mem ((c.tc : Thread Cert.Resid.nD Cert.Resid.τ).loc Cert.Resid.main_arg1) = m ((c.tc : Thread Cert.Resid.nD Cert.Resid.τ).loc Cert.Resid.main_arg1)
      ∧ r.2.mem ((c.tc : Thread Cert.Resid.nD Cert.Resid.τ).loc Cert.Resid.main_arg2) = m ((c.tc : Thread Cert.Resid.nD Cert.Resid.τ).loc Cert.Resid.main_arg2))
      ∧ r.2.sem = fun _ => 0)

def quiescent_ResidIdeal [hResidIdeal : Cert.ResidIdeal.Facts] : Prop :=
  ∀ (m : (ℓ : Loc Cert.ResidIdeal.nD Cert.ResidIdeal.τ Cert.ResidIdeal.sig) → Buf (Elt Ideal) ℓ) (g : Dev Cert.ResidIdeal.nD → PrngReg), Pre_ResidIdeal m →
    θ_run (Cert.ResidIdeal.defs (F := Ideal)) (onTc (τ := Cert.ResidIdeal.τ) (Cert.ResidIdeal.main (F := Ideal))) ⟨m, fun _ => 0, g⟩ (fun r => (∀ c : Dev Cert.ResidIdeal.nD,
      r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
      ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
      ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ r.2.sem = fun _ => 0)

def quiescent_ResidRefIdeal [hResidRefIdeal : Cert.ResidRefIdeal.Facts] : Prop :=
  ∀ (m : (ℓ : Loc Cert.ResidRefIdeal.nD Cert.ResidRefIdeal.τ Cert.ResidRefIdeal.sig) → Buf (Elt Ideal) ℓ) (g : Dev Cert.ResidRefIdeal.nD → PrngReg), Pre_ResidRefIdeal m →
    θ_run (Cert.ResidRefIdeal.defs (F := Ideal)) (onTc (τ := Cert.ResidRefIdeal.τ) (Cert.ResidRefIdeal.main (F := Ideal))) ⟨m, fun _ => 0, g⟩ (fun r => (∀ c : Dev Cert.ResidRefIdeal.nD,
      r.2.mem ((c.tc : Thread Cert.ResidRefIdeal.nD Cert.ResidRefIdeal.τ).loc Cert.ResidRefIdeal.main_arg0) = m ((c.tc : Thread Cert.ResidRefIdeal.nD Cert.ResidRefIdeal.τ).loc Cert.ResidRefIdeal.main_arg0)
      ∧ r.2.mem ((c.tc : Thread Cert.ResidRefIdeal.nD Cert.ResidRefIdeal.τ).loc Cert.ResidRefIdeal.main_arg1) = m ((c.tc : Thread Cert.ResidRefIdeal.nD Cert.ResidRefIdeal.τ).loc Cert.ResidRefIdeal.main_arg1)
      ∧ r.2.mem ((c.tc : Thread Cert.ResidRefIdeal.nD Cert.ResidRefIdeal.τ).loc Cert.ResidRefIdeal.main_arg2) = m ((c.tc : Thread Cert.ResidRefIdeal.nD Cert.ResidRefIdeal.τ).loc Cert.ResidRefIdeal.main_arg2))
      ∧ r.2.sem = fun _ => 0)

def quiescent_ResidB [hResidB : Cert.ResidB.Facts] : Prop :=
  ∀ (m : (ℓ : Loc Cert.ResidB.nD Cert.ResidB.τ Cert.ResidB.sig) → Buf (Elt Bits) ℓ) (g : Dev Cert.ResidB.nD → PrngReg), Pre_ResidB m →
    θ_run (Cert.ResidB.defs (F := Bits)) (onTc (τ := Cert.ResidB.τ) (Cert.ResidB.main (F := Bits))) ⟨m, fun _ => 0, g⟩ (fun r => (∀ c : Dev Cert.ResidB.nD,
      r.2.mem ((c.tc : Thread Cert.ResidB.nD Cert.ResidB.τ).loc Cert.ResidB.main_arg0) = m ((c.tc : Thread Cert.ResidB.nD Cert.ResidB.τ).loc Cert.ResidB.main_arg0)
      ∧ r.2.mem ((c.tc : Thread Cert.ResidB.nD Cert.ResidB.τ).loc Cert.ResidB.main_arg1) = m ((c.tc : Thread Cert.ResidB.nD Cert.ResidB.τ).loc Cert.ResidB.main_arg1)
      ∧ r.2.mem ((c.tc : Thread Cert.ResidB.nD Cert.ResidB.τ).loc Cert.ResidB.main_arg2) = m ((c.tc : Thread Cert.ResidB.nD Cert.ResidB.τ).loc Cert.ResidB.main_arg2))
      ∧ r.2.sem = fun _ => 0)

def quiescent_ResidBIdeal [hResidBIdeal : Cert.ResidBIdeal.Facts] : Prop :=
  ∀ (m : (ℓ : Loc Cert.ResidBIdeal.nD Cert.ResidBIdeal.τ Cert.ResidBIdeal.sig) → Buf (Elt Ideal) ℓ) (g : Dev Cert.ResidBIdeal.nD → PrngReg), Pre_ResidBIdeal m →
    θ_run (Cert.ResidBIdeal.defs (F := Ideal)) (onTc (τ := Cert.ResidBIdeal.τ) (Cert.ResidBIdeal.main (F := Ideal))) ⟨m, fun _ => 0, g⟩ (fun r => (∀ c : Dev Cert.ResidBIdeal.nD,
      r.2.mem ((c.tc : Thread Cert.ResidBIdeal.nD Cert.ResidBIdeal.τ).loc Cert.ResidBIdeal.main_arg0) = m ((c.tc : Thread Cert.ResidBIdeal.nD Cert.ResidBIdeal.τ).loc Cert.ResidBIdeal.main_arg0)
      ∧ r.2.mem ((c.tc : Thread Cert.ResidBIdeal.nD Cert.ResidBIdeal.τ).loc Cert.ResidBIdeal.main_arg1) = m ((c.tc : Thread Cert.ResidBIdeal.nD Cert.ResidBIdeal.τ).loc Cert.ResidBIdeal.main_arg1)
      ∧ r.2.mem ((c.tc : Thread Cert.ResidBIdeal.nD Cert.ResidBIdeal.τ).loc Cert.ResidBIdeal.main_arg2) = m ((c.tc : Thread Cert.ResidBIdeal.nD Cert.ResidBIdeal.τ).loc Cert.ResidBIdeal.main_arg2))
      ∧ r.2.sem = fun _ => 0)

def quiescent_ResidBRefIdeal [hResidBRefIdeal : Cert.ResidBRefIdeal.Facts] : Prop :=
  ∀ (m : (ℓ : Loc Cert.ResidBRefIdeal.nD Cert.ResidBRefIdeal.τ Cert.ResidBRefIdeal.sig) → Buf (Elt Ideal) ℓ) (g : Dev Cert.ResidBRefIdeal.nD → PrngReg), Pre_ResidBRefIdeal m →
    θ_run (Cert.ResidBRefIdeal.defs (F := Ideal)) (onTc (τ := Cert.ResidBRefIdeal.τ) (Cert.ResidBRefIdeal.main (F := Ideal))) ⟨m, fun _ => 0, g⟩ (fun r => (∀ c : Dev Cert.ResidBRefIdeal.nD,
      r.2.mem ((c.tc : Thread Cert.ResidBRefIdeal.nD Cert.ResidBRefIdeal.τ).loc Cert.ResidBRefIdeal.main_arg0) = m ((c.tc : Thread Cert.ResidBRefIdeal.nD Cert.ResidBRefIdeal.τ).loc Cert.ResidBRefIdeal.main_arg0)
      ∧ r.2.mem ((c.tc : Thread Cert.ResidBRefIdeal.nD Cert.ResidBRefIdeal.τ).loc Cert.ResidBRefIdeal.main_arg1) = m ((c.tc : Thread Cert.ResidBRefIdeal.nD Cert.ResidBRefIdeal.τ).loc Cert.ResidBRefIdeal.main_arg1)
      ∧ r.2.mem ((c.tc : Thread Cert.ResidBRefIdeal.nD Cert.ResidBRefIdeal.τ).loc Cert.ResidBRefIdeal.main_arg2) = m ((c.tc : Thread Cert.ResidBRefIdeal.nD Cert.ResidBRefIdeal.τ).loc Cert.ResidBRefIdeal.main_arg2))
      ∧ r.2.sem = fun _ => 0)

def quiescent_GluZ [hGluZ : Cert.GluZ.Facts] : Prop :=
  ∀ (m : (ℓ : Loc Cert.GluZ.nD Cert.GluZ.τ Cert.GluZ.sig) → Buf (Elt Bits) ℓ) (g : Dev Cert.GluZ.nD → PrngReg), Pre_GluZ m →
    θ_run (Cert.GluZ.defs (F := Bits)) (onTc (τ := Cert.GluZ.τ) (Cert.GluZ.main (F := Bits))) ⟨m, fun _ => 0, g⟩ (fun r => (∀ c : Dev Cert.GluZ.nD,
      r.2.mem ((c.tc : Thread Cert.GluZ.nD Cert.GluZ.τ).loc Cert.GluZ.main_arg0) = m ((c.tc : Thread Cert.GluZ.nD Cert.GluZ.τ).loc Cert.GluZ.main_arg0))
      ∧ r.2.sem = fun _ => 0)

def quiescent_GluZIdeal [hGluZIdeal : Cert.GluZIdeal.Facts] : Prop :=
  ∀ (m : (ℓ : Loc Cert.GluZIdeal.nD Cert.GluZIdeal.τ Cert.GluZIdeal.sig) → Buf (Elt Ideal) ℓ) (g : Dev Cert.GluZIdeal.nD → PrngReg), Pre_GluZIdeal m →
    θ_run (Cert.GluZIdeal.defs (F := Ideal)) (onTc (τ := Cert.GluZIdeal.τ) (Cert.GluZIdeal.main (F := Ideal))) ⟨m, fun _ => 0, g⟩ (fun r => (∀ c : Dev Cert.GluZIdeal.nD,
      r.2.mem ((c.tc : Thread Cert.GluZIdeal.nD Cert.GluZIdeal.τ).loc Cert.GluZIdeal.main_arg0) = m ((c.tc : Thread Cert.GluZIdeal.nD Cert.GluZIdeal.τ).loc Cert.GluZIdeal.main_arg0))
      ∧ r.2.sem = fun _ => 0)

def quiescent_GluZRefIdeal [hGluZRefIdeal : Cert.GluZRefIdeal.Facts] : Prop :=
  ∀ (m : (ℓ : Loc Cert.GluZRefIdeal.nD Cert.GluZRefIdeal.τ Cert.GluZRefIdeal.sig) → Buf (Elt Ideal) ℓ) (g : Dev Cert.GluZRefIdeal.nD → PrngReg), Pre_GluZRefIdeal m →
    θ_run (Cert.GluZRefIdeal.defs (F := Ideal)) (onTc (τ := Cert.GluZRefIdeal.τ) (Cert.GluZRefIdeal.main (F := Ideal))) ⟨m, fun _ => 0, g⟩ (fun r => (∀ c : Dev Cert.GluZRefIdeal.nD,
      r.2.mem ((c.tc : Thread Cert.GluZRefIdeal.nD Cert.GluZRefIdeal.τ).loc Cert.GluZRefIdeal.main_arg0) = m ((c.tc : Thread Cert.GluZRefIdeal.nD Cert.GluZRefIdeal.τ).loc Cert.GluZRefIdeal.main_arg0))
      ∧ r.2.sem = fun _ => 0)

def quiescent_GluOut [hGluOut : Cert.GluOut.Facts] : Prop :=
  ∀ (m : (ℓ : Loc Cert.GluOut.nD Cert.GluOut.τ Cert.GluOut.sig) → Buf (Elt Bits) ℓ) (g : Dev Cert.GluOut.nD → PrngReg), Pre_GluOut m →
    θ_run (Cert.GluOut.defs (F := Bits)) (onTc (τ := Cert.GluOut.τ) (Cert.GluOut.main (F := Bits))) ⟨m, fun _ => 0, g⟩ (fun r => (∀ c : Dev Cert.GluOut.nD,
      r.2.mem ((c.tc : Thread Cert.GluOut.nD Cert.GluOut.τ).loc Cert.GluOut.main_arg0) = m ((c.tc : Thread Cert.GluOut.nD Cert.GluOut.τ).loc Cert.GluOut.main_arg0)
      ∧ r.2.mem ((c.tc : Thread Cert.GluOut.nD Cert.GluOut.τ).loc Cert.GluOut.main_arg1) = m ((c.tc : Thread Cert.GluOut.nD Cert.GluOut.τ).loc Cert.GluOut.main_arg1)
      ∧ r.2.mem ((c.tc : Thread Cert.GluOut.nD Cert.GluOut.τ).loc Cert.GluOut.main_arg2) = m ((c.tc : Thread Cert.GluOut.nD Cert.GluOut.τ).loc Cert.GluOut.main_arg2))
      ∧ r.2.sem = fun _ => 0)

def quiescent_GluOutIdeal [hGluOutIdeal : Cert.GluOutIdeal.Facts] : Prop :=
  ∀ (m : (ℓ : Loc Cert.GluOutIdeal.nD Cert.GluOutIdeal.τ Cert.GluOutIdeal.sig) → Buf (Elt Ideal) ℓ) (g : Dev Cert.GluOutIdeal.nD → PrngReg), Pre_GluOutIdeal m →
    θ_run (Cert.GluOutIdeal.defs (F := Ideal)) (onTc (τ := Cert.GluOutIdeal.τ) (Cert.GluOutIdeal.main (F := Ideal))) ⟨m, fun _ => 0, g⟩ (fun r => (∀ c : Dev Cert.GluOutIdeal.nD,
      r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
      ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1)
      ∧ r.2.mem ((c.tc : Thread Cert.GluOutIdeal.nD Cert.GluOutIdeal.τ).loc Cert.GluOutIdeal.main_arg2) = m ((c.tc : Thread Cert.GluOutIdeal.nD Cert.GluOutIdeal.τ).loc Cert.GluOutIdeal.main_arg2))
      ∧ r.2.sem = fun _ => 0)

def quiescent_GluOutRefIdeal [hGluOutRefIdeal : Cert.GluOutRefIdeal.Facts] : Prop :=
  ∀ (m : (ℓ : Loc Cert.GluOutRefIdeal.nD Cert.GluOutRefIdeal.τ Cert.GluOutRefIdeal.sig) → Buf (Elt Ideal) ℓ) (g : Dev Cert.GluOutRefIdeal.nD → PrngReg), Pre_GluOutRefIdeal m →
    θ_run (Cert.GluOutRefIdeal.defs (F := Ideal)) (onTc (τ := Cert.GluOutRefIdeal.τ) (Cert.GluOutRefIdeal.main (F := Ideal))) ⟨m, fun _ => 0, g⟩ (fun r => (∀ c : Dev Cert.GluOutRefIdeal.nD,
      r.2.mem ((c.tc : Thread Cert.GluOutRefIdeal.nD Cert.GluOutRefIdeal.τ).loc Cert.GluOutRefIdeal.main_arg0) = m ((c.tc : Thread Cert.GluOutRefIdeal.nD Cert.GluOutRefIdeal.τ).loc Cert.GluOutRefIdeal.main_arg0)
      ∧ r.2.mem ((c.tc : Thread Cert.GluOutRefIdeal.nD Cert.GluOutRefIdeal.τ).loc Cert.GluOutRefIdeal.main_arg1) = m ((c.tc : Thread Cert.GluOutRefIdeal.nD Cert.GluOutRefIdeal.τ).loc Cert.GluOutRefIdeal.main_arg1)
      ∧ r.2.mem ((c.tc : Thread Cert.GluOutRefIdeal.nD Cert.GluOutRefIdeal.τ).loc Cert.GluOutRefIdeal.main_arg2) = m ((c.tc : Thread Cert.GluOutRefIdeal.nD Cert.GluOutRefIdeal.τ).loc Cert.GluOutRefIdeal.main_arg2))
      ∧ r.2.sem = fun _ => 0)

def quiescent_GluGate [hGluGate : Cert.GluGate.Facts] : Prop :=
  ∀ (m : (ℓ : Loc Cert.GluGate.nD Cert.GluGate.τ Cert.GluGate.sig) → Buf (Elt Bits) ℓ) (g : Dev Cert.GluGate.nD → PrngReg), Pre_GluGate m →
    θ_run (Cert.GluGate.defs (F := Bits)) (onTc (τ := Cert.GluGate.τ) (Cert.GluGate.main (F := Bits))) ⟨m, fun _ => 0, g⟩ (fun r => (∀ c : Dev Cert.GluGate.nD,
      r.2.mem ((c.tc : Thread Cert.GluGate.nD Cert.GluGate.τ).loc Cert.GluGate.main_arg0) = m ((c.tc : Thread Cert.GluGate.nD Cert.GluGate.τ).loc Cert.GluGate.main_arg0)
      ∧ r.2.mem ((c.tc : Thread Cert.GluGate.nD Cert.GluGate.τ).loc Cert.GluGate.main_arg1) = m ((c.tc : Thread Cert.GluGate.nD Cert.GluGate.τ).loc Cert.GluGate.main_arg1)
      ∧ r.2.mem ((c.tc : Thread Cert.GluGate.nD Cert.GluGate.τ).loc Cert.GluGate.main_arg2) = m ((c.tc : Thread Cert.GluGate.nD Cert.GluGate.τ).loc Cert.GluGate.main_arg2)
      ∧ r.2.mem ((c.tc : Thread Cert.GluGate.nD Cert.GluGate.τ).loc Cert.GluGate.main_arg3) = m ((c.tc : Thread Cert.GluGate.nD Cert.GluGate.τ).loc Cert.GluGate.main_arg3))
      ∧ r.2.sem = fun _ => 0)

def quiescent_GluGateIdeal [hGluGateIdeal : Cert.GluGateIdeal.Facts] : Prop :=
  ∀ (m : (ℓ : Loc Cert.GluGateIdeal.nD Cert.GluGateIdeal.τ Cert.GluGateIdeal.sig) → Buf (Elt Ideal) ℓ) (g : Dev Cert.GluGateIdeal.nD → PrngReg), Pre_GluGateIdeal m →
    θ_run (Cert.GluGateIdeal.defs (F := Ideal)) (onTc (τ := Cert.GluGateIdeal.τ) (Cert.GluGateIdeal.main (F := Ideal))) ⟨m, fun _ => 0, g⟩ (fun r => (∀ c : Dev Cert.GluGateIdeal.nD,
      r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
      ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
      ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
      ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3))
      ∧ r.2.sem = fun _ => 0)

def quiescent_GluGateRefIdeal [hGluGateRefIdeal : Cert.GluGateRefIdeal.Facts] : Prop :=
  ∀ (m : (ℓ : Loc Cert.GluGateRefIdeal.nD Cert.GluGateRefIdeal.τ Cert.GluGateRefIdeal.sig) → Buf (Elt Ideal) ℓ) (g : Dev Cert.GluGateRefIdeal.nD → PrngReg), Pre_GluGateRefIdeal m →
    θ_run (Cert.GluGateRefIdeal.defs (F := Ideal)) (onTc (τ := Cert.GluGateRefIdeal.τ) (Cert.GluGateRefIdeal.main (F := Ideal))) ⟨m, fun _ => 0, g⟩ (fun r => (∀ c : Dev Cert.GluGateRefIdeal.nD,
      r.2.mem ((c.tc : Thread Cert.GluGateRefIdeal.nD Cert.GluGateRefIdeal.τ).loc Cert.GluGateRefIdeal.main_arg0) = m ((c.tc : Thread Cert.GluGateRefIdeal.nD Cert.GluGateRefIdeal.τ).loc Cert.GluGateRefIdeal.main_arg0)
      ∧ r.2.mem ((c.tc : Thread Cert.GluGateRefIdeal.nD Cert.GluGateRefIdeal.τ).loc Cert.GluGateRefIdeal.main_arg1) = m ((c.tc : Thread Cert.GluGateRefIdeal.nD Cert.GluGateRefIdeal.τ).loc Cert.GluGateRefIdeal.main_arg1)
      ∧ r.2.mem ((c.tc : Thread Cert.GluGateRefIdeal.nD Cert.GluGateRefIdeal.τ).loc Cert.GluGateRefIdeal.main_arg2) = m ((c.tc : Thread Cert.GluGateRefIdeal.nD Cert.GluGateRefIdeal.τ).loc Cert.GluGateRefIdeal.main_arg2)
      ∧ r.2.mem ((c.tc : Thread Cert.GluGateRefIdeal.nD Cert.GluGateRefIdeal.τ).loc Cert.GluGateRefIdeal.main_arg3) = m ((c.tc : Thread Cert.GluGateRefIdeal.nD Cert.GluGateRefIdeal.τ).loc Cert.GluGateRefIdeal.main_arg3))
      ∧ r.2.sem = fun _ => 0)

def quiescent_GluY [hGluY : Cert.GluY.Facts] : Prop :=
  ∀ (m : (ℓ : Loc Cert.GluY.nD Cert.GluY.τ Cert.GluY.sig) → Buf (Elt Bits) ℓ) (g : Dev Cert.GluY.nD → PrngReg), Pre_GluY m →
    θ_run (Cert.GluY.defs (F := Bits)) (onTc (τ := Cert.GluY.τ) (Cert.GluY.main (F := Bits))) ⟨m, fun _ => 0, g⟩ (fun r => (∀ c : Dev Cert.GluY.nD,
      r.2.mem ((c.tc : Thread Cert.GluY.nD Cert.GluY.τ).loc Cert.GluY.main_arg0) = m ((c.tc : Thread Cert.GluY.nD Cert.GluY.τ).loc Cert.GluY.main_arg0)
      ∧ r.2.mem ((c.tc : Thread Cert.GluY.nD Cert.GluY.τ).loc Cert.GluY.main_arg1) = m ((c.tc : Thread Cert.GluY.nD Cert.GluY.τ).loc Cert.GluY.main_arg1)
      ∧ r.2.mem ((c.tc : Thread Cert.GluY.nD Cert.GluY.τ).loc Cert.GluY.main_arg2) = m ((c.tc : Thread Cert.GluY.nD Cert.GluY.τ).loc Cert.GluY.main_arg2)
      ∧ r.2.mem ((c.tc : Thread Cert.GluY.nD Cert.GluY.τ).loc Cert.GluY.main_arg3) = m ((c.tc : Thread Cert.GluY.nD Cert.GluY.τ).loc Cert.GluY.main_arg3)
      ∧ r.2.mem ((c.tc : Thread Cert.GluY.nD Cert.GluY.τ).loc Cert.GluY.main_arg4) = m ((c.tc : Thread Cert.GluY.nD Cert.GluY.τ).loc Cert.GluY.main_arg4))
      ∧ r.2.sem = fun _ => 0)

def quiescent_GluYIdeal [hGluYIdeal : Cert.GluYIdeal.Facts] : Prop :=
  ∀ (m : (ℓ : Loc Cert.GluYIdeal.nD Cert.GluYIdeal.τ Cert.GluYIdeal.sig) → Buf (Elt Ideal) ℓ) (g : Dev Cert.GluYIdeal.nD → PrngReg), Pre_GluYIdeal m →
    θ_run (Cert.GluYIdeal.defs (F := Ideal)) (onTc (τ := Cert.GluYIdeal.τ) (Cert.GluYIdeal.main (F := Ideal))) ⟨m, fun _ => 0, g⟩ (fun r => (∀ c : Dev Cert.GluYIdeal.nD,
      r.2.mem ((c.tc : Thread Cert.GluYIdeal.nD Cert.GluYIdeal.τ).loc Cert.GluYIdeal.main_arg0) = m ((c.tc : Thread Cert.GluYIdeal.nD Cert.GluYIdeal.τ).loc Cert.GluYIdeal.main_arg0)
      ∧ r.2.mem ((c.tc : Thread Cert.GluYIdeal.nD Cert.GluYIdeal.τ).loc Cert.GluYIdeal.main_arg1) = m ((c.tc : Thread Cert.GluYIdeal.nD Cert.GluYIdeal.τ).loc Cert.GluYIdeal.main_arg1)
      ∧ r.2.mem ((c.tc : Thread Cert.GluYIdeal.nD Cert.GluYIdeal.τ).loc Cert.GluYIdeal.main_arg2) = m ((c.tc : Thread Cert.GluYIdeal.nD Cert.GluYIdeal.τ).loc Cert.GluYIdeal.main_arg2)
      ∧ r.2.mem ((c.tc : Thread Cert.GluYIdeal.nD Cert.GluYIdeal.τ).loc Cert.GluYIdeal.main_arg3) = m ((c.tc : Thread Cert.GluYIdeal.nD Cert.GluYIdeal.τ).loc Cert.GluYIdeal.main_arg3)
      ∧ r.2.mem ((c.tc : Thread Cert.GluYIdeal.nD Cert.GluYIdeal.τ).loc Cert.GluYIdeal.main_arg4) = m ((c.tc : Thread Cert.GluYIdeal.nD Cert.GluYIdeal.τ).loc Cert.GluYIdeal.main_arg4))
      ∧ r.2.sem = fun _ => 0)

def quiescent_GluYIdeal_pre_finite_glu [hGluYIdeal : Cert.GluYIdeal.Facts] [hPre_finite_glu : Cert.Pre_finite_glu.Facts] : Prop :=
  ∀ (m : (ℓ : Loc Cert.GluYIdeal.nD Cert.GluYIdeal.τ Cert.GluYIdeal.sig) → Buf (Elt Ideal) ℓ) (g : Dev Cert.GluYIdeal.nD → PrngReg), Pre_GluYIdeal_finite_glu m →
    θ_run (Cert.GluYIdeal.defs (F := Ideal)) (onTc (τ := Cert.GluYIdeal.τ) (Cert.GluYIdeal.main (F := Ideal))) ⟨m, fun _ => 0, g⟩ (fun r => (∀ c : Dev Cert.GluYIdeal.nD,
      r.2.mem ((c.tc : Thread Cert.GluYIdeal.nD Cert.GluYIdeal.τ).loc Cert.GluYIdeal.main_arg0) = m ((c.tc : Thread Cert.GluYIdeal.nD Cert.GluYIdeal.τ).loc Cert.GluYIdeal.main_arg0)
      ∧ r.2.mem ((c.tc : Thread Cert.GluYIdeal.nD Cert.GluYIdeal.τ).loc Cert.GluYIdeal.main_arg1) = m ((c.tc : Thread Cert.GluYIdeal.nD Cert.GluYIdeal.τ).loc Cert.GluYIdeal.main_arg1)
      ∧ r.2.mem ((c.tc : Thread Cert.GluYIdeal.nD Cert.GluYIdeal.τ).loc Cert.GluYIdeal.main_arg2) = m ((c.tc : Thread Cert.GluYIdeal.nD Cert.GluYIdeal.τ).loc Cert.GluYIdeal.main_arg2)
      ∧ r.2.mem ((c.tc : Thread Cert.GluYIdeal.nD Cert.GluYIdeal.τ).loc Cert.GluYIdeal.main_arg3) = m ((c.tc : Thread Cert.GluYIdeal.nD Cert.GluYIdeal.τ).loc Cert.GluYIdeal.main_arg3)
      ∧ r.2.mem ((c.tc : Thread Cert.GluYIdeal.nD Cert.GluYIdeal.τ).loc Cert.GluYIdeal.main_arg4) = m ((c.tc : Thread Cert.GluYIdeal.nD Cert.GluYIdeal.τ).loc Cert.GluYIdeal.main_arg4))
      ∧ r.2.sem = fun _ => 0)

def quiescent_GluYRefIdeal [hGluYRefIdeal : Cert.GluYRefIdeal.Facts] : Prop :=
  ∀ (m : (ℓ : Loc Cert.GluYRefIdeal.nD Cert.GluYRefIdeal.τ Cert.GluYRefIdeal.sig) → Buf (Elt Ideal) ℓ) (g : Dev Cert.GluYRefIdeal.nD → PrngReg), Pre_GluYRefIdeal m →
    θ_run (Cert.GluYRefIdeal.defs (F := Ideal)) (onTc (τ := Cert.GluYRefIdeal.τ) (Cert.GluYRefIdeal.main (F := Ideal))) ⟨m, fun _ => 0, g⟩ (fun r => (∀ c : Dev Cert.GluYRefIdeal.nD,
      r.2.mem ((c.tc : Thread Cert.GluYRefIdeal.nD Cert.GluYRefIdeal.τ).loc Cert.GluYRefIdeal.main_arg0) = m ((c.tc : Thread Cert.GluYRefIdeal.nD Cert.GluYRefIdeal.τ).loc Cert.GluYRefIdeal.main_arg0)
      ∧ r.2.mem ((c.tc : Thread Cert.GluYRefIdeal.nD Cert.GluYRefIdeal.τ).loc Cert.GluYRefIdeal.main_arg1) = m ((c.tc : Thread Cert.GluYRefIdeal.nD Cert.GluYRefIdeal.τ).loc Cert.GluYRefIdeal.main_arg1)
      ∧ r.2.mem ((c.tc : Thread Cert.GluYRefIdeal.nD Cert.GluYRefIdeal.τ).loc Cert.GluYRefIdeal.main_arg2) = m ((c.tc : Thread Cert.GluYRefIdeal.nD Cert.GluYRefIdeal.τ).loc Cert.GluYRefIdeal.main_arg2)
      ∧ r.2.mem ((c.tc : Thread Cert.GluYRefIdeal.nD Cert.GluYRefIdeal.τ).loc Cert.GluYRefIdeal.main_arg3) = m ((c.tc : Thread Cert.GluYRefIdeal.nD Cert.GluYRefIdeal.τ).loc Cert.GluYRefIdeal.main_arg3)
      ∧ r.2.mem ((c.tc : Thread Cert.GluYRefIdeal.nD Cert.GluYRefIdeal.τ).loc Cert.GluYRefIdeal.main_arg4) = m ((c.tc : Thread Cert.GluYRefIdeal.nD Cert.GluYRefIdeal.τ).loc Cert.GluYRefIdeal.main_arg4))
      ∧ r.2.sem = fun _ => 0)

def quiescent_GluYRefIdeal_pre_finite_glu [hGluYRefIdeal : Cert.GluYRefIdeal.Facts] [hPre_finite_glu : Cert.Pre_finite_glu.Facts] : Prop :=
  ∀ (m : (ℓ : Loc Cert.GluYRefIdeal.nD Cert.GluYRefIdeal.τ Cert.GluYRefIdeal.sig) → Buf (Elt Ideal) ℓ) (g : Dev Cert.GluYRefIdeal.nD → PrngReg), Pre_GluYRefIdeal_finite_glu m →
    θ_run (Cert.GluYRefIdeal.defs (F := Ideal)) (onTc (τ := Cert.GluYRefIdeal.τ) (Cert.GluYRefIdeal.main (F := Ideal))) ⟨m, fun _ => 0, g⟩ (fun r => (∀ c : Dev Cert.GluYRefIdeal.nD,
      r.2.mem ((c.tc : Thread Cert.GluYRefIdeal.nD Cert.GluYRefIdeal.τ).loc Cert.GluYRefIdeal.main_arg0) = m ((c.tc : Thread Cert.GluYRefIdeal.nD Cert.GluYRefIdeal.τ).loc Cert.GluYRefIdeal.main_arg0)
      ∧ r.2.mem ((c.tc : Thread Cert.GluYRefIdeal.nD Cert.GluYRefIdeal.τ).loc Cert.GluYRefIdeal.main_arg1) = m ((c.tc : Thread Cert.GluYRefIdeal.nD Cert.GluYRefIdeal.τ).loc Cert.GluYRefIdeal.main_arg1)
      ∧ r.2.mem ((c.tc : Thread Cert.GluYRefIdeal.nD Cert.GluYRefIdeal.τ).loc Cert.GluYRefIdeal.main_arg2) = m ((c.tc : Thread Cert.GluYRefIdeal.nD Cert.GluYRefIdeal.τ).loc Cert.GluYRefIdeal.main_arg2)
      ∧ r.2.mem ((c.tc : Thread Cert.GluYRefIdeal.nD Cert.GluYRefIdeal.τ).loc Cert.GluYRefIdeal.main_arg3) = m ((c.tc : Thread Cert.GluYRefIdeal.nD Cert.GluYRefIdeal.τ).loc Cert.GluYRefIdeal.main_arg3)
      ∧ r.2.mem ((c.tc : Thread Cert.GluYRefIdeal.nD Cert.GluYRefIdeal.τ).loc Cert.GluYRefIdeal.main_arg4) = m ((c.tc : Thread Cert.GluYRefIdeal.nD Cert.GluYRefIdeal.τ).loc Cert.GluYRefIdeal.main_arg4))
      ∧ r.2.sem = fun _ => 0)

def quiescent_Sink [hSink : Cert.Sink.Facts] : Prop :=
  ∀ (m : (ℓ : Loc Cert.Sink.nD Cert.Sink.τ Cert.Sink.sig) → Buf (Elt Bits) ℓ) (g : Dev Cert.Sink.nD → PrngReg), Pre_Sink m →
    θ_run (Cert.Sink.defs (F := Bits)) (onTc (τ := Cert.Sink.τ) (Cert.Sink.main (F := Bits))) ⟨m, fun _ => 0, g⟩ (fun r => (∀ c : Dev Cert.Sink.nD,
      r.2.mem ((c.tc : Thread Cert.Sink.nD Cert.Sink.τ).loc Cert.Sink.main_arg0) = m ((c.tc : Thread Cert.Sink.nD Cert.Sink.τ).loc Cert.Sink.main_arg0)
      ∧ r.2.mem ((c.tc : Thread Cert.Sink.nD Cert.Sink.τ).loc Cert.Sink.main_arg1) = m ((c.tc : Thread Cert.Sink.nD Cert.Sink.τ).loc Cert.Sink.main_arg1)
      ∧ r.2.mem ((c.tc : Thread Cert.Sink.nD Cert.Sink.τ).loc Cert.Sink.main_arg2) = m ((c.tc : Thread Cert.Sink.nD Cert.Sink.τ).loc Cert.Sink.main_arg2))
      ∧ r.2.sem = fun _ => 0)

def quiescent_SinkIdeal [hSinkIdeal : Cert.SinkIdeal.Facts] : Prop :=
  ∀ (m : (ℓ : Loc Cert.SinkIdeal.nD Cert.SinkIdeal.τ Cert.SinkIdeal.sig) → Buf (Elt Ideal) ℓ) (g : Dev Cert.SinkIdeal.nD → PrngReg), Pre_SinkIdeal m →
    θ_run (Cert.SinkIdeal.defs (F := Ideal)) (onTc (τ := Cert.SinkIdeal.τ) (Cert.SinkIdeal.main (F := Ideal))) ⟨m, fun _ => 0, g⟩ (fun r => (∀ c : Dev Cert.SinkIdeal.nD,
      r.2.mem ((c.tc : Thread Cert.SinkIdeal.nD Cert.SinkIdeal.τ).loc Cert.SinkIdeal.main_arg0) = m ((c.tc : Thread Cert.SinkIdeal.nD Cert.SinkIdeal.τ).loc Cert.SinkIdeal.main_arg0)
      ∧ r.2.mem ((c.tc : Thread Cert.SinkIdeal.nD Cert.SinkIdeal.τ).loc Cert.SinkIdeal.main_arg1) = m ((c.tc : Thread Cert.SinkIdeal.nD Cert.SinkIdeal.τ).loc Cert.SinkIdeal.main_arg1)
      ∧ r.2.mem ((c.tc : Thread Cert.SinkIdeal.nD Cert.SinkIdeal.τ).loc Cert.SinkIdeal.main_arg2) = m ((c.tc : Thread Cert.SinkIdeal.nD Cert.SinkIdeal.τ).loc Cert.SinkIdeal.main_arg2))
      ∧ r.2.sem = fun _ => 0)

def quiescent_SinkRefIdeal [hSinkRefIdeal : Cert.SinkRefIdeal.Facts] : Prop :=
  ∀ (m : (ℓ : Loc Cert.SinkRefIdeal.nD Cert.SinkRefIdeal.τ Cert.SinkRefIdeal.sig) → Buf (Elt Ideal) ℓ) (g : Dev Cert.SinkRefIdeal.nD → PrngReg), Pre_SinkRefIdeal m →
    θ_run (Cert.SinkRefIdeal.defs (F := Ideal)) (onTc (τ := Cert.SinkRefIdeal.τ) (Cert.SinkRefIdeal.main (F := Ideal))) ⟨m, fun _ => 0, g⟩ (fun r => (∀ c : Dev Cert.SinkRefIdeal.nD,
      r.2.mem ((c.tc : Thread Cert.SinkRefIdeal.nD Cert.SinkRefIdeal.τ).loc Cert.SinkRefIdeal.main_arg0) = m ((c.tc : Thread Cert.SinkRefIdeal.nD Cert.SinkRefIdeal.τ).loc Cert.SinkRefIdeal.main_arg0)
      ∧ r.2.mem ((c.tc : Thread Cert.SinkRefIdeal.nD Cert.SinkRefIdeal.τ).loc Cert.SinkRefIdeal.main_arg1) = m ((c.tc : Thread Cert.SinkRefIdeal.nD Cert.SinkRefIdeal.τ).loc Cert.SinkRefIdeal.main_arg1)
      ∧ r.2.mem ((c.tc : Thread Cert.SinkRefIdeal.nD Cert.SinkRefIdeal.τ).loc Cert.SinkRefIdeal.main_arg2) = m ((c.tc : Thread Cert.SinkRefIdeal.nD Cert.SinkRefIdeal.τ).loc Cert.SinkRefIdeal.main_arg2))
      ∧ r.2.sem = fun _ => 0)

def quiescent_Adamw [hAdamw : Cert.Adamw.Facts] : Prop :=
  ∀ (m : (ℓ : Loc Cert.Adamw.nD Cert.Adamw.τ Cert.Adamw.sig) → Buf (Elt Bits) ℓ) (g : Dev Cert.Adamw.nD → PrngReg), Pre_Adamw m →
    θ_run (Cert.Adamw.defs (F := Bits)) (onTc (τ := Cert.Adamw.τ) (Cert.Adamw.main (F := Bits))) ⟨m, fun _ => 0, g⟩ (fun r => (∀ c : Dev Cert.Adamw.nD,
      r.2.mem ((c.tc : Thread Cert.Adamw.nD Cert.Adamw.τ).loc Cert.Adamw.main_arg0) = m ((c.tc : Thread Cert.Adamw.nD Cert.Adamw.τ).loc Cert.Adamw.main_arg0)
      ∧ r.2.mem ((c.tc : Thread Cert.Adamw.nD Cert.Adamw.τ).loc Cert.Adamw.main_arg1) = m ((c.tc : Thread Cert.Adamw.nD Cert.Adamw.τ).loc Cert.Adamw.main_arg1)
      ∧ r.2.mem ((c.tc : Thread Cert.Adamw.nD Cert.Adamw.τ).loc Cert.Adamw.main_arg2) = m ((c.tc : Thread Cert.Adamw.nD Cert.Adamw.τ).loc Cert.Adamw.main_arg2)
      ∧ r.2.mem ((c.tc : Thread Cert.Adamw.nD Cert.Adamw.τ).loc Cert.Adamw.main_arg3) = m ((c.tc : Thread Cert.Adamw.nD Cert.Adamw.τ).loc Cert.Adamw.main_arg3))
      ∧ r.2.sem = fun _ => 0)

def quiescent_AdamwIdeal [hAdamwIdeal : Cert.AdamwIdeal.Facts] : Prop :=
  ∀ (m : (ℓ : Loc Cert.AdamwIdeal.nD Cert.AdamwIdeal.τ Cert.AdamwIdeal.sig) → Buf (Elt Ideal) ℓ) (g : Dev Cert.AdamwIdeal.nD → PrngReg), Pre_AdamwIdeal m →
    θ_run (Cert.AdamwIdeal.defs (F := Ideal)) (onTc (τ := Cert.AdamwIdeal.τ) (Cert.AdamwIdeal.main (F := Ideal))) ⟨m, fun _ => 0, g⟩ (fun r => (∀ c : Dev Cert.AdamwIdeal.nD,
      r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
      ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
      ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
      ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ r.2.sem = fun _ => 0)

def quiescent_AdamwRefIdeal [hAdamwRefIdeal : Cert.AdamwRefIdeal.Facts] : Prop :=
  ∀ (m : (ℓ : Loc Cert.AdamwRefIdeal.nD Cert.AdamwRefIdeal.τ Cert.AdamwRefIdeal.sig) → Buf (Elt Ideal) ℓ) (g : Dev Cert.AdamwRefIdeal.nD → PrngReg), Pre_AdamwRefIdeal m →
    θ_run (Cert.AdamwRefIdeal.defs (F := Ideal)) (onTc (τ := Cert.AdamwRefIdeal.τ) (Cert.AdamwRefIdeal.main (F := Ideal))) ⟨m, fun _ => 0, g⟩ (fun r => (∀ c : Dev Cert.AdamwRefIdeal.nD,
      r.2.mem ((c.tc : Thread Cert.AdamwRefIdeal.nD Cert.AdamwRefIdeal.τ).loc Cert.AdamwRefIdeal.main_arg0) = m ((c.tc : Thread Cert.AdamwRefIdeal.nD Cert.AdamwRefIdeal.τ).loc Cert.AdamwRefIdeal.main_arg0)
      ∧ r.2.mem ((c.tc : Thread Cert.AdamwRefIdeal.nD Cert.AdamwRefIdeal.τ).loc Cert.AdamwRefIdeal.main_arg1) = m ((c.tc : Thread Cert.AdamwRefIdeal.nD Cert.AdamwRefIdeal.τ).loc Cert.AdamwRefIdeal.main_arg1)
      ∧ r.2.mem ((c.tc : Thread Cert.AdamwRefIdeal.nD Cert.AdamwRefIdeal.τ).loc Cert.AdamwRefIdeal.main_arg2) = m ((c.tc : Thread Cert.AdamwRefIdeal.nD Cert.AdamwRefIdeal.τ).loc Cert.AdamwRefIdeal.main_arg2)
      ∧ r.2.mem ((c.tc : Thread Cert.AdamwRefIdeal.nD Cert.AdamwRefIdeal.τ).loc Cert.AdamwRefIdeal.main_arg3) = m ((c.tc : Thread Cert.AdamwRefIdeal.nD Cert.AdamwRefIdeal.τ).loc Cert.AdamwRefIdeal.main_arg3))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v109) = v0 c
          ∧ r.2.mem ((c.tc : Thread Cert.ReferenceIdeal.nD Cert.ReferenceIdeal.τ).loc Cert.ReferenceIdeal.main_v110) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_v112) = v3 c
          ∧ r.2.mem ((c.tc : Thread Cert.ReferenceIdeal.nD Cert.ReferenceIdeal.τ).loc Cert.ReferenceIdeal.main_v113) = v4 c
          ∧ r.2.mem ((c.tc : Thread Cert.ReferenceIdeal.nD Cert.ReferenceIdeal.τ).loc Cert.ReferenceIdeal.main_v114) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Dwo_DwoIdeal : Prop :=
  True

def algebraic_DwoIdeal_DwoRefIdeal [hDwoIdeal : Cert.DwoIdeal.Facts] [hDwoRefIdeal : Cert.DwoRefIdeal.Facts] : Prop :=
  ∀ (m : (ℓ : Loc Cert.DwoIdeal.nD Cert.DwoIdeal.τ Cert.DwoIdeal.sig) → Buf (Elt Ideal) ℓ) (g : Dev Cert.DwoIdeal.nD → PrngReg)
    (m' : (ℓ : Loc Cert.DwoRefIdeal.nD Cert.DwoRefIdeal.τ Cert.DwoRefIdeal.sig) → Buf (Elt Ideal) ℓ) (g' : Dev Cert.DwoRefIdeal.nD → PrngReg), Pre_DwoIdeal m →
    (∀ c : Dev Cert.DwoIdeal.nD,
      m' ((c.tc : Thread Cert.DwoRefIdeal.nD Cert.DwoRefIdeal.τ).loc Cert.DwoRefIdeal.main_arg0) = m ((c.tc : Thread Cert.DwoIdeal.nD Cert.DwoIdeal.τ).loc Cert.DwoIdeal.main_arg0)
      ∧ m' ((c.tc : Thread Cert.DwoRefIdeal.nD Cert.DwoRefIdeal.τ).loc Cert.DwoRefIdeal.main_arg1) = m ((c.tc : Thread Cert.DwoIdeal.nD Cert.DwoIdeal.τ).loc Cert.DwoIdeal.main_arg1)) →
    ∃ (v0 : (c : Dev Cert.DwoIdeal.nD) → Buf (Elt Ideal) ((c.tc : Thread Cert.DwoIdeal.nD Cert.DwoIdeal.τ).loc Cert.DwoIdeal.main_v0)),
      θ_run (Cert.DwoIdeal.defs (F := Ideal)) (onTc (τ := Cert.DwoIdeal.τ) (Cert.DwoIdeal.main (F := Ideal))) ⟨m, fun _ => 0, g⟩ (fun r => ∀ c : Dev Cert.DwoIdeal.nD,
          r.2.mem ((c.tc : Thread Cert.DwoIdeal.nD Cert.DwoIdeal.τ).loc Cert.DwoIdeal.main_v0) = v0 c
          ∧ r.2.mem ((c.tc : Thread Cert.DwoIdeal.nD Cert.DwoIdeal.τ).loc Cert.DwoIdeal.main_arg0) = m ((c.tc : Thread Cert.DwoIdeal.nD Cert.DwoIdeal.τ).loc Cert.DwoIdeal.main_arg0)
          ∧ r.2.mem ((c.tc : Thread Cert.DwoIdeal.nD Cert.DwoIdeal.τ).loc Cert.DwoIdeal.main_arg1) = m ((c.tc : Thread Cert.DwoIdeal.nD Cert.DwoIdeal.τ).loc Cert.DwoIdeal.main_arg1))
      ∧ θ_run (Cert.DwoRefIdeal.defs (F := Ideal)) (onTc (τ := Cert.DwoRefIdeal.τ) (Cert.DwoRefIdeal.main (F := Ideal))) ⟨m', fun _ => 0, g'⟩ (fun r => ∀ c : Dev Cert.DwoRefIdeal.nD,
          r.2.mem ((c.tc : Thread Cert.DwoRefIdeal.nD Cert.DwoRefIdeal.τ).loc Cert.DwoRefIdeal.main_v6) = v0 c
          ∧ r.2.mem ((c.tc : Thread Cert.DwoRefIdeal.nD Cert.DwoRefIdeal.τ).loc Cert.DwoRefIdeal.main_arg0) = m' ((c.tc : Thread Cert.DwoRefIdeal.nD Cert.DwoRefIdeal.τ).loc Cert.DwoRefIdeal.main_arg0)
          ∧ r.2.mem ((c.tc : Thread Cert.DwoRefIdeal.nD Cert.DwoRefIdeal.τ).loc Cert.DwoRefIdeal.main_arg1) = m' ((c.tc : Thread Cert.DwoRefIdeal.nD Cert.DwoRefIdeal.τ).loc Cert.DwoRefIdeal.main_arg1))

def preserves_Dwi_DwiIdeal : Prop :=
  True

def algebraic_DwiIdeal_DwiRefIdeal [hDwiIdeal : Cert.DwiIdeal.Facts] [hDwiRefIdeal : Cert.DwiRefIdeal.Facts] : Prop :=
  ∀ (m : (ℓ : Loc Cert.DwiIdeal.nD Cert.DwiIdeal.τ Cert.DwiIdeal.sig) → Buf (Elt Ideal) ℓ) (g : Dev Cert.DwiIdeal.nD → PrngReg)
    (m' : (ℓ : Loc Cert.DwiRefIdeal.nD Cert.DwiRefIdeal.τ Cert.DwiRefIdeal.sig) → Buf (Elt Ideal) ℓ) (g' : Dev Cert.DwiRefIdeal.nD → PrngReg), Pre_DwiIdeal m →
    (∀ c : Dev Cert.DwiIdeal.nD,
      m' ((c.tc : Thread Cert.DwiRefIdeal.nD Cert.DwiRefIdeal.τ).loc Cert.DwiRefIdeal.main_arg0) = m ((c.tc : Thread Cert.DwiIdeal.nD Cert.DwiIdeal.τ).loc Cert.DwiIdeal.main_arg0)
      ∧ m' ((c.tc : Thread Cert.DwiRefIdeal.nD Cert.DwiRefIdeal.τ).loc Cert.DwiRefIdeal.main_arg1) = m ((c.tc : Thread Cert.DwiIdeal.nD Cert.DwiIdeal.τ).loc Cert.DwiIdeal.main_arg1)) →
    ∃ (v0 : (c : Dev Cert.DwiIdeal.nD) → Buf (Elt Ideal) ((c.tc : Thread Cert.DwiIdeal.nD Cert.DwiIdeal.τ).loc Cert.DwiIdeal.main_v0)),
      θ_run (Cert.DwiIdeal.defs (F := Ideal)) (onTc (τ := Cert.DwiIdeal.τ) (Cert.DwiIdeal.main (F := Ideal))) ⟨m, fun _ => 0, g⟩ (fun r => ∀ c : Dev Cert.DwiIdeal.nD,
          r.2.mem ((c.tc : Thread Cert.DwiIdeal.nD Cert.DwiIdeal.τ).loc Cert.DwiIdeal.main_v0) = v0 c
          ∧ r.2.mem ((c.tc : Thread Cert.DwiIdeal.nD Cert.DwiIdeal.τ).loc Cert.DwiIdeal.main_arg0) = m ((c.tc : Thread Cert.DwiIdeal.nD Cert.DwiIdeal.τ).loc Cert.DwiIdeal.main_arg0)
          ∧ r.2.mem ((c.tc : Thread Cert.DwiIdeal.nD Cert.DwiIdeal.τ).loc Cert.DwiIdeal.main_arg1) = m ((c.tc : Thread Cert.DwiIdeal.nD Cert.DwiIdeal.τ).loc Cert.DwiIdeal.main_arg1))
      ∧ θ_run (Cert.DwiRefIdeal.defs (F := Ideal)) (onTc (τ := Cert.DwiRefIdeal.τ) (Cert.DwiRefIdeal.main (F := Ideal))) ⟨m', fun _ => 0, g'⟩ (fun r => ∀ c : Dev Cert.DwiRefIdeal.nD,
          r.2.mem ((c.tc : Thread Cert.DwiRefIdeal.nD Cert.DwiRefIdeal.τ).loc Cert.DwiRefIdeal.main_v6) = v0 c
          ∧ r.2.mem ((c.tc : Thread Cert.DwiRefIdeal.nD Cert.DwiRefIdeal.τ).loc Cert.DwiRefIdeal.main_arg0) = m' ((c.tc : Thread Cert.DwiRefIdeal.nD Cert.DwiRefIdeal.τ).loc Cert.DwiRefIdeal.main_arg0)
          ∧ r.2.mem ((c.tc : Thread Cert.DwiRefIdeal.nD Cert.DwiRefIdeal.τ).loc Cert.DwiRefIdeal.main_arg1) = m' ((c.tc : Thread Cert.DwiRefIdeal.nD Cert.DwiRefIdeal.τ).loc Cert.DwiRefIdeal.main_arg1))

def preserves_Act_ActIdeal : Prop :=
  IdealRules.named_const.Statement Cert.ActIdeal.κ "gelu_a" .f32 0x3D372713#32 ((8943 / 200000 : ℝ) : EReal)

def algebraic_ActIdeal_ActRefIdeal [hActIdeal : Cert.ActIdeal.Facts] [hActRefIdeal : Cert.ActRefIdeal.Facts] : Prop :=
  ∀ (m : (ℓ : Loc Cert.ActIdeal.nD Cert.ActIdeal.τ Cert.ActIdeal.sig) → Buf (Elt Ideal) ℓ) (g : Dev Cert.ActIdeal.nD → PrngReg)
    (m' : (ℓ : Loc Cert.ActRefIdeal.nD Cert.ActRefIdeal.τ Cert.ActRefIdeal.sig) → Buf (Elt Ideal) ℓ) (g' : Dev Cert.ActRefIdeal.nD → PrngReg), Pre_ActIdeal m →
    (∀ c : Dev Cert.ActIdeal.nD,
      m' ((c.tc : Thread Cert.ActRefIdeal.nD Cert.ActRefIdeal.τ).loc Cert.ActRefIdeal.main_arg0) = m ((c.tc : Thread Cert.ActIdeal.nD Cert.ActIdeal.τ).loc Cert.ActIdeal.main_arg0)
      ∧ m' ((c.tc : Thread Cert.ActRefIdeal.nD Cert.ActRefIdeal.τ).loc Cert.ActRefIdeal.main_arg1) = m ((c.tc : Thread Cert.ActIdeal.nD Cert.ActIdeal.τ).loc Cert.ActIdeal.main_arg1)
      ∧ m' ((c.tc : Thread Cert.ActRefIdeal.nD Cert.ActRefIdeal.τ).loc Cert.ActRefIdeal.main_arg2) = m ((c.tc : Thread Cert.ActIdeal.nD Cert.ActIdeal.τ).loc Cert.ActIdeal.main_arg2)) →
    ∃ (v0 : (c : Dev Cert.ActIdeal.nD) → Buf (Elt Ideal) ((c.tc : Thread Cert.ActIdeal.nD Cert.ActIdeal.τ).loc Cert.ActIdeal.main_v0)),
      θ_run (Cert.ActIdeal.defs (F := Ideal)) (onTc (τ := Cert.ActIdeal.τ) (Cert.ActIdeal.main (F := Ideal))) ⟨m, fun _ => 0, g⟩ (fun r => ∀ c : Dev Cert.ActIdeal.nD,
          r.2.mem ((c.tc : Thread Cert.ActIdeal.nD Cert.ActIdeal.τ).loc Cert.ActIdeal.main_v0) = v0 c
          ∧ r.2.mem ((c.tc : Thread Cert.ActIdeal.nD Cert.ActIdeal.τ).loc Cert.ActIdeal.main_arg0) = m ((c.tc : Thread Cert.ActIdeal.nD Cert.ActIdeal.τ).loc Cert.ActIdeal.main_arg0)
          ∧ r.2.mem ((c.tc : Thread Cert.ActIdeal.nD Cert.ActIdeal.τ).loc Cert.ActIdeal.main_arg1) = m ((c.tc : Thread Cert.ActIdeal.nD Cert.ActIdeal.τ).loc Cert.ActIdeal.main_arg1)
          ∧ r.2.mem ((c.tc : Thread Cert.ActIdeal.nD Cert.ActIdeal.τ).loc Cert.ActIdeal.main_arg2) = m ((c.tc : Thread Cert.ActIdeal.nD Cert.ActIdeal.τ).loc Cert.ActIdeal.main_arg2))
      ∧ θ_run (Cert.ActRefIdeal.defs (F := Ideal)) (onTc (τ := Cert.ActRefIdeal.τ) (Cert.ActRefIdeal.main (F := Ideal))) ⟨m', fun _ => 0, g'⟩ (fun r => ∀ c : Dev Cert.ActRefIdeal.nD,
          r.2.mem ((c.tc : Thread Cert.ActRefIdeal.nD Cert.ActRefIdeal.τ).loc Cert.ActRefIdeal.main_v45) = v0 c
          ∧ r.2.mem ((c.tc : Thread Cert.ActRefIdeal.nD Cert.ActRefIdeal.τ).loc Cert.ActRefIdeal.main_arg0) = m' ((c.tc : Thread Cert.ActRefIdeal.nD Cert.ActRefIdeal.τ).loc Cert.ActRefIdeal.main_arg0)
          ∧ r.2.mem ((c.tc : Thread Cert.ActRefIdeal.nD Cert.ActRefIdeal.τ).loc Cert.ActRefIdeal.main_arg1) = m' ((c.tc : Thread Cert.ActRefIdeal.nD Cert.ActRefIdeal.τ).loc Cert.ActRefIdeal.main_arg1)
          ∧ r.2.mem ((c.tc : Thread Cert.ActRefIdeal.nD Cert.ActRefIdeal.τ).loc Cert.ActRefIdeal.main_arg2) = m' ((c.tc : Thread Cert.ActRefIdeal.nD Cert.ActRefIdeal.τ).loc Cert.ActRefIdeal.main_arg2))

def preserves_Dact0_Dact0Ideal : Prop :=
  True

def algebraic_Dact0Ideal_Dact0RefIdeal [hDact0Ideal : Cert.Dact0Ideal.Facts] [hDact0RefIdeal : Cert.Dact0RefIdeal.Facts] : Prop :=
  ∀ (m : (ℓ : Loc Cert.Dact0Ideal.nD Cert.Dact0Ideal.τ Cert.Dact0Ideal.sig) → Buf (Elt Ideal) ℓ) (g : Dev Cert.Dact0Ideal.nD → PrngReg)
    (m' : (ℓ : Loc Cert.Dact0RefIdeal.nD Cert.Dact0RefIdeal.τ Cert.Dact0RefIdeal.sig) → Buf (Elt Ideal) ℓ) (g' : Dev Cert.Dact0RefIdeal.nD → PrngReg), Pre_Dact0Ideal m →
    (∀ c : Dev Cert.Dact0Ideal.nD,
      m' ((c.tc : Thread Cert.Dact0RefIdeal.nD Cert.Dact0RefIdeal.τ).loc Cert.Dact0RefIdeal.main_arg0) = m ((c.tc : Thread Cert.Dact0Ideal.nD Cert.Dact0Ideal.τ).loc Cert.Dact0Ideal.main_arg0)
      ∧ m' ((c.tc : Thread Cert.Dact0RefIdeal.nD Cert.Dact0RefIdeal.τ).loc Cert.Dact0RefIdeal.main_arg1) = m ((c.tc : Thread Cert.Dact0Ideal.nD Cert.Dact0Ideal.τ).loc Cert.Dact0Ideal.main_arg1)) →
    ∃ (v0 : (c : Dev Cert.Dact0Ideal.nD) → Buf (Elt Ideal) ((c.tc : Thread Cert.Dact0Ideal.nD Cert.Dact0Ideal.τ).loc Cert.Dact0Ideal.main_v0)),
      θ_run (Cert.Dact0Ideal.defs (F := Ideal)) (onTc (τ := Cert.Dact0Ideal.τ) (Cert.Dact0Ideal.main (F := Ideal))) ⟨m, fun _ => 0, g⟩ (fun r => ∀ c : Dev Cert.Dact0Ideal.nD,
          r.2.mem ((c.tc : Thread Cert.Dact0Ideal.nD Cert.Dact0Ideal.τ).loc Cert.Dact0Ideal.main_v0) = v0 c
          ∧ r.2.mem ((c.tc : Thread Cert.Dact0Ideal.nD Cert.Dact0Ideal.τ).loc Cert.Dact0Ideal.main_arg0) = m ((c.tc : Thread Cert.Dact0Ideal.nD Cert.Dact0Ideal.τ).loc Cert.Dact0Ideal.main_arg0)
          ∧ r.2.mem ((c.tc : Thread Cert.Dact0Ideal.nD Cert.Dact0Ideal.τ).loc Cert.Dact0Ideal.main_arg1) = m ((c.tc : Thread Cert.Dact0Ideal.nD Cert.Dact0Ideal.τ).loc Cert.Dact0Ideal.main_arg1))
      ∧ θ_run (Cert.Dact0RefIdeal.defs (F := Ideal)) (onTc (τ := Cert.Dact0RefIdeal.τ) (Cert.Dact0RefIdeal.main (F := Ideal))) ⟨m', fun _ => 0, g'⟩ (fun r => ∀ c : Dev Cert.Dact0RefIdeal.nD,
          r.2.mem ((c.tc : Thread Cert.Dact0RefIdeal.nD Cert.Dact0RefIdeal.τ).loc Cert.Dact0RefIdeal.main_v6) = v0 c
          ∧ r.2.mem ((c.tc : Thread Cert.Dact0RefIdeal.nD Cert.Dact0RefIdeal.τ).loc Cert.Dact0RefIdeal.main_arg0) = m' ((c.tc : Thread Cert.Dact0RefIdeal.nD Cert.Dact0RefIdeal.τ).loc Cert.Dact0RefIdeal.main_arg0)
          ∧ r.2.mem ((c.tc : Thread Cert.Dact0RefIdeal.nD Cert.Dact0RefIdeal.τ).loc Cert.Dact0RefIdeal.main_arg1) = m' ((c.tc : Thread Cert.Dact0RefIdeal.nD Cert.Dact0RefIdeal.τ).loc Cert.Dact0RefIdeal.main_arg1))

def preserves_Dh0_Dh0Ideal : Prop :=
  True

def algebraic_Dh0Ideal_Dh0RefIdeal [hDh0Ideal : Cert.Dh0Ideal.Facts] [hDh0RefIdeal : Cert.Dh0RefIdeal.Facts] : Prop :=
  ∀ (m : (ℓ : Loc Cert.Dh0Ideal.nD Cert.Dh0Ideal.τ Cert.Dh0Ideal.sig) → Buf (Elt Ideal) ℓ) (g : Dev Cert.Dh0Ideal.nD → PrngReg)
    (m' : (ℓ : Loc Cert.Dh0RefIdeal.nD Cert.Dh0RefIdeal.τ Cert.Dh0RefIdeal.sig) → Buf (Elt Ideal) ℓ) (g' : Dev Cert.Dh0RefIdeal.nD → PrngReg), Pre_Dh0Ideal m →
    (∀ c : Dev Cert.Dh0Ideal.nD,
      m' ((c.tc : Thread Cert.Dh0RefIdeal.nD Cert.Dh0RefIdeal.τ).loc Cert.Dh0RefIdeal.main_arg0) = m ((c.tc : Thread Cert.Dh0Ideal.nD Cert.Dh0Ideal.τ).loc Cert.Dh0Ideal.main_arg0)
      ∧ m' ((c.tc : Thread Cert.Dh0RefIdeal.nD Cert.Dh0RefIdeal.τ).loc Cert.Dh0RefIdeal.main_arg1) = m ((c.tc : Thread Cert.Dh0Ideal.nD Cert.Dh0Ideal.τ).loc Cert.Dh0Ideal.main_arg1)) →
    ∃ (v0 : (c : Dev Cert.Dh0Ideal.nD) → Buf (Elt Ideal) ((c.tc : Thread Cert.Dh0Ideal.nD Cert.Dh0Ideal.τ).loc Cert.Dh0Ideal.main_v0)),
      θ_run (Cert.Dh0Ideal.defs (F := Ideal)) (onTc (τ := Cert.Dh0Ideal.τ) (Cert.Dh0Ideal.main (F := Ideal))) ⟨m, fun _ => 0, g⟩ (fun r => ∀ c : Dev Cert.Dh0Ideal.nD,
          r.2.mem ((c.tc : Thread Cert.Dh0Ideal.nD Cert.Dh0Ideal.τ).loc Cert.Dh0Ideal.main_v0) = v0 c
          ∧ r.2.mem ((c.tc : Thread Cert.Dh0Ideal.nD Cert.Dh0Ideal.τ).loc Cert.Dh0Ideal.main_arg0) = m ((c.tc : Thread Cert.Dh0Ideal.nD Cert.Dh0Ideal.τ).loc Cert.Dh0Ideal.main_arg0)
          ∧ r.2.mem ((c.tc : Thread Cert.Dh0Ideal.nD Cert.Dh0Ideal.τ).loc Cert.Dh0Ideal.main_arg1) = m ((c.tc : Thread Cert.Dh0Ideal.nD Cert.Dh0Ideal.τ).loc Cert.Dh0Ideal.main_arg1))
      ∧ θ_run (Cert.Dh0RefIdeal.defs (F := Ideal)) (onTc (τ := Cert.Dh0RefIdeal.τ) (Cert.Dh0RefIdeal.main (F := Ideal))) ⟨m', fun _ => 0, g'⟩ (fun r => ∀ c : Dev Cert.Dh0RefIdeal.nD,
          r.2.mem ((c.tc : Thread Cert.Dh0RefIdeal.nD Cert.Dh0RefIdeal.τ).loc Cert.Dh0RefIdeal.main_v6) = v0 c
          ∧ r.2.mem ((c.tc : Thread Cert.Dh0RefIdeal.nD Cert.Dh0RefIdeal.τ).loc Cert.Dh0RefIdeal.main_arg0) = m' ((c.tc : Thread Cert.Dh0RefIdeal.nD Cert.Dh0RefIdeal.τ).loc Cert.Dh0RefIdeal.main_arg0)
          ∧ r.2.mem ((c.tc : Thread Cert.Dh0RefIdeal.nD Cert.Dh0RefIdeal.τ).loc Cert.Dh0RefIdeal.main_arg1) = m' ((c.tc : Thread Cert.Dh0RefIdeal.nD Cert.Dh0RefIdeal.τ).loc Cert.Dh0RefIdeal.main_arg1))

def preserves_In0_In0Ideal : Prop :=
  True

def algebraic_In0Ideal_In0RefIdeal [hIn0Ideal : Cert.In0Ideal.Facts] [hIn0RefIdeal : Cert.In0RefIdeal.Facts] : Prop :=
  ∀ (m : (ℓ : Loc Cert.In0Ideal.nD Cert.In0Ideal.τ Cert.In0Ideal.sig) → Buf (Elt Ideal) ℓ) (g : Dev Cert.In0Ideal.nD → PrngReg)
    (m' : (ℓ : Loc Cert.In0RefIdeal.nD Cert.In0RefIdeal.τ Cert.In0RefIdeal.sig) → Buf (Elt Ideal) ℓ) (g' : Dev Cert.In0RefIdeal.nD → PrngReg), Pre_In0Ideal m →
    (∀ c : Dev Cert.In0Ideal.nD,
      m' ((c.tc : Thread Cert.In0RefIdeal.nD Cert.In0RefIdeal.τ).loc Cert.In0RefIdeal.main_arg0) = m ((c.tc : Thread Cert.In0Ideal.nD Cert.In0Ideal.τ).loc Cert.In0Ideal.main_arg0)
      ∧ m' ((c.tc : Thread Cert.In0RefIdeal.nD Cert.In0RefIdeal.τ).loc Cert.In0RefIdeal.main_arg1) = m ((c.tc : Thread Cert.In0Ideal.nD Cert.In0Ideal.τ).loc Cert.In0Ideal.main_arg1)) →
    ∃ (v0 : (c : Dev Cert.In0Ideal.nD) → Buf (Elt Ideal) ((c.tc : Thread Cert.In0Ideal.nD Cert.In0Ideal.τ).loc Cert.In0Ideal.main_v0)),
      θ_run (Cert.In0Ideal.defs (F := Ideal)) (onTc (τ := Cert.In0Ideal.τ) (Cert.In0Ideal.main (F := Ideal))) ⟨m, fun _ => 0, g⟩ (fun r => ∀ c : Dev Cert.In0Ideal.nD,
          r.2.mem ((c.tc : Thread Cert.In0Ideal.nD Cert.In0Ideal.τ).loc Cert.In0Ideal.main_v0) = v0 c
          ∧ r.2.mem ((c.tc : Thread Cert.In0Ideal.nD Cert.In0Ideal.τ).loc Cert.In0Ideal.main_arg0) = m ((c.tc : Thread Cert.In0Ideal.nD Cert.In0Ideal.τ).loc Cert.In0Ideal.main_arg0)
          ∧ r.2.mem ((c.tc : Thread Cert.In0Ideal.nD Cert.In0Ideal.τ).loc Cert.In0Ideal.main_arg1) = m ((c.tc : Thread Cert.In0Ideal.nD Cert.In0Ideal.τ).loc Cert.In0Ideal.main_arg1))
      ∧ θ_run (Cert.In0RefIdeal.defs (F := Ideal)) (onTc (τ := Cert.In0RefIdeal.τ) (Cert.In0RefIdeal.main (F := Ideal))) ⟨m', fun _ => 0, g'⟩ (fun r => ∀ c : Dev Cert.In0RefIdeal.nD,
          r.2.mem ((c.tc : Thread Cert.In0RefIdeal.nD Cert.In0RefIdeal.τ).loc Cert.In0RefIdeal.main_v4) = v0 c
          ∧ r.2.mem ((c.tc : Thread Cert.In0RefIdeal.nD Cert.In0RefIdeal.τ).loc Cert.In0RefIdeal.main_arg0) = m' ((c.tc : Thread Cert.In0RefIdeal.nD Cert.In0RefIdeal.τ).loc Cert.In0RefIdeal.main_arg0)
          ∧ r.2.mem ((c.tc : Thread Cert.In0RefIdeal.nD Cert.In0RefIdeal.τ).loc Cert.In0RefIdeal.main_arg1) = m' ((c.tc : Thread Cert.In0RefIdeal.nD Cert.In0RefIdeal.τ).loc Cert.In0RefIdeal.main_arg1))

def preserves_Out0_Out0Ideal : Prop :=
  True

def algebraic_Out0Ideal_Out0RefIdeal [hOut0Ideal : Cert.Out0Ideal.Facts] [hOut0RefIdeal : Cert.Out0RefIdeal.Facts] : Prop :=
  ∀ (m : (ℓ : Loc Cert.Out0Ideal.nD Cert.Out0Ideal.τ Cert.Out0Ideal.sig) → Buf (Elt Ideal) ℓ) (g : Dev Cert.Out0Ideal.nD → PrngReg)
    (m' : (ℓ : Loc Cert.Out0RefIdeal.nD Cert.Out0RefIdeal.τ Cert.Out0RefIdeal.sig) → Buf (Elt Ideal) ℓ) (g' : Dev Cert.Out0RefIdeal.nD → PrngReg), Pre_Out0Ideal m →
    (∀ c : Dev Cert.Out0Ideal.nD,
      m' ((c.tc : Thread Cert.Out0RefIdeal.nD Cert.Out0RefIdeal.τ).loc Cert.Out0RefIdeal.main_arg0) = m ((c.tc : Thread Cert.Out0Ideal.nD Cert.Out0Ideal.τ).loc Cert.Out0Ideal.main_arg0)
      ∧ m' ((c.tc : Thread Cert.Out0RefIdeal.nD Cert.Out0RefIdeal.τ).loc Cert.Out0RefIdeal.main_arg1) = m ((c.tc : Thread Cert.Out0Ideal.nD Cert.Out0Ideal.τ).loc Cert.Out0Ideal.main_arg1)) →
    ∃ (v0 : (c : Dev Cert.Out0Ideal.nD) → Buf (Elt Ideal) ((c.tc : Thread Cert.Out0Ideal.nD Cert.Out0Ideal.τ).loc Cert.Out0Ideal.main_v0)),
      θ_run (Cert.Out0Ideal.defs (F := Ideal)) (onTc (τ := Cert.Out0Ideal.τ) (Cert.Out0Ideal.main (F := Ideal))) ⟨m, fun _ => 0, g⟩ (fun r => ∀ c : Dev Cert.Out0Ideal.nD,
          r.2.mem ((c.tc : Thread Cert.Out0Ideal.nD Cert.Out0Ideal.τ).loc Cert.Out0Ideal.main_v0) = v0 c
          ∧ r.2.mem ((c.tc : Thread Cert.Out0Ideal.nD Cert.Out0Ideal.τ).loc Cert.Out0Ideal.main_arg0) = m ((c.tc : Thread Cert.Out0Ideal.nD Cert.Out0Ideal.τ).loc Cert.Out0Ideal.main_arg0)
          ∧ r.2.mem ((c.tc : Thread Cert.Out0Ideal.nD Cert.Out0Ideal.τ).loc Cert.Out0Ideal.main_arg1) = m ((c.tc : Thread Cert.Out0Ideal.nD Cert.Out0Ideal.τ).loc Cert.Out0Ideal.main_arg1))
      ∧ θ_run (Cert.Out0RefIdeal.defs (F := Ideal)) (onTc (τ := Cert.Out0RefIdeal.τ) (Cert.Out0RefIdeal.main (F := Ideal))) ⟨m', fun _ => 0, g'⟩ (fun r => ∀ c : Dev Cert.Out0RefIdeal.nD,
          r.2.mem ((c.tc : Thread Cert.Out0RefIdeal.nD Cert.Out0RefIdeal.τ).loc Cert.Out0RefIdeal.main_v4) = v0 c
          ∧ r.2.mem ((c.tc : Thread Cert.Out0RefIdeal.nD Cert.Out0RefIdeal.τ).loc Cert.Out0RefIdeal.main_arg0) = m' ((c.tc : Thread Cert.Out0RefIdeal.nD Cert.Out0RefIdeal.τ).loc Cert.Out0RefIdeal.main_arg0)
          ∧ r.2.mem ((c.tc : Thread Cert.Out0RefIdeal.nD Cert.Out0RefIdeal.τ).loc Cert.Out0RefIdeal.main_arg1) = m' ((c.tc : Thread Cert.Out0RefIdeal.nD Cert.Out0RefIdeal.τ).loc Cert.Out0RefIdeal.main_arg1))

def preserves_Dact1_Dact1Ideal : Prop :=
  True

def algebraic_Dact1Ideal_Dact1RefIdeal [hDact1Ideal : Cert.Dact1Ideal.Facts] [hDact1RefIdeal : Cert.Dact1RefIdeal.Facts] : Prop :=
  ∀ (m : (ℓ : Loc Cert.Dact1Ideal.nD Cert.Dact1Ideal.τ Cert.Dact1Ideal.sig) → Buf (Elt Ideal) ℓ) (g : Dev Cert.Dact1Ideal.nD → PrngReg)
    (m' : (ℓ : Loc Cert.Dact1RefIdeal.nD Cert.Dact1RefIdeal.τ Cert.Dact1RefIdeal.sig) → Buf (Elt Ideal) ℓ) (g' : Dev Cert.Dact1RefIdeal.nD → PrngReg), Pre_Dact1Ideal m →
    (∀ c : Dev Cert.Dact1Ideal.nD,
      m' ((c.tc : Thread Cert.Dact1RefIdeal.nD Cert.Dact1RefIdeal.τ).loc Cert.Dact1RefIdeal.main_arg0) = m ((c.tc : Thread Cert.Dact1Ideal.nD Cert.Dact1Ideal.τ).loc Cert.Dact1Ideal.main_arg0)
      ∧ m' ((c.tc : Thread Cert.Dact1RefIdeal.nD Cert.Dact1RefIdeal.τ).loc Cert.Dact1RefIdeal.main_arg1) = m ((c.tc : Thread Cert.Dact1Ideal.nD Cert.Dact1Ideal.τ).loc Cert.Dact1Ideal.main_arg1)) →
    ∃ (v0 : (c : Dev Cert.Dact1Ideal.nD) → Buf (Elt Ideal) ((c.tc : Thread Cert.Dact1Ideal.nD Cert.Dact1Ideal.τ).loc Cert.Dact1Ideal.main_v0)),
      θ_run (Cert.Dact1Ideal.defs (F := Ideal)) (onTc (τ := Cert.Dact1Ideal.τ) (Cert.Dact1Ideal.main (F := Ideal))) ⟨m, fun _ => 0, g⟩ (fun r => ∀ c : Dev Cert.Dact1Ideal.nD,
          r.2.mem ((c.tc : Thread Cert.Dact1Ideal.nD Cert.Dact1Ideal.τ).loc Cert.Dact1Ideal.main_v0) = v0 c
          ∧ r.2.mem ((c.tc : Thread Cert.Dact1Ideal.nD Cert.Dact1Ideal.τ).loc Cert.Dact1Ideal.main_arg0) = m ((c.tc : Thread Cert.Dact1Ideal.nD Cert.Dact1Ideal.τ).loc Cert.Dact1Ideal.main_arg0)
          ∧ r.2.mem ((c.tc : Thread Cert.Dact1Ideal.nD Cert.Dact1Ideal.τ).loc Cert.Dact1Ideal.main_arg1) = m ((c.tc : Thread Cert.Dact1Ideal.nD Cert.Dact1Ideal.τ).loc Cert.Dact1Ideal.main_arg1))
      ∧ θ_run (Cert.Dact1RefIdeal.defs (F := Ideal)) (onTc (τ := Cert.Dact1RefIdeal.τ) (Cert.Dact1RefIdeal.main (F := Ideal))) ⟨m', fun _ => 0, g'⟩ (fun r => ∀ c : Dev Cert.Dact1RefIdeal.nD,
          r.2.mem ((c.tc : Thread Cert.Dact1RefIdeal.nD Cert.Dact1RefIdeal.τ).loc Cert.Dact1RefIdeal.main_v6) = v0 c
          ∧ r.2.mem ((c.tc : Thread Cert.Dact1RefIdeal.nD Cert.Dact1RefIdeal.τ).loc Cert.Dact1RefIdeal.main_arg0) = m' ((c.tc : Thread Cert.Dact1RefIdeal.nD Cert.Dact1RefIdeal.τ).loc Cert.Dact1RefIdeal.main_arg0)
          ∧ r.2.mem ((c.tc : Thread Cert.Dact1RefIdeal.nD Cert.Dact1RefIdeal.τ).loc Cert.Dact1RefIdeal.main_arg1) = m' ((c.tc : Thread Cert.Dact1RefIdeal.nD Cert.Dact1RefIdeal.τ).loc Cert.Dact1RefIdeal.main_arg1))

def preserves_Dh1_Dh1Ideal : Prop :=
  True

def algebraic_Dh1Ideal_Dh1RefIdeal [hDh1Ideal : Cert.Dh1Ideal.Facts] [hDh1RefIdeal : Cert.Dh1RefIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1RefIdeal.nD Cert.Dh1RefIdeal.τ Cert.Dh1RefIdeal.sig) → Buf (Elt Ideal) ℓ) (g' : Dev Cert.Dh1RefIdeal.nD → PrngReg), Pre_Dh1Ideal m →
    (∀ c : Dev Cert.Dh1Ideal.nD,
      m' ((c.tc : Thread Cert.Dh1RefIdeal.nD Cert.Dh1RefIdeal.τ).loc Cert.Dh1RefIdeal.main_arg0) = m ((c.tc : Thread Cert.Dh1Ideal.nD Cert.Dh1Ideal.τ).loc Cert.Dh1Ideal.main_arg0)
      ∧ m' ((c.tc : Thread Cert.Dh1RefIdeal.nD Cert.Dh1RefIdeal.τ).loc Cert.Dh1RefIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1RefIdeal.defs (F := Ideal)) (onTc (τ := Cert.Dh1RefIdeal.τ) (Cert.Dh1RefIdeal.main (F := Ideal))) ⟨m', fun _ => 0, g'⟩ (fun r => ∀ c : Dev Cert.Dh1RefIdeal.nD,
          r.2.mem ((c.tc : Thread Cert.Dh1RefIdeal.nD Cert.Dh1RefIdeal.τ).loc Cert.Dh1RefIdeal.main_v6) = v0 c
          ∧ r.2.mem ((c.tc : Thread Cert.Dh1RefIdeal.nD Cert.Dh1RefIdeal.τ).loc Cert.Dh1RefIdeal.main_arg0) = m' ((c.tc : Thread Cert.Dh1RefIdeal.nD Cert.Dh1RefIdeal.τ).loc Cert.Dh1RefIdeal.main_arg0)
          ∧ r.2.mem ((c.tc : Thread Cert.Dh1RefIdeal.nD Cert.Dh1RefIdeal.τ).loc Cert.Dh1RefIdeal.main_arg1) = m' ((c.tc : Thread Cert.Dh1RefIdeal.nD Cert.Dh1RefIdeal.τ).loc Cert.Dh1RefIdeal.main_arg1))

def preserves_In1_In1Ideal : Prop :=
  True

def algebraic_In1Ideal_In1RefIdeal [hIn1Ideal : Cert.In1Ideal.Facts] [hIn1RefIdeal : Cert.In1RefIdeal.Facts] : Prop :=
  ∀ (m : (ℓ : Loc Cert.In1Ideal.nD Cert.In1Ideal.τ Cert.In1Ideal.sig) → Buf (Elt Ideal) ℓ) (g : Dev Cert.In1Ideal.nD → PrngReg)
    (m' : (ℓ : Loc Cert.In1RefIdeal.nD Cert.In1RefIdeal.τ Cert.In1RefIdeal.sig) → Buf (Elt Ideal) ℓ) (g' : Dev Cert.In1RefIdeal.nD → PrngReg), Pre_In1Ideal m →
    (∀ c : Dev Cert.In1Ideal.nD,
      m' ((c.tc : Thread Cert.In1RefIdeal.nD Cert.In1RefIdeal.τ).loc Cert.In1RefIdeal.main_arg0) = m ((c.tc : Thread Cert.In1Ideal.nD Cert.In1Ideal.τ).loc Cert.In1Ideal.main_arg0)
      ∧ m' ((c.tc : Thread Cert.In1RefIdeal.nD Cert.In1RefIdeal.τ).loc Cert.In1RefIdeal.main_arg1) = m ((c.tc : Thread Cert.In1Ideal.nD Cert.In1Ideal.τ).loc Cert.In1Ideal.main_arg1)) →
    ∃ (v0 : (c : Dev Cert.In1Ideal.nD) → Buf (Elt Ideal) ((c.tc : Thread Cert.In1Ideal.nD Cert.In1Ideal.τ).loc Cert.In1Ideal.main_v0)),
      θ_run (Cert.In1Ideal.defs (F := Ideal)) (onTc (τ := Cert.In1Ideal.τ) (Cert.In1Ideal.main (F := Ideal))) ⟨m, fun _ => 0, g⟩ (fun r => ∀ c : Dev Cert.In1Ideal.nD,
          r.2.mem ((c.tc : Thread Cert.In1Ideal.nD Cert.In1Ideal.τ).loc Cert.In1Ideal.main_v0) = v0 c
          ∧ r.2.mem ((c.tc : Thread Cert.In1Ideal.nD Cert.In1Ideal.τ).loc Cert.In1Ideal.main_arg0) = m ((c.tc : Thread Cert.In1Ideal.nD Cert.In1Ideal.τ).loc Cert.In1Ideal.main_arg0)
          ∧ r.2.mem ((c.tc : Thread Cert.In1Ideal.nD Cert.In1Ideal.τ).loc Cert.In1Ideal.main_arg1) = m ((c.tc : Thread Cert.In1Ideal.nD Cert.In1Ideal.τ).loc Cert.In1Ideal.main_arg1))
      ∧ θ_run (Cert.In1RefIdeal.defs (F := Ideal)) (onTc (τ := Cert.In1RefIdeal.τ) (Cert.In1RefIdeal.main (F := Ideal))) ⟨m', fun _ => 0, g'⟩ (fun r => ∀ c : Dev Cert.In1RefIdeal.nD,
          r.2.mem ((c.tc : Thread Cert.In1RefIdeal.nD Cert.In1RefIdeal.τ).loc Cert.In1RefIdeal.main_v4) = v0 c
          ∧ r.2.mem ((c.tc : Thread Cert.In1RefIdeal.nD Cert.In1RefIdeal.τ).loc Cert.In1RefIdeal.main_arg0) = m' ((c.tc : Thread Cert.In1RefIdeal.nD Cert.In1RefIdeal.τ).loc Cert.In1RefIdeal.main_arg0)
          ∧ r.2.mem ((c.tc : Thread Cert.In1RefIdeal.nD Cert.In1RefIdeal.τ).loc Cert.In1RefIdeal.main_arg1) = m' ((c.tc : Thread Cert.In1RefIdeal.nD Cert.In1RefIdeal.τ).loc Cert.In1RefIdeal.main_arg1))

def preserves_Out1_Out1Ideal : Prop :=
  True

def algebraic_Out1Ideal_Out1RefIdeal [hOut1Ideal : Cert.Out1Ideal.Facts] [hOut1RefIdeal : Cert.Out1RefIdeal.Facts] : Prop :=
  ∀ (m : (ℓ : Loc Cert.Out1Ideal.nD Cert.Out1Ideal.τ Cert.Out1Ideal.sig) → Buf (Elt Ideal) ℓ) (g : Dev Cert.Out1Ideal.nD → PrngReg)
    (m' : (ℓ : Loc Cert.Out1RefIdeal.nD Cert.Out1RefIdeal.τ Cert.Out1RefIdeal.sig) → Buf (Elt Ideal) ℓ) (g' : Dev Cert.Out1RefIdeal.nD → PrngReg), Pre_Out1Ideal m →
    (∀ c : Dev Cert.Out1Ideal.nD,
      m' ((c.tc : Thread Cert.Out1RefIdeal.nD Cert.Out1RefIdeal.τ).loc Cert.Out1RefIdeal.main_arg0) = m ((c.tc : Thread Cert.Out1Ideal.nD Cert.Out1Ideal.τ).loc Cert.Out1Ideal.main_arg0)
      ∧ m' ((c.tc : Thread Cert.Out1RefIdeal.nD Cert.Out1RefIdeal.τ).loc Cert.Out1RefIdeal.main_arg1) = m ((c.tc : Thread Cert.Out1Ideal.nD Cert.Out1Ideal.τ).loc Cert.Out1Ideal.main_arg1)) →
    ∃ (v0 : (c : Dev Cert.Out1Ideal.nD) → Buf (Elt Ideal) ((c.tc : Thread Cert.Out1Ideal.nD Cert.Out1Ideal.τ).loc Cert.Out1Ideal.main_v0)),
      θ_run (Cert.Out1Ideal.defs (F := Ideal)) (onTc (τ := Cert.Out1Ideal.τ) (Cert.Out1Ideal.main (F := Ideal))) ⟨m, fun _ => 0, g⟩ (fun r => ∀ c : Dev Cert.Out1Ideal.nD,
          r.2.mem ((c.tc : Thread Cert.Out1Ideal.nD Cert.Out1Ideal.τ).loc Cert.Out1Ideal.main_v0) = v0 c
          ∧ r.2.mem ((c.tc : Thread Cert.Out1Ideal.nD Cert.Out1Ideal.τ).loc Cert.Out1Ideal.main_arg0) = m ((c.tc : Thread Cert.Out1Ideal.nD Cert.Out1Ideal.τ).loc Cert.Out1Ideal.main_arg0)
          ∧ r.2.mem ((c.tc : Thread Cert.Out1Ideal.nD Cert.Out1Ideal.τ).loc Cert.Out1Ideal.main_arg1) = m ((c.tc : Thread Cert.Out1Ideal.nD Cert.Out1Ideal.τ).loc Cert.Out1Ideal.main_arg1))
      ∧ θ_run (Cert.Out1RefIdeal.defs (F := Ideal)) (onTc (τ := Cert.Out1RefIdeal.τ) (Cert.Out1RefIdeal.main (F := Ideal))) ⟨m', fun _ => 0, g'⟩ (fun r => ∀ c : Dev Cert.Out1RefIdeal.nD,
          r.2.mem ((c.tc : Thread Cert.Out1RefIdeal.nD Cert.Out1RefIdeal.τ).loc Cert.Out1RefIdeal.main_v4) = v0 c
          ∧ r.2.mem ((c.tc : Thread Cert.Out1RefIdeal.nD Cert.Out1RefIdeal.τ).loc Cert.Out1RefIdeal.main_arg0) = m' ((c.tc : Thread Cert.Out1RefIdeal.nD Cert.Out1RefIdeal.τ).loc Cert.Out1RefIdeal.main_arg0)
          ∧ r.2.mem ((c.tc : Thread Cert.Out1RefIdeal.nD Cert.Out1RefIdeal.τ).loc Cert.Out1RefIdeal.main_arg1) = m' ((c.tc : Thread Cert.Out1RefIdeal.nD Cert.Out1RefIdeal.τ).loc Cert.Out1RefIdeal.main_arg1))

def preserves_Dact2_Dact2Ideal : Prop :=
  True

def algebraic_Dact2Ideal_Dact2RefIdeal [hDact2Ideal : Cert.Dact2Ideal.Facts] [hDact2RefIdeal : Cert.Dact2RefIdeal.Facts] : Prop :=
  ∀ (m : (ℓ : Loc Cert.Dact2Ideal.nD Cert.Dact2Ideal.τ Cert.Dact2Ideal.sig) → Buf (Elt Ideal) ℓ) (g : Dev Cert.Dact2Ideal.nD → PrngReg)
    (m' : (ℓ : Loc Cert.Dact2RefIdeal.nD Cert.Dact2RefIdeal.τ Cert.Dact2RefIdeal.sig) → Buf (Elt Ideal) ℓ) (g' : Dev Cert.Dact2RefIdeal.nD → PrngReg), Pre_Dact2Ideal m →
    (∀ c : Dev Cert.Dact2Ideal.nD,
      m' ((c.tc : Thread Cert.Dact2RefIdeal.nD Cert.Dact2RefIdeal.τ).loc Cert.Dact2RefIdeal.main_arg0) = m ((c.tc : Thread Cert.Dact2Ideal.nD Cert.Dact2Ideal.τ).loc Cert.Dact2Ideal.main_arg0)
      ∧ m' ((c.tc : Thread Cert.Dact2RefIdeal.nD Cert.Dact2RefIdeal.τ).loc Cert.Dact2RefIdeal.main_arg1) = m ((c.tc : Thread Cert.Dact2Ideal.nD Cert.Dact2Ideal.τ).loc Cert.Dact2Ideal.main_arg1)) →
    ∃ (v0 : (c : Dev Cert.Dact2Ideal.nD) → Buf (Elt Ideal) ((c.tc : Thread Cert.Dact2Ideal.nD Cert.Dact2Ideal.τ).loc Cert.Dact2Ideal.main_v0)),
      θ_run (Cert.Dact2Ideal.defs (F := Ideal)) (onTc (τ := Cert.Dact2Ideal.τ) (Cert.Dact2Ideal.main (F := Ideal))) ⟨m, fun _ => 0, g⟩ (fun r => ∀ c : Dev Cert.Dact2Ideal.nD,
          r.2.mem ((c.tc : Thread Cert.Dact2Ideal.nD Cert.Dact2Ideal.τ).loc Cert.Dact2Ideal.main_v0) = v0 c
          ∧ r.2.mem ((c.tc : Thread Cert.Dact2Ideal.nD Cert.Dact2Ideal.τ).loc Cert.Dact2Ideal.main_arg0) = m ((c.tc : Thread Cert.Dact2Ideal.nD Cert.Dact2Ideal.τ).loc Cert.Dact2Ideal.main_arg0)
          ∧ r.2.mem ((c.tc : Thread Cert.Dact2Ideal.nD Cert.Dact2Ideal.τ).loc Cert.Dact2Ideal.main_arg1) = m ((c.tc : Thread Cert.Dact2Ideal.nD Cert.Dact2Ideal.τ).loc Cert.Dact2Ideal.main_arg1))
      ∧ θ_run (Cert.Dact2RefIdeal.defs (F := Ideal)) (onTc (τ := Cert.Dact2RefIdeal.τ) (Cert.Dact2RefIdeal.main (F := Ideal))) ⟨m', fun _ => 0, g'⟩ (fun r => ∀ c : Dev Cert.Dact2RefIdeal.nD,
          r.2.mem ((c.tc : Thread Cert.Dact2RefIdeal.nD Cert.Dact2RefIdeal.τ).loc Cert.Dact2RefIdeal.main_v6) = v0 c
          ∧ r.2.mem ((c.tc : Thread Cert.Dact2RefIdeal.nD Cert.Dact2RefIdeal.τ).loc Cert.Dact2RefIdeal.main_arg0) = m' ((c.tc : Thread Cert.Dact2RefIdeal.nD Cert.Dact2RefIdeal.τ).loc Cert.Dact2RefIdeal.main_arg0)
          ∧ r.2.mem ((c.tc : Thread Cert.Dact2RefIdeal.nD Cert.Dact2RefIdeal.τ).loc Cert.Dact2RefIdeal.main_arg1) = m' ((c.tc : Thread Cert.Dact2RefIdeal.nD Cert.Dact2RefIdeal.τ).loc Cert.Dact2RefIdeal.main_arg1))

def preserves_Dh2_Dh2Ideal : Prop :=
  True

def algebraic_Dh2Ideal_Dh2RefIdeal [hDh2Ideal : Cert.Dh2Ideal.Facts] [hDh2RefIdeal : Cert.Dh2RefIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2RefIdeal.nD Cert.Dh2RefIdeal.τ Cert.Dh2RefIdeal.sig) → Buf (Elt Ideal) ℓ) (g' : Dev Cert.Dh2RefIdeal.nD → PrngReg), Pre_Dh2Ideal m →
    (∀ c : Dev Cert.Dh2Ideal.nD,
      m' ((c.tc : Thread Cert.Dh2RefIdeal.nD Cert.Dh2RefIdeal.τ).loc Cert.Dh2RefIdeal.main_arg0) = m ((c.tc : Thread Cert.Dh2Ideal.nD Cert.Dh2Ideal.τ).loc Cert.Dh2Ideal.main_arg0)
      ∧ m' ((c.tc : Thread Cert.Dh2RefIdeal.nD Cert.Dh2RefIdeal.τ).loc Cert.Dh2RefIdeal.main_arg1) = m ((c.tc : Thread Cert.Dh2Ideal.nD Cert.Dh2Ideal.τ).loc Cert.Dh2Ideal.main_arg1)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1))
      ∧ θ_run (Cert.Dh2RefIdeal.defs (F := Ideal)) (onTc (τ := Cert.Dh2RefIdeal.τ) (Cert.Dh2RefIdeal.main (F := Ideal))) ⟨m', fun _ => 0, g'⟩ (fun r => ∀ c : Dev Cert.Dh2RefIdeal.nD,
          r.2.mem ((c.tc : Thread Cert.Dh2RefIdeal.nD Cert.Dh2RefIdeal.τ).loc Cert.Dh2RefIdeal.main_v6) = v0 c
          ∧ r.2.mem ((c.tc : Thread Cert.Dh2RefIdeal.nD Cert.Dh2RefIdeal.τ).loc Cert.Dh2RefIdeal.main_arg0) = m' ((c.tc : Thread Cert.Dh2RefIdeal.nD Cert.Dh2RefIdeal.τ).loc Cert.Dh2RefIdeal.main_arg0)
          ∧ r.2.mem ((c.tc : Thread Cert.Dh2RefIdeal.nD Cert.Dh2RefIdeal.τ).loc Cert.Dh2RefIdeal.main_arg1) = m' ((c.tc : Thread Cert.Dh2RefIdeal.nD Cert.Dh2RefIdeal.τ).loc Cert.Dh2RefIdeal.main_arg1))

def preserves_In2_In2Ideal : Prop :=
  True

def algebraic_In2Ideal_In2RefIdeal [hIn2Ideal : Cert.In2Ideal.Facts] [hIn2RefIdeal : Cert.In2RefIdeal.Facts] : Prop :=
  ∀ (m : (ℓ : Loc Cert.In2Ideal.nD Cert.In2Ideal.τ Cert.In2Ideal.sig) → Buf (Elt Ideal) ℓ) (g : Dev Cert.In2Ideal.nD → PrngReg)
    (m' : (ℓ : Loc Cert.In2RefIdeal.nD Cert.In2RefIdeal.τ Cert.In2RefIdeal.sig) → Buf (Elt Ideal) ℓ) (g' : Dev Cert.In2RefIdeal.nD → PrngReg), Pre_In2Ideal m →
    (∀ c : Dev Cert.In2Ideal.nD,
      m' ((c.tc : Thread Cert.In2RefIdeal.nD Cert.In2RefIdeal.τ).loc Cert.In2RefIdeal.main_arg0) = m ((c.tc : Thread Cert.In2Ideal.nD Cert.In2Ideal.τ).loc Cert.In2Ideal.main_arg0)
      ∧ m' ((c.tc : Thread Cert.In2RefIdeal.nD Cert.In2RefIdeal.τ).loc Cert.In2RefIdeal.main_arg1) = m ((c.tc : Thread Cert.In2Ideal.nD Cert.In2Ideal.τ).loc Cert.In2Ideal.main_arg1)) →
    ∃ (v0 : (c : Dev Cert.In2Ideal.nD) → Buf (Elt Ideal) ((c.tc : Thread Cert.In2Ideal.nD Cert.In2Ideal.τ).loc Cert.In2Ideal.main_v0)),
      θ_run (Cert.In2Ideal.defs (F := Ideal)) (onTc (τ := Cert.In2Ideal.τ) (Cert.In2Ideal.main (F := Ideal))) ⟨m, fun _ => 0, g⟩ (fun r => ∀ c : Dev Cert.In2Ideal.nD,
          r.2.mem ((c.tc : Thread Cert.In2Ideal.nD Cert.In2Ideal.τ).loc Cert.In2Ideal.main_v0) = v0 c
          ∧ r.2.mem ((c.tc : Thread Cert.In2Ideal.nD Cert.In2Ideal.τ).loc Cert.In2Ideal.main_arg0) = m ((c.tc : Thread Cert.In2Ideal.nD Cert.In2Ideal.τ).loc Cert.In2Ideal.main_arg0)
          ∧ r.2.mem ((c.tc : Thread Cert.In2Ideal.nD Cert.In2Ideal.τ).loc Cert.In2Ideal.main_arg1) = m ((c.tc : Thread Cert.In2Ideal.nD Cert.In2Ideal.τ).loc Cert.In2Ideal.main_arg1))
      ∧ θ_run (Cert.In2RefIdeal.defs (F := Ideal)) (onTc (τ := Cert.In2RefIdeal.τ) (Cert.In2RefIdeal.main (F := Ideal))) ⟨m', fun _ => 0, g'⟩ (fun r => ∀ c : Dev Cert.In2RefIdeal.nD,
          r.2.mem ((c.tc : Thread Cert.In2RefIdeal.nD Cert.In2RefIdeal.τ).loc Cert.In2RefIdeal.main_v4) = v0 c
          ∧ r.2.mem ((c.tc : Thread Cert.In2RefIdeal.nD Cert.In2RefIdeal.τ).loc Cert.In2RefIdeal.main_arg0) = m' ((c.tc : Thread Cert.In2RefIdeal.nD Cert.In2RefIdeal.τ).loc Cert.In2RefIdeal.main_arg0)
          ∧ r.2.mem ((c.tc : Thread Cert.In2RefIdeal.nD Cert.In2RefIdeal.τ).loc Cert.In2RefIdeal.main_arg1) = m' ((c.tc : Thread Cert.In2RefIdeal.nD Cert.In2RefIdeal.τ).loc Cert.In2RefIdeal.main_arg1))

def preserves_Out2_Out2Ideal : Prop :=
  True

def algebraic_Out2Ideal_Out2RefIdeal [hOut2Ideal : Cert.Out2Ideal.Facts] [hOut2RefIdeal : Cert.Out2RefIdeal.Facts] : Prop :=
  ∀ (m : (ℓ : Loc Cert.Out2Ideal.nD Cert.Out2Ideal.τ Cert.Out2Ideal.sig) → Buf (Elt Ideal) ℓ) (g : Dev Cert.Out2Ideal.nD → PrngReg)
    (m' : (ℓ : Loc Cert.Out2RefIdeal.nD Cert.Out2RefIdeal.τ Cert.Out2RefIdeal.sig) → Buf (Elt Ideal) ℓ) (g' : Dev Cert.Out2RefIdeal.nD → PrngReg), Pre_Out2Ideal m →
    (∀ c : Dev Cert.Out2Ideal.nD,
      m' ((c.tc : Thread Cert.Out2RefIdeal.nD Cert.Out2RefIdeal.τ).loc Cert.Out2RefIdeal.main_arg0) = m ((c.tc : Thread Cert.Out2Ideal.nD Cert.Out2Ideal.τ).loc Cert.Out2Ideal.main_arg0)
      ∧ m' ((c.tc : Thread Cert.Out2RefIdeal.nD Cert.Out2RefIdeal.τ).loc Cert.Out2RefIdeal.main_arg1) = m ((c.tc : Thread Cert.Out2Ideal.nD Cert.Out2Ideal.τ).loc Cert.Out2Ideal.main_arg1)) →
    ∃ (v0 : (c : Dev Cert.Out2Ideal.nD) → Buf (Elt Ideal) ((c.tc : Thread Cert.Out2Ideal.nD Cert.Out2Ideal.τ).loc Cert.Out2Ideal.main_v0)),
      θ_run (Cert.Out2Ideal.defs (F := Ideal)) (onTc (τ := Cert.Out2Ideal.τ) (Cert.Out2Ideal.main (F := Ideal))) ⟨m, fun _ => 0, g⟩ (fun r => ∀ c : Dev Cert.Out2Ideal.nD,
          r.2.mem ((c.tc : Thread Cert.Out2Ideal.nD Cert.Out2Ideal.τ).loc Cert.Out2Ideal.main_v0) = v0 c
          ∧ r.2.mem ((c.tc : Thread Cert.Out2Ideal.nD Cert.Out2Ideal.τ).loc Cert.Out2Ideal.main_arg0) = m ((c.tc : Thread Cert.Out2Ideal.nD Cert.Out2Ideal.τ).loc Cert.Out2Ideal.main_arg0)
          ∧ r.2.mem ((c.tc : Thread Cert.Out2Ideal.nD Cert.Out2Ideal.τ).loc Cert.Out2Ideal.main_arg1) = m ((c.tc : Thread Cert.Out2Ideal.nD Cert.Out2Ideal.τ).loc Cert.Out2Ideal.main_arg1))
      ∧ θ_run (Cert.Out2RefIdeal.defs (F := Ideal)) (onTc (τ := Cert.Out2RefIdeal.τ) (Cert.Out2RefIdeal.main (F := Ideal))) ⟨m', fun _ => 0, g'⟩ (fun r => ∀ c : Dev Cert.Out2RefIdeal.nD,
          r.2.mem ((c.tc : Thread Cert.Out2RefIdeal.nD Cert.Out2RefIdeal.τ).loc Cert.Out2RefIdeal.main_v4) = v0 c
          ∧ r.2.mem ((c.tc : Thread Cert.Out2RefIdeal.nD Cert.Out2RefIdeal.τ).loc Cert.Out2RefIdeal.main_arg0) = m' ((c.tc : Thread Cert.Out2RefIdeal.nD Cert.Out2RefIdeal.τ).loc Cert.Out2RefIdeal.main_arg0)
          ∧ r.2.mem ((c.tc : Thread Cert.Out2RefIdeal.nD Cert.Out2RefIdeal.τ).loc Cert.Out2RefIdeal.main_arg1) = m' ((c.tc : Thread Cert.Out2RefIdeal.nD Cert.Out2RefIdeal.τ).loc Cert.Out2RefIdeal.main_arg1))

def preserves_Dact3_Dact3Ideal : Prop :=
  True

def algebraic_Dact3Ideal_Dact3RefIdeal [hDact3Ideal : Cert.Dact3Ideal.Facts] [hDact3RefIdeal : Cert.Dact3RefIdeal.Facts] : Prop :=
  ∀ (m : (ℓ : Loc Cert.Dact3Ideal.nD Cert.Dact3Ideal.τ Cert.Dact3Ideal.sig) → Buf (Elt Ideal) ℓ) (g : Dev Cert.Dact3Ideal.nD → PrngReg)
    (m' : (ℓ : Loc Cert.Dact3RefIdeal.nD Cert.Dact3RefIdeal.τ Cert.Dact3RefIdeal.sig) → Buf (Elt Ideal) ℓ) (g' : Dev Cert.Dact3RefIdeal.nD → PrngReg), Pre_Dact3Ideal m →
    (∀ c : Dev Cert.Dact3Ideal.nD,
      m' ((c.tc : Thread Cert.Dact3RefIdeal.nD Cert.Dact3RefIdeal.τ).loc Cert.Dact3RefIdeal.main_arg0) = m ((c.tc : Thread Cert.Dact3Ideal.nD Cert.Dact3Ideal.τ).loc Cert.Dact3Ideal.main_arg0)
      ∧ m' ((c.tc : Thread Cert.Dact3RefIdeal.nD Cert.Dact3RefIdeal.τ).loc Cert.Dact3RefIdeal.main_arg1) = m ((c.tc : Thread Cert.Dact3Ideal.nD Cert.Dact3Ideal.τ).loc Cert.Dact3Ideal.main_arg1)) →
    ∃ (v0 : (c : Dev Cert.Dact3Ideal.nD) → Buf (Elt Ideal) ((c.tc : Thread Cert.Dact3Ideal.nD Cert.Dact3Ideal.τ).loc Cert.Dact3Ideal.main_v0)),
      θ_run (Cert.Dact3Ideal.defs (F := Ideal)) (onTc (τ := Cert.Dact3Ideal.τ) (Cert.Dact3Ideal.main (F := Ideal))) ⟨m, fun _ => 0, g⟩ (fun r => ∀ c : Dev Cert.Dact3Ideal.nD,
          r.2.mem ((c.tc : Thread Cert.Dact3Ideal.nD Cert.Dact3Ideal.τ).loc Cert.Dact3Ideal.main_v0) = v0 c
          ∧ r.2.mem ((c.tc : Thread Cert.Dact3Ideal.nD Cert.Dact3Ideal.τ).loc Cert.Dact3Ideal.main_arg0) = m ((c.tc : Thread Cert.Dact3Ideal.nD Cert.Dact3Ideal.τ).loc Cert.Dact3Ideal.main_arg0)
          ∧ r.2.mem ((c.tc : Thread Cert.Dact3Ideal.nD Cert.Dact3Ideal.τ).loc Cert.Dact3Ideal.main_arg1) = m ((c.tc : Thread Cert.Dact3Ideal.nD Cert.Dact3Ideal.τ).loc Cert.Dact3Ideal.main_arg1))
      ∧ θ_run (Cert.Dact3RefIdeal.defs (F := Ideal)) (onTc (τ := Cert.Dact3RefIdeal.τ) (Cert.Dact3RefIdeal.main (F := Ideal))) ⟨m', fun _ => 0, g'⟩ (fun r => ∀ c : Dev Cert.Dact3RefIdeal.nD,
          r.2.mem ((c.tc : Thread Cert.Dact3RefIdeal.nD Cert.Dact3RefIdeal.τ).loc Cert.Dact3RefIdeal.main_v6) = v0 c
          ∧ r.2.mem ((c.tc : Thread Cert.Dact3RefIdeal.nD Cert.Dact3RefIdeal.τ).loc Cert.Dact3RefIdeal.main_arg0) = m' ((c.tc : Thread Cert.Dact3RefIdeal.nD Cert.Dact3RefIdeal.τ).loc Cert.Dact3RefIdeal.main_arg0)
          ∧ r.2.mem ((c.tc : Thread Cert.Dact3RefIdeal.nD Cert.Dact3RefIdeal.τ).loc Cert.Dact3RefIdeal.main_arg1) = m' ((c.tc : Thread Cert.Dact3RefIdeal.nD Cert.Dact3RefIdeal.τ).loc Cert.Dact3RefIdeal.main_arg1))

def preserves_Dh3_Dh3Ideal : Prop :=
  True

def algebraic_Dh3Ideal_Dh3RefIdeal [hDh3Ideal : Cert.Dh3Ideal.Facts] [hDh3RefIdeal : Cert.Dh3RefIdeal.Facts] : Prop :=
  ∀ (m : (ℓ : Loc Cert.Dh3Ideal.nD Cert.Dh3Ideal.τ Cert.Dh3Ideal.sig) → Buf (Elt Ideal) ℓ) (g : Dev Cert.Dh3Ideal.nD → PrngReg)
    (m' : (ℓ : Loc Cert.Dh3RefIdeal.nD Cert.Dh3RefIdeal.τ Cert.Dh3RefIdeal.sig) → Buf (Elt Ideal) ℓ) (g' : Dev Cert.Dh3RefIdeal.nD → PrngReg), Pre_Dh3Ideal m →
    (∀ c : Dev Cert.Dh3Ideal.nD,
      m' ((c.tc : Thread Cert.Dh3RefIdeal.nD Cert.Dh3RefIdeal.τ).loc Cert.Dh3RefIdeal.main_arg0) = m ((c.tc : Thread Cert.Dh3Ideal.nD Cert.Dh3Ideal.τ).loc Cert.Dh3Ideal.main_arg0)
      ∧ m' ((c.tc : Thread Cert.Dh3RefIdeal.nD Cert.Dh3RefIdeal.τ).loc Cert.Dh3RefIdeal.main_arg1) = m ((c.tc : Thread Cert.Dh3Ideal.nD Cert.Dh3Ideal.τ).loc Cert.Dh3Ideal.main_arg1)) →
    ∃ (v0 : (c : Dev Cert.Dh3Ideal.nD) → Buf (Elt Ideal) ((c.tc : Thread Cert.Dh3Ideal.nD Cert.Dh3Ideal.τ).loc Cert.Dh3Ideal.main_v0)),
      θ_run (Cert.Dh3Ideal.defs (F := Ideal)) (onTc (τ := Cert.Dh3Ideal.τ) (Cert.Dh3Ideal.main (F := Ideal))) ⟨m, fun _ => 0, g⟩ (fun r => ∀ c : Dev Cert.Dh3Ideal.nD,
          r.2.mem ((c.tc : Thread Cert.Dh3Ideal.nD Cert.Dh3Ideal.τ).loc Cert.Dh3Ideal.main_v0) = v0 c
          ∧ r.2.mem ((c.tc : Thread Cert.Dh3Ideal.nD Cert.Dh3Ideal.τ).loc Cert.Dh3Ideal.main_arg0) = m ((c.tc : Thread Cert.Dh3Ideal.nD Cert.Dh3Ideal.τ).loc Cert.Dh3Ideal.main_arg0)
          ∧ r.2.mem ((c.tc : Thread Cert.Dh3Ideal.nD Cert.Dh3Ideal.τ).loc Cert.Dh3Ideal.main_arg1) = m ((c.tc : Thread Cert.Dh3Ideal.nD Cert.Dh3Ideal.τ).loc Cert.Dh3Ideal.main_arg1))
      ∧ θ_run (Cert.Dh3RefIdeal.defs (F := Ideal)) (onTc (τ := Cert.Dh3RefIdeal.τ) (Cert.Dh3RefIdeal.main (F := Ideal))) ⟨m', fun _ => 0, g'⟩ (fun r => ∀ c : Dev Cert.Dh3RefIdeal.nD,
          r.2.mem ((c.tc : Thread Cert.Dh3RefIdeal.nD Cert.Dh3RefIdeal.τ).loc Cert.Dh3RefIdeal.main_v6) = v0 c
          ∧ r.2.mem ((c.tc : Thread Cert.Dh3RefIdeal.nD Cert.Dh3RefIdeal.τ).loc Cert.Dh3RefIdeal.main_arg0) = m' ((c.tc : Thread Cert.Dh3RefIdeal.nD Cert.Dh3RefIdeal.τ).loc Cert.Dh3RefIdeal.main_arg0)
          ∧ r.2.mem ((c.tc : Thread Cert.Dh3RefIdeal.nD Cert.Dh3RefIdeal.τ).loc Cert.Dh3RefIdeal.main_arg1) = m' ((c.tc : Thread Cert.Dh3RefIdeal.nD Cert.Dh3RefIdeal.τ).loc Cert.Dh3RefIdeal.main_arg1))

def preserves_In3_In3Ideal : Prop :=
  True

def algebraic_In3Ideal_In3RefIdeal [hIn3Ideal : Cert.In3Ideal.Facts] [hIn3RefIdeal : Cert.In3RefIdeal.Facts] : Prop :=
  ∀ (m : (ℓ : Loc Cert.In3Ideal.nD Cert.In3Ideal.τ Cert.In3Ideal.sig) → Buf (Elt Ideal) ℓ) (g : Dev Cert.In3Ideal.nD → PrngReg)
    (m' : (ℓ : Loc Cert.In3RefIdeal.nD Cert.In3RefIdeal.τ Cert.In3RefIdeal.sig) → Buf (Elt Ideal) ℓ) (g' : Dev Cert.In3RefIdeal.nD → PrngReg), Pre_In3Ideal m →
    (∀ c : Dev Cert.In3Ideal.nD,
      m' ((c.tc : Thread Cert.In3RefIdeal.nD Cert.In3RefIdeal.τ).loc Cert.In3RefIdeal.main_arg0) = m ((c.tc : Thread Cert.In3Ideal.nD Cert.In3Ideal.τ).loc Cert.In3Ideal.main_arg0)
      ∧ m' ((c.tc : Thread Cert.In3RefIdeal.nD Cert.In3RefIdeal.τ).loc Cert.In3RefIdeal.main_arg1) = m ((c.tc : Thread Cert.In3Ideal.nD Cert.In3Ideal.τ).loc Cert.In3Ideal.main_arg1)) →
    ∃ (v0 : (c : Dev Cert.In3Ideal.nD) → Buf (Elt Ideal) ((c.tc : Thread Cert.In3Ideal.nD Cert.In3Ideal.τ).loc Cert.In3Ideal.main_v0)),
      θ_run (Cert.In3Ideal.defs (F := Ideal)) (onTc (τ := Cert.In3Ideal.τ) (Cert.In3Ideal.main (F := Ideal))) ⟨m, fun _ => 0, g⟩ (fun r => ∀ c : Dev Cert.In3Ideal.nD,
          r.2.mem ((c.tc : Thread Cert.In3Ideal.nD Cert.In3Ideal.τ).loc Cert.In3Ideal.main_v0) = v0 c
          ∧ r.2.mem ((c.tc : Thread Cert.In3Ideal.nD Cert.In3Ideal.τ).loc Cert.In3Ideal.main_arg0) = m ((c.tc : Thread Cert.In3Ideal.nD Cert.In3Ideal.τ).loc Cert.In3Ideal.main_arg0)
          ∧ r.2.mem ((c.tc : Thread Cert.In3Ideal.nD Cert.In3Ideal.τ).loc Cert.In3Ideal.main_arg1) = m ((c.tc : Thread Cert.In3Ideal.nD Cert.In3Ideal.τ).loc Cert.In3Ideal.main_arg1))
      ∧ θ_run (Cert.In3RefIdeal.defs (F := Ideal)) (onTc (τ := Cert.In3RefIdeal.τ) (Cert.In3RefIdeal.main (F := Ideal))) ⟨m', fun _ => 0, g'⟩ (fun r => ∀ c : Dev Cert.In3RefIdeal.nD,
          r.2.mem ((c.tc : Thread Cert.In3RefIdeal.nD Cert.In3RefIdeal.τ).loc Cert.In3RefIdeal.main_v4) = v0 c
          ∧ r.2.mem ((c.tc : Thread Cert.In3RefIdeal.nD Cert.In3RefIdeal.τ).loc Cert.In3RefIdeal.main_arg0) = m' ((c.tc : Thread Cert.In3RefIdeal.nD Cert.In3RefIdeal.τ).loc Cert.In3RefIdeal.main_arg0)
          ∧ r.2.mem ((c.tc : Thread Cert.In3RefIdeal.nD Cert.In3RefIdeal.τ).loc Cert.In3RefIdeal.main_arg1) = m' ((c.tc : Thread Cert.In3RefIdeal.nD Cert.In3RefIdeal.τ).loc Cert.In3RefIdeal.main_arg1))

def preserves_Out3_Out3Ideal : Prop :=
  True

def algebraic_Out3Ideal_Out3RefIdeal [hOut3Ideal : Cert.Out3Ideal.Facts] [hOut3RefIdeal : Cert.Out3RefIdeal.Facts] : Prop :=
  ∀ (m : (ℓ : Loc Cert.Out3Ideal.nD Cert.Out3Ideal.τ Cert.Out3Ideal.sig) → Buf (Elt Ideal) ℓ) (g : Dev Cert.Out3Ideal.nD → PrngReg)
    (m' : (ℓ : Loc Cert.Out3RefIdeal.nD Cert.Out3RefIdeal.τ Cert.Out3RefIdeal.sig) → Buf (Elt Ideal) ℓ) (g' : Dev Cert.Out3RefIdeal.nD → PrngReg), Pre_Out3Ideal m →
    (∀ c : Dev Cert.Out3Ideal.nD,
      m' ((c.tc : Thread Cert.Out3RefIdeal.nD Cert.Out3RefIdeal.τ).loc Cert.Out3RefIdeal.main_arg0) = m ((c.tc : Thread Cert.Out3Ideal.nD Cert.Out3Ideal.τ).loc Cert.Out3Ideal.main_arg0)
      ∧ m' ((c.tc : Thread Cert.Out3RefIdeal.nD Cert.Out3RefIdeal.τ).loc Cert.Out3RefIdeal.main_arg1) = m ((c.tc : Thread Cert.Out3Ideal.nD Cert.Out3Ideal.τ).loc Cert.Out3Ideal.main_arg1)) →
    ∃ (v0 : (c : Dev Cert.Out3Ideal.nD) → Buf (Elt Ideal) ((c.tc : Thread Cert.Out3Ideal.nD Cert.Out3Ideal.τ).loc Cert.Out3Ideal.main_v0)),
      θ_run (Cert.Out3Ideal.defs (F := Ideal)) (onTc (τ := Cert.Out3Ideal.τ) (Cert.Out3Ideal.main (F := Ideal))) ⟨m, fun _ => 0, g⟩ (fun r => ∀ c : Dev Cert.Out3Ideal.nD,
          r.2.mem ((c.tc : Thread Cert.Out3Ideal.nD Cert.Out3Ideal.τ).loc Cert.Out3Ideal.main_v0) = v0 c
          ∧ r.2.mem ((c.tc : Thread Cert.Out3Ideal.nD Cert.Out3Ideal.τ).loc Cert.Out3Ideal.main_arg0) = m ((c.tc : Thread Cert.Out3Ideal.nD Cert.Out3Ideal.τ).loc Cert.Out3Ideal.main_arg0)
          ∧ r.2.mem ((c.tc : Thread Cert.Out3Ideal.nD Cert.Out3Ideal.τ).loc Cert.Out3Ideal.main_arg1) = m ((c.tc : Thread Cert.Out3Ideal.nD Cert.Out3Ideal.τ).loc Cert.Out3Ideal.main_arg1))
      ∧ θ_run (Cert.Out3RefIdeal.defs (F := Ideal)) (onTc (τ := Cert.Out3RefIdeal.τ) (Cert.Out3RefIdeal.main (F := Ideal))) ⟨m', fun _ => 0, g'⟩ (fun r => ∀ c : Dev Cert.Out3RefIdeal.nD,
          r.2.mem ((c.tc : Thread Cert.Out3RefIdeal.nD Cert.Out3RefIdeal.τ).loc Cert.Out3RefIdeal.main_v4) = v0 c
          ∧ r.2.mem ((c.tc : Thread Cert.Out3RefIdeal.nD Cert.Out3RefIdeal.τ).loc Cert.Out3RefIdeal.main_arg0) = m' ((c.tc : Thread Cert.Out3RefIdeal.nD Cert.Out3RefIdeal.τ).loc Cert.Out3RefIdeal.main_arg0)
          ∧ r.2.mem ((c.tc : Thread Cert.Out3RefIdeal.nD Cert.Out3RefIdeal.τ).loc Cert.Out3RefIdeal.main_arg1) = m' ((c.tc : Thread Cert.Out3RefIdeal.nD Cert.Out3RefIdeal.τ).loc Cert.Out3RefIdeal.main_arg1))

def preserves_MixDw_MixDwIdeal : Prop :=
  True

def algebraic_MixDwIdeal_MixDwRefIdeal [hMixDwIdeal : Cert.MixDwIdeal.Facts] [hMixDwRefIdeal : Cert.MixDwRefIdeal.Facts] : Prop :=
  ∀ (m : (ℓ : Loc Cert.MixDwIdeal.nD Cert.MixDwIdeal.τ Cert.MixDwIdeal.sig) → Buf (Elt Ideal) ℓ) (g : Dev Cert.MixDwIdeal.nD → PrngReg)
    (m' : (ℓ : Loc Cert.MixDwRefIdeal.nD Cert.MixDwRefIdeal.τ Cert.MixDwRefIdeal.sig) → Buf (Elt Ideal) ℓ) (g' : Dev Cert.MixDwRefIdeal.nD → PrngReg), Pre_MixDwIdeal m →
    (∀ c : Dev Cert.MixDwIdeal.nD,
      m' ((c.tc : Thread Cert.MixDwRefIdeal.nD Cert.MixDwRefIdeal.τ).loc Cert.MixDwRefIdeal.main_arg0) = m ((c.tc : Thread Cert.MixDwIdeal.nD Cert.MixDwIdeal.τ).loc Cert.MixDwIdeal.main_arg0)
      ∧ m' ((c.tc : Thread Cert.MixDwRefIdeal.nD Cert.MixDwRefIdeal.τ).loc Cert.MixDwRefIdeal.main_arg1) = m ((c.tc : Thread Cert.MixDwIdeal.nD Cert.MixDwIdeal.τ).loc Cert.MixDwIdeal.main_arg1)) →
    ∃ (v0 : (c : Dev Cert.MixDwIdeal.nD) → Buf (Elt Ideal) ((c.tc : Thread Cert.MixDwIdeal.nD Cert.MixDwIdeal.τ).loc Cert.MixDwIdeal.main_v0)),
      θ_run (Cert.MixDwIdeal.defs (F := Ideal)) (onTc (τ := Cert.MixDwIdeal.τ) (Cert.MixDwIdeal.main (F := Ideal))) ⟨m, fun _ => 0, g⟩ (fun r => ∀ c : Dev Cert.MixDwIdeal.nD,
          r.2.mem ((c.tc : Thread Cert.MixDwIdeal.nD Cert.MixDwIdeal.τ).loc Cert.MixDwIdeal.main_v0) = v0 c
          ∧ r.2.mem ((c.tc : Thread Cert.MixDwIdeal.nD Cert.MixDwIdeal.τ).loc Cert.MixDwIdeal.main_arg0) = m ((c.tc : Thread Cert.MixDwIdeal.nD Cert.MixDwIdeal.τ).loc Cert.MixDwIdeal.main_arg0)
          ∧ r.2.mem ((c.tc : Thread Cert.MixDwIdeal.nD Cert.MixDwIdeal.τ).loc Cert.MixDwIdeal.main_arg1) = m ((c.tc : Thread Cert.MixDwIdeal.nD Cert.MixDwIdeal.τ).loc Cert.MixDwIdeal.main_arg1))
      ∧ θ_run (Cert.MixDwRefIdeal.defs (F := Ideal)) (onTc (τ := Cert.MixDwRefIdeal.τ) (Cert.MixDwRefIdeal.main (F := Ideal))) ⟨m', fun _ => 0, g'⟩ (fun r => ∀ c : Dev Cert.MixDwRefIdeal.nD,
          r.2.mem ((c.tc : Thread Cert.MixDwRefIdeal.nD Cert.MixDwRefIdeal.τ).loc Cert.MixDwRefIdeal.main_v6) = v0 c
          ∧ r.2.mem ((c.tc : Thread Cert.MixDwRefIdeal.nD Cert.MixDwRefIdeal.τ).loc Cert.MixDwRefIdeal.main_arg0) = m' ((c.tc : Thread Cert.MixDwRefIdeal.nD Cert.MixDwRefIdeal.τ).loc Cert.MixDwRefIdeal.main_arg0)
          ∧ r.2.mem ((c.tc : Thread Cert.MixDwRefIdeal.nD Cert.MixDwRefIdeal.τ).loc Cert.MixDwRefIdeal.main_arg1) = m' ((c.tc : Thread Cert.MixDwRefIdeal.nD Cert.MixDwRefIdeal.τ).loc Cert.MixDwRefIdeal.main_arg1))

def preserves_EvDw_EvDwIdeal : Prop :=
  True

def algebraic_EvDwIdeal_EvDwRefIdeal [hEvDwIdeal : Cert.EvDwIdeal.Facts] [hEvDwRefIdeal : Cert.EvDwRefIdeal.Facts] : Prop :=
  ∀ (m : (ℓ : Loc Cert.EvDwIdeal.nD Cert.EvDwIdeal.τ Cert.EvDwIdeal.sig) → Buf (Elt Ideal) ℓ) (g : Dev Cert.EvDwIdeal.nD → PrngReg)
    (m' : (ℓ : Loc Cert.EvDwRefIdeal.nD Cert.EvDwRefIdeal.τ Cert.EvDwRefIdeal.sig) → Buf (Elt Ideal) ℓ) (g' : Dev Cert.EvDwRefIdeal.nD → PrngReg), Pre_EvDwIdeal m →
    (∀ c : Dev Cert.EvDwIdeal.nD,
      m' ((c.tc : Thread Cert.EvDwRefIdeal.nD Cert.EvDwRefIdeal.τ).loc Cert.EvDwRefIdeal.main_arg0) = m ((c.tc : Thread Cert.EvDwIdeal.nD Cert.EvDwIdeal.τ).loc Cert.EvDwIdeal.main_arg0)
      ∧ m' ((c.tc : Thread Cert.EvDwRefIdeal.nD Cert.EvDwRefIdeal.τ).loc Cert.EvDwRefIdeal.main_arg1) = m ((c.tc : Thread Cert.EvDwIdeal.nD Cert.EvDwIdeal.τ).loc Cert.EvDwIdeal.main_arg1)) →
    ∃ (v0 : (c : Dev Cert.EvDwIdeal.nD) → Buf (Elt Ideal) ((c.tc : Thread Cert.EvDwIdeal.nD Cert.EvDwIdeal.τ).loc Cert.EvDwIdeal.main_v0)),
      θ_run (Cert.EvDwIdeal.defs (F := Ideal)) (onTc (τ := Cert.EvDwIdeal.τ) (Cert.EvDwIdeal.main (F := Ideal))) ⟨m, fun _ => 0, g⟩ (fun r => ∀ c : Dev Cert.EvDwIdeal.nD,
          r.2.mem ((c.tc : Thread Cert.EvDwIdeal.nD Cert.EvDwIdeal.τ).loc Cert.EvDwIdeal.main_v0) = v0 c
          ∧ r.2.mem ((c.tc : Thread Cert.EvDwIdeal.nD Cert.EvDwIdeal.τ).loc Cert.EvDwIdeal.main_arg0) = m ((c.tc : Thread Cert.EvDwIdeal.nD Cert.EvDwIdeal.τ).loc Cert.EvDwIdeal.main_arg0)
          ∧ r.2.mem ((c.tc : Thread Cert.EvDwIdeal.nD Cert.EvDwIdeal.τ).loc Cert.EvDwIdeal.main_arg1) = m ((c.tc : Thread Cert.EvDwIdeal.nD Cert.EvDwIdeal.τ).loc Cert.EvDwIdeal.main_arg1))
      ∧ θ_run (Cert.EvDwRefIdeal.defs (F := Ideal)) (onTc (τ := Cert.EvDwRefIdeal.τ) (Cert.EvDwRefIdeal.main (F := Ideal))) ⟨m', fun _ => 0, g'⟩ (fun r => ∀ c : Dev Cert.EvDwRefIdeal.nD,
          r.2.mem ((c.tc : Thread Cert.EvDwRefIdeal.nD Cert.EvDwRefIdeal.τ).loc Cert.EvDwRefIdeal.main_v6) = v0 c
          ∧ r.2.mem ((c.tc : Thread Cert.EvDwRefIdeal.nD Cert.EvDwRefIdeal.τ).loc Cert.EvDwRefIdeal.main_arg0) = m' ((c.tc : Thread Cert.EvDwRefIdeal.nD Cert.EvDwRefIdeal.τ).loc Cert.EvDwRefIdeal.main_arg0)
          ∧ r.2.mem ((c.tc : Thread Cert.EvDwRefIdeal.nD Cert.EvDwRefIdeal.τ).loc Cert.EvDwRefIdeal.main_arg1) = m' ((c.tc : Thread Cert.EvDwRefIdeal.nD Cert.EvDwRefIdeal.τ).loc Cert.EvDwRefIdeal.main_arg1))

def preserves_OdDw_OdDwIdeal : Prop :=
  True

def algebraic_OdDwIdeal_OdDwRefIdeal [hOdDwIdeal : Cert.OdDwIdeal.Facts] [hOdDwRefIdeal : Cert.OdDwRefIdeal.Facts] : Prop :=
  ∀ (m : (ℓ : Loc Cert.OdDwIdeal.nD Cert.OdDwIdeal.τ Cert.OdDwIdeal.sig) → Buf (Elt Ideal) ℓ) (g : Dev Cert.OdDwIdeal.nD → PrngReg)
    (m' : (ℓ : Loc Cert.OdDwRefIdeal.nD Cert.OdDwRefIdeal.τ Cert.OdDwRefIdeal.sig) → Buf (Elt Ideal) ℓ) (g' : Dev Cert.OdDwRefIdeal.nD → PrngReg), Pre_OdDwIdeal m →
    (∀ c : Dev Cert.OdDwIdeal.nD,
      m' ((c.tc : Thread Cert.OdDwRefIdeal.nD Cert.OdDwRefIdeal.τ).loc Cert.OdDwRefIdeal.main_arg0) = m ((c.tc : Thread Cert.OdDwIdeal.nD Cert.OdDwIdeal.τ).loc Cert.OdDwIdeal.main_arg0)
      ∧ m' ((c.tc : Thread Cert.OdDwRefIdeal.nD Cert.OdDwRefIdeal.τ).loc Cert.OdDwRefIdeal.main_arg1) = m ((c.tc : Thread Cert.OdDwIdeal.nD Cert.OdDwIdeal.τ).loc Cert.OdDwIdeal.main_arg1)) →
    ∃ (v0 : (c : Dev Cert.OdDwIdeal.nD) → Buf (Elt Ideal) ((c.tc : Thread Cert.OdDwIdeal.nD Cert.OdDwIdeal.τ).loc Cert.OdDwIdeal.main_v0)),
      θ_run (Cert.OdDwIdeal.defs (F := Ideal)) (onTc (τ := Cert.OdDwIdeal.τ) (Cert.OdDwIdeal.main (F := Ideal))) ⟨m, fun _ => 0, g⟩ (fun r => ∀ c : Dev Cert.OdDwIdeal.nD,
          r.2.mem ((c.tc : Thread Cert.OdDwIdeal.nD Cert.OdDwIdeal.τ).loc Cert.OdDwIdeal.main_v0) = v0 c
          ∧ r.2.mem ((c.tc : Thread Cert.OdDwIdeal.nD Cert.OdDwIdeal.τ).loc Cert.OdDwIdeal.main_arg0) = m ((c.tc : Thread Cert.OdDwIdeal.nD Cert.OdDwIdeal.τ).loc Cert.OdDwIdeal.main_arg0)
          ∧ r.2.mem ((c.tc : Thread Cert.OdDwIdeal.nD Cert.OdDwIdeal.τ).loc Cert.OdDwIdeal.main_arg1) = m ((c.tc : Thread Cert.OdDwIdeal.nD Cert.OdDwIdeal.τ).loc Cert.OdDwIdeal.main_arg1))
      ∧ θ_run (Cert.OdDwRefIdeal.defs (F := Ideal)) (onTc (τ := Cert.OdDwRefIdeal.τ) (Cert.OdDwRefIdeal.main (F := Ideal))) ⟨m', fun _ => 0, g'⟩ (fun r => ∀ c : Dev Cert.OdDwRefIdeal.nD,
          r.2.mem ((c.tc : Thread Cert.OdDwRefIdeal.nD Cert.OdDwRefIdeal.τ).loc Cert.OdDwRefIdeal.main_v6) = v0 c
          ∧ r.2.mem ((c.tc : Thread Cert.OdDwRefIdeal.nD Cert.OdDwRefIdeal.τ).loc Cert.OdDwRefIdeal.main_arg0) = m' ((c.tc : Thread Cert.OdDwRefIdeal.nD Cert.OdDwRefIdeal.τ).loc Cert.OdDwRefIdeal.main_arg0)
          ∧ r.2.mem ((c.tc : Thread Cert.OdDwRefIdeal.nD Cert.OdDwRefIdeal.τ).loc Cert.OdDwRefIdeal.main_arg1) = m' ((c.tc : Thread Cert.OdDwRefIdeal.nD Cert.OdDwRefIdeal.τ).loc Cert.OdDwRefIdeal.main_arg1))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v6) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_MixD0_MixD0Ideal : Prop :=
  True

def algebraic_MixD0Ideal_MixD0RefIdeal [hMixD0Ideal : Cert.MixD0Ideal.Facts] [hMixD0RefIdeal : Cert.MixD0RefIdeal.Facts] : Prop :=
  ∀ (m : (ℓ : Loc Cert.MixD0Ideal.nD Cert.MixD0Ideal.τ Cert.MixD0Ideal.sig) → Buf (Elt Ideal) ℓ) (g : Dev Cert.MixD0Ideal.nD → PrngReg)
    (m' : (ℓ : Loc Cert.MixD0RefIdeal.nD Cert.MixD0RefIdeal.τ Cert.MixD0RefIdeal.sig) → Buf (Elt Ideal) ℓ) (g' : Dev Cert.MixD0RefIdeal.nD → PrngReg), Pre_MixD0Ideal m →
    (∀ c : Dev Cert.MixD0Ideal.nD,
      m' ((c.tc : Thread Cert.MixD0RefIdeal.nD Cert.MixD0RefIdeal.τ).loc Cert.MixD0RefIdeal.main_arg0) = m ((c.tc : Thread Cert.MixD0Ideal.nD Cert.MixD0Ideal.τ).loc Cert.MixD0Ideal.main_arg0)
      ∧ m' ((c.tc : Thread Cert.MixD0RefIdeal.nD Cert.MixD0RefIdeal.τ).loc Cert.MixD0RefIdeal.main_arg1) = m ((c.tc : Thread Cert.MixD0Ideal.nD Cert.MixD0Ideal.τ).loc Cert.MixD0Ideal.main_arg1)) →
    ∃ (v0 : (c : Dev Cert.MixD0Ideal.nD) → Buf (Elt Ideal) ((c.tc : Thread Cert.MixD0Ideal.nD Cert.MixD0Ideal.τ).loc Cert.MixD0Ideal.main_v0)),
      θ_run (Cert.MixD0Ideal.defs (F := Ideal)) (onTc (τ := Cert.MixD0Ideal.τ) (Cert.MixD0Ideal.main (F := Ideal))) ⟨m, fun _ => 0, g⟩ (fun r => ∀ c : Dev Cert.MixD0Ideal.nD,
          r.2.mem ((c.tc : Thread Cert.MixD0Ideal.nD Cert.MixD0Ideal.τ).loc Cert.MixD0Ideal.main_v0) = v0 c
          ∧ r.2.mem ((c.tc : Thread Cert.MixD0Ideal.nD Cert.MixD0Ideal.τ).loc Cert.MixD0Ideal.main_arg0) = m ((c.tc : Thread Cert.MixD0Ideal.nD Cert.MixD0Ideal.τ).loc Cert.MixD0Ideal.main_arg0)
          ∧ r.2.mem ((c.tc : Thread Cert.MixD0Ideal.nD Cert.MixD0Ideal.τ).loc Cert.MixD0Ideal.main_arg1) = m ((c.tc : Thread Cert.MixD0Ideal.nD Cert.MixD0Ideal.τ).loc Cert.MixD0Ideal.main_arg1))
      ∧ θ_run (Cert.MixD0RefIdeal.defs (F := Ideal)) (onTc (τ := Cert.MixD0RefIdeal.τ) (Cert.MixD0RefIdeal.main (F := Ideal))) ⟨m', fun _ => 0, g'⟩ (fun r => ∀ c : Dev Cert.MixD0RefIdeal.nD,
          r.2.mem ((c.tc : Thread Cert.MixD0RefIdeal.nD Cert.MixD0RefIdeal.τ).loc Cert.MixD0RefIdeal.main_v6) = v0 c
          ∧ r.2.mem ((c.tc : Thread Cert.MixD0RefIdeal.nD Cert.MixD0RefIdeal.τ).loc Cert.MixD0RefIdeal.main_arg0) = m' ((c.tc : Thread Cert.MixD0RefIdeal.nD Cert.MixD0RefIdeal.τ).loc Cert.MixD0RefIdeal.main_arg0)
          ∧ r.2.mem ((c.tc : Thread Cert.MixD0RefIdeal.nD Cert.MixD0RefIdeal.τ).loc Cert.MixD0RefIdeal.main_arg1) = m' ((c.tc : Thread Cert.MixD0RefIdeal.nD Cert.MixD0RefIdeal.τ).loc Cert.MixD0RefIdeal.main_arg1))

def preserves_EvDh0_EvDh0Ideal : Prop :=
  True

def algebraic_EvDh0Ideal_EvDh0RefIdeal [hEvDh0Ideal : Cert.EvDh0Ideal.Facts] [hEvDh0RefIdeal : Cert.EvDh0RefIdeal.Facts] : Prop :=
  ∀ (m : (ℓ : Loc Cert.EvDh0Ideal.nD Cert.EvDh0Ideal.τ Cert.EvDh0Ideal.sig) → Buf (Elt Ideal) ℓ) (g : Dev Cert.EvDh0Ideal.nD → PrngReg)
    (m' : (ℓ : Loc Cert.EvDh0RefIdeal.nD Cert.EvDh0RefIdeal.τ Cert.EvDh0RefIdeal.sig) → Buf (Elt Ideal) ℓ) (g' : Dev Cert.EvDh0RefIdeal.nD → PrngReg), Pre_EvDh0Ideal m →
    (∀ c : Dev Cert.EvDh0Ideal.nD,
      m' ((c.tc : Thread Cert.EvDh0RefIdeal.nD Cert.EvDh0RefIdeal.τ).loc Cert.EvDh0RefIdeal.main_arg0) = m ((c.tc : Thread Cert.EvDh0Ideal.nD Cert.EvDh0Ideal.τ).loc Cert.EvDh0Ideal.main_arg0)
      ∧ m' ((c.tc : Thread Cert.EvDh0RefIdeal.nD Cert.EvDh0RefIdeal.τ).loc Cert.EvDh0RefIdeal.main_arg1) = m ((c.tc : Thread Cert.EvDh0Ideal.nD Cert.EvDh0Ideal.τ).loc Cert.EvDh0Ideal.main_arg1)) →
    ∃ (v0 : (c : Dev Cert.EvDh0Ideal.nD) → Buf (Elt Ideal) ((c.tc : Thread Cert.EvDh0Ideal.nD Cert.EvDh0Ideal.τ).loc Cert.EvDh0Ideal.main_v0)),
      θ_run (Cert.EvDh0Ideal.defs (F := Ideal)) (onTc (τ := Cert.EvDh0Ideal.τ) (Cert.EvDh0Ideal.main (F := Ideal))) ⟨m, fun _ => 0, g⟩ (fun r => ∀ c : Dev Cert.EvDh0Ideal.nD,
          r.2.mem ((c.tc : Thread Cert.EvDh0Ideal.nD Cert.EvDh0Ideal.τ).loc Cert.EvDh0Ideal.main_v0) = v0 c
          ∧ r.2.mem ((c.tc : Thread Cert.EvDh0Ideal.nD Cert.EvDh0Ideal.τ).loc Cert.EvDh0Ideal.main_arg0) = m ((c.tc : Thread Cert.EvDh0Ideal.nD Cert.EvDh0Ideal.τ).loc Cert.EvDh0Ideal.main_arg0)
          ∧ r.2.mem ((c.tc : Thread Cert.EvDh0Ideal.nD Cert.EvDh0Ideal.τ).loc Cert.EvDh0Ideal.main_arg1) = m ((c.tc : Thread Cert.EvDh0Ideal.nD Cert.EvDh0Ideal.τ).loc Cert.EvDh0Ideal.main_arg1))
      ∧ θ_run (Cert.EvDh0RefIdeal.defs (F := Ideal)) (onTc (τ := Cert.EvDh0RefIdeal.τ) (Cert.EvDh0RefIdeal.main (F := Ideal))) ⟨m', fun _ => 0, g'⟩ (fun r => ∀ c : Dev Cert.EvDh0RefIdeal.nD,
          r.2.mem ((c.tc : Thread Cert.EvDh0RefIdeal.nD Cert.EvDh0RefIdeal.τ).loc Cert.EvDh0RefIdeal.main_v6) = v0 c
          ∧ r.2.mem ((c.tc : Thread Cert.EvDh0RefIdeal.nD Cert.EvDh0RefIdeal.τ).loc Cert.EvDh0RefIdeal.main_arg0) = m' ((c.tc : Thread Cert.EvDh0RefIdeal.nD Cert.EvDh0RefIdeal.τ).loc Cert.EvDh0RefIdeal.main_arg0)
          ∧ r.2.mem ((c.tc : Thread Cert.EvDh0RefIdeal.nD Cert.EvDh0RefIdeal.τ).loc Cert.EvDh0RefIdeal.main_arg1) = m' ((c.tc : Thread Cert.EvDh0RefIdeal.nD Cert.EvDh0RefIdeal.τ).loc Cert.EvDh0RefIdeal.main_arg1))

def preserves_OdDh0_OdDh0Ideal : Prop :=
  True

def algebraic_OdDh0Ideal_OdDh0RefIdeal [hOdDh0Ideal : Cert.OdDh0Ideal.Facts] [hOdDh0RefIdeal : Cert.OdDh0RefIdeal.Facts] : Prop :=
  ∀ (m : (ℓ : Loc Cert.OdDh0Ideal.nD Cert.OdDh0Ideal.τ Cert.OdDh0Ideal.sig) → Buf (Elt Ideal) ℓ) (g : Dev Cert.OdDh0Ideal.nD → PrngReg)
    (m' : (ℓ : Loc Cert.OdDh0RefIdeal.nD Cert.OdDh0RefIdeal.τ Cert.OdDh0RefIdeal.sig) → Buf (Elt Ideal) ℓ) (g' : Dev Cert.OdDh0RefIdeal.nD → PrngReg), Pre_OdDh0Ideal m →
    (∀ c : Dev Cert.OdDh0Ideal.nD,
      m' ((c.tc : Thread Cert.OdDh0RefIdeal.nD Cert.OdDh0RefIdeal.τ).loc Cert.OdDh0RefIdeal.main_arg0) = m ((c.tc : Thread Cert.OdDh0Ideal.nD Cert.OdDh0Ideal.τ).loc Cert.OdDh0Ideal.main_arg0)
      ∧ m' ((c.tc : Thread Cert.OdDh0RefIdeal.nD Cert.OdDh0RefIdeal.τ).loc Cert.OdDh0RefIdeal.main_arg1) = m ((c.tc : Thread Cert.OdDh0Ideal.nD Cert.OdDh0Ideal.τ).loc Cert.OdDh0Ideal.main_arg1)) →
    ∃ (v0 : (c : Dev Cert.OdDh0Ideal.nD) → Buf (Elt Ideal) ((c.tc : Thread Cert.OdDh0Ideal.nD Cert.OdDh0Ideal.τ).loc Cert.OdDh0Ideal.main_v0)),
      θ_run (Cert.OdDh0Ideal.defs (F := Ideal)) (onTc (τ := Cert.OdDh0Ideal.τ) (Cert.OdDh0Ideal.main (F := Ideal))) ⟨m, fun _ => 0, g⟩ (fun r => ∀ c : Dev Cert.OdDh0Ideal.nD,
          r.2.mem ((c.tc : Thread Cert.OdDh0Ideal.nD Cert.OdDh0Ideal.τ).loc Cert.OdDh0Ideal.main_v0) = v0 c
          ∧ r.2.mem ((c.tc : Thread Cert.OdDh0Ideal.nD Cert.OdDh0Ideal.τ).loc Cert.OdDh0Ideal.main_arg0) = m ((c.tc : Thread Cert.OdDh0Ideal.nD Cert.OdDh0Ideal.τ).loc Cert.OdDh0Ideal.main_arg0)
          ∧ r.2.mem ((c.tc : Thread Cert.OdDh0Ideal.nD Cert.OdDh0Ideal.τ).loc Cert.OdDh0Ideal.main_arg1) = m ((c.tc : Thread Cert.OdDh0Ideal.nD Cert.OdDh0Ideal.τ).loc Cert.OdDh0Ideal.main_arg1))
      ∧ θ_run (Cert.OdDh0RefIdeal.defs (F := Ideal)) (onTc (τ := Cert.OdDh0RefIdeal.τ) (Cert.OdDh0RefIdeal.main (F := Ideal))) ⟨m', fun _ => 0, g'⟩ (fun r => ∀ c : Dev Cert.OdDh0RefIdeal.nD,
          r.2.mem ((c.tc : Thread Cert.OdDh0RefIdeal.nD Cert.OdDh0RefIdeal.τ).loc Cert.OdDh0RefIdeal.main_v6) = v0 c
          ∧ r.2.mem ((c.tc : Thread Cert.OdDh0RefIdeal.nD Cert.OdDh0RefIdeal.τ).loc Cert.OdDh0RefIdeal.main_arg0) = m' ((c.tc : Thread Cert.OdDh0RefIdeal.nD Cert.OdDh0RefIdeal.τ).loc Cert.OdDh0RefIdeal.main_arg0)
          ∧ r.2.mem ((c.tc : Thread Cert.OdDh0RefIdeal.nD Cert.OdDh0RefIdeal.τ).loc Cert.OdDh0RefIdeal.main_arg1) = m' ((c.tc : Thread Cert.OdDh0RefIdeal.nD Cert.OdDh0RefIdeal.τ).loc Cert.OdDh0RefIdeal.main_arg1))

def preserves_GluDz0_GluDz0Ideal : Prop :=
  True

def algebraic_GluDz0Ideal_GluDz0RefIdeal [hGluDz0Ideal : Cert.GluDz0Ideal.Facts] [hGluDz0RefIdeal : Cert.GluDz0RefIdeal.Facts] : Prop :=
  ∀ (m : (ℓ : Loc Cert.GluDz0Ideal.nD Cert.GluDz0Ideal.τ Cert.GluDz0Ideal.sig) → Buf (Elt Ideal) ℓ) (g : Dev Cert.GluDz0Ideal.nD → PrngReg)
    (m' : (ℓ : Loc Cert.GluDz0RefIdeal.nD Cert.GluDz0RefIdeal.τ Cert.GluDz0RefIdeal.sig) → Buf (Elt Ideal) ℓ) (g' : Dev Cert.GluDz0RefIdeal.nD → PrngReg), Pre_GluDz0Ideal m →
    (∀ c : Dev Cert.GluDz0Ideal.nD,
      m' ((c.tc : Thread Cert.GluDz0RefIdeal.nD Cert.GluDz0RefIdeal.τ).loc Cert.GluDz0RefIdeal.main_arg0) = m ((c.tc : Thread Cert.GluDz0Ideal.nD Cert.GluDz0Ideal.τ).loc Cert.GluDz0Ideal.main_arg0)
      ∧ m' ((c.tc : Thread Cert.GluDz0RefIdeal.nD Cert.GluDz0RefIdeal.τ).loc Cert.GluDz0RefIdeal.main_arg1) = m ((c.tc : Thread Cert.GluDz0Ideal.nD Cert.GluDz0Ideal.τ).loc Cert.GluDz0Ideal.main_arg1)) →
    ∃ (v0 : (c : Dev Cert.GluDz0Ideal.nD) → Buf (Elt Ideal) ((c.tc : Thread Cert.GluDz0Ideal.nD Cert.GluDz0Ideal.τ).loc Cert.GluDz0Ideal.main_v0)),
      θ_run (Cert.GluDz0Ideal.defs (F := Ideal)) (onTc (τ := Cert.GluDz0Ideal.τ) (Cert.GluDz0Ideal.main (F := Ideal))) ⟨m, fun _ => 0, g⟩ (fun r => ∀ c : Dev Cert.GluDz0Ideal.nD,
          r.2.mem ((c.tc : Thread Cert.GluDz0Ideal.nD Cert.GluDz0Ideal.τ).loc Cert.GluDz0Ideal.main_v0) = v0 c
          ∧ r.2.mem ((c.tc : Thread Cert.GluDz0Ideal.nD Cert.GluDz0Ideal.τ).loc Cert.GluDz0Ideal.main_arg0) = m ((c.tc : Thread Cert.GluDz0Ideal.nD Cert.GluDz0Ideal.τ).loc Cert.GluDz0Ideal.main_arg0)
          ∧ r.2.mem ((c.tc : Thread Cert.GluDz0Ideal.nD Cert.GluDz0Ideal.τ).loc Cert.GluDz0Ideal.main_arg1) = m ((c.tc : Thread Cert.GluDz0Ideal.nD Cert.GluDz0Ideal.τ).loc Cert.GluDz0Ideal.main_arg1))
      ∧ θ_run (Cert.GluDz0RefIdeal.defs (F := Ideal)) (onTc (τ := Cert.GluDz0RefIdeal.τ) (Cert.GluDz0RefIdeal.main (F := Ideal))) ⟨m', fun _ => 0, g'⟩ (fun r => ∀ c : Dev Cert.GluDz0RefIdeal.nD,
          r.2.mem ((c.tc : Thread Cert.GluDz0RefIdeal.nD Cert.GluDz0RefIdeal.τ).loc Cert.GluDz0RefIdeal.main_v6) = v0 c
          ∧ r.2.mem ((c.tc : Thread Cert.GluDz0RefIdeal.nD Cert.GluDz0RefIdeal.τ).loc Cert.GluDz0RefIdeal.main_arg0) = m' ((c.tc : Thread Cert.GluDz0RefIdeal.nD Cert.GluDz0RefIdeal.τ).loc Cert.GluDz0RefIdeal.main_arg0)
          ∧ r.2.mem ((c.tc : Thread Cert.GluDz0RefIdeal.nD Cert.GluDz0RefIdeal.τ).loc Cert.GluDz0RefIdeal.main_arg1) = m' ((c.tc : Thread Cert.GluDz0RefIdeal.nD Cert.GluDz0RefIdeal.τ).loc Cert.GluDz0RefIdeal.main_arg1))

def preserves_EvIn0_EvIn0Ideal : Prop :=
  True

def algebraic_EvIn0Ideal_EvIn0RefIdeal [hEvIn0Ideal : Cert.EvIn0Ideal.Facts] [hEvIn0RefIdeal : Cert.EvIn0RefIdeal.Facts] : Prop :=
  ∀ (m : (ℓ : Loc Cert.EvIn0Ideal.nD Cert.EvIn0Ideal.τ Cert.EvIn0Ideal.sig) → Buf (Elt Ideal) ℓ) (g : Dev Cert.EvIn0Ideal.nD → PrngReg)
    (m' : (ℓ : Loc Cert.EvIn0RefIdeal.nD Cert.EvIn0RefIdeal.τ Cert.EvIn0RefIdeal.sig) → Buf (Elt Ideal) ℓ) (g' : Dev Cert.EvIn0RefIdeal.nD → PrngReg), Pre_EvIn0Ideal m →
    (∀ c : Dev Cert.EvIn0Ideal.nD,
      m' ((c.tc : Thread Cert.EvIn0RefIdeal.nD Cert.EvIn0RefIdeal.τ).loc Cert.EvIn0RefIdeal.main_arg0) = m ((c.tc : Thread Cert.EvIn0Ideal.nD Cert.EvIn0Ideal.τ).loc Cert.EvIn0Ideal.main_arg0)
      ∧ m' ((c.tc : Thread Cert.EvIn0RefIdeal.nD Cert.EvIn0RefIdeal.τ).loc Cert.EvIn0RefIdeal.main_arg1) = m ((c.tc : Thread Cert.EvIn0Ideal.nD Cert.EvIn0Ideal.τ).loc Cert.EvIn0Ideal.main_arg1)) →
    ∃ (v0 : (c : Dev Cert.EvIn0Ideal.nD) → Buf (Elt Ideal) ((c.tc : Thread Cert.EvIn0Ideal.nD Cert.EvIn0Ideal.τ).loc Cert.EvIn0Ideal.main_v0)),
      θ_run (Cert.EvIn0Ideal.defs (F := Ideal)) (onTc (τ := Cert.EvIn0Ideal.τ) (Cert.EvIn0Ideal.main (F := Ideal))) ⟨m, fun _ => 0, g⟩ (fun r => ∀ c : Dev Cert.EvIn0Ideal.nD,
          r.2.mem ((c.tc : Thread Cert.EvIn0Ideal.nD Cert.EvIn0Ideal.τ).loc Cert.EvIn0Ideal.main_v0) = v0 c
          ∧ r.2.mem ((c.tc : Thread Cert.EvIn0Ideal.nD Cert.EvIn0Ideal.τ).loc Cert.EvIn0Ideal.main_arg0) = m ((c.tc : Thread Cert.EvIn0Ideal.nD Cert.EvIn0Ideal.τ).loc Cert.EvIn0Ideal.main_arg0)
          ∧ r.2.mem ((c.tc : Thread Cert.EvIn0Ideal.nD Cert.EvIn0Ideal.τ).loc Cert.EvIn0Ideal.main_arg1) = m ((c.tc : Thread Cert.EvIn0Ideal.nD Cert.EvIn0Ideal.τ).loc Cert.EvIn0Ideal.main_arg1))
      ∧ θ_run (Cert.EvIn0RefIdeal.defs (F := Ideal)) (onTc (τ := Cert.EvIn0RefIdeal.τ) (Cert.EvIn0RefIdeal.main (F := Ideal))) ⟨m', fun _ => 0, g'⟩ (fun r => ∀ c : Dev Cert.EvIn0RefIdeal.nD,
          r.2.mem ((c.tc : Thread Cert.EvIn0RefIdeal.nD Cert.EvIn0RefIdeal.τ).loc Cert.EvIn0RefIdeal.main_v4) = v0 c
          ∧ r.2.mem ((c.tc : Thread Cert.EvIn0RefIdeal.nD Cert.EvIn0RefIdeal.τ).loc Cert.EvIn0RefIdeal.main_arg0) = m' ((c.tc : Thread Cert.EvIn0RefIdeal.nD Cert.EvIn0RefIdeal.τ).loc Cert.EvIn0RefIdeal.main_arg0)
          ∧ r.2.mem ((c.tc : Thread Cert.EvIn0RefIdeal.nD Cert.EvIn0RefIdeal.τ).loc Cert.EvIn0RefIdeal.main_arg1) = m' ((c.tc : Thread Cert.EvIn0RefIdeal.nD Cert.EvIn0RefIdeal.τ).loc Cert.EvIn0RefIdeal.main_arg1))

def preserves_OdIn0_OdIn0Ideal : Prop :=
  True

def algebraic_OdIn0Ideal_OdIn0RefIdeal [hOdIn0Ideal : Cert.OdIn0Ideal.Facts] [hOdIn0RefIdeal : Cert.OdIn0RefIdeal.Facts] : Prop :=
  ∀ (m : (ℓ : Loc Cert.OdIn0Ideal.nD Cert.OdIn0Ideal.τ Cert.OdIn0Ideal.sig) → Buf (Elt Ideal) ℓ) (g : Dev Cert.OdIn0Ideal.nD → PrngReg)
    (m' : (ℓ : Loc Cert.OdIn0RefIdeal.nD Cert.OdIn0RefIdeal.τ Cert.OdIn0RefIdeal.sig) → Buf (Elt Ideal) ℓ) (g' : Dev Cert.OdIn0RefIdeal.nD → PrngReg), Pre_OdIn0Ideal m →
    (∀ c : Dev Cert.OdIn0Ideal.nD,
      m' ((c.tc : Thread Cert.OdIn0RefIdeal.nD Cert.OdIn0RefIdeal.τ).loc Cert.OdIn0RefIdeal.main_arg0) = m ((c.tc : Thread Cert.OdIn0Ideal.nD Cert.OdIn0Ideal.τ).loc Cert.OdIn0Ideal.main_arg0)
      ∧ m' ((c.tc : Thread Cert.OdIn0RefIdeal.nD Cert.OdIn0RefIdeal.τ).loc Cert.OdIn0RefIdeal.main_arg1) = m ((c.tc : Thread Cert.OdIn0Ideal.nD Cert.OdIn0Ideal.τ).loc Cert.OdIn0Ideal.main_arg1)) →
    ∃ (v0 : (c : Dev Cert.OdIn0Ideal.nD) → Buf (Elt Ideal) ((c.tc : Thread Cert.OdIn0Ideal.nD Cert.OdIn0Ideal.τ).loc Cert.OdIn0Ideal.main_v0)),
      θ_run (Cert.OdIn0Ideal.defs (F := Ideal)) (onTc (τ := Cert.OdIn0Ideal.τ) (Cert.OdIn0Ideal.main (F := Ideal))) ⟨m, fun _ => 0, g⟩ (fun r => ∀ c : Dev Cert.OdIn0Ideal.nD,
          r.2.mem ((c.tc : Thread Cert.OdIn0Ideal.nD Cert.OdIn0Ideal.τ).loc Cert.OdIn0Ideal.main_v0) = v0 c
          ∧ r.2.mem ((c.tc : Thread Cert.OdIn0Ideal.nD Cert.OdIn0Ideal.τ).loc Cert.OdIn0Ideal.main_arg0) = m ((c.tc : Thread Cert.OdIn0Ideal.nD Cert.OdIn0Ideal.τ).loc Cert.OdIn0Ideal.main_arg0)
          ∧ r.2.mem ((c.tc : Thread Cert.OdIn0Ideal.nD Cert.OdIn0Ideal.τ).loc Cert.OdIn0Ideal.main_arg1) = m ((c.tc : Thread Cert.OdIn0Ideal.nD Cert.OdIn0Ideal.τ).loc Cert.OdIn0Ideal.main_arg1))
      ∧ θ_run (Cert.OdIn0RefIdeal.defs (F := Ideal)) (onTc (τ := Cert.OdIn0RefIdeal.τ) (Cert.OdIn0RefIdeal.main (F := Ideal))) ⟨m', fun _ => 0, g'⟩ (fun r => ∀ c : Dev Cert.OdIn0RefIdeal.nD,
          r.2.mem ((c.tc : Thread Cert.OdIn0RefIdeal.nD Cert.OdIn0RefIdeal.τ).loc Cert.OdIn0RefIdeal.main_v4) = v0 c
          ∧ r.2.mem ((c.tc : Thread Cert.OdIn0RefIdeal.nD Cert.OdIn0RefIdeal.τ).loc Cert.OdIn0RefIdeal.main_arg0) = m' ((c.tc : Thread Cert.OdIn0RefIdeal.nD Cert.OdIn0RefIdeal.τ).loc Cert.OdIn0RefIdeal.main_arg0)
          ∧ r.2.mem ((c.tc : Thread Cert.OdIn0RefIdeal.nD Cert.OdIn0RefIdeal.τ).loc Cert.OdIn0RefIdeal.main_arg1) = m' ((c.tc : Thread Cert.OdIn0RefIdeal.nD Cert.OdIn0RefIdeal.τ).loc Cert.OdIn0RefIdeal.main_arg1))

def preserves_GluMm0_GluMm0Ideal : Prop :=
  True

def algebraic_GluMm0Ideal_GluMm0RefIdeal [hGluMm0Ideal : Cert.GluMm0Ideal.Facts] [hGluMm0RefIdeal : Cert.GluMm0RefIdeal.Facts] : Prop :=
  ∀ (m : (ℓ : Loc Cert.GluMm0Ideal.nD Cert.GluMm0Ideal.τ Cert.GluMm0Ideal.sig) → Buf (Elt Ideal) ℓ) (g : Dev Cert.GluMm0Ideal.nD → PrngReg)
    (m' : (ℓ : Loc Cert.GluMm0RefIdeal.nD Cert.GluMm0RefIdeal.τ Cert.GluMm0RefIdeal.sig) → Buf (Elt Ideal) ℓ) (g' : Dev Cert.GluMm0RefIdeal.nD → PrngReg), Pre_GluMm0Ideal m →
    (∀ c : Dev Cert.GluMm0Ideal.nD,
      m' ((c.tc : Thread Cert.GluMm0RefIdeal.nD Cert.GluMm0RefIdeal.τ).loc Cert.GluMm0RefIdeal.main_arg0) = m ((c.tc : Thread Cert.GluMm0Ideal.nD Cert.GluMm0Ideal.τ).loc Cert.GluMm0Ideal.main_arg0)
      ∧ m' ((c.tc : Thread Cert.GluMm0RefIdeal.nD Cert.GluMm0RefIdeal.τ).loc Cert.GluMm0RefIdeal.main_arg1) = m ((c.tc : Thread Cert.GluMm0Ideal.nD Cert.GluMm0Ideal.τ).loc Cert.GluMm0Ideal.main_arg1)) →
    ∃ (v0 : (c : Dev Cert.GluMm0Ideal.nD) → Buf (Elt Ideal) ((c.tc : Thread Cert.GluMm0Ideal.nD Cert.GluMm0Ideal.τ).loc Cert.GluMm0Ideal.main_v0)),
      θ_run (Cert.GluMm0Ideal.defs (F := Ideal)) (onTc (τ := Cert.GluMm0Ideal.τ) (Cert.GluMm0Ideal.main (F := Ideal))) ⟨m, fun _ => 0, g⟩ (fun r => ∀ c : Dev Cert.GluMm0Ideal.nD,
          r.2.mem ((c.tc : Thread Cert.GluMm0Ideal.nD Cert.GluMm0Ideal.τ).loc Cert.GluMm0Ideal.main_v0) = v0 c
          ∧ r.2.mem ((c.tc : Thread Cert.GluMm0Ideal.nD Cert.GluMm0Ideal.τ).loc Cert.GluMm0Ideal.main_arg0) = m ((c.tc : Thread Cert.GluMm0Ideal.nD Cert.GluMm0Ideal.τ).loc Cert.GluMm0Ideal.main_arg0)
          ∧ r.2.mem ((c.tc : Thread Cert.GluMm0Ideal.nD Cert.GluMm0Ideal.τ).loc Cert.GluMm0Ideal.main_arg1) = m ((c.tc : Thread Cert.GluMm0Ideal.nD Cert.GluMm0Ideal.τ).loc Cert.GluMm0Ideal.main_arg1))
      ∧ θ_run (Cert.GluMm0RefIdeal.defs (F := Ideal)) (onTc (τ := Cert.GluMm0RefIdeal.τ) (Cert.GluMm0RefIdeal.main (F := Ideal))) ⟨m', fun _ => 0, g'⟩ (fun r => ∀ c : Dev Cert.GluMm0RefIdeal.nD,
          r.2.mem ((c.tc : Thread Cert.GluMm0RefIdeal.nD Cert.GluMm0RefIdeal.τ).loc Cert.GluMm0RefIdeal.main_v4) = v0 c
          ∧ r.2.mem ((c.tc : Thread Cert.GluMm0RefIdeal.nD Cert.GluMm0RefIdeal.τ).loc Cert.GluMm0RefIdeal.main_arg0) = m' ((c.tc : Thread Cert.GluMm0RefIdeal.nD Cert.GluMm0RefIdeal.τ).loc Cert.GluMm0RefIdeal.main_arg0)
          ∧ r.2.mem ((c.tc : Thread Cert.GluMm0RefIdeal.nD Cert.GluMm0RefIdeal.τ).loc Cert.GluMm0RefIdeal.main_arg1) = m' ((c.tc : Thread Cert.GluMm0RefIdeal.nD Cert.GluMm0RefIdeal.τ).loc Cert.GluMm0RefIdeal.main_arg1))

def preserves_MixOut0_MixOut0Ideal : Prop :=
  True

def algebraic_MixOut0Ideal_MixOut0RefIdeal [hMixOut0Ideal : Cert.MixOut0Ideal.Facts] [hMixOut0RefIdeal : Cert.MixOut0RefIdeal.Facts] : Prop :=
  ∀ (m : (ℓ : Loc Cert.MixOut0Ideal.nD Cert.MixOut0Ideal.τ Cert.MixOut0Ideal.sig) → Buf (Elt Ideal) ℓ) (g : Dev Cert.MixOut0Ideal.nD → PrngReg)
    (m' : (ℓ : Loc Cert.MixOut0RefIdeal.nD Cert.MixOut0RefIdeal.τ Cert.MixOut0RefIdeal.sig) → Buf (Elt Ideal) ℓ) (g' : Dev Cert.MixOut0RefIdeal.nD → PrngReg), Pre_MixOut0Ideal m →
    (∀ c : Dev Cert.MixOut0Ideal.nD,
      m' ((c.tc : Thread Cert.MixOut0RefIdeal.nD Cert.MixOut0RefIdeal.τ).loc Cert.MixOut0RefIdeal.main_arg0) = m ((c.tc : Thread Cert.MixOut0Ideal.nD Cert.MixOut0Ideal.τ).loc Cert.MixOut0Ideal.main_arg0)
      ∧ m' ((c.tc : Thread Cert.MixOut0RefIdeal.nD Cert.MixOut0RefIdeal.τ).loc Cert.MixOut0RefIdeal.main_arg1) = m ((c.tc : Thread Cert.MixOut0Ideal.nD Cert.MixOut0Ideal.τ).loc Cert.MixOut0Ideal.main_arg1)) →
    ∃ (v0 : (c : Dev Cert.MixOut0Ideal.nD) → Buf (Elt Ideal) ((c.tc : Thread Cert.MixOut0Ideal.nD Cert.MixOut0Ideal.τ).loc Cert.MixOut0Ideal.main_v0)),
      θ_run (Cert.MixOut0Ideal.defs (F := Ideal)) (onTc (τ := Cert.MixOut0Ideal.τ) (Cert.MixOut0Ideal.main (F := Ideal))) ⟨m, fun _ => 0, g⟩ (fun r => ∀ c : Dev Cert.MixOut0Ideal.nD,
          r.2.mem ((c.tc : Thread Cert.MixOut0Ideal.nD Cert.MixOut0Ideal.τ).loc Cert.MixOut0Ideal.main_v0) = v0 c
          ∧ r.2.mem ((c.tc : Thread Cert.MixOut0Ideal.nD Cert.MixOut0Ideal.τ).loc Cert.MixOut0Ideal.main_arg0) = m ((c.tc : Thread Cert.MixOut0Ideal.nD Cert.MixOut0Ideal.τ).loc Cert.MixOut0Ideal.main_arg0)
          ∧ r.2.mem ((c.tc : Thread Cert.MixOut0Ideal.nD Cert.MixOut0Ideal.τ).loc Cert.MixOut0Ideal.main_arg1) = m ((c.tc : Thread Cert.MixOut0Ideal.nD Cert.MixOut0Ideal.τ).loc Cert.MixOut0Ideal.main_arg1))
      ∧ θ_run (Cert.MixOut0RefIdeal.defs (F := Ideal)) (onTc (τ := Cert.MixOut0RefIdeal.τ) (Cert.MixOut0RefIdeal.main (F := Ideal))) ⟨m', fun _ => 0, g'⟩ (fun r => ∀ c : Dev Cert.MixOut0RefIdeal.nD,
          r.2.mem ((c.tc : Thread Cert.MixOut0RefIdeal.nD Cert.MixOut0RefIdeal.τ).loc Cert.MixOut0RefIdeal.main_v4) = v0 c
          ∧ r.2.mem ((c.tc : Thread Cert.MixOut0RefIdeal.nD Cert.MixOut0RefIdeal.τ).loc Cert.MixOut0RefIdeal.main_arg0) = m' ((c.tc : Thread Cert.MixOut0RefIdeal.nD Cert.MixOut0RefIdeal.τ).loc Cert.MixOut0RefIdeal.main_arg0)
          ∧ r.2.mem ((c.tc : Thread Cert.MixOut0RefIdeal.nD Cert.MixOut0RefIdeal.τ).loc Cert.MixOut0RefIdeal.main_arg1) = m' ((c.tc : Thread Cert.MixOut0RefIdeal.nD Cert.MixOut0RefIdeal.τ).loc Cert.MixOut0RefIdeal.main_arg1))

def preserves_MixD1_MixD1Ideal : Prop :=
  True

def algebraic_MixD1Ideal_MixD1RefIdeal [hMixD1Ideal : Cert.MixD1Ideal.Facts] [hMixD1RefIdeal : Cert.MixD1RefIdeal.Facts] : Prop :=
  ∀ (m : (ℓ : Loc Cert.MixD1Ideal.nD Cert.MixD1Ideal.τ Cert.MixD1Ideal.sig) → Buf (Elt Ideal) ℓ) (g : Dev Cert.MixD1Ideal.nD → PrngReg)
    (m' : (ℓ : Loc Cert.MixD1RefIdeal.nD Cert.MixD1RefIdeal.τ Cert.MixD1RefIdeal.sig) → Buf (Elt Ideal) ℓ) (g' : Dev Cert.MixD1RefIdeal.nD → PrngReg), Pre_MixD1Ideal m →
    (∀ c : Dev Cert.MixD1Ideal.nD,
      m' ((c.tc : Thread Cert.MixD1RefIdeal.nD Cert.MixD1RefIdeal.τ).loc Cert.MixD1RefIdeal.main_arg0) = m ((c.tc : Thread Cert.MixD1Ideal.nD Cert.MixD1Ideal.τ).loc Cert.MixD1Ideal.main_arg0)
      ∧ m' ((c.tc : Thread Cert.MixD1RefIdeal.nD Cert.MixD1RefIdeal.τ).loc Cert.MixD1RefIdeal.main_arg1) = m ((c.tc : Thread Cert.MixD1Ideal.nD Cert.MixD1Ideal.τ).loc Cert.MixD1Ideal.main_arg1)) →
    ∃ (v0 : (c : Dev Cert.MixD1Ideal.nD) → Buf (Elt Ideal) ((c.tc : Thread Cert.MixD1Ideal.nD Cert.MixD1Ideal.τ).loc Cert.MixD1Ideal.main_v0)),
      θ_run (Cert.MixD1Ideal.defs (F := Ideal)) (onTc (τ := Cert.MixD1Ideal.τ) (Cert.MixD1Ideal.main (F := Ideal))) ⟨m, fun _ => 0, g⟩ (fun r => ∀ c : Dev Cert.MixD1Ideal.nD,
          r.2.mem ((c.tc : Thread Cert.MixD1Ideal.nD Cert.MixD1Ideal.τ).loc Cert.MixD1Ideal.main_v0) = v0 c
          ∧ r.2.mem ((c.tc : Thread Cert.MixD1Ideal.nD Cert.MixD1Ideal.τ).loc Cert.MixD1Ideal.main_arg0) = m ((c.tc : Thread Cert.MixD1Ideal.nD Cert.MixD1Ideal.τ).loc Cert.MixD1Ideal.main_arg0)
          ∧ r.2.mem ((c.tc : Thread Cert.MixD1Ideal.nD Cert.MixD1Ideal.τ).loc Cert.MixD1Ideal.main_arg1) = m ((c.tc : Thread Cert.MixD1Ideal.nD Cert.MixD1Ideal.τ).loc Cert.MixD1Ideal.main_arg1))
      ∧ θ_run (Cert.MixD1RefIdeal.defs (F := Ideal)) (onTc (τ := Cert.MixD1RefIdeal.τ) (Cert.MixD1RefIdeal.main (F := Ideal))) ⟨m', fun _ => 0, g'⟩ (fun r => ∀ c : Dev Cert.MixD1RefIdeal.nD,
          r.2.mem ((c.tc : Thread Cert.MixD1RefIdeal.nD Cert.MixD1RefIdeal.τ).loc Cert.MixD1RefIdeal.main_v6) = v0 c
          ∧ r.2.mem ((c.tc : Thread Cert.MixD1RefIdeal.nD Cert.MixD1RefIdeal.τ).loc Cert.MixD1RefIdeal.main_arg0) = m' ((c.tc : Thread Cert.MixD1RefIdeal.nD Cert.MixD1RefIdeal.τ).loc Cert.MixD1RefIdeal.main_arg0)
          ∧ r.2.mem ((c.tc : Thread Cert.MixD1RefIdeal.nD Cert.MixD1RefIdeal.τ).loc Cert.MixD1RefIdeal.main_arg1) = m' ((c.tc : Thread Cert.MixD1RefIdeal.nD Cert.MixD1RefIdeal.τ).loc Cert.MixD1RefIdeal.main_arg1))

def preserves_EvDh1_EvDh1Ideal : Prop :=
  True

def algebraic_EvDh1Ideal_EvDh1RefIdeal [hEvDh1Ideal : Cert.EvDh1Ideal.Facts] [hEvDh1RefIdeal : Cert.EvDh1RefIdeal.Facts] : Prop :=
  ∀ (m : (ℓ : Loc Cert.EvDh1Ideal.nD Cert.EvDh1Ideal.τ Cert.EvDh1Ideal.sig) → Buf (Elt Ideal) ℓ) (g : Dev Cert.EvDh1Ideal.nD → PrngReg)
    (m' : (ℓ : Loc Cert.EvDh1RefIdeal.nD Cert.EvDh1RefIdeal.τ Cert.EvDh1RefIdeal.sig) → Buf (Elt Ideal) ℓ) (g' : Dev Cert.EvDh1RefIdeal.nD → PrngReg), Pre_EvDh1Ideal m →
    (∀ c : Dev Cert.EvDh1Ideal.nD,
      m' ((c.tc : Thread Cert.EvDh1RefIdeal.nD Cert.EvDh1RefIdeal.τ).loc Cert.EvDh1RefIdeal.main_arg0) = m ((c.tc : Thread Cert.EvDh1Ideal.nD Cert.EvDh1Ideal.τ).loc Cert.EvDh1Ideal.main_arg0)
      ∧ m' ((c.tc : Thread Cert.EvDh1RefIdeal.nD Cert.EvDh1RefIdeal.τ).loc Cert.EvDh1RefIdeal.main_arg1) = m ((c.tc : Thread Cert.EvDh1Ideal.nD Cert.EvDh1Ideal.τ).loc Cert.EvDh1Ideal.main_arg1)) →
    ∃ (v0 : (c : Dev Cert.EvDh1Ideal.nD) → Buf (Elt Ideal) ((c.tc : Thread Cert.EvDh1Ideal.nD Cert.EvDh1Ideal.τ).loc Cert.EvDh1Ideal.main_v0)),
      θ_run (Cert.EvDh1Ideal.defs (F := Ideal)) (onTc (τ := Cert.EvDh1Ideal.τ) (Cert.EvDh1Ideal.main (F := Ideal))) ⟨m, fun _ => 0, g⟩ (fun r => ∀ c : Dev Cert.EvDh1Ideal.nD,
          r.2.mem ((c.tc : Thread Cert.EvDh1Ideal.nD Cert.EvDh1Ideal.τ).loc Cert.EvDh1Ideal.main_v0) = v0 c
          ∧ r.2.mem ((c.tc : Thread Cert.EvDh1Ideal.nD Cert.EvDh1Ideal.τ).loc Cert.EvDh1Ideal.main_arg0) = m ((c.tc : Thread Cert.EvDh1Ideal.nD Cert.EvDh1Ideal.τ).loc Cert.EvDh1Ideal.main_arg0)
          ∧ r.2.mem ((c.tc : Thread Cert.EvDh1Ideal.nD Cert.EvDh1Ideal.τ).loc Cert.EvDh1Ideal.main_arg1) = m ((c.tc : Thread Cert.EvDh1Ideal.nD Cert.EvDh1Ideal.τ).loc Cert.EvDh1Ideal.main_arg1))
      ∧ θ_run (Cert.EvDh1RefIdeal.defs (F := Ideal)) (onTc (τ := Cert.EvDh1RefIdeal.τ) (Cert.EvDh1RefIdeal.main (F := Ideal))) ⟨m', fun _ => 0, g'⟩ (fun r => ∀ c : Dev Cert.EvDh1RefIdeal.nD,
          r.2.mem ((c.tc : Thread Cert.EvDh1RefIdeal.nD Cert.EvDh1RefIdeal.τ).loc Cert.EvDh1RefIdeal.main_v6) = v0 c
          ∧ r.2.mem ((c.tc : Thread Cert.EvDh1RefIdeal.nD Cert.EvDh1RefIdeal.τ).loc Cert.EvDh1RefIdeal.main_arg0) = m' ((c.tc : Thread Cert.EvDh1RefIdeal.nD Cert.EvDh1RefIdeal.τ).loc Cert.EvDh1RefIdeal.main_arg0)
          ∧ r.2.mem ((c.tc : Thread Cert.EvDh1RefIdeal.nD Cert.EvDh1RefIdeal.τ).loc Cert.EvDh1RefIdeal.main_arg1) = m' ((c.tc : Thread Cert.EvDh1RefIdeal.nD Cert.EvDh1RefIdeal.τ).loc Cert.EvDh1RefIdeal.main_arg1))

def preserves_OdDh1_OdDh1Ideal : Prop :=
  True

def algebraic_OdDh1Ideal_OdDh1RefIdeal [hOdDh1Ideal : Cert.OdDh1Ideal.Facts] [hOdDh1RefIdeal : Cert.OdDh1RefIdeal.Facts] : Prop :=
  ∀ (m : (ℓ : Loc Cert.OdDh1Ideal.nD Cert.OdDh1Ideal.τ Cert.OdDh1Ideal.sig) → Buf (Elt Ideal) ℓ) (g : Dev Cert.OdDh1Ideal.nD → PrngReg)
    (m' : (ℓ : Loc Cert.OdDh1RefIdeal.nD Cert.OdDh1RefIdeal.τ Cert.OdDh1RefIdeal.sig) → Buf (Elt Ideal) ℓ) (g' : Dev Cert.OdDh1RefIdeal.nD → PrngReg), Pre_OdDh1Ideal m →
    (∀ c : Dev Cert.OdDh1Ideal.nD,
      m' ((c.tc : Thread Cert.OdDh1RefIdeal.nD Cert.OdDh1RefIdeal.τ).loc Cert.OdDh1RefIdeal.main_arg0) = m ((c.tc : Thread Cert.OdDh1Ideal.nD Cert.OdDh1Ideal.τ).loc Cert.OdDh1Ideal.main_arg0)
      ∧ m' ((c.tc : Thread Cert.OdDh1RefIdeal.nD Cert.OdDh1RefIdeal.τ).loc Cert.OdDh1RefIdeal.main_arg1) = m ((c.tc : Thread Cert.OdDh1Ideal.nD Cert.OdDh1Ideal.τ).loc Cert.OdDh1Ideal.main_arg1)) →
    ∃ (v0 : (c : Dev Cert.OdDh1Ideal.nD) → Buf (Elt Ideal) ((c.tc : Thread Cert.OdDh1Ideal.nD Cert.OdDh1Ideal.τ).loc Cert.OdDh1Ideal.main_v0)),
      θ_run (Cert.OdDh1Ideal.defs (F := Ideal)) (onTc (τ := Cert.OdDh1Ideal.τ) (Cert.OdDh1Ideal.main (F := Ideal))) ⟨m, fun _ => 0, g⟩ (fun r => ∀ c : Dev Cert.OdDh1Ideal.nD,
          r.2.mem ((c.tc : Thread Cert.OdDh1Ideal.nD Cert.OdDh1Ideal.τ).loc Cert.OdDh1Ideal.main_v0) = v0 c
          ∧ r.2.mem ((c.tc : Thread Cert.OdDh1Ideal.nD Cert.OdDh1Ideal.τ).loc Cert.OdDh1Ideal.main_arg0) = m ((c.tc : Thread Cert.OdDh1Ideal.nD Cert.OdDh1Ideal.τ).loc Cert.OdDh1Ideal.main_arg0)
          ∧ r.2.mem ((c.tc : Thread Cert.OdDh1Ideal.nD Cert.OdDh1Ideal.τ).loc Cert.OdDh1Ideal.main_arg1) = m ((c.tc : Thread Cert.OdDh1Ideal.nD Cert.OdDh1Ideal.τ).loc Cert.OdDh1Ideal.main_arg1))
      ∧ θ_run (Cert.OdDh1RefIdeal.defs (F := Ideal)) (onTc (τ := Cert.OdDh1RefIdeal.τ) (Cert.OdDh1RefIdeal.main (F := Ideal))) ⟨m', fun _ => 0, g'⟩ (fun r => ∀ c : Dev Cert.OdDh1RefIdeal.nD,
          r.2.mem ((c.tc : Thread Cert.OdDh1RefIdeal.nD Cert.OdDh1RefIdeal.τ).loc Cert.OdDh1RefIdeal.main_v6) = v0 c
          ∧ r.2.mem ((c.tc : Thread Cert.OdDh1RefIdeal.nD Cert.OdDh1RefIdeal.τ).loc Cert.OdDh1RefIdeal.main_arg0) = m' ((c.tc : Thread Cert.OdDh1RefIdeal.nD Cert.OdDh1RefIdeal.τ).loc Cert.OdDh1RefIdeal.main_arg0)
          ∧ r.2.mem ((c.tc : Thread Cert.OdDh1RefIdeal.nD Cert.OdDh1RefIdeal.τ).loc Cert.OdDh1RefIdeal.main_arg1) = m' ((c.tc : Thread Cert.OdDh1RefIdeal.nD Cert.OdDh1RefIdeal.τ).loc Cert.OdDh1RefIdeal.main_arg1))

def preserves_GluDz1_GluDz1Ideal : Prop :=
  True

def algebraic_GluDz1Ideal_GluDz1RefIdeal [hGluDz1Ideal : Cert.GluDz1Ideal.Facts] [hGluDz1RefIdeal : Cert.GluDz1RefIdeal.Facts] : Prop :=
  ∀ (m : (ℓ : Loc Cert.GluDz1Ideal.nD Cert.GluDz1Ideal.τ Cert.GluDz1Ideal.sig) → Buf (Elt Ideal) ℓ) (g : Dev Cert.GluDz1Ideal.nD → PrngReg)
    (m' : (ℓ : Loc Cert.GluDz1RefIdeal.nD Cert.GluDz1RefIdeal.τ Cert.GluDz1RefIdeal.sig) → Buf (Elt Ideal) ℓ) (g' : Dev Cert.GluDz1RefIdeal.nD → PrngReg), Pre_GluDz1Ideal m →
    (∀ c : Dev Cert.GluDz1Ideal.nD,
      m' ((c.tc : Thread Cert.GluDz1RefIdeal.nD Cert.GluDz1RefIdeal.τ).loc Cert.GluDz1RefIdeal.main_arg0) = m ((c.tc : Thread Cert.GluDz1Ideal.nD Cert.GluDz1Ideal.τ).loc Cert.GluDz1Ideal.main_arg0)
      ∧ m' ((c.tc : Thread Cert.GluDz1RefIdeal.nD Cert.GluDz1RefIdeal.τ).loc Cert.GluDz1RefIdeal.main_arg1) = m ((c.tc : Thread Cert.GluDz1Ideal.nD Cert.GluDz1Ideal.τ).loc Cert.GluDz1Ideal.main_arg1)) →
    ∃ (v0 : (c : Dev Cert.GluDz1Ideal.nD) → Buf (Elt Ideal) ((c.tc : Thread Cert.GluDz1Ideal.nD Cert.GluDz1Ideal.τ).loc Cert.GluDz1Ideal.main_v0)),
      θ_run (Cert.GluDz1Ideal.defs (F := Ideal)) (onTc (τ := Cert.GluDz1Ideal.τ) (Cert.GluDz1Ideal.main (F := Ideal))) ⟨m, fun _ => 0, g⟩ (fun r => ∀ c : Dev Cert.GluDz1Ideal.nD,
          r.2.mem ((c.tc : Thread Cert.GluDz1Ideal.nD Cert.GluDz1Ideal.τ).loc Cert.GluDz1Ideal.main_v0) = v0 c
          ∧ r.2.mem ((c.tc : Thread Cert.GluDz1Ideal.nD Cert.GluDz1Ideal.τ).loc Cert.GluDz1Ideal.main_arg0) = m ((c.tc : Thread Cert.GluDz1Ideal.nD Cert.GluDz1Ideal.τ).loc Cert.GluDz1Ideal.main_arg0)
          ∧ r.2.mem ((c.tc : Thread Cert.GluDz1Ideal.nD Cert.GluDz1Ideal.τ).loc Cert.GluDz1Ideal.main_arg1) = m ((c.tc : Thread Cert.GluDz1Ideal.nD Cert.GluDz1Ideal.τ).loc Cert.GluDz1Ideal.main_arg1))
      ∧ θ_run (Cert.GluDz1RefIdeal.defs (F := Ideal)) (onTc (τ := Cert.GluDz1RefIdeal.τ) (Cert.GluDz1RefIdeal.main (F := Ideal))) ⟨m', fun _ => 0, g'⟩ (fun r => ∀ c : Dev Cert.GluDz1RefIdeal.nD,
          r.2.mem ((c.tc : Thread Cert.GluDz1RefIdeal.nD Cert.GluDz1RefIdeal.τ).loc Cert.GluDz1RefIdeal.main_v6) = v0 c
          ∧ r.2.mem ((c.tc : Thread Cert.GluDz1RefIdeal.nD Cert.GluDz1RefIdeal.τ).loc Cert.GluDz1RefIdeal.main_arg0) = m' ((c.tc : Thread Cert.GluDz1RefIdeal.nD Cert.GluDz1RefIdeal.τ).loc Cert.GluDz1RefIdeal.main_arg0)
          ∧ r.2.mem ((c.tc : Thread Cert.GluDz1RefIdeal.nD Cert.GluDz1RefIdeal.τ).loc Cert.GluDz1RefIdeal.main_arg1) = m' ((c.tc : Thread Cert.GluDz1RefIdeal.nD Cert.GluDz1RefIdeal.τ).loc Cert.GluDz1RefIdeal.main_arg1))

def preserves_EvIn1_EvIn1Ideal : Prop :=
  True

def algebraic_EvIn1Ideal_EvIn1RefIdeal [hEvIn1Ideal : Cert.EvIn1Ideal.Facts] [hEvIn1RefIdeal : Cert.EvIn1RefIdeal.Facts] : Prop :=
  ∀ (m : (ℓ : Loc Cert.EvIn1Ideal.nD Cert.EvIn1Ideal.τ Cert.EvIn1Ideal.sig) → Buf (Elt Ideal) ℓ) (g : Dev Cert.EvIn1Ideal.nD → PrngReg)
    (m' : (ℓ : Loc Cert.EvIn1RefIdeal.nD Cert.EvIn1RefIdeal.τ Cert.EvIn1RefIdeal.sig) → Buf (Elt Ideal) ℓ) (g' : Dev Cert.EvIn1RefIdeal.nD → PrngReg), Pre_EvIn1Ideal m →
    (∀ c : Dev Cert.EvIn1Ideal.nD,
      m' ((c.tc : Thread Cert.EvIn1RefIdeal.nD Cert.EvIn1RefIdeal.τ).loc Cert.EvIn1RefIdeal.main_arg0) = m ((c.tc : Thread Cert.EvIn1Ideal.nD Cert.EvIn1Ideal.τ).loc Cert.EvIn1Ideal.main_arg0)
      ∧ m' ((c.tc : Thread Cert.EvIn1RefIdeal.nD Cert.EvIn1RefIdeal.τ).loc Cert.EvIn1RefIdeal.main_arg1) = m ((c.tc : Thread Cert.EvIn1Ideal.nD Cert.EvIn1Ideal.τ).loc Cert.EvIn1Ideal.main_arg1)) →
    ∃ (v0 : (c : Dev Cert.EvIn1Ideal.nD) → Buf (Elt Ideal) ((c.tc : Thread Cert.EvIn1Ideal.nD Cert.EvIn1Ideal.τ).loc Cert.EvIn1Ideal.main_v0)),
      θ_run (Cert.EvIn1Ideal.defs (F := Ideal)) (onTc (τ := Cert.EvIn1Ideal.τ) (Cert.EvIn1Ideal.main (F := Ideal))) ⟨m, fun _ => 0, g⟩ (fun r => ∀ c : Dev Cert.EvIn1Ideal.nD,
          r.2.mem ((c.tc : Thread Cert.EvIn1Ideal.nD Cert.EvIn1Ideal.τ).loc Cert.EvIn1Ideal.main_v0) = v0 c
          ∧ r.2.mem ((c.tc : Thread Cert.EvIn1Ideal.nD Cert.EvIn1Ideal.τ).loc Cert.EvIn1Ideal.main_arg0) = m ((c.tc : Thread Cert.EvIn1Ideal.nD Cert.EvIn1Ideal.τ).loc Cert.EvIn1Ideal.main_arg0)
          ∧ r.2.mem ((c.tc : Thread Cert.EvIn1Ideal.nD Cert.EvIn1Ideal.τ).loc Cert.EvIn1Ideal.main_arg1) = m ((c.tc : Thread Cert.EvIn1Ideal.nD Cert.EvIn1Ideal.τ).loc Cert.EvIn1Ideal.main_arg1))
      ∧ θ_run (Cert.EvIn1RefIdeal.defs (F := Ideal)) (onTc (τ := Cert.EvIn1RefIdeal.τ) (Cert.EvIn1RefIdeal.main (F := Ideal))) ⟨m', fun _ => 0, g'⟩ (fun r => ∀ c : Dev Cert.EvIn1RefIdeal.nD,
          r.2.mem ((c.tc : Thread Cert.EvIn1RefIdeal.nD Cert.EvIn1RefIdeal.τ).loc Cert.EvIn1RefIdeal.main_v4) = v0 c
          ∧ r.2.mem ((c.tc : Thread Cert.EvIn1RefIdeal.nD Cert.EvIn1RefIdeal.τ).loc Cert.EvIn1RefIdeal.main_arg0) = m' ((c.tc : Thread Cert.EvIn1RefIdeal.nD Cert.EvIn1RefIdeal.τ).loc Cert.EvIn1RefIdeal.main_arg0)
          ∧ r.2.mem ((c.tc : Thread Cert.EvIn1RefIdeal.nD Cert.EvIn1RefIdeal.τ).loc Cert.EvIn1RefIdeal.main_arg1) = m' ((c.tc : Thread Cert.EvIn1RefIdeal.nD Cert.EvIn1RefIdeal.τ).loc Cert.EvIn1RefIdeal.main_arg1))

def preserves_OdIn1_OdIn1Ideal : Prop :=
  True

def algebraic_OdIn1Ideal_OdIn1RefIdeal [hOdIn1Ideal : Cert.OdIn1Ideal.Facts] [hOdIn1RefIdeal : Cert.OdIn1RefIdeal.Facts] : Prop :=
  ∀ (m : (ℓ : Loc Cert.OdIn1Ideal.nD Cert.OdIn1Ideal.τ Cert.OdIn1Ideal.sig) → Buf (Elt Ideal) ℓ) (g : Dev Cert.OdIn1Ideal.nD → PrngReg)
    (m' : (ℓ : Loc Cert.OdIn1RefIdeal.nD Cert.OdIn1RefIdeal.τ Cert.OdIn1RefIdeal.sig) → Buf (Elt Ideal) ℓ) (g' : Dev Cert.OdIn1RefIdeal.nD → PrngReg), Pre_OdIn1Ideal m →
    (∀ c : Dev Cert.OdIn1Ideal.nD,
      m' ((c.tc : Thread Cert.OdIn1RefIdeal.nD Cert.OdIn1RefIdeal.τ).loc Cert.OdIn1RefIdeal.main_arg0) = m ((c.tc : Thread Cert.OdIn1Ideal.nD Cert.OdIn1Ideal.τ).loc Cert.OdIn1Ideal.main_arg0)
      ∧ m' ((c.tc : Thread Cert.OdIn1RefIdeal.nD Cert.OdIn1RefIdeal.τ).loc Cert.OdIn1RefIdeal.main_arg1) = m ((c.tc : Thread Cert.OdIn1Ideal.nD Cert.OdIn1Ideal.τ).loc Cert.OdIn1Ideal.main_arg1)) →
    ∃ (v0 : (c : Dev Cert.OdIn1Ideal.nD) → Buf (Elt Ideal) ((c.tc : Thread Cert.OdIn1Ideal.nD Cert.OdIn1Ideal.τ).loc Cert.OdIn1Ideal.main_v0)),
      θ_run (Cert.OdIn1Ideal.defs (F := Ideal)) (onTc (τ := Cert.OdIn1Ideal.τ) (Cert.OdIn1Ideal.main (F := Ideal))) ⟨m, fun _ => 0, g⟩ (fun r => ∀ c : Dev Cert.OdIn1Ideal.nD,
          r.2.mem ((c.tc : Thread Cert.OdIn1Ideal.nD Cert.OdIn1Ideal.τ).loc Cert.OdIn1Ideal.main_v0) = v0 c
          ∧ r.2.mem ((c.tc : Thread Cert.OdIn1Ideal.nD Cert.OdIn1Ideal.τ).loc Cert.OdIn1Ideal.main_arg0) = m ((c.tc : Thread Cert.OdIn1Ideal.nD Cert.OdIn1Ideal.τ).loc Cert.OdIn1Ideal.main_arg0)
          ∧ r.2.mem ((c.tc : Thread Cert.OdIn1Ideal.nD Cert.OdIn1Ideal.τ).loc Cert.OdIn1Ideal.main_arg1) = m ((c.tc : Thread Cert.OdIn1Ideal.nD Cert.OdIn1Ideal.τ).loc Cert.OdIn1Ideal.main_arg1))
      ∧ θ_run (Cert.OdIn1RefIdeal.defs (F := Ideal)) (onTc (τ := Cert.OdIn1RefIdeal.τ) (Cert.OdIn1RefIdeal.main (F := Ideal))) ⟨m', fun _ => 0, g'⟩ (fun r => ∀ c : Dev Cert.OdIn1RefIdeal.nD,
          r.2.mem ((c.tc : Thread Cert.OdIn1RefIdeal.nD Cert.OdIn1RefIdeal.τ).loc Cert.OdIn1RefIdeal.main_v4) = v0 c
          ∧ r.2.mem ((c.tc : Thread Cert.OdIn1RefIdeal.nD Cert.OdIn1RefIdeal.τ).loc Cert.OdIn1RefIdeal.main_arg0) = m' ((c.tc : Thread Cert.OdIn1RefIdeal.nD Cert.OdIn1RefIdeal.τ).loc Cert.OdIn1RefIdeal.main_arg0)
          ∧ r.2.mem ((c.tc : Thread Cert.OdIn1RefIdeal.nD Cert.OdIn1RefIdeal.τ).loc Cert.OdIn1RefIdeal.main_arg1) = m' ((c.tc : Thread Cert.OdIn1RefIdeal.nD Cert.OdIn1RefIdeal.τ).loc Cert.OdIn1RefIdeal.main_arg1))

def preserves_GluMm1_GluMm1Ideal : Prop :=
  True

def algebraic_GluMm1Ideal_GluMm1RefIdeal [hGluMm1Ideal : Cert.GluMm1Ideal.Facts] [hGluMm1RefIdeal : Cert.GluMm1RefIdeal.Facts] : Prop :=
  ∀ (m : (ℓ : Loc Cert.GluMm1Ideal.nD Cert.GluMm1Ideal.τ Cert.GluMm1Ideal.sig) → Buf (Elt Ideal) ℓ) (g : Dev Cert.GluMm1Ideal.nD → PrngReg)
    (m' : (ℓ : Loc Cert.GluMm1RefIdeal.nD Cert.GluMm1RefIdeal.τ Cert.GluMm1RefIdeal.sig) → Buf (Elt Ideal) ℓ) (g' : Dev Cert.GluMm1RefIdeal.nD → PrngReg), Pre_GluMm1Ideal m →
    (∀ c : Dev Cert.GluMm1Ideal.nD,
      m' ((c.tc : Thread Cert.GluMm1RefIdeal.nD Cert.GluMm1RefIdeal.τ).loc Cert.GluMm1RefIdeal.main_arg0) = m ((c.tc : Thread Cert.GluMm1Ideal.nD Cert.GluMm1Ideal.τ).loc Cert.GluMm1Ideal.main_arg0)
      ∧ m' ((c.tc : Thread Cert.GluMm1RefIdeal.nD Cert.GluMm1RefIdeal.τ).loc Cert.GluMm1RefIdeal.main_arg1) = m ((c.tc : Thread Cert.GluMm1Ideal.nD Cert.GluMm1Ideal.τ).loc Cert.GluMm1Ideal.main_arg1)) →
    ∃ (v0 : (c : Dev Cert.GluMm1Ideal.nD) → Buf (Elt Ideal) ((c.tc : Thread Cert.GluMm1Ideal.nD Cert.GluMm1Ideal.τ).loc Cert.GluMm1Ideal.main_v0)),
      θ_run (Cert.GluMm1Ideal.defs (F := Ideal)) (onTc (τ := Cert.GluMm1Ideal.τ) (Cert.GluMm1Ideal.main (F := Ideal))) ⟨m, fun _ => 0, g⟩ (fun r => ∀ c : Dev Cert.GluMm1Ideal.nD,
          r.2.mem ((c.tc : Thread Cert.GluMm1Ideal.nD Cert.GluMm1Ideal.τ).loc Cert.GluMm1Ideal.main_v0) = v0 c
          ∧ r.2.mem ((c.tc : Thread Cert.GluMm1Ideal.nD Cert.GluMm1Ideal.τ).loc Cert.GluMm1Ideal.main_arg0) = m ((c.tc : Thread Cert.GluMm1Ideal.nD Cert.GluMm1Ideal.τ).loc Cert.GluMm1Ideal.main_arg0)
          ∧ r.2.mem ((c.tc : Thread Cert.GluMm1Ideal.nD Cert.GluMm1Ideal.τ).loc Cert.GluMm1Ideal.main_arg1) = m ((c.tc : Thread Cert.GluMm1Ideal.nD Cert.GluMm1Ideal.τ).loc Cert.GluMm1Ideal.main_arg1))
      ∧ θ_run (Cert.GluMm1RefIdeal.defs (F := Ideal)) (onTc (τ := Cert.GluMm1RefIdeal.τ) (Cert.GluMm1RefIdeal.main (F := Ideal))) ⟨m', fun _ => 0, g'⟩ (fun r => ∀ c : Dev Cert.GluMm1RefIdeal.nD,
          r.2.mem ((c.tc : Thread Cert.GluMm1RefIdeal.nD Cert.GluMm1RefIdeal.τ).loc Cert.GluMm1RefIdeal.main_v4) = v0 c
          ∧ r.2.mem ((c.tc : Thread Cert.GluMm1RefIdeal.nD Cert.GluMm1RefIdeal.τ).loc Cert.GluMm1RefIdeal.main_arg0) = m' ((c.tc : Thread Cert.GluMm1RefIdeal.nD Cert.GluMm1RefIdeal.τ).loc Cert.GluMm1RefIdeal.main_arg0)
          ∧ r.2.mem ((c.tc : Thread Cert.GluMm1RefIdeal.nD Cert.GluMm1RefIdeal.τ).loc Cert.GluMm1RefIdeal.main_arg1) = m' ((c.tc : Thread Cert.GluMm1RefIdeal.nD Cert.GluMm1RefIdeal.τ).loc Cert.GluMm1RefIdeal.main_arg1))

def preserves_MixOut1_MixOut1Ideal : Prop :=
  True

def algebraic_MixOut1Ideal_MixOut1RefIdeal [hMixOut1Ideal : Cert.MixOut1Ideal.Facts] [hMixOut1RefIdeal : Cert.MixOut1RefIdeal.Facts] : Prop :=
  ∀ (m : (ℓ : Loc Cert.MixOut1Ideal.nD Cert.MixOut1Ideal.τ Cert.MixOut1Ideal.sig) → Buf (Elt Ideal) ℓ) (g : Dev Cert.MixOut1Ideal.nD → PrngReg)
    (m' : (ℓ : Loc Cert.MixOut1RefIdeal.nD Cert.MixOut1RefIdeal.τ Cert.MixOut1RefIdeal.sig) → Buf (Elt Ideal) ℓ) (g' : Dev Cert.MixOut1RefIdeal.nD → PrngReg), Pre_MixOut1Ideal m →
    (∀ c : Dev Cert.MixOut1Ideal.nD,
      m' ((c.tc : Thread Cert.MixOut1RefIdeal.nD Cert.MixOut1RefIdeal.τ).loc Cert.MixOut1RefIdeal.main_arg0) = m ((c.tc : Thread Cert.MixOut1Ideal.nD Cert.MixOut1Ideal.τ).loc Cert.MixOut1Ideal.main_arg0)
      ∧ m' ((c.tc : Thread Cert.MixOut1RefIdeal.nD Cert.MixOut1RefIdeal.τ).loc Cert.MixOut1RefIdeal.main_arg1) = m ((c.tc : Thread Cert.MixOut1Ideal.nD Cert.MixOut1Ideal.τ).loc Cert.MixOut1Ideal.main_arg1)) →
    ∃ (v0 : (c : Dev Cert.MixOut1Ideal.nD) → Buf (Elt Ideal) ((c.tc : Thread Cert.MixOut1Ideal.nD Cert.MixOut1Ideal.τ).loc Cert.MixOut1Ideal.main_v0)),
      θ_run (Cert.MixOut1Ideal.defs (F := Ideal)) (onTc (τ := Cert.MixOut1Ideal.τ) (Cert.MixOut1Ideal.main (F := Ideal))) ⟨m, fun _ => 0, g⟩ (fun r => ∀ c : Dev Cert.MixOut1Ideal.nD,
          r.2.mem ((c.tc : Thread Cert.MixOut1Ideal.nD Cert.MixOut1Ideal.τ).loc Cert.MixOut1Ideal.main_v0) = v0 c
          ∧ r.2.mem ((c.tc : Thread Cert.MixOut1Ideal.nD Cert.MixOut1Ideal.τ).loc Cert.MixOut1Ideal.main_arg0) = m ((c.tc : Thread Cert.MixOut1Ideal.nD Cert.MixOut1Ideal.τ).loc Cert.MixOut1Ideal.main_arg0)
          ∧ r.2.mem ((c.tc : Thread Cert.MixOut1Ideal.nD Cert.MixOut1Ideal.τ).loc Cert.MixOut1Ideal.main_arg1) = m ((c.tc : Thread Cert.MixOut1Ideal.nD Cert.MixOut1Ideal.τ).loc Cert.MixOut1Ideal.main_arg1))
      ∧ θ_run (Cert.MixOut1RefIdeal.defs (F := Ideal)) (onTc (τ := Cert.MixOut1RefIdeal.τ) (Cert.MixOut1RefIdeal.main (F := Ideal))) ⟨m', fun _ => 0, g'⟩ (fun r => ∀ c : Dev Cert.MixOut1RefIdeal.nD,
          r.2.mem ((c.tc : Thread Cert.MixOut1RefIdeal.nD Cert.MixOut1RefIdeal.τ).loc Cert.MixOut1RefIdeal.main_v4) = v0 c
          ∧ r.2.mem ((c.tc : Thread Cert.MixOut1RefIdeal.nD Cert.MixOut1RefIdeal.τ).loc Cert.MixOut1RefIdeal.main_arg0) = m' ((c.tc : Thread Cert.MixOut1RefIdeal.nD Cert.MixOut1RefIdeal.τ).loc Cert.MixOut1RefIdeal.main_arg0)
          ∧ r.2.mem ((c.tc : Thread Cert.MixOut1RefIdeal.nD Cert.MixOut1RefIdeal.τ).loc Cert.MixOut1RefIdeal.main_arg1) = m' ((c.tc : Thread Cert.MixOut1RefIdeal.nD Cert.MixOut1RefIdeal.τ).loc Cert.MixOut1RefIdeal.main_arg1))

def preserves_Attn_AttnIdeal : Prop :=
  IdealRules.named_const.Statement Cert.AttnIdeal.κ "mask" .f32 0xF149F2CA#32 ⊥

def algebraic_AttnIdeal_AttnRefIdeal_pre_finite_attn [hAttnIdeal : Cert.AttnIdeal.Facts] [hAttnRefIdeal : Cert.AttnRefIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_attn m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v0_0)) (v1 : (c : Dev Cert.AttnIdeal.nD) → Buf (Elt Ideal) ((c.tc : Thread Cert.AttnIdeal.nD Cert.AttnIdeal.τ).loc Cert.AttnIdeal.main_v0_1)) (v2 : (c : Dev Cert.AttnIdeal.nD) → Buf (Elt Ideal) ((c.tc : Thread Cert.AttnIdeal.nD Cert.AttnIdeal.τ).loc Cert.AttnIdeal.main_v1_0)) (v3 : (c : Dev Cert.AttnIdeal.nD) → Buf (Elt Ideal) ((c.tc : Thread Cert.AttnIdeal.nD Cert.AttnIdeal.τ).loc Cert.AttnIdeal.main_v1_1)) (v4 : (c : Dev Cert.AttnIdeal.nD) → Buf (Elt Ideal) ((c.tc : Thread Cert.AttnIdeal.nD Cert.AttnIdeal.τ).loc Cert.AttnIdeal.main_v1_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0_0) = v0 c
          ∧ r.2.mem ((c.tc : Thread Cert.AttnIdeal.nD Cert.AttnIdeal.τ).loc Cert.AttnIdeal.main_v0_1) = v1 c
          ∧ r.2.mem ((c.tc : Thread Cert.AttnIdeal.nD Cert.AttnIdeal.τ).loc Cert.AttnIdeal.main_v1_0) = v2 c
          ∧ r.2.mem ((c.tc : Thread Cert.AttnIdeal.nD Cert.AttnIdeal.τ).loc Cert.AttnIdeal.main_v1_1) = v3 c
          ∧ r.2.mem ((c.tc : Thread Cert.AttnIdeal.nD Cert.AttnIdeal.τ).loc Cert.AttnIdeal.main_v1_2) = v4 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v33) = v0 c
          ∧ r.2.mem ((c.tc : Thread Cert.AttnRefIdeal.nD Cert.AttnRefIdeal.τ).loc Cert.AttnRefIdeal.main_v69) = v1 c
          ∧ r.2.mem ((c.tc : Thread Cert.AttnRefIdeal.nD Cert.AttnRefIdeal.τ).loc Cert.AttnRefIdeal.main_v67) = v2 c
          ∧ r.2.mem ((c.tc : Thread Cert.AttnRefIdeal.nD Cert.AttnRefIdeal.τ).loc Cert.AttnRefIdeal.main_v66) = v3 c
          ∧ r.2.mem ((c.tc : Thread Cert.AttnRefIdeal.nD Cert.AttnRefIdeal.τ).loc Cert.AttnRefIdeal.main_v58) = v4 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v3) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_Mod0_Mod0Ideal : Prop :=
  True

def algebraic_Mod0Ideal_Mod0RefIdeal [hMod0Ideal : Cert.Mod0Ideal.Facts] [hMod0RefIdeal : Cert.Mod0RefIdeal.Facts] : Prop :=
  ∀ (m : (ℓ : Loc Cert.Mod0Ideal.nD Cert.Mod0Ideal.τ Cert.Mod0Ideal.sig) → Buf (Elt Ideal) ℓ) (g : Dev Cert.Mod0Ideal.nD → PrngReg)
    (m' : (ℓ : Loc Cert.Mod0RefIdeal.nD Cert.Mod0RefIdeal.τ Cert.Mod0RefIdeal.sig) → Buf (Elt Ideal) ℓ) (g' : Dev Cert.Mod0RefIdeal.nD → PrngReg), Pre_Mod0Ideal m →
    (∀ c : Dev Cert.Mod0Ideal.nD,
      m' ((c.tc : Thread Cert.Mod0RefIdeal.nD Cert.Mod0RefIdeal.τ).loc Cert.Mod0RefIdeal.main_arg0) = m ((c.tc : Thread Cert.Mod0Ideal.nD Cert.Mod0Ideal.τ).loc Cert.Mod0Ideal.main_arg0)
      ∧ m' ((c.tc : Thread Cert.Mod0RefIdeal.nD Cert.Mod0RefIdeal.τ).loc Cert.Mod0RefIdeal.main_arg1) = m ((c.tc : Thread Cert.Mod0Ideal.nD Cert.Mod0Ideal.τ).loc Cert.Mod0Ideal.main_arg1)) →
    ∃ (v0 : (c : Dev Cert.Mod0Ideal.nD) → Buf (Elt Ideal) ((c.tc : Thread Cert.Mod0Ideal.nD Cert.Mod0Ideal.τ).loc Cert.Mod0Ideal.main_v0)),
      θ_run (Cert.Mod0Ideal.defs (F := Ideal)) (onTc (τ := Cert.Mod0Ideal.τ) (Cert.Mod0Ideal.main (F := Ideal))) ⟨m, fun _ => 0, g⟩ (fun r => ∀ c : Dev Cert.Mod0Ideal.nD,
          r.2.mem ((c.tc : Thread Cert.Mod0Ideal.nD Cert.Mod0Ideal.τ).loc Cert.Mod0Ideal.main_v0) = v0 c
          ∧ r.2.mem ((c.tc : Thread Cert.Mod0Ideal.nD Cert.Mod0Ideal.τ).loc Cert.Mod0Ideal.main_arg0) = m ((c.tc : Thread Cert.Mod0Ideal.nD Cert.Mod0Ideal.τ).loc Cert.Mod0Ideal.main_arg0)
          ∧ r.2.mem ((c.tc : Thread Cert.Mod0Ideal.nD Cert.Mod0Ideal.τ).loc Cert.Mod0Ideal.main_arg1) = m ((c.tc : Thread Cert.Mod0Ideal.nD Cert.Mod0Ideal.τ).loc Cert.Mod0Ideal.main_arg1))
      ∧ θ_run (Cert.Mod0RefIdeal.defs (F := Ideal)) (onTc (τ := Cert.Mod0RefIdeal.τ) (Cert.Mod0RefIdeal.main (F := Ideal))) ⟨m', fun _ => 0, g'⟩ (fun r => ∀ c : Dev Cert.Mod0RefIdeal.nD,
          r.2.mem ((c.tc : Thread Cert.Mod0RefIdeal.nD Cert.Mod0RefIdeal.τ).loc Cert.Mod0RefIdeal.main_v2) = v0 c
          ∧ r.2.mem ((c.tc : Thread Cert.Mod0RefIdeal.nD Cert.Mod0RefIdeal.τ).loc Cert.Mod0RefIdeal.main_arg0) = m' ((c.tc : Thread Cert.Mod0RefIdeal.nD Cert.Mod0RefIdeal.τ).loc Cert.Mod0RefIdeal.main_arg0)
          ∧ r.2.mem ((c.tc : Thread Cert.Mod0RefIdeal.nD Cert.Mod0RefIdeal.τ).loc Cert.Mod0RefIdeal.main_arg1) = m' ((c.tc : Thread Cert.Mod0RefIdeal.nD Cert.Mod0RefIdeal.τ).loc Cert.Mod0RefIdeal.main_arg1))

def preserves_Mod1_Mod1Ideal : Prop :=
  True

def algebraic_Mod1Ideal_Mod1RefIdeal [hMod1Ideal : Cert.Mod1Ideal.Facts] [hMod1RefIdeal : Cert.Mod1RefIdeal.Facts] : Prop :=
  ∀ (m : (ℓ : Loc Cert.Mod1Ideal.nD Cert.Mod1Ideal.τ Cert.Mod1Ideal.sig) → Buf (Elt Ideal) ℓ) (g : Dev Cert.Mod1Ideal.nD → PrngReg)
    (m' : (ℓ : Loc Cert.Mod1RefIdeal.nD Cert.Mod1RefIdeal.τ Cert.Mod1RefIdeal.sig) → Buf (Elt Ideal) ℓ) (g' : Dev Cert.Mod1RefIdeal.nD → PrngReg), Pre_Mod1Ideal m →
    (∀ c : Dev Cert.Mod1Ideal.nD,
      m' ((c.tc : Thread Cert.Mod1RefIdeal.nD Cert.Mod1RefIdeal.τ).loc Cert.Mod1RefIdeal.main_arg0) = m ((c.tc : Thread Cert.Mod1Ideal.nD Cert.Mod1Ideal.τ).loc Cert.Mod1Ideal.main_arg0)
      ∧ m' ((c.tc : Thread Cert.Mod1RefIdeal.nD Cert.Mod1RefIdeal.τ).loc Cert.Mod1RefIdeal.main_arg1) = m ((c.tc : Thread Cert.Mod1Ideal.nD Cert.Mod1Ideal.τ).loc Cert.Mod1Ideal.main_arg1)) →
    ∃ (v0 : (c : Dev Cert.Mod1Ideal.nD) → Buf (Elt Ideal) ((c.tc : Thread Cert.Mod1Ideal.nD Cert.Mod1Ideal.τ).loc Cert.Mod1Ideal.main_v0)),
      θ_run (Cert.Mod1Ideal.defs (F := Ideal)) (onTc (τ := Cert.Mod1Ideal.τ) (Cert.Mod1Ideal.main (F := Ideal))) ⟨m, fun _ => 0, g⟩ (fun r => ∀ c : Dev Cert.Mod1Ideal.nD,
          r.2.mem ((c.tc : Thread Cert.Mod1Ideal.nD Cert.Mod1Ideal.τ).loc Cert.Mod1Ideal.main_v0) = v0 c
          ∧ r.2.mem ((c.tc : Thread Cert.Mod1Ideal.nD Cert.Mod1Ideal.τ).loc Cert.Mod1Ideal.main_arg0) = m ((c.tc : Thread Cert.Mod1Ideal.nD Cert.Mod1Ideal.τ).loc Cert.Mod1Ideal.main_arg0)
          ∧ r.2.mem ((c.tc : Thread Cert.Mod1Ideal.nD Cert.Mod1Ideal.τ).loc Cert.Mod1Ideal.main_arg1) = m ((c.tc : Thread Cert.Mod1Ideal.nD Cert.Mod1Ideal.τ).loc Cert.Mod1Ideal.main_arg1))
      ∧ θ_run (Cert.Mod1RefIdeal.defs (F := Ideal)) (onTc (τ := Cert.Mod1RefIdeal.τ) (Cert.Mod1RefIdeal.main (F := Ideal))) ⟨m', fun _ => 0, g'⟩ (fun r => ∀ c : Dev Cert.Mod1RefIdeal.nD,
          r.2.mem ((c.tc : Thread Cert.Mod1RefIdeal.nD Cert.Mod1RefIdeal.τ).loc Cert.Mod1RefIdeal.main_v2) = v0 c
          ∧ r.2.mem ((c.tc : Thread Cert.Mod1RefIdeal.nD Cert.Mod1RefIdeal.τ).loc Cert.Mod1RefIdeal.main_arg0) = m' ((c.tc : Thread Cert.Mod1RefIdeal.nD Cert.Mod1RefIdeal.τ).loc Cert.Mod1RefIdeal.main_arg0)
          ∧ r.2.mem ((c.tc : Thread Cert.Mod1RefIdeal.nD Cert.Mod1RefIdeal.τ).loc Cert.Mod1RefIdeal.main_arg1) = m' ((c.tc : Thread Cert.Mod1RefIdeal.nD Cert.Mod1RefIdeal.τ).loc Cert.Mod1RefIdeal.main_arg1))

def preserves_Mod2_Mod2Ideal : Prop :=
  True

def algebraic_Mod2Ideal_Mod2RefIdeal [hMod2Ideal : Cert.Mod2Ideal.Facts] [hMod2RefIdeal : Cert.Mod2RefIdeal.Facts] : Prop :=
  ∀ (m : (ℓ : Loc Cert.Mod2Ideal.nD Cert.Mod2Ideal.τ Cert.Mod2Ideal.sig) → Buf (Elt Ideal) ℓ) (g : Dev Cert.Mod2Ideal.nD → PrngReg)
    (m' : (ℓ : Loc Cert.Mod2RefIdeal.nD Cert.Mod2RefIdeal.τ Cert.Mod2RefIdeal.sig) → Buf (Elt Ideal) ℓ) (g' : Dev Cert.Mod2RefIdeal.nD → PrngReg), Pre_Mod2Ideal m →
    (∀ c : Dev Cert.Mod2Ideal.nD,
      m' ((c.tc : Thread Cert.Mod2RefIdeal.nD Cert.Mod2RefIdeal.τ).loc Cert.Mod2RefIdeal.main_arg0) = m ((c.tc : Thread Cert.Mod2Ideal.nD Cert.Mod2Ideal.τ).loc Cert.Mod2Ideal.main_arg0)
      ∧ m' ((c.tc : Thread Cert.Mod2RefIdeal.nD Cert.Mod2RefIdeal.τ).loc Cert.Mod2RefIdeal.main_arg1) = m ((c.tc : Thread Cert.Mod2Ideal.nD Cert.Mod2Ideal.τ).loc Cert.Mod2Ideal.main_arg1)) →
    ∃ (v0 : (c : Dev Cert.Mod2Ideal.nD) → Buf (Elt Ideal) ((c.tc : Thread Cert.Mod2Ideal.nD Cert.Mod2Ideal.τ).loc Cert.Mod2Ideal.main_v0)),
      θ_run (Cert.Mod2Ideal.defs (F := Ideal)) (onTc (τ := Cert.Mod2Ideal.τ) (Cert.Mod2Ideal.main (F := Ideal))) ⟨m, fun _ => 0, g⟩ (fun r => ∀ c : Dev Cert.Mod2Ideal.nD,
          r.2.mem ((c.tc : Thread Cert.Mod2Ideal.nD Cert.Mod2Ideal.τ).loc Cert.Mod2Ideal.main_v0) = v0 c
          ∧ r.2.mem ((c.tc : Thread Cert.Mod2Ideal.nD Cert.Mod2Ideal.τ).loc Cert.Mod2Ideal.main_arg0) = m ((c.tc : Thread Cert.Mod2Ideal.nD Cert.Mod2Ideal.τ).loc Cert.Mod2Ideal.main_arg0)
          ∧ r.2.mem ((c.tc : Thread Cert.Mod2Ideal.nD Cert.Mod2Ideal.τ).loc Cert.Mod2Ideal.main_arg1) = m ((c.tc : Thread Cert.Mod2Ideal.nD Cert.Mod2Ideal.τ).loc Cert.Mod2Ideal.main_arg1))
      ∧ θ_run (Cert.Mod2RefIdeal.defs (F := Ideal)) (onTc (τ := Cert.Mod2RefIdeal.τ) (Cert.Mod2RefIdeal.main (F := Ideal))) ⟨m', fun _ => 0, g'⟩ (fun r => ∀ c : Dev Cert.Mod2RefIdeal.nD,
          r.2.mem ((c.tc : Thread Cert.Mod2RefIdeal.nD Cert.Mod2RefIdeal.τ).loc Cert.Mod2RefIdeal.main_v2) = v0 c
          ∧ r.2.mem ((c.tc : Thread Cert.Mod2RefIdeal.nD Cert.Mod2RefIdeal.τ).loc Cert.Mod2RefIdeal.main_arg0) = m' ((c.tc : Thread Cert.Mod2RefIdeal.nD Cert.Mod2RefIdeal.τ).loc Cert.Mod2RefIdeal.main_arg0)
          ∧ r.2.mem ((c.tc : Thread Cert.Mod2RefIdeal.nD Cert.Mod2RefIdeal.τ).loc Cert.Mod2RefIdeal.main_arg1) = m' ((c.tc : Thread Cert.Mod2RefIdeal.nD Cert.Mod2RefIdeal.τ).loc Cert.Mod2RefIdeal.main_arg1))

def preserves_Mod3_Mod3Ideal : Prop :=
  True

def algebraic_Mod3Ideal_Mod3RefIdeal [hMod3Ideal : Cert.Mod3Ideal.Facts] [hMod3RefIdeal : Cert.Mod3RefIdeal.Facts] : Prop :=
  ∀ (m : (ℓ : Loc Cert.Mod3Ideal.nD Cert.Mod3Ideal.τ Cert.Mod3Ideal.sig) → Buf (Elt Ideal) ℓ) (g : Dev Cert.Mod3Ideal.nD → PrngReg)
    (m' : (ℓ : Loc Cert.Mod3RefIdeal.nD Cert.Mod3RefIdeal.τ Cert.Mod3RefIdeal.sig) → Buf (Elt Ideal) ℓ) (g' : Dev Cert.Mod3RefIdeal.nD → PrngReg), Pre_Mod3Ideal m →
    (∀ c : Dev Cert.Mod3Ideal.nD,
      m' ((c.tc : Thread Cert.Mod3RefIdeal.nD Cert.Mod3RefIdeal.τ).loc Cert.Mod3RefIdeal.main_arg0) = m ((c.tc : Thread Cert.Mod3Ideal.nD Cert.Mod3Ideal.τ).loc Cert.Mod3Ideal.main_arg0)
      ∧ m' ((c.tc : Thread Cert.Mod3RefIdeal.nD Cert.Mod3RefIdeal.τ).loc Cert.Mod3RefIdeal.main_arg1) = m ((c.tc : Thread Cert.Mod3Ideal.nD Cert.Mod3Ideal.τ).loc Cert.Mod3Ideal.main_arg1)) →
    ∃ (v0 : (c : Dev Cert.Mod3Ideal.nD) → Buf (Elt Ideal) ((c.tc : Thread Cert.Mod3Ideal.nD Cert.Mod3Ideal.τ).loc Cert.Mod3Ideal.main_v0)),
      θ_run (Cert.Mod3Ideal.defs (F := Ideal)) (onTc (τ := Cert.Mod3Ideal.τ) (Cert.Mod3Ideal.main (F := Ideal))) ⟨m, fun _ => 0, g⟩ (fun r => ∀ c : Dev Cert.Mod3Ideal.nD,
          r.2.mem ((c.tc : Thread Cert.Mod3Ideal.nD Cert.Mod3Ideal.τ).loc Cert.Mod3Ideal.main_v0) = v0 c
          ∧ r.2.mem ((c.tc : Thread Cert.Mod3Ideal.nD Cert.Mod3Ideal.τ).loc Cert.Mod3Ideal.main_arg0) = m ((c.tc : Thread Cert.Mod3Ideal.nD Cert.Mod3Ideal.τ).loc Cert.Mod3Ideal.main_arg0)
          ∧ r.2.mem ((c.tc : Thread Cert.Mod3Ideal.nD Cert.Mod3Ideal.τ).loc Cert.Mod3Ideal.main_arg1) = m ((c.tc : Thread Cert.Mod3Ideal.nD Cert.Mod3Ideal.τ).loc Cert.Mod3Ideal.main_arg1))
      ∧ θ_run (Cert.Mod3RefIdeal.defs (F := Ideal)) (onTc (τ := Cert.Mod3RefIdeal.τ) (Cert.Mod3RefIdeal.main (F := Ideal))) ⟨m', fun _ => 0, g'⟩ (fun r => ∀ c : Dev Cert.Mod3RefIdeal.nD,
          r.2.mem ((c.tc : Thread Cert.Mod3RefIdeal.nD Cert.Mod3RefIdeal.τ).loc Cert.Mod3RefIdeal.main_v2) = v0 c
          ∧ r.2.mem ((c.tc : Thread Cert.Mod3RefIdeal.nD Cert.Mod3RefIdeal.τ).loc Cert.Mod3RefIdeal.main_arg0) = m' ((c.tc : Thread Cert.Mod3RefIdeal.nD Cert.Mod3RefIdeal.τ).loc Cert.Mod3RefIdeal.main_arg0)
          ∧ r.2.mem ((c.tc : Thread Cert.Mod3RefIdeal.nD Cert.Mod3RefIdeal.τ).loc Cert.Mod3RefIdeal.main_arg1) = m' ((c.tc : Thread Cert.Mod3RefIdeal.nD Cert.Mod3RefIdeal.τ).loc Cert.Mod3RefIdeal.main_arg1))

def preserves_Silu_SiluIdeal : Prop :=
  True

def algebraic_SiluIdeal_SiluRefIdeal [hSiluIdeal : Cert.SiluIdeal.Facts] [hSiluRefIdeal : Cert.SiluRefIdeal.Facts] : Prop :=
  ∀ (m : (ℓ : Loc Cert.SiluIdeal.nD Cert.SiluIdeal.τ Cert.SiluIdeal.sig) → Buf (Elt Ideal) ℓ) (g : Dev Cert.SiluIdeal.nD → PrngReg)
    (m' : (ℓ : Loc Cert.SiluRefIdeal.nD Cert.SiluRefIdeal.τ Cert.SiluRefIdeal.sig) → Buf (Elt Ideal) ℓ) (g' : Dev Cert.SiluRefIdeal.nD → PrngReg), Pre_SiluIdeal m →
    (∀ c : Dev Cert.SiluIdeal.nD,
      m' ((c.tc : Thread Cert.SiluRefIdeal.nD Cert.SiluRefIdeal.τ).loc Cert.SiluRefIdeal.main_arg0) = m ((c.tc : Thread Cert.SiluIdeal.nD Cert.SiluIdeal.τ).loc Cert.SiluIdeal.main_arg0)) →
    ∃ (v0 : (c : Dev Cert.SiluIdeal.nD) → Buf (Elt Ideal) ((c.tc : Thread Cert.SiluIdeal.nD Cert.SiluIdeal.τ).loc Cert.SiluIdeal.main_v0)),
      θ_run (Cert.SiluIdeal.defs (F := Ideal)) (onTc (τ := Cert.SiluIdeal.τ) (Cert.SiluIdeal.main (F := Ideal))) ⟨m, fun _ => 0, g⟩ (fun r => ∀ c : Dev Cert.SiluIdeal.nD,
          r.2.mem ((c.tc : Thread Cert.SiluIdeal.nD Cert.SiluIdeal.τ).loc Cert.SiluIdeal.main_v0) = v0 c
          ∧ r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0))
      ∧ θ_run (Cert.SiluRefIdeal.defs (F := Ideal)) (onTc (τ := Cert.SiluRefIdeal.τ) (Cert.SiluRefIdeal.main (F := Ideal))) ⟨m', fun _ => 0, g'⟩ (fun r => ∀ c : Dev Cert.SiluRefIdeal.nD,
          r.2.mem ((c.tc : Thread Cert.SiluRefIdeal.nD Cert.SiluRefIdeal.τ).loc Cert.SiluRefIdeal.main_v0) = v0 c
          ∧ r.2.mem ((c.tc : Thread Cert.SiluRefIdeal.nD Cert.SiluRefIdeal.τ).loc Cert.SiluRefIdeal.main_arg0) = m' ((c.tc : Thread Cert.SiluRefIdeal.nD Cert.SiluRefIdeal.τ).loc Cert.SiluRefIdeal.main_arg0))

def preserves_Resid_ResidIdeal : Prop :=
  True

def algebraic_ResidIdeal_ResidRefIdeal [hResidIdeal : Cert.ResidIdeal.Facts] [hResidRefIdeal : Cert.ResidRefIdeal.Facts] : Prop :=
  ∀ (m : (ℓ : Loc Cert.ResidIdeal.nD Cert.ResidIdeal.τ Cert.ResidIdeal.sig) → Buf (Elt Ideal) ℓ) (g : Dev Cert.ResidIdeal.nD → PrngReg)
    (m' : (ℓ : Loc Cert.ResidRefIdeal.nD Cert.ResidRefIdeal.τ Cert.ResidRefIdeal.sig) → Buf (Elt Ideal) ℓ) (g' : Dev Cert.ResidRefIdeal.nD → PrngReg), Pre_ResidIdeal m →
    (∀ c : Dev Cert.ResidIdeal.nD,
      m' ((c.tc : Thread Cert.ResidRefIdeal.nD Cert.ResidRefIdeal.τ).loc Cert.ResidRefIdeal.main_arg0) = m ((c.tc : Thread Cert.ResidIdeal.nD Cert.ResidIdeal.τ).loc Cert.ResidIdeal.main_arg0)
      ∧ m' ((c.tc : Thread Cert.ResidRefIdeal.nD Cert.ResidRefIdeal.τ).loc Cert.ResidRefIdeal.main_arg1) = m ((c.tc : Thread Cert.ResidIdeal.nD Cert.ResidIdeal.τ).loc Cert.ResidIdeal.main_arg1)
      ∧ m' ((c.tc : Thread Cert.ResidRefIdeal.nD Cert.ResidRefIdeal.τ).loc Cert.ResidRefIdeal.main_arg2) = m ((c.tc : Thread Cert.ResidIdeal.nD Cert.ResidIdeal.τ).loc Cert.ResidIdeal.main_arg2)) →
    ∃ (v0 : (c : Dev Cert.ResidIdeal.nD) → Buf (Elt Ideal) ((c.tc : Thread Cert.ResidIdeal.nD Cert.ResidIdeal.τ).loc Cert.ResidIdeal.main_v0)),
      θ_run (Cert.ResidIdeal.defs (F := Ideal)) (onTc (τ := Cert.ResidIdeal.τ) (Cert.ResidIdeal.main (F := Ideal))) ⟨m, fun _ => 0, g⟩ (fun r => ∀ c : Dev Cert.ResidIdeal.nD,
          r.2.mem ((c.tc : Thread Cert.ResidIdeal.nD Cert.ResidIdeal.τ).loc Cert.ResidIdeal.main_v0) = v0 c
          ∧ r.2.mem ((c.tc : Thread Cert.ResidIdeal.nD Cert.ResidIdeal.τ).loc Cert.ResidIdeal.main_arg0) = m ((c.tc : Thread Cert.ResidIdeal.nD Cert.ResidIdeal.τ).loc Cert.ResidIdeal.main_arg0)
          ∧ r.2.mem ((c.tc : Thread Cert.ResidIdeal.nD Cert.ResidIdeal.τ).loc Cert.ResidIdeal.main_arg1) = m ((c.tc : Thread Cert.ResidIdeal.nD Cert.ResidIdeal.τ).loc Cert.ResidIdeal.main_arg1)
          ∧ r.2.mem ((c.tc : Thread Cert.ResidIdeal.nD Cert.ResidIdeal.τ).loc Cert.ResidIdeal.main_arg2) = m ((c.tc : Thread Cert.ResidIdeal.nD Cert.ResidIdeal.τ).loc Cert.ResidIdeal.main_arg2))
      ∧ θ_run (Cert.ResidRefIdeal.defs (F := Ideal)) (onTc (τ := Cert.ResidRefIdeal.τ) (Cert.ResidRefIdeal.main (F := Ideal))) ⟨m', fun _ => 0, g'⟩ (fun r => ∀ c : Dev Cert.ResidRefIdeal.nD,
          r.2.mem ((c.tc : Thread Cert.ResidRefIdeal.nD Cert.ResidRefIdeal.τ).loc Cert.ResidRefIdeal.main_v2) = v0 c
          ∧ r.2.mem ((c.tc : Thread Cert.ResidRefIdeal.nD Cert.ResidRefIdeal.τ).loc Cert.ResidRefIdeal.main_arg0) = m' ((c.tc : Thread Cert.ResidRefIdeal.nD Cert.ResidRefIdeal.τ).loc Cert.ResidRefIdeal.main_arg0)
          ∧ r.2.mem ((c.tc : Thread Cert.ResidRefIdeal.nD Cert.ResidRefIdeal.τ).loc Cert.ResidRefIdeal.main_arg1) = m' ((c.tc : Thread Cert.ResidRefIdeal.nD Cert.ResidRefIdeal.τ).loc Cert.ResidRefIdeal.main_arg1)
          ∧ r.2.mem ((c.tc : Thread Cert.ResidRefIdeal.nD Cert.ResidRefIdeal.τ).loc Cert.ResidRefIdeal.main_arg2) = m' ((c.tc : Thread Cert.ResidRefIdeal.nD Cert.ResidRefIdeal.τ).loc Cert.ResidRefIdeal.main_arg2))

def preserves_ResidB_ResidBIdeal : Prop :=
  True

def algebraic_ResidBIdeal_ResidBRefIdeal [hResidBIdeal : Cert.ResidBIdeal.Facts] [hResidBRefIdeal : Cert.ResidBRefIdeal.Facts] : Prop :=
  ∀ (m : (ℓ : Loc Cert.ResidBIdeal.nD Cert.ResidBIdeal.τ Cert.ResidBIdeal.sig) → Buf (Elt Ideal) ℓ) (g : Dev Cert.ResidBIdeal.nD → PrngReg)
    (m' : (ℓ : Loc Cert.ResidBRefIdeal.nD Cert.ResidBRefIdeal.τ Cert.ResidBRefIdeal.sig) → Buf (Elt Ideal) ℓ) (g' : Dev Cert.ResidBRefIdeal.nD → PrngReg), Pre_ResidBIdeal m →
    (∀ c : Dev Cert.ResidBIdeal.nD,
      m' ((c.tc : Thread Cert.ResidBRefIdeal.nD Cert.ResidBRefIdeal.τ).loc Cert.ResidBRefIdeal.main_arg0) = m ((c.tc : Thread Cert.ResidBIdeal.nD Cert.ResidBIdeal.τ).loc Cert.ResidBIdeal.main_arg0)
      ∧ m' ((c.tc : Thread Cert.ResidBRefIdeal.nD Cert.ResidBRefIdeal.τ).loc Cert.ResidBRefIdeal.main_arg1) = m ((c.tc : Thread Cert.ResidBIdeal.nD Cert.ResidBIdeal.τ).loc Cert.ResidBIdeal.main_arg1)
      ∧ m' ((c.tc : Thread Cert.ResidBRefIdeal.nD Cert.ResidBRefIdeal.τ).loc Cert.ResidBRefIdeal.main_arg2) = m ((c.tc : Thread Cert.ResidBIdeal.nD Cert.ResidBIdeal.τ).loc Cert.ResidBIdeal.main_arg2)) →
    ∃ (v0 : (c : Dev Cert.ResidBIdeal.nD) → Buf (Elt Ideal) ((c.tc : Thread Cert.ResidBIdeal.nD Cert.ResidBIdeal.τ).loc Cert.ResidBIdeal.main_v0_0)) (v1 : (c : Dev Cert.ResidBIdeal.nD) → Buf (Elt Ideal) ((c.tc : Thread Cert.ResidBIdeal.nD Cert.ResidBIdeal.τ).loc Cert.ResidBIdeal.main_v0_1)),
      θ_run (Cert.ResidBIdeal.defs (F := Ideal)) (onTc (τ := Cert.ResidBIdeal.τ) (Cert.ResidBIdeal.main (F := Ideal))) ⟨m, fun _ => 0, g⟩ (fun r => ∀ c : Dev Cert.ResidBIdeal.nD,
          r.2.mem ((c.tc : Thread Cert.ResidBIdeal.nD Cert.ResidBIdeal.τ).loc Cert.ResidBIdeal.main_v0_0) = v0 c
          ∧ r.2.mem ((c.tc : Thread Cert.ResidBIdeal.nD Cert.ResidBIdeal.τ).loc Cert.ResidBIdeal.main_v0_1) = v1 c
          ∧ r.2.mem ((c.tc : Thread Cert.ResidBIdeal.nD Cert.ResidBIdeal.τ).loc Cert.ResidBIdeal.main_arg0) = m ((c.tc : Thread Cert.ResidBIdeal.nD Cert.ResidBIdeal.τ).loc Cert.ResidBIdeal.main_arg0)
          ∧ r.2.mem ((c.tc : Thread Cert.ResidBIdeal.nD Cert.ResidBIdeal.τ).loc Cert.ResidBIdeal.main_arg1) = m ((c.tc : Thread Cert.ResidBIdeal.nD Cert.ResidBIdeal.τ).loc Cert.ResidBIdeal.main_arg1)
          ∧ r.2.mem ((c.tc : Thread Cert.ResidBIdeal.nD Cert.ResidBIdeal.τ).loc Cert.ResidBIdeal.main_arg2) = m ((c.tc : Thread Cert.ResidBIdeal.nD Cert.ResidBIdeal.τ).loc Cert.ResidBIdeal.main_arg2))
      ∧ θ_run (Cert.ResidBRefIdeal.defs (F := Ideal)) (onTc (τ := Cert.ResidBRefIdeal.τ) (Cert.ResidBRefIdeal.main (F := Ideal))) ⟨m', fun _ => 0, g'⟩ (fun r => ∀ c : Dev Cert.ResidBRefIdeal.nD,
          r.2.mem ((c.tc : Thread Cert.ResidBRefIdeal.nD Cert.ResidBRefIdeal.τ).loc Cert.ResidBRefIdeal.main_v7) = v0 c
          ∧ r.2.mem ((c.tc : Thread Cert.ResidBRefIdeal.nD Cert.ResidBRefIdeal.τ).loc Cert.ResidBRefIdeal.main_v6) = v1 c
          ∧ r.2.mem ((c.tc : Thread Cert.ResidBRefIdeal.nD Cert.ResidBRefIdeal.τ).loc Cert.ResidBRefIdeal.main_arg0) = m' ((c.tc : Thread Cert.ResidBRefIdeal.nD Cert.ResidBRefIdeal.τ).loc Cert.ResidBRefIdeal.main_arg0)
          ∧ r.2.mem ((c.tc : Thread Cert.ResidBRefIdeal.nD Cert.ResidBRefIdeal.τ).loc Cert.ResidBRefIdeal.main_arg1) = m' ((c.tc : Thread Cert.ResidBRefIdeal.nD Cert.ResidBRefIdeal.τ).loc Cert.ResidBRefIdeal.main_arg1)
          ∧ r.2.mem ((c.tc : Thread Cert.ResidBRefIdeal.nD Cert.ResidBRefIdeal.τ).loc Cert.ResidBRefIdeal.main_arg2) = m' ((c.tc : Thread Cert.ResidBRefIdeal.nD Cert.ResidBRefIdeal.τ).loc Cert.ResidBRefIdeal.main_arg2))

def preserves_GluZ_GluZIdeal : Prop :=
  IdealRules.named_const.Statement Cert.GluZIdeal.κ "gelu_a" .f32 0x3D372713#32 ((8943 / 200000 : ℝ) : EReal)

def algebraic_GluZIdeal_GluZRefIdeal [hGluZIdeal : Cert.GluZIdeal.Facts] [hGluZRefIdeal : Cert.GluZRefIdeal.Facts] : Prop :=
  ∀ (m : (ℓ : Loc Cert.GluZIdeal.nD Cert.GluZIdeal.τ Cert.GluZIdeal.sig) → Buf (Elt Ideal) ℓ) (g : Dev Cert.GluZIdeal.nD → PrngReg)
    (m' : (ℓ : Loc Cert.GluZRefIdeal.nD Cert.GluZRefIdeal.τ Cert.GluZRefIdeal.sig) → Buf (Elt Ideal) ℓ) (g' : Dev Cert.GluZRefIdeal.nD → PrngReg), Pre_GluZIdeal m →
    (∀ c : Dev Cert.GluZIdeal.nD,
      m' ((c.tc : Thread Cert.GluZRefIdeal.nD Cert.GluZRefIdeal.τ).loc Cert.GluZRefIdeal.main_arg0) = m ((c.tc : Thread Cert.GluZIdeal.nD Cert.GluZIdeal.τ).loc Cert.GluZIdeal.main_arg0)) →
    ∃ (v0 : (c : Dev Cert.GluZIdeal.nD) → Buf (Elt Ideal) ((c.tc : Thread Cert.GluZIdeal.nD Cert.GluZIdeal.τ).loc Cert.GluZIdeal.main_v0)),
      θ_run (Cert.GluZIdeal.defs (F := Ideal)) (onTc (τ := Cert.GluZIdeal.τ) (Cert.GluZIdeal.main (F := Ideal))) ⟨m, fun _ => 0, g⟩ (fun r => ∀ c : Dev Cert.GluZIdeal.nD,
          r.2.mem ((c.tc : Thread Cert.GluZIdeal.nD Cert.GluZIdeal.τ).loc Cert.GluZIdeal.main_v0) = v0 c
          ∧ r.2.mem ((c.tc : Thread Cert.GluZIdeal.nD Cert.GluZIdeal.τ).loc Cert.GluZIdeal.main_arg0) = m ((c.tc : Thread Cert.GluZIdeal.nD Cert.GluZIdeal.τ).loc Cert.GluZIdeal.main_arg0))
      ∧ θ_run (Cert.GluZRefIdeal.defs (F := Ideal)) (onTc (τ := Cert.GluZRefIdeal.τ) (Cert.GluZRefIdeal.main (F := Ideal))) ⟨m', fun _ => 0, g'⟩ (fun r => ∀ c : Dev Cert.GluZRefIdeal.nD,
          r.2.mem ((c.tc : Thread Cert.GluZRefIdeal.nD Cert.GluZRefIdeal.τ).loc Cert.GluZRefIdeal.main_v14) = v0 c
          ∧ r.2.mem ((c.tc : Thread Cert.GluZRefIdeal.nD Cert.GluZRefIdeal.τ).loc Cert.GluZRefIdeal.main_arg0) = m' ((c.tc : Thread Cert.GluZRefIdeal.nD Cert.GluZRefIdeal.τ).loc Cert.GluZRefIdeal.main_arg0))

def preserves_GluOut_GluOutIdeal : Prop :=
  IdealRules.named_const.Statement Cert.GluOutIdeal.κ "gelu_a" .f32 0x3D372713#32 ((8943 / 200000 : ℝ) : EReal)

def algebraic_GluOutIdeal_GluOutRefIdeal [hGluOutIdeal : Cert.GluOutIdeal.Facts] [hGluOutRefIdeal : Cert.GluOutRefIdeal.Facts] : Prop :=
  ∀ (m : (ℓ : Loc Cert.GluOutIdeal.nD Cert.GluOutIdeal.τ Cert.GluOutIdeal.sig) → Buf (Elt Ideal) ℓ) (g : Dev Cert.GluOutIdeal.nD → PrngReg)
    (m' : (ℓ : Loc Cert.GluOutRefIdeal.nD Cert.GluOutRefIdeal.τ Cert.GluOutRefIdeal.sig) → Buf (Elt Ideal) ℓ) (g' : Dev Cert.GluOutRefIdeal.nD → PrngReg), Pre_GluOutIdeal m →
    (∀ c : Dev Cert.GluOutIdeal.nD,
      m' ((c.tc : Thread Cert.GluOutRefIdeal.nD Cert.GluOutRefIdeal.τ).loc Cert.GluOutRefIdeal.main_arg0) = m ((c.tc : Thread Cert.GluOutIdeal.nD Cert.GluOutIdeal.τ).loc Cert.GluOutIdeal.main_arg0)
      ∧ m' ((c.tc : Thread Cert.GluOutRefIdeal.nD Cert.GluOutRefIdeal.τ).loc Cert.GluOutRefIdeal.main_arg1) = m ((c.tc : Thread Cert.GluOutIdeal.nD Cert.GluOutIdeal.τ).loc Cert.GluOutIdeal.main_arg1)
      ∧ m' ((c.tc : Thread Cert.GluOutRefIdeal.nD Cert.GluOutRefIdeal.τ).loc Cert.GluOutRefIdeal.main_arg2) = m ((c.tc : Thread Cert.GluOutIdeal.nD Cert.GluOutIdeal.τ).loc Cert.GluOutIdeal.main_arg2)) →
    ∃ (v0 : (c : Dev Cert.GluOutIdeal.nD) → Buf (Elt Ideal) ((c.tc : Thread Cert.GluOutIdeal.nD Cert.GluOutIdeal.τ).loc Cert.GluOutIdeal.main_v0)),
      θ_run (Cert.GluOutIdeal.defs (F := Ideal)) (onTc (τ := Cert.GluOutIdeal.τ) (Cert.GluOutIdeal.main (F := Ideal))) ⟨m, fun _ => 0, g⟩ (fun r => ∀ c : Dev Cert.GluOutIdeal.nD,
          r.2.mem ((c.tc : Thread Cert.GluOutIdeal.nD Cert.GluOutIdeal.τ).loc Cert.GluOutIdeal.main_v0) = v0 c
          ∧ r.2.mem ((c.tc : Thread Cert.GluOutIdeal.nD Cert.GluOutIdeal.τ).loc Cert.GluOutIdeal.main_arg0) = m ((c.tc : Thread Cert.GluOutIdeal.nD Cert.GluOutIdeal.τ).loc Cert.GluOutIdeal.main_arg0)
          ∧ r.2.mem ((c.tc : Thread Cert.GluOutIdeal.nD Cert.GluOutIdeal.τ).loc Cert.GluOutIdeal.main_arg1) = m ((c.tc : Thread Cert.GluOutIdeal.nD Cert.GluOutIdeal.τ).loc Cert.GluOutIdeal.main_arg1)
          ∧ r.2.mem ((c.tc : Thread Cert.GluOutIdeal.nD Cert.GluOutIdeal.τ).loc Cert.GluOutIdeal.main_arg2) = m ((c.tc : Thread Cert.GluOutIdeal.nD Cert.GluOutIdeal.τ).loc Cert.GluOutIdeal.main_arg2))
      ∧ θ_run (Cert.GluOutRefIdeal.defs (F := Ideal)) (onTc (τ := Cert.GluOutRefIdeal.τ) (Cert.GluOutRefIdeal.main (F := Ideal))) ⟨m', fun _ => 0, g'⟩ (fun r => ∀ c : Dev Cert.GluOutRefIdeal.nD,
          r.2.mem ((c.tc : Thread Cert.GluOutRefIdeal.nD Cert.GluOutRefIdeal.τ).loc Cert.GluOutRefIdeal.main_v23) = v0 c
          ∧ r.2.mem ((c.tc : Thread Cert.GluOutRefIdeal.nD Cert.GluOutRefIdeal.τ).loc Cert.GluOutRefIdeal.main_arg0) = m' ((c.tc : Thread Cert.GluOutRefIdeal.nD Cert.GluOutRefIdeal.τ).loc Cert.GluOutRefIdeal.main_arg0)
          ∧ r.2.mem ((c.tc : Thread Cert.GluOutRefIdeal.nD Cert.GluOutRefIdeal.τ).loc Cert.GluOutRefIdeal.main_arg1) = m' ((c.tc : Thread Cert.GluOutRefIdeal.nD Cert.GluOutRefIdeal.τ).loc Cert.GluOutRefIdeal.main_arg1)
          ∧ r.2.mem ((c.tc : Thread Cert.GluOutRefIdeal.nD Cert.GluOutRefIdeal.τ).loc Cert.GluOutRefIdeal.main_arg2) = m' ((c.tc : Thread Cert.GluOutRefIdeal.nD Cert.GluOutRefIdeal.τ).loc Cert.GluOutRefIdeal.main_arg2))

def preserves_GluGate_GluGateIdeal : Prop :=
  IdealRules.named_const.Statement Cert.GluGateIdeal.κ "gelu_a" .f32 0x3D372713#32 ((8943 / 200000 : ℝ) : EReal)

def algebraic_GluGateIdeal_GluGateRefIdeal [hGluGateIdeal : Cert.GluGateIdeal.Facts] [hGluGateRefIdeal : Cert.GluGateRefIdeal.Facts] : Prop :=
  ∀ (m : (ℓ : Loc Cert.GluGateIdeal.nD Cert.GluGateIdeal.τ Cert.GluGateIdeal.sig) → Buf (Elt Ideal) ℓ) (g : Dev Cert.GluGateIdeal.nD → PrngReg)
    (m' : (ℓ : Loc Cert.GluGateRefIdeal.nD Cert.GluGateRefIdeal.τ Cert.GluGateRefIdeal.sig) → Buf (Elt Ideal) ℓ) (g' : Dev Cert.GluGateRefIdeal.nD → PrngReg), Pre_GluGateIdeal m →
    (∀ c : Dev Cert.GluGateIdeal.nD,
      m' ((c.tc : Thread Cert.GluGateRefIdeal.nD Cert.GluGateRefIdeal.τ).loc Cert.GluGateRefIdeal.main_arg0) = m ((c.tc : Thread Cert.GluGateIdeal.nD Cert.GluGateIdeal.τ).loc Cert.GluGateIdeal.main_arg0)
      ∧ m' ((c.tc : Thread Cert.GluGateRefIdeal.nD Cert.GluGateRefIdeal.τ).loc Cert.GluGateRefIdeal.main_arg1) = m ((c.tc : Thread Cert.GluGateIdeal.nD Cert.GluGateIdeal.τ).loc Cert.GluGateIdeal.main_arg1)
      ∧ m' ((c.tc : Thread Cert.GluGateRefIdeal.nD Cert.GluGateRefIdeal.τ).loc Cert.GluGateRefIdeal.main_arg2) = m ((c.tc : Thread Cert.GluGateIdeal.nD Cert.GluGateIdeal.τ).loc Cert.GluGateIdeal.main_arg2)
      ∧ m' ((c.tc : Thread Cert.GluGateRefIdeal.nD Cert.GluGateRefIdeal.τ).loc Cert.GluGateRefIdeal.main_arg3) = m ((c.tc : Thread Cert.GluGateIdeal.nD Cert.GluGateIdeal.τ).loc Cert.GluGateIdeal.main_arg3)) →
    ∃ (v0 : (c : Dev Cert.GluGateIdeal.nD) → Buf (Elt Ideal) ((c.tc : Thread Cert.GluGateIdeal.nD Cert.GluGateIdeal.τ).loc Cert.GluGateIdeal.main_v0_0)) (v1 : (c : Dev Cert.GluGateIdeal.nD) → Buf (Elt Ideal) ((c.tc : Thread Cert.GluGateIdeal.nD Cert.GluGateIdeal.τ).loc Cert.GluGateIdeal.main_v0_1)),
      θ_run (Cert.GluGateIdeal.defs (F := Ideal)) (onTc (τ := Cert.GluGateIdeal.τ) (Cert.GluGateIdeal.main (F := Ideal))) ⟨m, fun _ => 0, g⟩ (fun r => ∀ c : Dev Cert.GluGateIdeal.nD,
          r.2.mem ((c.tc : Thread Cert.GluGateIdeal.nD Cert.GluGateIdeal.τ).loc Cert.GluGateIdeal.main_v0_0) = v0 c
          ∧ r.2.mem ((c.tc : Thread Cert.GluGateIdeal.nD Cert.GluGateIdeal.τ).loc Cert.GluGateIdeal.main_v0_1) = v1 c
          ∧ r.2.mem ((c.tc : Thread Cert.GluGateIdeal.nD Cert.GluGateIdeal.τ).loc Cert.GluGateIdeal.main_arg0) = m ((c.tc : Thread Cert.GluGateIdeal.nD Cert.GluGateIdeal.τ).loc Cert.GluGateIdeal.main_arg0)
          ∧ r.2.mem ((c.tc : Thread Cert.GluGateIdeal.nD Cert.GluGateIdeal.τ).loc Cert.GluGateIdeal.main_arg1) = m ((c.tc : Thread Cert.GluGateIdeal.nD Cert.GluGateIdeal.τ).loc Cert.GluGateIdeal.main_arg1)
          ∧ r.2.mem ((c.tc : Thread Cert.GluGateIdeal.nD Cert.GluGateIdeal.τ).loc Cert.GluGateIdeal.main_arg2) = m ((c.tc : Thread Cert.GluGateIdeal.nD Cert.GluGateIdeal.τ).loc Cert.GluGateIdeal.main_arg2)
          ∧ r.2.mem ((c.tc : Thread Cert.GluGateIdeal.nD Cert.GluGateIdeal.τ).loc Cert.GluGateIdeal.main_arg3) = m ((c.tc : Thread Cert.GluGateIdeal.nD Cert.GluGateIdeal.τ).loc Cert.GluGateIdeal.main_arg3))
      ∧ θ_run (Cert.GluGateRefIdeal.defs (F := Ideal)) (onTc (τ := Cert.GluGateRefIdeal.τ) (Cert.GluGateRefIdeal.main (F := Ideal))) ⟨m', fun _ => 0, g'⟩ (fun r => ∀ c : Dev Cert.GluGateRefIdeal.nD,
          r.2.mem ((c.tc : Thread Cert.GluGateRefIdeal.nD Cert.GluGateRefIdeal.τ).loc Cert.GluGateRefIdeal.main_v31) = v0 c
          ∧ r.2.mem ((c.tc : Thread Cert.GluGateRefIdeal.nD Cert.GluGateRefIdeal.τ).loc Cert.GluGateRefIdeal.main_v30) = v1 c
          ∧ r.2.mem ((c.tc : Thread Cert.GluGateRefIdeal.nD Cert.GluGateRefIdeal.τ).loc Cert.GluGateRefIdeal.main_arg0) = m' ((c.tc : Thread Cert.GluGateRefIdeal.nD Cert.GluGateRefIdeal.τ).loc Cert.GluGateRefIdeal.main_arg0)
          ∧ r.2.mem ((c.tc : Thread Cert.GluGateRefIdeal.nD Cert.GluGateRefIdeal.τ).loc Cert.GluGateRefIdeal.main_arg1) = m' ((c.tc : Thread Cert.GluGateRefIdeal.nD Cert.GluGateRefIdeal.τ).loc Cert.GluGateRefIdeal.main_arg1)
          ∧ r.2.mem ((c.tc : Thread Cert.GluGateRefIdeal.nD Cert.GluGateRefIdeal.τ).loc Cert.GluGateRefIdeal.main_arg2) = m' ((c.tc : Thread Cert.GluGateRefIdeal.nD Cert.GluGateRefIdeal.τ).loc Cert.GluGateRefIdeal.main_arg2)
          ∧ r.2.mem ((c.tc : Thread Cert.GluGateRefIdeal.nD Cert.GluGateRefIdeal.τ).loc Cert.GluGateRefIdeal.main_arg3) = m' ((c.tc : Thread Cert.GluGateRefIdeal.nD Cert.GluGateRefIdeal.τ).loc Cert.GluGateRefIdeal.main_arg3))

def preserves_GluY_GluYIdeal : Prop :=
  IdealRules.named_const.Statement Cert.GluYIdeal.κ "gelu_a" .f32 0x3D372713#32 ((8943 / 200000 : ℝ) : EReal)
  ∧ IdealRules.named_const.Statement Cert.GluYIdeal.κ "gelu_3a" .f32 0x3E095D4F#32 ((26829 / 200000 : ℝ) : EReal)

def algebraic_GluYIdeal_GluYRefIdeal_pre_finite_glu [hGluYIdeal : Cert.GluYIdeal.Facts] [hGluYRefIdeal : Cert.GluYRefIdeal.Facts] [hPre_finite_glu : Cert.Pre_finite_glu.Facts] : Prop :=
  ∀ (m : (ℓ : Loc Cert.GluYIdeal.nD Cert.GluYIdeal.τ Cert.GluYIdeal.sig) → Buf (Elt Ideal) ℓ) (g : Dev Cert.GluYIdeal.nD → PrngReg)
    (m' : (ℓ : Loc Cert.GluYRefIdeal.nD Cert.GluYRefIdeal.τ Cert.GluYRefIdeal.sig) → Buf (Elt Ideal) ℓ) (g' : Dev Cert.GluYRefIdeal.nD → PrngReg), Pre_GluYIdeal_finite_glu m →
    (∀ c : Dev Cert.GluYIdeal.nD,
      m' ((c.tc : Thread Cert.GluYRefIdeal.nD Cert.GluYRefIdeal.τ).loc Cert.GluYRefIdeal.main_arg0) = m ((c.tc : Thread Cert.GluYIdeal.nD Cert.GluYIdeal.τ).loc Cert.GluYIdeal.main_arg0)
      ∧ m' ((c.tc : Thread Cert.GluYRefIdeal.nD Cert.GluYRefIdeal.τ).loc Cert.GluYRefIdeal.main_arg1) = m ((c.tc : Thread Cert.GluYIdeal.nD Cert.GluYIdeal.τ).loc Cert.GluYIdeal.main_arg1)
      ∧ m' ((c.tc : Thread Cert.GluYRefIdeal.nD Cert.GluYRefIdeal.τ).loc Cert.GluYRefIdeal.main_arg2) = m ((c.tc : Thread Cert.GluYIdeal.nD Cert.GluYIdeal.τ).loc Cert.GluYIdeal.main_arg2)
      ∧ m' ((c.tc : Thread Cert.GluYRefIdeal.nD Cert.GluYRefIdeal.τ).loc Cert.GluYRefIdeal.main_arg3) = m ((c.tc : Thread Cert.GluYIdeal.nD Cert.GluYIdeal.τ).loc Cert.GluYIdeal.main_arg3)
      ∧ m' ((c.tc : Thread Cert.GluYRefIdeal.nD Cert.GluYRefIdeal.τ).loc Cert.GluYRefIdeal.main_arg4) = m ((c.tc : Thread Cert.GluYIdeal.nD Cert.GluYIdeal.τ).loc Cert.GluYIdeal.main_arg4)) →
    ∃ (v0 : (c : Dev Cert.GluYIdeal.nD) → Buf (Elt Ideal) ((c.tc : Thread Cert.GluYIdeal.nD Cert.GluYIdeal.τ).loc Cert.GluYIdeal.main_v0)),
      θ_run (Cert.GluYIdeal.defs (F := Ideal)) (onTc (τ := Cert.GluYIdeal.τ) (Cert.GluYIdeal.main (F := Ideal))) ⟨m, fun _ => 0, g⟩ (fun r => ∀ c : Dev Cert.GluYIdeal.nD,
          r.2.mem ((c.tc : Thread Cert.GluYIdeal.nD Cert.GluYIdeal.τ).loc Cert.GluYIdeal.main_v0) = v0 c
          ∧ r.2.mem ((c.tc : Thread Cert.GluYIdeal.nD Cert.GluYIdeal.τ).loc Cert.GluYIdeal.main_arg0) = m ((c.tc : Thread Cert.GluYIdeal.nD Cert.GluYIdeal.τ).loc Cert.GluYIdeal.main_arg0)
          ∧ r.2.mem ((c.tc : Thread Cert.GluYIdeal.nD Cert.GluYIdeal.τ).loc Cert.GluYIdeal.main_arg1) = m ((c.tc : Thread Cert.GluYIdeal.nD Cert.GluYIdeal.τ).loc Cert.GluYIdeal.main_arg1)
          ∧ r.2.mem ((c.tc : Thread Cert.GluYIdeal.nD Cert.GluYIdeal.τ).loc Cert.GluYIdeal.main_arg2) = m ((c.tc : Thread Cert.GluYIdeal.nD Cert.GluYIdeal.τ).loc Cert.GluYIdeal.main_arg2)
          ∧ r.2.mem ((c.tc : Thread Cert.GluYIdeal.nD Cert.GluYIdeal.τ).loc Cert.GluYIdeal.main_arg3) = m ((c.tc : Thread Cert.GluYIdeal.nD Cert.GluYIdeal.τ).loc Cert.GluYIdeal.main_arg3)
          ∧ r.2.mem ((c.tc : Thread Cert.GluYIdeal.nD Cert.GluYIdeal.τ).loc Cert.GluYIdeal.main_arg4) = m ((c.tc : Thread Cert.GluYIdeal.nD Cert.GluYIdeal.τ).loc Cert.GluYIdeal.main_arg4))
      ∧ θ_run (Cert.GluYRefIdeal.defs (F := Ideal)) (onTc (τ := Cert.GluYRefIdeal.τ) (Cert.GluYRefIdeal.main (F := Ideal))) ⟨m', fun _ => 0, g'⟩ (fun r => ∀ c : Dev Cert.GluYRefIdeal.nD,
          r.2.mem ((c.tc : Thread Cert.GluYRefIdeal.nD Cert.GluYRefIdeal.τ).loc Cert.GluYRefIdeal.main_v44) = v0 c
          ∧ r.2.mem ((c.tc : Thread Cert.GluYRefIdeal.nD Cert.GluYRefIdeal.τ).loc Cert.GluYRefIdeal.main_arg0) = m' ((c.tc : Thread Cert.GluYRefIdeal.nD Cert.GluYRefIdeal.τ).loc Cert.GluYRefIdeal.main_arg0)
          ∧ r.2.mem ((c.tc : Thread Cert.GluYRefIdeal.nD Cert.GluYRefIdeal.τ).loc Cert.GluYRefIdeal.main_arg1) = m' ((c.tc : Thread Cert.GluYRefIdeal.nD Cert.GluYRefIdeal.τ).loc Cert.GluYRefIdeal.main_arg1)
          ∧ r.2.mem ((c.tc : Thread Cert.GluYRefIdeal.nD Cert.GluYRefIdeal.τ).loc Cert.GluYRefIdeal.main_arg2) = m' ((c.tc : Thread Cert.GluYRefIdeal.nD Cert.GluYRefIdeal.τ).loc Cert.GluYRefIdeal.main_arg2)
          ∧ r.2.mem ((c.tc : Thread Cert.GluYRefIdeal.nD Cert.GluYRefIdeal.τ).loc Cert.GluYRefIdeal.main_arg3) = m' ((c.tc : Thread Cert.GluYRefIdeal.nD Cert.GluYRefIdeal.τ).loc Cert.GluYRefIdeal.main_arg3)
          ∧ r.2.mem ((c.tc : Thread Cert.GluYRefIdeal.nD Cert.GluYRefIdeal.τ).loc Cert.GluYRefIdeal.main_arg4) = m' ((c.tc : Thread Cert.GluYRefIdeal.nD Cert.GluYRefIdeal.τ).loc Cert.GluYRefIdeal.main_arg4))

def preserves_Sink_SinkIdeal : Prop :=
  True

def algebraic_SinkIdeal_SinkRefIdeal [hSinkIdeal : Cert.SinkIdeal.Facts] [hSinkRefIdeal : Cert.SinkRefIdeal.Facts] : Prop :=
  ∀ (m : (ℓ : Loc Cert.SinkIdeal.nD Cert.SinkIdeal.τ Cert.SinkIdeal.sig) → Buf (Elt Ideal) ℓ) (g : Dev Cert.SinkIdeal.nD → PrngReg)
    (m' : (ℓ : Loc Cert.SinkRefIdeal.nD Cert.SinkRefIdeal.τ Cert.SinkRefIdeal.sig) → Buf (Elt Ideal) ℓ) (g' : Dev Cert.SinkRefIdeal.nD → PrngReg), Pre_SinkIdeal m →
    (∀ c : Dev Cert.SinkIdeal.nD,
      m' ((c.tc : Thread Cert.SinkRefIdeal.nD Cert.SinkRefIdeal.τ).loc Cert.SinkRefIdeal.main_arg0) = m ((c.tc : Thread Cert.SinkIdeal.nD Cert.SinkIdeal.τ).loc Cert.SinkIdeal.main_arg0)
      ∧ m' ((c.tc : Thread Cert.SinkRefIdeal.nD Cert.SinkRefIdeal.τ).loc Cert.SinkRefIdeal.main_arg1) = m ((c.tc : Thread Cert.SinkIdeal.nD Cert.SinkIdeal.τ).loc Cert.SinkIdeal.main_arg1)
      ∧ m' ((c.tc : Thread Cert.SinkRefIdeal.nD Cert.SinkRefIdeal.τ).loc Cert.SinkRefIdeal.main_arg2) = m ((c.tc : Thread Cert.SinkIdeal.nD Cert.SinkIdeal.τ).loc Cert.SinkIdeal.main_arg2)) →
    ∃ (v0 : (c : Dev Cert.SinkIdeal.nD) → Buf (Elt Ideal) ((c.tc : Thread Cert.SinkIdeal.nD Cert.SinkIdeal.τ).loc Cert.SinkIdeal.main_v0)),
      θ_run (Cert.SinkIdeal.defs (F := Ideal)) (onTc (τ := Cert.SinkIdeal.τ) (Cert.SinkIdeal.main (F := Ideal))) ⟨m, fun _ => 0, g⟩ (fun r => ∀ c : Dev Cert.SinkIdeal.nD,
          r.2.mem ((c.tc : Thread Cert.SinkIdeal.nD Cert.SinkIdeal.τ).loc Cert.SinkIdeal.main_v0) = v0 c
          ∧ r.2.mem ((c.tc : Thread Cert.SinkIdeal.nD Cert.SinkIdeal.τ).loc Cert.SinkIdeal.main_arg0) = m ((c.tc : Thread Cert.SinkIdeal.nD Cert.SinkIdeal.τ).loc Cert.SinkIdeal.main_arg0)
          ∧ r.2.mem ((c.tc : Thread Cert.SinkIdeal.nD Cert.SinkIdeal.τ).loc Cert.SinkIdeal.main_arg1) = m ((c.tc : Thread Cert.SinkIdeal.nD Cert.SinkIdeal.τ).loc Cert.SinkIdeal.main_arg1)
          ∧ r.2.mem ((c.tc : Thread Cert.SinkIdeal.nD Cert.SinkIdeal.τ).loc Cert.SinkIdeal.main_arg2) = m ((c.tc : Thread Cert.SinkIdeal.nD Cert.SinkIdeal.τ).loc Cert.SinkIdeal.main_arg2))
      ∧ θ_run (Cert.SinkRefIdeal.defs (F := Ideal)) (onTc (τ := Cert.SinkRefIdeal.τ) (Cert.SinkRefIdeal.main (F := Ideal))) ⟨m', fun _ => 0, g'⟩ (fun r => ∀ c : Dev Cert.SinkRefIdeal.nD,
          r.2.mem ((c.tc : Thread Cert.SinkRefIdeal.nD Cert.SinkRefIdeal.τ).loc Cert.SinkRefIdeal.main_v9) = v0 c
          ∧ r.2.mem ((c.tc : Thread Cert.SinkRefIdeal.nD Cert.SinkRefIdeal.τ).loc Cert.SinkRefIdeal.main_arg0) = m' ((c.tc : Thread Cert.SinkRefIdeal.nD Cert.SinkRefIdeal.τ).loc Cert.SinkRefIdeal.main_arg0)
          ∧ r.2.mem ((c.tc : Thread Cert.SinkRefIdeal.nD Cert.SinkRefIdeal.τ).loc Cert.SinkRefIdeal.main_arg1) = m' ((c.tc : Thread Cert.SinkRefIdeal.nD Cert.SinkRefIdeal.τ).loc Cert.SinkRefIdeal.main_arg1)
          ∧ r.2.mem ((c.tc : Thread Cert.SinkRefIdeal.nD Cert.SinkRefIdeal.τ).loc Cert.SinkRefIdeal.main_arg2) = m' ((c.tc : Thread Cert.SinkRefIdeal.nD Cert.SinkRefIdeal.τ).loc Cert.SinkRefIdeal.main_arg2))

def preserves_Adamw_AdamwIdeal : Prop :=
  True

def algebraic_AdamwIdeal_AdamwRefIdeal [hAdamwIdeal : Cert.AdamwIdeal.Facts] [hAdamwRefIdeal : Cert.AdamwRefIdeal.Facts] : Prop :=
  ∀ (m : (ℓ : Loc Cert.AdamwIdeal.nD Cert.AdamwIdeal.τ Cert.AdamwIdeal.sig) → Buf (Elt Ideal) ℓ) (g : Dev Cert.AdamwIdeal.nD → PrngReg)
    (m' : (ℓ : Loc Cert.AdamwRefIdeal.nD Cert.AdamwRefIdeal.τ Cert.AdamwRefIdeal.sig) → Buf (Elt Ideal) ℓ) (g' : Dev Cert.AdamwRefIdeal.nD → PrngReg), Pre_AdamwIdeal m →
    (∀ c : Dev Cert.AdamwIdeal.nD,
      m' ((c.tc : Thread Cert.AdamwRefIdeal.nD Cert.AdamwRefIdeal.τ).loc Cert.AdamwRefIdeal.main_arg0) = m ((c.tc : Thread Cert.AdamwIdeal.nD Cert.AdamwIdeal.τ).loc Cert.AdamwIdeal.main_arg0)
      ∧ m' ((c.tc : Thread Cert.AdamwRefIdeal.nD Cert.AdamwRefIdeal.τ).loc Cert.AdamwRefIdeal.main_arg1) = m ((c.tc : Thread Cert.AdamwIdeal.nD Cert.AdamwIdeal.τ).loc Cert.AdamwIdeal.main_arg1)
      ∧ m' ((c.tc : Thread Cert.AdamwRefIdeal.nD Cert.AdamwRefIdeal.τ).loc Cert.AdamwRefIdeal.main_arg2) = m ((c.tc : Thread Cert.AdamwIdeal.nD Cert.AdamwIdeal.τ).loc Cert.AdamwIdeal.main_arg2)
      ∧ m' ((c.tc : Thread Cert.AdamwRefIdeal.nD Cert.AdamwRefIdeal.τ).loc Cert.AdamwRefIdeal.main_arg3) = m ((c.tc : Thread Cert.AdamwIdeal.nD Cert.AdamwIdeal.τ).loc Cert.AdamwIdeal.main_arg3)) →
    ∃ (v0 : (c : Dev Cert.AdamwIdeal.nD) → Buf (Elt Ideal) ((c.tc : Thread Cert.AdamwIdeal.nD Cert.AdamwIdeal.τ).loc Cert.AdamwIdeal.main_v0_0)) (v1 : (c : Dev Cert.AdamwIdeal.nD) → Buf (Elt Ideal) ((c.tc : Thread Cert.AdamwIdeal.nD Cert.AdamwIdeal.τ).loc Cert.AdamwIdeal.main_v0_1)) (v2 : (c : Dev Cert.AdamwIdeal.nD) → Buf (Elt Ideal) ((c.tc : Thread Cert.AdamwIdeal.nD Cert.AdamwIdeal.τ).loc Cert.AdamwIdeal.main_v0_2)),
      θ_run (Cert.AdamwIdeal.defs (F := Ideal)) (onTc (τ := Cert.AdamwIdeal.τ) (Cert.AdamwIdeal.main (F := Ideal))) ⟨m, fun _ => 0, g⟩ (fun r => ∀ c : Dev Cert.AdamwIdeal.nD,
          r.2.mem ((c.tc : Thread Cert.AdamwIdeal.nD Cert.AdamwIdeal.τ).loc Cert.AdamwIdeal.main_v0_0) = v0 c
          ∧ r.2.mem ((c.tc : Thread Cert.AdamwIdeal.nD Cert.AdamwIdeal.τ).loc Cert.AdamwIdeal.main_v0_1) = v1 c
          ∧ r.2.mem ((c.tc : Thread Cert.AdamwIdeal.nD Cert.AdamwIdeal.τ).loc Cert.AdamwIdeal.main_v0_2) = v2 c
          ∧ r.2.mem ((c.tc : Thread Cert.AdamwIdeal.nD Cert.AdamwIdeal.τ).loc Cert.AdamwIdeal.main_arg0) = m ((c.tc : Thread Cert.AdamwIdeal.nD Cert.AdamwIdeal.τ).loc Cert.AdamwIdeal.main_arg0)
          ∧ r.2.mem ((c.tc : Thread Cert.AdamwIdeal.nD Cert.AdamwIdeal.τ).loc Cert.AdamwIdeal.main_arg1) = m ((c.tc : Thread Cert.AdamwIdeal.nD Cert.AdamwIdeal.τ).loc Cert.AdamwIdeal.main_arg1)
          ∧ r.2.mem ((c.tc : Thread Cert.AdamwIdeal.nD Cert.AdamwIdeal.τ).loc Cert.AdamwIdeal.main_arg2) = m ((c.tc : Thread Cert.AdamwIdeal.nD Cert.AdamwIdeal.τ).loc Cert.AdamwIdeal.main_arg2)
          ∧ r.2.mem ((c.tc : Thread Cert.AdamwIdeal.nD Cert.AdamwIdeal.τ).loc Cert.AdamwIdeal.main_arg3) = m ((c.tc : Thread Cert.AdamwIdeal.nD Cert.AdamwIdeal.τ).loc Cert.AdamwIdeal.main_arg3))
      ∧ θ_run (Cert.AdamwRefIdeal.defs (F := Ideal)) (onTc (τ := Cert.AdamwRefIdeal.τ) (Cert.AdamwRefIdeal.main (F := Ideal))) ⟨m', fun _ => 0, g'⟩ (fun r => ∀ c : Dev Cert.AdamwRefIdeal.nD,
          r.2.mem ((c.tc : Thread Cert.AdamwRefIdeal.nD Cert.AdamwRefIdeal.τ).loc Cert.AdamwRefIdeal.main_v23) = v0 c
          ∧ r.2.mem ((c.tc : Thread Cert.AdamwRefIdeal.nD Cert.AdamwRefIdeal.τ).loc Cert.AdamwRefIdeal.main_v4) = v1 c
          ∧ r.2.mem ((c.tc : Thread Cert.AdamwRefIdeal.nD Cert.AdamwRefIdeal.τ).loc Cert.AdamwRefIdeal.main_v10) = v2 c
          ∧ r.2.mem ((c.tc : Thread Cert.AdamwRefIdeal.nD Cert.AdamwRefIdeal.τ).loc Cert.AdamwRefIdeal.main_arg0) = m' ((c.tc : Thread Cert.AdamwRefIdeal.nD Cert.AdamwRefIdeal.τ).loc Cert.AdamwRefIdeal.main_arg0)
          ∧ r.2.mem ((c.tc : Thread Cert.AdamwRefIdeal.nD Cert.AdamwRefIdeal.τ).loc Cert.AdamwRefIdeal.main_arg1) = m' ((c.tc : Thread Cert.AdamwRefIdeal.nD Cert.AdamwRefIdeal.τ).loc Cert.AdamwRefIdeal.main_arg1)
          ∧ r.2.mem ((c.tc : Thread Cert.AdamwRefIdeal.nD Cert.AdamwRefIdeal.τ).loc Cert.AdamwRefIdeal.main_arg2) = m' ((c.tc : Thread Cert.AdamwRefIdeal.nD Cert.AdamwRefIdeal.τ).loc Cert.AdamwRefIdeal.main_arg2)
          ∧ r.2.mem ((c.tc : Thread Cert.AdamwRefIdeal.nD Cert.AdamwRefIdeal.τ).loc Cert.AdamwRefIdeal.main_arg3) = m' ((c.tc : Thread Cert.AdamwRefIdeal.nD Cert.AdamwRefIdeal.τ).loc Cert.AdamwRefIdeal.main_arg3))

def Claim : Prop :=
  ∃ (hKernel : Cert.Kernel.Facts) (hKernelIdeal : Cert.KernelIdeal.Facts) (hReferenceIdeal : Cert.ReferenceIdeal.Facts) (hDwo : Cert.Dwo.Facts) (hDwoIdeal : Cert.DwoIdeal.Facts) (hDwoRefIdeal : Cert.DwoRefIdeal.Facts) (hDwi : Cert.Dwi.Facts) (hDwiIdeal : Cert.DwiIdeal.Facts) (hDwiRefIdeal : Cert.DwiRefIdeal.Facts) (hAct : Cert.Act.Facts) (hActIdeal : Cert.ActIdeal.Facts) (hActRefIdeal : Cert.ActRefIdeal.Facts) (hDact0 : Cert.Dact0.Facts) (hDact0Ideal : Cert.Dact0Ideal.Facts) (hDact0RefIdeal : Cert.Dact0RefIdeal.Facts) (hDh0 : Cert.Dh0.Facts) (hDh0Ideal : Cert.Dh0Ideal.Facts) (hDh0RefIdeal : Cert.Dh0RefIdeal.Facts) (hIn0 : Cert.In0.Facts) (hIn0Ideal : Cert.In0Ideal.Facts) (hIn0RefIdeal : Cert.In0RefIdeal.Facts) (hOut0 : Cert.Out0.Facts) (hOut0Ideal : Cert.Out0Ideal.Facts) (hOut0RefIdeal : Cert.Out0RefIdeal.Facts) (hDact1 : Cert.Dact1.Facts) (hDact1Ideal : Cert.Dact1Ideal.Facts) (hDact1RefIdeal : Cert.Dact1RefIdeal.Facts) (hDh1 : Cert.Dh1.Facts) (hDh1Ideal : Cert.Dh1Ideal.Facts) (hDh1RefIdeal : Cert.Dh1RefIdeal.Facts) (hIn1 : Cert.In1.Facts) (hIn1Ideal : Cert.In1Ideal.Facts) (hIn1RefIdeal : Cert.In1RefIdeal.Facts) (hOut1 : Cert.Out1.Facts) (hOut1Ideal : Cert.Out1Ideal.Facts) (hOut1RefIdeal : Cert.Out1RefIdeal.Facts) (hDact2 : Cert.Dact2.Facts) (hDact2Ideal : Cert.Dact2Ideal.Facts) (hDact2RefIdeal : Cert.Dact2RefIdeal.Facts) (hDh2 : Cert.Dh2.Facts) (hDh2Ideal : Cert.Dh2Ideal.Facts) (hDh2RefIdeal : Cert.Dh2RefIdeal.Facts) (hIn2 : Cert.In2.Facts) (hIn2Ideal : Cert.In2Ideal.Facts) (hIn2RefIdeal : Cert.In2RefIdeal.Facts) (hOut2 : Cert.Out2.Facts) (hOut2Ideal : Cert.Out2Ideal.Facts) (hOut2RefIdeal : Cert.Out2RefIdeal.Facts) (hDact3 : Cert.Dact3.Facts) (hDact3Ideal : Cert.Dact3Ideal.Facts) (hDact3RefIdeal : Cert.Dact3RefIdeal.Facts) (hDh3 : Cert.Dh3.Facts) (hDh3Ideal : Cert.Dh3Ideal.Facts) (hDh3RefIdeal : Cert.Dh3RefIdeal.Facts) (hIn3 : Cert.In3.Facts) (hIn3Ideal : Cert.In3Ideal.Facts) (hIn3RefIdeal : Cert.In3RefIdeal.Facts) (hOut3 : Cert.Out3.Facts) (hOut3Ideal : Cert.Out3Ideal.Facts) (hOut3RefIdeal : Cert.Out3RefIdeal.Facts) (hMixDw : Cert.MixDw.Facts) (hMixDwIdeal : Cert.MixDwIdeal.Facts) (hMixDwRefIdeal : Cert.MixDwRefIdeal.Facts) (hEvDw : Cert.EvDw.Facts) (hEvDwIdeal : Cert.EvDwIdeal.Facts) (hEvDwRefIdeal : Cert.EvDwRefIdeal.Facts) (hOdDw : Cert.OdDw.Facts) (hOdDwIdeal : Cert.OdDwIdeal.Facts) (hOdDwRefIdeal : Cert.OdDwRefIdeal.Facts) (hGluDw : Cert.GluDw.Facts) (hGluDwIdeal : Cert.GluDwIdeal.Facts) (hGluDwRefIdeal : Cert.GluDwRefIdeal.Facts) (hMixD0 : Cert.MixD0.Facts) (hMixD0Ideal : Cert.MixD0Ideal.Facts) (hMixD0RefIdeal : Cert.MixD0RefIdeal.Facts) (hEvDh0 : Cert.EvDh0.Facts) (hEvDh0Ideal : Cert.EvDh0Ideal.Facts) (hEvDh0RefIdeal : Cert.EvDh0RefIdeal.Facts) (hOdDh0 : Cert.OdDh0.Facts) (hOdDh0Ideal : Cert.OdDh0Ideal.Facts) (hOdDh0RefIdeal : Cert.OdDh0RefIdeal.Facts) (hGluDz0 : Cert.GluDz0.Facts) (hGluDz0Ideal : Cert.GluDz0Ideal.Facts) (hGluDz0RefIdeal : Cert.GluDz0RefIdeal.Facts) (hEvIn0 : Cert.EvIn0.Facts) (hEvIn0Ideal : Cert.EvIn0Ideal.Facts) (hEvIn0RefIdeal : Cert.EvIn0RefIdeal.Facts) (hOdIn0 : Cert.OdIn0.Facts) (hOdIn0Ideal : Cert.OdIn0Ideal.Facts) (hOdIn0RefIdeal : Cert.OdIn0RefIdeal.Facts) (hGluMm0 : Cert.GluMm0.Facts) (hGluMm0Ideal : Cert.GluMm0Ideal.Facts) (hGluMm0RefIdeal : Cert.GluMm0RefIdeal.Facts) (hMixOut0 : Cert.MixOut0.Facts) (hMixOut0Ideal : Cert.MixOut0Ideal.Facts) (hMixOut0RefIdeal : Cert.MixOut0RefIdeal.Facts) (hMixD1 : Cert.MixD1.Facts) (hMixD1Ideal : Cert.MixD1Ideal.Facts) (hMixD1RefIdeal : Cert.MixD1RefIdeal.Facts) (hEvDh1 : Cert.EvDh1.Facts) (hEvDh1Ideal : Cert.EvDh1Ideal.Facts) (hEvDh1RefIdeal : Cert.EvDh1RefIdeal.Facts) (hOdDh1 : Cert.OdDh1.Facts) (hOdDh1Ideal : Cert.OdDh1Ideal.Facts) (hOdDh1RefIdeal : Cert.OdDh1RefIdeal.Facts) (hGluDz1 : Cert.GluDz1.Facts) (hGluDz1Ideal : Cert.GluDz1Ideal.Facts) (hGluDz1RefIdeal : Cert.GluDz1RefIdeal.Facts) (hEvIn1 : Cert.EvIn1.Facts) (hEvIn1Ideal : Cert.EvIn1Ideal.Facts) (hEvIn1RefIdeal : Cert.EvIn1RefIdeal.Facts) (hOdIn1 : Cert.OdIn1.Facts) (hOdIn1Ideal : Cert.OdIn1Ideal.Facts) (hOdIn1RefIdeal : Cert.OdIn1RefIdeal.Facts) (hGluMm1 : Cert.GluMm1.Facts) (hGluMm1Ideal : Cert.GluMm1Ideal.Facts) (hGluMm1RefIdeal : Cert.GluMm1RefIdeal.Facts) (hMixOut1 : Cert.MixOut1.Facts) (hMixOut1Ideal : Cert.MixOut1Ideal.Facts) (hMixOut1RefIdeal : Cert.MixOut1RefIdeal.Facts) (hAttn : Cert.Attn.Facts) (hAttnIdeal : Cert.AttnIdeal.Facts) (hAttnRefIdeal : Cert.AttnRefIdeal.Facts) (hAdaDw : Cert.AdaDw.Facts) (hAdaDwIdeal : Cert.AdaDwIdeal.Facts) (hAdaDwRefIdeal : Cert.AdaDwRefIdeal.Facts) (hMod0 : Cert.Mod0.Facts) (hMod0Ideal : Cert.Mod0Ideal.Facts) (hMod0RefIdeal : Cert.Mod0RefIdeal.Facts) (hMod1 : Cert.Mod1.Facts) (hMod1Ideal : Cert.Mod1Ideal.Facts) (hMod1RefIdeal : Cert.Mod1RefIdeal.Facts) (hMod2 : Cert.Mod2.Facts) (hMod2Ideal : Cert.Mod2Ideal.Facts) (hMod2RefIdeal : Cert.Mod2RefIdeal.Facts) (hMod3 : Cert.Mod3.Facts) (hMod3Ideal : Cert.Mod3Ideal.Facts) (hMod3RefIdeal : Cert.Mod3RefIdeal.Facts) (hSilu : Cert.Silu.Facts) (hSiluIdeal : Cert.SiluIdeal.Facts) (hSiluRefIdeal : Cert.SiluRefIdeal.Facts) (hResid : Cert.Resid.Facts) (hResidIdeal : Cert.ResidIdeal.Facts) (hResidRefIdeal : Cert.ResidRefIdeal.Facts) (hResidB : Cert.ResidB.Facts) (hResidBIdeal : Cert.ResidBIdeal.Facts) (hResidBRefIdeal : Cert.ResidBRefIdeal.Facts) (hGluZ : Cert.GluZ.Facts) (hGluZIdeal : Cert.GluZIdeal.Facts) (hGluZRefIdeal : Cert.GluZRefIdeal.Facts) (hGluOut : Cert.GluOut.Facts) (hGluOutIdeal : Cert.GluOutIdeal.Facts) (hGluOutRefIdeal : Cert.GluOutRefIdeal.Facts) (hGluGate : Cert.GluGate.Facts) (hGluGateIdeal : Cert.GluGateIdeal.Facts) (hGluGateRefIdeal : Cert.GluGateRefIdeal.Facts) (hGluY : Cert.GluY.Facts) (hGluYIdeal : Cert.GluYIdeal.Facts) (hGluYRefIdeal : Cert.GluYRefIdeal.Facts) (hSink : Cert.Sink.Facts) (hSinkIdeal : Cert.SinkIdeal.Facts) (hSinkRefIdeal : Cert.SinkRefIdeal.Facts) (hAdamw : Cert.Adamw.Facts) (hAdamwIdeal : Cert.AdamwIdeal.Facts) (hAdamwRefIdeal : Cert.AdamwRefIdeal.Facts) (hPre_finite : Cert.Pre_finite.Facts) (hPre_finite_attn : Cert.Pre_finite_attn.Facts) (hPre_finite_glu : Cert.Pre_finite_glu.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Dwo (hDwo := hDwo)
    ∧ quiescent_DwoIdeal (hDwoIdeal := hDwoIdeal)
    ∧ quiescent_DwoRefIdeal (hDwoRefIdeal := hDwoRefIdeal)
    ∧ quiescent_Dwi (hDwi := hDwi)
    ∧ quiescent_DwiIdeal (hDwiIdeal := hDwiIdeal)
    ∧ quiescent_DwiRefIdeal (hDwiRefIdeal := hDwiRefIdeal)
    ∧ quiescent_Act (hAct := hAct)
    ∧ quiescent_ActIdeal (hActIdeal := hActIdeal)
    ∧ quiescent_ActRefIdeal (hActRefIdeal := hActRefIdeal)
    ∧ quiescent_Dact0 (hDact0 := hDact0)
    ∧ quiescent_Dact0Ideal (hDact0Ideal := hDact0Ideal)
    ∧ quiescent_Dact0RefIdeal (hDact0RefIdeal := hDact0RefIdeal)
    ∧ quiescent_Dh0 (hDh0 := hDh0)
    ∧ quiescent_Dh0Ideal (hDh0Ideal := hDh0Ideal)
    ∧ quiescent_Dh0RefIdeal (hDh0RefIdeal := hDh0RefIdeal)
    ∧ quiescent_In0 (hIn0 := hIn0)
    ∧ quiescent_In0Ideal (hIn0Ideal := hIn0Ideal)
    ∧ quiescent_In0RefIdeal (hIn0RefIdeal := hIn0RefIdeal)
    ∧ quiescent_Out0 (hOut0 := hOut0)
    ∧ quiescent_Out0Ideal (hOut0Ideal := hOut0Ideal)
    ∧ quiescent_Out0RefIdeal (hOut0RefIdeal := hOut0RefIdeal)
    ∧ quiescent_Dact1 (hDact1 := hDact1)
    ∧ quiescent_Dact1Ideal (hDact1Ideal := hDact1Ideal)
    ∧ quiescent_Dact1RefIdeal (hDact1RefIdeal := hDact1RefIdeal)
    ∧ quiescent_Dh1 (hDh1 := hDh1)
    ∧ quiescent_Dh1Ideal (hDh1Ideal := hDh1Ideal)
    ∧ quiescent_Dh1RefIdeal (hDh1RefIdeal := hDh1RefIdeal)
    ∧ quiescent_In1 (hIn1 := hIn1)
    ∧ quiescent_In1Ideal (hIn1Ideal := hIn1Ideal)
    ∧ quiescent_In1RefIdeal (hIn1RefIdeal := hIn1RefIdeal)
    ∧ quiescent_Out1 (hOut1 := hOut1)
    ∧ quiescent_Out1Ideal (hOut1Ideal := hOut1Ideal)
    ∧ quiescent_Out1RefIdeal (hOut1RefIdeal := hOut1RefIdeal)
    ∧ quiescent_Dact2 (hDact2 := hDact2)
    ∧ quiescent_Dact2Ideal (hDact2Ideal := hDact2Ideal)
    ∧ quiescent_Dact2RefIdeal (hDact2RefIdeal := hDact2RefIdeal)
    ∧ quiescent_Dh2 (hDh2 := hDh2)
    ∧ quiescent_Dh2Ideal (hDh2Ideal := hDh2Ideal)
    ∧ quiescent_Dh2RefIdeal (hDh2RefIdeal := hDh2RefIdeal)
    ∧ quiescent_In2 (hIn2 := hIn2)
    ∧ quiescent_In2Ideal (hIn2Ideal := hIn2Ideal)
    ∧ quiescent_In2RefIdeal (hIn2RefIdeal := hIn2RefIdeal)
    ∧ quiescent_Out2 (hOut2 := hOut2)
    ∧ quiescent_Out2Ideal (hOut2Ideal := hOut2Ideal)
    ∧ quiescent_Out2RefIdeal (hOut2RefIdeal := hOut2RefIdeal)
    ∧ quiescent_Dact3 (hDact3 := hDact3)
    ∧ quiescent_Dact3Ideal (hDact3Ideal := hDact3Ideal)
    ∧ quiescent_Dact3RefIdeal (hDact3RefIdeal := hDact3RefIdeal)
    ∧ quiescent_Dh3 (hDh3 := hDh3)
    ∧ quiescent_Dh3Ideal (hDh3Ideal := hDh3Ideal)
    ∧ quiescent_Dh3RefIdeal (hDh3RefIdeal := hDh3RefIdeal)
    ∧ quiescent_In3 (hIn3 := hIn3)
    ∧ quiescent_In3Ideal (hIn3Ideal := hIn3Ideal)
    ∧ quiescent_In3RefIdeal (hIn3RefIdeal := hIn3RefIdeal)
    ∧ quiescent_Out3 (hOut3 := hOut3)
    ∧ quiescent_Out3Ideal (hOut3Ideal := hOut3Ideal)
    ∧ quiescent_Out3RefIdeal (hOut3RefIdeal := hOut3RefIdeal)
    ∧ quiescent_MixDw (hMixDw := hMixDw)
    ∧ quiescent_MixDwIdeal (hMixDwIdeal := hMixDwIdeal)
    ∧ quiescent_MixDwRefIdeal (hMixDwRefIdeal := hMixDwRefIdeal)
    ∧ quiescent_EvDw (hEvDw := hEvDw)
    ∧ quiescent_EvDwIdeal (hEvDwIdeal := hEvDwIdeal)
    ∧ quiescent_EvDwRefIdeal (hEvDwRefIdeal := hEvDwRefIdeal)
    ∧ quiescent_OdDw (hOdDw := hOdDw)
    ∧ quiescent_OdDwIdeal (hOdDwIdeal := hOdDwIdeal)
    ∧ quiescent_OdDwRefIdeal (hOdDwRefIdeal := hOdDwRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_MixD0 (hMixD0 := hMixD0)
    ∧ quiescent_MixD0Ideal (hMixD0Ideal := hMixD0Ideal)
    ∧ quiescent_MixD0RefIdeal (hMixD0RefIdeal := hMixD0RefIdeal)
    ∧ quiescent_EvDh0 (hEvDh0 := hEvDh0)
    ∧ quiescent_EvDh0Ideal (hEvDh0Ideal := hEvDh0Ideal)
    ∧ quiescent_EvDh0RefIdeal (hEvDh0RefIdeal := hEvDh0RefIdeal)
    ∧ quiescent_OdDh0 (hOdDh0 := hOdDh0)
    ∧ quiescent_OdDh0Ideal (hOdDh0Ideal := hOdDh0Ideal)
    ∧ quiescent_OdDh0RefIdeal (hOdDh0RefIdeal := hOdDh0RefIdeal)
    ∧ quiescent_GluDz0 (hGluDz0 := hGluDz0)
    ∧ quiescent_GluDz0Ideal (hGluDz0Ideal := hGluDz0Ideal)
    ∧ quiescent_GluDz0RefIdeal (hGluDz0RefIdeal := hGluDz0RefIdeal)
    ∧ quiescent_EvIn0 (hEvIn0 := hEvIn0)
    ∧ quiescent_EvIn0Ideal (hEvIn0Ideal := hEvIn0Ideal)
    ∧ quiescent_EvIn0RefIdeal (hEvIn0RefIdeal := hEvIn0RefIdeal)
    ∧ quiescent_OdIn0 (hOdIn0 := hOdIn0)
    ∧ quiescent_OdIn0Ideal (hOdIn0Ideal := hOdIn0Ideal)
    ∧ quiescent_OdIn0RefIdeal (hOdIn0RefIdeal := hOdIn0RefIdeal)
    ∧ quiescent_GluMm0 (hGluMm0 := hGluMm0)
    ∧ quiescent_GluMm0Ideal (hGluMm0Ideal := hGluMm0Ideal)
    ∧ quiescent_GluMm0RefIdeal (hGluMm0RefIdeal := hGluMm0RefIdeal)
    ∧ quiescent_MixOut0 (hMixOut0 := hMixOut0)
    ∧ quiescent_MixOut0Ideal (hMixOut0Ideal := hMixOut0Ideal)
    ∧ quiescent_MixOut0RefIdeal (hMixOut0RefIdeal := hMixOut0RefIdeal)
    ∧ quiescent_MixD1 (hMixD1 := hMixD1)
    ∧ quiescent_MixD1Ideal (hMixD1Ideal := hMixD1Ideal)
    ∧ quiescent_MixD1RefIdeal (hMixD1RefIdeal := hMixD1RefIdeal)
    ∧ quiescent_EvDh1 (hEvDh1 := hEvDh1)
    ∧ quiescent_EvDh1Ideal (hEvDh1Ideal := hEvDh1Ideal)
    ∧ quiescent_EvDh1RefIdeal (hEvDh1RefIdeal := hEvDh1RefIdeal)
    ∧ quiescent_OdDh1 (hOdDh1 := hOdDh1)
    ∧ quiescent_OdDh1Ideal (hOdDh1Ideal := hOdDh1Ideal)
    ∧ quiescent_OdDh1RefIdeal (hOdDh1RefIdeal := hOdDh1RefIdeal)
    ∧ quiescent_GluDz1 (hGluDz1 := hGluDz1)
    ∧ quiescent_GluDz1Ideal (hGluDz1Ideal := hGluDz1Ideal)
    ∧ quiescent_GluDz1RefIdeal (hGluDz1RefIdeal := hGluDz1RefIdeal)
    ∧ quiescent_EvIn1 (hEvIn1 := hEvIn1)
    ∧ quiescent_EvIn1Ideal (hEvIn1Ideal := hEvIn1Ideal)
    ∧ quiescent_EvIn1RefIdeal (hEvIn1RefIdeal := hEvIn1RefIdeal)
    ∧ quiescent_OdIn1 (hOdIn1 := hOdIn1)
    ∧ quiescent_OdIn1Ideal (hOdIn1Ideal := hOdIn1Ideal)
    ∧ quiescent_OdIn1RefIdeal (hOdIn1RefIdeal := hOdIn1RefIdeal)
    ∧ quiescent_GluMm1 (hGluMm1 := hGluMm1)
    ∧ quiescent_GluMm1Ideal (hGluMm1Ideal := hGluMm1Ideal)
    ∧ quiescent_GluMm1RefIdeal (hGluMm1RefIdeal := hGluMm1RefIdeal)
    ∧ quiescent_MixOut1 (hMixOut1 := hMixOut1)
    ∧ quiescent_MixOut1Ideal (hMixOut1Ideal := hMixOut1Ideal)
    ∧ quiescent_MixOut1RefIdeal (hMixOut1RefIdeal := hMixOut1RefIdeal)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnRefIdeal (hAttnRefIdeal := hAttnRefIdeal)
    ∧ quiescent_AttnRefIdeal_pre_finite_attn (hAttnRefIdeal := hAttnRefIdeal) (hPre_finite_attn := hPre_finite_attn)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_Mod0 (hMod0 := hMod0)
    ∧ quiescent_Mod0Ideal (hMod0Ideal := hMod0Ideal)
    ∧ quiescent_Mod0RefIdeal (hMod0RefIdeal := hMod0RefIdeal)
    ∧ quiescent_Mod1 (hMod1 := hMod1)
    ∧ quiescent_Mod1Ideal (hMod1Ideal := hMod1Ideal)
    ∧ quiescent_Mod1RefIdeal (hMod1RefIdeal := hMod1RefIdeal)
    ∧ quiescent_Mod2 (hMod2 := hMod2)
    ∧ quiescent_Mod2Ideal (hMod2Ideal := hMod2Ideal)
    ∧ quiescent_Mod2RefIdeal (hMod2RefIdeal := hMod2RefIdeal)
    ∧ quiescent_Mod3 (hMod3 := hMod3)
    ∧ quiescent_Mod3Ideal (hMod3Ideal := hMod3Ideal)
    ∧ quiescent_Mod3RefIdeal (hMod3RefIdeal := hMod3RefIdeal)
    ∧ quiescent_Silu (hSilu := hSilu)
    ∧ quiescent_SiluIdeal (hSiluIdeal := hSiluIdeal)
    ∧ quiescent_SiluRefIdeal (hSiluRefIdeal := hSiluRefIdeal)
    ∧ quiescent_Resid (hResid := hResid)
    ∧ quiescent_ResidIdeal (hResidIdeal := hResidIdeal)
    ∧ quiescent_ResidRefIdeal (hResidRefIdeal := hResidRefIdeal)
    ∧ quiescent_ResidB (hResidB := hResidB)
    ∧ quiescent_ResidBIdeal (hResidBIdeal := hResidBIdeal)
    ∧ quiescent_ResidBRefIdeal (hResidBRefIdeal := hResidBRefIdeal)
    ∧ quiescent_GluZ (hGluZ := hGluZ)
    ∧ quiescent_GluZIdeal (hGluZIdeal := hGluZIdeal)
    ∧ quiescent_GluZRefIdeal (hGluZRefIdeal := hGluZRefIdeal)
    ∧ quiescent_GluOut (hGluOut := hGluOut)
    ∧ quiescent_GluOutIdeal (hGluOutIdeal := hGluOutIdeal)
    ∧ quiescent_GluOutRefIdeal (hGluOutRefIdeal := hGluOutRefIdeal)
    ∧ quiescent_GluGate (hGluGate := hGluGate)
    ∧ quiescent_GluGateIdeal (hGluGateIdeal := hGluGateIdeal)
    ∧ quiescent_GluGateRefIdeal (hGluGateRefIdeal := hGluGateRefIdeal)
    ∧ quiescent_GluY (hGluY := hGluY)
    ∧ quiescent_GluYIdeal (hGluYIdeal := hGluYIdeal)
    ∧ quiescent_GluYIdeal_pre_finite_glu (hGluYIdeal := hGluYIdeal) (hPre_finite_glu := hPre_finite_glu)
    ∧ quiescent_GluYRefIdeal (hGluYRefIdeal := hGluYRefIdeal)
    ∧ quiescent_GluYRefIdeal_pre_finite_glu (hGluYRefIdeal := hGluYRefIdeal) (hPre_finite_glu := hPre_finite_glu)
    ∧ quiescent_Sink (hSink := hSink)
    ∧ quiescent_SinkIdeal (hSinkIdeal := hSinkIdeal)
    ∧ quiescent_SinkRefIdeal (hSinkRefIdeal := hSinkRefIdeal)
    ∧ quiescent_Adamw (hAdamw := hAdamw)
    ∧ quiescent_AdamwIdeal (hAdamwIdeal := hAdamwIdeal)
    ∧ quiescent_AdamwRefIdeal (hAdamwRefIdeal := hAdamwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Dwo_DwoIdeal
    ∧ algebraic_DwoIdeal_DwoRefIdeal (hDwoIdeal := hDwoIdeal) (hDwoRefIdeal := hDwoRefIdeal)
    ∧ preserves_Dwi_DwiIdeal
    ∧ algebraic_DwiIdeal_DwiRefIdeal (hDwiIdeal := hDwiIdeal) (hDwiRefIdeal := hDwiRefIdeal)
    ∧ preserves_Act_ActIdeal
    ∧ algebraic_ActIdeal_ActRefIdeal (hActIdeal := hActIdeal) (hActRefIdeal := hActRefIdeal)
    ∧ preserves_Dact0_Dact0Ideal
    ∧ algebraic_Dact0Ideal_Dact0RefIdeal (hDact0Ideal := hDact0Ideal) (hDact0RefIdeal := hDact0RefIdeal)
    ∧ preserves_Dh0_Dh0Ideal
    ∧ algebraic_Dh0Ideal_Dh0RefIdeal (hDh0Ideal := hDh0Ideal) (hDh0RefIdeal := hDh0RefIdeal)
    ∧ preserves_In0_In0Ideal
    ∧ algebraic_In0Ideal_In0RefIdeal (hIn0Ideal := hIn0Ideal) (hIn0RefIdeal := hIn0RefIdeal)
    ∧ preserves_Out0_Out0Ideal
    ∧ algebraic_Out0Ideal_Out0RefIdeal (hOut0Ideal := hOut0Ideal) (hOut0RefIdeal := hOut0RefIdeal)
    ∧ preserves_Dact1_Dact1Ideal
    ∧ algebraic_Dact1Ideal_Dact1RefIdeal (hDact1Ideal := hDact1Ideal) (hDact1RefIdeal := hDact1RefIdeal)
    ∧ preserves_Dh1_Dh1Ideal
    ∧ algebraic_Dh1Ideal_Dh1RefIdeal (hDh1Ideal := hDh1Ideal) (hDh1RefIdeal := hDh1RefIdeal)
    ∧ preserves_In1_In1Ideal
    ∧ algebraic_In1Ideal_In1RefIdeal (hIn1Ideal := hIn1Ideal) (hIn1RefIdeal := hIn1RefIdeal)
    ∧ preserves_Out1_Out1Ideal
    ∧ algebraic_Out1Ideal_Out1RefIdeal (hOut1Ideal := hOut1Ideal) (hOut1RefIdeal := hOut1RefIdeal)
    ∧ preserves_Dact2_Dact2Ideal
    ∧ algebraic_Dact2Ideal_Dact2RefIdeal (hDact2Ideal := hDact2Ideal) (hDact2RefIdeal := hDact2RefIdeal)
    ∧ preserves_Dh2_Dh2Ideal
    ∧ algebraic_Dh2Ideal_Dh2RefIdeal (hDh2Ideal := hDh2Ideal) (hDh2RefIdeal := hDh2RefIdeal)
    ∧ preserves_In2_In2Ideal
    ∧ algebraic_In2Ideal_In2RefIdeal (hIn2Ideal := hIn2Ideal) (hIn2RefIdeal := hIn2RefIdeal)
    ∧ preserves_Out2_Out2Ideal
    ∧ algebraic_Out2Ideal_Out2RefIdeal (hOut2Ideal := hOut2Ideal) (hOut2RefIdeal := hOut2RefIdeal)
    ∧ preserves_Dact3_Dact3Ideal
    ∧ algebraic_Dact3Ideal_Dact3RefIdeal (hDact3Ideal := hDact3Ideal) (hDact3RefIdeal := hDact3RefIdeal)
    ∧ preserves_Dh3_Dh3Ideal
    ∧ algebraic_Dh3Ideal_Dh3RefIdeal (hDh3Ideal := hDh3Ideal) (hDh3RefIdeal := hDh3RefIdeal)
    ∧ preserves_In3_In3Ideal
    ∧ algebraic_In3Ideal_In3RefIdeal (hIn3Ideal := hIn3Ideal) (hIn3RefIdeal := hIn3RefIdeal)
    ∧ preserves_Out3_Out3Ideal
    ∧ algebraic_Out3Ideal_Out3RefIdeal (hOut3Ideal := hOut3Ideal) (hOut3RefIdeal := hOut3RefIdeal)
    ∧ preserves_MixDw_MixDwIdeal
    ∧ algebraic_MixDwIdeal_MixDwRefIdeal (hMixDwIdeal := hMixDwIdeal) (hMixDwRefIdeal := hMixDwRefIdeal)
    ∧ preserves_EvDw_EvDwIdeal
    ∧ algebraic_EvDwIdeal_EvDwRefIdeal (hEvDwIdeal := hEvDwIdeal) (hEvDwRefIdeal := hEvDwRefIdeal)
    ∧ preserves_OdDw_OdDwIdeal
    ∧ algebraic_OdDwIdeal_OdDwRefIdeal (hOdDwIdeal := hOdDwIdeal) (hOdDwRefIdeal := hOdDwRefIdeal)
    ∧ preserves_GluDw_GluDwIdeal
    ∧ algebraic_GluDwIdeal_GluDwRefIdeal (hGluDwIdeal := hGluDwIdeal) (hGluDwRefIdeal := hGluDwRefIdeal)
    ∧ preserves_MixD0_MixD0Ideal
    ∧ algebraic_MixD0Ideal_MixD0RefIdeal (hMixD0Ideal := hMixD0Ideal) (hMixD0RefIdeal := hMixD0RefIdeal)
    ∧ preserves_EvDh0_EvDh0Ideal
    ∧ algebraic_EvDh0Ideal_EvDh0RefIdeal (hEvDh0Ideal := hEvDh0Ideal) (hEvDh0RefIdeal := hEvDh0RefIdeal)
    ∧ preserves_OdDh0_OdDh0Ideal
    ∧ algebraic_OdDh0Ideal_OdDh0RefIdeal (hOdDh0Ideal := hOdDh0Ideal) (hOdDh0RefIdeal := hOdDh0RefIdeal)
    ∧ preserves_GluDz0_GluDz0Ideal
    ∧ algebraic_GluDz0Ideal_GluDz0RefIdeal (hGluDz0Ideal := hGluDz0Ideal) (hGluDz0RefIdeal := hGluDz0RefIdeal)
    ∧ preserves_EvIn0_EvIn0Ideal
    ∧ algebraic_EvIn0Ideal_EvIn0RefIdeal (hEvIn0Ideal := hEvIn0Ideal) (hEvIn0RefIdeal := hEvIn0RefIdeal)
    ∧ preserves_OdIn0_OdIn0Ideal
    ∧ algebraic_OdIn0Ideal_OdIn0RefIdeal (hOdIn0Ideal := hOdIn0Ideal) (hOdIn0RefIdeal := hOdIn0RefIdeal)
    ∧ preserves_GluMm0_GluMm0Ideal
    ∧ algebraic_GluMm0Ideal_GluMm0RefIdeal (hGluMm0Ideal := hGluMm0Ideal) (hGluMm0RefIdeal := hGluMm0RefIdeal)
    ∧ preserves_MixOut0_MixOut0Ideal
    ∧ algebraic_MixOut0Ideal_MixOut0RefIdeal (hMixOut0Ideal := hMixOut0Ideal) (hMixOut0RefIdeal := hMixOut0RefIdeal)
    ∧ preserves_MixD1_MixD1Ideal
    ∧ algebraic_MixD1Ideal_MixD1RefIdeal (hMixD1Ideal := hMixD1Ideal) (hMixD1RefIdeal := hMixD1RefIdeal)
    ∧ preserves_EvDh1_EvDh1Ideal
    ∧ algebraic_EvDh1Ideal_EvDh1RefIdeal (hEvDh1Ideal := hEvDh1Ideal) (hEvDh1RefIdeal := hEvDh1RefIdeal)
    ∧ preserves_OdDh1_OdDh1Ideal
    ∧ algebraic_OdDh1Ideal_OdDh1RefIdeal (hOdDh1Ideal := hOdDh1Ideal) (hOdDh1RefIdeal := hOdDh1RefIdeal)
    ∧ preserves_GluDz1_GluDz1Ideal
    ∧ algebraic_GluDz1Ideal_GluDz1RefIdeal (hGluDz1Ideal := hGluDz1Ideal) (hGluDz1RefIdeal := hGluDz1RefIdeal)
    ∧ preserves_EvIn1_EvIn1Ideal
    ∧ algebraic_EvIn1Ideal_EvIn1RefIdeal (hEvIn1Ideal := hEvIn1Ideal) (hEvIn1RefIdeal := hEvIn1RefIdeal)
    ∧ preserves_OdIn1_OdIn1Ideal
    ∧ algebraic_OdIn1Ideal_OdIn1RefIdeal (hOdIn1Ideal := hOdIn1Ideal) (hOdIn1RefIdeal := hOdIn1RefIdeal)
    ∧ preserves_GluMm1_GluMm1Ideal
    ∧ algebraic_GluMm1Ideal_GluMm1RefIdeal (hGluMm1Ideal := hGluMm1Ideal) (hGluMm1RefIdeal := hGluMm1RefIdeal)
    ∧ preserves_MixOut1_MixOut1Ideal
    ∧ algebraic_MixOut1Ideal_MixOut1RefIdeal (hMixOut1Ideal := hMixOut1Ideal) (hMixOut1RefIdeal := hMixOut1RefIdeal)
    ∧ preserves_Attn_AttnIdeal
    ∧ algebraic_AttnIdeal_AttnRefIdeal_pre_finite_attn (hAttnIdeal := hAttnIdeal) (hAttnRefIdeal := hAttnRefIdeal) (hPre_finite_attn := hPre_finite_attn)
    ∧ preserves_AdaDw_AdaDwIdeal
    ∧ algebraic_AdaDwIdeal_AdaDwRefIdeal (hAdaDwIdeal := hAdaDwIdeal) (hAdaDwRefIdeal := hAdaDwRefIdeal)
    ∧ preserves_Mod0_Mod0Ideal
    ∧ algebraic_Mod0Ideal_Mod0RefIdeal (hMod0Ideal := hMod0Ideal) (hMod0RefIdeal := hMod0RefIdeal)
    ∧ preserves_Mod1_Mod1Ideal
    ∧ algebraic_Mod1Ideal_Mod1RefIdeal (hMod1Ideal := hMod1Ideal) (hMod1RefIdeal := hMod1RefIdeal)
    ∧ preserves_Mod2_Mod2Ideal
    ∧ algebraic_Mod2Ideal_Mod2RefIdeal (hMod2Ideal := hMod2Ideal) (hMod2RefIdeal := hMod2RefIdeal)
    ∧ preserves_Mod3_Mod3Ideal
    ∧ algebraic_Mod3Ideal_Mod3RefIdeal (hMod3Ideal := hMod3Ideal) (hMod3RefIdeal := hMod3RefIdeal)
    ∧ preserves_Silu_SiluIdeal
    ∧ algebraic_SiluIdeal_SiluRefIdeal (hSiluIdeal := hSiluIdeal) (hSiluRefIdeal := hSiluRefIdeal)
    ∧ preserves_Resid_ResidIdeal
    ∧ algebraic_ResidIdeal_ResidRefIdeal (hResidIdeal := hResidIdeal) (hResidRefIdeal := hResidRefIdeal)
    ∧ preserves_ResidB_ResidBIdeal
    ∧ algebraic_ResidBIdeal_ResidBRefIdeal (hResidBIdeal := hResidBIdeal) (hResidBRefIdeal := hResidBRefIdeal)
    ∧ preserves_GluZ_GluZIdeal
    ∧ algebraic_GluZIdeal_GluZRefIdeal (hGluZIdeal := hGluZIdeal) (hGluZRefIdeal := hGluZRefIdeal)
    ∧ preserves_GluOut_GluOutIdeal
    ∧ algebraic_GluOutIdeal_GluOutRefIdeal (hGluOutIdeal := hGluOutIdeal) (hGluOutRefIdeal := hGluOutRefIdeal)
    ∧ preserves_GluGate_GluGateIdeal
    ∧ algebraic_GluGateIdeal_GluGateRefIdeal (hGluGateIdeal := hGluGateIdeal) (hGluGateRefIdeal := hGluGateRefIdeal)
    ∧ preserves_GluY_GluYIdeal
    ∧ algebraic_GluYIdeal_GluYRefIdeal_pre_finite_glu (hGluYIdeal := hGluYIdeal) (hGluYRefIdeal := hGluYRefIdeal) (hPre_finite_glu := hPre_finite_glu)
    ∧ preserves_Sink_SinkIdeal
    ∧ algebraic_SinkIdeal_SinkRefIdeal (hSinkIdeal := hSinkIdeal) (hSinkRefIdeal := hSinkRefIdeal)
    ∧ preserves_Adamw_AdamwIdeal
    ∧ algebraic_AdamwIdeal_AdamwRefIdeal (hAdamwIdeal := hAdamwIdeal) (hAdamwRefIdeal := hAdamwRefIdeal)
-- ==== Pre_finite.lean ====
abbrev S2048x11008 : Shape := ⟨2, ![2048, 11008]⟩
abbrev S2048x5504 : Shape := ⟨2, ![2048, 5504]⟩
abbrev S3x11008 : Shape := ⟨2, ![3, 11008]⟩
abbrev S1x11008 : Shape := ⟨2, ![1, 11008]⟩
abbrev S_ : Shape := ⟨0, ![]⟩

class Facts : Prop where
  bcast_S_S2048x11008 : S_.BroadcastsInDim S2048x11008 (![] : Fin 0 → Fin S2048x11008.rank)
  reducesTo_S2048x11008_S_d0_1 : S2048x11008.ReducesTo [0, 1] S_
  h_S_ : 0 < S_.numel
  bcast_S_S2048x5504 : S_.BroadcastsInDim S2048x5504 (![] : Fin 0 → Fin S2048x5504.rank)
  reducesTo_S2048x5504_S_d0_1 : S2048x5504.ReducesTo [0, 1] S_
  bcast_S_S3x11008 : S_.BroadcastsInDim S3x11008 (![] : Fin 0 → Fin S3x11008.rank)
  reducesTo_S3x11008_S_d0_1 : S3x11008.ReducesTo [0, 1] S_
  bcast_S_S1x11008 : S_.BroadcastsInDim S1x11008 (![] : Fin 0 → Fin S1x11008.rank)
  reducesTo_S1x11008_S_d0_1 : S1x11008.ReducesTo [0, 1] S_

variable [Facts]

def fn_part1 {F : FTy → Type} [FloatOps F] (main_v13 : IVec S_ 1) (main_v16 : IVec S1x11008 1) : IVec S_ 1 :=
  let main_c_5 : IVec S_ 1 := constantI S_ 1 1#1
  let main_v17 : IVec S_ 1 := (fun x v => Host.reduce IntOp.andi x v reducesTo_S1x11008_S_d0_1 h_S_) main_v16 main_c_5
  let main_v18 : IVec S_ 1 := andi main_v13 main_v17
  main_v18

def fn {F : FTy → Type} [FloatOps F] (main_arg0 : FVec F S2048x11008 .f32) (main_arg1 : FVec F S2048x5504 .f32) (main_arg2 : FVec F S3x11008 .f32) (main_arg3 : FVec F S1x11008 .f32) : IVec S_ 1 :=
  let main_v0 : FVec F S2048x11008 .f32 := Host.absf main_arg0
  let main_cst : FVec F S_ .f32 := constant S_ .f32 0x7F800000#32
  let main_v1 : FVec F S2048x11008 .f32 := broadcastInDim S2048x11008 ![] bcast_S_S2048x11008 main_cst
  let main_v2 : IVec S2048x11008 1 := cmpf .olt main_v0 main_v1
  let main_c : IVec S_ 1 := constantI S_ 1 1#1
  let main_v3 : IVec S_ 1 := (fun x v => Host.reduce IntOp.andi x v reducesTo_S2048x11008_S_d0_1 h_S_) main_v2 main_c
  let main_v4 : FVec F S2048x5504 .f32 := Host.absf main_arg1
  let main_cst_0 : FVec F S_ .f32 := constant S_ .f32 0x7F800000#32
  let main_v5 : FVec F S2048x5504 .f32 := broadcastInDim S2048x5504 ![] bcast_S_S2048x5504 main_cst_0
  let main_v6 : IVec S2048x5504 1 := cmpf .olt main_v4 main_v5
  let main_c_1 : IVec S_ 1 := constantI S_ 1 1#1
  let main_v7 : IVec S_ 1 := (fun x v => Host.reduce IntOp.andi x v reducesTo_S2048x5504_S_d0_1 h_S_) main_v6 main_c_1
  let main_v8 : IVec S_ 1 := andi main_v3 main_v7
  let main_v9 : FVec F S3x11008 .f32 := Host.absf main_arg2
  let main_cst_2 : FVec F S_ .f32 := constant S_ .f32 0x7F800000#32
  let main_v10 : FVec F S3x11008 .f32 := broadcastInDim S3x11008 ![] bcast_S_S3x11008 main_cst_2
  let main_v11 : IVec S3x11008 1 := cmpf .olt main_v9 main_v10
  let main_c_3 : IVec S_ 1 := constantI S_ 1 1#1
  let main_v12 : IVec S_ 1 := (fun x v => Host.reduce IntOp.andi x v reducesTo_S3x11008_S_d0_1 h_S_) main_v11 main_c_3
  let main_v13 : IVec S_ 1 := andi main_v8 main_v12
  let main_v14 : FVec F S1x11008 .f32 := Host.absf main_arg3
  let main_cst_4 : FVec F S_ .f32 := constant S_ .f32 0x7F800000#32
  let main_v15 : FVec F S1x11008 .f32 := broadcastInDim S1x11008 ![] bcast_S_S1x11008 main_cst_4
  let main_v16 : IVec S1x11008 1 := cmpf .olt main_v14 main_v15
  fn_part1 (F := F) main_v13 main_v16
-- ==== Pre_finite_attn.lean ====
abbrev S2x8x2048x64 : Shape := ⟨4, ![2, 8, 2048, 64]⟩
abbrev S2x2048x64 : Shape := ⟨3, ![2, 2048, 64]⟩
abbrev S_ : Shape := ⟨0, ![]⟩

class Facts : Prop where
  bitsLt_bf16_f32 : FTy.bits .bf16 < FTy.bits .f32
  bcast_S_S2x8x2048x64 : S_.BroadcastsInDim S2x8x2048x64 (![] : Fin 0 → Fin S2x8x2048x64.rank)
  reducesTo_S2x8x2048x64_S_d0_1_2_3 : S2x8x2048x64.ReducesTo [0, 1, 2, 3] S_
  h_S_ : 0 < S_.numel
  bcast_S_S2x2048x64 : S_.BroadcastsInDim S2x2048x64 (![] : Fin 0 → Fin S2x2048x64.rank)
  reducesTo_S2x2048x64_S_d0_1_2 : S2x2048x64.ReducesTo [0, 1, 2] S_

variable [Facts]

def fn_part1 {F : FTy → Type} [FloatOps F] (main_arg4 : FVec F S2x8x2048x64 .f32) (main_v16 : IVec S_ 1) (main_v17 : FVec F S2x8x2048x64 .f32) : IVec S_ 1 :=
  let main_v18 : FVec F S2x8x2048x64 .f32 := Host.absf main_v17
  let main_cst_4 : FVec F S_ .f32 := constant S_ .f32 0x7F800000#32
  let main_v19 : FVec F S2x8x2048x64 .f32 := broadcastInDim S2x8x2048x64 ![] bcast_S_S2x8x2048x64 main_cst_4
  let main_v20 : IVec S2x8x2048x64 1 := cmpf .olt main_v18 main_v19
  let main_c_5 : IVec S_ 1 := constantI S_ 1 1#1
  let main_v21 : IVec S_ 1 := (fun x v => Host.reduce IntOp.andi x v reducesTo_S2x8x2048x64_S_d0_1_2_3 h_S_) main_v20 main_c_5
  let main_v22 : IVec S_ 1 := andi main_v16 main_v21
  let main_v23 : FVec F S2x8x2048x64 .f32 := Host.absf main_arg4
  let main_cst_6 : FVec F S_ .f32 := constant S_ .f32 0x7F800000#32
  let main_v24 : FVec F S2x8x2048x64 .f32 := broadcastInDim S2x8x2048x64 ![] bcast_S_S2x8x2048x64 main_cst_6
  let main_v25 : IVec S2x8x2048x64 1 := cmpf .olt main_v23 main_v24
  let main_c_7 : IVec S_ 1 := constantI S_ 1 1#1
  let main_v26 : IVec S_ 1 := (fun x v => Host.reduce IntOp.andi x v reducesTo_S2x8x2048x64_S_d0_1_2_3 h_S_) main_v25 main_c_7
  let main_v27 : IVec S_ 1 := andi main_v22 main_v26
  main_v27

def fn {F : FTy → Type} [FloatOps F] (main_arg0 : FVec F S2x8x2048x64 .bf16) (main_arg1 : FVec F S2x2048x64 .bf16) (main_arg2 : FVec F S2x2048x64 .bf16) (main_arg3 : FVec F S2x8x2048x64 .bf16) (main_arg4 : FVec F S2x8x2048x64 .f32) : IVec S_ 1 :=
  let main_v0 : FVec F S2x8x2048x64 .f32 := (extf .f32 · bitsLt_bf16_f32) main_arg0
  let main_v1 : FVec F S2x8x2048x64 .f32 := Host.absf main_v0
  let main_cst : FVec F S_ .f32 := constant S_ .f32 0x7F800000#32
  let main_v2 : FVec F S2x8x2048x64 .f32 := broadcastInDim S2x8x2048x64 ![] bcast_S_S2x8x2048x64 main_cst
  let main_v3 : IVec S2x8x2048x64 1 := cmpf .olt main_v1 main_v2
  let main_c : IVec S_ 1 := constantI S_ 1 1#1
  let main_v4 : IVec S_ 1 := (fun x v => Host.reduce IntOp.andi x v reducesTo_S2x8x2048x64_S_d0_1_2_3 h_S_) main_v3 main_c
  let main_v5 : FVec F S2x2048x64 .f32 := (extf .f32 · bitsLt_bf16_f32) main_arg1
  let main_v6 : FVec F S2x2048x64 .f32 := Host.absf main_v5
  let main_cst_0 : FVec F S_ .f32 := constant S_ .f32 0x7F800000#32
  let main_v7 : FVec F S2x2048x64 .f32 := broadcastInDim S2x2048x64 ![] bcast_S_S2x2048x64 main_cst_0
  let main_v8 : IVec S2x2048x64 1 := cmpf .olt main_v6 main_v7
  let main_c_1 : IVec S_ 1 := constantI S_ 1 1#1
  let main_v9 : IVec S_ 1 := (fun x v => Host.reduce IntOp.andi x v reducesTo_S2x2048x64_S_d0_1_2 h_S_) main_v8 main_c_1
  let main_v10 : IVec S_ 1 := andi main_v4 main_v9
  let main_v11 : FVec F S2x2048x64 .f32 := (extf .f32 · bitsLt_bf16_f32) main_arg2
  let main_v12 : FVec F S2x2048x64 .f32 := Host.absf main_v11
  let main_cst_2 : FVec F S_ .f32 := constant S_ .f32 0x7F800000#32
  let main_v13 : FVec F S2x2048x64 .f32 := broadcastInDim S2x2048x64 ![] bcast_S_S2x2048x64 main_cst_2
  let main_v14 : IVec S2x2048x64 1 := cmpf .olt main_v12 main_v13
  let main_c_3 : IVec S_ 1 := constantI S_ 1 1#1
  let main_v15 : IVec S_ 1 := (fun x v => Host.reduce IntOp.andi x v reducesTo_S2x2048x64_S_d0_1_2 h_S_) main_v14 main_c_3
  let main_v16 : IVec S_ 1 := andi main_v10 main_v15
  let main_v17 : FVec F S2x8x2048x64 .f32 := (extf .f32 · bitsLt_bf16_f32) main_arg3
  fn_part1 (F := F) main_arg4 main_v16 main_v17
-- ==== Pre_finite_glu.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S2048x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  main_v23

def fn {F : FTy → Type} [FloatOps F] (main_arg0 : FVec F S2048x2048 .f32) (main_arg1 : FVec F S2048x1024 .f32) (main_arg2 : FVec F S2048x1024 .f32) (main_arg3 : FVec F S1x1024 .f32) (main_arg4 : FVec F S2048x1024 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S2048x1024 .f32 := Host.absf main_arg2
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_c_3 : IVec S_ 1 := constantI S_ 1 1#1
  let main_v12 : IVec S_ 1 := (fun x v => Host.reduce IntOp.andi x v reducesTo_S2048x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_v13 main_v16
-- ==== Kernel.lean ====
abbrev S2048x11008 : Shape := ⟨2, ![2048, 11008]⟩
abbrev S2048x5504 : Shape := ⟨2, ![2048, 5504]⟩
abbrev S3x11008 : Shape := ⟨2, ![3, 11008]⟩
abbrev S1x11008 : Shape := ⟨2, ![1, 11008]⟩
abbrev S3x5504 : Shape := ⟨2, ![3, 5504]⟩
abbrev S1x5504 : Shape := ⟨2, ![1, 5504]⟩
abbrev S2048x128 : Shape := ⟨2, ![2048, 128]⟩
abbrev S3x128 : Shape := ⟨2, ![3, 128]⟩
abbrev S1x128 : Shape := ⟨2, ![1, 128]⟩
abbrev S128 : Shape := ⟨1, ![128]⟩

abbrev nBuf : Space → Nat
  | .hbm => 10
  | .vmem => 26
  | .smem => 0
  | _ => 0

abbrev bufTy : (tb : Table) → Fin (tcTables nBuf tb) → BufTy
  | .hbm, ⟨0, _⟩ => ⟨S2048x11008, .f32⟩
  | .hbm, ⟨1, _⟩ => ⟨S2048x5504, .f32⟩
  | .hbm, ⟨2, _⟩ => ⟨S3x11008, .f32⟩
  | .hbm, ⟨3, _⟩ => ⟨S1x11008, .f32⟩
  | .hbm, ⟨4, _⟩ => ⟨S2048x5504, .bf16⟩
  | .hbm, ⟨5, _⟩ => ⟨S2048x5504, .bf16⟩
  | .hbm, ⟨6, _⟩ => ⟨S3x5504, .f32⟩
  | .hbm, ⟨7, _⟩ => ⟨S3x5504, .f32⟩
  | .hbm, ⟨8, _⟩ => ⟨S1x5504, .f32⟩
  | .hbm, ⟨9, _⟩ => ⟨S1x5504, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S2048x128, .bf16⟩
  | .local _ .vmem, ⟨15, _⟩ => ⟨S2048x128, .bf16⟩
  | .local _ .vmem, ⟨16, _⟩ => ⟨S2048x128, .bf16⟩
  | .local _ .vmem, ⟨17, _⟩ => ⟨S2048x128, .bf16⟩
  | .local _ .vmem, ⟨18, _⟩ => ⟨S3x128, .f32⟩
  | .local _ .vmem, ⟨19, _⟩ => ⟨S3x128, .f32⟩
  | .local _ .vmem, ⟨20, _⟩ => ⟨S3x128, .f32⟩
  | .local _ .vmem, ⟨21, _⟩ => ⟨S3x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S3x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S2048x11008 : Shape := ⟨2, ![2048, 11008]⟩
abbrev S2048x5504 : Shape := ⟨2, ![2048, 5504]⟩
abbrev S3x11008 : Shape := ⟨2, ![3, 11008]⟩
abbrev S1x11008 : Shape := ⟨2, ![1, 11008]⟩
abbrev S1x2048x11008 : Shape := ⟨3, ![1, 2048, 11008]⟩
abbrev S11008 : Shape := ⟨1, ![11008]⟩
abbrev S_ : Shape := ⟨0, ![]⟩
abbrev S1x2x11008 : Shape := ⟨3, ![1, 2, 11008]⟩
abbrev S1x2050x11008 : Shape := ⟨3, ![1, 2050, 11008]⟩
abbrev S1x1x11008 : Shape := ⟨3, ![1, 1, 11008]⟩
abbrev S1x2048x5504 : Shape := ⟨3, ![1, 2048, 5504]⟩
abbrev S3x5504 : Shape := ⟨2, ![3, 5504]⟩
abbrev S1x5504 : Shape := ⟨2, ![1, 5504]⟩

abbrev nBuf : Space → Nat
  | .hbm => 146
  | .vmem => 0
  | .smem => 0
  | _ => 0

abbrev hbmTy0_0 (i : Nat) : BufTy := match i % 128 with
  | 0 => ⟨S2048x11008, .f32⟩
  | 1 => ⟨S2048x5504, .f32⟩
  | 2 => ⟨S3x11008, .f32⟩
  | 3 => ⟨S1x11008, .f32⟩
  | 4 => ⟨S1x2048x11008, .f32⟩
  | 5 => ⟨S11008, .f32⟩
  | 6 => ⟨S_, .f32⟩
  | 7 => ⟨S1x2x11008, .f32⟩
  | 8 => ⟨S1x2050x11008, .f32⟩
  | 9 => ⟨S_, .f32⟩
  | 10 => ⟨S1x2x11008, .f32⟩
  | 11 => ⟨S1x11008, .f32⟩
  | 12 => ⟨S11008, .f32⟩
  | 13 => ⟨S1x2048x11008, .f32⟩
  | 14 => ⟨S1x1x11008, .f32⟩
  | 15 => ⟨S1x2048x11008, .f32⟩
  | 16 => ⟨S1x2048x11008, .f32⟩
  | 17 => ⟨S1x1x11008, .f32⟩
  | 18 => ⟨S1x2048x11008, .f32⟩
  | 19 => ⟨S1x2048x11008, .f32⟩
  | 20 => ⟨S1x11008, .f32⟩
  | 21 => ⟨S11008, .f32⟩
  | 22 => ⟨S1x2048x11008, .f32⟩
  | 23 => ⟨S1x1x11008, .f32⟩
  | 24 => ⟨S1x2048x11008, .f32⟩
  | 25 => ⟨S1x2048x11008, .f32⟩
  | 26 => ⟨S1x2048x11008, .f32⟩
  | 27 => ⟨S1x11008, .f32⟩
  | 28 => ⟨S11008, .f32⟩
  | 29 => ⟨S1x2048x11008, .f32⟩
  | 30 => ⟨S1x1x11008, .f32⟩
  | 31 => ⟨S1x2048x11008, .f32⟩
  | 32 => ⟨S1x2048x11008, .f32⟩
  | 33 => ⟨S1x2048x11008, .f32⟩
  | 34 => ⟨S1x2048x5504, .f32⟩
  | 35 => ⟨S1x2048x5504, .f32⟩
  | 36 => ⟨S_, .f32⟩
  | 37 => ⟨S_, .f32⟩
  | 38 => ⟨S_, .f32⟩
  | 39 => ⟨S1x2048x5504, .f32⟩
  | 40 => ⟨S1x2048x5504, .f32⟩
  | 41 => ⟨S1x2048x5504, .f32⟩
  | 42 => ⟨S_, .f32⟩
  | 43 => ⟨S1x2048x5504, .f32⟩
  | 44 => ⟨S1x2048x5504, .f32⟩
  | 45 => ⟨S1x2048x5504, .f32⟩
  | 46 => ⟨S1x2048x5504, .f32⟩
  | 47 => ⟨S1x2048x5504, .f32⟩
  | 48 => ⟨S_, .f32⟩
  | 49 => ⟨S1x2048x5504, .f32⟩
  | 50 => ⟨S1x2048x5504, .f32⟩
  | 51 => ⟨S1x2048x5504, .f32⟩
  | 52 => ⟨S_, .f32⟩
  | 53 => ⟨S1x2048x5504, .f32⟩
  | 54 => ⟨S1x2048x5504, .f32⟩
  | 55 => ⟨S_, .f32⟩
  | 56 => ⟨S1x2048x5504, .f32⟩
  | 57 => ⟨S1x2048x5504, .f32⟩
  | 58 => ⟨S1x2048x5504, .f32⟩
  | 59 => ⟨S_, .f32⟩
  | 60 => ⟨S1x2048x5504, .f32⟩
  | 61 => ⟨S1x2048x5504, .f32⟩
  | 62 => ⟨S_, .f32⟩
  | 63 => ⟨S1x2048x5504, .f32⟩
  | 64 => ⟨S1x2048x5504, .f32⟩
  | 65 => ⟨S1x2048x5504, .f32⟩
  | 66 => ⟨S1x2048x5504, .f32⟩
  | 67 => ⟨S2048x5504, .f32⟩
  | 68 => ⟨S1x2048x5504, .f32⟩
  | 69 => ⟨S1x2048x5504, .f32⟩
  | 70 => ⟨S1x2048x5504, .f32⟩
  | 71 => ⟨S1x2048x5504, .f32⟩
  | 72 => ⟨S1x2048x5504, .f32⟩
  | 73 => ⟨S_, .f32⟩
  | 74 => ⟨S1x2048x5504, .f32⟩
  | 75 => ⟨S1x2048x5504, .f32⟩
  | 76 => ⟨S1x2048x5504, .f32⟩
  | 77 => ⟨S_, .f32⟩
  | 78 => ⟨S1x2048x5504, .f32⟩
  | 79 => ⟨S1x2048x5504, .f32⟩
  | 80 => ⟨S1x2048x5504, .f32⟩
  | 81 => ⟨S1x2048x5504, .f32⟩
  | 82 => ⟨S1x2048x5504, .f32⟩
  | 83 => ⟨S1x2048x5504, .f32⟩
  | 84 => ⟨S1x2048x5504, .f32⟩
  | 85 => ⟨S1x2048x11008, .f32⟩
  | 86 => ⟨S1x2048x11008, .f32⟩
  | 87 => ⟨S1x2048x11008, .f32⟩
  | 88 => ⟨S1x2048x11008, .f32⟩
  | 89 => ⟨S_, .f32⟩
  | 90 => ⟨S1x11008, .f32⟩
  | 91 => ⟨S1x1x11008, .f32⟩
  | 92 => ⟨S_, .f32⟩
  | 93 => ⟨S11008, .f32⟩
  | 94 => ⟨S_, .f32⟩
  | 95 => ⟨S1x2050x11008, .f32⟩
  | 96 => ⟨S1x11008, .f32⟩
  | 97 => ⟨S_, .f32⟩
  | 98 => ⟨S3x11008, .f32⟩
  | 99 => ⟨S1x2048x11008, .f32⟩
  | 100 => ⟨S1x2048x11008, .f32⟩
  | 101 => ⟨S1x2048x11008, .f32⟩
  | 102 => ⟨S_, .f32⟩
  | 103 => ⟨S1x11008, .f32⟩
  | 104 => ⟨S1x1x11008, .f32⟩
  | 105 => ⟨S_, .f32⟩
  | 106 => ⟨S11008, .f32⟩
  | 107 => ⟨S_, .f32⟩
  | 108 => ⟨S1x2050x11008, .f32⟩
  | 109 => ⟨S1x2050x11008, .f32⟩
  | 110 => ⟨S1x11008, .f32⟩
  | 111 => ⟨S_, .f32⟩
  | 112 => ⟨S3x11008, .f32⟩
  | 113 => ⟨S3x11008, .f32⟩
  | 114 => ⟨S_, .f32⟩
  | 115 => ⟨S1x11008, .f32⟩
  | 116 => ⟨S1x1x11008, .f32⟩
  | 117 => ⟨S_, .f32⟩
  | 118 => ⟨S11008, .f32⟩
  | 119 => ⟨S1x2048x11008, .f32⟩
  | 120 => ⟨S1x2048x11008, .f32⟩
  | 121 => ⟨S1x2048x11008, .f32⟩
  | 122 => ⟨S_, .f32⟩
  | 123 => ⟨S1x11008, .f32⟩
  | 124 => ⟨S1x1x11008, .f32⟩
  | 125 => ⟨S_, .f32⟩
  | 126 => ⟨S11008, .f32⟩
  | 127 => ⟨S_, .f32⟩
  | _ => ⟨S2048x11008, .f32⟩

abbrev hbmTy0_1 (i : Nat) : BufTy := match i % 128 with
  | 0 => ⟨S1x2050x11008, .f32⟩
  | 1 => ⟨S1x2050x11008, .f32⟩
  | 2 => ⟨S1x11008, .f32⟩
  | 3 => ⟨S_, .f32⟩
  | 4 => ⟨S3x11008, .f32⟩
  | 5 => ⟨S3x11008, .f32⟩
  | 6 => ⟨S1x2x11008, .f32⟩
  | 7 => ⟨S1x2048x11008, .f32⟩
  | 8 => ⟨S1x11008, .f32⟩
  | 9 => ⟨S_, .f32⟩
  | 10 => ⟨S2048x11008, .f32⟩
  | 11 => ⟨S2048x11008, .bf16⟩
  | 12 => ⟨S2048x5504, .bf16⟩
  | 13 => ⟨S2048x5504, .bf16⟩
  | 14 => ⟨S3x5504, .f32⟩
  | 15 => ⟨S3x5504, .f32⟩
  | 16 => ⟨S1x5504, .f32⟩
  | 17 => ⟨S1x5504, .f32⟩
  | _ => ⟨S2048x11008, .f32⟩

abbrev hbmTy (i : Nat) : BufTy := match i / 128 with
  | 0 => hbmTy0_0 i
  | 1 => hbmTy0_1 i
  | _ => ⟨S2048x11008, .f32⟩

abbrev bufTy : (tb : Table) → Fin (tcTables nBuf tb) → BufTy
  | .hbm, ⟨i, _⟩ => hbmTy i
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_cst_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_3 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_4 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_5 : Ref sig .tc := ⟨.hbm, 52, rfl⟩
abbrev main_v42 : Ref sig .tc := ⟨.hbm, 53, rfl⟩
abbrev main_v43 : Ref sig .tc := ⟨.hbm, 54, rfl⟩
abbrev main_cst_6 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_7 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_10 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_11 : Ref sig .tc := ⟨.hbm, 89, rfl⟩
abbrev main_v73 : Ref sig .tc := ⟨.hbm, 90, rfl⟩
abbrev main_v74 : Ref sig .tc := ⟨.hbm, 91, rfl⟩
abbrev main_cst_12 : Ref sig .tc := ⟨.hbm, 92, rfl⟩
abbrev main_v75 : Ref sig .tc := ⟨.hbm, 93, rfl⟩
abbrev main_cst_13 : Ref sig .tc := ⟨.hbm, 94, rfl⟩
abbrev main_v76 : Ref sig .tc := ⟨.hbm, 95, rfl⟩
abbrev main_v77 : Ref sig .tc := ⟨.hbm, 96, rfl⟩
abbrev main_cst_14 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_15 : Ref sig .tc := ⟨.hbm, 102, rfl⟩
abbrev main_v82 : Ref sig .tc := ⟨.hbm, 103, rfl⟩
abbrev main_v83 : Ref sig .tc := ⟨.hbm, 104, rfl⟩
abbrev main_cst_16 : Ref sig .tc := ⟨.hbm, 105, rfl⟩
abbrev main_v84 : Ref sig .tc := ⟨.hbm, 106, rfl⟩
abbrev main_cst_17 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_18 : Ref sig .tc := ⟨.hbm, 111, rfl⟩
abbrev main_v88 : Ref sig .tc := ⟨.hbm, 112, rfl⟩
abbrev main_v89 : Ref sig .tc := ⟨.hbm, 113, rfl⟩
abbrev main_cst_19 : Ref sig .tc := ⟨.hbm, 114, rfl⟩
abbrev main_v90 : Ref sig .tc := ⟨.hbm, 115, rfl⟩
abbrev main_v91 : Ref sig .tc := ⟨.hbm, 116, rfl⟩
abbrev main_cst_20 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_cst_21 : Ref sig .tc := ⟨.hbm, 122, rfl⟩
abbrev main_v96 : Ref sig .tc := ⟨.hbm, 123, rfl⟩
abbrev main_v97 : Ref sig .tc := ⟨.hbm, 124, rfl⟩
abbrev main_cst_22 : Ref sig .tc := ⟨.hbm, 125, rfl⟩
abbrev main_v98 : Ref sig .tc := ⟨.hbm, 126, rfl⟩
abbrev main_cst_23 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_cst_24 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_cst_25 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩

abbrev nD : Nat := 1
abbrev τ : Topo := Topo.v7x

variable {F : FTy → Type} [FloatOps F]
-- ==== Dwo.lean ====
abbrev S2048x5504 : Shape := ⟨2, ![2048, 5504]⟩
abbrev S2048x2048 : Shape := ⟨2, ![2048, 2048]⟩
abbrev S5504x2048 : Shape := ⟨2, ![5504, 2048]⟩
abbrev S512x5504 : Shape := ⟨2, ![512, 5504]⟩
abbrev S512x512 : Shape := ⟨2, ![512, 512]⟩
abbrev S5504x512 : Shape := ⟨2, ![5504, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x5504, .bf16⟩
  | .hbm, ⟨1, _⟩ => ⟨S2048x2048, .bf16⟩
  | .hbm, ⟨2, _⟩ => ⟨S5504x2048, .bf16⟩
  | .local _ .vmem, ⟨0, _⟩ => ⟨S512x5504, .bf16⟩
  | .local _ .vmem, ⟨1, _⟩ => ⟨S512x5504, .bf16⟩
  | .local _ .vmem, ⟨2, _⟩ => ⟨S512x512, .bf16⟩
  | .local _ .vmem, ⟨3, _⟩ => ⟨S512x512, .bf16⟩
  | .local _ .vmem, ⟨4, _⟩ => ⟨S5504x512, .bf16⟩
  | .local _ .vmem, ⟨5, _⟩ => ⟨S5504x512, .bf16⟩
  | .local _ .vmem, ⟨6, _⟩ => ⟨S5504x512, .f32⟩
  | _, _ => ⟨S2048x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S5504x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwoRefIdeal.lean ====
abbrev S2048x5504 : Shape := ⟨2, ![2048, 5504]⟩
abbrev S2048x2048 : Shape := ⟨2, ![2048, 2048]⟩
abbrev S_ : Shape := ⟨0, ![]⟩
abbrev S5504x2048 : Shape := ⟨2, ![5504, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5504, .bf16⟩
  | .hbm, ⟨1, _⟩ => ⟨S2048x2048, .bf16⟩
  | .hbm, ⟨2, _⟩ => ⟨S2048x5504, .f32⟩
  | .hbm, ⟨3, _⟩ => ⟨S2048x2048, .f32⟩
  | .hbm, ⟨4, _⟩ => ⟨S_, .f32⟩
  | .hbm, ⟨5, _⟩ => ⟨S5504x2048, .f32⟩
  | .hbm, ⟨6, _⟩ => ⟨S2048x2048, .f32⟩
  | .hbm, ⟨7, _⟩ => ⟨S2048x5504, .f32⟩
  | .hbm, ⟨8, _⟩ => ⟨S5504x2048, .f32⟩
  | .hbm, ⟨9, _⟩ => ⟨S5504x2048, .bf16⟩
  | _, _ => ⟨S2048x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dwi.lean ====
abbrev S2048x2048 : Shape := ⟨2, ![2048, 2048]⟩
abbrev S2048x11008 : Shape := ⟨2, ![2048, 11008]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x11008, .bf16⟩
  | .hbm, ⟨2, _⟩ => ⟨S2048x11008, .bf16⟩
  | .local _ .vmem, ⟨0, _⟩ => ⟨S2048x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwiRefIdeal.lean ====
abbrev S2048x2048 : Shape := ⟨2, ![2048, 2048]⟩
abbrev S2048x11008 : Shape := ⟨2, ![2048, 11008]⟩
abbrev S_ : Shape := ⟨0, ![]⟩
abbrev S11008x2048 : Shape := ⟨2, ![11008, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x11008, .bf16⟩
  | .hbm, ⟨2, _⟩ => ⟨S2048x2048, .f32⟩
  | .hbm, ⟨3, _⟩ => ⟨S2048x11008, .f32⟩
  | .hbm, ⟨4, _⟩ => ⟨S_, .f32⟩
  | .hbm, ⟨5, _⟩ => ⟨S2048x11008, .f32⟩
  | .hbm, ⟨6, _⟩ => ⟨S2048x11008, .f32⟩
  | .hbm, ⟨7, _⟩ => ⟨S11008x2048, .f32⟩
  | .hbm, ⟨8, _⟩ => ⟨S2048x11008, .f32⟩
  | .hbm, ⟨9, _⟩ => ⟨S2048x11008, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Act.lean ====
abbrev S2048x11008 : Shape := ⟨2, ![2048, 11008]⟩
abbrev S3x11008 : Shape := ⟨2, ![3, 11008]⟩
abbrev S1x11008 : Shape := ⟨2, ![1, 11008]⟩
abbrev S2048x5504 : Shape := ⟨2, ![2048, 5504]⟩
abbrev S2048x128 : Shape := ⟨2, ![2048, 128]⟩
abbrev S3x128 : Shape := ⟨2, ![3, 128]⟩
abbrev S1x128 : Shape := ⟨2, ![1, 128]⟩

abbrev nBuf : Space → Nat
  | .hbm => 4
  | .vmem => 14
  | .smem => 0
  | _ => 0

abbrev bufTy : (tb : Table) → Fin (tcTables nBuf tb) → BufTy
  | .hbm, ⟨0, _⟩ => ⟨S2048x11008, .f32⟩
  | .hbm, ⟨1, _⟩ => ⟨S3x11008, .f32⟩
  | .hbm, ⟨2, _⟩ => ⟨S1x11008, .f32⟩
  | .hbm, ⟨3, _⟩ => ⟨S2048x5504, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | _, _ => ⟨S2048x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c43_i32 : BitVec 32 := 43#32
  let v0 : BitVec 32 := Scalar.addi arg0 c43_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ActIdeal.lean ====
variable {F : FTy → Type} [FloatOps F] [Named F]
def κ : String → Option EReal := fun
  | "gelu_a" => some ((8943 / 200000 : ℝ) : EReal)
  | _ => none
-- ==== ActRefIdeal.lean ====
abbrev S2048x11008 : Shape := ⟨2, ![2048, 11008]⟩
abbrev S3x11008 : Shape := ⟨2, ![3, 11008]⟩
abbrev S1x11008 : Shape := ⟨2, ![1, 11008]⟩
abbrev S1x2048x11008 : Shape := ⟨3, ![1, 2048, 11008]⟩
abbrev S11008 : Shape := ⟨1, ![11008]⟩
abbrev S_ : Shape := ⟨0, ![]⟩
abbrev S1x2x11008 : Shape := ⟨3, ![1, 2, 11008]⟩
abbrev S1x2050x11008 : Shape := ⟨3, ![1, 2050, 11008]⟩
abbrev S1x1x11008 : Shape := ⟨3, ![1, 1, 11008]⟩
abbrev S1x2048x5504 : Shape := ⟨3, ![1, 2048, 5504]⟩
abbrev S2048x5504 : Shape := ⟨2, ![2048, 5504]⟩

abbrev nBuf : Space → Nat
  | .hbm => 55
  | .vmem => 0
  | .smem => 0
  | _ => 0

abbrev bufTy : (tb : Table) → Fin (tcTables nBuf tb) → BufTy
  | .hbm, ⟨0, _⟩ => ⟨S2048x11008, .f32⟩
  | .hbm, ⟨1, _⟩ => ⟨S3x11008, .f32⟩
  | .hbm, ⟨2, _⟩ => ⟨S1x11008, .f32⟩
  | .hbm, ⟨3, _⟩ => ⟨S1x2048x11008, .f32⟩
  | .hbm, ⟨4, _⟩ => ⟨S11008, .f32⟩
  | .hbm, ⟨5, _⟩ => ⟨S_, .f32⟩
  | .hbm, ⟨6, _⟩ => ⟨S1x2x11008, .f32⟩
  | .hbm, ⟨7, _⟩ => ⟨S1x2050x11008, .f32⟩
  | .hbm, ⟨8, _⟩ => ⟨S1x11008, .f32⟩
  | .hbm, ⟨9, _⟩ => ⟨S11008, .f32⟩
  | .hbm, ⟨10, _⟩ => ⟨S1x2048x11008, .f32⟩
  | .hbm, ⟨11, _⟩ => ⟨S1x1x11008, .f32⟩
  | .hbm, ⟨12, _⟩ => ⟨S1x2048x11008, .f32⟩
  | .hbm, ⟨13, _⟩ => ⟨S1x2048x11008, .f32⟩
  | .hbm, ⟨14, _⟩ => ⟨S1x1x11008, .f32⟩
  | .hbm, ⟨15, _⟩ => ⟨S1x2048x11008, .f32⟩
  | .hbm, ⟨16, _⟩ => ⟨S1x2048x11008, .f32⟩
  | .hbm, ⟨17, _⟩ => ⟨S1x11008, .f32⟩
  | .hbm, ⟨18, _⟩ => ⟨S11008, .f32⟩
  | .hbm, ⟨19, _⟩ => ⟨S1x2048x11008, .f32⟩
  | .hbm, ⟨20, _⟩ => ⟨S1x1x11008, .f32⟩
  | .hbm, ⟨21, _⟩ => ⟨S1x2048x11008, .f32⟩
  | .hbm, ⟨22, _⟩ => ⟨S1x2048x11008, .f32⟩
  | .hbm, ⟨23, _⟩ => ⟨S1x2048x11008, .f32⟩
  | .hbm, ⟨24, _⟩ => ⟨S1x11008, .f32⟩
  | .hbm, ⟨25, _⟩ => ⟨S11008, .f32⟩
  | .hbm, ⟨26, _⟩ => ⟨S1x2048x11008, .f32⟩
  | .hbm, ⟨27, _⟩ => ⟨S1x1x11008, .f32⟩
  | .hbm, ⟨28, _⟩ => ⟨S1x2048x11008, .f32⟩
  | .hbm, ⟨29, _⟩ => ⟨S1x2048x11008, .f32⟩
  | .hbm, ⟨30, _⟩ => ⟨S1x2048x11008, .f32⟩
  | .hbm, ⟨31, _⟩ => ⟨S1x2048x5504, .f32⟩
  | .hbm, ⟨32, _⟩ => ⟨S1x2048x5504, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S1x2048x5504, .f32⟩
  | .hbm, ⟨37, _⟩ => ⟨S1x2048x5504, .f32⟩
  | .hbm, ⟨38, _⟩ => ⟨S1x2048x5504, .f32⟩
  | .hbm, ⟨39, _⟩ => ⟨S1x2048x5504, .f32⟩
  | .hbm, ⟨40, _⟩ => ⟨S1x2048x5504, .f32⟩
  | .hbm, ⟨41, _⟩ => ⟨S_, .f32⟩
  | .hbm, ⟨42, _⟩ => ⟨S1x2048x5504, .f32⟩
  | .hbm, ⟨43, _⟩ => ⟨S1x2048x5504, .f32⟩
  | .hbm, ⟨44, _⟩ => ⟨S1x2048x5504, .f32⟩
  | .hbm, ⟨45, _⟩ => ⟨S_, .f32⟩
  | .hbm, ⟨46, _⟩ => ⟨S1x2048x5504, .f32⟩
  | .hbm, ⟨47, _⟩ => ⟨S1x2048x5504, .f32⟩
  | .hbm, ⟨48, _⟩ => ⟨S_, .f32⟩
  | .hbm, ⟨49, _⟩ => ⟨S1x2048x5504, .f32⟩
  | .hbm, ⟨50, _⟩ => ⟨S1x2048x5504, .f32⟩
  | .hbm, ⟨51, _⟩ => ⟨S1x2048x5504, .f32⟩
  | .hbm, ⟨52, _⟩ => ⟨S1x2048x5504, .f32⟩
  | .hbm, ⟨53, _⟩ => ⟨S2048x5504, .f32⟩
  | .hbm, ⟨54, _⟩ => ⟨S2048x5504, .bf16⟩
  | _, _ => ⟨S2048x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩

abbrev nD : Nat := 1
abbrev τ : Topo := Topo.v7x

variable {F : FTy → Type} [FloatOps F]
-- ==== Dact0.lean ====
abbrev S2048x2048 : Shape := ⟨2, ![2048, 2048]⟩
abbrev S4x5504x2048 : Shape := ⟨3, ![4, 5504, 2048]⟩
abbrev S2048x5504 : Shape := ⟨2, ![2048, 5504]⟩
abbrev S512x512 : Shape := ⟨2, ![512, 512]⟩
abbrev S1x5504x512 : Shape := ⟨3, ![1, 5504, 512]⟩
abbrev S512x5504 : Shape := ⟨2, ![512, 5504]⟩
abbrev S5504x512 : Shape := ⟨2, ![5504, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x5504x2048, .bf16⟩
  | .hbm, ⟨2, _⟩ => ⟨S2048x5504, .f32⟩
  | .local _ .vmem, ⟨0, _⟩ => ⟨S512x512, .bf16⟩
  | .local _ .vmem, ⟨1, _⟩ => ⟨S512x512, .bf16⟩
  | .local _ .vmem, ⟨2, _⟩ => ⟨S1x5504x512, .bf16⟩
  | .local _ .vmem, ⟨3, _⟩ => ⟨S1x5504x512, .bf16⟩
  | .local _ .vmem, ⟨4, _⟩ => ⟨S512x5504, .f32⟩
  | .local _ .vmem, ⟨5, _⟩ => ⟨S512x5504, .f32⟩
  | .local _ .vmem, ⟨6, _⟩ => ⟨S512x5504, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dact0Ideal.lean ====
  let c0_i32_0 : BitVec 32 := 0#32
  ![c0_i32.toNat, arg1.toNat, arg2.toNat]
-- ==== Dact0RefIdeal.lean ====
abbrev S2048x2048 : Shape := ⟨2, ![2048, 2048]⟩
abbrev S4x5504x2048 : Shape := ⟨3, ![4, 5504, 2048]⟩
abbrev S1x5504x2048 : Shape := ⟨3, ![1, 5504, 2048]⟩
abbrev S5504x2048 : Shape := ⟨2, ![5504, 2048]⟩
abbrev S_ : Shape := ⟨0, ![]⟩
abbrev S2048x5504 : Shape := ⟨2, ![2048, 5504]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x5504x2048, .bf16⟩
  | .hbm, ⟨2, _⟩ => ⟨S2048x2048, .f32⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S_, .f32⟩
  | .hbm, ⟨7, _⟩ => ⟨S2048x5504, .f32⟩
  | .hbm, ⟨8, _⟩ => ⟨S2048x2048, .f32⟩
  | .hbm, ⟨9, _⟩ => ⟨S2048x5504, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh0.lean ====
abbrev S2048x11008 : Shape := ⟨2, ![2048, 11008]⟩
abbrev S4x2048x11008 : Shape := ⟨3, ![4, 2048, 11008]⟩
abbrev S2048x2048 : Shape := ⟨2, ![2048, 2048]⟩
abbrev S1024x5504 : Shape := ⟨2, ![1024, 5504]⟩
abbrev S1x512x5504 : Shape := ⟨3, ![1, 512, 5504]⟩
abbrev S1024x512 : Shape := ⟨2, ![1024, 512]⟩
abbrev S512x5504 : Shape := ⟨2, ![512, 5504]⟩

abbrev nBuf : Space → Nat
  | .hbm => 3
  | .vmem => 7
  | .smem => 0
  | _ => 0

abbrev bufTy : (tb : Table) → Fin (tcTables nBuf tb) → BufTy
  | .hbm, ⟨0, _⟩ => ⟨S2048x11008, .bf16⟩
  | .hbm, ⟨1, _⟩ => ⟨S4x2048x11008, .bf16⟩
  | .hbm, ⟨2, _⟩ => ⟨S2048x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x512x5504, .bf16⟩
  | .local _ .vmem, ⟨3, _⟩ => ⟨S1x512x5504, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh0Ideal.lean ====
  let c0_i32_0 : BitVec 32 := 0#32
  ![c0_i32.toNat, arg1.toNat, arg2.toNat]
-- ==== Dh0RefIdeal.lean ====
abbrev S2048x11008 : Shape := ⟨2, ![2048, 11008]⟩
abbrev S4x2048x11008 : Shape := ⟨3, ![4, 2048, 11008]⟩
abbrev S1x2048x11008 : Shape := ⟨3, ![1, 2048, 11008]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x11008, .bf16⟩
  | .hbm, ⟨1, _⟩ => ⟨S4x2048x11008, .bf16⟩
  | .hbm, ⟨2, _⟩ => ⟨S2048x11008, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S_, .f32⟩
  | .hbm, ⟨7, _⟩ => ⟨S2048x2048, .f32⟩
  | .hbm, ⟨8, _⟩ => ⟨S2048x11008, .f32⟩
  | .hbm, ⟨9, _⟩ => ⟨S2048x2048, .f32⟩
  | _, _ => ⟨S2048x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In0.lean ====
abbrev S2048x2048 : Shape := ⟨2, ![2048, 2048]⟩
abbrev S4x2048x11008 : Shape := ⟨3, ![4, 2048, 11008]⟩
abbrev S2048x11008 : Shape := ⟨2, ![2048, 11008]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x11008, .bf16⟩
  | .hbm, ⟨2, _⟩ => ⟨S2048x11008, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In0Ideal.lean ====
  let c0_i32_0 : BitVec 32 := 0#32
  ![c0_i32.toNat, arg2.toNat, arg1.toNat]
-- ==== In0RefIdeal.lean ====
abbrev S2048x2048 : Shape := ⟨2, ![2048, 2048]⟩
abbrev S4x2048x11008 : Shape := ⟨3, ![4, 2048, 11008]⟩
abbrev S1x2048x11008 : Shape := ⟨3, ![1, 2048, 11008]⟩
abbrev S2048x11008 : Shape := ⟨2, ![2048, 11008]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x11008, .bf16⟩
  | .hbm, ⟨2, _⟩ => ⟨S2048x2048, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S2048x11008, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out0.lean ====
abbrev S2048x5504 : Shape := ⟨2, ![2048, 5504]⟩
abbrev S4x5504x2048 : Shape := ⟨3, ![4, 5504, 2048]⟩
abbrev S2048x2048 : Shape := ⟨2, ![2048, 2048]⟩
abbrev S1024x5504 : Shape := ⟨2, ![1024, 5504]⟩
abbrev S1x5504x512 : Shape := ⟨3, ![1, 5504, 512]⟩
abbrev S1024x512 : Shape := ⟨2, ![1024, 512]⟩
abbrev S5504x512 : Shape := ⟨2, ![5504, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5504, .bf16⟩
  | .hbm, ⟨1, _⟩ => ⟨S4x5504x2048, .bf16⟩
  | .hbm, ⟨2, _⟩ => ⟨S2048x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | _, _ => ⟨S2048x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Out0Ideal.lean ====
  let c0_i32_0 : BitVec 32 := 0#32
  ![c0_i32.toNat, arg2.toNat, arg1.toNat]
-- ==== Out0RefIdeal.lean ====
abbrev S2048x5504 : Shape := ⟨2, ![2048, 5504]⟩
abbrev S4x5504x2048 : Shape := ⟨3, ![4, 5504, 2048]⟩
abbrev S1x5504x2048 : Shape := ⟨3, ![1, 5504, 2048]⟩
abbrev S5504x2048 : Shape := ⟨2, ![5504, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5504, .bf16⟩
  | .hbm, ⟨1, _⟩ => ⟨S4x5504x2048, .bf16⟩
  | .hbm, ⟨2, _⟩ => ⟨S2048x5504, .f32⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S2048x2048, .f32⟩
  | _, _ => ⟨S2048x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dact1.lean ====
abbrev S2048x2048 : Shape := ⟨2, ![2048, 2048]⟩
abbrev S4x5504x2048 : Shape := ⟨3, ![4, 5504, 2048]⟩
abbrev S2048x5504 : Shape := ⟨2, ![2048, 5504]⟩
abbrev S512x512 : Shape := ⟨2, ![512, 512]⟩
abbrev S1x5504x512 : Shape := ⟨3, ![1, 5504, 512]⟩
abbrev S512x5504 : Shape := ⟨2, ![512, 5504]⟩
abbrev S5504x512 : Shape := ⟨2, ![5504, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x5504x2048, .bf16⟩
  | .hbm, ⟨2, _⟩ => ⟨S2048x5504, .f32⟩
  | .local _ .vmem, ⟨0, _⟩ => ⟨S512x512, .bf16⟩
  | .local _ .vmem, ⟨1, _⟩ => ⟨S512x512, .bf16⟩
  | .local _ .vmem, ⟨2, _⟩ => ⟨S1x5504x512, .bf16⟩
  | .local _ .vmem, ⟨3, _⟩ => ⟨S1x5504x512, .bf16⟩
  | .local _ .vmem, ⟨4, _⟩ => ⟨S512x5504, .f32⟩
  | .local _ .vmem, ⟨5, _⟩ => ⟨S512x5504, .f32⟩
  | .local _ .vmem, ⟨6, _⟩ => ⟨S512x5504, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dact1Ideal.lean ====
  let c1_i32 : BitVec 32 := 1#32
  ![c1_i32.toNat, arg1.toNat, arg2.toNat]
-- ==== Dact1RefIdeal.lean ====
abbrev S2048x2048 : Shape := ⟨2, ![2048, 2048]⟩
abbrev S4x5504x2048 : Shape := ⟨3, ![4, 5504, 2048]⟩
abbrev S1x5504x2048 : Shape := ⟨3, ![1, 5504, 2048]⟩
abbrev S5504x2048 : Shape := ⟨2, ![5504, 2048]⟩
abbrev S_ : Shape := ⟨0, ![]⟩
abbrev S2048x5504 : Shape := ⟨2, ![2048, 5504]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x5504x2048, .bf16⟩
  | .hbm, ⟨2, _⟩ => ⟨S2048x2048, .f32⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S_, .f32⟩
  | .hbm, ⟨7, _⟩ => ⟨S2048x5504, .f32⟩
  | .hbm, ⟨8, _⟩ => ⟨S2048x2048, .f32⟩
  | .hbm, ⟨9, _⟩ => ⟨S2048x5504, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh1.lean ====
abbrev S2048x11008 : Shape := ⟨2, ![2048, 11008]⟩
abbrev S4x2048x11008 : Shape := ⟨3, ![4, 2048, 11008]⟩
abbrev S2048x2048 : Shape := ⟨2, ![2048, 2048]⟩
abbrev S1024x5504 : Shape := ⟨2, ![1024, 5504]⟩
abbrev S1x512x5504 : Shape := ⟨3, ![1, 512, 5504]⟩
abbrev S1024x512 : Shape := ⟨2, ![1024, 512]⟩
abbrev S512x5504 : Shape := ⟨2, ![512, 5504]⟩

abbrev nBuf : Space → Nat
  | .hbm => 3
  | .vmem => 7
  | .smem => 0
  | _ => 0

abbrev bufTy : (tb : Table) → Fin (tcTables nBuf tb) → BufTy
  | .hbm, ⟨0, _⟩ => ⟨S2048x11008, .bf16⟩
  | .hbm, ⟨1, _⟩ => ⟨S4x2048x11008, .bf16⟩
  | .hbm, ⟨2, _⟩ => ⟨S2048x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x512x5504, .bf16⟩
  | .local _ .vmem, ⟨3, _⟩ => ⟨S1x512x5504, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1Ideal.lean ====
  let c1_i32 : BitVec 32 := 1#32
  ![c1_i32.toNat, arg1.toNat, arg2.toNat]
-- ==== Dh1RefIdeal.lean ====
abbrev S2048x11008 : Shape := ⟨2, ![2048, 11008]⟩
abbrev S4x2048x11008 : Shape := ⟨3, ![4, 2048, 11008]⟩
abbrev S1x2048x11008 : Shape := ⟨3, ![1, 2048, 11008]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x11008, .bf16⟩
  | .hbm, ⟨1, _⟩ => ⟨S4x2048x11008, .bf16⟩
  | .hbm, ⟨2, _⟩ => ⟨S2048x11008, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S_, .f32⟩
  | .hbm, ⟨7, _⟩ => ⟨S2048x2048, .f32⟩
  | .hbm, ⟨8, _⟩ => ⟨S2048x11008, .f32⟩
  | .hbm, ⟨9, _⟩ => ⟨S2048x2048, .f32⟩
  | _, _ => ⟨S2048x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In1.lean ====
abbrev S2048x2048 : Shape := ⟨2, ![2048, 2048]⟩
abbrev S4x2048x11008 : Shape := ⟨3, ![4, 2048, 11008]⟩
abbrev S2048x11008 : Shape := ⟨2, ![2048, 11008]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x11008, .bf16⟩
  | .hbm, ⟨2, _⟩ => ⟨S2048x11008, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In1Ideal.lean ====
  let c1_i32 : BitVec 32 := 1#32
  ![c1_i32.toNat, arg2.toNat, arg1.toNat]
-- ==== In1RefIdeal.lean ====
abbrev S2048x2048 : Shape := ⟨2, ![2048, 2048]⟩
abbrev S4x2048x11008 : Shape := ⟨3, ![4, 2048, 11008]⟩
abbrev S1x2048x11008 : Shape := ⟨3, ![1, 2048, 11008]⟩
abbrev S2048x11008 : Shape := ⟨2, ![2048, 11008]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x11008, .bf16⟩
  | .hbm, ⟨2, _⟩ => ⟨S2048x2048, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S2048x11008, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out1.lean ====
abbrev S2048x5504 : Shape := ⟨2, ![2048, 5504]⟩
abbrev S4x5504x2048 : Shape := ⟨3, ![4, 5504, 2048]⟩
abbrev S2048x2048 : Shape := ⟨2, ![2048, 2048]⟩
abbrev S1024x5504 : Shape := ⟨2, ![1024, 5504]⟩
abbrev S1x5504x512 : Shape := ⟨3, ![1, 5504, 512]⟩
abbrev S1024x512 : Shape := ⟨2, ![1024, 512]⟩
abbrev S5504x512 : Shape := ⟨2, ![5504, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5504, .bf16⟩
  | .hbm, ⟨1, _⟩ => ⟨S4x5504x2048, .bf16⟩
  | .hbm, ⟨2, _⟩ => ⟨S2048x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | _, _ => ⟨S2048x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Out1Ideal.lean ====
  let c1_i32 : BitVec 32 := 1#32
  ![c1_i32.toNat, arg2.toNat, arg1.toNat]
-- ==== Out1RefIdeal.lean ====
abbrev S2048x5504 : Shape := ⟨2, ![2048, 5504]⟩
abbrev S4x5504x2048 : Shape := ⟨3, ![4, 5504, 2048]⟩
abbrev S1x5504x2048 : Shape := ⟨3, ![1, 5504, 2048]⟩
abbrev S5504x2048 : Shape := ⟨2, ![5504, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5504, .bf16⟩
  | .hbm, ⟨1, _⟩ => ⟨S4x5504x2048, .bf16⟩
  | .hbm, ⟨2, _⟩ => ⟨S2048x5504, .f32⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S2048x2048, .f32⟩
  | _, _ => ⟨S2048x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dact2.lean ====
abbrev S2048x2048 : Shape := ⟨2, ![2048, 2048]⟩
abbrev S4x5504x2048 : Shape := ⟨3, ![4, 5504, 2048]⟩
abbrev S2048x5504 : Shape := ⟨2, ![2048, 5504]⟩
abbrev S512x512 : Shape := ⟨2, ![512, 512]⟩
abbrev S1x5504x512 : Shape := ⟨3, ![1, 5504, 512]⟩
abbrev S512x5504 : Shape := ⟨2, ![512, 5504]⟩
abbrev S5504x512 : Shape := ⟨2, ![5504, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x5504x2048, .bf16⟩
  | .hbm, ⟨2, _⟩ => ⟨S2048x5504, .f32⟩
  | .local _ .vmem, ⟨0, _⟩ => ⟨S512x512, .bf16⟩
  | .local _ .vmem, ⟨1, _⟩ => ⟨S512x512, .bf16⟩
  | .local _ .vmem, ⟨2, _⟩ => ⟨S1x5504x512, .bf16⟩
  | .local _ .vmem, ⟨3, _⟩ => ⟨S1x5504x512, .bf16⟩
  | .local _ .vmem, ⟨4, _⟩ => ⟨S512x5504, .f32⟩
  | .local _ .vmem, ⟨5, _⟩ => ⟨S512x5504, .f32⟩
  | .local _ .vmem, ⟨6, _⟩ => ⟨S512x5504, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dact2Ideal.lean ====
  let c2_i32 : BitVec 32 := 2#32
  ![c2_i32.toNat, arg1.toNat, arg2.toNat]
-- ==== Dact2RefIdeal.lean ====
abbrev S2048x2048 : Shape := ⟨2, ![2048, 2048]⟩
abbrev S4x5504x2048 : Shape := ⟨3, ![4, 5504, 2048]⟩
abbrev S1x5504x2048 : Shape := ⟨3, ![1, 5504, 2048]⟩
abbrev S5504x2048 : Shape := ⟨2, ![5504, 2048]⟩
abbrev S_ : Shape := ⟨0, ![]⟩
abbrev S2048x5504 : Shape := ⟨2, ![2048, 5504]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x5504x2048, .bf16⟩
  | .hbm, ⟨2, _⟩ => ⟨S2048x2048, .f32⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S_, .f32⟩
  | .hbm, ⟨7, _⟩ => ⟨S2048x5504, .f32⟩
  | .hbm, ⟨8, _⟩ => ⟨S2048x2048, .f32⟩
  | .hbm, ⟨9, _⟩ => ⟨S2048x5504, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh2.lean ====
abbrev S2048x11008 : Shape := ⟨2, ![2048, 11008]⟩
abbrev S4x2048x11008 : Shape := ⟨3, ![4, 2048, 11008]⟩
abbrev S2048x2048 : Shape := ⟨2, ![2048, 2048]⟩
abbrev S1024x5504 : Shape := ⟨2, ![1024, 5504]⟩
abbrev S1x512x5504 : Shape := ⟨3, ![1, 512, 5504]⟩
abbrev S1024x512 : Shape := ⟨2, ![1024, 512]⟩
abbrev S512x5504 : Shape := ⟨2, ![512, 5504]⟩

abbrev nBuf : Space → Nat
  | .hbm => 3
  | .vmem => 7
  | .smem => 0
  | _ => 0

abbrev bufTy : (tb : Table) → Fin (tcTables nBuf tb) → BufTy
  | .hbm, ⟨0, _⟩ => ⟨S2048x11008, .bf16⟩
  | .hbm, ⟨1, _⟩ => ⟨S4x2048x11008, .bf16⟩
  | .hbm, ⟨2, _⟩ => ⟨S2048x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x512x5504, .bf16⟩
  | .local _ .vmem, ⟨3, _⟩ => ⟨S1x512x5504, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh2Ideal.lean ====
  let c2_i32 : BitVec 32 := 2#32
  ![c2_i32.toNat, arg1.toNat, arg2.toNat]
-- ==== Dh2RefIdeal.lean ====
abbrev S2048x11008 : Shape := ⟨2, ![2048, 11008]⟩
abbrev S4x2048x11008 : Shape := ⟨3, ![4, 2048, 11008]⟩
abbrev S1x2048x11008 : Shape := ⟨3, ![1, 2048, 11008]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x11008, .bf16⟩
  | .hbm, ⟨1, _⟩ => ⟨S4x2048x11008, .bf16⟩
  | .hbm, ⟨2, _⟩ => ⟨S2048x11008, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S_, .f32⟩
  | .hbm, ⟨7, _⟩ => ⟨S2048x2048, .f32⟩
  | .hbm, ⟨8, _⟩ => ⟨S2048x11008, .f32⟩
  | .hbm, ⟨9, _⟩ => ⟨S2048x2048, .f32⟩
  | _, _ => ⟨S2048x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In2.lean ====
abbrev S2048x2048 : Shape := ⟨2, ![2048, 2048]⟩
abbrev S4x2048x11008 : Shape := ⟨3, ![4, 2048, 11008]⟩
abbrev S2048x11008 : Shape := ⟨2, ![2048, 11008]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x11008, .bf16⟩
  | .hbm, ⟨2, _⟩ => ⟨S2048x11008, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In2Ideal.lean ====
  let c2_i32 : BitVec 32 := 2#32
  ![c2_i32.toNat, arg2.toNat, arg1.toNat]
-- ==== In2RefIdeal.lean ====
abbrev S2048x2048 : Shape := ⟨2, ![2048, 2048]⟩
abbrev S4x2048x11008 : Shape := ⟨3, ![4, 2048, 11008]⟩
abbrev S1x2048x11008 : Shape := ⟨3, ![1, 2048, 11008]⟩
abbrev S2048x11008 : Shape := ⟨2, ![2048, 11008]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x11008, .bf16⟩
  | .hbm, ⟨2, _⟩ => ⟨S2048x2048, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S2048x11008, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out2.lean ====
abbrev S2048x5504 : Shape := ⟨2, ![2048, 5504]⟩
abbrev S4x5504x2048 : Shape := ⟨3, ![4, 5504, 2048]⟩
abbrev S2048x2048 : Shape := ⟨2, ![2048, 2048]⟩
abbrev S1024x5504 : Shape := ⟨2, ![1024, 5504]⟩
abbrev S1x5504x512 : Shape := ⟨3, ![1, 5504, 512]⟩
abbrev S1024x512 : Shape := ⟨2, ![1024, 512]⟩
abbrev S5504x512 : Shape := ⟨2, ![5504, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5504, .bf16⟩
  | .hbm, ⟨1, _⟩ => ⟨S4x5504x2048, .bf16⟩
  | .hbm, ⟨2, _⟩ => ⟨S2048x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | _, _ => ⟨S2048x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Out2Ideal.lean ====
  let c2_i32 : BitVec 32 := 2#32
  ![c2_i32.toNat, arg2.toNat, arg1.toNat]
-- ==== Out2RefIdeal.lean ====
abbrev S2048x5504 : Shape := ⟨2, ![2048, 5504]⟩
abbrev S4x5504x2048 : Shape := ⟨3, ![4, 5504, 2048]⟩
abbrev S1x5504x2048 : Shape := ⟨3, ![1, 5504, 2048]⟩
abbrev S5504x2048 : Shape := ⟨2, ![5504, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5504, .bf16⟩
  | .hbm, ⟨1, _⟩ => ⟨S4x5504x2048, .bf16⟩
  | .hbm, ⟨2, _⟩ => ⟨S2048x5504, .f32⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S2048x2048, .f32⟩
  | _, _ => ⟨S2048x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Dact3.lean ====
abbrev S2048x2048 : Shape := ⟨2, ![2048, 2048]⟩
abbrev S4x5504x2048 : Shape := ⟨3, ![4, 5504, 2048]⟩
abbrev S2048x5504 : Shape := ⟨2, ![2048, 5504]⟩
abbrev S512x512 : Shape := ⟨2, ![512, 512]⟩
abbrev S1x5504x512 : Shape := ⟨3, ![1, 5504, 512]⟩
abbrev S512x5504 : Shape := ⟨2, ![512, 5504]⟩
abbrev S5504x512 : Shape := ⟨2, ![5504, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x2048, .bf16⟩
  | .hbm, ⟨1, _⟩ => ⟨S4x5504x2048, .bf16⟩
  | .hbm, ⟨2, _⟩ => ⟨S2048x5504, .f32⟩
  | .local _ .vmem, ⟨0, _⟩ => ⟨S512x512, .bf16⟩
  | .local _ .vmem, ⟨1, _⟩ => ⟨S512x512, .bf16⟩
  | .local _ .vmem, ⟨2, _⟩ => ⟨S1x5504x512, .bf16⟩
  | .local _ .vmem, ⟨3, _⟩ => ⟨S1x5504x512, .bf16⟩
  | .local _ .vmem, ⟨4, _⟩ => ⟨S512x5504, .f32⟩
  | .local _ .vmem, ⟨5, _⟩ => ⟨S512x5504, .f32⟩
  | .local _ .vmem, ⟨6, _⟩ => ⟨S512x5504, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dact3RefIdeal.lean ====
abbrev S2048x2048 : Shape := ⟨2, ![2048, 2048]⟩
abbrev S4x5504x2048 : Shape := ⟨3, ![4, 5504, 2048]⟩
abbrev S1x5504x2048 : Shape := ⟨3, ![1, 5504, 2048]⟩
abbrev S5504x2048 : Shape := ⟨2, ![5504, 2048]⟩
abbrev S_ : Shape := ⟨0, ![]⟩
abbrev S2048x5504 : Shape := ⟨2, ![2048, 5504]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x5504x2048, .bf16⟩
  | .hbm, ⟨2, _⟩ => ⟨S2048x2048, .f32⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S_, .f32⟩
  | .hbm, ⟨7, _⟩ => ⟨S2048x5504, .f32⟩
  | .hbm, ⟨8, _⟩ => ⟨S2048x2048, .f32⟩
  | .hbm, ⟨9, _⟩ => ⟨S2048x5504, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Dh3.lean ====
abbrev S2048x11008 : Shape := ⟨2, ![2048, 11008]⟩
abbrev S4x2048x11008 : Shape := ⟨3, ![4, 2048, 11008]⟩
abbrev S2048x2048 : Shape := ⟨2, ![2048, 2048]⟩
abbrev S1024x5504 : Shape := ⟨2, ![1024, 5504]⟩
abbrev S1x512x5504 : Shape := ⟨3, ![1, 512, 5504]⟩
abbrev S1024x512 : Shape := ⟨2, ![1024, 512]⟩
abbrev S512x5504 : Shape := ⟨2, ![512, 5504]⟩

abbrev nBuf : Space → Nat
  | .hbm => 3
  | .vmem => 7
  | .smem => 0
  | _ => 0

abbrev bufTy : (tb : Table) → Fin (tcTables nBuf tb) → BufTy
  | .hbm, ⟨0, _⟩ => ⟨S2048x11008, .bf16⟩
  | .hbm, ⟨1, _⟩ => ⟨S4x2048x11008, .bf16⟩
  | .hbm, ⟨2, _⟩ => ⟨S2048x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x512x5504, .bf16⟩
  | .local _ .vmem, ⟨3, _⟩ => ⟨S1x512x5504, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S2048x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x5504 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh3RefIdeal.lean ====
abbrev S2048x11008 : Shape := ⟨2, ![2048, 11008]⟩
abbrev S4x2048x11008 : Shape := ⟨3, ![4, 2048, 11008]⟩
abbrev S1x2048x11008 : Shape := ⟨3, ![1, 2048, 11008]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x11008, .bf16⟩
  | .hbm, ⟨1, _⟩ => ⟨S4x2048x11008, .bf16⟩
  | .hbm, ⟨2, _⟩ => ⟨S2048x11008, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S_, .f32⟩
  | .hbm, ⟨7, _⟩ => ⟨S2048x2048, .f32⟩
  | .hbm, ⟨8, _⟩ => ⟨S2048x11008, .f32⟩
  | .hbm, ⟨9, _⟩ => ⟨S2048x2048, .f32⟩
  | _, _ => ⟨S2048x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In3.lean ====
abbrev S2048x2048 : Shape := ⟨2, ![2048, 2048]⟩
abbrev S4x2048x11008 : Shape := ⟨3, ![4, 2048, 11008]⟩
abbrev S2048x11008 : Shape := ⟨2, ![2048, 11008]⟩
abbrev S1x2048x256 : Shape := ⟨3, ![1, 2048, 256]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S4x2048x11008, .bf16⟩
  | .hbm, ⟨2, _⟩ => ⟨S2048x11008, .f32⟩
  | .local _ .vmem, ⟨0, _⟩ => ⟨S2048x2048, .bf16⟩
  | .local _ .vmem, ⟨1, _⟩ => ⟨S1x2048x256, .bf16⟩
  | .local _ .vmem, ⟨2, _⟩ => ⟨S1x2048x256, .bf16⟩
  | .local _ .vmem, ⟨3, _⟩ => ⟨S2048x256, .f32⟩
  | .local _ .vmem, ⟨4, _⟩ => ⟨S2048x256, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 43, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== In3RefIdeal.lean ====
abbrev S2048x2048 : Shape := ⟨2, ![2048, 2048]⟩
abbrev S4x2048x11008 : Shape := ⟨3, ![4, 2048, 11008]⟩
abbrev S1x2048x11008 : Shape := ⟨3, ![1, 2048, 11008]⟩
abbrev S2048x11008 : Shape := ⟨2, ![2048, 11008]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S4x2048x11008, .bf16⟩
  | .hbm, ⟨2, _⟩ => ⟨S2048x2048, .f32⟩
  | .hbm, ⟨3, _⟩ => ⟨S1x2048x11008, .bf16⟩
  | .hbm, ⟨4, _⟩ => ⟨S2048x11008, .bf16⟩
  | .hbm, ⟨5, _⟩ => ⟨S2048x11008, .f32⟩
  | .hbm, ⟨6, _⟩ => ⟨S2048x11008, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Out3.lean ====
abbrev S2048x5504 : Shape := ⟨2, ![2048, 5504]⟩
abbrev S4x5504x2048 : Shape := ⟨3, ![4, 5504, 2048]⟩
abbrev S2048x2048 : Shape := ⟨2, ![2048, 2048]⟩
abbrev S1024x5504 : Shape := ⟨2, ![1024, 5504]⟩
abbrev S1x5504x512 : Shape := ⟨3, ![1, 5504, 512]⟩
abbrev S1024x512 : Shape := ⟨2, ![1024, 512]⟩
abbrev S5504x512 : Shape := ⟨2, ![5504, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x5504, .bf16⟩
  | .hbm, ⟨1, _⟩ => ⟨S4x5504x2048, .bf16⟩
  | .hbm, ⟨2, _⟩ => ⟨S2048x2048, .f32⟩
  | .local _ .vmem, ⟨0, _⟩ => ⟨S1024x5504, .bf16⟩
  | .local _ .vmem, ⟨1, _⟩ => ⟨S1024x5504, .bf16⟩
  | .local _ .vmem, ⟨2, _⟩ => ⟨S1x5504x512, .bf16⟩
  | .local _ .vmem, ⟨3, _⟩ => ⟨S1x5504x512, .bf16⟩
  | .local _ .vmem, ⟨4, _⟩ => ⟨S1024x512, .f32⟩
  | .local _ .vmem, ⟨5, _⟩ => ⟨S1024x512, .f32⟩
  | _, _ => ⟨S2048x5504, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5504 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Out3RefIdeal.lean ====
abbrev S2048x5504 : Shape := ⟨2, ![2048, 5504]⟩
abbrev S4x5504x2048 : Shape := ⟨3, ![4, 5504, 2048]⟩
abbrev S1x5504x2048 : Shape := ⟨3, ![1, 5504, 2048]⟩
abbrev S5504x2048 : Shape := ⟨2, ![5504, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x5504, .bf16⟩
  | .hbm, ⟨1, _⟩ => ⟨S4x5504x2048, .bf16⟩
  | .hbm, ⟨2, _⟩ => ⟨S2048x5504, .f32⟩
  | .hbm, ⟨3, _⟩ => ⟨S1x5504x2048, .bf16⟩
  | .hbm, ⟨4, _⟩ => ⟨S5504x2048, .bf16⟩
  | .hbm, ⟨5, _⟩ => ⟨S5504x2048, .f32⟩
  | .hbm, ⟨6, _⟩ => ⟨S2048x2048, .f32⟩
  | _, _ => ⟨S2048x5504, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixDw.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwIdeal.lean ====
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixDwRefIdeal.lean ====
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvDw.lean ====
abbrev S2048x2048 : Shape := ⟨2, ![2048, 2048]⟩
abbrev S2048x5120 : Shape := ⟨2, ![2048, 5120]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x5120, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDwIdeal.lean ====
abbrev S2048x2048 : Shape := ⟨2, ![2048, 2048]⟩
abbrev S2048x5120 : Shape := ⟨2, ![2048, 5120]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x5120, .bf16⟩
  | .local _ .vmem, ⟨0, _⟩ => ⟨S2048x2048, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 10, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDwRefIdeal.lean ====
abbrev S2048x2048 : Shape := ⟨2, ![2048, 2048]⟩
abbrev S2048x5120 : Shape := ⟨2, ![2048, 5120]⟩
abbrev S_ : Shape := ⟨0, ![]⟩
abbrev S5120x2048 : Shape := ⟨2, ![5120, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x5120, .bf16⟩
  | .hbm, ⟨2, _⟩ => ⟨S2048x2048, .f32⟩
  | .hbm, ⟨3, _⟩ => ⟨S2048x5120, .f32⟩
  | .hbm, ⟨4, _⟩ => ⟨S_, .f32⟩
  | .hbm, ⟨5, _⟩ => ⟨S2048x5120, .f32⟩
  | .hbm, ⟨6, _⟩ => ⟨S2048x5120, .f32⟩
  | .hbm, ⟨7, _⟩ => ⟨S5120x2048, .f32⟩
  | .hbm, ⟨8, _⟩ => ⟨S2048x5120, .f32⟩
  | .hbm, ⟨9, _⟩ => ⟨S2048x5120, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OdDw.lean ====
abbrev S2048x2048 : Shape := ⟨2, ![2048, 2048]⟩
abbrev S2048x2304 : Shape := ⟨2, ![2048, 2304]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2304, .bf16⟩
  | .hbm, ⟨2, _⟩ => ⟨S2048x2304, .bf16⟩
  | .local _ .vmem, ⟨0, _⟩ => ⟨S2048x2048, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDwIdeal.lean ====
abbrev S2048x2048 : Shape := ⟨2, ![2048, 2048]⟩
abbrev S2048x2304 : Shape := ⟨2, ![2048, 2304]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2304, .bf16⟩
  | .hbm, ⟨2, _⟩ => ⟨S2048x2304, .bf16⟩
  | .local _ .vmem, ⟨0, _⟩ => ⟨S2048x2048, .bf16⟩
  | .local _ .vmem, ⟨1, _⟩ => ⟨S2048x768, .bf16⟩
  | .local _ .vmem, ⟨2, _⟩ => ⟨S2048x768, .bf16⟩
  | .local _ .vmem, ⟨3, _⟩ => ⟨S2048x768, .bf16⟩
  | .local _ .vmem, ⟨4, _⟩ => ⟨S2048x768, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDwRefIdeal.lean ====
abbrev S2048x2048 : Shape := ⟨2, ![2048, 2048]⟩
abbrev S2048x2304 : Shape := ⟨2, ![2048, 2304]⟩
abbrev S_ : Shape := ⟨0, ![]⟩
abbrev S2304x2048 : Shape := ⟨2, ![2304, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2304, .bf16⟩
  | .hbm, ⟨2, _⟩ => ⟨S2048x2048, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S2304x2048, .f32⟩
  | .hbm, ⟨8, _⟩ => ⟨S2048x2304, .f32⟩
  | .hbm, ⟨9, _⟩ => ⟨S2048x2304, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwIdeal.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GluDwRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S1024x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MixD0.lean ====
abbrev S2048x2048 : Shape := ⟨2, ![2048, 2048]⟩
abbrev S2x2048x2048 : Shape := ⟨3, ![2, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixD0Ideal.lean ====
abbrev S2048x2048 : Shape := ⟨2, ![2048, 2048]⟩
abbrev S2x2048x2048 : Shape := ⟨3, ![2, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixD0RefIdeal.lean ====
abbrev S2048x2048 : Shape := ⟨2, ![2048, 2048]⟩
abbrev S2x2048x2048 : Shape := ⟨3, ![2, 2048, 2048]⟩
abbrev S1x2048x2048 : Shape := ⟨3, ![1, 2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .hbm, ⟨3, _⟩ => ⟨S1x2048x2048, .bf16⟩
  | .hbm, ⟨4, _⟩ => ⟨S2048x2048, .bf16⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvDh0.lean ====
abbrev S2048x5120 : Shape := ⟨2, ![2048, 5120]⟩
abbrev S2x2048x5120 : Shape := ⟨3, ![2, 2048, 5120]⟩
abbrev S2048x2048 : Shape := ⟨2, ![2048, 2048]⟩
abbrev S1024x2560 : Shape := ⟨2, ![1024, 2560]⟩
abbrev S1x1024x2560 : Shape := ⟨3, ![1, 1024, 2560]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S2x2048x5120, .bf16⟩
  | .hbm, ⟨2, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDh0Ideal.lean ====
abbrev S2048x5120 : Shape := ⟨2, ![2048, 5120]⟩
abbrev S2x2048x5120 : Shape := ⟨3, ![2, 2048, 5120]⟩
abbrev S2048x2048 : Shape := ⟨2, ![2048, 2048]⟩
abbrev S1024x2560 : Shape := ⟨2, ![1024, 2560]⟩
abbrev S1x1024x2560 : Shape := ⟨3, ![1, 1024, 2560]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S2x2048x5120, .bf16⟩
  | .hbm, ⟨2, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDh0RefIdeal.lean ====
abbrev S2048x5120 : Shape := ⟨2, ![2048, 5120]⟩
abbrev S2x2048x5120 : Shape := ⟨3, ![2, 2048, 5120]⟩
abbrev S1x2048x5120 : Shape := ⟨3, ![1, 2048, 5120]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2x2048x5120, .bf16⟩
  | .hbm, ⟨2, _⟩ => ⟨S2048x5120, .f32⟩
  | .hbm, ⟨3, _⟩ => ⟨S1x2048x5120, .bf16⟩
  | .hbm, ⟨4, _⟩ => ⟨S2048x5120, .bf16⟩
  | .hbm, ⟨5, _⟩ => ⟨S2048x5120, .f32⟩
  | .hbm, ⟨6, _⟩ => ⟨S_, .f32⟩
  | .hbm, ⟨7, _⟩ => ⟨S2048x2048, .f32⟩
  | .hbm, ⟨8, _⟩ => ⟨S2048x5120, .f32⟩
  | .hbm, ⟨9, _⟩ => ⟨S2048x2048, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OdDh0.lean ====
abbrev S2048x2304 : Shape := ⟨2, ![2048, 2304]⟩
abbrev S2x2048x2304 : Shape := ⟨3, ![2, 2048, 2304]⟩
abbrev S2048x2048 : Shape := ⟨2, ![2048, 2048]⟩
abbrev S1024x2304 : Shape := ⟨2, ![1024, 2304]⟩
abbrev S1x1024x2304 : Shape := ⟨3, ![1, 1024, 2304]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2304, .bf16⟩
  | .hbm, ⟨1, _⟩ => ⟨S2x2048x2304, .bf16⟩
  | .hbm, ⟨2, _⟩ => ⟨S2048x2048, .f32⟩
  | .local _ .vmem, ⟨0, _⟩ => ⟨S1024x2304, .bf16⟩
  | .local _ .vmem, ⟨1, _⟩ => ⟨S1024x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1024x1024, .f32⟩
  | .local _ .vmem, ⟨5, _⟩ => ⟨S1024x1024, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDh0Ideal.lean ====
abbrev S2048x2304 : Shape := ⟨2, ![2048, 2304]⟩
abbrev S2x2048x2304 : Shape := ⟨3, ![2, 2048, 2304]⟩
abbrev S2048x2048 : Shape := ⟨2, ![2048, 2048]⟩
abbrev S1024x2304 : Shape := ⟨2, ![1024, 2304]⟩
abbrev S1x1024x2304 : Shape := ⟨3, ![1, 1024, 2304]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2304, .bf16⟩
  | .hbm, ⟨1, _⟩ => ⟨S2x2048x2304, .bf16⟩
  | .hbm, ⟨2, _⟩ => ⟨S2048x2048, .f32⟩
  | .local _ .vmem, ⟨0, _⟩ => ⟨S1024x2304, .bf16⟩
  | .local _ .vmem, ⟨1, _⟩ => ⟨S1024x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1024x1024, .f32⟩
  | .local _ .vmem, ⟨5, _⟩ => ⟨S1024x1024, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDh0RefIdeal.lean ====
abbrev S2048x2304 : Shape := ⟨2, ![2048, 2304]⟩
abbrev S2x2048x2304 : Shape := ⟨3, ![2, 2048, 2304]⟩
abbrev S1x2048x2304 : Shape := ⟨3, ![1, 2048, 2304]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2304, .bf16⟩
  | .hbm, ⟨1, _⟩ => ⟨S2x2048x2304, .bf16⟩
  | .hbm, ⟨2, _⟩ => ⟨S2048x2304, .f32⟩
  | .hbm, ⟨3, _⟩ => ⟨S1x2048x2304, .bf16⟩
  | .hbm, ⟨4, _⟩ => ⟨S2048x2304, .bf16⟩
  | .hbm, ⟨5, _⟩ => ⟨S2048x2304, .f32⟩
  | .hbm, ⟨6, _⟩ => ⟨S_, .f32⟩
  | .hbm, ⟨7, _⟩ => ⟨S2048x2048, .f32⟩
  | .hbm, ⟨8, _⟩ => ⟨S2048x2304, .f32⟩
  | .hbm, ⟨9, _⟩ => ⟨S2048x2048, .f32⟩
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDz0.lean ====
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDz0Ideal.lean ====
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDz0RefIdeal.lean ====
abbrev S2048x1024 : Shape := ⟨2, ![2048, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvIn0.lean ====
abbrev S2048x2048 : Shape := ⟨2, ![2048, 2048]⟩
abbrev S2x2048x5120 : Shape := ⟨3, ![2, 2048, 5120]⟩
abbrev S2048x5120 : Shape := ⟨2, ![2048, 5120]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5120, .bf16⟩
  | .hbm, ⟨2, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvIn0Ideal.lean ====
abbrev S2048x2048 : Shape := ⟨2, ![2048, 2048]⟩
abbrev S2x2048x5120 : Shape := ⟨3, ![2, 2048, 5120]⟩
abbrev S2048x5120 : Shape := ⟨2, ![2048, 5120]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5120, .bf16⟩
  | .hbm, ⟨2, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvIn0RefIdeal.lean ====
abbrev S2048x2048 : Shape := ⟨2, ![2048, 2048]⟩
abbrev S2x2048x5120 : Shape := ⟨3, ![2, 2048, 5120]⟩
abbrev S1x2048x5120 : Shape := ⟨3, ![1, 2048, 5120]⟩
abbrev S2048x5120 : Shape := ⟨2, ![2048, 5120]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5120, .bf16⟩
  | .hbm, ⟨2, _⟩ => ⟨S2048x2048, .f32⟩
  | .hbm, ⟨3, _⟩ => ⟨S1x2048x5120, .bf16⟩
  | .hbm, ⟨4, _⟩ => ⟨S2048x5120, .bf16⟩
  | .hbm, ⟨5, _⟩ => ⟨S2048x5120, .f32⟩
  | .hbm, ⟨6, _⟩ => ⟨S2048x5120, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OdIn0.lean ====
abbrev S2048x2048 : Shape := ⟨2, ![2048, 2048]⟩
abbrev S2x2048x2304 : Shape := ⟨3, ![2, 2048, 2304]⟩
abbrev S2048x2304 : Shape := ⟨2, ![2048, 2304]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2304, .bf16⟩
  | .hbm, ⟨2, _⟩ => ⟨S2048x2304, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdIn0Ideal.lean ====
abbrev S2048x2048 : Shape := ⟨2, ![2048, 2048]⟩
abbrev S2x2048x2304 : Shape := ⟨3, ![2, 2048, 2304]⟩
abbrev S2048x2304 : Shape := ⟨2, ![2048, 2304]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2304, .bf16⟩
  | .hbm, ⟨2, _⟩ => ⟨S2048x2304, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdIn0RefIdeal.lean ====
abbrev S2048x2048 : Shape := ⟨2, ![2048, 2048]⟩
abbrev S2x2048x2304 : Shape := ⟨3, ![2, 2048, 2304]⟩
abbrev S1x2048x2304 : Shape := ⟨3, ![1, 2048, 2304]⟩
abbrev S2048x2304 : Shape := ⟨2, ![2048, 2304]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2304, .bf16⟩
  | .hbm, ⟨2, _⟩ => ⟨S2048x2048, .f32⟩
  | .hbm, ⟨3, _⟩ => ⟨S1x2048x2304, .bf16⟩
  | .hbm, ⟨4, _⟩ => ⟨S2048x2304, .bf16⟩
  | .hbm, ⟨5, _⟩ => ⟨S2048x2304, .f32⟩
  | .hbm, ⟨6, _⟩ => ⟨S2048x2304, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GluMm0.lean ====
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluMm0Ideal.lean ====
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluMm0RefIdeal.lean ====
abbrev S2048x1024 : Shape := ⟨2, ![2048, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOut0.lean ====
abbrev S2048x2048 : Shape := ⟨2, ![2048, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOut0Ideal.lean ====
abbrev S2048x2048 : Shape := ⟨2, ![2048, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOut0RefIdeal.lean ====
abbrev S2048x2048 : Shape := ⟨2, ![2048, 2048]⟩
abbrev S2x2048x2048 : Shape := ⟨3, ![2, 2048, 2048]⟩
abbrev S1x2048x2048 : Shape := ⟨3, ![1, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .hbm, ⟨3, _⟩ => ⟨S1x2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixD1.lean ====
abbrev S2048x2048 : Shape := ⟨2, ![2048, 2048]⟩
abbrev S2x2048x2048 : Shape := ⟨3, ![2, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixD1Ideal.lean ====
abbrev S2048x2048 : Shape := ⟨2, ![2048, 2048]⟩
abbrev S2x2048x2048 : Shape := ⟨3, ![2, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixD1RefIdeal.lean ====
abbrev S2048x2048 : Shape := ⟨2, ![2048, 2048]⟩
abbrev S2x2048x2048 : Shape := ⟨3, ![2, 2048, 2048]⟩
abbrev S1x2048x2048 : Shape := ⟨3, ![1, 2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .hbm, ⟨3, _⟩ => ⟨S1x2048x2048, .bf16⟩
  | .hbm, ⟨4, _⟩ => ⟨S2048x2048, .bf16⟩
  | .hbm, ⟨5, _⟩ => ⟨S2048x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvDh1.lean ====
abbrev S2048x5120 : Shape := ⟨2, ![2048, 5120]⟩
abbrev S2x2048x5120 : Shape := ⟨3, ![2, 2048, 5120]⟩
abbrev S2048x2048 : Shape := ⟨2, ![2048, 2048]⟩
abbrev S1024x2560 : Shape := ⟨2, ![1024, 2560]⟩
abbrev S1x1024x2560 : Shape := ⟨3, ![1, 1024, 2560]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S2x2048x5120, .bf16⟩
  | .hbm, ⟨2, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDh1Ideal.lean ====
abbrev S2048x5120 : Shape := ⟨2, ![2048, 5120]⟩
abbrev S2x2048x5120 : Shape := ⟨3, ![2, 2048, 5120]⟩
abbrev S2048x2048 : Shape := ⟨2, ![2048, 2048]⟩
abbrev S1024x2560 : Shape := ⟨2, ![1024, 2560]⟩
abbrev S1x1024x2560 : Shape := ⟨3, ![1, 1024, 2560]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2048x5120, .bf16⟩
  | .hbm, ⟨1, _⟩ => ⟨S2x2048x5120, .bf16⟩
  | .hbm, ⟨2, _⟩ => ⟨S2048x2048, .f32⟩
  | .local _ .vmem, ⟨0, _⟩ => ⟨S1024x2560, .bf16⟩
  | .local _ .vmem, ⟨1, _⟩ => ⟨S1024x2560, .bf16⟩
  | .local _ .vmem, ⟨2, _⟩ => ⟨S1x1024x2560, .bf16⟩
  | .local _ .vmem, ⟨3, _⟩ => ⟨S1x1024x2560, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvDh1RefIdeal.lean ====
abbrev S2048x5120 : Shape := ⟨2, ![2048, 5120]⟩
abbrev S2x2048x5120 : Shape := ⟨3, ![2, 2048, 5120]⟩
abbrev S1x2048x5120 : Shape := ⟨3, ![1, 2048, 5120]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x5120, .bf16⟩
  | .hbm, ⟨1, _⟩ => ⟨S2x2048x5120, .bf16⟩
  | .hbm, ⟨2, _⟩ => ⟨S2048x5120, .f32⟩
  | .hbm, ⟨3, _⟩ => ⟨S1x2048x5120, .bf16⟩
  | .hbm, ⟨4, _⟩ => ⟨S2048x5120, .bf16⟩
  | .hbm, ⟨5, _⟩ => ⟨S2048x5120, .f32⟩
  | .hbm, ⟨6, _⟩ => ⟨S_, .f32⟩
  | .hbm, ⟨7, _⟩ => ⟨S2048x2048, .f32⟩
  | .hbm, ⟨8, _⟩ => ⟨S2048x5120, .f32⟩
  | .hbm, ⟨9, _⟩ => ⟨S2048x2048, .f32⟩
  | _, _ => ⟨S2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OdDh1.lean ====
abbrev S2048x2304 : Shape := ⟨2, ![2048, 2304]⟩
abbrev S2x2048x2304 : Shape := ⟨3, ![2, 2048, 2304]⟩
abbrev S2048x2048 : Shape := ⟨2, ![2048, 2048]⟩
abbrev S1024x2304 : Shape := ⟨2, ![1024, 2304]⟩
abbrev S1x1024x2304 : Shape := ⟨3, ![1, 1024, 2304]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2304, .bf16⟩
  | .hbm, ⟨1, _⟩ => ⟨S2x2048x2304, .bf16⟩
  | .hbm, ⟨2, _⟩ => ⟨S2048x2048, .f32⟩
  | .local _ .vmem, ⟨0, _⟩ => ⟨S1024x2304, .bf16⟩
  | .local _ .vmem, ⟨1, _⟩ => ⟨S1024x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1024x1024, .f32⟩
  | .local _ .vmem, ⟨5, _⟩ => ⟨S1024x1024, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDh1Ideal.lean ====
abbrev S2048x2304 : Shape := ⟨2, ![2048, 2304]⟩
abbrev S2x2048x2304 : Shape := ⟨3, ![2, 2048, 2304]⟩
abbrev S2048x2048 : Shape := ⟨2, ![2048, 2048]⟩
abbrev S1024x2304 : Shape := ⟨2, ![1024, 2304]⟩
abbrev S1x1024x2304 : Shape := ⟨3, ![1, 1024, 2304]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2304, .bf16⟩
  | .hbm, ⟨1, _⟩ => ⟨S2x2048x2304, .bf16⟩
  | .hbm, ⟨2, _⟩ => ⟨S2048x2048, .f32⟩
  | .local _ .vmem, ⟨0, _⟩ => ⟨S1024x2304, .bf16⟩
  | .local _ .vmem, ⟨1, _⟩ => ⟨S1024x2304, .bf16⟩
  | .local _ .vmem, ⟨2, _⟩ => ⟨S1x1024x2304, .bf16⟩
  | .local _ .vmem, ⟨3, _⟩ => ⟨S1x1024x2304, .bf16⟩
  | .local _ .vmem, ⟨4, _⟩ => ⟨S1024x1024, .f32⟩
  | .local _ .vmem, ⟨5, _⟩ => ⟨S1024x1024, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdDh1RefIdeal.lean ====
abbrev S2048x2304 : Shape := ⟨2, ![2048, 2304]⟩
abbrev S2x2048x2304 : Shape := ⟨3, ![2, 2048, 2304]⟩
abbrev S1x2048x2304 : Shape := ⟨3, ![1, 2048, 2304]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2048x2304, .bf16⟩
  | .hbm, ⟨1, _⟩ => ⟨S2x2048x2304, .bf16⟩
  | .hbm, ⟨2, _⟩ => ⟨S2048x2304, .f32⟩
  | .hbm, ⟨3, _⟩ => ⟨S1x2048x2304, .bf16⟩
  | .hbm, ⟨4, _⟩ => ⟨S2048x2304, .bf16⟩
  | .hbm, ⟨5, _⟩ => ⟨S2048x2304, .f32⟩
  | .hbm, ⟨6, _⟩ => ⟨S_, .f32⟩
  | .hbm, ⟨7, _⟩ => ⟨S2048x2048, .f32⟩
  | .hbm, ⟨8, _⟩ => ⟨S2048x2304, .f32⟩
  | .hbm, ⟨9, _⟩ => ⟨S2048x2048, .f32⟩
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDz1.lean ====
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDz1Ideal.lean ====
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluDz1RefIdeal.lean ====
abbrev S2048x1024 : Shape := ⟨2, ![2048, 1024]⟩
abbrev S2x1024x1024 : Shape := ⟨3, ![2, 1024, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== EvIn1.lean ====
abbrev S2048x2048 : Shape := ⟨2, ![2048, 2048]⟩
abbrev S2x2048x5120 : Shape := ⟨3, ![2, 2048, 5120]⟩
abbrev S2048x5120 : Shape := ⟨2, ![2048, 5120]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5120, .bf16⟩
  | .hbm, ⟨2, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvIn1Ideal.lean ====
abbrev S2048x2048 : Shape := ⟨2, ![2048, 2048]⟩
abbrev S2x2048x5120 : Shape := ⟨3, ![2, 2048, 5120]⟩
abbrev S2048x5120 : Shape := ⟨2, ![2048, 5120]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x5120, .bf16⟩
  | .hbm, ⟨2, _⟩ => ⟨S2048x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== EvIn1RefIdeal.lean ====
abbrev S2048x2048 : Shape := ⟨2, ![2048, 2048]⟩
abbrev S2x2048x5120 : Shape := ⟨3, ![2, 2048, 5120]⟩
abbrev S1x2048x5120 : Shape := ⟨3, ![1, 2048, 5120]⟩
abbrev S2048x5120 : Shape := ⟨2, ![2048, 5120]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x5120, .bf16⟩
  | .hbm, ⟨2, _⟩ => ⟨S2048x2048, .f32⟩
  | .hbm, ⟨3, _⟩ => ⟨S1x2048x5120, .bf16⟩
  | .hbm, ⟨4, _⟩ => ⟨S2048x5120, .bf16⟩
  | .hbm, ⟨5, _⟩ => ⟨S2048x5120, .f32⟩
  | .hbm, ⟨6, _⟩ => ⟨S2048x5120, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OdIn1.lean ====
abbrev S2048x2048 : Shape := ⟨2, ![2048, 2048]⟩
abbrev S2x2048x2304 : Shape := ⟨3, ![2, 2048, 2304]⟩
abbrev S2048x2304 : Shape := ⟨2, ![2048, 2304]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2304, .bf16⟩
  | .hbm, ⟨2, _⟩ => ⟨S2048x2304, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdIn1Ideal.lean ====
abbrev S2048x2048 : Shape := ⟨2, ![2048, 2048]⟩
abbrev S2x2048x2304 : Shape := ⟨3, ![2, 2048, 2304]⟩
abbrev S2048x2304 : Shape := ⟨2, ![2048, 2304]⟩
abbrev S1024x2048 : Shape := ⟨2, ![1024, 2048]⟩
abbrev S1x2048x768 : Shape := ⟨3, ![1, 2048, 768]⟩
abbrev S1024x768 : Shape := ⟨2, ![1024, 768]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2304, .bf16⟩
  | .hbm, ⟨2, _⟩ => ⟨S2048x2304, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x768, .f32⟩
  | .local _ .vmem, ⟨5, _⟩ => ⟨S1024x768, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OdIn1RefIdeal.lean ====
abbrev S2048x2048 : Shape := ⟨2, ![2048, 2048]⟩
abbrev S2x2048x2304 : Shape := ⟨3, ![2, 2048, 2304]⟩
abbrev S1x2048x2304 : Shape := ⟨3, ![1, 2048, 2304]⟩
abbrev S2048x2304 : Shape := ⟨2, ![2048, 2304]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2304, .bf16⟩
  | .hbm, ⟨2, _⟩ => ⟨S2048x2048, .f32⟩
  | .hbm, ⟨3, _⟩ => ⟨S1x2048x2304, .bf16⟩
  | .hbm, ⟨4, _⟩ => ⟨S2048x2304, .bf16⟩
  | .hbm, ⟨5, _⟩ => ⟨S2048x2304, .f32⟩
  | .hbm, ⟨6, _⟩ => ⟨S2048x2304, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GluMm1.lean ====
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluMm1Ideal.lean ====
abbrev S2048x1024 : Shape := ⟨2, ![2048, 1024]⟩
abbrev S2x1024x1024 : Shape := ⟨3, ![2, 1024, 1024]⟩
abbrev S1024x1024 : Shape := ⟨2, ![1024, 1024]⟩
abbrev S1x1024x1024 : Shape := ⟨3, ![1, 1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== GluMm1RefIdeal.lean ====
abbrev S2048x1024 : Shape := ⟨2, ![2048, 1024]⟩
abbrev S2x1024x1024 : Shape := ⟨3, ![2, 1024, 1024]⟩
abbrev S1x1024x1024 : Shape := ⟨3, ![1, 1024, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x1024x1024, .bf16⟩
  | .hbm, ⟨2, _⟩ => ⟨S2048x1024, .f32⟩
  | .hbm, ⟨3, _⟩ => ⟨S1x1024x1024, .bf16⟩
  | .hbm, ⟨4, _⟩ => ⟨S1024x1024, .bf16⟩
  | .hbm, ⟨5, _⟩ => ⟨S1024x1024, .f32⟩
  | .hbm, ⟨6, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixOut1.lean ====
abbrev S2048x2048 : Shape := ⟨2, ![2048, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOut1Ideal.lean ====
abbrev S2048x2048 : Shape := ⟨2, ![2048, 2048]⟩
abbrev S2x2048x2048 : Shape := ⟨3, ![2, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MixOut1RefIdeal.lean ====
abbrev S2048x2048 : Shape := ⟨2, ![2048, 2048]⟩
abbrev S2x2048x2048 : Shape := ⟨3, ![2, 2048, 2048]⟩
abbrev S1x2048x2048 : Shape := ⟨3, ![1, 2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2x2048x2048, .bf16⟩
  | .hbm, ⟨2, _⟩ => ⟨S2048x2048, .f32⟩
  | .hbm, ⟨3, _⟩ => ⟨S1x2048x2048, .bf16⟩
  | .hbm, ⟨4, _⟩ => ⟨S2048x2048, .bf16⟩
  | .hbm, ⟨5, _⟩ => ⟨S2048x2048, .f32⟩
  | .hbm, ⟨6, _⟩ => ⟨S2048x2048, .f32⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Attn.lean ====
abbrev S2x8x2048x64 : Shape := ⟨4, ![2, 8, 2048, 64]⟩
abbrev S2x2048x64 : Shape := ⟨3, ![2, 2048, 64]⟩
abbrev S1x8x128x64 : Shape := ⟨4, ![1, 8, 128, 64]⟩
abbrev S1x128x64 : Shape := ⟨3, ![1, 128, 64]⟩
abbrev S8x128x64 : Shape := ⟨3, ![8, 128, 64]⟩
abbrev S1024x64 : Shape := ⟨2, ![1024, 64]⟩
abbrev S128x64 : Shape := ⟨2, ![128, 64]⟩
abbrev S1024x128 : Shape := ⟨2, ![1024, 128]⟩
abbrev S1024 : Shape := ⟨1, ![1024]⟩
abbrev S1024x1 : Shape := ⟨2, ![1024, 1]⟩

abbrev nBuf : Space → Nat
  | .hbm => 10
  | .vmem => 44
  | .smem => 0
  | _ => 0

abbrev bufTy : (tb : Table) → Fin (tcTables nBuf tb) → BufTy
  | .hbm, ⟨0, _⟩ => ⟨S2x8x2048x64, .bf16⟩
  | .hbm, ⟨1, _⟩ => ⟨S2x2048x64, .bf16⟩
  | .hbm, ⟨2, _⟩ => ⟨S2x2048x64, .bf16⟩
  | .hbm, ⟨3, _⟩ => ⟨S2x8x2048x64, .bf16⟩
  | .hbm, ⟨4, _⟩ => ⟨S2x8x2048x64, .f32⟩
  | .hbm, ⟨5, _⟩ => ⟨S2x8x2048x64, .f32⟩
  | .hbm, ⟨6, _⟩ => ⟨S2x8x2048x64, .f32⟩
  | .hbm, ⟨7, _⟩ => ⟨S2x8x2048x64, .f32⟩
  | .hbm, ⟨8, _⟩ => ⟨S2x2048x64, .f32⟩
  | .hbm, ⟨9, _⟩ => ⟨S2x2048x64, .f32⟩
  | .local _ .vmem, ⟨0, _⟩ => ⟨S1x8x128x64, .bf16⟩
  | .local _ .vmem, ⟨1, _⟩ => ⟨S1x8x128x64, .bf16⟩
  | .local _ .vmem, ⟨2, _⟩ => ⟨S1x128x64, .bf16⟩
  | .local _ .vmem, ⟨3, _⟩ => ⟨S1x128x64, .bf16⟩
  | .local _ .vmem, ⟨4, _⟩ => ⟨S1x128x64, .bf16⟩
  | .local _ .vmem, ⟨5, _⟩ => ⟨S1x128x64, .bf16⟩
  | .local _ .vmem, ⟨6, _⟩ => ⟨S1x128x64, .bf16⟩
  | .local _ .vmem, ⟨7, _⟩ => ⟨S1x128x64, .bf16⟩
  | .local _ .vmem, ⟨8, _⟩ => ⟨S1x128x64, .bf16⟩
  | .local _ .vmem, ⟨9, _⟩ => ⟨S1x128x64, .bf16⟩
  | .local _ .vmem, ⟨10, _⟩ => ⟨S1x8x128x64, .f32⟩
  | .local _ .vmem, ⟨11, _⟩ => ⟨S1x8x128x64, .f32⟩
  | .local _ .vmem, ⟨12, _⟩ => ⟨S1x8x128x64, .f32⟩
  | .local _ .vmem, ⟨13, _⟩ => ⟨S1x8x128x64, .f32⟩
  | .local _ .vmem, ⟨14, _⟩ => ⟨S1x8x128x64, .bf16⟩
  | .local _ .vmem, ⟨15, _⟩ => ⟨S1x8x128x64, .bf16⟩
  | .local _ .vmem, ⟨16, _⟩ => ⟨S1x8x128x64, .bf16⟩
  | .local _ .vmem, ⟨17, _⟩ => ⟨S1x8x128x64, .bf16⟩
  | .local _ .vmem, ⟨18, _⟩ => ⟨S1x128x64, .bf16⟩
  | .local _ .vmem, ⟨19, _⟩ => ⟨S1x128x64, .bf16⟩
  | .local _ .vmem, ⟨20, _⟩ => ⟨S1x128x64, .bf16⟩
  | .local _ .vmem, ⟨21, _⟩ => ⟨S1x128x64, .bf16⟩
  | .local _ .vmem, ⟨22, _⟩ => ⟨S1x128x64, .bf16⟩
  | .local _ .vmem, ⟨23, _⟩ => ⟨S1x128x64, .bf16⟩
  | .local _ .vmem, ⟨24, _⟩ => ⟨S1x128x64, .bf16⟩
  | .local _ .vmem, ⟨25, _⟩ => ⟨S1x128x64, .bf16⟩
  | .local _ .vmem, ⟨26, _⟩ => ⟨S1x8x128x64, .bf16⟩
  | .local _ .vmem, ⟨27, _⟩ => ⟨S1x8x128x64, .bf16⟩
  | .local _ .vmem, ⟨28, _⟩ => ⟨S1x8x128x64, .bf16⟩
  | .local _ .vmem, ⟨29, _⟩ => ⟨S1x8x128x64, .bf16⟩
  | .local _ .vmem, ⟨30, _⟩ => ⟨S1x8x128x64, .f32⟩
  | .local _ .vmem, ⟨31, _⟩ => ⟨S1x8x128x64, .f32⟩
  | .local _ .vmem, ⟨32, _⟩ => ⟨S1x8x128x64, .f32⟩
  | .local _ .vmem, ⟨33, _⟩ => ⟨S1x8x128x64, .f32⟩
  | .local _ .vmem, ⟨34, _⟩ => ⟨S1x8x128x64, .f32⟩
  | .local _ .vmem, ⟨35, _⟩ => ⟨S1x8x128x64, .f32⟩
  | .local _ .vmem, ⟨36, _⟩ => ⟨S1x8x128x64, .f32⟩
  | .local _ .vmem, ⟨37, _⟩ => ⟨S1x8x128x64, .f32⟩
  | .local _ .vmem, ⟨38, _⟩ => ⟨S1x8x128x64, .f32⟩
  | .local _ .vmem, ⟨39, _⟩ => ⟨S1x8x128x64, .f32⟩
  | .local _ .vmem, ⟨40, _⟩ => ⟨S1x128x64, .f32⟩
  | .local _ .vmem, ⟨41, _⟩ => ⟨S1x128x64, .f32⟩
  | .local _ .vmem, ⟨42, _⟩ => ⟨S1x128x64, .f32⟩
  | .local _ .vmem, ⟨43, _⟩ => ⟨S1x128x64, .f32⟩
  | _, _ => ⟨S2x8x2048x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_stg7_0 : Ref sig .tc := ⟨.vmem, 28, rfl⟩
abbrev cc1_stg7_1 : Ref sig .tc := ⟨.vmem, 29, rfl⟩
abbrev cc1_stg8_0 : Ref sig .tc := ⟨.vmem, 30, rfl⟩
abbrev cc1_stg8_1 : Ref sig .tc := ⟨.vmem, 31, rfl⟩
abbrev cc1_stg9_0 : Ref sig .tc := ⟨.vmem, 32, rfl⟩
abbrev cc1_stg9_1 : Ref sig .tc := ⟨.vmem, 33, rfl⟩
abbrev cc1_stg10_0 : Ref sig .tc := ⟨.vmem, 34, rfl⟩
abbrev cc1_stg10_1 : Ref sig .tc := ⟨.vmem, 35, rfl⟩
abbrev cc1_stg11_0 : Ref sig .tc := ⟨.vmem, 36, rfl⟩
abbrev cc1_stg11_1 : Ref sig .tc := ⟨.vmem, 37, rfl⟩
abbrev cc1_stg12_0 : Ref sig .tc := ⟨.vmem, 38, rfl⟩
abbrev cc1_stg12_1 : Ref sig .tc := ⟨.vmem, 39, rfl⟩
abbrev cc1_stg13_0 : Ref sig .tc := ⟨.vmem, 40, rfl⟩
abbrev cc1_stg13_1 : Ref sig .tc := ⟨.vmem, 41, rfl⟩
abbrev cc1_stg14_0 : Ref sig .tc := ⟨.vmem, 42, rfl⟩
abbrev cc1_stg14_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc1_sem7_0 : DmaSem sig := 28
abbrev cc1_sem7_1 : DmaSem sig := 29
abbrev cc1_sem8_0 : DmaSem sig := 30
abbrev cc1_sem8_1 : DmaSem sig := 31
abbrev cc1_sem9_0 : DmaSem sig := 32
abbrev cc1_sem9_1 : DmaSem sig := 33
abbrev cc1_sem10_0 : DmaSem sig := 34
abbrev cc1_sem10_1 : DmaSem sig := 35
abbrev cc1_sem11_0 : DmaSem sig := 36
abbrev cc1_sem11_1 : DmaSem sig := 37
abbrev cc1_sem12_0 : DmaSem sig := 38
abbrev cc1_sem12_1 : DmaSem sig := 39
abbrev cc1_sem13_0 : DmaSem sig := 40
abbrev cc1_sem13_1 : DmaSem sig := 41
abbrev cc1_sem14_0 : DmaSem sig := 42
abbrev cc1_sem14_1 : DmaSem sig := 43

abbrev nD : Nat := 1
abbrev τ : Topo := Topo.v7x

variable {F : FTy → Type} [FloatOps F]

abbrev grid0 : Pipeline.Grid := ⟨2, ![2, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x8x128x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x128x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x128x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![2, 16], ![false, false]⟩

def cc1_transform_0 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_1 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, v1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_5 (i : grid1.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc1_transform_6 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_7 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, v1.toNat, c0_i32_0.toNat]

def cc1_transform_8 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_9 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, v1.toNat, c0_i32_0.toNat]

def cc1_transform_10 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_11 (i : grid1.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![arg0.toNat, c0_i32.toNat, v1.toNat, c0_i32_0.toNat]

def cc1_transform_12 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_13 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x8x128x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8x128x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x128x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x128x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x8x128x64 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1x8x128x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x8x128x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S1x8x128x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S1x8x128x64 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S1x8x128x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S1x8x128x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S1x128x64 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]

abbrev stage1_14 : Fin 2 → Memref sig .tc .vmem S1x128x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]
-- ==== AttnIdeal.lean ====
variable {F : FTy → Type} [FloatOps F] [Named F]
def κ : String → Option EReal := fun
  | "mask" => some ⊥
  | _ => none
-- ==== AttnRefIdeal.lean ====
abbrev S2x8x2048x64 : Shape := ⟨4, ![2, 8, 2048, 64]⟩
abbrev S2x2048x64 : Shape := ⟨3, ![2, 2048, 64]⟩
abbrev S2x8x2048x2048 : Shape := ⟨4, ![2, 8, 2048, 2048]⟩
abbrev S_ : Shape := ⟨0, ![]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S2x8x2048 : Shape := ⟨3, ![2, 8, 2048]⟩
abbrev S2x8x2048x1 : Shape := ⟨4, ![2, 8, 2048, 1]⟩
abbrev S2x64x2048 : Shape := ⟨3, ![2, 64, 2048]⟩

abbrev nBuf : Space → Nat
  | .hbm => 94
  | .vmem => 0
  | .smem => 0
  | _ => 0

abbrev bufTy : (tb : Table) → Fin (tcTables nBuf tb) → BufTy
  | .hbm, ⟨0, _⟩ => ⟨S2x8x2048x64, .bf16⟩
  | .hbm, ⟨1, _⟩ => ⟨S2x2048x64, .bf16⟩
  | .hbm, ⟨2, _⟩ => ⟨S2x2048x64, .bf16⟩
  | .hbm, ⟨3, _⟩ => ⟨S2x8x2048x64, .bf16⟩
  | .hbm, ⟨4, _⟩ => ⟨S2x8x2048x64, .f32⟩
  | .hbm, ⟨5, _⟩ => ⟨S2x8x2048x64, .f32⟩
  | .hbm, ⟨6, _⟩ => ⟨S2x2048x64, .f32⟩
  | .hbm, ⟨7, _⟩ => ⟨S2x2048x64, .f32⟩
  | .hbm, ⟨8, _⟩ => ⟨S2x8x2048x2048, .f32⟩
  | .hbm, ⟨9, _⟩ => ⟨S_, .f32⟩
  | .hbm, ⟨10, _⟩ => ⟨S2x8x2048x2048, .f32⟩
  | .hbm, ⟨11, _⟩ => ⟨S2x8x2048x2048, .f32⟩
  | .hbm, ⟨12, _⟩ => ⟨S2048, .i32⟩
  | .hbm, ⟨13, _⟩ => ⟨S2048x1, .i32⟩
  | .hbm, ⟨14, _⟩ => ⟨S2048, .i32⟩
  | .hbm, ⟨15, _⟩ => ⟨S1x2048, .i32⟩
  | .hbm, ⟨16, _⟩ => ⟨S2048x2048, .i32⟩
  | .hbm, ⟨17, _⟩ => ⟨S2048x2048, .i32⟩
  | .hbm, ⟨18, _⟩ => ⟨S2048x2048, .i32⟩
  | .hbm, ⟨19, _⟩ => ⟨S_, .i32⟩
  | .hbm, ⟨20, _⟩ => ⟨S2048x2048, .i32⟩
  | .hbm, ⟨21, _⟩ => ⟨S2048x2048, .i1⟩
  | .hbm, ⟨22, _⟩ => ⟨S_, .i32⟩
  | .hbm, ⟨23, _⟩ => ⟨S2048x2048, .i32⟩
  | .hbm, ⟨24, _⟩ => ⟨S2048x2048, .i1⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S2x8x2048x2048, .i1⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048x2048, .f32⟩
  | .hbm, ⟨33, _⟩ => ⟨S_, .f32⟩
  | .hbm, ⟨34, _⟩ => ⟨S2x8x2048, .f32⟩
  | .hbm, ⟨35, _⟩ => ⟨S2x8x2048x1, .f32⟩
  | .hbm, ⟨36, _⟩ => ⟨S2x8x2048x2048, .f32⟩
  | .hbm, ⟨37, _⟩ => ⟨S2x8x2048x2048, .i1⟩
  | .hbm, ⟨38, _⟩ => ⟨S2x8x2048x2048, .f32⟩
  | .hbm, ⟨39, _⟩ => ⟨S_, .f32⟩
  | .hbm, ⟨40, _⟩ => ⟨S2x8x2048, .f32⟩
  | .hbm, ⟨41, _⟩ => ⟨S2x8x2048x1, .f32⟩
  | .hbm, ⟨42, _⟩ => ⟨S2x8x2048x2048, .f32⟩
  | .hbm, ⟨43, _⟩ => ⟨S2x8x2048x2048, .f32⟩
  | .hbm, ⟨44, _⟩ => ⟨S2x8x2048x2048, .f32⟩
  | .hbm, ⟨45, _⟩ => ⟨S_, .f32⟩
  | .hbm, ⟨46, _⟩ => ⟨S2x8x2048, .f32⟩
  | .hbm, ⟨47, _⟩ => ⟨S2x8x2048x64, .f32⟩
  | .hbm, ⟨48, _⟩ => ⟨S2x8x2048x1, .f32⟩
  | .hbm, ⟨49, _⟩ => ⟨S2x8x2048x64, .f32⟩
  | .hbm, ⟨50, _⟩ => ⟨S2x8x2048x64, .f32⟩
  | .hbm, ⟨51, _⟩ => ⟨S2x8x2048x1, .f32⟩
  | .hbm, ⟨52, _⟩ => ⟨S_, .f32⟩
  | .hbm, ⟨53, _⟩ => ⟨S2x8x2048x1, .f32⟩
  | .hbm, ⟨54, _⟩ => ⟨S2x8x2048x1, .f32⟩
  | .hbm, ⟨55, _⟩ => ⟨S2x8x2048, .f32⟩
  | .hbm, ⟨56, _⟩ => ⟨S2x8x2048, .f32⟩
  | .hbm, ⟨57, _⟩ => ⟨S2x8x2048, .f32⟩
  | .hbm, ⟨58, _⟩ => ⟨S2x8x2048x64, .f32⟩
  | .hbm, ⟨59, _⟩ => ⟨S2x8x2048x64, .f32⟩
  | .hbm, ⟨60, _⟩ => ⟨S_, .f32⟩
  | .hbm, ⟨61, _⟩ => ⟨S2x8x2048, .f32⟩
  | .hbm, ⟨62, _⟩ => ⟨S2x8x2048x1, .f32⟩
  | .hbm, ⟨63, _⟩ => ⟨S2x8x2048, .f32⟩
  | .hbm, ⟨64, _⟩ => ⟨S2x8x2048, .f32⟩
  | .hbm, ⟨65, _⟩ => ⟨S2x8x2048, .f32⟩
  | .hbm, ⟨66, _⟩ => ⟨S2x8x2048x64, .f32⟩
  | .hbm, ⟨67, _⟩ => ⟨S2x8x2048x64, .f32⟩
  | .hbm, ⟨68, _⟩ => ⟨S2x8x2048x64, .f32⟩
  | .hbm, ⟨69, _⟩ => ⟨S_, .f32⟩
  | .hbm, ⟨70, _⟩ => ⟨S2x8x2048, .f32⟩
  | .hbm, ⟨71, _⟩ => ⟨S2x8x2048x1, .f32⟩
  | .hbm, ⟨72, _⟩ => ⟨S2x8x2048x1, .f32⟩
  | .hbm, ⟨73, _⟩ => ⟨S2x8x2048x64, .f32⟩
  | .hbm, ⟨74, _⟩ => ⟨S2x8x2048x64, .f32⟩
  | .hbm, ⟨75, _⟩ => ⟨S_, .f32⟩
  | .hbm, ⟨76, _⟩ => ⟨S2x8x2048, .f32⟩
  | .hbm, ⟨77, _⟩ => ⟨S2x8x2048, .f32⟩
  | .hbm, ⟨78, _⟩ => ⟨S2x64x2048, .f32⟩
  | .hbm, ⟨79, _⟩ => ⟨S2x2048x64, .f32⟩
  | .hbm, ⟨80, _⟩ => ⟨S2x8x2048x2048, .f32⟩
  | .hbm, ⟨81, _⟩ => ⟨S2x8x2048x2048, .f32⟩
  | .hbm, ⟨82, _⟩ => ⟨S2x8x2048x2048, .f32⟩
  | .hbm, ⟨83, _⟩ => ⟨S2x8x2048x2048, .f32⟩
  | .hbm, ⟨84, _⟩ => ⟨S_, .f32⟩
  | .hbm, ⟨85, _⟩ => ⟨S2x8x2048x2048, .f32⟩
  | .hbm, ⟨86, _⟩ => ⟨S2x8x2048x2048, .f32⟩
  | .hbm, ⟨87, _⟩ => ⟨S_, .f32⟩
  | .hbm, ⟨88, _⟩ => ⟨S2x8x2048x2048, .f32⟩
  | .hbm, ⟨89, _⟩ => ⟨S2x8x2048x2048, .f32⟩
  | .hbm, ⟨90, _⟩ => ⟨S2x2048x64, .f32⟩
  | .hbm, ⟨91, _⟩ => ⟨S2x8x2048x64, .f32⟩
  | .hbm, ⟨92, _⟩ => ⟨S2x8x2048x1, .f32⟩
  | .hbm, ⟨93, _⟩ => ⟨S2x8x2048x64, .f32⟩
  | _, _ => ⟨S2x8x2048x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call0_v0 : Ref sig .tc := ⟨.hbm, 27, rfl⟩
abbrev main_v18_1 : Ref sig .tc := ⟨.hbm, 28, rfl⟩
abbrev main_call0_v2 : Ref sig .tc := ⟨.hbm, 29, rfl⟩
abbrev main_v18_0 : Ref sig .tc := ⟨.hbm, 30, rfl⟩
abbrev main_call0_cst : Ref sig .tc := ⟨.hbm, 31, rfl⟩
abbrev main_v18_2 : Ref sig .tc := ⟨.hbm, 32, rfl⟩
abbrev main_cst_2 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_7 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_8 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_call1_cst : Ref sig .tc := ⟨.hbm, 84, rfl⟩
abbrev main_call1_v0 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩

abbrev nD : Nat := 1
abbrev τ : Topo := Topo.v7x

variable {F : FTy → Type} [FloatOps F]
-- ==== AdaDw.lean ====
abbrev S8x2048 : Shape := ⟨2, ![8, 2048]⟩
abbrev S8x3072 : Shape := ⟨2, ![8, 3072]⟩
abbrev S2048x3072 : Shape := ⟨2, ![2048, 3072]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S2048x512, .f32⟩
  | .local _ .vmem, ⟨4, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwIdeal.lean ====
abbrev S8x2048 : Shape := ⟨2, ![8, 2048]⟩
abbrev S8x3072 : Shape := ⟨2, ![8, 3072]⟩
abbrev S2048x3072 : Shape := ⟨2, ![2048, 3072]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .local _ .vmem, ⟨0, _⟩ => ⟨S8x2048, .f32⟩
  | .local _ .vmem, ⟨1, _⟩ => ⟨S8x512, .f32⟩
  | .local _ .vmem, ⟨2, _⟩ => ⟨S8x512, .f32⟩
  | .local _ .vmem, ⟨3, _⟩ => ⟨S2048x512, .f32⟩
  | .local _ .vmem, ⟨4, _⟩ => ⟨S2048x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AdaDwRefIdeal.lean ====
abbrev S8x2048 : Shape := ⟨2, ![8, 2048]⟩
abbrev S8x3072 : Shape := ⟨2, ![8, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S_, .f32⟩
  | .hbm, ⟨3, _⟩ => ⟨S2048x3072, .f32⟩
  | .hbm, ⟨4, _⟩ => ⟨S8x3072, .f32⟩
  | .hbm, ⟨5, _⟩ => ⟨S3072x2048, .f32⟩
  | .hbm, ⟨6, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Mod0.lean ====
abbrev S8x2048 : Shape := ⟨2, ![8, 2048]⟩
abbrev S4x2048x3072 : Shape := ⟨3, ![4, 2048, 3072]⟩
abbrev S8x3072 : Shape := ⟨2, ![8, 3072]⟩
abbrev S1x2048x512 : Shape := ⟨3, ![1, 2048, 512]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S8x3072, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S8x512, .f32⟩
  | .local _ .vmem, ⟨4, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mod0Ideal.lean ====
  let c0_i32_0 : BitVec 32 := 0#32
  ![c0_i32.toNat, arg2.toNat, arg1.toNat]
-- ==== Mod0RefIdeal.lean ====
abbrev S8x2048 : Shape := ⟨2, ![8, 2048]⟩
abbrev S4x2048x3072 : Shape := ⟨3, ![4, 2048, 3072]⟩
abbrev S1x2048x3072 : Shape := ⟨3, ![1, 2048, 3072]⟩
abbrev S2048x3072 : Shape := ⟨2, ![2048, 3072]⟩
abbrev S8x3072 : Shape := ⟨2, ![8, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S1x2048x3072, .f32⟩
  | .hbm, ⟨3, _⟩ => ⟨S2048x3072, .f32⟩
  | .hbm, ⟨4, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mod1.lean ====
abbrev S8x2048 : Shape := ⟨2, ![8, 2048]⟩
abbrev S4x2048x3072 : Shape := ⟨3, ![4, 2048, 3072]⟩
abbrev S8x3072 : Shape := ⟨2, ![8, 3072]⟩
abbrev S1x2048x512 : Shape := ⟨3, ![1, 2048, 512]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S8x3072, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S8x512, .f32⟩
  | .local _ .vmem, ⟨4, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mod1Ideal.lean ====
  let c1_i32 : BitVec 32 := 1#32
  ![c1_i32.toNat, arg2.toNat, arg1.toNat]
-- ==== Mod1RefIdeal.lean ====
abbrev S8x2048 : Shape := ⟨2, ![8, 2048]⟩
abbrev S4x2048x3072 : Shape := ⟨3, ![4, 2048, 3072]⟩
abbrev S1x2048x3072 : Shape := ⟨3, ![1, 2048, 3072]⟩
abbrev S2048x3072 : Shape := ⟨2, ![2048, 3072]⟩
abbrev S8x3072 : Shape := ⟨2, ![8, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S1x2048x3072, .f32⟩
  | .hbm, ⟨3, _⟩ => ⟨S2048x3072, .f32⟩
  | .hbm, ⟨4, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mod2.lean ====
abbrev S8x2048 : Shape := ⟨2, ![8, 2048]⟩
abbrev S4x2048x3072 : Shape := ⟨3, ![4, 2048, 3072]⟩
abbrev S8x3072 : Shape := ⟨2, ![8, 3072]⟩
abbrev S1x2048x512 : Shape := ⟨3, ![1, 2048, 512]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S8x3072, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S8x512, .f32⟩
  | .local _ .vmem, ⟨4, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![c2_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mod2Ideal.lean ====
  let c2_i32 : BitVec 32 := 2#32
  ![c2_i32.toNat, arg2.toNat, arg1.toNat]
-- ==== Mod2RefIdeal.lean ====
abbrev S8x2048 : Shape := ⟨2, ![8, 2048]⟩
abbrev S4x2048x3072 : Shape := ⟨3, ![4, 2048, 3072]⟩
abbrev S1x2048x3072 : Shape := ⟨3, ![1, 2048, 3072]⟩
abbrev S2048x3072 : Shape := ⟨2, ![2048, 3072]⟩
abbrev S8x3072 : Shape := ⟨2, ![8, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S1x2048x3072, .f32⟩
  | .hbm, ⟨3, _⟩ => ⟨S2048x3072, .f32⟩
  | .hbm, ⟨4, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Mod3.lean ====
abbrev S8x2048 : Shape := ⟨2, ![8, 2048]⟩
abbrev S4x2048x3072 : Shape := ⟨3, ![4, 2048, 3072]⟩
abbrev S8x3072 : Shape := ⟨2, ![8, 3072]⟩
abbrev S1x2048x512 : Shape := ⟨3, ![1, 2048, 512]⟩
abbrev S8x512 : Shape := ⟨2, ![8, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S8x3072, .f32⟩
  | .local _ .vmem, ⟨0, _⟩ => ⟨S8x2048, .f32⟩
  | .local _ .vmem, ⟨1, _⟩ => ⟨S1x2048x512, .f32⟩
  | .local _ .vmem, ⟨2, _⟩ => ⟨S1x2048x512, .f32⟩
  | .local _ .vmem, ⟨3, _⟩ => ⟨S8x512, .f32⟩
  | .local _ .vmem, ⟨4, _⟩ => ⟨S8x512, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 6, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  ![c3_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Mod3RefIdeal.lean ====
abbrev S8x2048 : Shape := ⟨2, ![8, 2048]⟩
abbrev S4x2048x3072 : Shape := ⟨3, ![4, 2048, 3072]⟩
abbrev S1x2048x3072 : Shape := ⟨3, ![1, 2048, 3072]⟩
abbrev S2048x3072 : Shape := ⟨2, ![2048, 3072]⟩
abbrev S8x3072 : Shape := ⟨2, ![8, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x3072, .f32⟩
  | .hbm, ⟨2, _⟩ => ⟨S1x2048x3072, .f32⟩
  | .hbm, ⟨3, _⟩ => ⟨S2048x3072, .f32⟩
  | .hbm, ⟨4, _⟩ => ⟨S8x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Silu.lean ====
abbrev S8x2048 : Shape := ⟨2, ![8, 2048]⟩

abbrev nBuf : Space → Nat
  | .hbm => 2
  | .vmem => 2
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .local _ .vmem, ⟨0, _⟩ => ⟨S8x2048, .f32⟩
  | .local _ .vmem, ⟨1, _⟩ => ⟨S8x2048, .f32⟩
  | _, _ => ⟨S8x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SiluRefIdeal.lean ====
abbrev S8x2048 : Shape := ⟨2, ![8, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2048, .f32⟩
  | .hbm, ⟨2, _⟩ => ⟨S8x2048, .f32⟩
  | .hbm, ⟨3, _⟩ => ⟨S_, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S8x2048, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_v1 : Ref sig .tc := ⟨.hbm, 2, rfl⟩
abbrev main_call0_cst : Ref sig .tc := ⟨.hbm, 3, rfl⟩
abbrev main_call0_v2 : Ref sig .tc := ⟨.hbm, 4, rfl⟩
abbrev main_call0_v3 : Ref sig .tc := ⟨.hbm, 5, rfl⟩
abbrev main_call0_cst_0 : Ref sig .tc := ⟨.hbm, 6, rfl⟩
abbrev main_call0_v4 : Ref sig .tc := ⟨.hbm, 7, rfl⟩
abbrev main_call0_v5 : Ref sig .tc := ⟨.hbm, 8, rfl⟩
abbrev main_v0 : Ref sig .tc := ⟨.hbm, 9, rfl⟩

abbrev nD : Nat := 1
abbrev τ : Topo := Topo.v7x

variable {F : FTy → Type} [FloatOps F]
-- ==== Resid.lean ====
abbrev S2048x2048 : Shape := ⟨2, ![2048, 2048]⟩
abbrev S1x2048 : Shape := ⟨2, ![1, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ResidRefIdeal.lean ====
abbrev S2048x2048 : Shape := ⟨2, ![2048, 2048]⟩
abbrev S1x2048 : Shape := ⟨2, ![1, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== ResidB.lean ====
abbrev S2048x2048 : Shape := ⟨2, ![2048, 2048]⟩
abbrev S1x2048 : Shape := ⟨2, ![1, 2048]⟩
abbrev S512x2048 : Shape := ⟨2, ![512, 2048]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .bf16⟩
  | .hbm, ⟨4, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | .local _ .vmem, ⟨7, _⟩ => ⟨S1x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32 : BitVec 32 := 0#32
  let v10 : BitVec 1 := Scalar.cmpi .eq arg0 c0_i32
  let v_true : BitVec 1 := 1#1
  let v13 : BitVec 1 := Scalar.xori v10 v_true
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ResidBRefIdeal.lean ====
abbrev S2048x2048 : Shape := ⟨2, ![2048, 2048]⟩
abbrev S1x2048 : Shape := ⟨2, ![1, 2048]⟩
abbrev S_ : Shape := ⟨0, ![]⟩
abbrev S2048 : Shape := ⟨1, ![2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== GluZ.lean ====
abbrev S2048x1024 : Shape := ⟨2, ![2048, 1024]⟩
abbrev S1024x1024 : Shape := ⟨2, ![1024, 1024]⟩

abbrev nBuf : Space → Nat
  | .hbm => 2
  | .vmem => 4
  | .smem => 0
  | _ => 0

abbrev bufTy : (tb : Table) → Fin (tcTables nBuf tb) → BufTy
  | .hbm, ⟨0, _⟩ => ⟨S2048x1024, .f32⟩
  | .hbm, ⟨1, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== GluZIdeal.lean ====
variable {F : FTy → Type} [FloatOps F] [Named F]
def κ : String → Option EReal := fun
  | "gelu_a" => some ((8943 / 200000 : ℝ) : EReal)
  | _ => none
-- ==== GluZRefIdeal.lean ====
abbrev S2048x1024 : Shape := ⟨2, ![2048, 1024]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_v10 : Ref sig .tc := ⟨.hbm, 15, rfl⟩
abbrev main_cst_3 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== GluOut.lean ====
abbrev S2048x1024 : Shape := ⟨2, ![2048, 1024]⟩
abbrev S1x1024 : Shape := ⟨2, ![1, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GluOutIdeal.lean ====
variable {F : FTy → Type} [FloatOps F] [Named F]
def κ : String → Option EReal := fun
  | "gelu_a" => some ((8943 / 200000 : ℝ) : EReal)
  | _ => none
-- ==== GluOutRefIdeal.lean ====
abbrev S2048x1024 : Shape := ⟨2, ![2048, 1024]⟩
abbrev S1x1024 : Shape := ⟨2, ![1, 1024]⟩
abbrev S_ : Shape := ⟨0, ![]⟩

abbrev nBuf : Space → Nat
  | .hbm => 34
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩

abbrev nD : Nat := 1
abbrev τ : Topo := Topo.v7x

variable {F : FTy → Type} [FloatOps F]
-- ==== GluGate.lean ====
abbrev S2048x2048 : Shape := ⟨2, ![2048, 2048]⟩
abbrev S2048x1024 : Shape := ⟨2, ![2048, 1024]⟩
abbrev S1x1024 : Shape := ⟨2, ![1, 1024]⟩
abbrev S256x1024 : Shape := ⟨2, ![256, 1024]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .bf16⟩
  | .local _ .vmem, ⟨8, _⟩ => ⟨S256x1024, .bf16⟩
  | .local _ .vmem, ⟨9, _⟩ => ⟨S1x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v38 : BitVec 1 := Scalar.xori v35 v_true
  let v39 : BitVec 32 := Scalar.extui v38
  let c0_i32_18 : BitVec 32 := 0#32
  let v40 : BitVec 1 := Scalar.cmpi .ne v39 c0_i32_18
  v40

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== GluGateIdeal.lean ====
variable {F : FTy → Type} [FloatOps F] [Named F]
def κ : String → Option EReal := fun
  | "gelu_a" => some ((8943 / 200000 : ℝ) : EReal)
  | _ => none
-- ==== GluGateRefIdeal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩
abbrev S1024 : Shape := ⟨1, ![1024]⟩

abbrev nBuf : Space → Nat
  | .hbm => 45
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S2048x1024, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_cst_6 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== GluY.lean ====
abbrev S2048x2048 : Shape := ⟨2, ![2048, 2048]⟩
abbrev S2048x1024 : Shape := ⟨2, ![2048, 1024]⟩
abbrev S1x1024 : Shape := ⟨2, ![1, 1024]⟩
abbrev S256x1024 : Shape := ⟨2, ![256, 1024]⟩

abbrev nBuf : Space → Nat
  | .hbm => 6
  | .vmem => 11
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GluYIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== GluYRefIdeal.lean ====
abbrev S2048x2048 : Shape := ⟨2, ![2048, 2048]⟩
abbrev S2048x1024 : Shape := ⟨2, ![2048, 1024]⟩
abbrev S1x1024 : Shape := ⟨2, ![1, 1024]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S_, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S_, .f32⟩
  | .hbm, ⟨42, _⟩ => ⟨S2048x1024, .f32⟩
  | .hbm, ⟨43, _⟩ => ⟨S2048x1024, .f32⟩
  | .hbm, ⟨44, _⟩ => ⟨S_, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S2048x1024, .f32⟩
  | .hbm, ⟨61, _⟩ => ⟨S2048x1024, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_10 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]
-- ==== Sink.lean ====
abbrev S16x2048x64 : Shape := ⟨3, ![16, 2048, 64]⟩
abbrev S16x1x64 : Shape := ⟨3, ![16, 1, 64]⟩
abbrev S1x1024x64 : Shape := ⟨3, ![1, 1024, 64]⟩
abbrev S1x1x64 : Shape := ⟨3, ![1, 1, 64]⟩
abbrev S1024x64 : Shape := ⟨2, ![1024, 64]⟩
abbrev S1x64 : Shape := ⟨2, ![1, 64]⟩

abbrev nBuf : Space → Nat
  | .hbm => 4
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x1x64, .f32⟩
  | .hbm, ⟨3, _⟩ => ⟨S16x2048x64, .bf16⟩
  | .local _ .vmem, ⟨0, _⟩ => ⟨S1x1024x64, .f32⟩
  | .local _ .vmem, ⟨1, _⟩ => ⟨S1x1024x64, .f32⟩
  | .local _ .vmem, ⟨2, _⟩ => ⟨S1x1024x64, .f32⟩
  | .local _ .vmem, ⟨3, _⟩ => ⟨S1x1024x64, .f32⟩
  | .local _ .vmem, ⟨4, _⟩ => ⟨S1x1x64, .f32⟩
  | .local _ .vmem, ⟨5, _⟩ => ⟨S1x1x64, .f32⟩
  | .local _ .vmem, ⟨6, _⟩ => ⟨S1x1024x64, .bf16⟩
  | .local _ .vmem, ⟨7, _⟩ => ⟨S1x1024x64, .bf16⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SinkRefIdeal.lean ====
abbrev S16x2048x64 : Shape := ⟨3, ![16, 2048, 64]⟩
abbrev S16x1x64 : Shape := ⟨3, ![16, 1, 64]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x1x64, .f32⟩
  | .hbm, ⟨3, _⟩ => ⟨S16x2048x64, .f32⟩
  | .hbm, ⟨4, _⟩ => ⟨S16x2048x64, .f32⟩
  | .hbm, ⟨5, _⟩ => ⟨S16x2048x64, .f32⟩
  | .hbm, ⟨6, _⟩ => ⟨S16x2048x64, .f32⟩
  | .hbm, ⟨7, _⟩ => ⟨S_, .f32⟩
  | .hbm, ⟨8, _⟩ => ⟨S16x2048x64, .f32⟩
  | .hbm, ⟨9, _⟩ => ⟨S16x2048x64, .f32⟩
  | .hbm, ⟨10, _⟩ => ⟨S_, .f32⟩
  | .hbm, ⟨11, _⟩ => ⟨S16x2048x64, .f32⟩
  | .hbm, ⟨12, _⟩ => ⟨S16x2048x64, .f32⟩
  | .hbm, ⟨13, _⟩ => ⟨S16x2048x64, .f32⟩
  | .hbm, ⟨14, _⟩ => ⟨S16x2048x64, .bf16⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Adamw.lean ====
abbrev S8192x3072 : Shape := ⟨2, ![8192, 3072]⟩
abbrev S128x3072 : Shape := ⟨2, ![128, 3072]⟩

abbrev nBuf : Space → Nat
  | .hbm => 7
  | .vmem => 14
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwRefIdeal.lean ====
abbrev S8192x3072 : Shape := ⟨2, ![8192, 3072]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x3072, .f32⟩
  | .hbm, ⟨2, _⟩ => ⟨S8192x3072, .f32⟩
  | .hbm, ⟨3, _⟩ => ⟨S8192x3072, .f32⟩
  | .hbm, ⟨4, _⟩ => ⟨S_, .f32⟩
  | .hbm, ⟨5, _⟩ => ⟨S8192x3072, .f32⟩
  | .hbm, ⟨6, _⟩ => ⟨S8192x3072, .f32⟩
  | .hbm, ⟨7, _⟩ => ⟨S_, .f32⟩
  | .hbm, ⟨8, _⟩ => ⟨S8192x3072, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S_, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3072, .f32⟩
  | .hbm, ⟨26, _⟩ => ⟨S_, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S_, .f32⟩
  | .hbm, ⟨31, _⟩ => ⟨S8192x3072, .f32⟩
  | .hbm, ⟨32, _⟩ => ⟨S8192x3072, .f32⟩
  | .hbm, ⟨33, _⟩ => ⟨S8192x3072, .f32⟩
  | .hbm, ⟨34, _⟩ => ⟨S_, .f32⟩
  | .hbm, ⟨35, _⟩ => ⟨S8192x3072, .f32⟩
  | .hbm, ⟨36, _⟩ => ⟨S8192x3072, .f32⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.MixMath.lean ====
/- The gradient of the gated causal convolution, one column at a time: shifts along the rows, the three taps, the smooth
   gate and its derivative, over the extended reals. -/
module

public import Idealize.ShloMosaic.Lib.Pointwise
public import Idealize.ShloMosaic.Lib.WordCmp

@[expose] public section

set_option maxRecDepth 16384

noncomputable section

open Idealize.ShloMosaic

namespace Mix

/-- A column moved `k` rows down, zero above. -/
def down (k : ℕ) (x : Fin 2048 → EReal) (r : Fin 2048) : EReal :=
  if h : k ≤ (r : ℕ) then x ⟨(r : ℕ) - k, lt_of_le_of_lt (Nat.sub_le _ _) r.isLt⟩ else 0

/-- A column moved `k` rows up, zero below. -/
def up (k : ℕ) (x : Fin 2048 → EReal) (r : Fin 2048) : EReal :=
  if h : (r : ℕ) + k < 2048 then x ⟨(r : ℕ) + k, h⟩ else 0

/-- The causal convolution with three taps. -/
def conv (x : Fin 2048 → EReal) (w : Fin 3 → EReal) (b : EReal) (r : Fin 2048) : EReal :=
  b + w 2 * x r + w 1 * down 1 x r + w 0 * down 2 x r

/-- Its gradient with respect to the column. -/
def convT (d : Fin 2048 → EReal) (w : Fin 3 → EReal) (r : Fin 2048) : EReal :=
  w 2 * d r + w 1 * up 1 d r + w 0 * up 2 d r

/-- Its gradient with respect to the taps. -/
def taps (d x : Fin 2048 → EReal) (k : Fin 3) : EReal := ∑ r, d r * down (2 - (k : ℕ)) x r

/-- The scale inside the gate's hyperbolic tangent. -/
abbrev scale : EReal := Ideal.ofBits .f32 0x3F4C422A#32
abbrev half : EReal := Ideal.ofBits .f32 0x3F000000#32
abbrev cubic : EReal := ((8943 / 200000 : ℝ) : EReal)
abbrev square : EReal := ((26829 / 200000 : ℝ) : EReal)

def gateTanh (g : EReal) : EReal := Ideal.tanh (scale * (g + cubic * (g * g * g)))

/-- The cotangent of the gated half before the convolution, as the kernel groups it. -/
def dGate (a v g : EReal) : EReal :=
  a * v * (half * (1 + gateTanh g) + half * g * (1 - gateTanh g * gateTanh g) * (scale * (1 + square * (g * g))))

/-- The cotangent of the linear half before the convolution. -/
def dValue (a g : EReal) : EReal := a * (half * g * (1 + gateTanh g))

/-- A product kept where the rows have not wrapped around is the product with the column moved down. -/
theorem select_down (k : ℕ) (hk : k ≤ 2048) (w : EReal) (x : Fin 2048 → EReal) (r : Fin 2048) :
    Scalar.select (IntOp.cmpi CmpIPredicate.sge (BitVec.ofNat 32 (r : ℕ)) (BitVec.ofNat 32 k))
      (w * x ⟨((r : ℕ) + 2048 - k) % 2048, Nat.mod_lt _ (by norm_num)⟩) 0 = w * down k x r := by
  have h1 := r.isLt
  rw [WordCmp.cmpi_sge_ofNat (by norm_num; omega) (by norm_num; omega)]
  unfold down Scalar.select
  by_cases h : k ≤ (r : ℕ)
  · have e : ((r : ℕ) + 2048 - k) % 2048 = (r : ℕ) - k := by omega
    simp [h, e]
  · simp [h]

/-- And up. -/
theorem select_up (k : ℕ) (hk : 0 < k) (hk' : k ≤ 2048) (w : EReal) (x : Fin 2048 → EReal) (r : Fin 2048) :
    Scalar.select (IntOp.cmpi CmpIPredicate.slt (BitVec.ofNat 32 (r : ℕ)) (BitVec.ofNat 32 (2048 - k)))
      (w * x ⟨((r : ℕ) + 2048 - (2048 - k)) % 2048, Nat.mod_lt _ (by norm_num)⟩) 0 = w * up k x r := by
  have h1 := r.isLt
  rw [WordCmp.cmpi_slt_ofNat (by norm_num; omega) (by norm_num; omega)]
  unfold up Scalar.select
  by_cases h : (r : ℕ) + k < 2048
  · have e : ((r : ℕ) + 2048 - (2048 - k)) % 2048 = (r : ℕ) + k := by omega
    have h' : (r : ℕ) < 2048 - k := by omega
    simp [h, h', e]
  · have h' : ¬ (r : ℕ) < 2048 - k := by omega
    simp [h, h']

theorem down_zero (x : Fin 2048 → EReal) (r : Fin 2048) : down 0 x r = x r := by
  simp [down]

/-- A number among the reals. -/
def Real' (a : EReal) : Prop := ∃ r : ℝ, a = (r : EReal)

theorem Real'.add {a b : EReal} (ha : Real' a) (hb : Real' b) : Real' (a + b) := by
  obtain ⟨x, rfl⟩ := ha
  obtain ⟨y, rfl⟩ := hb
  exact ⟨x + y, (EReal.coe_add x y).symm⟩

theorem Real'.mul {a b : EReal} (ha : Real' a) (hb : Real' b) : Real' (a * b) := by
  obtain ⟨x, rfl⟩ := ha
  obtain ⟨y, rfl⟩ := hb
  exact ⟨x * y, (EReal.coe_mul x y).symm⟩

theorem real_down (k : ℕ) {x : Fin 2048 → EReal} (hx : ∀ r, Real' (x r)) (r : Fin 2048) : Real' (down k x r) := by
  unfold down
  split
  · exact hx _
  · exact ⟨0, rfl⟩

/-- The convolution of real columns by real taps is real. -/
theorem real_conv {x : Fin 2048 → EReal} {w : Fin 3 → EReal} {b : EReal} (hx : ∀ r, Real' (x r)) (hw : ∀ k, Real' (w k))
    (hb : Real' b) (r : Fin 2048) : Real' (conv x w b r) :=
  ((hb.add ((hw 2).mul (hx r))).add ((hw 1).mul (real_down 1 hx r))).add ((hw 0).mul (real_down 2 hx r))

theorem scale_real : ∃ s : ℝ, scale = (s : EReal) := by
  simp [Ideal.ofBits, Ideal.ieee, -EReal.coe_mul]

theorem half_eq : half = ((1 / 2 : ℝ) : EReal) := by
  simp [Ideal.ofBits, Ideal.ieee, -EReal.coe_mul]
  norm_num

theorem three_eq : Ideal.ofBits .f32 0x40400000#32 = ((3 : ℝ) : EReal) := by
  simp [Ideal.ofBits, Ideal.ieee, -EReal.coe_mul]
  norm_num

/-- The same cotangent as the reference's gradient accumulates it, term by term. -/
def dGateSum (a v g : EReal) : EReal :=
  let t := Ideal.tanh (scale * (g + cubic * (g * g * g)))
  let c := scale * (half * (g * (a * v)) * ((1 + t) * (1 - t)))
  a * v * (half * (1 + t)) + c + cubic * c * (Ideal.ofBits .f32 0x40400000#32 * (g * g))

theorem dGate_eq {a v g : EReal} (ha : Real' a) (hv : Real' v) (hg : Real' g) : dGate a v g = dGateSum a v g := by
  obtain ⟨a, rfl⟩ := ha
  obtain ⟨v, rfl⟩ := hv
  obtain ⟨g, rfl⟩ := hg
  obtain ⟨s, hs⟩ := scale_real
  simp only [dGate, dGateSum, gateTanh]
  rw [three_eq, show half = _ from half_eq, hs]
  simp only [cubic, square, ← EReal.coe_mul, ← EReal.coe_add, Ideal.tanh_coe, ← EReal.coe_one, ← EReal.coe_sub]
  congr 1
  ring

open Idealize.ShloMosaic.TcCoe

/-- A column of the gated half and of the linear half among the channels. -/
def gateCol (q : Fin 5504) : Fin 11008 := ⟨q.val, by omega⟩
def valueCol (q : Fin 5504) : Fin 11008 := ⟨5504 + q.val, by omega⟩

abbrev A (n k : ℕ) := FVec Ideal (⟨2, ![n, k]⟩ : Shape) .f32

variable (u : A 2048 11008) (a : A 2048 5504) (w : A 3 11008) (b : A 1 11008)

/-- The convolution of one channel. -/
def mixed (q : Fin 11008) (r : Fin 2048) : EReal := conv (fun r => u (ix2 r q)) (fun k => w (ix2 k q)) (b (ix2 0 q)) r

def cotGate (q : Fin 5504) (r : Fin 2048) : EReal := dGate (a (ix2 r q)) (mixed u w b (valueCol q) r) (mixed u w b (gateCol q) r)
def cotValue (q : Fin 5504) (r : Fin 2048) : EReal := dValue (a (ix2 r q)) (mixed u w b (gateCol q) r)

def duGate (r : Fin 2048) (q : Fin 5504) : EReal := convT (cotGate u a w b q) (fun k => w (ix2 k (gateCol q))) r
def duValue (r : Fin 2048) (q : Fin 5504) : EReal := convT (cotValue u a w b q) (fun k => w (ix2 k (valueCol q))) r
def dwGate (k : Fin 3) (q : Fin 5504) : EReal := taps (cotGate u a w b q) (fun r => u (ix2 r (gateCol q))) k
def dwValue (k : Fin 3) (q : Fin 5504) : EReal := taps (cotValue u a w b q) (fun r => u (ix2 r (valueCol q))) k
def dbGate (q : Fin 5504) : EReal := ∑ r, cotGate u a w b q r
def dbValue (q : Fin 5504) : EReal := ∑ r, cotValue u a w b q r

end Mix
end
-- ==== Proof.MixTile.lean ====
/- What the kernel stores for one tile of columns, column by column. -/
module

public import proofs.«01_k».proof.Proof.Gen.KernelIdeal.Value
public import proofs.«01_k».proof.Proof.MixMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Tiles

open Cert.KernelIdeal Cert.KernelIdeal.Gen Mix

theorem named_cubic : Named.named (F := Ideal) (φ := .f32) κ "gelu_a" 0x3D372713#32 = cubic := rfl

theorem named_square : Named.named (F := Ideal) (φ := .f32) κ "gelu_3a" 0x3E095D4F#32 = square := rfl

theorem conv_gate (x w b) (r : Fin 2048) (l : Fin 128) :
    k0_pay5 (F := Ideal) x w b (ix2 r l) = conv (fun r => x (ix2 r l)) (fun k => w (ix2 k l)) (b (ix2 0 l)) r := by
  pointwise [k0_pay5, conv]
  rw [select_down 1 (by norm_num) _ (fun r => x (ix2 r l)), select_down 2 (by norm_num) _ (fun r => x (ix2 r l))]

theorem cotangent_gate (v g : FVec Ideal S2048x128 .f32) (r : Fin 2048) (l : Fin 128) (a b : EReal) (h : v (ix2 r l) = a * b) :
    k0_pay12 (F := Ideal) v (k0_pay10 g) (k0_pay11 g) (ix2 r l) = dGate a b (g (ix2 r l)) := by
  pointwise [k0_pay12, k0_pay11, k0_pay10, k0_pay9, dGate, gateTanh]
  rw [h, named_cubic, named_square]

theorem cotangent_value (a g : FVec Ideal S2048x128 .f32) (r : Fin 2048) (l : Fin 128) :
    k0_pay19 (F := Ideal) a g (ix2 r l) = dValue (a (ix2 r l)) (g (ix2 r l)) := by
  pointwise [k0_pay19, dValue, gateTanh]
  rw [named_cubic]

theorem store_gate (w a b c) (r : Fin 2048) (l : Fin 128) :
    k0_pay3 (F := Ideal) (k0_pay13 w a b c) (ix2 r l) = convT (fun r => k0_pay12 a b c (ix2 r l)) (fun k => w (ix2 k l)) r := by
  pointwise [k0_pay3, k0_pay13, convT]
  rw [select_up 1 (by norm_num) (by norm_num) _ (fun r => k0_pay12 a b c (ix2 r l)),
    select_up 2 (by norm_num) (by norm_num) _ (fun r => k0_pay12 a b c (ix2 r l))]

theorem store_value (w a g) (r : Fin 2048) (l : Fin 128) :
    k0_pay4 (F := Ideal) (k0_pay20 w a g) (ix2 r l) = convT (fun r => k0_pay19 a g (ix2 r l)) (fun k => w (ix2 k l)) r := by
  pointwise [k0_pay4, k0_pay20, convT]
  rw [select_up 1 (by norm_num) (by norm_num) _ (fun r => k0_pay19 a g (ix2 r l)),
    select_up 2 (by norm_num) (by norm_num) _ (fun r => k0_pay19 a g (ix2 r l))]

theorem taps_gate (x a b c) (k : Fin 3) (l : Fin 128) :
    k0_pay17 (F := Ideal) (k0_pay14 x a b c) (k0_pay15 x a b c) (k0_pay16 x a b c) (ix2 k l)
      = taps (fun r => k0_pay12 a b c (ix2 r l)) (fun r => x (ix2 r l)) k := by
  pointwise [k0_pay17, k0_pay14, k0_pay15, k0_pay16, taps]
  simp only [select_down 1 (by norm_num) _ (fun r => x (ix2 r l)), select_down 2 (by norm_num) _ (fun r => x (ix2 r l))]
  fin_cases k <;> simp [down_zero]

theorem taps_value (x d) (k : Fin 3) (l : Fin 128) :
    k0_pay1 (F := Ideal) x d k0_pay21 (k0_pay22 x) k0_pay23 (ix2 k l)
      = taps (fun r => d (ix2 r l)) (fun r => x (ix2 r l)) k := by
  pointwise [k0_pay1, k0_pay21, k0_pay22, k0_pay23, taps]
  simp only [select_down 1 (by norm_num) _ (fun r => x (ix2 r l)), select_down 2 (by norm_num) _ (fun r => x (ix2 r l))]
  fin_cases k <;> simp [down_zero]

theorem bias_gate (d) (k : Fin 1) (l : Fin 128) : k0_pay18 (F := Ideal) d (ix2 k l) = ∑ r : Fin 2048, d (ix2 r l) := by
  pointwise [k0_pay18]

theorem bias_value (d) (k : Fin 1) (l : Fin 128) : k0_pay2 (F := Ideal) d (ix2 k l) = ∑ r : Fin 2048, d (ix2 r l) := by
  pointwise [k0_pay2]

theorem product_value (a x w b) (r : Fin 2048) (l : Fin 128) :
    k0_pay8 (F := Ideal) x w a (k0_pay6 x w b) (k0_pay7 w) (iota .tc S2048x128 32 [0] iota_S2048x128_d0_w32) (ix2 r l)
      = a (ix2 r l) * conv (fun r => x (ix2 r l)) (fun k => w (ix2 k l)) (b (ix2 0 l)) r := by
  pointwise [k0_pay8, k0_pay6, k0_pay7, conv]
  rw [select_down 1 (by norm_num) _ (fun r => x (ix2 r l)), select_down 2 (by norm_num) _ (fun r => x (ix2 r l))]

section Blocks

variable (x0 x1 : Vec Ideal S2048x128 .f32) (x2 x3 : Vec Ideal S3x128 .f32) (x4 x5 : Vec Ideal S1x128 .f32) (x6 : Vec Ideal S2048x128 .f32)
  (r : Fin 2048) (l : Fin 128)

theorem gate_at : k0_pay24 (F := Ideal) x0 x1 x2 x3 x4 x5 x6 (ix2 r l)
    = conv (fun r => x0 (ix2 r l)) (fun k => x2 (ix2 k l)) (x4 (ix2 0 l)) r := by
  unfold k0_pay24
  frame_out
  exact conv_gate x0 x2 x4 r l

theorem value_at : k0_pay25 (F := Ideal) x0 x1 x2 x3 x4 x5 x6 (ix2 r l)
    = x6 (ix2 r l) * conv (fun r => x1 (ix2 r l)) (fun k => x3 (ix2 k l)) (x5 (ix2 0 l)) r := by
  unfold k0_pay25
  frame_out
  exact product_value x6 x1 x3 x5 r l

theorem cotGate_at : k0_pay12 (F := Ideal) (k0_pay25 x0 x1 x2 x3 x4 x5 x6) (k0_pay26 x0 x1 x2 x3 x4 x5 x6) (k0_pay27 x0 x1 x2 x3 x4 x5 x6) (ix2 r l)
    = dGate (x6 (ix2 r l)) (conv (fun r => x1 (ix2 r l)) (fun k => x3 (ix2 k l)) (x5 (ix2 0 l)) r)
        (conv (fun r => x0 (ix2 r l)) (fun k => x2 (ix2 k l)) (x4 (ix2 0 l)) r) := by
  unfold k0_pay26 k0_pay27
  rw [cotangent_gate _ _ r l _ _ (value_at x0 x1 x2 x3 x4 x5 x6 r l), gate_at]

theorem cotValue_at : k0_pay28 (F := Ideal) x0 x1 x2 x3 x4 x5 x6 (ix2 r l)
    = dValue (x6 (ix2 r l)) (conv (fun r => x0 (ix2 r l)) (fun k => x2 (ix2 k l)) (x4 (ix2 0 l)) r) := by
  unfold k0_pay28
  frame_out
  rw [cotangent_value, gate_at]

end Blocks

variable (m : (ℓ : Loc nD τ sig) → Buf (Elt Ideal) ℓ)

theorem idx : ∀ t : Fin cfg0.N, win0_0.index t = ![0, t.val] ∧ win0_1.index t = ![0, t.val + 43] ∧ win0_2.index t = ![0, t.val]
    ∧ win0_3.index t = ![0, t.val + 43] ∧ win0_4.index t = ![0, t.val] ∧ win0_5.index t = ![0, t.val + 43]
    ∧ win0_6.index t = ![0, t.val] ∧ win0_7.index t = ![0, t.val] ∧ win0_8.index t = ![0, t.val] ∧ win0_9.index t = ![0, t.val]
    ∧ win0_10.index t = ![0, t.val] ∧ win0_11.index t = ![0, t.val] ∧ win0_12.index t = ![0, t.val] :=
  (by decide +kernel : ∀ t : Fin grid0.N, _)

theorem tiles (t : Fin cfg0.N) : t.val < 43 := t.isLt

/-- The column of a half that a tile's lane holds. -/
def col (t : Fin cfg0.N) (l : Fin 128) : Fin 5504 := ⟨t.val * 128 + l.val, by have := tiles t; omega⟩

variable (c : Dev nD) (t : Fin cfg0.N)

theorem block_0 (r : Fin 2048) (l : Fin 128) : iblk m c 0 t (ix2 r l) = (m ((c : Thread nD τ).loc main_arg0) : FVec Ideal S2048x11008 .f32) (ix2 r (gateCol (col t l))) := by
  unfold gateCol col
  blk_point [iblk, V, idx t]

theorem block_1 (r : Fin 2048) (l : Fin 128) : iblk m c 1 t (ix2 r l) = (m ((c : Thread nD τ).loc main_arg0) : FVec Ideal S2048x11008 .f32) (ix2 r (valueCol (col t l))) := by
  unfold valueCol col
  blk_point [iblk, V, idx t]

theorem block_2 (r : Fin 3) (l : Fin 128) : iblk m c 2 t (ix2 r l) = (m ((c : Thread nD τ).loc main_arg2) : FVec Ideal S3x11008 .f32) (ix2 r (gateCol (col t l))) := by
  unfold gateCol col
  blk_point [iblk, V, idx t]

theorem block_3 (r : Fin 3) (l : Fin 128) : iblk m c 3 t (ix2 r l) = (m ((c : Thread nD τ).loc main_arg2) : FVec Ideal S3x11008 .f32) (ix2 r (valueCol (col t l))) := by
  unfold valueCol col
  blk_point [iblk, V, idx t]

theorem block_4 (r : Fin 1) (l : Fin 128) : iblk m c 4 t (ix2 r l) = (m ((c : Thread nD τ).loc main_arg3) : FVec Ideal S1x11008 .f32) (ix2 r (gateCol (col t l))) := by
  unfold gateCol col
  blk_point [iblk, V, idx t]

theorem block_5 (r : Fin 1) (l : Fin 128) : iblk m c 5 t (ix2 r l) = (m ((c : Thread nD τ).loc main_arg3) : FVec Ideal S1x11008 .f32) (ix2 r (valueCol (col t l))) := by
  unfold valueCol col
  blk_point [iblk, V, idx t]

theorem block_6 (r : Fin 2048) (l : Fin 128) : iblk m c 6 t (ix2 r l) = (m ((c : Thread nD τ).loc main_arg1) : FVec Ideal S2048x5504 .f32) (ix2 r (col t l)) := by
  unfold col
  blk_point [iblk, V, idx t]

/-- One tile's cotangents are the array's, column by column. -/
theorem tile_gate (l : Fin 128) : (fun r : Fin 2048 => k0_pay12 (F := Ideal) (k0_pay25 (iblk m c 0 t) (iblk m c 1 t) (iblk m c 2 t) (iblk m c 3 t) (iblk m c 4 t) (iblk m c 5 t) (iblk m c 6 t)) (k0_pay26 (iblk m c 0 t) (iblk m c 1 t) (iblk m c 2 t) (iblk m c 3 t) (iblk m c 4 t) (iblk m c 5 t) (iblk m c 6 t)) (k0_pay27 (iblk m c 0 t) (iblk m c 1 t) (iblk m c 2 t) (iblk m c 3 t) (iblk m c 4 t) (iblk m c 5 t) (iblk m c 6 t)) (ix2 r l))
    = cotGate (m ((c : Thread nD τ).loc main_arg0)) (m ((c : Thread nD τ).loc main_arg1)) (m ((c : Thread nD τ).loc main_arg2)) (m ((c : Thread nD τ).loc main_arg3)) (col t l) := by
  funext r
  rw [cotGate_at]
  simp only [block_0, block_1, block_2, block_3, block_4, block_5, block_6]
  rfl

theorem tile_value (l : Fin 128) : (fun r : Fin 2048 => k0_pay28 (F := Ideal) (iblk m c 0 t) (iblk m c 1 t) (iblk m c 2 t) (iblk m c 3 t) (iblk m c 4 t) (iblk m c 5 t) (iblk m c 6 t) (ix2 r l))
    = cotValue (m ((c : Thread nD τ).loc main_arg0)) (m ((c : Thread nD τ).loc main_arg1)) (m ((c : Thread nD τ).loc main_arg2)) (m ((c : Thread nD τ).loc main_arg3)) (col t l) := by
  funext r
  rw [cotValue_at]
  simp only [block_0, block_1, block_2, block_3, block_4, block_5, block_6]
  rfl

theorem place_7 (r : Fin 2048) (l : Fin 128) : ((cfg0.win 7).blk t).view.emb (ix2 r l) = ix2 r (col t l) := by
  unfold col
  blk_ext [idx t]

theorem final_7 : (dats m 0 c).arrAt 7 (cfgs 0).N = fun i : S2048x5504.Idx => duGate (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 7 _ (by decide +kernel) fun t _ y => ?_
  blk_simp
  rw [after0_7]; frame_out
  obtain ⟨r, l, rfl⟩ : ∃ (r : Fin 2048) (l : Fin 128), y = ix2 r l := ⟨y 0, y 1, (ix2_eta y).symm⟩
  show _ = (fun i : S2048x5504.Idx => duGate (m ((c : Thread nD τ).loc main_arg0)) (m ((c : Thread nD τ).loc main_arg1)) (m ((c : Thread nD τ).loc main_arg2)) (m ((c : Thread nD τ).loc main_arg3)) (i 0) (i 1)) (((cfg0.win 7).blk t).view.emb (ix2 r l))
  rw [place_7]
  refine (store_gate _ _ _ _ r l).trans ?_
  rw [tile_gate m c t l]
  simp only [block_2]
  rfl

theorem place_8 (r : Fin 2048) (l : Fin 128) : ((cfg0.win 8).blk t).view.emb (ix2 r l) = ix2 r (col t l) := by
  unfold col
  blk_ext [idx t]

theorem final_8 : (dats m 0 c).arrAt 8 (cfgs 0).N = fun i : S2048x5504.Idx => duValue (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 8 _ (by decide +kernel) fun t _ y => ?_
  blk_simp
  rw [after0_8]; frame_out
  obtain ⟨r, l, rfl⟩ : ∃ (r : Fin 2048) (l : Fin 128), y = ix2 r l := ⟨y 0, y 1, (ix2_eta y).symm⟩
  show _ = (fun i : S2048x5504.Idx => duValue (m ((c : Thread nD τ).loc main_arg0)) (m ((c : Thread nD τ).loc main_arg1)) (m ((c : Thread nD τ).loc main_arg2)) (m ((c : Thread nD τ).loc main_arg3)) (i 0) (i 1)) (((cfg0.win 8).blk t).view.emb (ix2 r l))
  rw [place_8]
  refine (store_value _ _ _ r l).trans ?_
  have e := tile_value m c t l
  unfold k0_pay28 at e
  frame_out at e
  simp only [block_3] at *
  rw [e]
  rfl

theorem place_9 (r : Fin 3) (l : Fin 128) : ((cfg0.win 9).blk t).view.emb (ix2 r l) = ix2 r (col t l) := by
  unfold col
  blk_ext [idx t]

theorem final_9 : (dats m 0 c).arrAt 9 (cfgs 0).N = fun i : S3x5504.Idx => dwGate (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 9 _ (by decide +kernel) fun t _ y => ?_
  blk_simp
  rw [after0_9]; frame_out
  obtain ⟨r, l, rfl⟩ : ∃ (r : Fin 3) (l : Fin 128), y = ix2 r l := ⟨y 0, y 1, (ix2_eta y).symm⟩
  show _ = (fun i : S3x5504.Idx => dwGate (m ((c : Thread nD τ).loc main_arg0)) (m ((c : Thread nD τ).loc main_arg1)) (m ((c : Thread nD τ).loc main_arg2)) (m ((c : Thread nD τ).loc main_arg3)) (i 0) (i 1)) (((cfg0.win 9).blk t).view.emb (ix2 r l))
  rw [place_9]
  refine (taps_gate _ _ _ _ r l).trans ?_
  rw [tile_gate m c t l]
  simp only [block_0]
  rfl

theorem place_10 (r : Fin 3) (l : Fin 128) : ((cfg0.win 10).blk t).view.emb (ix2 r l) = ix2 r (col t l) := by
  unfold col
  blk_ext [idx t]

theorem final_10 : (dats m 0 c).arrAt 10 (cfgs 0).N = fun i : S3x5504.Idx => dwValue (m ((c : Thread nD τ).loc main_arg0)) (m ((c : Thread nD τ).loc main_arg1)) (m ((c : Thread nD τ).loc main_arg2)) (m ((c : Thread nD τ).loc main_arg3)) (i 0) (i 1) := by
  refine (dats m 0 c).arrAt_eq_of_covers 10 _ (by decide +kernel) fun t _ y => ?_
  blk_simp
  rw [after0_10]; frame_out
  obtain ⟨r, l, rfl⟩ : ∃ (r : Fin 3) (l : Fin 128), y = ix2 r l := ⟨y 0, y 1, (ix2_eta y).symm⟩
  show _ = (fun i : S3x5504.Idx => dwValue (m ((c : Thread nD τ).loc main_arg0)) (m ((c : Thread nD τ).loc main_arg1)) (m ((c : Thread nD τ).loc main_arg2)) (m ((c : Thread nD τ).loc main_arg3)) (i 0) (i 1)) (((cfg0.win 10).blk t).view.emb (ix2 r l))
  rw [place_10]
  refine (taps_value _ _ r l).trans ?_
  rw [tile_value m c t l]
  simp only [block_1]
  rfl

theorem place_11 (r : Fin 1) (l : Fin 128) : ((cfg0.win 11).blk t).view.emb (ix2 r l) = ix2 r (col t l) := by
  unfold col
  blk_ext [idx t]

theorem final_11 : (dats m 0 c).arrAt 11 (cfgs 0).N = fun i : S1x5504.Idx => dbGate (m ((c : Thread nD τ).loc main_arg0)) (m ((c : Thread nD τ).loc main_arg1)) (m ((c : Thread nD τ).loc main_arg2)) (m ((c : Thread nD τ).loc main_arg3)) (i 1) := by
  refine (dats m 0 c).arrAt_eq_of_covers 11 _ (by decide +kernel) fun t _ y => ?_
  blk_simp
  rw [after0_11]; frame_out
  obtain ⟨r, l, rfl⟩ : ∃ (r : Fin 1) (l : Fin 128), y = ix2 r l := ⟨y 0, y 1, (ix2_eta y).symm⟩
  show _ = (fun i : S1x5504.Idx => dbGate (m ((c : Thread nD τ).loc main_arg0)) (m ((c : Thread nD τ).loc main_arg1)) (m ((c : Thread nD τ).loc main_arg2)) (m ((c : Thread nD τ).loc main_arg3)) (i 1)) (((cfg0.win 11).blk t).view.emb (ix2 r l))
  rw [place_11]
  refine (bias_gate _ r l).trans ?_
  rw [tile_gate m c t l]
  rfl

theorem place_12 (r : Fin 1) (l : Fin 128) : ((cfg0.win 12).blk t).view.emb (ix2 r l) = ix2 r (col t l) := by
  unfold col
  blk_ext [idx t]

theorem final_12 : (dats m 0 c).arrAt 12 (cfgs 0).N = fun i : S1x5504.Idx => dbValue (m ((c : Thread nD τ).loc main_arg0)) (m ((c : Thread nD τ).loc main_arg1)) (m ((c : Thread nD τ).loc main_arg2)) (m ((c : Thread nD τ).loc main_arg3)) (i 1) := by
  refine (dats m 0 c).arrAt_eq_of_covers 12 _ (by decide +kernel) fun t _ y => ?_
  blk_simp
  rw [after0_12]; frame_out
  obtain ⟨r, l, rfl⟩ : ∃ (r : Fin 1) (l : Fin 128), y = ix2 r l := ⟨y 0, y 1, (ix2_eta y).symm⟩
  show _ = (fun i : S1x5504.Idx => dbValue (m ((c : Thread nD τ).loc main_arg0)) (m ((c : Thread nD τ).loc main_arg1)) (m ((c : Thread nD τ).loc main_arg2)) (m ((c : Thread nD τ).loc main_arg3)) (i 1)) (((cfg0.win 12).blk t).view.emb (ix2 r l))
  rw [place_12]
  refine (bias_value _ r l).trans ?_
  rw [tile_value m c t l]
  rfl

end Cert.KernelIdeal.Tiles
end
-- ==== Proof.MixReference.lean ====
/- The reference's gradient, read at an index: the cotangents of the two halves, and the transposed convolution over them. -/
module

public import proofs.«01_k».proof.Proof.Gen.ReferenceIdeal.Read
public import proofs.«01_k».proof.Proof.MixMath
public import Idealize.ShloMosaic.Lib.Pointwise

@[expose] public section

set_option maxRecDepth 16384

noncomputable section

open Idealize.ShloMosaic Idealize.ShloMosaic.TcCoe Idealize.SL.Sem

namespace Cert.ReferenceIdeal.Columns

open Cert.ReferenceIdeal Cert.ReferenceIdeal.Gen Cert.ReferenceIdeal.Read Mix

variable (u : A 2048 11008) (a : A 2048 5504) (w : A 3 11008) (b : A 1 11008)

/-- Summing over two axes of one element each reads the element. -/
theorem reduce_units (x : S1x1x11008.Idx → EReal) (init : EReal) (q : Fin 11008) :
    Ideal.hostReduceAdd reducesTo_S1x1x11008_S11008_d0_1 x init (ix1 q) = init + x (ix3 0 0 q) := by
  unfold Ideal.hostReduceAdd
  congr 1
  refine Finset.sum_eq_single_of_mem (ix3 0 0 q) ?_ ?_
  · exact Finset.mem_filter.mpr ⟨Finset.mem_univ _, funext fun b => by match b with | ⟨0, _⟩ => rfl⟩
  · intro i hi hne
    refine absurd ?_ hne
    have e := congrArg Fin.val (congrFun (Finset.mem_filter.mp hi).2 0)
    funext a
    apply Fin.ext
    match a with
    | ⟨0, _⟩ => have := (i 0).isLt; change (i 0).val < 1 at this; change (i 0).val = 0; omega
    | ⟨1, _⟩ => have := (i 1).isLt; change (i 1).val < 1 at this; change (i 1).val = 0; omega
    | ⟨2, _⟩ => exact e

theorem cubic_eq : Ideal.div (Ideal.ofBits .f32 0x460BBC00#32) (Ideal.ofBits .f32 0x48435000#32) = cubic := by
  have h1 : Ideal.ofBits .f32 0x460BBC00#32 = ((8943 : ℝ) : EReal) := by
    simp [Ideal.ofBits, Ideal.ieee, -EReal.coe_mul]
    norm_num
  have h2 : Ideal.ofBits .f32 0x48435000#32 = ((200000 : ℝ) : EReal) := by
    simp [Ideal.ofBits, Ideal.ieee, -EReal.coe_mul]
    norm_num
  rw [h1, h2, Ideal.div_coe (by norm_num), ← EReal.coe_mul]
  congr 1
  norm_num

theorem conv_at (r : Fin 2048) (q : Fin 11008) : val_main_v27 (F := Ideal) u w b (ix3 0 r q) = mixed u w b q r := by
  pointwise [val_main_v27, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, mixed, conv, down]
  have e1 : 1 + (r : ℕ) - 2 = (r : ℕ) - 1 := by omega
  by_cases h1 : 1 ≤ (r : ℕ)
  · have h1' : ¬ 1 + (r : ℕ) < 2 := by omega
    rw [dif_pos h1, dif_neg h1']
    by_cases h2 : 2 ≤ (r : ℕ)
    · have h2' : ¬ (r : ℕ) < 2 := by omega
      rw [dif_pos h2, dif_neg h2']
      simp only [e1]
      ac_rfl
    · have h2' : (r : ℕ) < 2 := by omega
      rw [dif_neg h2, dif_pos h2']
      simp only [e1, mul_zero, add_zero]
      ac_rfl
  · have h1' : 1 + (r : ℕ) < 2 := by omega
    have h2 : ¬ 2 ≤ (r : ℕ) := by omega
    have h2' : (r : ℕ) < 2 := by omega
    rw [dif_neg h1, dif_pos h1', dif_neg h2, dif_pos h2']
    simp only [mul_zero, add_zero]

theorem gate_at (r : Fin 2048) (q : Fin 5504) : val_main_v68 (F := Ideal) u a w b (ix3 0 r q)
    = dGateSum (a (ix2 r q)) (mixed u w b (valueCol q) r) (mixed u w b (gateCol q) r) := by
  have hg := conv_at u w b r (gateCol q)
  have hv := conv_at u w b r (valueCol q)
  rw [← hg, ← hv]
  unfold gateCol valueCol
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_v60, val_main_v61, val_main_v62, val_main_v63, val_main_v64, val_main_v65, val_main_v66, val_main_v67, val_main_v68, val_main_cst_1, val_main_cst_2, val_main_cst_3, val_main_cst_4, val_main_cst_5, val_main_cst_6, val_main_cst_7, val_main_cst_8, val_main_cst_9, val_main_cst_10, dGateSum]
  all_goals rw [cubic_eq]

theorem value_at (r : Fin 2048) (q : Fin 5504) : val_main_v55 (F := Ideal) u a w b (ix3 0 r q)
    = dValue (a (ix2 r q)) (mixed u w b (gateCol q) r) := by
  have hg := conv_at u w b r (gateCol q)
  rw [← hg]
  unfold gateCol
  pointwise [val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_cst_1, val_main_cst_2, val_main_cst_3, val_main_cst_4, val_main_cst_5, val_main_cst_6, val_main_cst_7, val_main_cst_8, val_main_cst_9, val_main_cst_10, dValue, gateTanh]
  rw [cubic_eq]
  simp only [half, scale]
  ac_rfl

theorem du_at (r : Fin 2048) (q : Fin 11008) : val_main_v108 (F := Ideal) u a w b (ix2 r q)
    = convT (fun r => val_main_v69 (F := Ideal) u a w b (ix3 0 r q)) (fun k => w (ix2 k q)) r := by
  pointwise [val_main_v70, val_main_v71, val_main_v76, val_main_v79, val_main_v80, val_main_v85, val_main_v86, val_main_v93, val_main_v94, val_main_v99, val_main_v100, val_main_v105, val_main_v107, val_main_v108, val_main_v24, val_main_v22, val_main_v21, val_main_v17, val_main_v15, val_main_v14, val_main_v8, val_main_v6, val_main_v5, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, convT, up]
  have hr := r.isLt
  rw [Fin.sum_univ_one]
  by_cases h1 : (r : ℕ) + 1 < 2048
  · have h1' : 1 ≤ 2 + (r : ℕ) ∧ 2 + (r : ℕ) - 1 < 2048 := by omega
    have e1 : 2 + (r : ℕ) - 1 = (r : ℕ) + 1 := by omega
    by_cases h2 : (r : ℕ) + 2 < 2048
    · have h2' : 2 + (r : ℕ) < 2048 := by omega
      have e2 : 2 + (r : ℕ) = (r : ℕ) + 2 := by omega
      rw [dif_pos h1', dif_pos h1, dif_pos h2', dif_pos h2]
      simp only [e1]
      simp only [e2]
    · have h2' : ¬ 2 + (r : ℕ) < 2048 := by omega
      rw [dif_pos h1', dif_pos h1, dif_neg h2', dif_neg h2]
      simp only [e1, mul_zero]
  · have h1' : ¬ (1 ≤ 2 + (r : ℕ) ∧ 2 + (r : ℕ) - 1 < 2048) := by omega
    have h2 : ¬ (r : ℕ) + 2 < 2048 := by omega
    have h2' : ¬ 2 + (r : ℕ) < 2048 := by omega
    rw [dif_neg h1', dif_neg h1, dif_neg h2', dif_neg h2]
    simp only [mul_zero]

theorem tap_2 (q : Fin 11008) : val_main_v75 (F := Ideal) u a w b (ix1 q)
    = ∑ r : Fin 2048, val_main_v69 (F := Ideal) u a w b (ix3 0 r q) * down 0 (fun r => u (ix2 r q)) r := by
  unfold val_main_v75
  simp only [Host.reduceAdd, Ideal.hostReduceAdd_def]
  rw [reduce_units]
  pointwise [val_main_v74, val_main_v73, val_main_v72, val_main_v23, val_main_v3, val_main_v2, val_main_v0, val_main_cst, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, down]

theorem tap_1 (q : Fin 11008) : val_main_v84 (F := Ideal) u a w b (ix1 q)
    = ∑ r : Fin 2048, val_main_v69 (F := Ideal) u a w b (ix3 0 r q) * down 1 (fun r => u (ix2 r q)) r := by
  unfold val_main_v84
  simp only [Host.reduceAdd, Ideal.hostReduceAdd_def]
  rw [reduce_units]
  pointwise [val_main_v83, val_main_v82, val_main_v81, val_main_v16, val_main_v3, val_main_v2, val_main_v0, val_main_cst, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  refine Finset.sum_congr rfl fun r _ => congrArg _ ?_
  unfold down
  have e1 : 1 + (r : ℕ) - 2 = (r : ℕ) - 1 := by omega
  by_cases h1 : 1 ≤ (r : ℕ)
  · have h1' : ¬ 1 + (r : ℕ) < 2 := by omega
    rw [dif_pos h1, dif_neg h1']
    simp only [e1]
  · have h1' : 1 + (r : ℕ) < 2 := by omega
    rw [dif_neg h1, dif_pos h1']

theorem tap_0 (q : Fin 11008) : val_main_v98 (F := Ideal) u a w b (ix1 q)
    = ∑ r : Fin 2048, val_main_v69 (F := Ideal) u a w b (ix3 0 r q) * down 2 (fun r => u (ix2 r q)) r := by
  unfold val_main_v98
  simp only [Host.reduceAdd, Ideal.hostReduceAdd_def]
  rw [reduce_units]
  pointwise [val_main_v97, val_main_v96, val_main_v95, val_main_v7, val_main_v3, val_main_v2, val_main_v0, val_main_cst, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, down]

theorem dw_at (k : Fin 3) (q : Fin 11008) : val_main_v103 (F := Ideal) u a w b (ix2 k q)
    = taps (fun r => val_main_v69 (F := Ideal) u a w b (ix3 0 r q)) (fun r => u (ix2 r q)) k := by
  pointwise [val_main_v77, val_main_v78, val_main_v87, val_main_v88, val_main_v89, val_main_v101, val_main_v102, val_main_v103, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25, taps]
  rw [tap_0, tap_1, tap_2]
  fin_cases k <;> simp

theorem db_at (q : Fin 11008) : val_main_v106 (F := Ideal) u a w b (ix2 0 q)
    = ∑ r : Fin 2048, val_main_v69 (F := Ideal) u a w b (ix3 0 r q) := by
  have h : val_main_v92 (F := Ideal) u a w b (ix1 q) = ∑ r : Fin 2048, val_main_v69 (F := Ideal) u a w b (ix3 0 r q) := by
    unfold val_main_v92
    simp only [Host.reduceAdd, Ideal.hostReduceAdd_def]
    rw [reduce_units]
    pointwise [val_main_v91, val_main_v90, val_main_cst_11, val_main_cst_12, val_main_cst_13, val_main_cst_14, val_main_cst_15, val_main_cst_16, val_main_cst_17, val_main_cst_18, val_main_cst_19, val_main_cst_20, val_main_cst_21, val_main_cst_22, val_main_cst_23, val_main_cst_24, val_main_cst_25]
  pointwise [val_main_v106]
  exact h

end Cert.ReferenceIdeal.Columns
end
-- ==== Proof.MixClaim.lean ====
/- The six results of the gated convolution's gradient: over finite arguments the reference's columns are the
   mathematics that the kernel's tiles were shown to be. -/
module

public import proofs.«01_k».proof.Defs
public import proofs.«01_k».proof.Proof.Gen.Pre_finite
public import proofs.«01_k».proof.Proof.MixReference
public import Idealize.ShloMosaic.Lib.ReduceAll

@[expose] public section

set_option maxRecDepth 16384

noncomputable section

open Idealize.ShloMosaic Idealize.ShloMosaic.TcCoe Idealize.SL.Sem

namespace Cert.ReferenceIdeal.Columns

open Cert.ReferenceIdeal Cert.ReferenceIdeal.Gen Cert.ReferenceIdeal.Read Mix

/-- A value whose magnitude is below positive infinity is a real number. -/
theorem real_of_olt (x : EReal)
    (h : FloatOps.cmpf (F := Ideal) (φ := .f32) .olt (FloatOps.hostAbsf (F := Ideal) (φ := .f32) x) (FloatOps.ofBits (F := Ideal) .f32 0x7F800000#32) = 1#1) :
    Real' x := by
  have top : Ideal.ofBits .f32 0x7F800000#32 = ⊤ := by simp [Ideal.ofBits, Ideal.ieee]
  induction x using EReal.rec with
  | coe r => exact ⟨r, rfl⟩
  | bot =>
    exfalso
    change Ideal.cmp .olt (max (⊥ : EReal) (-(⊥ : EReal))) (Ideal.ofBits .f32 0x7F800000#32) = 1#1 at h
    rw [top] at h
    simp [Ideal.cmp] at h
  | top =>
    exfalso
    change Ideal.cmp .olt (max (⊤ : EReal) (-(⊤ : EReal))) (Ideal.ofBits .f32 0x7F800000#32) = 1#1 at h
    rw [top] at h
    simp [Ideal.cmp] at h

variable (u : A 2048 11008) (a : A 2048 5504) (w : A 3 11008) (b : A 1 11008)

/-- The precondition, read: every entry of the four arguments is a real number. -/
theorem reals (h : ∀ j, Cert.Pre_finite.fn (F := Ideal) u a w b j = 1#1) :
    (∀ i, Real' (u i)) ∧ (∀ i, Real' (a i)) ∧ (∀ i, Real' (w i)) ∧ (∀ i, Real' (b i)) := by
  have h0 := h ix0
  haveI : Subsingleton Cert.Pre_finite.S_.Idx := ⟨fun _ _ => funext fun k => k.elim0⟩
  dsimp only [Cert.Pre_finite.fn, Cert.Pre_finite.fn_part1] at h0
  obtain ⟨h1, hb⟩ := IntOp.andi_eq_one.1 h0
  obtain ⟨h2, hw⟩ := IntOp.andi_eq_one.1 h1
  obtain ⟨hu, ha⟩ := IntOp.andi_eq_one.1 h2
  exact ⟨fun i => real_of_olt _ (Host.reduce_andi_all _ _ _ _ _ hu i), fun i => real_of_olt _ (Host.reduce_andi_all _ _ _ _ _ ha i),
    fun i => real_of_olt _ (Host.reduce_andi_all _ _ _ _ _ hw i), fun i => real_of_olt _ (Host.reduce_andi_all _ _ _ _ _ hb i)⟩

theorem half_gate (r : Fin 2048) (q : Fin 5504) : val_main_v69 (F := Ideal) u a w b (ix3 0 r (gateCol q)) = val_main_v68 (F := Ideal) u a w b (ix3 0 r q) := by
  have hq : (gateCol q : ℕ) < 5504 := q.isLt
  pointwise [val_main_v69]
  rw [dif_pos hq]
  rfl

theorem half_value (r : Fin 2048) (q : Fin 5504) : val_main_v69 (F := Ideal) u a w b (ix3 0 r (valueCol q)) = val_main_v55 (F := Ideal) u a w b (ix3 0 r q) := by
  have hq : ¬ (valueCol q : ℕ) < 5504 := by show ¬ 5504 + (q : ℕ) < 5504; omega
  have e : (⟨(valueCol q : ℕ) - 5504, by show 5504 + (q : ℕ) - 5504 < 5504; omega⟩ : Fin 5504) = q := Fin.ext (by show 5504 + (q : ℕ) - 5504 = q; omega)
  pointwise [val_main_v69]
  rw [dif_neg hq]
  exact congrArg (fun z => val_main_v55 (F := Ideal) u a w b (ix3 0 r z)) e

variable (hu : ∀ i, Real' (u i)) (ha : ∀ i, Real' (a i)) (hw : ∀ i, Real' (w i)) (hb : ∀ i, Real' (b i))

theorem cot_value (q : Fin 5504) (r : Fin 2048) : val_main_v69 (F := Ideal) u a w b (ix3 0 r (valueCol q)) = cotValue u a w b q r :=
  (half_value u a w b r q).trans (value_at u a w b r q)

include hu ha hw hb

theorem cot_gate (q : Fin 5504) (r : Fin 2048) : val_main_v69 (F := Ideal) u a w b (ix3 0 r (gateCol q)) = cotGate u a w b q r := by
  rw [half_gate, gate_at]
  exact (dGate_eq (ha _) (real_conv (fun _ => hu _) (fun _ => hw _) (hb _) r) (real_conv (fun _ => hu _) (fun _ => hw _) (hb _) r)).symm

theorem entry_0 (r : Fin 2048) (q : Fin 5504) : val_main_v109 (F := Ideal) u a w b (ix2 r q) = duGate u a w b r q := by
  have e : idx_main_v109 (ix2 r q) = (ix2 r (gateCol q)) := by
    funext k
    match k with
    | ⟨0, _⟩ => rfl
    | ⟨1, _⟩ => rfl
  rw [val_main_v109_apply, e, du_at u a w b r (gateCol q)]
  have c : (fun s => val_main_v69 (F := Ideal) u a w b (ix3 0 s (gateCol q))) = cotGate u a w b q := funext fun s => cot_gate u a w b hu ha hw hb q s
  rw [c]
  rfl

theorem result_0 : val_main_v109 (F := Ideal) u a w b = fun i : S2048x5504.Idx => duGate u a w b (i 0) (i 1) := by
  funext i
  obtain ⟨r, q, rfl⟩ : ∃ (r : Fin 2048) (q : Fin 5504), i = ix2 r q := ⟨i 0, i 1, (ix2_eta i).symm⟩
  exact entry_0 u a w b hu ha hw hb r q

theorem entry_2 (r : Fin 3) (q : Fin 5504) : val_main_v111 (F := Ideal) u a w b (ix2 r q) = dwGate u a w b r q := by
  have e : idx_main_v111 (ix2 r q) = (ix2 r (gateCol q)) := by
    funext k
    match k with
    | ⟨0, _⟩ => rfl
    | ⟨1, _⟩ => rfl
  rw [val_main_v111_apply, e, dw_at u a w b r (gateCol q)]
  have c : (fun s => val_main_v69 (F := Ideal) u a w b (ix3 0 s (gateCol q))) = cotGate u a w b q := funext fun s => cot_gate u a w b hu ha hw hb q s
  rw [c]
  rfl

theorem result_2 : val_main_v111 (F := Ideal) u a w b = fun i : S3x5504.Idx => dwGate u a w b (i 0) (i 1) := by
  funext i
  obtain ⟨r, q, rfl⟩ : ∃ (r : Fin 3) (q : Fin 5504), i = ix2 r q := ⟨i 0, i 1, (ix2_eta i).symm⟩
  exact entry_2 u a w b hu ha hw hb r q

theorem entry_4 (q : Fin 5504) : val_main_v113 (F := Ideal) u a w b (ix2 0 q) = dbGate u a w b q := by
  have e : idx_main_v113 (ix2 0 q) = (ix2 0 (gateCol q)) := by
    funext k
    match k with
    | ⟨0, _⟩ => rfl
    | ⟨1, _⟩ => rfl
  rw [val_main_v113_apply, e, db_at u a w b (gateCol q)]
  have c : (fun s => val_main_v69 (F := Ideal) u a w b (ix3 0 s (gateCol q))) = cotGate u a w b q := funext fun s => cot_gate u a w b hu ha hw hb q s
  simp only [cot_gate u a w b hu ha hw hb]
  rfl

theorem result_4 : val_main_v113 (F := Ideal) u a w b = fun i : S1x5504.Idx => dbGate u a w b (i 1) := by
  funext i
  obtain ⟨r, q, rfl⟩ : ∃ (r : Fin 1) (q : Fin 5504), i = ix2 r q := ⟨i 0, i 1, (ix2_eta i).symm⟩
  obtain rfl : r = 0 := Subsingleton.elim _ _
  exact entry_4 u a w b hu ha hw hb q

omit hu ha hw hb

theorem entry_1 (r : Fin 2048) (q : Fin 5504) : val_main_v110 (F := Ideal) u a w b (ix2 r q) = duValue u a w b r q := by
  have e : idx_main_v110 (ix2 r q) = (ix2 r (valueCol q)) := by
    funext k
    match k with
    | ⟨0, _⟩ => rfl
    | ⟨1, _⟩ => rfl
  rw [val_main_v110_apply, e, du_at u a w b r (valueCol q)]
  have c : (fun s => val_main_v69 (F := Ideal) u a w b (ix3 0 s (valueCol q))) = cotValue u a w b q := funext fun s => cot_value u a w b q s
  rw [c]
  rfl

theorem result_1 : val_main_v110 (F := Ideal) u a w b = fun i : S2048x5504.Idx => duValue u a w b (i 0) (i 1) := by
  funext i
  obtain ⟨r, q, rfl⟩ : ∃ (r : Fin 2048) (q : Fin 5504), i = ix2 r q := ⟨i 0, i 1, (ix2_eta i).symm⟩
  exact entry_1 u a w b r q

theorem entry_3 (r : Fin 3) (q : Fin 5504) : val_main_v112 (F := Ideal) u a w b (ix2 r q) = dwValue u a w b r q := by
  have e : idx_main_v112 (ix2 r q) = (ix2 r (valueCol q)) := by
    funext k
    match k with
    | ⟨0, _⟩ => rfl
    | ⟨1, _⟩ => rfl
  rw [val_main_v112_apply, e, dw_at u a w b r (valueCol q)]
  have c : (fun s => val_main_v69 (F := Ideal) u a w b (ix3 0 s (valueCol q))) = cotValue u a w b q := funext fun s => cot_value u a w b q s
  rw [c]
  rfl

theorem result_3 : val_main_v112 (F := Ideal) u a w b = fun i : S3x5504.Idx => dwValue u a w b (i 0) (i 1) := by
  funext i
  obtain ⟨r, q, rfl⟩ : ∃ (r : Fin 3) (q : Fin 5504), i = ix2 r q := ⟨i 0, i 1, (ix2_eta i).symm⟩
  exact entry_3 u a w b r q

theorem entry_5 (q : Fin 5504) : val_main_v114 (F := Ideal) u a w b (ix2 0 q) = dbValue u a w b q := by
  have e : idx_main_v114 (ix2 0 q) = (ix2 0 (valueCol q)) := by
    funext k
    match k with
    | ⟨0, _⟩ => rfl
    | ⟨1, _⟩ => rfl
  rw [val_main_v114_apply, e, db_at u a w b (valueCol q)]
  have c : (fun s => val_main_v69 (F := Ideal) u a w b (ix3 0 s (valueCol q))) = cotValue u a w b q := funext fun s => cot_value u a w b q s
  simp only [cot_value u a w b]
  rfl

theorem result_5 : val_main_v114 (F := Ideal) u a w b = fun i : S1x5504.Idx => dbValue u a w b (i 1) := by
  funext i
  obtain ⟨r, q, rfl⟩ : ∃ (r : Fin 1) (q : Fin 5504), i = ix2 r q := ⟨i 0, i 1, (ix2_eta i).symm⟩
  obtain rfl : r = 0 := Subsingleton.elim _ _
  exact entry_5 u a w b q

end Cert.ReferenceIdeal.Columns
end
-- ==== Proof.DwoValue.lean ====
/- The gradient of the second feed-forward weight: the scratch adds the tiles of the contraction up, and the block written back is the tile of the reference's product. -/
module

public import proofs.«01_k».proof.Proof.Gen.DwoIdeal.Value
public import proofs.«01_k».proof.Proof.Gen.DwoRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwoIdeal.Tiles

open Cert.DwoIdeal Cert.DwoIdeal.Gen

variable (m : (ℓ : Loc nD τ sig) → Buf (Elt Ideal) ℓ)

/-- The reference's product, over the kernel's argument arrays. -/
def target (x : FVec Ideal S2048x5504 .bf16) (w : FVec Ideal S2048x2048 .bf16) : FVec Ideal S5504x2048 .bf16 :=
  truncf .bf16 (transpose Cert.DwoRefIdeal.S5504x2048 [1, 0] (Host.dotGeneral Cert.DwoRefIdeal.dot_S2048x2048_S2048x5504_S2048x5504_0_0_1_1_n_n none (extf .f32 w Cert.DwoRefIdeal.Gen.bitsLt_bf16_f32) (extf .f32 x Cert.DwoRefIdeal.Gen.bitsLt_bf16_f32)) Cert.DwoRefIdeal.Gen.transposes_S2048x5504_S5504x2048_1_0) Cert.DwoRefIdeal.Gen.bitsLt_bf16_f32

/-- The first step of a run stores the product of its two tiles. -/
theorem first_apply (x0 x1) (j : S5504x512.Idx) : k0_pay2 (F := Ideal) x0 x1 j = 0 + ∑ k : Fin 512, x0 (ix2 k (j 0)) * x1 (ix2 k (j 1)) := by
  pointwise [k0_pay2, k0_pay1]

/-- A later step adds the product of its two tiles to what the scratch holds. -/
theorem later_apply (x0 x1 acc) (j : S5504x512.Idx) : k0_pay3 (F := Ideal) x0 x1 acc j = acc j + ∑ k : Fin 512, x0 (ix2 k (j 0)) * x1 (ix2 k (j 1)) := by
  pointwise [k0_pay3, k0_pay1]

theorem target_apply (x w) (i : S5504x2048.Idx) : target x w i = ∑ l : Fin 2048, x (ix2 l (i 0)) * w (ix2 l (i 1)) := by
  pointwise [target]
  exact Finset.sum_congr rfl fun k _ => mul_comm _ _

theorem idx : ∀ t : Fin cfg0.N, win0_0.index t = ![t.val % 4, 0] ∧ win0_1.index t = ![t.val % 4, t.val / 4] ∧ win0_2.index t = ![0, t.val / 4] :=
  (by decide +kernel : ∀ t : Fin grid0.N, _)

/-- At the last step of a run the output block is what the scratch holds. -/
theorem out_apply (c : Dev nD) (t : Fin cfg0.N) (h : t.val % 4 = 4 - 1) (y : S5504x512.Idx) :
    (show EReal from (outsAt0 m c t.val t.isLt).1 y) = (outsAt0 m c t.val t.isLt).2 y := by
  rw [outsAt0_C m c t (by omega) (by omega) (by omega)]
  frame_out
  pointwise [k0_pay4]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 4 (fun _ => 0) _
    (fun t h j => by rw [outsAt0_A m c t h (by omega) (by omega)]; frame_out; rw [first_apply])
    (fun t h j => by
      by_cases h2 : t.val % 4 = 4 - 1
      · rw [outsAt0_C m c t h (by omega) h2]; frame_out; rw [later_apply]; exact Ideal.add_congr (congrFun ((Memref.isWhole_whole _).read_unread _) _) rfl
      · rw [outsAt0_B m c t h (by omega) h2]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.DwoIdeal.Tiles
end
-- ==== Proof.DwiValue.lean ====
/- The gradient of the first feed-forward weight: every column tile of the kernel's product is the same tile of the
   reference's product, over the real numbers. -/
module

public import proofs.«01_k».proof.Proof.Gen.DwiIdeal.Value
public import proofs.«01_k».proof.Proof.Gen.DwiRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DwiIdeal.Tiles

open Cert.DwiIdeal Cert.DwiIdeal.Gen

variable (m : (ℓ : Loc nD τ sig) → Buf (Elt Ideal) ℓ)

/-- The reference's product of the transposed first factor by the second, at the shapes of the kernel. -/
abbrev target (h : FVec Ideal S2048x2048 .bf16) (d : FVec Ideal S2048x11008 .bf16) : FVec Ideal S2048x11008 .bf16 :=
  truncf .bf16 (transpose Cert.DwiRefIdeal.S2048x11008 [1, 0] (Host.dotGeneral Cert.DwiRefIdeal.dot_S2048x11008_S2048x2048_S11008x2048_0_0_1_1_n_n none (extf .f32 d Cert.DwiRefIdeal.Gen.bitsLt_bf16_f32) (extf .f32 h Cert.DwiRefIdeal.Gen.bitsLt_bf16_f32)) Cert.DwiRefIdeal.Gen.transposes_S11008x2048_S2048x11008_1_0) Cert.DwiRefIdeal.Gen.bitsLt_bf16_f32

theorem idx : ∀ t : Fin cfg0.N, win0_0.index t = ![0, 0] ∧ win0_1.index t = ![0, t.val] ∧ win0_2.index t = ![0, t.val] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  refine (Finset.sum_congr rfl fun k _ => mul_comm _ _).trans ?_
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DwiIdeal.Tiles
end
-- ==== Proof.ActValue.lean ====
/- The channel mixer's activation: the gated causal convolution, column by column, in the kernel's tiles and in the
   reference. -/
module

public import proofs.«01_k».proof.Proof.Gen.ActIdeal.Value
public import proofs.«01_k».proof.Proof.Gen.ActRefIdeal.Read
public import proofs.«01_k».proof.Proof.MixMath
public import proofs.«01_k».proof.Proof.MixReference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Mix

/-- The activation, as a function of the two halves' convolutions. -/
def gatedBy (g v : EReal) : EReal := half * g * (1 + gateTanh g) * v

def activation (u : A 2048 11008) (w : A 3 11008) (b : A 1 11008) (r : Fin 2048) (q : Fin 5504) : EReal :=
  gatedBy (mixed u w b (gateCol q) r) (mixed u w b (valueCol q) r)

end Mix

namespace Cert.ActRefIdeal.Columns

open Cert.ActRefIdeal Cert.ActRefIdeal.Gen Cert.ActRefIdeal.Read Mix

variable (u : A 2048 11008) (w : A 3 11008) (b : A 1 11008)

theorem conv_at (r : Fin 2048) (q : Fin 11008) : val_main_v26 (F := Ideal) u w b (ix3 0 r q) = mixed u w b q r := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_cst, mixed, conv, down]
  have e1 : 1 + (r : ℕ) - 2 = (r : ℕ) - 1 := by omega
  by_cases h1 : 1 ≤ (r : ℕ)
  · have h1' : ¬ 1 + (r : ℕ) < 2 := by omega
    rw [dif_pos h1, dif_neg h1']
    by_cases h2 : 2 ≤ (r : ℕ)
    · have h2' : ¬ (r : ℕ) < 2 := by omega
      rw [dif_pos h2, dif_neg h2']
      simp only [e1]
      ac_rfl
    · have h2' : (r : ℕ) < 2 := by omega
      rw [dif_neg h2, dif_pos h2']
      simp only [e1, mul_zero, add_zero]
      ac_rfl
  · have h1' : 1 + (r : ℕ) < 2 := by omega
    have h2 : ¬ 2 ≤ (r : ℕ) := by omega
    have h2' : (r : ℕ) < 2 := by omega
    rw [dif_neg h1, dif_pos h1', dif_neg h2, dif_pos h2']
    simp only [mul_zero, add_zero]

theorem act_at (r : Fin 2048) (q : Fin 5504) : val_main_v45 (F := Ideal) u w b (ix2 r q) = activation u w b r q := by
  have hg := conv_at u w b r (gateCol q)
  have hv := conv_at u w b r (valueCol q)
  unfold activation
  rw [← hg, ← hv]
  unfold gateCol valueCol
  pointwise [val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_cst_0, val_main_cst_1, val_main_cst_2, val_main_cst_3, val_main_cst_4, gatedBy, gateTanh]
  rw [Cert.ReferenceIdeal.Columns.cubic_eq]
  simp only [half, scale]
  ac_rfl

theorem result : val_main_v45 (F := Ideal) u w b = fun i : S2048x5504.Idx => activation u w b (i 0) (i 1) := by
  funext i
  obtain ⟨r, q, rfl⟩ : ∃ (r : Fin 2048) (q : Fin 5504), i = ix2 r q := ⟨i 0, i 1, (ix2_eta i).symm⟩
  exact act_at u w b r q

end Cert.ActRefIdeal.Columns

namespace Cert.ActIdeal.Tiles

open Cert.ActIdeal Cert.ActIdeal.Gen Mix

theorem named_cubic : Named.named (F := Ideal) (φ := .f32) κ "gelu_a" 0x3D372713#32 = cubic := rfl

theorem conv_gate (x w b) (r : Fin 2048) (l : Fin 128) :
    k0_pay2 (F := Ideal) x w b (ix2 r l) = conv (fun r => x (ix2 r l)) (fun k => w (ix2 k l)) (b (ix2 0 l)) r := by
  pointwise [k0_pay2, conv]
  rw [select_down 1 (by norm_num) _ (fun r => x (ix2 r l)), select_down 2 (by norm_num) _ (fun r => x (ix2 r l))]

theorem tanh_gate (x w b) (r : Fin 2048) (l : Fin 128) :
    k0_pay3 (F := Ideal) x w b (ix2 r l) = gateTanh (k0_pay2 (F := Ideal) x w b (ix2 r l)) := by
  pointwise [k0_pay3, gateTanh]
  rw [named_cubic]

theorem product (x w b g t) (r : Fin 2048) (l : Fin 128) :
    k0_pay1 (F := Ideal) x w b g t (ix2 r l)
      = half * g (ix2 r l) * (1 + t (ix2 r l)) * conv (fun r => x (ix2 r l)) (fun k => w (ix2 k l)) (b (ix2 0 l)) r := by
  pointwise [k0_pay1, conv]
  rw [select_down 1 (by norm_num) _ (fun r => x (ix2 r l)), select_down 2 (by norm_num) _ (fun r => x (ix2 r l))]

variable (m : (ℓ : Loc nD τ sig) → Buf (Elt Ideal) ℓ)

theorem idx : ∀ t : Fin cfg0.N, win0_0.index t = ![0, t.val] ∧ win0_1.index t = ![0, t.val + 43] ∧ win0_2.index t = ![0, t.val]
    ∧ win0_3.index t = ![0, t.val + 43] ∧ win0_4.index t = ![0, t.val] ∧ win0_5.index t = ![0, t.val + 43] ∧ win0_6.index t = ![0, t.val] :=
  (by decide +kernel : ∀ t : Fin grid0.N, _)

theorem tiles (t : Fin cfg0.N) : t.val < 43 := t.isLt

/-- The column of a half that a tile's lane holds. -/
def col (t : Fin cfg0.N) (l : Fin 128) : Fin 5504 := ⟨t.val * 128 + l.val, by have := tiles t; omega⟩

variable (c : Dev nD) (t : Fin cfg0.N)

theorem block_0 (r : Fin 2048) (l : Fin 128) : iblk m c 0 t (ix2 r l) = (m ((c : Thread nD τ).loc main_arg0) : FVec Ideal S2048x11008 .f32) (ix2 r (gateCol (col t l))) := by
  unfold gateCol col
  blk_point [iblk, V, idx t]

theorem block_1 (r : Fin 2048) (l : Fin 128) : iblk m c 1 t (ix2 r l) = (m ((c : Thread nD τ).loc main_arg0) : FVec Ideal S2048x11008 .f32) (ix2 r (valueCol (col t l))) := by
  unfold valueCol col
  blk_point [iblk, V, idx t]

theorem block_2 (r : Fin 3) (l : Fin 128) : iblk m c 2 t (ix2 r l) = (m ((c : Thread nD τ).loc main_arg1) : FVec Ideal S3x11008 .f32) (ix2 r (gateCol (col t l))) := by
  unfold gateCol col
  blk_point [iblk, V, idx t]

theorem block_3 (r : Fin 3) (l : Fin 128) : iblk m c 3 t (ix2 r l) = (m ((c : Thread nD τ).loc main_arg1) : FVec Ideal S3x11008 .f32) (ix2 r (valueCol (col t l))) := by
  unfold valueCol col
  blk_point [iblk, V, idx t]

theorem block_4 (r : Fin 1) (l : Fin 128) : iblk m c 4 t (ix2 r l) = (m ((c : Thread nD τ).loc main_arg2) : FVec Ideal S1x11008 .f32) (ix2 r (gateCol (col t l))) := by
  unfold gateCol col
  blk_point [iblk, V, idx t]

theorem block_5 (r : Fin 1) (l : Fin 128) : iblk m c 5 t (ix2 r l) = (m ((c : Thread nD τ).loc main_arg2) : FVec Ideal S1x11008 .f32) (ix2 r (valueCol (col t l))) := by
  unfold valueCol col
  blk_point [iblk, V, idx t]

theorem place (r : Fin 2048) (l : Fin 128) : ((cfg0.win 6).blk t).view.emb (ix2 r l) = ix2 r (col t l) := by
  unfold col
  blk_ext [idx t]

theorem final : (dats m 0 c).arrAt 6 (cfgs 0).N = fun i : S2048x5504.Idx => activation (m ((c : Thread nD τ).loc main_arg0)) (m ((c : Thread nD τ).loc main_arg1)) (m ((c : Thread nD τ).loc main_arg2)) (i 0) (i 1) := by
  refine (dats m 0 c).arrAt_eq_of_covers 6 _ (by decide +kernel) fun t _ y => ?_
  blk_simp
  rw [after0_6]; frame_out
  obtain ⟨r, l, rfl⟩ : ∃ (r : Fin 2048) (l : Fin 128), y = ix2 r l := ⟨y 0, y 1, (ix2_eta y).symm⟩
  show _ = (fun i : S2048x5504.Idx => activation (m ((c : Thread nD τ).loc main_arg0)) (m ((c : Thread nD τ).loc main_arg1)) (m ((c : Thread nD τ).loc main_arg2)) (i 0) (i 1)) (((cfg0.win 6).blk t).view.emb (ix2 r l))
  rw [place]
  refine (product _ _ _ _ _ r l).trans ?_
  rw [tanh_gate, conv_gate]
  simp only [block_0, block_1, block_2, block_3, block_4, block_5]
  rfl

end Cert.ActIdeal.Tiles
end
-- ==== Proof.DactValue.lean ====
/- The gradient of the gated activations, in each layer: the scratch adds the tiles of the contraction up, and the block
   written back is the tile of the reference's product. -/
module

public import proofs.«01_k».proof.Proof.Gen.Dact0Ideal.Value
public import proofs.«01_k».proof.Proof.Gen.Dact0RefIdeal
public import proofs.«01_k».proof.Proof.Gen.Dact1Ideal.Value
public import proofs.«01_k».proof.Proof.Gen.Dact1RefIdeal
public import proofs.«01_k».proof.Proof.Gen.Dact2Ideal.Value
public import proofs.«01_k».proof.Proof.Gen.Dact2RefIdeal
public import proofs.«01_k».proof.Proof.Gen.Dact3Ideal.Value
public import proofs.«01_k».proof.Proof.Gen.Dact3RefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Dact0Ideal.Tiles

open Cert.Dact0Ideal Cert.Dact0Ideal.Gen

variable (m : (ℓ : Loc nD τ sig) → Buf (Elt Ideal) ℓ)

/-- The reference's product, over the kernel's argument arrays. -/
def target (x : FVec Ideal S2048x2048 .bf16) (w : FVec Ideal S4x5504x2048 .bf16) : FVec Ideal S2048x5504 .f32 :=
  Host.dotGeneral Cert.Dact0RefIdeal.dot_S2048x2048_S5504x2048_S2048x5504_1_1_0_0_n_n none (extf .f32 x Cert.Dact0RefIdeal.Gen.bitsLt_bf16_f32) (extf .f32 (shapeCast Cert.Dact0RefIdeal.S5504x2048 (extractStridedSlice Cert.Dact0RefIdeal.S1x5504x2048 ![0, 0, 0] w Cert.Dact0RefIdeal.Gen.slices_S4x5504x2048_S1x5504x2048_0_0_0) Cert.Dact0RefIdeal.Gen.shapeCasts_S1x5504x2048_S5504x2048) Cert.Dact0RefIdeal.Gen.bitsLt_bf16_f32)

/-- The first step of a run stores the product of its two tiles. -/
theorem first_apply (x0 x1) (j : S512x5504.Idx) : k0_pay2 (F := Ideal) x0 x1 j = 0 + ∑ k : Fin 512, x0 (ix2 (j 0) k) * x1 (ix3 0 (j 1) k) := by
  pointwise [k0_pay2, k0_pay1]

/-- A later step adds the product of its two tiles to what the scratch holds. -/
theorem later_apply (x0 x1 acc) (j : S512x5504.Idx) : k0_pay3 (F := Ideal) x0 x1 acc j = acc j + ∑ k : Fin 512, x0 (ix2 (j 0) k) * x1 (ix3 0 (j 1) k) := by
  pointwise [k0_pay3, k0_pay1]

theorem target_apply (x w) (i : S2048x5504.Idx) : target x w i = ∑ k : Fin 2048, x (ix2 (i 0) k) * w (ix3 0 (i 1) k) := by
  pointwise [target]

theorem idx : ∀ t : Fin cfg0.N, win0_0.index t = ![t.val / 4, t.val % 4] ∧ win0_1.index t = ![0, 0, t.val % 4] ∧ win0_2.index t = ![t.val / 4, 0] :=
  (by decide +kernel : ∀ t : Fin grid0.N, _)

/-- At the last step of a run the output block is what the scratch holds. -/
theorem out_apply (c : Dev nD) (t : Fin cfg0.N) (h : t.val % 4 = 4 - 1) (y : S512x5504.Idx) :
    (show EReal from (outsAt0 m c t.val t.isLt).1 y) = (outsAt0 m c t.val t.isLt).2 y := by
  rw [outsAt0_C m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 4 (fun _ => 0) _
    (fun t h j => by rw [outsAt0_A m c t h (by omega) (by omega)]; frame_out; rw [first_apply])
    (fun t h j => by
      by_cases h2 : t.val % 4 = 4 - 1
      · rw [outsAt0_C m c t h (by omega) h2]; frame_out; rw [later_apply]; exact Ideal.add_congr (congrFun ((Memref.isWhole_whole _).read_unread _) _) rfl
      · rw [outsAt0_B m c t h (by omega) h2]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.Dact0Ideal.Tiles

namespace Cert.Dact1Ideal.Tiles

open Cert.Dact1Ideal Cert.Dact1Ideal.Gen

variable (m : (ℓ : Loc nD τ sig) → Buf (Elt Ideal) ℓ)

/-- The reference's product, over the kernel's argument arrays. -/
def target (x : FVec Ideal S2048x2048 .bf16) (w : FVec Ideal S4x5504x2048 .bf16) : FVec Ideal S2048x5504 .f32 :=
  Host.dotGeneral Cert.Dact1RefIdeal.dot_S2048x2048_S5504x2048_S2048x5504_1_1_0_0_n_n none (extf .f32 x Cert.Dact1RefIdeal.Gen.bitsLt_bf16_f32) (extf .f32 (shapeCast Cert.Dact1RefIdeal.S5504x2048 (extractStridedSlice Cert.Dact1RefIdeal.S1x5504x2048 ![1, 0, 0] w Cert.Dact1RefIdeal.Gen.slices_S4x5504x2048_S1x5504x2048_1_0_0) Cert.Dact1RefIdeal.Gen.shapeCasts_S1x5504x2048_S5504x2048) Cert.Dact1RefIdeal.Gen.bitsLt_bf16_f32)

theorem first_apply (x0 x1) (j : S512x5504.Idx) : k0_pay2 (F := Ideal) x0 x1 j = 0 + ∑ k : Fin 512, x0 (ix2 (j 0) k) * x1 (ix3 0 (j 1) k) :=
  Cert.Dact0Ideal.Tiles.first_apply x0 x1 j

theorem later_apply (x0 x1 acc) (j : S512x5504.Idx) : k0_pay3 (F := Ideal) x0 x1 acc j = acc j + ∑ k : Fin 512, x0 (ix2 (j 0) k) * x1 (ix3 0 (j 1) k) :=
  Cert.Dact0Ideal.Tiles.later_apply x0 x1 acc j

theorem target_apply (x w) (i : S2048x5504.Idx) : target x w i = ∑ k : Fin 2048, x (ix2 (i 0) k) * w (ix3 1 (i 1) k) := by
  pointwise [target]

theorem idx : ∀ t : Fin cfg0.N, win0_0.index t = ![t.val / 4, t.val % 4] ∧ win0_1.index t = ![1, 0, t.val % 4] ∧ win0_2.index t = ![t.val / 4, 0] :=
  (by decide +kernel : ∀ t : Fin grid0.N, _)

/-- At the last step of a run the output block is what the scratch holds. -/
theorem out_apply (c : Dev nD) (t : Fin cfg0.N) (h : t.val % 4 = 4 - 1) (y : S512x5504.Idx) :
    (show EReal from (outsAt0 m c t.val t.isLt).1 y) = (outsAt0 m c t.val t.isLt).2 y := by
  rw [outsAt0_C m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 4 (fun _ => 0) _
    (fun t h j => by rw [outsAt0_A m c t h (by omega) (by omega)]; frame_out; rw [first_apply])
    (fun t h j => by
      by_cases h2 : t.val % 4 = 4 - 1
      · rw [outsAt0_C m c t h (by omega) h2]; frame_out; rw [later_apply]; exact Ideal.add_congr (congrFun ((Memref.isWhole_whole _).read_unread _) _) rfl
      · rw [outsAt0_B m c t h (by omega) h2]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.Dact1Ideal.Tiles

namespace Cert.Dact2Ideal.Tiles

open Cert.Dact2Ideal Cert.Dact2Ideal.Gen

variable (m : (ℓ : Loc nD τ sig) → Buf (Elt Ideal) ℓ)

/-- The reference's product, over the kernel's argument arrays. -/
def target (x : FVec Ideal S2048x2048 .bf16) (w : FVec Ideal S4x5504x2048 .bf16) : FVec Ideal S2048x5504 .f32 :=
  Host.dotGeneral Cert.Dact2RefIdeal.dot_S2048x2048_S5504x2048_S2048x5504_1_1_0_0_n_n none (extf .f32 x Cert.Dact2RefIdeal.Gen.bitsLt_bf16_f32) (extf .f32 (shapeCast Cert.Dact2RefIdeal.S5504x2048 (extractStridedSlice Cert.Dact2RefIdeal.S1x5504x2048 ![2, 0, 0] w Cert.Dact2RefIdeal.Gen.slices_S4x5504x2048_S1x5504x2048_2_0_0) Cert.Dact2RefIdeal.Gen.shapeCasts_S1x5504x2048_S5504x2048) Cert.Dact2RefIdeal.Gen.bitsLt_bf16_f32)

theorem first_apply (x0 x1) (j : S512x5504.Idx) : k0_pay2 (F := Ideal) x0 x1 j = 0 + ∑ k : Fin 512, x0 (ix2 (j 0) k) * x1 (ix3 0 (j 1) k) :=
  Cert.Dact0Ideal.Tiles.first_apply x0 x1 j

theorem later_apply (x0 x1 acc) (j : S512x5504.Idx) : k0_pay3 (F := Ideal) x0 x1 acc j = acc j + ∑ k : Fin 512, x0 (ix2 (j 0) k) * x1 (ix3 0 (j 1) k) :=
  Cert.Dact0Ideal.Tiles.later_apply x0 x1 acc j

theorem target_apply (x w) (i : S2048x5504.Idx) : target x w i = ∑ k : Fin 2048, x (ix2 (i 0) k) * w (ix3 2 (i 1) k) := by
  pointwise [target]

theorem idx : ∀ t : Fin cfg0.N, win0_0.index t = ![t.val / 4, t.val % 4] ∧ win0_1.index t = ![2, 0, t.val % 4] ∧ win0_2.index t = ![t.val / 4, 0] :=
  (by decide +kernel : ∀ t : Fin grid0.N, _)

/-- At the last step of a run the output block is what the scratch holds. -/
theorem out_apply (c : Dev nD) (t : Fin cfg0.N) (h : t.val % 4 = 4 - 1) (y : S512x5504.Idx) :
    (show EReal from (outsAt0 m c t.val t.isLt).1 y) = (outsAt0 m c t.val t.isLt).2 y := by
  rw [outsAt0_C m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 4 (fun _ => 0) _
    (fun t h j => by rw [outsAt0_A m c t h (by omega) (by omega)]; frame_out; rw [first_apply])
    (fun t h j => by
      by_cases h2 : t.val % 4 = 4 - 1
      · rw [outsAt0_C m c t h (by omega) h2]; frame_out; rw [later_apply]; exact Ideal.add_congr (congrFun ((Memref.isWhole_whole _).read_unread _) _) rfl
      · rw [outsAt0_B m c t h (by omega) h2]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.Dact2Ideal.Tiles

namespace Cert.Dact3Ideal.Tiles

open Cert.Dact3Ideal Cert.Dact3Ideal.Gen

variable (m : (ℓ : Loc nD τ sig) → Buf (Elt Ideal) ℓ)

/-- The reference's product, over the kernel's argument arrays. -/
def target (x : FVec Ideal S2048x2048 .bf16) (w : FVec Ideal S4x5504x2048 .bf16) : FVec Ideal S2048x5504 .f32 :=
  Host.dotGeneral Cert.Dact3RefIdeal.dot_S2048x2048_S5504x2048_S2048x5504_1_1_0_0_n_n none (extf .f32 x Cert.Dact3RefIdeal.Gen.bitsLt_bf16_f32) (extf .f32 (shapeCast Cert.Dact3RefIdeal.S5504x2048 (extractStridedSlice Cert.Dact3RefIdeal.S1x5504x2048 ![3, 0, 0] w Cert.Dact3RefIdeal.Gen.slices_S4x5504x2048_S1x5504x2048_3_0_0) Cert.Dact3RefIdeal.Gen.shapeCasts_S1x5504x2048_S5504x2048) Cert.Dact3RefIdeal.Gen.bitsLt_bf16_f32)

theorem first_apply (x0 x1) (j : S512x5504.Idx) : k0_pay2 (F := Ideal) x0 x1 j = 0 + ∑ k : Fin 512, x0 (ix2 (j 0) k) * x1 (ix3 0 (j 1) k) :=
  Cert.Dact0Ideal.Tiles.first_apply x0 x1 j

theorem later_apply (x0 x1 acc) (j : S512x5504.Idx) : k0_pay3 (F := Ideal) x0 x1 acc j = acc j + ∑ k : Fin 512, x0 (ix2 (j 0) k) * x1 (ix3 0 (j 1) k) :=
  Cert.Dact0Ideal.Tiles.later_apply x0 x1 acc j

theorem target_apply (x w) (i : S2048x5504.Idx) : target x w i = ∑ k : Fin 2048, x (ix2 (i 0) k) * w (ix3 3 (i 1) k) := by
  pointwise [target]

theorem idx : ∀ t : Fin cfg0.N, win0_0.index t = ![t.val / 4, t.val % 4] ∧ win0_1.index t = ![3, 0, t.val % 4] ∧ win0_2.index t = ![t.val / 4, 0] :=
  (by decide +kernel : ∀ t : Fin grid0.N, _)

/-- At the last step of a run the output block is what the scratch holds. -/
theorem out_apply (c : Dev nD) (t : Fin cfg0.N) (h : t.val % 4 = 4 - 1) (y : S512x5504.Idx) :
    (show EReal from (outsAt0 m c t.val t.isLt).1 y) = (outsAt0 m c t.val t.isLt).2 y := by
  rw [outsAt0_C m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 4 (fun _ => 0) _
    (fun t h j => by rw [outsAt0_A m c t h (by omega) (by omega)]; frame_out; rw [first_apply])
    (fun t h j => by
      by_cases h2 : t.val % 4 = 4 - 1
      · rw [outsAt0_C m c t h (by omega) h2]; frame_out; rw [later_apply]; exact Ideal.add_congr (congrFun ((Memref.isWhole_whole _).read_unread _) _) rfl
      · rw [outsAt0_B m c t h (by omega) h2]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.Dact3Ideal.Tiles
end
-- ==== Proof.DhValue.lean ====
/- The gradient of the mixer's input, in each layer: the scratch adds the two halves of the contraction up, and the block
   written back is the tile of the reference's product. -/
module

public import proofs.«01_k».proof.Proof.Gen.Dh0Ideal.Value
public import proofs.«01_k».proof.Proof.Gen.Dh0RefIdeal
public import proofs.«01_k».proof.Proof.Gen.Dh1Ideal.Value
public import proofs.«01_k».proof.Proof.Gen.Dh1RefIdeal
public import proofs.«01_k».proof.Proof.Gen.Dh2Ideal.Value
public import proofs.«01_k».proof.Proof.Gen.Dh2RefIdeal
public import proofs.«01_k».proof.Proof.Gen.Dh3Ideal.Value
public import proofs.«01_k».proof.Proof.Gen.Dh3RefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Dh0Ideal.Tiles

open Cert.Dh0Ideal Cert.Dh0Ideal.Gen

variable (m : (ℓ : Loc nD τ sig) → Buf (Elt Ideal) ℓ)

/-- The reference's product, over the kernel's argument arrays. -/
def target (x : FVec Ideal S2048x11008 .bf16) (w : FVec Ideal S4x2048x11008 .bf16) : FVec Ideal S2048x2048 .f32 :=
  Host.dotGeneral Cert.Dh0RefIdeal.dot_S2048x11008_S2048x11008_S2048x2048_1_1_0_0_n_n none (extf .f32 x Cert.Dh0RefIdeal.Gen.bitsLt_bf16_f32) (extf .f32 (shapeCast Cert.Dh0RefIdeal.S2048x11008 (extractStridedSlice Cert.Dh0RefIdeal.S1x2048x11008 ![0, 0, 0] w Cert.Dh0RefIdeal.Gen.slices_S4x2048x11008_S1x2048x11008_0_0_0) Cert.Dh0RefIdeal.Gen.shapeCasts_S1x2048x11008_S2048x11008) Cert.Dh0RefIdeal.Gen.bitsLt_bf16_f32)

/-- The first step of a run stores the product of its two tiles. -/
theorem first_apply (x0 x1) (j : S1024x512.Idx) : k0_pay2 (F := Ideal) x0 x1 j = 0 + ∑ k : Fin 5504, x0 (ix2 (j 0) k) * x1 (ix3 0 (j 1) k) := by
  pointwise [k0_pay2, k0_pay1]

/-- A later step adds the product of its two tiles to what the scratch holds. -/
theorem later_apply (x0 x1 acc) (j : S1024x512.Idx) : k0_pay3 (F := Ideal) x0 x1 acc j = acc j + ∑ k : Fin 5504, x0 (ix2 (j 0) k) * x1 (ix3 0 (j 1) k) := by
  pointwise [k0_pay3, k0_pay1]

theorem target_apply (x w) (i : S2048x2048.Idx) : target x w i = ∑ k : Fin 11008, x (ix2 (i 0) k) * w (ix3 0 (i 1) k) := by
  pointwise [target]

theorem idx : ∀ t : Fin cfg0.N, win0_0.index t = ![t.val / 8, t.val % 2] ∧ win0_1.index t = ![0, t.val / 2 % 4, t.val % 2] ∧ win0_2.index t = ![t.val / 8, t.val / 2 % 4] :=
  (by decide +kernel : ∀ t : Fin grid0.N, _)

/-- At the last step of a run the output block is what the scratch holds. -/
theorem out_apply (c : Dev nD) (t : Fin cfg0.N) (h : t.val % 2 = 2 - 1) (y : S1024x512.Idx) :
    (show EReal from (outsAt0 m c t.val t.isLt).1 y) = (outsAt0 m c t.val t.isLt).2 y := by
  rw [outsAt0_B m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by
      rw [outsAt0_B m c t h (by omega) (by omega)]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.Dh0Ideal.Tiles

namespace Cert.Dh1Ideal.Tiles

open Cert.Dh1Ideal Cert.Dh1Ideal.Gen

variable (m : (ℓ : Loc nD τ sig) → Buf (Elt Ideal) ℓ)

/-- The reference's product, over the kernel's argument arrays. -/
def target (x : FVec Ideal S2048x11008 .bf16) (w : FVec Ideal S4x2048x11008 .bf16) : FVec Ideal S2048x2048 .f32 :=
  Host.dotGeneral Cert.Dh1RefIdeal.dot_S2048x11008_S2048x11008_S2048x2048_1_1_0_0_n_n none (extf .f32 x Cert.Dh1RefIdeal.Gen.bitsLt_bf16_f32) (extf .f32 (shapeCast Cert.Dh1RefIdeal.S2048x11008 (extractStridedSlice Cert.Dh1RefIdeal.S1x2048x11008 ![1, 0, 0] w Cert.Dh1RefIdeal.Gen.slices_S4x2048x11008_S1x2048x11008_1_0_0) Cert.Dh1RefIdeal.Gen.shapeCasts_S1x2048x11008_S2048x11008) Cert.Dh1RefIdeal.Gen.bitsLt_bf16_f32)

theorem first_apply (x0 x1) (j : S1024x512.Idx) : k0_pay2 (F := Ideal) x0 x1 j = 0 + ∑ k : Fin 5504, x0 (ix2 (j 0) k) * x1 (ix3 0 (j 1) k) :=
  Cert.Dh0Ideal.Tiles.first_apply x0 x1 j

theorem later_apply (x0 x1 acc) (j : S1024x512.Idx) : k0_pay3 (F := Ideal) x0 x1 acc j = acc j + ∑ k : Fin 5504, x0 (ix2 (j 0) k) * x1 (ix3 0 (j 1) k) :=
  Cert.Dh0Ideal.Tiles.later_apply x0 x1 acc j

theorem target_apply (x w) (i : S2048x2048.Idx) : target x w i = ∑ k : Fin 11008, x (ix2 (i 0) k) * w (ix3 1 (i 1) k) := by
  pointwise [target]

theorem idx : ∀ t : Fin cfg0.N, win0_0.index t = ![t.val / 8, t.val % 2] ∧ win0_1.index t = ![1, t.val / 2 % 4, t.val % 2] ∧ win0_2.index t = ![t.val / 8, t.val / 2 % 4] :=
  (by decide +kernel : ∀ t : Fin grid0.N, _)

/-- At the last step of a run the output block is what the scratch holds. -/
theorem out_apply (c : Dev nD) (t : Fin cfg0.N) (h : t.val % 2 = 2 - 1) (y : S1024x512.Idx) :
    (show EReal from (outsAt0 m c t.val t.isLt).1 y) = (outsAt0 m c t.val t.isLt).2 y := by
  rw [outsAt0_B m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by
      rw [outsAt0_B m c t h (by omega) (by omega)]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.Dh1Ideal.Tiles

namespace Cert.Dh2Ideal.Tiles

open Cert.Dh2Ideal Cert.Dh2Ideal.Gen

variable (m : (ℓ : Loc nD τ sig) → Buf (Elt Ideal) ℓ)

/-- The reference's product, over the kernel's argument arrays. -/
def target (x : FVec Ideal S2048x11008 .bf16) (w : FVec Ideal S4x2048x11008 .bf16) : FVec Ideal S2048x2048 .f32 :=
  Host.dotGeneral Cert.Dh2RefIdeal.dot_S2048x11008_S2048x11008_S2048x2048_1_1_0_0_n_n none (extf .f32 x Cert.Dh2RefIdeal.Gen.bitsLt_bf16_f32) (extf .f32 (shapeCast Cert.Dh2RefIdeal.S2048x11008 (extractStridedSlice Cert.Dh2RefIdeal.S1x2048x11008 ![2, 0, 0] w Cert.Dh2RefIdeal.Gen.slices_S4x2048x11008_S1x2048x11008_2_0_0) Cert.Dh2RefIdeal.Gen.shapeCasts_S1x2048x11008_S2048x11008) Cert.Dh2RefIdeal.Gen.bitsLt_bf16_f32)

theorem first_apply (x0 x1) (j : S1024x512.Idx) : k0_pay2 (F := Ideal) x0 x1 j = 0 + ∑ k : Fin 5504, x0 (ix2 (j 0) k) * x1 (ix3 0 (j 1) k) :=
  Cert.Dh0Ideal.Tiles.first_apply x0 x1 j

theorem later_apply (x0 x1 acc) (j : S1024x512.Idx) : k0_pay3 (F := Ideal) x0 x1 acc j = acc j + ∑ k : Fin 5504, x0 (ix2 (j 0) k) * x1 (ix3 0 (j 1) k) :=
  Cert.Dh0Ideal.Tiles.later_apply x0 x1 acc j

theorem target_apply (x w) (i : S2048x2048.Idx) : target x w i = ∑ k : Fin 11008, x (ix2 (i 0) k) * w (ix3 2 (i 1) k) := by
  pointwise [target]

theorem idx : ∀ t : Fin cfg0.N, win0_0.index t = ![t.val / 8, t.val % 2] ∧ win0_1.index t = ![2, t.val / 2 % 4, t.val % 2] ∧ win0_2.index t = ![t.val / 8, t.val / 2 % 4] :=
  (by decide +kernel : ∀ t : Fin grid0.N, _)

/-- At the last step of a run the output block is what the scratch holds. -/
theorem out_apply (c : Dev nD) (t : Fin cfg0.N) (h : t.val % 2 = 2 - 1) (y : S1024x512.Idx) :
    (show EReal from (outsAt0 m c t.val t.isLt).1 y) = (outsAt0 m c t.val t.isLt).2 y := by
  rw [outsAt0_B m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by
      rw [outsAt0_B m c t h (by omega) (by omega)]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.Dh2Ideal.Tiles

namespace Cert.Dh3Ideal.Tiles

open Cert.Dh3Ideal Cert.Dh3Ideal.Gen

variable (m : (ℓ : Loc nD τ sig) → Buf (Elt Ideal) ℓ)

/-- The reference's product, over the kernel's argument arrays. -/
def target (x : FVec Ideal S2048x11008 .bf16) (w : FVec Ideal S4x2048x11008 .bf16) : FVec Ideal S2048x2048 .f32 :=
  Host.dotGeneral Cert.Dh3RefIdeal.dot_S2048x11008_S2048x11008_S2048x2048_1_1_0_0_n_n none (extf .f32 x Cert.Dh3RefIdeal.Gen.bitsLt_bf16_f32) (extf .f32 (shapeCast Cert.Dh3RefIdeal.S2048x11008 (extractStridedSlice Cert.Dh3RefIdeal.S1x2048x11008 ![3, 0, 0] w Cert.Dh3RefIdeal.Gen.slices_S4x2048x11008_S1x2048x11008_3_0_0) Cert.Dh3RefIdeal.Gen.shapeCasts_S1x2048x11008_S2048x11008) Cert.Dh3RefIdeal.Gen.bitsLt_bf16_f32)

theorem first_apply (x0 x1) (j : S1024x512.Idx) : k0_pay2 (F := Ideal) x0 x1 j = 0 + ∑ k : Fin 5504, x0 (ix2 (j 0) k) * x1 (ix3 0 (j 1) k) :=
  Cert.Dh0Ideal.Tiles.first_apply x0 x1 j

theorem later_apply (x0 x1 acc) (j : S1024x512.Idx) : k0_pay3 (F := Ideal) x0 x1 acc j = acc j + ∑ k : Fin 5504, x0 (ix2 (j 0) k) * x1 (ix3 0 (j 1) k) :=
  Cert.Dh0Ideal.Tiles.later_apply x0 x1 acc j

theorem target_apply (x w) (i : S2048x2048.Idx) : target x w i = ∑ k : Fin 11008, x (ix2 (i 0) k) * w (ix3 3 (i 1) k) := by
  pointwise [target]

theorem idx : ∀ t : Fin cfg0.N, win0_0.index t = ![t.val / 8, t.val % 2] ∧ win0_1.index t = ![3, t.val / 2 % 4, t.val % 2] ∧ win0_2.index t = ![t.val / 8, t.val / 2 % 4] :=
  (by decide +kernel : ∀ t : Fin grid0.N, _)

/-- At the last step of a run the output block is what the scratch holds. -/
theorem out_apply (c : Dev nD) (t : Fin cfg0.N) (h : t.val % 2 = 2 - 1) (y : S1024x512.Idx) :
    (show EReal from (outsAt0 m c t.val t.isLt).1 y) = (outsAt0 m c t.val t.isLt).2 y := by
  rw [outsAt0_B m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by
      rw [outsAt0_B m c t h (by omega) (by omega)]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.Dh3Ideal.Tiles
end
-- ==== Proof.InValue.lean ====
/- The first product of the channel mixer, in each layer: every column tile is the tile of the reference's product. -/
module

public import proofs.«01_k».proof.Proof.Gen.In0Ideal.Value
public import proofs.«01_k».proof.Proof.Gen.In0RefIdeal
public import proofs.«01_k».proof.Proof.Gen.In1Ideal.Value
public import proofs.«01_k».proof.Proof.Gen.In1RefIdeal
public import proofs.«01_k».proof.Proof.Gen.In2Ideal.Value
public import proofs.«01_k».proof.Proof.Gen.In2RefIdeal
public import proofs.«01_k».proof.Proof.Gen.In3Ideal.Value
public import proofs.«01_k».proof.Proof.Gen.In3RefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.In0Ideal.Tiles

open Cert.In0Ideal Cert.In0Ideal.Gen

variable (m : (ℓ : Loc nD τ sig) → Buf (Elt Ideal) ℓ)

/-- The reference's product, over the kernel's argument arrays. -/
abbrev target (x : FVec Ideal S2048x2048 .bf16) (w : FVec Ideal S4x2048x11008 .bf16) : FVec Ideal S2048x11008 .f32 :=
  Host.dotGeneral Cert.In0RefIdeal.dot_S2048x2048_S2048x11008_S2048x11008_1_0_0_1_n_n none (extf .f32 x Cert.In0RefIdeal.Gen.bitsLt_bf16_f32) (extf .f32 (shapeCast Cert.In0RefIdeal.S2048x11008 (extractStridedSlice Cert.In0RefIdeal.S1x2048x11008 ![0, 0, 0] w Cert.In0RefIdeal.Gen.slices_S4x2048x11008_S1x2048x11008_0_0_0) Cert.In0RefIdeal.Gen.shapeCasts_S1x2048x11008_S2048x11008) Cert.In0RefIdeal.Gen.bitsLt_bf16_f32)

theorem idx : ∀ t : Fin cfg0.N, win0_0.index t = ![0, 0] ∧ win0_1.index t = ![0, 0, t.val] ∧ win0_2.index t = ![0, t.val] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.In0Ideal.Tiles

namespace Cert.In1Ideal.Tiles

open Cert.In1Ideal Cert.In1Ideal.Gen

variable (m : (ℓ : Loc nD τ sig) → Buf (Elt Ideal) ℓ)

/-- The reference's product, over the kernel's argument arrays. -/
abbrev target (x : FVec Ideal S2048x2048 .bf16) (w : FVec Ideal S4x2048x11008 .bf16) : FVec Ideal S2048x11008 .f32 :=
  Host.dotGeneral Cert.In1RefIdeal.dot_S2048x2048_S2048x11008_S2048x11008_1_0_0_1_n_n none (extf .f32 x Cert.In1RefIdeal.Gen.bitsLt_bf16_f32) (extf .f32 (shapeCast Cert.In1RefIdeal.S2048x11008 (extractStridedSlice Cert.In1RefIdeal.S1x2048x11008 ![1, 0, 0] w Cert.In1RefIdeal.Gen.slices_S4x2048x11008_S1x2048x11008_1_0_0) Cert.In1RefIdeal.Gen.shapeCasts_S1x2048x11008_S2048x11008) Cert.In1RefIdeal.Gen.bitsLt_bf16_f32)

theorem idx : ∀ t : Fin cfg0.N, win0_0.index t = ![0, 0] ∧ win0_1.index t = ![1, 0, t.val] ∧ win0_2.index t = ![0, t.val] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.In1Ideal.Tiles

namespace Cert.In2Ideal.Tiles

open Cert.In2Ideal Cert.In2Ideal.Gen

variable (m : (ℓ : Loc nD τ sig) → Buf (Elt Ideal) ℓ)

/-- The reference's product, over the kernel's argument arrays. -/
abbrev target (x : FVec Ideal S2048x2048 .bf16) (w : FVec Ideal S4x2048x11008 .bf16) : FVec Ideal S2048x11008 .f32 :=
  Host.dotGeneral Cert.In2RefIdeal.dot_S2048x2048_S2048x11008_S2048x11008_1_0_0_1_n_n none (extf .f32 x Cert.In2RefIdeal.Gen.bitsLt_bf16_f32) (extf .f32 (shapeCast Cert.In2RefIdeal.S2048x11008 (extractStridedSlice Cert.In2RefIdeal.S1x2048x11008 ![2, 0, 0] w Cert.In2RefIdeal.Gen.slices_S4x2048x11008_S1x2048x11008_2_0_0) Cert.In2RefIdeal.Gen.shapeCasts_S1x2048x11008_S2048x11008) Cert.In2RefIdeal.Gen.bitsLt_bf16_f32)

theorem idx : ∀ t : Fin cfg0.N, win0_0.index t = ![0, 0] ∧ win0_1.index t = ![2, 0, t.val] ∧ win0_2.index t = ![0, t.val] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.In2Ideal.Tiles

namespace Cert.In3Ideal.Tiles

open Cert.In3Ideal Cert.In3Ideal.Gen

variable (m : (ℓ : Loc nD τ sig) → Buf (Elt Ideal) ℓ)

/-- The reference's product, over the kernel's argument arrays. -/
abbrev target (x : FVec Ideal S2048x2048 .bf16) (w : FVec Ideal S4x2048x11008 .bf16) : FVec Ideal S2048x11008 .f32 :=
  Host.dotGeneral Cert.In3RefIdeal.dot_S2048x2048_S2048x11008_S2048x11008_1_0_0_1_n_n none (extf .f32 x Cert.In3RefIdeal.Gen.bitsLt_bf16_f32) (extf .f32 (shapeCast Cert.In3RefIdeal.S2048x11008 (extractStridedSlice Cert.In3RefIdeal.S1x2048x11008 ![3, 0, 0] w Cert.In3RefIdeal.Gen.slices_S4x2048x11008_S1x2048x11008_3_0_0) Cert.In3RefIdeal.Gen.shapeCasts_S1x2048x11008_S2048x11008) Cert.In3RefIdeal.Gen.bitsLt_bf16_f32)

theorem idx : ∀ t : Fin cfg0.N, win0_0.index t = ![0, 0] ∧ win0_1.index t = ![3, 0, t.val] ∧ win0_2.index t = ![0, t.val] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.In3Ideal.Tiles
end
-- ==== Proof.OutValue.lean ====
/- The second product of the channel mixer, in each layer: every tile is the tile of the reference's product. -/
module

public import proofs.«01_k».proof.Proof.Gen.Out0Ideal.Value
public import proofs.«01_k».proof.Proof.Gen.Out0RefIdeal
public import proofs.«01_k».proof.Proof.Gen.Out1Ideal.Value
public import proofs.«01_k».proof.Proof.Gen.Out1RefIdeal
public import proofs.«01_k».proof.Proof.Gen.Out2Ideal.Value
public import proofs.«01_k».proof.Proof.Gen.Out2RefIdeal
public import proofs.«01_k».proof.Proof.Gen.Out3Ideal.Value
public import proofs.«01_k».proof.Proof.Gen.Out3RefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Out0Ideal.Tiles

open Cert.Out0Ideal Cert.Out0Ideal.Gen

variable (m : (ℓ : Loc nD τ sig) → Buf (Elt Ideal) ℓ)

/-- The reference's product, over the kernel's argument arrays. -/
abbrev target (x : FVec Ideal S2048x5504 .bf16) (w : FVec Ideal S4x5504x2048 .bf16) : FVec Ideal S2048x2048 .f32 :=
  Host.dotGeneral Cert.Out0RefIdeal.dot_S2048x5504_S5504x2048_S2048x2048_1_0_0_1_n_n none (extf .f32 x Cert.Out0RefIdeal.Gen.bitsLt_bf16_f32) (extf .f32 (shapeCast Cert.Out0RefIdeal.S5504x2048 (extractStridedSlice Cert.Out0RefIdeal.S1x5504x2048 ![0, 0, 0] w Cert.Out0RefIdeal.Gen.slices_S4x5504x2048_S1x5504x2048_0_0_0) Cert.Out0RefIdeal.Gen.shapeCasts_S1x5504x2048_S5504x2048) Cert.Out0RefIdeal.Gen.bitsLt_bf16_f32)

theorem idx : ∀ t : Fin cfg0.N, win0_0.index t = ![t.val / 4, 0] ∧ win0_1.index t = ![0, 0, t.val % 4] ∧ win0_2.index t = ![t.val / 4, t.val % 4] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Out0Ideal.Tiles

namespace Cert.Out1Ideal.Tiles

open Cert.Out1Ideal Cert.Out1Ideal.Gen

variable (m : (ℓ : Loc nD τ sig) → Buf (Elt Ideal) ℓ)

/-- The reference's product, over the kernel's argument arrays. -/
abbrev target (x : FVec Ideal S2048x5504 .bf16) (w : FVec Ideal S4x5504x2048 .bf16) : FVec Ideal S2048x2048 .f32 :=
  Host.dotGeneral Cert.Out1RefIdeal.dot_S2048x5504_S5504x2048_S2048x2048_1_0_0_1_n_n none (extf .f32 x Cert.Out1RefIdeal.Gen.bitsLt_bf16_f32) (extf .f32 (shapeCast Cert.Out1RefIdeal.S5504x2048 (extractStridedSlice Cert.Out1RefIdeal.S1x5504x2048 ![1, 0, 0] w Cert.Out1RefIdeal.Gen.slices_S4x5504x2048_S1x5504x2048_1_0_0) Cert.Out1RefIdeal.Gen.shapeCasts_S1x5504x2048_S5504x2048) Cert.Out1RefIdeal.Gen.bitsLt_bf16_f32)

theorem idx : ∀ t : Fin cfg0.N, win0_0.index t = ![t.val / 4, 0] ∧ win0_1.index t = ![1, 0, t.val % 4] ∧ win0_2.index t = ![t.val / 4, t.val % 4] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Out1Ideal.Tiles

namespace Cert.Out2Ideal.Tiles

open Cert.Out2Ideal Cert.Out2Ideal.Gen

variable (m : (ℓ : Loc nD τ sig) → Buf (Elt Ideal) ℓ)

/-- The reference's product, over the kernel's argument arrays. -/
abbrev target (x : FVec Ideal S2048x5504 .bf16) (w : FVec Ideal S4x5504x2048 .bf16) : FVec Ideal S2048x2048 .f32 :=
  Host.dotGeneral Cert.Out2RefIdeal.dot_S2048x5504_S5504x2048_S2048x2048_1_0_0_1_n_n none (extf .f32 x Cert.Out2RefIdeal.Gen.bitsLt_bf16_f32) (extf .f32 (shapeCast Cert.Out2RefIdeal.S5504x2048 (extractStridedSlice Cert.Out2RefIdeal.S1x5504x2048 ![2, 0, 0] w Cert.Out2RefIdeal.Gen.slices_S4x5504x2048_S1x5504x2048_2_0_0) Cert.Out2RefIdeal.Gen.shapeCasts_S1x5504x2048_S5504x2048) Cert.Out2RefIdeal.Gen.bitsLt_bf16_f32)

theorem idx : ∀ t : Fin cfg0.N, win0_0.index t = ![t.val / 4, 0] ∧ win0_1.index t = ![2, 0, t.val % 4] ∧ win0_2.index t = ![t.val / 4, t.val % 4] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Out2Ideal.Tiles

namespace Cert.Out3Ideal.Tiles

open Cert.Out3Ideal Cert.Out3Ideal.Gen

variable (m : (ℓ : Loc nD τ sig) → Buf (Elt Ideal) ℓ)

/-- The reference's product, over the kernel's argument arrays. -/
abbrev target (x : FVec Ideal S2048x5504 .bf16) (w : FVec Ideal S4x5504x2048 .bf16) : FVec Ideal S2048x2048 .f32 :=
  Host.dotGeneral Cert.Out3RefIdeal.dot_S2048x5504_S5504x2048_S2048x2048_1_0_0_1_n_n none (extf .f32 x Cert.Out3RefIdeal.Gen.bitsLt_bf16_f32) (extf .f32 (shapeCast Cert.Out3RefIdeal.S5504x2048 (extractStridedSlice Cert.Out3RefIdeal.S1x5504x2048 ![3, 0, 0] w Cert.Out3RefIdeal.Gen.slices_S4x5504x2048_S1x5504x2048_3_0_0) Cert.Out3RefIdeal.Gen.shapeCasts_S1x5504x2048_S5504x2048) Cert.Out3RefIdeal.Gen.bitsLt_bf16_f32)

theorem idx : ∀ t : Fin cfg0.N, win0_0.index t = ![t.val / 4, 0] ∧ win0_1.index t = ![3, 0, t.val % 4] ∧ win0_2.index t = ![t.val / 4, t.val % 4] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Out3Ideal.Tiles
end
-- ==== Proof.MixerForward.lean ====
/- The mixers' forward products, in both layers of each kind: every tile is the tile of the reference's product. -/
module

public import proofs.«01_k».proof.Proof.Gen.EvIn0Ideal.Value
public import proofs.«01_k».proof.Proof.Gen.EvIn0RefIdeal
public import proofs.«01_k».proof.Proof.Gen.EvIn1Ideal.Value
public import proofs.«01_k».proof.Proof.Gen.EvIn1RefIdeal
public import proofs.«01_k».proof.Proof.Gen.OdIn0Ideal.Value
public import proofs.«01_k».proof.Proof.Gen.OdIn0RefIdeal
public import proofs.«01_k».proof.Proof.Gen.OdIn1Ideal.Value
public import proofs.«01_k».proof.Proof.Gen.OdIn1RefIdeal
public import proofs.«01_k».proof.Proof.Gen.GluMm0Ideal.Value
public import proofs.«01_k».proof.Proof.Gen.GluMm0RefIdeal
public import proofs.«01_k».proof.Proof.Gen.GluMm1Ideal.Value
public import proofs.«01_k».proof.Proof.Gen.GluMm1RefIdeal
public import proofs.«01_k».proof.Proof.Gen.MixOut0Ideal.Value
public import proofs.«01_k».proof.Proof.Gen.MixOut0RefIdeal
public import proofs.«01_k».proof.Proof.Gen.MixOut1Ideal.Value
public import proofs.«01_k».proof.Proof.Gen.MixOut1RefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.EvIn0Ideal.Tiles

open Cert.EvIn0Ideal Cert.EvIn0Ideal.Gen

variable (m : (ℓ : Loc nD τ sig) → Buf (Elt Ideal) ℓ)

/-- The reference's product, over the kernel's argument arrays. -/
abbrev target (x : FVec Ideal S2048x2048 .bf16) (w : FVec Ideal S2x2048x5120 .bf16) : FVec Ideal S2048x5120 .f32 :=
  Host.dotGeneral Cert.EvIn0RefIdeal.dot_S2048x2048_S2048x5120_S2048x5120_1_0_0_1_n_n none (extf .f32 x Cert.EvIn0RefIdeal.Gen.bitsLt_bf16_f32) (extf .f32 (shapeCast Cert.EvIn0RefIdeal.S2048x5120 (extractStridedSlice Cert.EvIn0RefIdeal.S1x2048x5120 ![0, 0, 0] w Cert.EvIn0RefIdeal.Gen.slices_S2x2048x5120_S1x2048x5120_0_0_0) Cert.EvIn0RefIdeal.Gen.shapeCasts_S1x2048x5120_S2048x5120) Cert.EvIn0RefIdeal.Gen.bitsLt_bf16_f32)

theorem idx : ∀ t : Fin cfg0.N, win0_0.index t = ![t.val / 5, 0] ∧ win0_1.index t = ![0, 0, t.val % 5] ∧ win0_2.index t = ![t.val / 5, t.val % 5] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.EvIn0Ideal.Tiles

namespace Cert.EvIn1Ideal.Tiles

open Cert.EvIn1Ideal Cert.EvIn1Ideal.Gen

variable (m : (ℓ : Loc nD τ sig) → Buf (Elt Ideal) ℓ)

/-- The reference's product, over the kernel's argument arrays. -/
abbrev target (x : FVec Ideal S2048x2048 .bf16) (w : FVec Ideal S2x2048x5120 .bf16) : FVec Ideal S2048x5120 .f32 :=
  Host.dotGeneral Cert.EvIn1RefIdeal.dot_S2048x2048_S2048x5120_S2048x5120_1_0_0_1_n_n none (extf .f32 x Cert.EvIn1RefIdeal.Gen.bitsLt_bf16_f32) (extf .f32 (shapeCast Cert.EvIn1RefIdeal.S2048x5120 (extractStridedSlice Cert.EvIn1RefIdeal.S1x2048x5120 ![1, 0, 0] w Cert.EvIn1RefIdeal.Gen.slices_S2x2048x5120_S1x2048x5120_1_0_0) Cert.EvIn1RefIdeal.Gen.shapeCasts_S1x2048x5120_S2048x5120) Cert.EvIn1RefIdeal.Gen.bitsLt_bf16_f32)

theorem idx : ∀ t : Fin cfg0.N, win0_0.index t = ![t.val / 5, 0] ∧ win0_1.index t = ![1, 0, t.val % 5] ∧ win0_2.index t = ![t.val / 5, t.val % 5] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.EvIn1Ideal.Tiles

namespace Cert.OdIn0Ideal.Tiles

open Cert.OdIn0Ideal Cert.OdIn0Ideal.Gen

variable (m : (ℓ : Loc nD τ sig) → Buf (Elt Ideal) ℓ)

/-- The reference's product, over the kernel's argument arrays. -/
abbrev target (x : FVec Ideal S2048x2048 .bf16) (w : FVec Ideal S2x2048x2304 .bf16) : FVec Ideal S2048x2304 .f32 :=
  Host.dotGeneral Cert.OdIn0RefIdeal.dot_S2048x2048_S2048x2304_S2048x2304_1_0_0_1_n_n none (extf .f32 x Cert.OdIn0RefIdeal.Gen.bitsLt_bf16_f32) (extf .f32 (shapeCast Cert.OdIn0RefIdeal.S2048x2304 (extractStridedSlice Cert.OdIn0RefIdeal.S1x2048x2304 ![0, 0, 0] w Cert.OdIn0RefIdeal.Gen.slices_S2x2048x2304_S1x2048x2304_0_0_0) Cert.OdIn0RefIdeal.Gen.shapeCasts_S1x2048x2304_S2048x2304) Cert.OdIn0RefIdeal.Gen.bitsLt_bf16_f32)

theorem idx : ∀ t : Fin cfg0.N, win0_0.index t = ![t.val / 3, 0] ∧ win0_1.index t = ![0, 0, t.val % 3] ∧ win0_2.index t = ![t.val / 3, t.val % 3] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OdIn0Ideal.Tiles

namespace Cert.OdIn1Ideal.Tiles

open Cert.OdIn1Ideal Cert.OdIn1Ideal.Gen

variable (m : (ℓ : Loc nD τ sig) → Buf (Elt Ideal) ℓ)

/-- The reference's product, over the kernel's argument arrays. -/
abbrev target (x : FVec Ideal S2048x2048 .bf16) (w : FVec Ideal S2x2048x2304 .bf16) : FVec Ideal S2048x2304 .f32 :=
  Host.dotGeneral Cert.OdIn1RefIdeal.dot_S2048x2048_S2048x2304_S2048x2304_1_0_0_1_n_n none (extf .f32 x Cert.OdIn1RefIdeal.Gen.bitsLt_bf16_f32) (extf .f32 (shapeCast Cert.OdIn1RefIdeal.S2048x2304 (extractStridedSlice Cert.OdIn1RefIdeal.S1x2048x2304 ![1, 0, 0] w Cert.OdIn1RefIdeal.Gen.slices_S2x2048x2304_S1x2048x2304_1_0_0) Cert.OdIn1RefIdeal.Gen.shapeCasts_S1x2048x2304_S2048x2304) Cert.OdIn1RefIdeal.Gen.bitsLt_bf16_f32)

theorem idx : ∀ t : Fin cfg0.N, win0_0.index t = ![t.val / 3, 0] ∧ win0_1.index t = ![1, 0, t.val % 3] ∧ win0_2.index t = ![t.val / 3, t.val % 3] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OdIn1Ideal.Tiles

namespace Cert.GluMm0Ideal.Tiles

open Cert.GluMm0Ideal Cert.GluMm0Ideal.Gen

variable (m : (ℓ : Loc nD τ sig) → Buf (Elt Ideal) ℓ)

/-- The reference's product, over the kernel's argument arrays. -/
abbrev target (x : FVec Ideal S2048x1024 .bf16) (w : FVec Ideal S2x1024x1024 .bf16) : FVec Ideal S2048x1024 .f32 :=
  Host.dotGeneral Cert.GluMm0RefIdeal.dot_S2048x1024_S1024x1024_S2048x1024_1_0_0_1_n_n none (extf .f32 x Cert.GluMm0RefIdeal.Gen.bitsLt_bf16_f32) (extf .f32 (shapeCast Cert.GluMm0RefIdeal.S1024x1024 (extractStridedSlice Cert.GluMm0RefIdeal.S1x1024x1024 ![0, 0, 0] w Cert.GluMm0RefIdeal.Gen.slices_S2x1024x1024_S1x1024x1024_0_0_0) Cert.GluMm0RefIdeal.Gen.shapeCasts_S1x1024x1024_S1024x1024) Cert.GluMm0RefIdeal.Gen.bitsLt_bf16_f32)

theorem idx : ∀ t : Fin cfg0.N, win0_0.index t = ![t.val / 1, 0] ∧ win0_1.index t = ![0, 0, t.val % 1] ∧ win0_2.index t = ![t.val / 1, t.val % 1] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GluMm0Ideal.Tiles

namespace Cert.GluMm1Ideal.Tiles

open Cert.GluMm1Ideal Cert.GluMm1Ideal.Gen

variable (m : (ℓ : Loc nD τ sig) → Buf (Elt Ideal) ℓ)

/-- The reference's product, over the kernel's argument arrays. -/
abbrev target (x : FVec Ideal S2048x1024 .bf16) (w : FVec Ideal S2x1024x1024 .bf16) : FVec Ideal S2048x1024 .f32 :=
  Host.dotGeneral Cert.GluMm1RefIdeal.dot_S2048x1024_S1024x1024_S2048x1024_1_0_0_1_n_n none (extf .f32 x Cert.GluMm1RefIdeal.Gen.bitsLt_bf16_f32) (extf .f32 (shapeCast Cert.GluMm1RefIdeal.S1024x1024 (extractStridedSlice Cert.GluMm1RefIdeal.S1x1024x1024 ![1, 0, 0] w Cert.GluMm1RefIdeal.Gen.slices_S2x1024x1024_S1x1024x1024_1_0_0) Cert.GluMm1RefIdeal.Gen.shapeCasts_S1x1024x1024_S1024x1024) Cert.GluMm1RefIdeal.Gen.bitsLt_bf16_f32)

theorem idx : ∀ t : Fin cfg0.N, win0_0.index t = ![t.val / 1, 0] ∧ win0_1.index t = ![1, 0, t.val % 1] ∧ win0_2.index t = ![t.val / 1, t.val % 1] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GluMm1Ideal.Tiles

namespace Cert.MixOut0Ideal.Tiles

open Cert.MixOut0Ideal Cert.MixOut0Ideal.Gen

variable (m : (ℓ : Loc nD τ sig) → Buf (Elt Ideal) ℓ)

/-- The reference's product, over the kernel's argument arrays. -/
abbrev target (x : FVec Ideal S2048x2048 .bf16) (w : FVec Ideal S2x2048x2048 .bf16) : FVec Ideal S2048x2048 .f32 :=
  Host.dotGeneral Cert.MixOut0RefIdeal.dot_S2048x2048_S2048x2048_S2048x2048_1_0_0_1_n_n none (extf .f32 x Cert.MixOut0RefIdeal.Gen.bitsLt_bf16_f32) (extf .f32 (shapeCast Cert.MixOut0RefIdeal.S2048x2048 (extractStridedSlice Cert.MixOut0RefIdeal.S1x2048x2048 ![0, 0, 0] w Cert.MixOut0RefIdeal.Gen.slices_S2x2048x2048_S1x2048x2048_0_0_0) Cert.MixOut0RefIdeal.Gen.shapeCasts_S1x2048x2048_S2048x2048) Cert.MixOut0RefIdeal.Gen.bitsLt_bf16_f32)

theorem idx : ∀ t : Fin cfg0.N, win0_0.index t = ![t.val / 2, 0] ∧ win0_1.index t = ![0, 0, t.val % 2] ∧ win0_2.index t = ![t.val / 2, t.val % 2] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixOut0Ideal.Tiles

namespace Cert.MixOut1Ideal.Tiles

open Cert.MixOut1Ideal Cert.MixOut1Ideal.Gen

variable (m : (ℓ : Loc nD τ sig) → Buf (Elt Ideal) ℓ)

/-- The reference's product, over the kernel's argument arrays. -/
abbrev target (x : FVec Ideal S2048x2048 .bf16) (w : FVec Ideal S2x2048x2048 .bf16) : FVec Ideal S2048x2048 .f32 :=
  Host.dotGeneral Cert.MixOut1RefIdeal.dot_S2048x2048_S2048x2048_S2048x2048_1_0_0_1_n_n none (extf .f32 x Cert.MixOut1RefIdeal.Gen.bitsLt_bf16_f32) (extf .f32 (shapeCast Cert.MixOut1RefIdeal.S2048x2048 (extractStridedSlice Cert.MixOut1RefIdeal.S1x2048x2048 ![1, 0, 0] w Cert.MixOut1RefIdeal.Gen.slices_S2x2048x2048_S1x2048x2048_1_0_0) Cert.MixOut1RefIdeal.Gen.shapeCasts_S1x2048x2048_S2048x2048) Cert.MixOut1RefIdeal.Gen.bitsLt_bf16_f32)

theorem idx : ∀ t : Fin cfg0.N, win0_0.index t = ![t.val / 2, 0] ∧ win0_1.index t = ![1, 0, t.val % 2] ∧ win0_2.index t = ![t.val / 2, t.val % 2] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixOut1Ideal.Tiles
end
-- ==== Proof.MixerLeft.lean ====
/- The gradients of the left operands of the mixers' products, in both layers of each kind: every tile is the tile of the
   reference's product. The one with a split contraction adds its halves up in scratch. -/
module

public import proofs.«01_k».proof.Proof.Gen.MixD0Ideal.Value
public import proofs.«01_k».proof.Proof.Gen.MixD0RefIdeal
public import proofs.«01_k».proof.Proof.Gen.MixD1Ideal.Value
public import proofs.«01_k».proof.Proof.Gen.MixD1RefIdeal
public import proofs.«01_k».proof.Proof.Gen.OdDh0Ideal.Value
public import proofs.«01_k».proof.Proof.Gen.OdDh0RefIdeal
public import proofs.«01_k».proof.Proof.Gen.OdDh1Ideal.Value
public import proofs.«01_k».proof.Proof.Gen.OdDh1RefIdeal
public import proofs.«01_k».proof.Proof.Gen.GluDz0Ideal.Value
public import proofs.«01_k».proof.Proof.Gen.GluDz0RefIdeal
public import proofs.«01_k».proof.Proof.Gen.GluDz1Ideal.Value
public import proofs.«01_k».proof.Proof.Gen.GluDz1RefIdeal
public import proofs.«01_k».proof.Proof.Gen.EvDh0Ideal.Value
public import proofs.«01_k».proof.Proof.Gen.EvDh0RefIdeal
public import proofs.«01_k».proof.Proof.Gen.EvDh1Ideal.Value
public import proofs.«01_k».proof.Proof.Gen.EvDh1RefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixD0Ideal.Tiles

open Cert.MixD0Ideal Cert.MixD0Ideal.Gen

variable (m : (ℓ : Loc nD τ sig) → Buf (Elt Ideal) ℓ)

/-- The reference's product, over the kernel's argument arrays. -/
abbrev target (x : FVec Ideal S2048x2048 .bf16) (w : FVec Ideal S2x2048x2048 .bf16) : FVec Ideal S2048x2048 .f32 :=
  Host.dotGeneral Cert.MixD0RefIdeal.dot_S2048x2048_S2048x2048_S2048x2048_1_1_0_0_n_n none (extf .f32 x Cert.MixD0RefIdeal.Gen.bitsLt_bf16_f32) (extf .f32 (shapeCast Cert.MixD0RefIdeal.S2048x2048 (extractStridedSlice Cert.MixD0RefIdeal.S1x2048x2048 ![0, 0, 0] w Cert.MixD0RefIdeal.Gen.slices_S2x2048x2048_S1x2048x2048_0_0_0) Cert.MixD0RefIdeal.Gen.shapeCasts_S1x2048x2048_S2048x2048) Cert.MixD0RefIdeal.Gen.bitsLt_bf16_f32)

theorem idx : ∀ t : Fin cfg0.N, win0_0.index t = ![t.val / 2, 0] ∧ win0_1.index t = ![0, t.val % 2, 0] ∧ win0_2.index t = ![t.val / 2, t.val % 2] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixD0Ideal.Tiles

namespace Cert.MixD1Ideal.Tiles

open Cert.MixD1Ideal Cert.MixD1Ideal.Gen

variable (m : (ℓ : Loc nD τ sig) → Buf (Elt Ideal) ℓ)

/-- The reference's product, over the kernel's argument arrays. -/
abbrev target (x : FVec Ideal S2048x2048 .bf16) (w : FVec Ideal S2x2048x2048 .bf16) : FVec Ideal S2048x2048 .f32 :=
  Host.dotGeneral Cert.MixD1RefIdeal.dot_S2048x2048_S2048x2048_S2048x2048_1_1_0_0_n_n none (extf .f32 x Cert.MixD1RefIdeal.Gen.bitsLt_bf16_f32) (extf .f32 (shapeCast Cert.MixD1RefIdeal.S2048x2048 (extractStridedSlice Cert.MixD1RefIdeal.S1x2048x2048 ![1, 0, 0] w Cert.MixD1RefIdeal.Gen.slices_S2x2048x2048_S1x2048x2048_1_0_0) Cert.MixD1RefIdeal.Gen.shapeCasts_S1x2048x2048_S2048x2048) Cert.MixD1RefIdeal.Gen.bitsLt_bf16_f32)

theorem idx : ∀ t : Fin cfg0.N, win0_0.index t = ![t.val / 2, 0] ∧ win0_1.index t = ![1, t.val % 2, 0] ∧ win0_2.index t = ![t.val / 2, t.val % 2] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixD1Ideal.Tiles

namespace Cert.OdDh0Ideal.Tiles

open Cert.OdDh0Ideal Cert.OdDh0Ideal.Gen

variable (m : (ℓ : Loc nD τ sig) → Buf (Elt Ideal) ℓ)

/-- The reference's product, over the kernel's argument arrays. -/
abbrev target (x : FVec Ideal S2048x2304 .bf16) (w : FVec Ideal S2x2048x2304 .bf16) : FVec Ideal S2048x2048 .f32 :=
  Host.dotGeneral Cert.OdDh0RefIdeal.dot_S2048x2304_S2048x2304_S2048x2048_1_1_0_0_n_n none (extf .f32 x Cert.OdDh0RefIdeal.Gen.bitsLt_bf16_f32) (extf .f32 (shapeCast Cert.OdDh0RefIdeal.S2048x2304 (extractStridedSlice Cert.OdDh0RefIdeal.S1x2048x2304 ![0, 0, 0] w Cert.OdDh0RefIdeal.Gen.slices_S2x2048x2304_S1x2048x2304_0_0_0) Cert.OdDh0RefIdeal.Gen.shapeCasts_S1x2048x2304_S2048x2304) Cert.OdDh0RefIdeal.Gen.bitsLt_bf16_f32)

theorem idx : ∀ t : Fin cfg0.N, win0_0.index t = ![t.val / 2, 0] ∧ win0_1.index t = ![0, t.val % 2, 0] ∧ win0_2.index t = ![t.val / 2, t.val % 2] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OdDh0Ideal.Tiles

namespace Cert.OdDh1Ideal.Tiles

open Cert.OdDh1Ideal Cert.OdDh1Ideal.Gen

variable (m : (ℓ : Loc nD τ sig) → Buf (Elt Ideal) ℓ)

/-- The reference's product, over the kernel's argument arrays. -/
abbrev target (x : FVec Ideal S2048x2304 .bf16) (w : FVec Ideal S2x2048x2304 .bf16) : FVec Ideal S2048x2048 .f32 :=
  Host.dotGeneral Cert.OdDh1RefIdeal.dot_S2048x2304_S2048x2304_S2048x2048_1_1_0_0_n_n none (extf .f32 x Cert.OdDh1RefIdeal.Gen.bitsLt_bf16_f32) (extf .f32 (shapeCast Cert.OdDh1RefIdeal.S2048x2304 (extractStridedSlice Cert.OdDh1RefIdeal.S1x2048x2304 ![1, 0, 0] w Cert.OdDh1RefIdeal.Gen.slices_S2x2048x2304_S1x2048x2304_1_0_0) Cert.OdDh1RefIdeal.Gen.shapeCasts_S1x2048x2304_S2048x2304) Cert.OdDh1RefIdeal.Gen.bitsLt_bf16_f32)

theorem idx : ∀ t : Fin cfg0.N, win0_0.index t = ![t.val / 2, 0] ∧ win0_1.index t = ![1, t.val % 2, 0] ∧ win0_2.index t = ![t.val / 2, t.val % 2] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OdDh1Ideal.Tiles

namespace Cert.GluDz0Ideal.Tiles

open Cert.GluDz0Ideal Cert.GluDz0Ideal.Gen

variable (m : (ℓ : Loc nD τ sig) → Buf (Elt Ideal) ℓ)

/-- The reference's product, over the kernel's argument arrays. -/
abbrev target (x : FVec Ideal S2048x1024 .bf16) (w : FVec Ideal S2x1024x1024 .bf16) : FVec Ideal S2048x1024 .f32 :=
  Host.dotGeneral Cert.GluDz0RefIdeal.dot_S2048x1024_S1024x1024_S2048x1024_1_1_0_0_n_n none (extf .f32 x Cert.GluDz0RefIdeal.Gen.bitsLt_bf16_f32) (extf .f32 (shapeCast Cert.GluDz0RefIdeal.S1024x1024 (extractStridedSlice Cert.GluDz0RefIdeal.S1x1024x1024 ![0, 0, 0] w Cert.GluDz0RefIdeal.Gen.slices_S2x1024x1024_S1x1024x1024_0_0_0) Cert.GluDz0RefIdeal.Gen.shapeCasts_S1x1024x1024_S1024x1024) Cert.GluDz0RefIdeal.Gen.bitsLt_bf16_f32)

theorem idx : ∀ t : Fin cfg0.N, win0_0.index t = ![t.val / 1, 0] ∧ win0_1.index t = ![0, t.val % 1, 0] ∧ win0_2.index t = ![t.val / 1, t.val % 1] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GluDz0Ideal.Tiles

namespace Cert.GluDz1Ideal.Tiles

open Cert.GluDz1Ideal Cert.GluDz1Ideal.Gen

variable (m : (ℓ : Loc nD τ sig) → Buf (Elt Ideal) ℓ)

/-- The reference's product, over the kernel's argument arrays. -/
abbrev target (x : FVec Ideal S2048x1024 .bf16) (w : FVec Ideal S2x1024x1024 .bf16) : FVec Ideal S2048x1024 .f32 :=
  Host.dotGeneral Cert.GluDz1RefIdeal.dot_S2048x1024_S1024x1024_S2048x1024_1_1_0_0_n_n none (extf .f32 x Cert.GluDz1RefIdeal.Gen.bitsLt_bf16_f32) (extf .f32 (shapeCast Cert.GluDz1RefIdeal.S1024x1024 (extractStridedSlice Cert.GluDz1RefIdeal.S1x1024x1024 ![1, 0, 0] w Cert.GluDz1RefIdeal.Gen.slices_S2x1024x1024_S1x1024x1024_1_0_0) Cert.GluDz1RefIdeal.Gen.shapeCasts_S1x1024x1024_S1024x1024) Cert.GluDz1RefIdeal.Gen.bitsLt_bf16_f32)

theorem idx : ∀ t : Fin cfg0.N, win0_0.index t = ![t.val / 1, 0] ∧ win0_1.index t = ![1, t.val % 1, 0] ∧ win0_2.index t = ![t.val / 1, t.val % 1] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GluDz1Ideal.Tiles

namespace Cert.EvDh0Ideal.Tiles

open Cert.EvDh0Ideal Cert.EvDh0Ideal.Gen

variable (m : (ℓ : Loc nD τ sig) → Buf (Elt Ideal) ℓ)

/-- The reference's product, over the kernel's argument arrays. -/
def target (x : FVec Ideal S2048x5120 .bf16) (w : FVec Ideal S2x2048x5120 .bf16) : FVec Ideal S2048x2048 .f32 :=
  Host.dotGeneral Cert.EvDh0RefIdeal.dot_S2048x5120_S2048x5120_S2048x2048_1_1_0_0_n_n none (extf .f32 x Cert.EvDh0RefIdeal.Gen.bitsLt_bf16_f32) (extf .f32 (shapeCast Cert.EvDh0RefIdeal.S2048x5120 (extractStridedSlice Cert.EvDh0RefIdeal.S1x2048x5120 ![0, 0, 0] w Cert.EvDh0RefIdeal.Gen.slices_S2x2048x5120_S1x2048x5120_0_0_0) Cert.EvDh0RefIdeal.Gen.shapeCasts_S1x2048x5120_S2048x5120) Cert.EvDh0RefIdeal.Gen.bitsLt_bf16_f32)

/-- The first step of a run stores the product of its two tiles. -/
theorem first_apply (x0 x1) (j : S1024x1024.Idx) : k0_pay2 (F := Ideal) x0 x1 j = 0 + ∑ k : Fin 2560, x0 (ix2 (j 0) k) * x1 (ix3 0 (j 1) k) := by
  pointwise [k0_pay2, k0_pay1]

/-- A later step adds the product of its two tiles to what the scratch holds. -/
theorem later_apply (x0 x1 acc) (j : S1024x1024.Idx) : k0_pay3 (F := Ideal) x0 x1 acc j = acc j + ∑ k : Fin 2560, x0 (ix2 (j 0) k) * x1 (ix3 0 (j 1) k) := by
  pointwise [k0_pay3, k0_pay1]

theorem target_apply (x w) (i : S2048x2048.Idx) : target x w i = ∑ k : Fin 5120, x (ix2 (i 0) k) * w (ix3 0 (i 1) k) := by
  pointwise [target]

theorem idx : ∀ t : Fin cfg0.N, win0_0.index t = ![t.val / 4, t.val % 2] ∧ win0_1.index t = ![0, t.val / 2 % 2, t.val % 2] ∧ win0_2.index t = ![t.val / 4, t.val / 2 % 2] :=
  (by decide +kernel : ∀ t : Fin grid0.N, _)

/-- At the last step of a run the output block is what the scratch holds. -/
theorem out_apply (c : Dev nD) (t : Fin cfg0.N) (h : t.val % 2 = 2 - 1) (y : S1024x1024.Idx) :
    (show EReal from (outsAt0 m c t.val t.isLt).1 y) = (outsAt0 m c t.val t.isLt).2 y := by
  rw [outsAt0_B m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by
      rw [outsAt0_B m c t h (by omega) (by omega)]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.EvDh0Ideal.Tiles

namespace Cert.EvDh1Ideal.Tiles

open Cert.EvDh1Ideal Cert.EvDh1Ideal.Gen

variable (m : (ℓ : Loc nD τ sig) → Buf (Elt Ideal) ℓ)

/-- The reference's product, over the kernel's argument arrays. -/
def target (x : FVec Ideal S2048x5120 .bf16) (w : FVec Ideal S2x2048x5120 .bf16) : FVec Ideal S2048x2048 .f32 :=
  Host.dotGeneral Cert.EvDh1RefIdeal.dot_S2048x5120_S2048x5120_S2048x2048_1_1_0_0_n_n none (extf .f32 x Cert.EvDh1RefIdeal.Gen.bitsLt_bf16_f32) (extf .f32 (shapeCast Cert.EvDh1RefIdeal.S2048x5120 (extractStridedSlice Cert.EvDh1RefIdeal.S1x2048x5120 ![1, 0, 0] w Cert.EvDh1RefIdeal.Gen.slices_S2x2048x5120_S1x2048x5120_1_0_0) Cert.EvDh1RefIdeal.Gen.shapeCasts_S1x2048x5120_S2048x5120) Cert.EvDh1RefIdeal.Gen.bitsLt_bf16_f32)

theorem first_apply (x0 x1) (j : S1024x1024.Idx) : k0_pay2 (F := Ideal) x0 x1 j = 0 + ∑ k : Fin 2560, x0 (ix2 (j 0) k) * x1 (ix3 0 (j 1) k) :=
  Cert.EvDh0Ideal.Tiles.first_apply x0 x1 j

theorem later_apply (x0 x1 acc) (j : S1024x1024.Idx) : k0_pay3 (F := Ideal) x0 x1 acc j = acc j + ∑ k : Fin 2560, x0 (ix2 (j 0) k) * x1 (ix3 0 (j 1) k) :=
  Cert.EvDh0Ideal.Tiles.later_apply x0 x1 acc j

theorem target_apply (x w) (i : S2048x2048.Idx) : target x w i = ∑ k : Fin 5120, x (ix2 (i 0) k) * w (ix3 1 (i 1) k) := by
  pointwise [target]

theorem idx : ∀ t : Fin cfg0.N, win0_0.index t = ![t.val / 4, t.val % 2] ∧ win0_1.index t = ![1, t.val / 2 % 2, t.val % 2] ∧ win0_2.index t = ![t.val / 4, t.val / 2 % 2] :=
  (by decide +kernel : ∀ t : Fin grid0.N, _)

/-- At the last step of a run the output block is what the scratch holds. -/
theorem out_apply (c : Dev nD) (t : Fin cfg0.N) (h : t.val % 2 = 2 - 1) (y : S1024x1024.Idx) :
    (show EReal from (outsAt0 m c t.val t.isLt).1 y) = (outsAt0 m c t.val t.isLt).2 y := by
  rw [outsAt0_B m c t (by omega) (by omega) (by omega)]
  frame_out

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t hf y => ?_
  blk_simp
  rw [after0_2]
  refine (out_apply m c t ((flush0_2 t).mp hf) y).trans ?_
  rw [Pipeline.eq_sum_fin_of_reset_step_apply_of_flush (fun n h => (outsAt0 m c n h).2) 2 (fun _ => 0) _
    (fun t h j => by rw [outsAt0_A m c t h (by omega) (by omega)]; frame_out; rw [first_apply])
    (fun t h j => by
      rw [outsAt0_B m c t h (by omega) (by omega)]; frame_out; rw [later_apply]; exact Ideal.add_congr (congrFun ((Memref.isWhole_whole _).read_unread _) _) rfl)
    t ((flush0_2 t).mp hf) _, zero_add]
  refine Eq.trans ?_ (target_apply _ _ _).symm
  refine Fin.sum_mul_add_congr fun s k hl => ?_
  blk_point [iblk, V, idx t, idx ⟨_, Pipeline.run_point_lt_of_flush t ((flush0_2 t).mp hf) s⟩]

end Cert.EvDh1Ideal.Tiles
end
-- ==== Proof.MixerWeights.lean ====
/- The gradients of the mixers' weights: every tile of the kernel's product is the same tile of the reference's product. -/
module

public import proofs.«01_k».proof.Proof.Gen.MixDwIdeal.Value
public import proofs.«01_k».proof.Proof.Gen.MixDwRefIdeal
public import proofs.«01_k».proof.Proof.Gen.EvDwIdeal.Value
public import proofs.«01_k».proof.Proof.Gen.EvDwRefIdeal
public import proofs.«01_k».proof.Proof.Gen.OdDwIdeal.Value
public import proofs.«01_k».proof.Proof.Gen.OdDwRefIdeal
public import proofs.«01_k».proof.Proof.Gen.GluDwIdeal.Value
public import proofs.«01_k».proof.Proof.Gen.GluDwRefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MixDwIdeal.Tiles

open Cert.MixDwIdeal Cert.MixDwIdeal.Gen

variable (m : (ℓ : Loc nD τ sig) → Buf (Elt Ideal) ℓ)

/-- The reference's product, over the kernel's argument arrays. -/
abbrev target (x : FVec Ideal S2048x2048 .bf16) (w : FVec Ideal S2048x2048 .bf16) : FVec Ideal S2048x2048 .bf16 :=
  truncf .bf16 (transpose Cert.MixDwRefIdeal.S2048x2048 [1, 0] (Host.dotGeneral Cert.MixDwRefIdeal.dot_S2048x2048_S2048x2048_S2048x2048_0_0_1_1_n_n none (extf .f32 w Cert.MixDwRefIdeal.Gen.bitsLt_bf16_f32) (extf .f32 x Cert.MixDwRefIdeal.Gen.bitsLt_bf16_f32)) Cert.MixDwRefIdeal.Gen.transposes_S2048x2048_S2048x2048_1_0) Cert.MixDwRefIdeal.Gen.bitsLt_bf16_f32

theorem idx : ∀ t : Fin cfg0.N, win0_0.index t = ![0, t.val / 2] ∧ win0_1.index t = ![0, t.val % 2] ∧ win0_2.index t = ![t.val / 2, t.val % 2] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  refine (Finset.sum_congr rfl fun k _ => mul_comm _ _).trans ?_
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.MixDwIdeal.Tiles

namespace Cert.EvDwIdeal.Tiles

open Cert.EvDwIdeal Cert.EvDwIdeal.Gen

variable (m : (ℓ : Loc nD τ sig) → Buf (Elt Ideal) ℓ)

/-- The reference's product, over the kernel's argument arrays. -/
abbrev target (x : FVec Ideal S2048x2048 .bf16) (w : FVec Ideal S2048x5120 .bf16) : FVec Ideal S2048x5120 .bf16 :=
  truncf .bf16 (transpose Cert.EvDwRefIdeal.S2048x5120 [1, 0] (Host.dotGeneral Cert.EvDwRefIdeal.dot_S2048x5120_S2048x2048_S5120x2048_0_0_1_1_n_n none (extf .f32 w Cert.EvDwRefIdeal.Gen.bitsLt_bf16_f32) (extf .f32 x Cert.EvDwRefIdeal.Gen.bitsLt_bf16_f32)) Cert.EvDwRefIdeal.Gen.transposes_S5120x2048_S2048x5120_1_0) Cert.EvDwRefIdeal.Gen.bitsLt_bf16_f32

theorem idx : ∀ t : Fin cfg0.N, win0_0.index t = ![0, 0] ∧ win0_1.index t = ![0, t.val] ∧ win0_2.index t = ![0, t.val] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  refine (Finset.sum_congr rfl fun k _ => mul_comm _ _).trans ?_
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.EvDwIdeal.Tiles

namespace Cert.OdDwIdeal.Tiles

open Cert.OdDwIdeal Cert.OdDwIdeal.Gen

variable (m : (ℓ : Loc nD τ sig) → Buf (Elt Ideal) ℓ)

/-- The reference's product, over the kernel's argument arrays. -/
abbrev target (x : FVec Ideal S2048x2048 .bf16) (w : FVec Ideal S2048x2304 .bf16) : FVec Ideal S2048x2304 .bf16 :=
  truncf .bf16 (transpose Cert.OdDwRefIdeal.S2048x2304 [1, 0] (Host.dotGeneral Cert.OdDwRefIdeal.dot_S2048x2304_S2048x2048_S2304x2048_0_0_1_1_n_n none (extf .f32 w Cert.OdDwRefIdeal.Gen.bitsLt_bf16_f32) (extf .f32 x Cert.OdDwRefIdeal.Gen.bitsLt_bf16_f32)) Cert.OdDwRefIdeal.Gen.transposes_S2304x2048_S2048x2304_1_0) Cert.OdDwRefIdeal.Gen.bitsLt_bf16_f32

theorem idx : ∀ t : Fin cfg0.N, win0_0.index t = ![0, 0] ∧ win0_1.index t = ![0, t.val] ∧ win0_2.index t = ![0, t.val] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  refine (Finset.sum_congr rfl fun k _ => mul_comm _ _).trans ?_
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.OdDwIdeal.Tiles

namespace Cert.GluDwIdeal.Tiles

open Cert.GluDwIdeal Cert.GluDwIdeal.Gen

variable (m : (ℓ : Loc nD τ sig) → Buf (Elt Ideal) ℓ)

/-- The reference's product, over the kernel's argument arrays. -/
abbrev target (x : FVec Ideal S2048x1024 .bf16) (w : FVec Ideal S2048x1024 .bf16) : FVec Ideal S1024x1024 .bf16 :=
  truncf .bf16 (transpose Cert.GluDwRefIdeal.S1024x1024 [1, 0] (Host.dotGeneral Cert.GluDwRefIdeal.dot_S2048x1024_S2048x1024_S1024x1024_0_0_1_1_n_n none (extf .f32 w Cert.GluDwRefIdeal.Gen.bitsLt_bf16_f32) (extf .f32 x Cert.GluDwRefIdeal.Gen.bitsLt_bf16_f32)) Cert.GluDwRefIdeal.Gen.transposes_S1024x1024_S1024x1024_1_0) Cert.GluDwRefIdeal.Gen.bitsLt_bf16_f32

theorem idx : ∀ t : Fin cfg0.N, win0_0.index t = ![0, 0] ∧ win0_1.index t = ![0, t.val] ∧ win0_2.index t = ![0, t.val] :=
  (by decide +kernel : ∀ t : Fin grid0.N, _)

theorem point (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  refine (Finset.sum_congr rfl fun k _ => mul_comm _ _).trans ?_
  blk_point [iblk, V, idx t]

theorem final (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.GluDwIdeal.Tiles
end
-- ==== Proof.AttnMath.lean ====
/- The sliding-window attention one head at a time, over the reals: scores, softmax over the window and the
   gradients; the window cut into blocks of 128 keys; and the extended reals the programs compute in. -/
module

public import Idealize.ShloMosaic.Lib.Pointwise
public import Idealize.ShloMosaic.Lib.WordCmp

@[expose] public section

set_option maxRecDepth 16384

noncomputable section

open Idealize.ShloMosaic

namespace Attn

/-- Query `i` attends key `j`: the 128 keys up to its own. -/
abbrev Win (i j : Fin 2048) : Prop := j.val ≤ i.val ∧ i.val ≤ j.val + 127

section Head

variable (q k v g : Fin 2048 → Fin 64 → ℝ) (D : Fin 2048 → ℝ)

def score (i j : Fin 2048) : ℝ := (∑ d, q i d * k j d) * (1 / 8)

/-- The softmax's denominator. -/
def den (i : Fin 2048) : ℝ := ∑ j, if Win i j then Real.exp (score q k i j) else 0

def prob (i j : Fin 2048) : ℝ := if Win i j then Real.exp (score q k i j) / den q k i else 0

def out (i : Fin 2048) (d : Fin 64) : ℝ := ∑ j, prob q k i j * v j d

def lse (i : Fin 2048) : ℝ := Real.log (den q k i)

/-- The gradient of a score: the softmax's, with the row's correction `D`. -/
def dscore (i j : Fin 2048) : ℝ := prob q k i j * ((∑ d, g i d * v j d) - D i) * (1 / 8)

theorem den_pos (i : Fin 2048) : 0 < den q k i := by
  refine Finset.sum_pos' (fun j _ => ?_) ⟨i, Finset.mem_univ _, ?_⟩
  · split <;> positivity
  · rw [if_pos ⟨le_rfl, by omega⟩]; exact Real.exp_pos _

/-- The denominator with the scores moved down by any real number. -/
theorem den_shift (M : ℝ) (i : Fin 2048) :
    (∑ j, if Win i j then Real.exp (score q k i j - M) else 0) = den q k i * Real.exp (-M) := by
  rw [den, Finset.sum_mul]
  refine Finset.sum_congr rfl fun j _ => ?_
  split
  · rw [← Real.exp_add, sub_eq_add_neg]
  · rw [zero_mul]

theorem prob_shift (M : ℝ) (i j : Fin 2048) :
    (if Win i j then Real.exp (score q k i j - M) else 0) / (den q k i * Real.exp (-M)) = prob q k i j := by
  have h := (den_pos q k i).ne'
  have h' := (Real.exp_pos (-M)).ne'
  unfold prob
  split
  · rw [sub_eq_add_neg, Real.exp_add, mul_div_mul_right _ _ h']
  · rw [zero_div]

/-- The weighted sum of the values with the scores moved down by any real number. -/
theorem out_shift (M : ℝ) (i : Fin 2048) (d : Fin 64) :
    (∑ j, (if Win i j then Real.exp (score q k i j - M) else 0) * v j d) / (den q k i * Real.exp (-M)) = out q k v i d := by
  rw [out, Finset.sum_div]
  refine Finset.sum_congr rfl fun j _ => ?_
  rw [← prob_shift q k M i j, div_mul_eq_mul_div]

theorem lse_shift (M : ℝ) (i : Fin 2048) : M + Real.log (den q k i * Real.exp (-M)) = lse q k i := by
  rw [Real.log_mul (den_pos q k i).ne' (Real.exp_pos _).ne', Real.log_exp, lse]; ring

theorem exp_lse (i j : Fin 2048) :
    (if Win i j then Real.exp (score q k i j - lse q k i) else 0) = prob q k i j := by
  unfold prob lse
  split
  · rw [Real.exp_sub, Real.exp_log (den_pos q k i)]
  · rfl

theorem prob_off {i j : Fin 2048} (h : ¬Win i j) : prob q k i j = 0 := if_neg h

theorem dscore_off {i j : Fin 2048} (h : ¬Win i j) : dscore q k v g D i j = 0 := by
  rw [dscore, prob_off q k h, zero_mul, zero_mul]

end Head

/-- Row `y` of block `b`. -/
abbrev pos (b : ℕ) (y : Fin 128) (h : b < 16) : Fin 2048 := ⟨128 * b + y.val, by omega⟩

theorem sum_blocks (F : Fin 2048 → ℝ) : ∑ j, F j = ∑ b : Fin 16, ∑ y : Fin 128, F (pos b y b.isLt) := by
  rw [← Fintype.sum_prod_type' (f := fun (b : Fin 16) (y : Fin 128) => F (pos b y b.isLt))]
  refine (Fintype.sum_equiv (finProdFinEquiv (m := 16) (n := 128)) _ _ fun p => ?_).symm
  congr 1
  refine Fin.ext ?_
  simp only [finProdFinEquiv_apply_val]
  omega

/-- Row `y` of the block before, and of the block after. At the ends it is the own block's. -/
abbrev prev (b : Fin 16) (y : Fin 128) : Fin 2048 := pos (b.val - 1) y (by omega)
abbrev next (b : Fin 16) (x : Fin 128) : Fin 2048 := pos (min (b.val + 1) 15) x (by omega)
abbrev cur (b : Fin 16) (x : Fin 128) : Fin 2048 := pos b.val x b.isLt

theorem cur_val (b : Fin 16) (x : Fin 128) : (cur b x).val = 128 * b.val + x.val := rfl
theorem prev_val (b : Fin 16) (y : Fin 128) : (prev b y).val = 128 * (b.val - 1) + y.val := rfl
theorem next_val (b : Fin 16) (x : Fin 128) : (next b x).val = 128 * min (b.val + 1) 15 + x.val := rfl

/-- A sum over a query's window: over its own block and the one before. -/
theorem row_win (b : Fin 16) (x : Fin 128) (F : Fin 2048 → ℝ) :
    (∑ j, if Win (cur b x) j then F j else 0)
      = (∑ y : Fin 128, if y.val ≤ x.val then F (cur b y) else 0) + ∑ y : Fin 128, if 0 < b.val ∧ x.val < y.val then F (prev b y) else 0 := by
  have hx := x.isLt
  have own : ∀ y : Fin 128, (if Win (cur b x) (cur b y) then F (cur b y) else 0) = if y.val ≤ x.val then F (cur b y) else 0 := fun y =>
    if_congr (by have := cur_val b x; have := cur_val b y; have := y.isLt; omega) rfl rfl
  rw [sum_blocks]
  by_cases h : 0 < b.val
  · rw [Fintype.sum_eq_add b ⟨b.val - 1, by omega⟩ (by simp [Fin.ext_iff]; omega)]
    · exact congrArg₂ (· + ·) (Finset.sum_congr rfl fun y _ => own y) (Finset.sum_congr rfl fun y _ => if_congr (by have := cur_val b x; have := prev_val b y; have := y.isLt; show Win (cur b x) (prev b y) ↔ _; omega) rfl rfl)
    · intro c hc
      refine Finset.sum_eq_zero fun y _ => if_neg fun hw => ?_
      have h1 : c.val ≠ b := fun e => hc.1 (Fin.ext e)
      have h2 : c.val ≠ b - 1 := fun e => hc.2 (Fin.ext e)
      have := hw.1; have := hw.2
      simp only at *
      omega
  · rw [Fintype.sum_eq_single b]
    · simp only [h, false_and, if_false, Finset.sum_const_zero, add_zero]
      exact Finset.sum_congr rfl fun y _ => own y
    · intro c hc
      refine Finset.sum_eq_zero fun y _ => if_neg fun hw => ?_
      have h1 : c.val ≠ b := fun e => hc (Fin.ext e)
      have := hw.1; have := hw.2
      simp only at *
      omega

/-- A sum over the queries that attend a key: over its own block and the one after. -/
theorem col_win (b : Fin 16) (y : Fin 128) (F : Fin 2048 → ℝ) :
    (∑ i, if Win i (cur b y) then F i else 0)
      = (∑ x : Fin 128, if y.val ≤ x.val then F (cur b x) else 0) + ∑ x : Fin 128, if b.val < 15 ∧ x.val < y.val then F (next b x) else 0 := by
  have hy := y.isLt
  have own : ∀ x : Fin 128, (if Win (cur b x) (cur b y) then F (cur b x) else 0) = if y.val ≤ x.val then F (cur b x) else 0 := fun x =>
    if_congr (by have := cur_val b x; have := cur_val b y; have := x.isLt; omega) rfl rfl
  rw [sum_blocks]
  by_cases h : b.val < 15
  · have e : min (b.val + 1) 15 = b.val + 1 := by omega
    rw [Fintype.sum_eq_add b ⟨min (b.val + 1) 15, by omega⟩ (by simp [Fin.ext_iff]; omega)]
    · exact congrArg₂ (· + ·) (Finset.sum_congr rfl fun x _ => own x) (Finset.sum_congr rfl fun x _ => if_congr (by have := next_val b x; have := cur_val b y; have := x.isLt; show Win (next b x) (cur b y) ↔ _; omega) rfl rfl)
    · intro c hc
      refine Finset.sum_eq_zero fun x _ => if_neg fun hw => ?_
      have h1 : c.val ≠ b := fun e => hc.1 (Fin.ext e)
      have h2 : c.val ≠ min (b.val + 1) 15 := fun e => hc.2 (Fin.ext e)
      have := hw.1; have := hw.2
      simp only at *
      omega
  · rw [Fintype.sum_eq_single b]
    · simp only [h, false_and, if_false, Finset.sum_const_zero, add_zero]
      exact Finset.sum_congr rfl fun x _ => own x
    · intro c hc
      refine Finset.sum_eq_zero fun x _ => if_neg fun hw => ?_
      have h1 : c.val ≠ b := fun e => hc (Fin.ext e)
      have := hw.1; have := hw.2
      simp only at *
      omega

/-- A sum of real numbers is a real number. -/
theorem coe_sum {ι : Type} [Fintype ι] (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

theorem coe_ite (c : Prop) [Decidable c] (a b : ℝ) : (if c then (a : EReal) else (b : EReal)) = ((if c then a else b : ℝ) : EReal) := by
  split <;> rfl

/-- The greatest of scores that are real or masked, one of them real, is real. -/
theorem fold_max_real {ι : Type} [Fintype ι] (f : ι → EReal) (htop : ∀ i, f i ≠ ⊤) (hbot : ∃ i, f i ≠ ⊥) :
    ∃ M : ℝ, Finset.univ.fold max ⊥ f = (M : EReal) := by
  obtain ⟨i, hi⟩ := hbot
  have h1 : Finset.univ.fold max ⊥ f ≠ ⊤ :=
    ne_of_lt ((Finset.fold_max_lt ⊤).mpr ⟨bot_lt_top, fun x _ => lt_top_iff_ne_top.mpr (htop x)⟩)
  have h2 : Finset.univ.fold max ⊥ f ≠ ⊥ :=
    ne_of_gt (lt_of_lt_of_le (bot_lt_iff_ne_bot.mpr hi) ((Finset.le_fold_max _).mpr (Or.inr ⟨i, Finset.mem_univ _, le_rfl⟩)))
  exact ⟨_, (EReal.coe_toReal h1 h2).symm⟩

/-- The exponential of a score, real or masked, moved down by a real number. -/
theorem exp_masked (c : Prop) [Decidable c] (s M : ℝ) :
    Ideal.exp ((if c then (s : EReal) else ⊥) - (M : EReal)) = ((if c then Real.exp (s - M) else 0 : ℝ) : EReal) := by
  split
  · rw [← EReal.coe_sub, Ideal.exp_coe]
  · rw [EReal.bot_sub, Ideal.exp_bot, EReal.coe_zero]

/-- The same, kept at zero where masked. -/
theorem exp_masked' (c : Prop) [Decidable c] (s M : ℝ) :
    (if c then Ideal.exp ((if c then (s : EReal) else ⊥) - (M : EReal)) else 0) = ((if c then Real.exp (s - M) else 0 : ℝ) : EReal) := by
  rw [exp_masked]
  split
  · rfl
  · exact EReal.coe_zero.symm

/-- A row of the stacked queries: the head and the position in the block. -/
abbrev head (R : Fin 1024) : Fin 8 := ⟨R.val / 128, by omega⟩
abbrev place (R : Fin 1024) : Fin 128 := ⟨R.val % 128, by omega⟩

theorem sum_rows (F : Fin 8 → Fin 128 → ℝ) : ∑ R : Fin 1024, F (head R) (place R) = ∑ r, ∑ x, F r x := by
  rw [← Fintype.sum_prod_type' (f := F)]
  refine (Fintype.sum_equiv (finProdFinEquiv (m := 8) (n := 128)) _ _ fun p => ?_).symm
  have h := p.2.isLt
  have e : (finProdFinEquiv (m := 8) (n := 128) p).val = p.2.val + 128 * p.1.val := rfl
  have h1 : head (finProdFinEquiv (m := 8) (n := 128) p) = p.1 := Fin.ext (by simp only; omega)
  have h2 : place (finProdFinEquiv (m := 8) (n := 128) p) = p.2 := Fin.ext (by simp only; omega)
  rw [h1, h2]

section Block

variable (q k v g : Fin 2048 → Fin 64 → ℝ) (D : Fin 2048 → ℝ) (b : Fin 16) (x : Fin 128)

/-- A block's row of masked scores: the own block and the block before. -/
def own (y : Fin 128) : EReal := if y.val ≤ x.val then (score q k (cur b x) (cur b y) : EReal) else ⊥
def before (y : Fin 128) : EReal := if 0 < b.val ∧ x.val < y.val then (score q k (cur b x) (prev b y) : EReal) else ⊥

/-- The greatest score of the row. -/
def top : EReal := max (Finset.univ.fold max ⊥ (own q k b x)) (Finset.univ.fold max ⊥ (before q k b x))

theorem top_real : ∃ M : ℝ, top q k b x = (M : EReal) := by
  obtain ⟨M, hM⟩ := fold_max_real (own q k b x) (fun y => by unfold own; split <;> simp) ⟨x, by unfold own; rw [if_pos le_rfl]; simp⟩
  unfold top
  rw [hM]
  have h : Finset.univ.fold max ⊥ (before q k b x) ≠ ⊤ :=
    ne_of_lt ((Finset.fold_max_lt ⊤).mpr ⟨bot_lt_top, fun y _ => lt_top_iff_ne_top.mpr (by unfold before; split <;> simp)⟩)
  refine ⟨_, (EReal.coe_toReal ?_ ?_).symm⟩
  · exact ne_of_lt (max_lt (EReal.coe_lt_top M) (lt_top_iff_ne_top.mpr h))
  · exact ne_of_gt (lt_of_lt_of_le (EReal.bot_lt_coe M) (le_max_left _ _))

/-- The row's denominator as a block computes it. -/
def total : EReal := (∑ y, Ideal.exp (own q k b x y - top q k b x)) + ∑ y, Ideal.exp (before q k b x y - top q k b x)

theorem total_real (M : ℝ) (h : top q k b x = (M : EReal)) : total q k b x = ((den q k (cur b x) * Real.exp (-M) : ℝ) : EReal) := by
  unfold total
  rw [h, ← den_shift, row_win]
  simp only [own, before, exp_masked, coe_sum, ← EReal.coe_add]

theorem out_block (d : Fin 64) :
    Ideal.div ((∑ y, Ideal.exp (own q k b x y - top q k b x) * (v (cur b y) d : EReal))
      + ∑ y, Ideal.exp (before q k b x y - top q k b x) * (v (prev b y) d : EReal)) (total q k b x) = (out q k v (cur b x) d : EReal) := by
  obtain ⟨M, h⟩ := top_real q k b x
  have hd := (mul_pos (den_pos q k (cur b x)) (Real.exp_pos (-M))).ne'
  rw [total_real q k b x M h, h, ← out_shift q k v M, Ideal.div_coe hd]
  have e : (∑ j, (if Win (cur b x) j then Real.exp (score q k (cur b x) j - M) else 0) * v j d)
      = ∑ j, if Win (cur b x) j then Real.exp (score q k (cur b x) j - M) * v j d else 0 :=
    Finset.sum_congr rfl fun j _ => by rw [ite_mul, zero_mul]
  rw [e, row_win]
  simp only [own, before, exp_masked, coe_sum, ← EReal.coe_add, ← EReal.coe_mul, ite_mul, zero_mul]
  rw [mul_one_div]

theorem lse_block : top q k b x + Ideal.log (total q k b x) = (lse q k (cur b x) : EReal) := by
  obtain ⟨M, h⟩ := top_real q k b x
  have hd := mul_pos (den_pos q k (cur b x)) (Real.exp_pos (-M))
  rw [total_real q k b x M h, h, Ideal.log_coe, if_neg (not_le.mpr hd), ← EReal.coe_add, lse_shift]

end Block

section Gradient

variable (q k v g : Fin 2048 → Fin 64 → ℝ) (D : Fin 2048 → ℝ)

/-- A masked probability, from the log-sum-exp, at a pair in the window. -/
theorem masked_prob (c : Prop) [Decidable c] (i j : Fin 2048) (h : c → Win i j) :
    (if c then Real.exp (score q k i j - lse q k i) else 0) = if c then prob q k i j else 0 := by
  by_cases hc : c
  · rw [if_pos hc, if_pos hc, ← exp_lse, if_pos (h hc)]
  · rw [if_neg hc, if_neg hc]

/-- The gradient of the queries' row: over its own block of keys and the one before. -/
theorem dq_block (b : Fin 16) (x : Fin 128) (d : Fin 64) :
    (∑ y : Fin 128, (if y.val ≤ x.val then dscore q k v g D (cur b x) (cur b y) else 0) * k (cur b y) d)
      + (∑ y : Fin 128, (if 0 < b.val ∧ x.val < y.val then dscore q k v g D (cur b x) (prev b y) else 0) * k (prev b y) d)
      = ∑ j, dscore q k v g D (cur b x) j * k j d := by
  have e : (∑ j, dscore q k v g D (cur b x) j * k j d) = ∑ j, if Win (cur b x) j then dscore q k v g D (cur b x) j * k j d else 0 :=
    Finset.sum_congr rfl fun j _ => by
      split
      · rfl
      · next h => rw [dscore_off q k v g D h, zero_mul]
  rw [e, row_win]
  simp only [ite_mul, zero_mul]

/-- A sum down a column of what vanishes off the window: over the key's own block of queries and the one after, each
    block's heads stacked. -/
theorem col_block (F z : Fin 8 → Fin 2048 → ℝ) (b : Fin 16) (y : Fin 128) (off : ∀ r i, ¬Win i (cur b y) → F r i = 0) :
    (∑ R : Fin 1024, (if y.val ≤ (place R).val then F (head R) (cur b (place R)) else 0) * z (head R) (cur b (place R)))
      + (∑ R : Fin 1024, (if b.val < 15 ∧ (place R).val < y.val then F (head R) (next b (place R)) else 0) * z (head R) (next b (place R)))
      = ∑ r, ∑ i, F r i * z r i := by
  rw [sum_rows fun r x => (if y.val ≤ x.val then F r (cur b x) else 0) * z r (cur b x),
    sum_rows fun r x => (if b.val < 15 ∧ x.val < y.val then F r (next b x) else 0) * z r (next b x), ← Finset.sum_add_distrib]
  refine Finset.sum_congr rfl fun r _ => ?_
  have e : (∑ i, F r i * z r i) = ∑ i, if Win i (cur b y) then F r i * z r i else 0 :=
    Finset.sum_congr rfl fun i _ => by
      split
      · rfl
      · next h => rw [off r i h, zero_mul]
  rw [e, col_win]
  simp only [ite_mul, zero_mul]

end Gradient

end Attn
end
-- ==== Proof.AttnFwd.lean ====
/- The forward sliding-window attention, block by block: each row of a block is the softmax over its own block's keys and
   the block before's, and the two results' arrays are the attention's output and its log-sum-exp. -/
module

public import proofs.«01_k».proof.Proof.Gen.AttnIdeal.Frame
public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Tiles

open Cert.AttnIdeal Cert.AttnIdeal.Gen Attn

theorem mask_bot : Named.named (F := Ideal) (φ := .f32) κ "mask" 0xF149F2CA#32 = (⊥ : EReal) := rfl

theorem eighth : Ideal.ofBits .f32 0x3E000000#32 = ((1 / 8 : ℝ) : EReal) := by
  simp [Ideal.ofBits, Ideal.ieee, -EReal.coe_mul]
  norm_num

theorem neg_inf : Ideal.ofBits .f32 0xFF800000#32 = (⊥ : EReal) := by
  simp [Ideal.ofBits, Ideal.ieee]

/-- The kernel's masks, from words: the keys up to the query's place, and the keys after it where there is another block. -/
theorem own_word (p y : ℕ) (hp : p < 128) (hy : y < 128) :
    IntOp.cmpi .sle (BitVec.ofNat 32 y) (BitVec.ofNat 32 p) = BitVec.ofBool (decide (y ≤ p)) :=
  WordCmp.cmpi_sle_ofNat (by norm_num; omega) (by norm_num; omega)

theorem after_word (p y : ℕ) (hp : p < 128) (hy : y < 128) :
    IntOp.cmpi .sge (BitVec.ofNat 32 y) (IntOp.addi (BitVec.ofNat 32 p) 1#32) = BitVec.ofBool (decide (p < y)) := by
  rw [show (1#32) = BitVec.ofNat 32 1 from rfl, WordCmp.addi_ofNat, WordCmp.cmpi_sge_ofNat (by norm_num; omega) (by norm_num; omega)]
  rfl

theorem first_word (b : ℕ) (hb : b < 16) : Scalar.cmpi .sgt (BitVec.ofNat 32 b) 0#32 = BitVec.ofBool (decide (0 < b)) := by
  rw [WordCmp.scalar_cmpi_eq, show (0#32) = BitVec.ofNat 32 0 from rfl, WordCmp.cmpi_sgt_ofNat (by norm_num; omega) (by norm_num)]

theorem last_word (b : ℕ) (hb : b < 16) : Scalar.cmpi .slt (BitVec.ofNat 32 b) 15#32 = BitVec.ofBool (decide (b < 15)) := by
  rw [WordCmp.scalar_cmpi_eq, show (15#32) = BitVec.ofNat 32 15 from rfl, WordCmp.cmpi_slt_ofNat (by norm_num; omega) (by norm_num)]

/-- A row's place in its block, as the kernel computes it. -/
theorem row_word (R : Fin 1024) (y : Fin 128) : k0_pay4 (ix2 R y) = BitVec.ofNat 32 (R.val % 128) := by
  pointwise [k0_pay4]
  revert R
  decide +kernel

/-- The score of two rows of reals. -/
theorem score_block (a c : Fin 64 → ℝ) :
    (∑ d, (a d : EReal) * (c d : EReal)) * Ideal.ofBits .f32 0x3E000000#32 = (((∑ d, a d * c d) * (1 / 8) : ℝ) : EReal) := by
  rw [eighth]
  simp only [← EReal.coe_mul, coe_sum]

section Block

variable (b : Fin 16) (Q : Fin 8 → Fin 2048 → Fin 64 → ℝ) (k v : Fin 2048 → Fin 64 → ℝ)
variable (x0 : Vec Ideal S1x8x128x64 .bf16) (x1 x2 x3 x4 : Vec Ideal S1x128x64 .bf16)
variable (h0 : ∀ r x d, x0 (ix4 0 r x d) = (Q r (cur b x) d : EReal))
variable (h1 : ∀ y d, x1 (ix3 0 y d) = (k (cur b y) d : EReal)) (h2 : ∀ y d, x2 (ix3 0 y d) = (k (prev b y) d : EReal))
variable (h3 : ∀ y d, x3 (ix3 0 y d) = (v (cur b y) d : EReal)) (h4 : ∀ y d, x4 (ix3 0 y d) = (v (prev b y) d : EReal))

include h0 h1 in
theorem own_apply (R : Fin 1024) (y : Fin 128) : k0_pay5 (F := Ideal) x0 x1 (ix2 R y) = own (Q (head R)) k b (place R) y := by
  pointwise [k0_pay5, k0_pay2]
  rw [row_word, mask_bot, own_word _ _ (place R).isLt y.isLt, WordCmp.select_decide]
  simp only [h0, h1]
  rw [score_block]
  rfl

include h0 h2 in
theorem before_apply (R : Fin 1024) (y : Fin 128) :
    k0_pay7 (F := Ideal) (BitVec.ofNat 32 b.val) (k0_pay3 x0 x2) (iota .tc S1024x128 32 [1] iota_S1024x128_d1_w32) k0_pay6 (ix2 R y)
      = before (Q (head R)) k b (place R) y := by
  pointwise [k0_pay7, k0_pay3, k0_pay2, k0_pay6]
  rw [row_word, mask_bot, after_word _ _ (place R).isLt y.isLt, first_word _ b.isLt, WordCmp.andi_ofBool, ← Bool.decide_and, WordCmp.select_decide]
  simp only [h0, h2]
  rw [score_block]
  exact if_congr and_comm rfl rfl

include h0 h1 h2 in
/-- The row's greatest score, its terms and their sum. -/
theorem top_apply (R : Fin 1024) :
    k0_pay8 (F := Ideal) (BitVec.ofNat 32 b.val) (k0_pay3 x0 x2) (iota .tc S1024x128 32 [1] iota_S1024x128_d1_w32) (k0_pay5 x0 x1) k0_pay6 (ix2 R 0)
      = top (Q (head R)) k b (place R) := by
  have e1 := own_apply b Q k x0 x1 h0 h1 R
  have e2 := before_apply b Q k x0 x2 h0 h2 R
  unfold k0_pay8
  generalize k0_pay5 (F := Ideal) x0 x1 = u at *
  generalize k0_pay7 (F := Ideal) (BitVec.ofNat 32 b.val) (k0_pay3 x0 x2) (iota .tc S1024x128 32 [1] iota_S1024x128_d1_w32) k0_pay6 = w at *
  pointwise []
  simp only [e1, e2, neg_inf]
  rfl

include h0 h1 h2 in
theorem own_exp (R : Fin 1024) (y : Fin 128) :
    k0_pay9 (F := Ideal) (BitVec.ofNat 32 b.val) (k0_pay3 x0 x2) (iota .tc S1024x128 32 [1] iota_S1024x128_d1_w32) (k0_pay5 x0 x1) k0_pay6 (ix2 R y)
      = Ideal.exp (own (Q (head R)) k b (place R) y - top (Q (head R)) k b (place R)) := by
  rw [← own_apply b Q k x0 x1 h0 h1 R y, ← top_apply b Q k x0 x1 x2 h0 h1 h2 R]
  unfold k0_pay9
  generalize k0_pay8 (F := Ideal) (BitVec.ofNat 32 b.val) (k0_pay3 x0 x2) (iota .tc S1024x128 32 [1] iota_S1024x128_d1_w32) (k0_pay5 x0 x1) k0_pay6 = w
  generalize k0_pay5 (F := Ideal) x0 x1 = u
  pointwise []

include h0 h1 h2 in
theorem before_exp (R : Fin 1024) (y : Fin 128) :
    k0_pay10 (F := Ideal) (BitVec.ofNat 32 b.val) (k0_pay3 x0 x2) (iota .tc S1024x128 32 [1] iota_S1024x128_d1_w32) (k0_pay5 x0 x1) k0_pay6 (ix2 R y)
      = Ideal.exp (before (Q (head R)) k b (place R) y - top (Q (head R)) k b (place R)) := by
  rw [← before_apply b Q k x0 x2 h0 h2 R y, ← top_apply b Q k x0 x1 x2 h0 h1 h2 R]
  unfold k0_pay10
  generalize k0_pay8 (F := Ideal) (BitVec.ofNat 32 b.val) (k0_pay3 x0 x2) (iota .tc S1024x128 32 [1] iota_S1024x128_d1_w32) (k0_pay5 x0 x1) k0_pay6 = w
  generalize k0_pay7 (F := Ideal) (BitVec.ofNat 32 b.val) (k0_pay3 x0 x2) (iota .tc S1024x128 32 [1] iota_S1024x128_d1_w32) k0_pay6 = u
  pointwise []

include h0 h1 h2 in
theorem total_apply (R : Fin 1024) :
    k0_pay11 (F := Ideal) (BitVec.ofNat 32 b.val) (k0_pay3 x0 x2) (iota .tc S1024x128 32 [1] iota_S1024x128_d1_w32) (k0_pay5 x0 x1) k0_pay6 (ix2 R 0) = total (Q (head R)) k b (place R) := by
  have e1 := own_exp b Q k x0 x1 x2 h0 h1 h2 R
  have e2 := before_exp b Q k x0 x1 x2 h0 h1 h2 R
  unfold k0_pay11
  generalize k0_pay9 (F := Ideal) (BitVec.ofNat 32 b.val) (k0_pay3 x0 x2) (iota .tc S1024x128 32 [1] iota_S1024x128_d1_w32) (k0_pay5 x0 x1) k0_pay6 = u at *
  generalize k0_pay10 (F := Ideal) (BitVec.ofNat 32 b.val) (k0_pay3 x0 x2) (iota .tc S1024x128 32 [1] iota_S1024x128_d1_w32) (k0_pay5 x0 x1) k0_pay6 = w at *
  pointwise []
  simp only [e1, e2]
  rfl

/-- The stacked row of a head and a place. -/
abbrev row (r : Fin 8) (x : Fin 128) : Fin 1024 := ⟨r.val * 128 + x.val, by omega⟩

theorem head_row (r : Fin 8) (x : Fin 128) : head (row r x) = r := Fin.ext (by show (r.val * 128 + x.val) / 128 = r.val; omega)
theorem place_row (r : Fin 8) (x : Fin 128) : place (row r x) = x := Fin.ext (by show (r.val * 128 + x.val) % 128 = x.val; omega)

include h0 h1 h2 h3 h4 in
/-- A block of the output. -/
theorem out_apply (r : Fin 8) (x : Fin 128) (d : Fin 64) :
    k0_pay12 (F := Ideal) (BitVec.ofNat 32 b.val) (k0_pay3 x0 x2) (iota .tc S1024x128 32 [1] iota_S1024x128_d1_w32) (k0_pay5 x0 x1) k0_pay6 x3 x4 (ix4 0 r x d) = (out (Q r) k v (cur b x) d : EReal) := by
  have e1 := own_exp b Q k x0 x1 x2 h0 h1 h2 (row r x)
  have e2 := before_exp b Q k x0 x1 x2 h0 h1 h2 (row r x)
  have e3 := total_apply b Q k x0 x1 x2 h0 h1 h2 (row r x)
  rw [head_row, place_row] at e3
  simp only [head_row, place_row] at e1 e2
  rw [← out_block (Q r) k v b x d]
  unfold k0_pay12
  generalize k0_pay9 (F := Ideal) (BitVec.ofNat 32 b.val) (k0_pay3 x0 x2) (iota .tc S1024x128 32 [1] iota_S1024x128_d1_w32) (k0_pay5 x0 x1) k0_pay6 = u at *
  generalize k0_pay10 (F := Ideal) (BitVec.ofNat 32 b.val) (k0_pay3 x0 x2) (iota .tc S1024x128 32 [1] iota_S1024x128_d1_w32) (k0_pay5 x0 x1) k0_pay6 = w at *
  generalize k0_pay11 (F := Ideal) (BitVec.ofNat 32 b.val) (k0_pay3 x0 x2) (iota .tc S1024x128 32 [1] iota_S1024x128_d1_w32) (k0_pay5 x0 x1) k0_pay6 = z at *
  pointwise []
  simp only [e1, e2, e3, h3, h4]

include h0 h1 h2 in
/-- A block of the log-sum-exp, the same in every lane. -/
theorem lse_apply (r : Fin 8) (x : Fin 128) (d : Fin 64) :
    k0_pay1 (F := Ideal) (k0_pay13 (BitVec.ofNat 32 b.val) (k0_pay3 x0 x2) (iota .tc S1024x128 32 [1] iota_S1024x128_d1_w32) (k0_pay5 x0 x1) k0_pay6) (ix4 0 r x d) = (lse (Q r) k (cur b x) : EReal) := by
  have e1 := top_apply b Q k x0 x1 x2 h0 h1 h2 (row r x)
  have e3 := total_apply b Q k x0 x1 x2 h0 h1 h2 (row r x)
  rw [head_row, place_row] at e1 e3
  rw [← lse_block (Q r) k b x]
  unfold k0_pay1 k0_pay13
  generalize k0_pay8 (F := Ideal) (BitVec.ofNat 32 b.val) (k0_pay3 x0 x2) (iota .tc S1024x128 32 [1] iota_S1024x128_d1_w32) (k0_pay5 x0 x1) k0_pay6 = u at *
  generalize k0_pay11 (F := Ideal) (BitVec.ofNat 32 b.val) (k0_pay3 x0 x2) (iota .tc S1024x128 32 [1] iota_S1024x128_d1_w32) (k0_pay5 x0 x1) k0_pay6 = z at *
  pointwise []
  simp only [e1, e3]

end Block

end Cert.AttnIdeal.Tiles
end
-- ==== Proof.AttnArrays.lean ====
/- The forward attention's arrays: every block of the output and of the log-sum-exp, put together. -/
module

public import proofs.«01_k».proof.Proof.AttnFwd

@[expose] public section

set_option maxRecDepth 16384

noncomputable section

open Idealize.ShloMosaic Idealize.ShloMosaic.TcCoe Idealize.SL.Sem
open Idealize.ShloMosaic.Pipeline (Dat)

namespace Cert.AttnIdeal.Tiles

open Cert.AttnIdeal Cert.AttnIdeal.Gen Attn

variable (V : (c : Dev nD) → (b : Ref sig .tc) → Buf (Elt Ideal) ((c : Thread nD τ).loc b)) (c : Dev nD)

/-- The sequence and the block of a point of the grid. -/
abbrev seq (t : Fin 32) : Fin 2 := ⟨t.val / 16, by omega⟩
abbrev blk (t : Fin 32) : Fin 16 := ⟨t.val % 16, by omega⟩

theorem idx0 : ∀ t : Fin cfg0.N, win0_0.index t = ![t.val / 16, 0, t.val % 16, 0] ∧ win0_1.index t = ![t.val / 16, t.val % 16, 0]
    ∧ win0_2.index t = ![t.val / 16, t.val % 16 - 1, 0] ∧ win0_3.index t = ![t.val / 16, t.val % 16, 0]
    ∧ win0_4.index t = ![t.val / 16, t.val % 16 - 1, 0] ∧ win0_5.index t = ![t.val / 16, 0, t.val % 16, 0]
    ∧ win0_6.index t = ![t.val / 16, 0, t.val % 16, 0] :=
  (by decide +kernel : ∀ t : Fin grid0.N, _)

theorem coord0 : ∀ t : Fin cfg0.N, (grid0.coords t 1).val = t.val % 16 :=
  (by decide +kernel : ∀ t : Fin grid0.N, _)

theorem q_block (t : Fin cfg0.N) (r : Fin 8) (x : Fin 128) (d : Fin 64) :
    iblk0 V c 0 t (ix4 0 r x d) = V c main_arg0 (ix4 (seq t) r (cur (blk t) x) d) := by
  blk_point [iblk0, idx0 t]

theorem kcur_block (t : Fin cfg0.N) (y : Fin 128) (d : Fin 64) :
    iblk0 V c 1 t (ix3 0 y d) = V c main_arg1 (ix3 (seq t) (cur (blk t) y) d) := by
  blk_point [iblk0, idx0 t]

theorem kprev_block (t : Fin cfg0.N) (y : Fin 128) (d : Fin 64) :
    iblk0 V c 2 t (ix3 0 y d) = V c main_arg1 (ix3 (seq t) (prev (blk t) y) d) := by
  blk_point [iblk0, idx0 t]

theorem vcur_block (t : Fin cfg0.N) (y : Fin 128) (d : Fin 64) :
    iblk0 V c 3 t (ix3 0 y d) = V c main_arg2 (ix3 (seq t) (cur (blk t) y) d) := by
  blk_point [iblk0, idx0 t]

theorem vprev_block (t : Fin cfg0.N) (y : Fin 128) (d : Fin 64) :
    iblk0 V c 4 t (ix3 0 y d) = V c main_arg2 (ix3 (seq t) (prev (blk t) y) d) := by
  blk_point [iblk0, idx0 t]

/-- The attention's output and its log-sum-exp over a batch of sequences and heads. -/
def outArray (Q : Fin 2 → Fin 8 → Fin 2048 → Fin 64 → ℝ) (K W : Fin 2 → Fin 2048 → Fin 64 → ℝ) : FVec Ideal S2x8x2048x64 .f32 :=
  fun i => ((out (Q (i 0) (i 1)) (K (i 0)) (W (i 0)) (i 2) (i 3) : ℝ) : EReal)

def lseArray (Q : Fin 2 → Fin 8 → Fin 2048 → Fin 64 → ℝ) (K : Fin 2 → Fin 2048 → Fin 64 → ℝ) : FVec Ideal S2x8x2048x64 .f32 :=
  fun i => ((lse (Q (i 0) (i 1)) (K (i 0)) (i 2) : ℝ) : EReal)

theorem block_idx (y : S1x8x128x64.Idx) : ∃ r x d, y = ix4 (n0 := 1) (n1 := 8) (n2 := 128) (n3 := 64) 0 r x d :=
  ⟨y 1, y 2, y 3, by
    funext a
    match a with
    | ⟨0, _⟩ => exact Fin.ext (by have := (y 0).isLt; change (y 0).val < 1 at this; change (y 0).val = 0; omega)
    | ⟨1, _⟩ => rfl
    | ⟨2, _⟩ => rfl
    | ⟨3, _⟩ => rfl⟩

variable (Q : Fin 2 → Fin 8 → Fin 2048 → Fin 64 → ℝ) (K W : Fin 2 → Fin 2048 → Fin 64 → ℝ)
variable (hq : ∀ n r i d, V c main_arg0 (ix4 n r i d) = (Q n r i d : EReal)) (hk : ∀ n j d, V c main_arg1 (ix3 n j d) = (K n j d : EReal))
variable (hv : ∀ n j d, V c main_arg2 (ix3 n j d) = (W n j d : EReal))

include hq hk hv in
theorem out_point (t : Fin cfg0.N) (y) :
    k0_pay12 (F := Ideal) (BitVec.ofNat 32 (grid0.coords t 1).val) (k0_pay3 (iblk0 V c 0 t) (iblk0 V c 2 t)) (iota .tc S1024x128 32 [1] iota_S1024x128_d1_w32) (k0_pay5 (iblk0 V c 0 t) (iblk0 V c 1 t)) k0_pay6 (iblk0 V c 3 t) (iblk0 V c 4 t) y
      = outArray Q K W (((cfg0.win 5).blk t).view.emb y) := by
  obtain ⟨r, x, d, rfl⟩ := block_idx y
  rw [coord0]
  refine (out_apply (blk t) (Q (seq t)) (K (seq t)) (W (seq t)) _ _ _ _ _
    (fun r x d => (q_block V c t r x d).trans (hq _ _ _ _)) (fun y d => (kcur_block V c t y d).trans (hk _ _ _))
    (fun y d => (kprev_block V c t y d).trans (hk _ _ _)) (fun y d => (vcur_block V c t y d).trans (hv _ _ _))
    (fun y d => (vprev_block V c t y d).trans (hv _ _ _)) r x d).trans ?_
  have e : ((cfg0.win 5).blk t).view.emb (ix4 0 r x d) = ix4 (seq t) r (cur (blk t) x) d := by
    blk_point [idx0 t]
  rw [e]
  rfl

include hq hk in
theorem lse_point (t : Fin cfg0.N) (y) :
    k0_pay1 (F := Ideal) (k0_pay13 (BitVec.ofNat 32 (grid0.coords t 1).val) (k0_pay3 (iblk0 V c 0 t) (iblk0 V c 2 t)) (iota .tc S1024x128 32 [1] iota_S1024x128_d1_w32) (k0_pay5 (iblk0 V c 0 t) (iblk0 V c 1 t)) k0_pay6) y = lseArray Q K (((cfg0.win 6).blk t).view.emb y) := by
  obtain ⟨r, x, d, rfl⟩ := block_idx y
  rw [coord0]
  refine (lse_apply (blk t) (Q (seq t)) (K (seq t)) _ _ _
    (fun r x d => (q_block V c t r x d).trans (hq _ _ _ _)) (fun y d => (kcur_block V c t y d).trans (hk _ _ _))
    (fun y d => (kprev_block V c t y d).trans (hk _ _ _)) r x d).trans ?_
  have e : ((cfg0.win 6).blk t).view.emb (ix4 0 r x d) = ix4 (seq t) r (cur (blk t) x) d := by
    blk_point [idx0 t]
  rw [e]
  rfl

include hq hk hv in
theorem out_final : (dat0 V c).arrAt 5 cfg0.N = outArray Q K W := by
  refine (dat0 V c).arrAt_eq_of_covers 5 _ (by decide +kernel) fun t _ y => ?_
  blk_simp
  rw [after0_5]; frame_out [k0_pay14, k0_pay15, k0_pay16, k0_pay17]
  exact out_point V c Q K W hq hk hv t y

include hq hk in
theorem lse_final : (dat0 V c).arrAt 6 cfg0.N = lseArray Q K := by
  refine (dat0 V c).arrAt_eq_of_covers 6 _ (by decide +kernel) fun t _ y => ?_
  blk_simp
  rw [after0_6]; frame_out [k0_pay14, k0_pay15, k0_pay16, k0_pay17]
  exact lse_point V c Q K hq hk t y

end Cert.AttnIdeal.Tiles
end
-- ==== Proof.AttnBwd.lean ====
/- The backward sliding-window attention, block by block. -/
module

public import proofs.«01_k».proof.Proof.Gen.AttnIdeal.Frame
public import proofs.«01_k».proof.Proof.AttnFwd
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AttnIdeal.Tiles

open Cert.AttnIdeal Cert.AttnIdeal.Gen Attn

/-! ### The masks -/

theorem row_word1 (R : Fin 1024) (y : Fin 128) : k1_pay4 (ix2 R y) = BitVec.ofNat 32 (R.val % 128) := row_word R y

theorem own_mask (R : Fin 1024) (y : Fin 128) : k1_pay5 (ix2 R y) = BitVec.ofBool (decide (y.val ≤ (place R).val)) := by
  pointwise [k1_pay5]
  rw [row_word1]
  exact own_word _ _ (place R).isLt y.isLt

theorem after_mask (R : Fin 1024) (y : Fin 128) : k1_pay6 (ix2 R y) = BitVec.ofBool (decide ((place R).val < y.val)) := by
  pointwise [k1_pay6]
  rw [row_word1]
  exact after_word _ _ (place R).isLt y.isLt

theorem before_mask (b : Fin 16) (R : Fin 1024) (y : Fin 128) :
    k1_pay13 (BitVec.ofNat 32 b.val) k1_pay6 (ix2 R y) = BitVec.ofBool (decide (0 < b.val ∧ (place R).val < y.val)) := by
  have e := after_mask R y
  unfold k1_pay13
  generalize k1_pay6 = u at *
  pointwise []
  rw [e, first_word _ b.isLt, WordCmp.andi_ofBool, ← Bool.decide_and]
  exact congrArg BitVec.ofBool (decide_eq_decide.mpr and_comm)

theorem next_mask (b : Fin 16) (R : Fin 1024) (y : Fin 128) :
    k1_pay18 (BitVec.ofNat 32 b.val) k1_pay6 (ix2 R y) = BitVec.ofBool (decide (b.val < 15 ∧ (place R).val < y.val)) := by
  have e := after_mask R y
  unfold k1_pay18
  generalize k1_pay6 = u at *
  pointwise []
  rw [e, last_word _ b.isLt, WordCmp.andi_ofBool, ← Bool.decide_and]
  exact congrArg BitVec.ofBool (decide_eq_decide.mpr and_comm)

/-! ### The stacked rows -/

theorem rows_apply (x : Vec Ideal S1x8x128x64 .bf16) (R : Fin 1024) (d : Fin 64) :
    k1_pay7 (F := Ideal) x (ix2 R d) = x (ix4 0 (head R) (place R) d) := by
  pointwise [k1_pay7]

theorem lane_apply (x : Vec Ideal S1x8x128x64 .f32) (R : Fin 1024) :
    k1_pay9 (F := Ideal) x (ix2 R 0) = x (ix4 0 (head R) (place R) 0) := by
  pointwise [k1_pay9]

theorem lanes_apply (x : Vec Ideal S1x8x128x64 .f32) (R : Fin 1024) (d : Fin 64) :
    k1_pay10 (F := Ideal) x (ix2 R d) = x (ix4 0 (head R) (place R) d) := by
  pointwise [k1_pay10]

/-! ### A tile's probabilities and the gradients of its scores -/

section Tile

variable (m : IVec S1024x128 1) (z w : FVec Ideal S1024x64 .bf16) (l : FVec Ideal S1024x1 .f32) (e : FVec Ideal S1024x64 .f32)
variable (xk xv : Vec Ideal S1x128x64 .bf16) (R : Fin 1024) (y : Fin 128)
variable (C : Prop) [Decidable C] (q k v g : Fin 2048 → Fin 64 → ℝ) (D : Fin 2048 → ℝ) (i j : Fin 2048)
variable (hm : m (ix2 R y) = BitVec.ofBool (decide C)) (hC : C → Win i j)
variable (hz : ∀ d, z (ix2 R d) = (q i d : EReal)) (hw : ∀ d, w (ix2 R d) = (g i d : EReal))
variable (hl : l (ix2 R 0) = (lse q k i : EReal)) (he : e (ix2 R 0) = (D i : EReal))
variable (hk : ∀ d, xk (ix3 0 y d) = (k j d : EReal)) (hv : ∀ d, xv (ix3 0 y d) = (v j d : EReal))

include hm hC hz hl hk in
theorem prob_tile : k1_pay11 (F := Ideal) m z l xk (ix2 R y) = ((if C then prob q k i j else 0 : ℝ) : EReal) := by
  pointwise [k1_pay11]
  rw [hm, hl, mask_bot, WordCmp.select_decide, WordCmp.select_decide]
  simp only [hz, hk]
  rw [score_block]
  change (if C then Ideal.exp ((if C then (score q k i j : EReal) else ⊥) - (lse q k i : EReal)) else 0) = _
  rw [exp_masked', masked_prob q k C i j hC]

include hm hC hz hl hk hw he hv in
theorem dscore_tile : k1_pay12 (F := Ideal) m z w l e xk xv (ix2 R y) = ((if C then dscore q k v g D i j else 0 : ℝ) : EReal) := by
  have p := prob_tile m z l xk R y C q k i j hm hC hz hl hk
  unfold k1_pay12
  generalize k1_pay11 (F := Ideal) m z l xk = u at *
  pointwise []
  rw [p, he, eighth]
  simp only [hw, hv, ← EReal.coe_mul, coe_sum, ← EReal.coe_sub]
  refine congrArg Real.toEReal ?_
  unfold dscore
  split
  · rfl
  · simp only [zero_mul]

end Tile

/-! ### The sums over tiles -/

section Sums

variable (A B : FVec Ideal S1024x128 .f32) (z zn : FVec Ideal S1024x64 .bf16) (xk xp : Vec Ideal S1x128x64 .bf16)

theorem row_sum (r : Fin 8) (x : Fin 128) (d : Fin 64) :
    k1_pay1 (F := Ideal) (k1_pay23 A xk) (k1_pay24 xp) (k1_pay25 B) (constant S1024x64 .f32 0x00000000#32) (ix4 0 r x d)
      = (∑ y : Fin 128, A (ix2 (row r x) y) * xk (ix3 0 y d)) + ∑ y : Fin 128, B (ix2 (row r x) y) * xp (ix3 0 y d) := by
  pointwise [k1_pay1, k1_pay23, k1_pay24, k1_pay25]

theorem col_sum (y : Fin 128) (d : Fin 64) :
    k1_pay2 (F := Ideal) z A zn B (ix3 0 y d)
      = (∑ R : Fin 1024, A (ix2 R y) * z (ix2 R d)) + ∑ R : Fin 1024, B (ix2 R y) * zn (ix2 R d) := by
  pointwise [k1_pay2]

theorem col_sum' (y : Fin 128) (d : Fin 64) :
    k1_pay3 (F := Ideal) z A zn B (ix3 0 y d)
      = (∑ R : Fin 1024, A (ix2 R y) * z (ix2 R d)) + ∑ R : Fin 1024, B (ix2 R y) * zn (ix2 R d) := by
  pointwise [k1_pay3]

end Sums

theorem own_win (b : Fin 16) (x y : Fin 128) (h : y.val ≤ x.val) : Win (cur b x) (cur b y) := by
  have := cur_val b x; have := cur_val b y; have := x.isLt
  show (cur b y).val ≤ (cur b x).val ∧ (cur b x).val ≤ (cur b y).val + 127
  omega

theorem before_win (b : Fin 16) (x y : Fin 128) (h : 0 < b.val ∧ x.val < y.val) : Win (cur b x) (prev b y) := by
  have := cur_val b x; have := prev_val b y; have := y.isLt
  show (prev b y).val ≤ (cur b x).val ∧ (cur b x).val ≤ (prev b y).val + 127
  omega

theorem next_win (b : Fin 16) (x y : Fin 128) (h : b.val < 15 ∧ x.val < y.val) : Win (next b x) (cur b y) := by
  have := next_val b x; have := cur_val b y; have := y.isLt
  show (cur b y).val ≤ (next b x).val ∧ (next b x).val ≤ (cur b y).val + 127
  omega

section Block

variable (b : Fin 16) (Q G : Fin 8 → Fin 2048 → Fin 64 → ℝ) (k v : Fin 2048 → Fin 64 → ℝ) (D : Fin 8 → Fin 2048 → ℝ)
variable (x0 x1 : Vec Ideal S1x8x128x64 .bf16) (x2 x3 x4 x5 : Vec Ideal S1x128x64 .bf16) (x6 x7 : Vec Ideal S1x8x128x64 .bf16)
variable (x8 x9 x10 x11 : Vec Ideal S1x8x128x64 .f32)
variable (h0 : ∀ r x d, x0 (ix4 0 r x d) = (Q r (cur b x) d : EReal)) (h1 : ∀ r x d, x1 (ix4 0 r x d) = (Q r (next b x) d : EReal))
variable (h2 : ∀ y d, x2 (ix3 0 y d) = (k (cur b y) d : EReal)) (h3 : ∀ y d, x3 (ix3 0 y d) = (k (prev b y) d : EReal))
variable (h4 : ∀ y d, x4 (ix3 0 y d) = (v (cur b y) d : EReal)) (h5 : ∀ y d, x5 (ix3 0 y d) = (v (prev b y) d : EReal))
variable (h6 : ∀ r x d, x6 (ix4 0 r x d) = (G r (cur b x) d : EReal)) (h7 : ∀ r x d, x7 (ix4 0 r x d) = (G r (next b x) d : EReal))
variable (h8 : ∀ r x, x8 (ix4 0 r x 0) = (lse (Q r) k (cur b x) : EReal)) (h9 : ∀ r x, x9 (ix4 0 r x 0) = (lse (Q r) k (next b x) : EReal))
variable (h10 : ∀ r x, x10 (ix4 0 r x 0) = (D r (cur b x) : EReal)) (h11 : ∀ r x, x11 (ix4 0 r x 0) = (D r (next b x) : EReal))

include h0 h2 h4 h6 h8 h10 in
/-- The gradients of the scores of a block's queries with its own keys. -/
theorem dscore_own (R : Fin 1024) (y : Fin 128) :
    k1_pay12 (F := Ideal) k1_pay5 (k1_pay7 x0) (k1_pay8 x6) (k1_pay9 x8) (k1_pay10 x10) x2 x4 (ix2 R y)
      = ((if y.val ≤ (place R).val then dscore (Q (head R)) k v (G (head R)) (D (head R)) (cur b (place R)) (cur b y) else 0 : ℝ) : EReal) :=
  dscore_tile k1_pay5 (k1_pay7 x0) (k1_pay8 x6) (k1_pay9 x8) (k1_pay10 x10) x2 x4 R y _ _ _ _ _ _ _ _ (own_mask R y)
    (own_win b (place R) y) (fun d => (rows_apply x0 R d).trans (h0 _ _ _)) (fun d => (rows_apply x6 R d).trans (h6 _ _ _))
    ((lane_apply x8 R).trans (h8 _ _)) ((lanes_apply x10 R 0).trans (h10 _ _)) (h2 y) (h4 y)

include h0 h3 h5 h6 h8 h10 in
/-- With the keys of the block before. -/
theorem dscore_before (R : Fin 1024) (y : Fin 128) :
    k1_pay17 (F := Ideal) (k1_pay13 (BitVec.ofNat 32 b.val) k1_pay6) (k1_pay14 x0) (k1_pay15 x6) (k1_pay16 x8) x10 x3 x5 (ix2 R y)
      = ((if 0 < b.val ∧ (place R).val < y.val then dscore (Q (head R)) k v (G (head R)) (D (head R)) (cur b (place R)) (prev b y) else 0 : ℝ) : EReal) :=
  dscore_tile (k1_pay13 (BitVec.ofNat 32 b.val) k1_pay6) (k1_pay14 x0) (k1_pay15 x6) (k1_pay16 x8) (k1_pay10 x10) x3 x5 R y _ _ _ _ _ _ _ _
    (before_mask b R y) (before_win b (place R) y) (fun d => (rows_apply x0 R d).trans (h0 _ _ _)) (fun d => (rows_apply x6 R d).trans (h6 _ _ _))
    ((lane_apply x8 R).trans (h8 _ _)) ((lanes_apply x10 R 0).trans (h10 _ _)) (h3 y) (h5 y)

include h1 h2 h4 h7 h9 h11 in
/-- Of the next block's queries with this block's keys. -/
theorem dscore_next (R : Fin 1024) (y : Fin 128) :
    k1_pay22 (F := Ideal) (k1_pay18 (BitVec.ofNat 32 b.val) k1_pay6) (k1_pay19 x1) (k1_pay20 x7) x9 x11 x2 x4 (ix2 R y)
      = ((if b.val < 15 ∧ (place R).val < y.val then dscore (Q (head R)) k v (G (head R)) (D (head R)) (next b (place R)) (cur b y) else 0 : ℝ) : EReal) :=
  dscore_tile (k1_pay18 (BitVec.ofNat 32 b.val) k1_pay6) (k1_pay19 x1) (k1_pay20 x7) (k1_pay9 x9) (k1_pay10 x11) x2 x4 R y _ _ _ _ _ _ _ _
    (next_mask b R y) (next_win b (place R) y) (fun d => (rows_apply x1 R d).trans (h1 _ _ _)) (fun d => (rows_apply x7 R d).trans (h7 _ _ _))
    ((lane_apply x9 R).trans (h9 _ _)) ((lanes_apply x11 R 0).trans (h11 _ _)) (h2 y) (h4 y)

include h0 h2 h8 in
theorem prob_own (R : Fin 1024) (y : Fin 128) :
    k1_pay11 (F := Ideal) k1_pay5 (k1_pay7 x0) (k1_pay9 x8) x2 (ix2 R y)
      = ((if y.val ≤ (place R).val then prob (Q (head R)) k (cur b (place R)) (cur b y) else 0 : ℝ) : EReal) :=
  prob_tile k1_pay5 (k1_pay7 x0) (k1_pay9 x8) x2 R y _ _ _ _ _ (own_mask R y) (own_win b (place R) y)
    (fun d => (rows_apply x0 R d).trans (h0 _ _ _)) ((lane_apply x8 R).trans (h8 _ _)) (h2 y)

include h1 h2 h9 in
theorem prob_next (R : Fin 1024) (y : Fin 128) :
    k1_pay21 (F := Ideal) (k1_pay18 (BitVec.ofNat 32 b.val) k1_pay6) (k1_pay19 x1) x9 x2 (ix2 R y)
      = ((if b.val < 15 ∧ (place R).val < y.val then prob (Q (head R)) k (next b (place R)) (cur b y) else 0 : ℝ) : EReal) :=
  prob_tile (k1_pay18 (BitVec.ofNat 32 b.val) k1_pay6) (k1_pay19 x1) (k1_pay9 x9) x2 R y _ _ _ _ _ (next_mask b R y) (next_win b (place R) y)
    (fun d => (rows_apply x1 R d).trans (h1 _ _ _)) ((lane_apply x9 R).trans (h9 _ _)) (h2 y)

include h0 h2 h3 h4 h5 h6 h8 h10 in
/-- A block of the queries' gradient. -/
theorem dq_apply (r : Fin 8) (x : Fin 128) (d : Fin 64) :
    k1_pay1 (F := Ideal) (k1_pay23 (k1_pay12 k1_pay5 (k1_pay7 x0) (k1_pay8 x6) (k1_pay9 x8) (k1_pay10 x10) x2 x4) x2) (k1_pay24 x3)
        (k1_pay25 (k1_pay17 (k1_pay13 (BitVec.ofNat 32 b.val) k1_pay6) (k1_pay14 x0) (k1_pay15 x6) (k1_pay16 x8) x10 x3 x5))
        (constant S1024x64 .f32 0x00000000#32) (ix4 0 r x d)
      = ((∑ j, dscore (Q r) k v (G r) (D r) (cur b x) j * k j d : ℝ) : EReal) := by
  rw [row_sum, ← dq_block (Q r) k v (G r) (D r) b x d, EReal.coe_add, ← coe_sum, ← coe_sum]
  have e1 := dscore_own b Q G k v D x0 x2 x4 x6 x8 x10 h0 h2 h4 h6 h8 h10 (row r x)
  have e2 := dscore_before b Q G k v D x0 x3 x5 x6 x8 x10 h0 h3 h5 h6 h8 h10 (row r x)
  have hp : (r.val * 128 + x.val) % 128 = x.val := by have := x.isLt; omega
  simp only [head_row, place_row, hp] at e1 e2
  refine congrArg₂ (· + ·) (Finset.sum_congr rfl fun y _ => ?_) (Finset.sum_congr rfl fun y _ => ?_)
  · rw [e1, h2, ← EReal.coe_mul]
  · rw [e2, h3, ← EReal.coe_mul]

include h0 h1 h2 h4 h6 h7 h8 h9 h10 h11 in
/-- A block of the keys' gradient. -/
theorem dk_apply (y : Fin 128) (d : Fin 64) :
    k1_pay2 (F := Ideal) (k1_pay7 x0) (k1_pay12 k1_pay5 (k1_pay7 x0) (k1_pay8 x6) (k1_pay9 x8) (k1_pay10 x10) x2 x4) (k1_pay19 x1)
        (k1_pay22 (k1_pay18 (BitVec.ofNat 32 b.val) k1_pay6) (k1_pay19 x1) (k1_pay20 x7) x9 x11 x2 x4) (ix3 0 y d)
      = ((∑ r, ∑ i, dscore (Q r) k v (G r) (D r) i (cur b y) * Q r i d : ℝ) : EReal) := by
  rw [col_sum, ← col_block (fun r i => dscore (Q r) k v (G r) (D r) i (cur b y)) (fun r i => Q r i d) b y
    (fun r i h => dscore_off (Q r) k v (G r) (D r) h), EReal.coe_add, ← coe_sum, ← coe_sum]
  refine congrArg₂ (· + ·) (Finset.sum_congr rfl fun R _ => ?_) (Finset.sum_congr rfl fun R _ => ?_)
  · rw [dscore_own b Q G k v D x0 x2 x4 x6 x8 x10 h0 h2 h4 h6 h8 h10, rows_apply, h0, ← EReal.coe_mul]
  · rw [dscore_next b Q G k v D x1 x2 x4 x7 x9 x11 h1 h2 h4 h7 h9 h11, EReal.coe_mul]
    exact congrArg _ ((rows_apply x1 R d).trans (h1 _ _ _))

include h0 h1 h2 h6 h7 h8 h9 in
/-- A block of the values' gradient. -/
theorem dv_apply (y : Fin 128) (d : Fin 64) :
    k1_pay3 (F := Ideal) (k1_pay8 x6) (k1_pay11 k1_pay5 (k1_pay7 x0) (k1_pay9 x8) x2) (k1_pay20 x7)
        (k1_pay21 (k1_pay18 (BitVec.ofNat 32 b.val) k1_pay6) (k1_pay19 x1) x9 x2) (ix3 0 y d)
      = ((∑ r, ∑ i, prob (Q r) k i (cur b y) * G r i d : ℝ) : EReal) := by
  rw [col_sum', ← col_block (fun r i => prob (Q r) k i (cur b y)) (fun r i => G r i d) b y
    (fun r i h => prob_off (Q r) k h), EReal.coe_add, ← coe_sum, ← coe_sum]
  refine congrArg₂ (· + ·) (Finset.sum_congr rfl fun R _ => ?_) (Finset.sum_congr rfl fun R _ => ?_)
  · rw [prob_own b Q k x0 x2 x8 h0 h2 h8, EReal.coe_mul]
    exact congrArg _ ((rows_apply x6 R d).trans (h6 _ _ _))
  · rw [prob_next b Q k x1 x2 x9 h1 h2 h9, EReal.coe_mul]
    exact congrArg _ ((rows_apply x7 R d).trans (h7 _ _ _))

end Block

end Cert.AttnIdeal.Tiles
end
-- ==== Proof.AttnArrays1.lean ====
/- The backward attention's arrays: every block of the three gradients, put together. -/
module

public import proofs.«01_k».proof.Proof.AttnArrays
public import proofs.«01_k».proof.Proof.AttnBwd

@[expose] public section

set_option maxRecDepth 16384

noncomputable section

open Idealize.ShloMosaic Idealize.ShloMosaic.TcCoe Idealize.SL.Sem
open Idealize.ShloMosaic.Pipeline (Dat)

namespace Cert.AttnIdeal.Tiles

open Cert.AttnIdeal Cert.AttnIdeal.Gen Attn

variable (V : (c : Dev nD) → (b : Ref sig .tc) → Buf (Elt Ideal) ((c : Thread nD τ).loc b)) (c : Dev nD)

theorem idx1 : ∀ t : Fin cfg1.N, win1_0.index t = ![t.val / 16, 0, t.val % 16, 0]
    ∧ win1_1.index t = ![t.val / 16, 0, min (t.val % 16 + 1) 15, 0]
    ∧ win1_2.index t = ![t.val / 16, t.val % 16, 0]
    ∧ win1_3.index t = ![t.val / 16, t.val % 16 - 1, 0]
    ∧ win1_4.index t = ![t.val / 16, t.val % 16, 0]
    ∧ win1_5.index t = ![t.val / 16, t.val % 16 - 1, 0]
    ∧ win1_6.index t = ![t.val / 16, 0, t.val % 16, 0]
    ∧ win1_7.index t = ![t.val / 16, 0, min (t.val % 16 + 1) 15, 0]
    ∧ win1_8.index t = ![t.val / 16, 0, t.val % 16, 0]
    ∧ win1_9.index t = ![t.val / 16, 0, min (t.val % 16 + 1) 15, 0]
    ∧ win1_10.index t = ![t.val / 16, 0, t.val % 16, 0]
    ∧ win1_11.index t = ![t.val / 16, 0, min (t.val % 16 + 1) 15, 0]
    ∧ win1_12.index t = ![t.val / 16, 0, t.val % 16, 0]
    ∧ win1_13.index t = ![t.val / 16, t.val % 16, 0]
    ∧ win1_14.index t = ![t.val / 16, t.val % 16, 0] :=
  (by decide +kernel : ∀ t : Fin grid1.N, _)

theorem coord1 : ∀ t : Fin cfg1.N, (grid1.coords t 1).val = t.val % 16 :=
  (by decide +kernel : ∀ t : Fin grid1.N, _)

theorem block1_0 (t : Fin cfg1.N) (r : Fin 8) (x : Fin 128) (d : Fin 64) :
    iblk1 V c 0 t (ix4 0 r x d) = V c main_arg0 (ix4 (seq t) r (cur (blk t) x) d) := by
  blk_point [iblk1, idx1 t]

theorem block1_1 (t : Fin cfg1.N) (r : Fin 8) (x : Fin 128) (d : Fin 64) :
    iblk1 V c 1 t (ix4 0 r x d) = V c main_arg0 (ix4 (seq t) r (next (blk t) x) d) := by
  blk_point [iblk1, idx1 t]

theorem block1_6 (t : Fin cfg1.N) (r : Fin 8) (x : Fin 128) (d : Fin 64) :
    iblk1 V c 6 t (ix4 0 r x d) = V c main_arg3 (ix4 (seq t) r (cur (blk t) x) d) := by
  blk_point [iblk1, idx1 t]

theorem block1_7 (t : Fin cfg1.N) (r : Fin 8) (x : Fin 128) (d : Fin 64) :
    iblk1 V c 7 t (ix4 0 r x d) = V c main_arg3 (ix4 (seq t) r (next (blk t) x) d) := by
  blk_point [iblk1, idx1 t]

theorem block1_8 (t : Fin cfg1.N) (r : Fin 8) (x : Fin 128) (d : Fin 64) :
    iblk1 V c 8 t (ix4 0 r x d) = V c main_v0_1 (ix4 (seq t) r (cur (blk t) x) d) := by
  blk_point [iblk1, idx1 t]

theorem block1_9 (t : Fin cfg1.N) (r : Fin 8) (x : Fin 128) (d : Fin 64) :
    iblk1 V c 9 t (ix4 0 r x d) = V c main_v0_1 (ix4 (seq t) r (next (blk t) x) d) := by
  blk_point [iblk1, idx1 t]

theorem block1_10 (t : Fin cfg1.N) (r : Fin 8) (x : Fin 128) (d : Fin 64) :
    iblk1 V c 10 t (ix4 0 r x d) = V c main_arg4 (ix4 (seq t) r (cur (blk t) x) d) := by
  blk_point [iblk1, idx1 t]

theorem block1_11 (t : Fin cfg1.N) (r : Fin 8) (x : Fin 128) (d : Fin 64) :
    iblk1 V c 11 t (ix4 0 r x d) = V c main_arg4 (ix4 (seq t) r (next (blk t) x) d) := by
  blk_point [iblk1, idx1 t]

theorem block1_2 (t : Fin cfg1.N) (y : Fin 128) (d : Fin 64) :
    iblk1 V c 2 t (ix3 0 y d) = V c main_arg1 (ix3 (seq t) (cur (blk t) y) d) := by
  blk_point [iblk1, idx1 t]

theorem block1_3 (t : Fin cfg1.N) (y : Fin 128) (d : Fin 64) :
    iblk1 V c 3 t (ix3 0 y d) = V c main_arg1 (ix3 (seq t) (prev (blk t) y) d) := by
  blk_point [iblk1, idx1 t]

theorem block1_4 (t : Fin cfg1.N) (y : Fin 128) (d : Fin 64) :
    iblk1 V c 4 t (ix3 0 y d) = V c main_arg2 (ix3 (seq t) (cur (blk t) y) d) := by
  blk_point [iblk1, idx1 t]

theorem block1_5 (t : Fin cfg1.N) (y : Fin 128) (d : Fin 64) :
    iblk1 V c 5 t (ix3 0 y d) = V c main_arg2 (ix3 (seq t) (prev (blk t) y) d) := by
  blk_point [iblk1, idx1 t]

/-- The gradients over a batch of sequences. -/
def dqArray (Q G : Fin 2 → Fin 8 → Fin 2048 → Fin 64 → ℝ) (K W : Fin 2 → Fin 2048 → Fin 64 → ℝ) (D : Fin 2 → Fin 8 → Fin 2048 → ℝ) :
    FVec Ideal S2x8x2048x64 .f32 :=
  fun i => ((∑ j, dscore (Q (i 0) (i 1)) (K (i 0)) (W (i 0)) (G (i 0) (i 1)) (D (i 0) (i 1)) (i 2) j * K (i 0) j (i 3) : ℝ) : EReal)

def dkArray (Q G : Fin 2 → Fin 8 → Fin 2048 → Fin 64 → ℝ) (K W : Fin 2 → Fin 2048 → Fin 64 → ℝ) (D : Fin 2 → Fin 8 → Fin 2048 → ℝ) :
    FVec Ideal S2x2048x64 .f32 :=
  fun i => ((∑ r, ∑ j, dscore (Q (i 0) r) (K (i 0)) (W (i 0)) (G (i 0) r) (D (i 0) r) j (i 1) * Q (i 0) r j (i 2) : ℝ) : EReal)

def dvArray (Q G : Fin 2 → Fin 8 → Fin 2048 → Fin 64 → ℝ) (K : Fin 2 → Fin 2048 → Fin 64 → ℝ) : FVec Ideal S2x2048x64 .f32 :=
  fun i => ((∑ r, ∑ j, prob (Q (i 0) r) (K (i 0)) j (i 1) * G (i 0) r j (i 2) : ℝ) : EReal)

theorem key_idx (y : S1x128x64.Idx) : ∃ x d, y = ix3 (n0 := 1) (n1 := 128) (n2 := 64) 0 x d :=
  ⟨y 1, y 2, by
    funext a
    match a with
    | ⟨0, _⟩ => exact Fin.ext (by have := (y 0).isLt; change (y 0).val < 1 at this; change (y 0).val = 0; omega)
    | ⟨1, _⟩ => rfl
    | ⟨2, _⟩ => rfl⟩

variable (Q G : Fin 2 → Fin 8 → Fin 2048 → Fin 64 → ℝ) (K W : Fin 2 → Fin 2048 → Fin 64 → ℝ) (D : Fin 2 → Fin 8 → Fin 2048 → ℝ)
variable (hq : ∀ n r i d, V c main_arg0 (ix4 n r i d) = (Q n r i d : EReal)) (hk : ∀ n j d, V c main_arg1 (ix3 n j d) = (K n j d : EReal))
variable (hv : ∀ n j d, V c main_arg2 (ix3 n j d) = (W n j d : EReal)) (hg : ∀ n r i d, V c main_arg3 (ix4 n r i d) = (G n r i d : EReal))
variable (hd : ∀ n r i, V c main_arg4 (ix4 n r i 0) = (D n r i : EReal)) (hl : ∀ n r i, V c main_v0_1 (ix4 n r i 0) = (lse (Q n r) (K n) i : EReal))

include hq hk hv hg hd hl in
theorem dq_point (t : Fin cfg1.N) (y) : k1_pay1 (F := Ideal) (k1_pay23 (k1_pay12 k1_pay5 (k1_pay7 (iblk1 V c 0 t)) (k1_pay8 (iblk1 V c 6 t)) (k1_pay9 (iblk1 V c 8 t)) (k1_pay10 (iblk1 V c 10 t)) (iblk1 V c 2 t) (iblk1 V c 4 t)) (iblk1 V c 2 t)) (k1_pay24 (iblk1 V c 3 t))
        (k1_pay25 (k1_pay17 (k1_pay13 (BitVec.ofNat 32 (grid1.coords t 1).val) k1_pay6) (k1_pay14 (iblk1 V c 0 t)) (k1_pay15 (iblk1 V c 6 t)) (k1_pay16 (iblk1 V c 8 t)) (iblk1 V c 10 t) (iblk1 V c 3 t) (iblk1 V c 5 t)))
        (constant S1024x64 .f32 0x00000000#32) y
      = dqArray Q G K W D (((cfg1.win 12).blk t).view.emb y) := by
  obtain ⟨r, x, d, rfl⟩ := block_idx y
  rw [coord1]
  refine (dq_apply (blk t) (Q (seq t)) (G (seq t)) (K (seq t)) (W (seq t)) (D (seq t)) _ _ _ _ _ _ _ _
    (fun r x d => (block1_0 V c t r x d).trans (hq _ _ _ _))
    (fun y d => (block1_2 V c t y d).trans (hk _ _ _))
    (fun y d => (block1_3 V c t y d).trans (hk _ _ _))
    (fun y d => (block1_4 V c t y d).trans (hv _ _ _))
    (fun y d => (block1_5 V c t y d).trans (hv _ _ _))
    (fun r x d => (block1_6 V c t r x d).trans (hg _ _ _ _))
    (fun r x => (block1_8 V c t r x 0).trans (hl _ _ _))
    (fun r x => (block1_10 V c t r x 0).trans (hd _ _ _)) r x d).trans ?_
  have e : ((cfg1.win 12).blk t).view.emb (ix4 0 r x d) = ix4 (seq t) r (cur (blk t) x) d := by
    blk_point [idx1 t]
  rw [e]
  rfl

include hq hk hv hg hd hl in
theorem dk_point (t : Fin cfg1.N) (y) : k1_pay2 (F := Ideal) (k1_pay7 (iblk1 V c 0 t)) (k1_pay12 k1_pay5 (k1_pay7 (iblk1 V c 0 t)) (k1_pay8 (iblk1 V c 6 t)) (k1_pay9 (iblk1 V c 8 t)) (k1_pay10 (iblk1 V c 10 t)) (iblk1 V c 2 t) (iblk1 V c 4 t)) (k1_pay19 (iblk1 V c 1 t))
        (k1_pay22 (k1_pay18 (BitVec.ofNat 32 (grid1.coords t 1).val) k1_pay6) (k1_pay19 (iblk1 V c 1 t)) (k1_pay20 (iblk1 V c 7 t)) (iblk1 V c 9 t) (iblk1 V c 11 t) (iblk1 V c 2 t) (iblk1 V c 4 t)) y
      = dkArray Q G K W D (((cfg1.win 13).blk t).view.emb y) := by
  obtain ⟨x, d, rfl⟩ := key_idx y
  rw [coord1]
  refine (dk_apply (blk t) (Q (seq t)) (G (seq t)) (K (seq t)) (W (seq t)) (D (seq t)) _ _ _ _ _ _ _ _ _ _
    (fun r x d => (block1_0 V c t r x d).trans (hq _ _ _ _))
    (fun r x d => (block1_1 V c t r x d).trans (hq _ _ _ _))
    (fun y d => (block1_2 V c t y d).trans (hk _ _ _))
    (fun y d => (block1_4 V c t y d).trans (hv _ _ _))
    (fun r x d => (block1_6 V c t r x d).trans (hg _ _ _ _))
    (fun r x d => (block1_7 V c t r x d).trans (hg _ _ _ _))
    (fun r x => (block1_8 V c t r x 0).trans (hl _ _ _))
    (fun r x => (block1_9 V c t r x 0).trans (hl _ _ _))
    (fun r x => (block1_10 V c t r x 0).trans (hd _ _ _))
    (fun r x => (block1_11 V c t r x 0).trans (hd _ _ _)) x d).trans ?_
  have e : ((cfg1.win 13).blk t).view.emb (ix3 0 x d) = ix3 (seq t) (cur (blk t) x) d := by
    blk_point [idx1 t]
  rw [e]
  rfl

include hq hk hg hl in
theorem dv_point (t : Fin cfg1.N) (y) : k1_pay3 (F := Ideal) (k1_pay8 (iblk1 V c 6 t)) (k1_pay11 k1_pay5 (k1_pay7 (iblk1 V c 0 t)) (k1_pay9 (iblk1 V c 8 t)) (iblk1 V c 2 t)) (k1_pay20 (iblk1 V c 7 t))
        (k1_pay21 (k1_pay18 (BitVec.ofNat 32 (grid1.coords t 1).val) k1_pay6) (k1_pay19 (iblk1 V c 1 t)) (iblk1 V c 9 t) (iblk1 V c 2 t)) y
      = dvArray Q G K (((cfg1.win 14).blk t).view.emb y) := by
  obtain ⟨x, d, rfl⟩ := key_idx y
  rw [coord1]
  refine (dv_apply (blk t) (Q (seq t)) (G (seq t)) (K (seq t)) _ _ _ _ _ _ _
    (fun r x d => (block1_0 V c t r x d).trans (hq _ _ _ _))
    (fun r x d => (block1_1 V c t r x d).trans (hq _ _ _ _))
    (fun y d => (block1_2 V c t y d).trans (hk _ _ _))
    (fun r x d => (block1_6 V c t r x d).trans (hg _ _ _ _))
    (fun r x d => (block1_7 V c t r x d).trans (hg _ _ _ _))
    (fun r x => (block1_8 V c t r x 0).trans (hl _ _ _))
    (fun r x => (block1_9 V c t r x 0).trans (hl _ _ _)) x d).trans ?_
  have e : ((cfg1.win 14).blk t).view.emb (ix3 0 x d) = ix3 (seq t) (cur (blk t) x) d := by
    blk_point [idx1 t]
  rw [e]
  rfl

include hq hk hv hg hd hl in
theorem dq_final : (dat1 V c).arrAt 12 cfg1.N = dqArray Q G K W D := by
  refine (dat1 V c).arrAt_eq_of_covers 12 _ (by decide +kernel) fun t _ y => ?_
  blk_simp
  rw [after1_12]; frame_out [k1_pay26, k1_pay27, k1_pay28, k1_pay29, k1_pay30, k1_pay31, k1_pay32, k1_pay33, k1_pay34]
  exact dq_point V c Q G K W D hq hk hv hg hd hl t y

include hq hk hv hg hd hl in
theorem dk_final : (dat1 V c).arrAt 13 cfg1.N = dkArray Q G K W D := by
  refine (dat1 V c).arrAt_eq_of_covers 13 _ (by decide +kernel) fun t _ y => ?_
  blk_simp
  rw [after1_13]; frame_out [k1_pay26, k1_pay27, k1_pay28, k1_pay29, k1_pay30, k1_pay31, k1_pay32, k1_pay33, k1_pay34]
  exact dk_point V c Q G K W D hq hk hv hg hd hl t y

include hq hk hg hl in
theorem dv_final : (dat1 V c).arrAt 14 cfg1.N = dvArray Q G K := by
  refine (dat1 V c).arrAt_eq_of_covers 14 _ (by decide +kernel) fun t _ y => ?_
  blk_simp
  rw [after1_14]; frame_out [k1_pay26, k1_pay27, k1_pay28, k1_pay29, k1_pay30, k1_pay31, k1_pay32, k1_pay33, k1_pay34]
  exact dv_point V c Q G K hq hk hg hl t y

end Cert.AttnIdeal.Tiles
end
-- ==== Proof.AttnDots.lean ====
/- The two products summed over heads and queries, read at an index. -/
module

public import proofs.«01_k».proof.Proof.Gen.AttnRefIdeal.Read
public import Idealize.ShloMosaic.Lib.Pointwise
public import Idealize.ShloMosaic.Lib.TwoAxisContraction

@[expose] public section

set_option maxRecDepth 16384

noncomputable section

open Idealize.ShloMosaic Idealize.ShloMosaic.TcCoe Idealize.SL.Sem

namespace Cert.AttnRefIdeal.Window

open Cert.AttnRefIdeal Cert.AttnRefIdeal.Gen

/-- A product summed over heads and queries, read at an index. -/
theorem dk_dot (y : FVec Ideal S2x8x2048x2048 .f32) (z : FVec Ideal S2x8x2048x64 .f32)
    (n : Fin 2) (j : Fin 2048) (d : Fin 64) :
    (Host.dotGeneral dot_S2x8x2048x2048_S2x8x2048x64_S2x2048x64_12_12_3_3_0_0 none y z : FVec Ideal S2x2048x64 .f32) (ix3 n j d)
      = ∑ r : Fin 8, ∑ i : Fin 2048, y (ix4 n r i j) * z (ix4 n r i d) := by
  simp only [Host.dotGeneral]
  rw [Ideal.dotGeneral_apply, ValueIdx.sum_contr2 dot_S2x8x2048x2048_S2x8x2048x64_S2x2048x64_12_12_3_3_0_0 8 2048 rfl rfl rfl]
  refine Finset.sum_congr rfl fun r _ => Finset.sum_congr rfl fun i _ => ?_
  congr 2
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

theorem dv_dot (z : FVec Ideal S2x8x2048x64 .f32) (y : FVec Ideal S2x8x2048x2048 .f32)
    (n : Fin 2) (j : Fin 2048) (d : Fin 64) :
    (Host.dotGeneral dot_S2x8x2048x64_S2x8x2048x2048_S2x64x2048_12_12_3_3_0_0 none z y : FVec Ideal S2x64x2048 .f32) (ix3 n d j)
      = ∑ r : Fin 8, ∑ i : Fin 2048, z (ix4 n r i d) * y (ix4 n r i j) := by
  simp only [Host.dotGeneral]
  rw [Ideal.dotGeneral_apply, ValueIdx.sum_contr2 dot_S2x8x2048x64_S2x8x2048x2048_S2x64x2048_12_12_3_3_0_0 8 2048 rfl rfl rfl]
  refine Finset.sum_congr rfl fun r _ => Finset.sum_congr rfl fun i _ => ?_
  congr 2
  · funext a; apply Fin.ext
    match a with
    | ⟨0, _⟩ => rfl
    | ⟨1, _⟩ => rfl
    | ⟨2, _⟩ => rfl
    | ⟨3, _⟩ => rfl
  · funext a; apply Fin.ext
    match a with
    | ⟨0, _⟩ => rfl
    | ⟨1, _⟩ => rfl
    | ⟨2, _⟩ => rfl
    | ⟨3, _⟩ => rfl

end Cert.AttnRefIdeal.Window
end
-- ==== Proof.AttnReference.lean ====
/- The reference attention, read at an index: over finite arguments the masked scores, the softmax's terms moved down by the
   row's greatest score, and the gradients by the transposed steps, each an exact real number. -/
module

public import proofs.«01_k».proof.Proof.Gen.AttnRefIdeal.Read
public import proofs.«01_k».proof.Proof.AttnMath
public import proofs.«01_k».proof.Proof.AttnDots
public import Idealize.ShloMosaic.Lib.Pointwise
public import Idealize.ShloMosaic.Lib.WordCmp
public import Idealize.ShloMosaic.Lib.WordArith

@[expose] public section

set_option maxRecDepth 16384

noncomputable section

open Idealize.ShloMosaic Idealize.ShloMosaic.TcCoe Idealize.SL.Sem

namespace Cert.AttnRefIdeal.Window

open Cert.AttnRefIdeal Cert.AttnRefIdeal.Gen Cert.AttnRefIdeal.Read Attn

theorem eighth : Ideal.ofBits .f32 0x3E000000#32 = ((1 / 8 : ℝ) : EReal) := by
  simp [Ideal.ofBits, Ideal.ieee, -EReal.coe_mul]
  norm_num

theorem one : Ideal.ofBits .f32 0x3F800000#32 = ((1 : ℝ) : EReal) := by
  simp [Ideal.ofBits, Ideal.ieee, -EReal.coe_mul]
  norm_num

theorem zero : Ideal.ofBits .f32 0x00000000#32 = ((0 : ℝ) : EReal) := by
  simp [Ideal.ofBits, Ideal.ieee, -EReal.coe_mul]

theorem neg_inf : Ideal.ofBits .f32 0xFF800000#32 = (⊥ : EReal) := by
  simp [Ideal.ofBits, Ideal.ieee]

theorem select_decide (p : Prop) [Decidable p] (a b : EReal) : Scalar.select (BitVec.ofBool (decide p)) a b = if p then a else b := by
  unfold Scalar.select
  by_cases h : p <;> simp [h]

/-- The mask's two comparisons of a signed difference. -/
theorem window_word (i j : Fin 2048) :
    IntOp.andi (IntOp.cmpi .sge (IntOp.subi (BitVec.ofNat 32 i.val) (BitVec.ofNat 32 j.val)) 0#32)
      (IntOp.cmpi .sle (IntOp.subi (BitVec.ofNat 32 i.val) (BitVec.ofNat 32 j.val)) 127#32) = BitVec.ofBool (decide (Win i j)) := by
  have hi := i.isLt
  have hj := j.isLt
  have ei : (BitVec.ofNat 32 i.val).toInt = i.val := WordArith.toInt_ofNat_small _ (by omega)
  have ej : (BitVec.ofNat 32 j.val).toInt = j.val := WordArith.toInt_ofNat_small _ (by omega)
  have e := WordArith.toInt_subi_of_nonneg (BitVec.ofNat 32 i.val) (BitVec.ofNat 32 j.val) (by omega) (by omega)
  rw [ei, ej] at e
  have z : (0#32).toInt = 0 := rfl
  have w : (127#32).toInt = 127 := rfl
  unfold IntOp.cmpi
  simp only [BitVec.sle, e, z, w]
  rw [WordCmp.andi_ofBool, ← Bool.decide_and]
  congr 1
  refine decide_eq_decide.mpr ?_
  omega

variable (Q G : Fin 2 → Fin 8 → Fin 2048 → Fin 64 → ℝ) (K V : Fin 2 → Fin 2048 → Fin 64 → ℝ) (D : Fin 2 → Fin 8 → Fin 2048 → ℝ)
variable (x0 x3 : (⟨S2x8x2048x64, .bf16⟩ : BufTy).Contents (Elt Ideal)) (x1 x2 : (⟨S2x2048x64, .bf16⟩ : BufTy).Contents (Elt Ideal))
variable (x4 : (⟨S2x8x2048x64, .f32⟩ : BufTy).Contents (Elt Ideal))
variable (h0 : ∀ n r i d, x0 (ix4 n r i d) = (Q n r i d : EReal)) (h1 : ∀ n j d, x1 (ix3 n j d) = (K n j d : EReal))
variable (h2 : ∀ n j d, x2 (ix3 n j d) = (V n j d : EReal)) (h3 : ∀ n r i d, x3 (ix4 n r i d) = (G n r i d : EReal))
variable (h4 : ∀ n r i, x4 (ix4 n r i 0) = (D n r i : EReal))

theorem mask_at (i j : Fin 2048) : val_main_v17 (F := Ideal) (ix2 i j) = BitVec.ofBool (decide (Win i j)) := by
  rw [← window_word]
  rfl

theorem mask4_at (n : Fin 2) (r : Fin 8) (i j : Fin 2048) :
    val_main_v18_1 (F := Ideal) (ix4 n r i j) = BitVec.ofBool (decide (Win i j)) := by
  rw [val_main_v18_1_apply]
  exact mask_at i j

include h0 h1 in
theorem score_at (n : Fin 2) (r : Fin 8) (i j : Fin 2048) :
    val_main_v18_0 (F := Ideal) x0 x1 (ix4 n r i j) = if Win i j then (score (Q n r) (K n) i j : EReal) else ⊥ := by
  rw [val_main_v18_0_apply, mask4_at, select_decide]
  pointwise [val_main_v5, val_main_v3, val_main_v0, val_main_v1, val_main_v4, val_main_cst, val_main_call0_v2, val_main_call0_v0, val_main_cst_1]
  simp only [h0, h1]
  change (if Win i j then _ else Ideal.ofBits .f32 0xFF800000#32) = _
  rw [eighth, neg_inf]
  simp only [← EReal.coe_mul, coe_sum]
  rfl

include h0 h1 in
/-- The row's greatest score is a real number. -/
theorem top_at (n : Fin 2) (r : Fin 8) (i : Fin 2048) : ∃ M : ℝ, val_main_v19 (F := Ideal) x0 x1 (ix3 n r i) = (M : EReal) := by
  have e : val_main_v19 (F := Ideal) x0 x1 (ix3 n r i)
      = Finset.univ.fold max ⊥ fun j : Fin 2048 => val_main_v18_0 (F := Ideal) x0 x1 (ix4 n r i j) := by
    rw [← neg_inf]
    unfold val_main_v19
    generalize val_main_v18_0 (F := Ideal) x0 x1 = y
    pointwise [val_main_cst_2]
  rw [e]
  refine fold_max_real _ (fun j => ?_) ⟨i, ?_⟩
  · rw [score_at Q K x0 x1 h0 h1]; split <;> simp
  · rw [score_at Q K x0 x1 h0 h1, if_pos ⟨le_rfl, by omega⟩]; simp

theorem q_read (n : Fin 2) (r : Fin 8) (i : Fin 2048) (d : Fin 64) : val_main_v0 (F := Ideal) x0 (ix4 n r i d) = x0 (ix4 n r i d) := by
  pointwise [val_main_v0]

theorem k_read (n : Fin 2) (j : Fin 2048) (d : Fin 64) : val_main_v1 (F := Ideal) x1 (ix3 n j d) = x1 (ix3 n j d) := by
  pointwise [val_main_v1]

theorem v_read (n : Fin 2) (j : Fin 2048) (d : Fin 64) : val_main_v2 (F := Ideal) x2 (ix3 n j d) = x2 (ix3 n j d) := by
  pointwise [val_main_v2]

section Row

variable (n : Fin 2) (r : Fin 8) (i : Fin 2048) (M : ℝ) (hM : val_main_v19 (F := Ideal) x0 x1 (ix3 n r i) = (M : EReal))

/-- The row's terms and their sum. -/
abbrev term (j : Fin 2048) : ℝ := if Win i j then Real.exp (score (Q n r) (K n) i j - M) else 0
abbrev mass : ℝ := den (Q n r) (K n) i * Real.exp (-M)

theorem mass_pos : 0 < mass Q K n r i M := mul_pos (den_pos _ _ i) (Real.exp_pos _)

include h0 h1 hM in
theorem exp_at (j : Fin 2048) : val_main_v28 (F := Ideal) x0 x1 (ix4 n r i j) = (term Q K n r i M j : EReal) := by
  have e : val_main_v28 (F := Ideal) x0 x1 (ix4 n r i j)
      = Ideal.exp (val_main_v18_0 (F := Ideal) x0 x1 (ix4 n r i j) - val_main_v19 (F := Ideal) x0 x1 (ix3 n r i)) := by
    unfold val_main_v28 val_main_v27 val_main_v26 val_main_v25
    generalize val_main_v18_0 (F := Ideal) x0 x1 = y
    generalize val_main_v19 (F := Ideal) x0 x1 = z
    pointwise []
  rw [e, score_at Q K x0 x1 h0 h1, hM, exp_masked]

include h0 h1 hM in
theorem den_at : val_main_v29 (F := Ideal) x0 x1 (ix3 n r i) = (mass Q K n r i M : EReal) := by
  rw [val_main_v29_apply]
  have z : val_main_cst_4 (F := Ideal) (Shape.Idx.first h_S_) = 0 := by
    rw [val_main_cst_4_apply]; exact zero.trans EReal.coe_zero
  rw [z, zero_add]
  have hi : ∀ j, idx_main_v29 (ix3 n r i) j = ix4 n r i j := fun j => by
    funext a; match a with | ⟨0, _⟩ => rfl | ⟨1, _⟩ => rfl | ⟨2, _⟩ => rfl | ⟨3, _⟩ => rfl
  simp only [hi, exp_at Q K x0 x1 h0 h1 n r i M hM]
  rw [coe_sum, den_shift]

include h0 h1 h2 hM in
theorem weighted_at (d : Fin 64) : val_main_v30 (F := Ideal) x0 x1 x2 (ix4 n r i d)
    = ((∑ j, term Q K n r i M j * V n j d : ℝ) : EReal) := by
  rw [val_main_v30_apply, ← coe_sum]
  refine Finset.sum_congr rfl fun j _ => ?_
  have hl : lidx_main_v30 (ix4 n r i d) j = ix4 n r i j := by
    funext a; match a with | ⟨0, _⟩ => rfl | ⟨1, _⟩ => rfl | ⟨2, _⟩ => rfl | ⟨3, _⟩ => rfl
  have hr : ridx_main_v30 (ix4 n r i d) j = ix3 n j d := by
    funext a; match a with | ⟨0, _⟩ => rfl | ⟨1, _⟩ => rfl | ⟨2, _⟩ => rfl
  rw [hl, hr, exp_at Q K x0 x1 h0 h1 n r i M hM, v_read, h2, ← EReal.coe_mul]

end Row

include h0 h1 h2 in
/-- The attention's output. -/
theorem out_at (n : Fin 2) (r : Fin 8) (i : Fin 2048) (d : Fin 64) :
    val_main_v33 (F := Ideal) x0 x1 x2 (ix4 n r i d) = (out (Q n r) (K n) (V n) i d : EReal) := by
  obtain ⟨M, hM⟩ := top_at Q K x0 x1 h0 h1 n r i
  have e : val_main_v33 (F := Ideal) x0 x1 x2 (ix4 n r i d)
      = Ideal.div (val_main_v30 (F := Ideal) x0 x1 x2 (ix4 n r i d)) (val_main_v29 (F := Ideal) x0 x1 (ix3 n r i)) := by
    unfold val_main_v33 val_main_v32 val_main_v31
    generalize val_main_v30 (F := Ideal) x0 x1 x2 = y
    generalize val_main_v29 (F := Ideal) x0 x1 = z
    pointwise []
  rw [e, weighted_at Q K V x0 x1 x2 h0 h1 h2 n r i M hM, den_at Q K x0 x1 h0 h1 n r i M hM,
    Ideal.div_coe (mass_pos Q K n r i M).ne', ← EReal.coe_mul, mul_one_div, out_shift]

/-- A row's place under the reshape that drops the last axis. -/
theorem row_37 (n : Fin 2) (r : Fin 8) (i : Fin 2048) : idx_main_v37 (ix3 n r i) = ix4 n r i 0 := by
  have hn := n.isLt
  have hr := r.isLt
  have hi := i.isLt
  funext a
  match a with
  | ⟨0, _⟩ => exact Fin.ext (by show ((n.val * 8 + r.val) * 2048 + i.val) / 16384 = n.val; omega)
  | ⟨1, _⟩ => exact Fin.ext (by show ((n.val * 8 + r.val) * 2048 + i.val) / 2048 % 8 = r.val; omega)
  | ⟨2, _⟩ => exact Fin.ext (by show ((n.val * 8 + r.val) * 2048 + i.val) / 1 % 2048 = i.val; omega)
  | ⟨3, _⟩ => rfl

include h0 h1 in
theorem lse3_at (n : Fin 2) (r : Fin 8) (i : Fin 2048) :
    val_main_v39 (F := Ideal) x0 x1 (ix3 n r i) = (lse (Q n r) (K n) i : EReal) := by
  obtain ⟨M, hM⟩ := top_at Q K x0 x1 h0 h1 n r i
  have e : val_main_v39 (F := Ideal) x0 x1 (ix3 n r i)
      = val_main_v19 (F := Ideal) x0 x1 (ix3 n r i) + Ideal.log (val_main_v29 (F := Ideal) x0 x1 (ix3 n r i)) := by
    have h25 : idx_main_v25 (ix4 n r i 0) = ix3 n r i := by
      funext a; match a with | ⟨0, _⟩ => rfl | ⟨1, _⟩ => rfl | ⟨2, _⟩ => rfl
    rw [val_main_v39_apply, val_main_v37_apply, row_37, val_main_v25_apply, h25, val_main_v38_apply]
    generalize val_main_v19 (F := Ideal) x0 x1 (ix3 n r i) = y
    generalize val_main_v29 (F := Ideal) x0 x1 (ix3 n r i) = z
    rfl
  rw [e, hM, den_at Q K x0 x1 h0 h1 n r i M hM, Ideal.log_coe, if_neg (not_le.mpr (mass_pos Q K n r i M)), ← EReal.coe_add, lse_shift]

include h0 h1 in
/-- The log-sum-exp, in every lane. -/
theorem lse_at (n : Fin 2) (r : Fin 8) (i : Fin 2048) (d : Fin 64) :
    val_main_v69 (F := Ideal) x0 x1 (ix4 n r i d) = (lse (Q n r) (K n) i : EReal) := by
  rw [← lse3_at Q K x0 x1 h0 h1]
  unfold val_main_v69 val_main_v68
  generalize val_main_v39 (F := Ideal) x0 x1 = y
  pointwise []

end Cert.AttnRefIdeal.Window
end
-- ==== Proof.AttnGradient.lean ====
/- The reference attention's gradients, read at an index. -/
module

public import proofs.«01_k».proof.Proof.Gen.AttnRefIdeal.Read
public import proofs.«01_k».proof.Proof.AttnMath
public import proofs.«01_k».proof.Proof.AttnDots
public import proofs.«01_k».proof.Proof.AttnReference
public import Idealize.ShloMosaic.Lib.Pointwise
public import Idealize.ShloMosaic.Lib.WordCmp
public import Idealize.ShloMosaic.Lib.WordArith

@[expose] public section

set_option maxRecDepth 16384

noncomputable section

open Idealize.ShloMosaic Idealize.ShloMosaic.TcCoe Idealize.SL.Sem

namespace Cert.AttnRefIdeal.Window

open Cert.AttnRefIdeal Cert.AttnRefIdeal.Gen Cert.AttnRefIdeal.Read Attn

variable (Q G : Fin 2 → Fin 8 → Fin 2048 → Fin 64 → ℝ) (K V : Fin 2 → Fin 2048 → Fin 64 → ℝ) (D : Fin 2 → Fin 8 → Fin 2048 → ℝ)
variable (x0 x3 : (⟨S2x8x2048x64, .bf16⟩ : BufTy).Contents (Elt Ideal)) (x1 x2 : (⟨S2x2048x64, .bf16⟩ : BufTy).Contents (Elt Ideal))
variable (x4 : (⟨S2x8x2048x64, .f32⟩ : BufTy).Contents (Elt Ideal))
variable (h0 : ∀ n r i d, x0 (ix4 n r i d) = (Q n r i d : EReal)) (h1 : ∀ n j d, x1 (ix3 n j d) = (K n j d : EReal))
variable (h2 : ∀ n j d, x2 (ix3 n j d) = (V n j d : EReal)) (h3 : ∀ n r i d, x3 (ix4 n r i d) = (G n r i d : EReal))
variable (h4 : ∀ n r i, x4 (ix4 n r i 0) = (D n r i : EReal))

theorem split_div (g w m : ℝ) : g * (1 / (m * m)) * w = g * (w / m) * (1 / m) := by
  rw [one_div, mul_inv, one_div]; ring

theorem row_44 (n : Fin 2) (r : Fin 8) (i : Fin 2048) : idx_main_v44 (ix3 n r i) = ix4 n r i 0 := by
  have hn := n.isLt
  have hr := r.isLt
  have hi := i.isLt
  funext a
  match a with
  | ⟨0, _⟩ => exact Fin.ext (by show ((n.val * 8 + r.val) * 2048 + i.val) / 16384 = n.val; omega)
  | ⟨1, _⟩ => exact Fin.ext (by show ((n.val * 8 + r.val) * 2048 + i.val) / 2048 % 8 = r.val; omega)
  | ⟨2, _⟩ => exact Fin.ext (by show ((n.val * 8 + r.val) * 2048 + i.val) / 1 % 2048 = i.val; omega)
  | ⟨3, _⟩ => rfl

theorem row_51 (n : Fin 2) (r : Fin 8) (i : Fin 2048) : idx_main_v51 (ix4 n r i 0) = ix3 n r i := by
  have hn := n.isLt
  have hr := r.isLt
  have hi := i.isLt
  funext a
  match a with
  | ⟨0, _⟩ => exact Fin.ext (by show (((n.val * 8 + r.val) * 2048 + i.val) * 1 + 0) / 16384 = n.val; omega)
  | ⟨1, _⟩ => exact Fin.ext (by show (((n.val * 8 + r.val) * 2048 + i.val) * 1 + 0) / 2048 % 8 = r.val; omega)
  | ⟨2, _⟩ => exact Fin.ext (by show (((n.val * 8 + r.val) * 2048 + i.val) * 1 + 0) % 2048 = i.val; omega)

section Row

variable (n : Fin 2) (r : Fin 8) (i : Fin 2048) (M : ℝ) (hM : val_main_v19 (F := Ideal) x0 x1 (ix3 n r i) = (M : EReal))

include h0 h1 h3 hM in
theorem scaled_at (d : Fin 64) : val_main_v54 (F := Ideal) x0 x1 x3 (ix4 n r i d) = ((G n r i d * (1 / mass Q K n r i M) : ℝ) : EReal) := by
  have e : val_main_v54 (F := Ideal) x0 x1 x3 (ix4 n r i d)
      = Ideal.div (x3 (ix4 n r i d)) (val_main_v29 (F := Ideal) x0 x1 (ix3 n r i)) := by
    unfold val_main_v54 val_main_v53 val_main_v31 val_main_v40
    generalize val_main_v29 (F := Ideal) x0 x1 = y
    pointwise []
  rw [e, h3, den_at Q K x0 x1 h0 h1 n r i M hM, Ideal.div_coe (mass_pos Q K n r i M).ne', ← EReal.coe_mul]

include h0 h1 h2 h3 h4 in
/-- The sum of the cotangent against the output, less the row's correction. -/
theorem dlse_at : val_main_v45 (F := Ideal) x0 x1 x2 x3 x4 (ix3 n r i)
    = (((∑ d, G n r i d * out (Q n r) (K n) (V n) i d) - D n r i : ℝ) : EReal) := by
  have e : val_main_v45 (F := Ideal) x0 x1 x2 x3 x4 (ix3 n r i)
      = val_main_v42 (F := Ideal) x0 x1 x2 x3 (ix3 n r i) - x4 (ix4 n r i 0) := by
    have h43 : idx_main_v43 (ix4 n r i 0) = ix4 n r i 0 := by
      funext a; match a with | ⟨0, _⟩ => rfl | ⟨1, _⟩ => rfl | ⟨2, _⟩ => rfl | ⟨3, _⟩ => rfl
    rw [val_main_v45_apply, val_main_v44_apply, row_44, val_main_v43_apply, h43]
    generalize val_main_v42 (F := Ideal) x0 x1 x2 x3 (ix3 n r i) = y
    rfl
  have z : val_main_cst_6 (F := Ideal) (Shape.Idx.first h_S_) = 0 := by
    rw [val_main_cst_6_apply]; exact zero.trans EReal.coe_zero
  have p : ∀ d : Fin 64, val_main_v41 (F := Ideal) x0 x1 x2 x3 (ix4 n r i d)
      = x3 (ix4 n r i d) * val_main_v33 (F := Ideal) x0 x1 x2 (ix4 n r i d) := fun d => by
    unfold val_main_v41 val_main_v40
    generalize val_main_v33 (F := Ideal) x0 x1 x2 = y
    pointwise []
  have s : val_main_v42 (F := Ideal) x0 x1 x2 x3 (ix3 n r i) = ((∑ d, G n r i d * out (Q n r) (K n) (V n) i d : ℝ) : EReal) := by
    rw [val_main_v42_apply, z, zero_add, ← coe_sum]
    refine Finset.sum_congr rfl fun d _ => ?_
    have hi : idx_main_v42 (ix3 n r i) d = ix4 n r i d := by
      funext a; match a with | ⟨0, _⟩ => rfl | ⟨1, _⟩ => rfl | ⟨2, _⟩ => rfl | ⟨3, _⟩ => rfl
    rw [hi, p, h3, out_at Q K V x0 x1 x2 h0 h1 h2, ← EReal.coe_mul]
  rw [e, h4, s, ← EReal.coe_sub]

include h0 h1 h2 h3 hM in
theorem ddiv_at : val_main_v50 (F := Ideal) x0 x1 x2 x3 (ix3 n r i)
    = ((∑ d, G n r i d * (1 / (mass Q K n r i M * mass Q K n r i M)) * ∑ j, term Q K n r i M j * V n j d : ℝ) : EReal) := by
  have z : val_main_cst_7 (F := Ideal) (Shape.Idx.first h_S_) = 0 := by
    rw [val_main_cst_7_apply]; exact zero.trans EReal.coe_zero
  have e : ∀ d : Fin 64, val_main_v49 (F := Ideal) x0 x1 x2 x3 (ix4 n r i d)
      = x3 (ix4 n r i d) * Ideal.div (Ideal.ofBits .f32 0x3F800000#32)
          (val_main_v29 (F := Ideal) x0 x1 (ix3 n r i) * val_main_v29 (F := Ideal) x0 x1 (ix3 n r i))
        * val_main_v30 (F := Ideal) x0 x1 x2 (ix4 n r i d) := fun d => by
    unfold val_main_v49 val_main_v48 val_main_v47 val_main_v36 val_main_v35 val_main_v34 val_main_v31 val_main_v40
    generalize val_main_v29 (F := Ideal) x0 x1 = y
    generalize val_main_v30 (F := Ideal) x0 x1 x2 = w
    pointwise [val_main_cst_5]
  have p := mass_pos Q K n r i M
  rw [val_main_v50_apply, z, zero_add, ← coe_sum]
  refine Finset.sum_congr rfl fun d _ => ?_
  have hi : idx_main_v50 (ix3 n r i) d = ix4 n r i d := by
      funext a; match a with | ⟨0, _⟩ => rfl | ⟨1, _⟩ => rfl | ⟨2, _⟩ => rfl | ⟨3, _⟩ => rfl
  rw [hi, e, h3, den_at Q K x0 x1 h0 h1 n r i M hM, weighted_at Q K V x0 x1 x2 h0 h1 h2 n r i M hM, one, ← EReal.coe_mul,
    Ideal.div_coe (mul_pos p p).ne', ← EReal.coe_mul, ← EReal.coe_mul, ← EReal.coe_mul, one_mul]

include h0 h1 h2 h3 h4 hM in
/-- The cotangent of the row's sum: what the output's share leaves is the correction. -/
theorem dmass_at : val_main_v56 (F := Ideal) x0 x1 x2 x3 x4 (ix3 n r i) = ((-(D n r i * (1 / mass Q K n r i M)) : ℝ) : EReal) := by
  have e : val_main_v56 (F := Ideal) x0 x1 x2 x3 x4 (ix3 n r i)
      = Ideal.div (val_main_v45 (F := Ideal) x0 x1 x2 x3 x4 (ix3 n r i)) (val_main_v29 (F := Ideal) x0 x1 (ix3 n r i))
        + val_main_v55 (F := Ideal) x0 x1 x2 x3 (ix3 n r i) := by
    unfold val_main_v56 val_main_v46
    generalize val_main_v45 (F := Ideal) x0 x1 x2 x3 x4 = y
    generalize val_main_v29 (F := Ideal) x0 x1 = z
    generalize val_main_v55 (F := Ideal) x0 x1 x2 x3 = w
    pointwise []
  have z : val_main_cst_8 (F := Ideal) (Shape.Idx.first h_S_) = 0 := by
    rw [val_main_cst_8_apply]; exact zero.trans EReal.coe_zero
  have e2 : val_main_v55 (F := Ideal) x0 x1 x2 x3 (ix3 n r i) = -val_main_v50 (F := Ideal) x0 x1 x2 x3 (ix3 n r i) := by
    have hi : idx_main_v55 (ix3 n r i) 0 = ix4 n r i 0 := by
      funext a; match a with | ⟨0, _⟩ => rfl | ⟨1, _⟩ => rfl | ⟨2, _⟩ => rfl | ⟨3, _⟩ => rfl
    rw [val_main_v55_apply, Fin.sum_univ_one, z, zero_add, hi]
    rw [val_main_v52_apply, val_main_v51_apply, row_51]
    generalize val_main_v50 (F := Ideal) x0 x1 x2 x3 (ix3 n r i) = y
    rfl
  have p := (mass_pos Q K n r i M).ne'
  rw [e, e2, dlse_at Q G K V D x0 x3 x1 x2 x4 h0 h1 h2 h3 h4, ddiv_at Q G K V x0 x3 x1 x2 h0 h1 h2 h3 n r i M hM,
    den_at Q K x0 x1 h0 h1 n r i M hM, Ideal.div_coe p, ← EReal.coe_mul, ← EReal.coe_neg, ← EReal.coe_add]
  refine congrArg Real.toEReal ?_
  have s : (∑ d, G n r i d * (1 / (mass Q K n r i M * mass Q K n r i M)) * ∑ j, term Q K n r i M j * V n j d)
      = (∑ d, G n r i d * out (Q n r) (K n) (V n) i d) * (1 / mass Q K n r i M) := by
    rw [Finset.sum_mul]
    refine Finset.sum_congr rfl fun d _ => ?_
    rw [← out_shift (Q n r) (K n) (V n) M i d]
    exact split_div (G n r i d) (∑ j, term Q K n r i M j * V n j d) (mass Q K n r i M)
  rw [s]
  ring

include h0 h1 h2 h3 hM in
theorem dprob_at (j : Fin 2048) : val_main_v59 (F := Ideal) x0 x1 x2 x3 (ix4 n r i j)
    = ((∑ d, G n r i d * (1 / mass Q K n r i M) * V n j d : ℝ) : EReal) := by
  rw [val_main_v59_apply, ← coe_sum]
  refine Finset.sum_congr rfl fun d _ => ?_
  have hl : lidx_main_v59 (ix4 n r i j) d = ix4 n r i d := by
      funext a; match a with | ⟨0, _⟩ => rfl | ⟨1, _⟩ => rfl | ⟨2, _⟩ => rfl | ⟨3, _⟩ => rfl
  have hr : ridx_main_v59 (ix4 n r i j) d = ix3 n j d := by
      funext a; match a with | ⟨0, _⟩ => rfl | ⟨1, _⟩ => rfl | ⟨2, _⟩ => rfl
  rw [hl, hr, scaled_at Q G K x0 x3 x1 h0 h1 h3 n r i M hM d, v_read, h2, ← EReal.coe_mul]

/-- A real form of the score's gradient. -/
theorem dscore_real (q k v g : Fin 2048 → Fin 64 → ℝ) (D : Fin 2048 → ℝ) (i j : Fin 2048) (M : ℝ) :
    (if Win i j then ((∑ d, g i d * (1 / (den q k i * Real.exp (-M))) * v j d) + -(D i * (1 / (den q k i * Real.exp (-M)))))
        * (if Win i j then Real.exp (score q k i j - M) else 0) else 0) * (1 / 8)
      = dscore q k v g D i j := by
  unfold dscore
  rw [← prob_shift q k M i j]
  have s : (∑ d, g i d * (1 / (den q k i * Real.exp (-M))) * v j d) = (∑ d, g i d * v j d) * (1 / (den q k i * Real.exp (-M))) := by
    rw [Finset.sum_mul]
    exact Finset.sum_congr rfl fun d _ => by ring
  rw [s]
  by_cases h : Win i j
  · simp only [if_pos h]
    ring
  · simp only [if_neg h, zero_div, zero_mul]

include h0 h1 h2 h3 h4 in
/-- The gradient of a score. -/
theorem dscore_at (j : Fin 2048) : val_main_v65 (F := Ideal) x0 x1 x2 x3 x4 (ix4 n r i j)
    = (dscore (Q n r) (K n) (V n) (G n r) (D n r) i j : EReal) := by
  obtain ⟨M, hM⟩ := top_at Q K x0 x1 h0 h1 n r i
  have e : val_main_v65 (F := Ideal) x0 x1 x2 x3 x4 (ix4 n r i j)
      = Scalar.select (val_main_v18_1 (F := Ideal) (ix4 n r i j))
          ((val_main_v59 (F := Ideal) x0 x1 x2 x3 (ix4 n r i j) + val_main_v56 (F := Ideal) x0 x1 x2 x3 x4 (ix3 n r i))
            * val_main_v28 (F := Ideal) x0 x1 (ix4 n r i j)) (Ideal.ofBits .f32 0x00000000#32) * Ideal.ofBits .f32 0x3E000000#32 := by
    unfold val_main_v65 val_main_v63 val_main_v62 val_main_v61 val_main_v60 val_main_v64
    generalize val_main_v59 (F := Ideal) x0 x1 x2 x3 = a
    generalize val_main_v56 (F := Ideal) x0 x1 x2 x3 x4 = b
    generalize val_main_v28 (F := Ideal) x0 x1 = c
    generalize val_main_v18_1 (F := Ideal) = w
    pointwise [val_main_call1_v0, val_main_call1_cst, val_main_cst_9]
  rw [e, mask4_at, select_decide, dprob_at Q G K V x0 x3 x1 x2 h0 h1 h2 h3 n r i M hM, dmass_at Q G K V D x0 x3 x1 x2 x4 h0 h1 h2 h3 h4 n r i M hM,
    exp_at Q K x0 x1 h0 h1 n r i M hM, zero, eighth, ← EReal.coe_add, ← EReal.coe_mul, coe_ite, ← EReal.coe_mul]
  exact congrArg Real.toEReal (dscore_real (Q n r) (K n) (V n) (G n r) (D n r) i j M)

end Row

include h0 h1 h2 h3 h4 in
theorem dq_at (n : Fin 2) (r : Fin 8) (i : Fin 2048) (d : Fin 64) : val_main_v67 (F := Ideal) x0 x1 x2 x3 x4 (ix4 n r i d)
    = ((∑ j, dscore (Q n r) (K n) (V n) (G n r) (D n r) i j * K n j d : ℝ) : EReal) := by
  rw [val_main_v67_apply, ← coe_sum]
  refine Finset.sum_congr rfl fun j _ => ?_
  have hl : lidx_main_v67 (ix4 n r i d) j = ix4 n r i j := by
      funext a; match a with | ⟨0, _⟩ => rfl | ⟨1, _⟩ => rfl | ⟨2, _⟩ => rfl | ⟨3, _⟩ => rfl
  have hr : ridx_main_v67 (ix4 n r i d) j = ix3 n j d := by
      funext a; match a with | ⟨0, _⟩ => rfl | ⟨1, _⟩ => rfl | ⟨2, _⟩ => rfl
  rw [hl, hr, dscore_at Q G K V D x0 x3 x1 x2 x4 h0 h1 h2 h3 h4 n r i j, k_read, h1, ← EReal.coe_mul]

include h0 h1 h2 h3 h4 in
theorem dk_at (n : Fin 2) (j : Fin 2048) (d : Fin 64) : val_main_v66 (F := Ideal) x0 x1 x2 x3 x4 (ix3 n j d)
    = ((∑ r, ∑ i, dscore (Q n r) (K n) (V n) (G n r) (D n r) i j * Q n r i d : ℝ) : EReal) := by
  unfold val_main_v66
  rw [dk_dot, ← coe_sum]
  refine Finset.sum_congr rfl fun r _ => ?_
  rw [← coe_sum]
  refine Finset.sum_congr rfl fun i _ => ?_
  rw [dscore_at Q G K V D x0 x3 x1 x2 x4 h0 h1 h2 h3 h4 n r i j, q_read, h0, ← EReal.coe_mul]

include h0 h1 h3 in
theorem dv_at (n : Fin 2) (j : Fin 2048) (d : Fin 64) : val_main_v58 (F := Ideal) x0 x1 x3 (ix3 n j d)
    = ((∑ r, ∑ i, prob (Q n r) (K n) i j * G n r i d : ℝ) : EReal) := by
  have hi : idx_main_v58 (ix3 n j d) = ix3 n d j := by
      funext a; match a with | ⟨0, _⟩ => rfl | ⟨1, _⟩ => rfl | ⟨2, _⟩ => rfl
  rw [val_main_v58_apply, hi]
  unfold val_main_v57
  rw [dv_dot, ← coe_sum]
  refine Finset.sum_congr rfl fun r _ => ?_
  rw [← coe_sum]
  refine Finset.sum_congr rfl fun i _ => ?_
  obtain ⟨M, hM⟩ := top_at Q K x0 x1 h0 h1 n r i
  rw [scaled_at Q G K x0 x3 x1 h0 h1 h3 n r i M hM, exp_at Q K x0 x1 h0 h1 n r i M hM, ← EReal.coe_mul, ← prob_shift (Q n r) (K n) M i j]
  refine congrArg Real.toEReal ?_
  show G n r i d * (1 / mass Q K n r i M) * term Q K n r i M j = term Q K n r i M j / mass Q K n r i M * G n r i d
  ring

end Cert.AttnRefIdeal.Window
end
-- ==== Proof.AttnRun.lean ====
/- The run of the windowed attention's two calls: what every result array holds when @main ends, at any numbers. -/
module

public import proofs.«01_k».proof.Proof.Gen.AttnIdeal.Frame

@[expose] public section

set_option maxRecDepth 16384

noncomputable section

namespace Cert.AttnIdeal.Results

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

set_option backward.isDefEq.respectTransparency.types false in
/-- The frame's run, its results read at the last boundary's contents. -/
theorem run : θ_run defs (onTc (τ := τ) (main (F := F))) ⟨m, fun _ => 0, ρ⟩ (fun r => ∀ c : Dev nD,
      r.2.mem ((c.tc : Thread nD τ).loc main_v0_0) = W2 m ρ c (Proc.devRef .tc main_v0_0)
      ∧ r.2.mem ((c.tc : Thread nD τ).loc main_v0_1) = W2 m ρ c (Proc.devRef .tc main_v0_1)
      ∧ r.2.mem ((c.tc : Thread nD τ).loc main_v1_0) = W2 m ρ c (Proc.devRef .tc main_v1_0)
      ∧ r.2.mem ((c.tc : Thread nD τ).loc main_v1_1) = W2 m ρ c (Proc.devRef .tc main_v1_1)
      ∧ r.2.mem ((c.tc : Thread nD τ).loc main_v1_2) = W2 m ρ c (Proc.devRef .tc main_v1_2)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => fun c =>
      ⟨h c _ (mem_uc main_v0_0 (by decide)),
       h c _ (mem_uc main_v0_1 (by decide)),
       h c _ (mem_uc main_v1_0 (by decide)),
       h c _ (mem_uc main_v1_1 (by decide)),
       h c _ (mem_uc main_v1_2 (by decide)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c)⟩)

theorem out_eq (c : Dev nD) : W2 m ρ c (Proc.devRef .tc main_v0_0) = (dat0 (V0 m ρ) c).arrAt 5 cfg0.N :=
  (W2_of m ρ c main_v0_0 (by decide)).trans (W1_arr m ρ c 5)

theorem lse_eq (c : Dev nD) : W2 m ρ c (Proc.devRef .tc main_v0_1) = (dat0 (V0 m ρ) c).arrAt 6 cfg0.N :=
  (W2_of m ρ c main_v0_1 (by decide)).trans (W1_arr m ρ c 6)

theorem dq_eq (c : Dev nD) : W2 m ρ c (Proc.devRef .tc main_v1_0) = (dat1 (V1 m ρ) c).arrAt 12 cfg1.N := W2_arr m ρ c 12

theorem dk_eq (c : Dev nD) : W2 m ρ c (Proc.devRef .tc main_v1_1) = (dat1 (V1 m ρ) c).arrAt 13 cfg1.N := W2_arr m ρ c 13

theorem dv_eq (c : Dev nD) : W2 m ρ c (Proc.devRef .tc main_v1_2) = (dat1 (V1 m ρ) c).arrAt 14 cfg1.N := W2_arr m ρ c 14

end Cert.AttnIdeal.Results
end
-- ==== Proof.AttnClaim.lean ====
/- The attention's five results: over finite arguments the reference's arrays are the mathematics that the kernel's
   blocks were shown to be. -/
module

public import proofs.«01_k».proof.Defs
public import proofs.«01_k».proof.Proof.Gen.Pre_finite_attn
public import proofs.«01_k».proof.Proof.MixClaim
public import proofs.«01_k».proof.Proof.AttnArrays1
public import proofs.«01_k».proof.Proof.AttnGradient
public import proofs.«01_k».proof.Proof.AttnRun
public import Idealize.ShloMosaic.Lib.ReduceAll

@[expose] public section

set_option maxRecDepth 16384

noncomputable section

open Idealize.ShloMosaic Idealize.ShloMosaic.TcCoe Idealize.SL.Sem

namespace Attn

open Cert.AttnRefIdeal Cert.AttnRefIdeal.Gen Mix

section Arguments

variable (x0 x3 : (⟨S2x8x2048x64, .bf16⟩ : BufTy).Contents (Elt Ideal)) (x1 x2 : (⟨S2x2048x64, .bf16⟩ : BufTy).Contents (Elt Ideal))
variable (x4 : (⟨S2x8x2048x64, .f32⟩ : BufTy).Contents (Elt Ideal))

/-- Every entry of the five arguments is a real number. -/
def Finite : Prop := (∀ i, Real' (x0 i)) ∧ (∀ i, Real' (x1 i)) ∧ (∀ i, Real' (x2 i)) ∧ (∀ i, Real' (x3 i)) ∧ (∀ i, Real' (x4 i))

/-- The precondition, read. -/
theorem finite_of_pre (h : ∀ j, Cert.Pre_finite_attn.fn (F := Ideal) x0 x1 x2 x3 x4 j = 1#1) : Finite x0 x3 x1 x2 x4 := by
  have h0 := h ix0
  haveI : Subsingleton Cert.Pre_finite_attn.S_.Idx := ⟨fun _ _ => funext fun k => k.elim0⟩
  dsimp only [Cert.Pre_finite_attn.fn, Cert.Pre_finite_attn.fn_part1] at h0
  obtain ⟨h1, g4⟩ := IntOp.andi_eq_one.1 h0
  obtain ⟨h2, g3⟩ := IntOp.andi_eq_one.1 h1
  obtain ⟨h3, g2⟩ := IntOp.andi_eq_one.1 h2
  obtain ⟨g0, g1⟩ := IntOp.andi_eq_one.1 h3
  exact ⟨fun i => Cert.ReferenceIdeal.Columns.real_of_olt _ (Host.reduce_andi_all _ _ _ _ _ g0 i),
    fun i => Cert.ReferenceIdeal.Columns.real_of_olt _ (Host.reduce_andi_all _ _ _ _ _ g1 i),
    fun i => Cert.ReferenceIdeal.Columns.real_of_olt _ (Host.reduce_andi_all _ _ _ _ _ g2 i),
    fun i => Cert.ReferenceIdeal.Columns.real_of_olt _ (Host.reduce_andi_all _ _ _ _ _ g3 i),
    fun i => Cert.ReferenceIdeal.Columns.real_of_olt _ (Host.reduce_andi_all _ _ _ _ _ g4 i)⟩

/-- The arguments' entries as real numbers. -/
def heads (x : (⟨S2x8x2048x64, .bf16⟩ : BufTy).Contents (Elt Ideal)) (n : Fin 2) (r : Fin 8) (i : Fin 2048) (d : Fin 64) : ℝ :=
  (show EReal from x (ix4 n r i d)).toReal
def keys (x : (⟨S2x2048x64, .bf16⟩ : BufTy).Contents (Elt Ideal)) (n : Fin 2) (j : Fin 2048) (d : Fin 64) : ℝ :=
  (show EReal from x (ix3 n j d)).toReal
def rows (x : (⟨S2x8x2048x64, .f32⟩ : BufTy).Contents (Elt Ideal)) (n : Fin 2) (r : Fin 8) (i : Fin 2048) : ℝ :=
  (show EReal from x (ix4 n r i 0)).toReal

theorem toReal_of_real {a : EReal} (h : Real' a) : a = (a.toReal : EReal) := by
  obtain ⟨r, rfl⟩ := h
  rfl

theorem heads_eq (h : ∀ i, Real' (x0 i)) (n : Fin 2) (r : Fin 8) (i : Fin 2048) (d : Fin 64) : x0 (ix4 n r i d) = (heads x0 n r i d : EReal) :=
  toReal_of_real (h _)
theorem keys_eq (h : ∀ i, Real' (x1 i)) (n : Fin 2) (j : Fin 2048) (d : Fin 64) : x1 (ix3 n j d) = (keys x1 n j d : EReal) :=
  toReal_of_real (h _)
theorem rows_eq (h : ∀ i, Real' (x4 i)) (n : Fin 2) (r : Fin 8) (i : Fin 2048) : x4 (ix4 n r i 0) = (rows x4 n r i : EReal) :=
  toReal_of_real (h _)

variable (f : Finite x0 x3 x1 x2 x4)
include f

open Cert.AttnRefIdeal.Read Cert.AttnRefIdeal.Window

theorem ref_out : val_main_v33 (F := Ideal) x0 x1 x2 = Cert.AttnIdeal.Tiles.outArray (heads x0) (keys x1) (keys x2) := by
  funext y
  have e := eq_ix4 (n0 := 2) (n1 := 8) (n2 := 2048) (n3 := 64) y
  have k := out_at (heads x0) (keys x1) (keys x2) x0 x1 x2 (heads_eq x0 f.1) (keys_eq x1 f.2.1) (keys_eq x2 f.2.2.1) (y 0) (y 1) (y 2) (y 3)
  rw [← e] at k
  exact k

theorem ref_lse : val_main_v69 (F := Ideal) x0 x1 = Cert.AttnIdeal.Tiles.lseArray (heads x0) (keys x1) := by
  funext y
  have e := eq_ix4 (n0 := 2) (n1 := 8) (n2 := 2048) (n3 := 64) y
  have k := lse_at (heads x0) (keys x1) x0 x1 (heads_eq x0 f.1) (keys_eq x1 f.2.1) (y 0) (y 1) (y 2) (y 3)
  rw [← e] at k
  exact k

theorem ref_dq : val_main_v67 (F := Ideal) x0 x1 x2 x3 x4 = Cert.AttnIdeal.Tiles.dqArray (heads x0) (heads x3) (keys x1) (keys x2) (rows x4) := by
  funext y
  have e := eq_ix4 (n0 := 2) (n1 := 8) (n2 := 2048) (n3 := 64) y
  have k := dq_at (heads x0) (heads x3) (keys x1) (keys x2) (rows x4) x0 x3 x1 x2 x4 (heads_eq x0 f.1) (keys_eq x1 f.2.1) (keys_eq x2 f.2.2.1)
    (heads_eq x3 f.2.2.2.1) (rows_eq x4 f.2.2.2.2) (y 0) (y 1) (y 2) (y 3)
  rw [← e] at k
  exact k

theorem ref_dk : val_main_v66 (F := Ideal) x0 x1 x2 x3 x4 = Cert.AttnIdeal.Tiles.dkArray (heads x0) (heads x3) (keys x1) (keys x2) (rows x4) := by
  funext y
  have e := eq_ix3 (n0 := 2) (n1 := 2048) (n2 := 64) y
  have k := dk_at (heads x0) (heads x3) (keys x1) (keys x2) (rows x4) x0 x3 x1 x2 x4 (heads_eq x0 f.1) (keys_eq x1 f.2.1) (keys_eq x2 f.2.2.1)
    (heads_eq x3 f.2.2.2.1) (rows_eq x4 f.2.2.2.2) (y 0) (y 1) (y 2)
  rw [← e] at k
  exact k

theorem ref_dv : val_main_v58 (F := Ideal) x0 x1 x3 = Cert.AttnIdeal.Tiles.dvArray (heads x0) (heads x3) (keys x1) := by
  funext y
  have e := eq_ix3 (n0 := 2) (n1 := 2048) (n2 := 64) y
  have k := dv_at (heads x0) (heads x3) (keys x1) x0 x3 x1 (heads_eq x0 f.1) (keys_eq x1 f.2.1) (heads_eq x3 f.2.2.2.1) (y 0) (y 1) (y 2)
  rw [← e] at k
  exact k

end Arguments

end Attn

namespace Cert.AttnIdeal.Results

open Cert.AttnIdeal Cert.AttnIdeal.Gen _root_.Attn

variable (m : (ℓ : Loc nD τ sig) → Buf (Elt Ideal) ℓ) (ρ : Dev nD → PrngReg) (c : Dev nD)

abbrev q := m ((c.tc : Thread nD τ).loc main_arg0)
abbrev k := m ((c.tc : Thread nD τ).loc main_arg1)
abbrev v := m ((c.tc : Thread nD τ).loc main_arg2)
abbrev g := m ((c.tc : Thread nD τ).loc main_arg3)
abbrev w := m ((c.tc : Thread nD τ).loc main_arg4)

variable (f : Finite (q m c) (g m c) (k m c) (v m c) (w m c))
include f

theorem out_value : W2 m ρ c (Proc.devRef .tc main_v0_0) = Tiles.outArray (heads (q m c)) (keys (k m c)) (keys (v m c)) :=
  (out_eq m ρ c).trans (Tiles.out_final (V0 m ρ) c _ _ _ (heads_eq _ f.1) (keys_eq _ f.2.1) (keys_eq _ f.2.2.1))

theorem lse_first : (dat0 (V0 m ρ) c).arrAt 6 cfg0.N = Tiles.lseArray (heads (q m c)) (keys (k m c)) :=
  Tiles.lse_final (V0 m ρ) c _ _ (heads_eq _ f.1) (keys_eq _ f.2.1)

theorem lse_value : W2 m ρ c (Proc.devRef .tc main_v0_1) = Tiles.lseArray (heads (q m c)) (keys (k m c)) :=
  (lse_eq m ρ c).trans (lse_first m ρ c f)

/-- What the second call is entered with: the arguments, and the first call's log-sum-exp. -/
theorem second_q (n : Fin 2) (r : Fin 8) (i : Fin 2048) (d : Fin 64) : V1 m ρ c main_arg0 (ix4 n r i d) = (heads (q m c) n r i d : EReal) :=
  (congrFun (W1_args m ρ c main_arg0 (by decide)) _).trans (heads_eq _ f.1 n r i d)
theorem second_k (n : Fin 2) (j : Fin 2048) (d : Fin 64) : V1 m ρ c main_arg1 (ix3 n j d) = (keys (k m c) n j d : EReal) :=
  (congrFun (W1_args m ρ c main_arg1 (by decide)) _).trans (keys_eq _ f.2.1 n j d)
theorem second_v (n : Fin 2) (j : Fin 2048) (d : Fin 64) : V1 m ρ c main_arg2 (ix3 n j d) = (keys (v m c) n j d : EReal) :=
  (congrFun (W1_args m ρ c main_arg2 (by decide)) _).trans (keys_eq _ f.2.2.1 n j d)
theorem second_g (n : Fin 2) (r : Fin 8) (i : Fin 2048) (d : Fin 64) : V1 m ρ c main_arg3 (ix4 n r i d) = (heads (g m c) n r i d : EReal) :=
  (congrFun (W1_args m ρ c main_arg3 (by decide)) _).trans (heads_eq _ f.2.2.2.1 n r i d)
theorem second_w (n : Fin 2) (r : Fin 8) (i : Fin 2048) : V1 m ρ c main_arg4 (ix4 n r i 0) = (rows (w m c) n r i : EReal) :=
  (congrFun (W1_args m ρ c main_arg4 (by decide)) _).trans (rows_eq _ f.2.2.2.2 n r i)
theorem second_lse (n : Fin 2) (r : Fin 8) (i : Fin 2048) :
    V1 m ρ c main_v0_1 (ix4 n r i 0) = (lse (heads (q m c) n r) (keys (k m c) n) i : EReal) :=
  (congrFun ((W1_arr m ρ c 6).trans (lse_first m ρ c f)) (ix4 n r i 0)).trans rfl

theorem dq_value : W2 m ρ c (Proc.devRef .tc main_v1_0)
    = Tiles.dqArray (heads (q m c)) (heads (g m c)) (keys (k m c)) (keys (v m c)) (rows (w m c)) :=
  (dq_eq m ρ c).trans (Tiles.dq_final (V1 m ρ) c _ _ _ _ _ (second_q m ρ c f) (second_k m ρ c f) (second_v m ρ c f) (second_g m ρ c f)
    (second_w m ρ c f) (second_lse m ρ c f))

theorem dk_value : W2 m ρ c (Proc.devRef .tc main_v1_1)
    = Tiles.dkArray (heads (q m c)) (heads (g m c)) (keys (k m c)) (keys (v m c)) (rows (w m c)) :=
  (dk_eq m ρ c).trans (Tiles.dk_final (V1 m ρ) c _ _ _ _ _ (second_q m ρ c f) (second_k m ρ c f) (second_v m ρ c f) (second_g m ρ c f)
    (second_w m ρ c f) (second_lse m ρ c f))

theorem dv_value : W2 m ρ c (Proc.devRef .tc main_v1_2) = Tiles.dvArray (heads (q m c)) (heads (g m c)) (keys (k m c)) :=
  (dv_eq m ρ c).trans (Tiles.dv_final (V1 m ρ) c _ _ _ (second_q m ρ c f) (second_k m ρ c f) (second_g m ρ c f) (second_lse m ρ c f))

end Cert.AttnIdeal.Results
end
-- ==== Proof.AttnPair.lean ====
/- The attention's pair of programs: the run of the two calls and the run of the reference end in the same arrays. -/
module

public import proofs.«01_k».proof.Proof.AttnClaim
public import proofs.«01_k».proof.Proof.Gen.AttnRefIdeal.Run
public import Idealize.ShloMosaic.Lib.Claim
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.AttnIdeal.Results

open Cert.AttnRefIdeal.Read in
theorem attn : Cert.algebraic_AttnIdeal_AttnRefIdeal_pre_finite_attn := by
  intro m g m' g' hpre hagree
  have fin := fun c => _root_.Attn.finite_of_pre _ _ _ _ _ (fun j => congrFun (hpre c) j)
  refine ⟨_, _, _, _, _, Cert.AttnIdeal.Results.run m g, ?_⟩
  refine θ_run_mono (Cert.AttnRefIdeal.Value.run m' g') fun r h c => ?_
  obtain ⟨h0, h1, h2, h3, h4, args⟩ := h c
  refine ⟨h0.trans ?_, h1.trans ?_, h2.trans ?_, h3.trans ?_, h4.trans ?_, args⟩
  · refine (val_main_v33_eq m' c).trans (Eq.trans ?_ (out_value m g c (fin c)).symm)
    rw [(hagree c).1, (hagree c).2.1, (hagree c).2.2.1]
    exact _root_.Attn.ref_out _ _ _ _ _ (fin c)
  · refine (val_main_v69_eq m' c).trans (Eq.trans ?_ (lse_value m g c (fin c)).symm)
    rw [(hagree c).1, (hagree c).2.1]
    exact _root_.Attn.ref_lse _ _ _ _ _ (fin c)
  · refine (val_main_v67_eq m' c).trans (Eq.trans ?_ (dq_value m g c (fin c)).symm)
    rw [(hagree c).1, (hagree c).2.1, (hagree c).2.2.1, (hagree c).2.2.2.1, (hagree c).2.2.2.2]
    exact _root_.Attn.ref_dq _ _ _ _ _ (fin c)
  · refine (val_main_v66_eq m' c).trans (Eq.trans ?_ (dk_value m g c (fin c)).symm)
    rw [(hagree c).1, (hagree c).2.1, (hagree c).2.2.1, (hagree c).2.2.2.1, (hagree c).2.2.2.2]
    exact _root_.Attn.ref_dk _ _ _ _ _ (fin c)
  · refine (val_main_v58_eq m' c).trans (Eq.trans ?_ (dv_value m g c (fin c)).symm)
    rw [(hagree c).1, (hagree c).2.1, (hagree c).2.2.2.1]
    exact _root_.Attn.ref_dv _ _ _ _ _ (fin c)

set_option maxHeartbeats 1600000 in
theorem attn_reference : Cert.quiescent_AttnRefIdeal := by
  intro m g _
  refine (θ_run Cert.AttnRefIdeal.defs _ _).mono (fun r h => ⟨fun c => ?_, sem_eq_zero_of_no_sems (by decide) r.2⟩) (Cert.AttnRefIdeal.Value.run (F := Ideal) m g)
  have k := h c
  simp only [k, and_self]

theorem named_attn : Cert.preserves_Attn_AttnIdeal :=
  IdealRules.named_const.statement Cert.AttnIdeal.κ "mask" .f32 0xF149F2CA#32 (⊥ : EReal) rfl

end Cert.AttnIdeal.Results
end
-- ==== Proof.ModValue.lean ====
/- The modulation's products: the rows the four layers' modulation weights give, and the gradient of those weights. -/
module

public import proofs.«01_k».proof.Proof.Gen.AdaDwIdeal.Value
public import proofs.«01_k».proof.Proof.Gen.AdaDwRefIdeal
public import proofs.«01_k».proof.Proof.Gen.Mod0Ideal.Value
public import proofs.«01_k».proof.Proof.Gen.Mod0RefIdeal
public import proofs.«01_k».proof.Proof.Gen.Mod1Ideal.Value
public import proofs.«01_k».proof.Proof.Gen.Mod1RefIdeal
public import proofs.«01_k».proof.Proof.Gen.Mod2Ideal.Value
public import proofs.«01_k».proof.Proof.Gen.Mod2RefIdeal
public import proofs.«01_k».proof.Proof.Gen.Mod3Ideal.Value
public import proofs.«01_k».proof.Proof.Gen.Mod3RefIdeal
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaDwIdeal.Tiles

open Cert.AdaDwIdeal Cert.AdaDwIdeal.Gen

variable (m : (ℓ : Loc nD τ sig) → Buf (Elt Ideal) ℓ)

/-- The reference's product. -/
abbrev target (x : FVec Ideal S8x2048 .f32) (d : FVec Ideal S8x3072 .f32) : FVec Ideal S2048x3072 .f32 :=
  transpose S2048x3072 [1,0] (Host.dotGeneral Cert.AdaDwRefIdeal.dot_S8x3072_S8x2048_S3072x2048_0_0_1_1_n_n none d x) Cert.AdaDwRefIdeal.Gen.transposes_S3072x2048_S2048x3072_1_0

theorem idx : ∀ t : Fin cfg0.N, win0_0.index t = ![0, 0] ∧ win0_1.index t = ![0, t.val] ∧ win0_2.index t = ![0, t.val] :=
  (by decide +kernel : ∀ t : Fin grid0.N, _)

theorem point (c : Dev nD) (t : Fin cfg0.N) (y) :
    k0_pay1 (iblk m c 0 t) (iblk m c 1 t) y = target (m ((c : Thread nD τ).loc main_arg0)) (m ((c : Thread nD τ).loc main_arg1)) (((cfg0.win 2).blk t).view.emb y) := by
  pointwise [k0_pay1, target]
  refine (Finset.sum_congr rfl fun k _ => mul_comm _ _).trans ?_
  blk_point [iblk, V, idx t]

theorem final (c : Dev nD) : (dats m 0 c).arrAt 2 (cfgs 0).N = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.AdaDwIdeal.Tiles

namespace Cert.Mod0Ideal.Tiles

open Cert.Mod0Ideal Cert.Mod0Ideal.Gen

variable (m : (ℓ : Loc nD τ sig) → Buf (Elt Ideal) ℓ)

/-- The reference's product with layer 0's weight. -/
abbrev target (x : FVec Ideal S8x2048 .f32) (w : FVec Ideal S4x2048x3072 .f32) : FVec Ideal S8x3072 .f32 :=
  Host.dotGeneral Cert.Mod0RefIdeal.dot_S8x2048_S2048x3072_S8x3072_1_0_0_1_n_n none x (shapeCast Cert.Mod0RefIdeal.S2048x3072 (extractStridedSlice Cert.Mod0RefIdeal.S1x2048x3072 ![0, 0, 0] w Cert.Mod0RefIdeal.Gen.slices_S4x2048x3072_S1x2048x3072_0_0_0) Cert.Mod0RefIdeal.Gen.shapeCasts_S1x2048x3072_S2048x3072)

theorem idx : ∀ t : Fin cfg0.N, win0_0.index t = ![0, 0] ∧ win0_1.index t = ![0, 0, t.val] ∧ win0_2.index t = ![0, t.val] :=
  (by decide +kernel : ∀ t : Fin grid0.N, _)

theorem point (c : Dev nD) (t : Fin cfg0.N) (y) :
    k0_pay1 (iblk m c 0 t) (iblk m c 1 t) y = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Mod0Ideal.Tiles

namespace Cert.Mod1Ideal.Tiles

open Cert.Mod1Ideal Cert.Mod1Ideal.Gen

variable (m : (ℓ : Loc nD τ sig) → Buf (Elt Ideal) ℓ)

/-- The reference's product with layer 1's weight. -/
abbrev target (x : FVec Ideal S8x2048 .f32) (w : FVec Ideal S4x2048x3072 .f32) : FVec Ideal S8x3072 .f32 :=
  Host.dotGeneral Cert.Mod1RefIdeal.dot_S8x2048_S2048x3072_S8x3072_1_0_0_1_n_n none x (shapeCast Cert.Mod1RefIdeal.S2048x3072 (extractStridedSlice Cert.Mod1RefIdeal.S1x2048x3072 ![1, 0, 0] w Cert.Mod1RefIdeal.Gen.slices_S4x2048x3072_S1x2048x3072_1_0_0) Cert.Mod1RefIdeal.Gen.shapeCasts_S1x2048x3072_S2048x3072)

theorem idx : ∀ t : Fin cfg0.N, win0_0.index t = ![0, 0] ∧ win0_1.index t = ![1, 0, t.val] ∧ win0_2.index t = ![0, t.val] :=
  (by decide +kernel : ∀ t : Fin grid0.N, _)

theorem point (c : Dev nD) (t : Fin cfg0.N) (y) :
    k0_pay1 (iblk m c 0 t) (iblk m c 1 t) y = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Mod1Ideal.Tiles

namespace Cert.Mod2Ideal.Tiles

open Cert.Mod2Ideal Cert.Mod2Ideal.Gen

variable (m : (ℓ : Loc nD τ sig) → Buf (Elt Ideal) ℓ)

/-- The reference's product with layer 2's weight. -/
abbrev target (x : FVec Ideal S8x2048 .f32) (w : FVec Ideal S4x2048x3072 .f32) : FVec Ideal S8x3072 .f32 :=
  Host.dotGeneral Cert.Mod2RefIdeal.dot_S8x2048_S2048x3072_S8x3072_1_0_0_1_n_n none x (shapeCast Cert.Mod2RefIdeal.S2048x3072 (extractStridedSlice Cert.Mod2RefIdeal.S1x2048x3072 ![2, 0, 0] w Cert.Mod2RefIdeal.Gen.slices_S4x2048x3072_S1x2048x3072_2_0_0) Cert.Mod2RefIdeal.Gen.shapeCasts_S1x2048x3072_S2048x3072)

theorem idx : ∀ t : Fin cfg0.N, win0_0.index t = ![0, 0] ∧ win0_1.index t = ![2, 0, t.val] ∧ win0_2.index t = ![0, t.val] :=
  (by decide +kernel : ∀ t : Fin grid0.N, _)

theorem point (c : Dev nD) (t : Fin cfg0.N) (y) :
    k0_pay1 (iblk m c 0 t) (iblk m c 1 t) y = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Mod2Ideal.Tiles

namespace Cert.Mod3Ideal.Tiles

open Cert.Mod3Ideal Cert.Mod3Ideal.Gen

variable (m : (ℓ : Loc nD τ sig) → Buf (Elt Ideal) ℓ)

/-- The reference's product with layer 3's weight. -/
abbrev target (x : FVec Ideal S8x2048 .f32) (w : FVec Ideal S4x2048x3072 .f32) : FVec Ideal S8x3072 .f32 :=
  Host.dotGeneral Cert.Mod3RefIdeal.dot_S8x2048_S2048x3072_S8x3072_1_0_0_1_n_n none x (shapeCast Cert.Mod3RefIdeal.S2048x3072 (extractStridedSlice Cert.Mod3RefIdeal.S1x2048x3072 ![3, 0, 0] w Cert.Mod3RefIdeal.Gen.slices_S4x2048x3072_S1x2048x3072_3_0_0) Cert.Mod3RefIdeal.Gen.shapeCasts_S1x2048x3072_S2048x3072)

theorem idx : ∀ t : Fin cfg0.N, win0_0.index t = ![0, 0] ∧ win0_1.index t = ![3, 0, t.val] ∧ win0_2.index t = ![0, t.val] :=
  (by decide +kernel : ∀ t : Fin grid0.N, _)

theorem point (c : Dev nD) (t : Fin cfg0.N) (y) :
    k0_pay1 (iblk m c 0 t) (iblk m c 1 t) y = target (m ((c : Thread nD τ).loc main_arg0)) (m ((c : Thread nD τ).loc main_arg1)) (((cfg0.win 2).blk t).view.emb y) := by
  pointwise [k0_pay1, target]
  blk_point [iblk, V, idx t]

theorem final (c : Dev nD) : (dats m 0 c).arrAt 2 (cfgs 0).N = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.Mod3Ideal.Tiles
end
-- ==== Proof.PointValue.lean ====
/- The rows' activation, the residual, the sink's scaling and the optimiser's step, entry by entry. -/
module

public import proofs.«01_k».proof.Proof.Gen.SiluIdeal.Value
public import proofs.«01_k».proof.Proof.Gen.SiluRefIdeal.Read
public import proofs.«01_k».proof.Proof.Gen.ResidIdeal.Value
public import proofs.«01_k».proof.Proof.Gen.ResidRefIdeal.Read
public import proofs.«01_k».proof.Proof.Gen.SinkIdeal.Value
public import proofs.«01_k».proof.Proof.Gen.SinkRefIdeal.Read
public import proofs.«01_k».proof.Proof.Gen.AdamwIdeal.Value
public import proofs.«01_k».proof.Proof.Gen.AdamwRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SiluIdeal.Tiles

open Cert.SiluIdeal Cert.SiluIdeal.Gen Cert.SiluRefIdeal.Read

variable (m : (ℓ : Loc nD τ sig) → Buf (Elt Ideal) ℓ)

theorem idx : ∀ t : Fin cfg0.N, win0_0.index t = ![0, 0] ∧ win0_1.index t = ![0, 0] :=
  (by decide +kernel : ∀ t : Fin grid0.N, _)

theorem point (c : Dev nD) (t : Fin cfg0.N) (y) :
    k0_pay1 (F := Ideal) (iblk m c 0 t) y = val_main_v0 (F := Ideal) (m ((c : Thread nD τ).loc main_arg0)) (((cfg0.win 1).blk t).view.emb y) := by
  pointwise [k0_pay1, val_main_v0, val_main_call0_v0, val_main_call0_v1, val_main_call0_v2, val_main_call0_v3, val_main_call0_v4, val_main_call0_v5, val_main_call0_cst, val_main_call0_cst_0]
  rw [zero_sub]
  blk_point [iblk, V, idx t]

theorem final (c : Dev nD) : (dats m 0 c).arrAt 1 (cfgs 0).N = val_main_v0 (F := Ideal) (m ((c : Thread nD τ).loc main_arg0)) := by
  refine (dats m 0 c).arrAt_eq_of_covers 1 _ (by decide +kernel) fun t _ y => ?_
  blk_simp
  rw [after0_1]; frame_out
  exact point m c t y

end Cert.SiluIdeal.Tiles

namespace Cert.ResidIdeal.Tiles

open Cert.ResidIdeal Cert.ResidIdeal.Gen Cert.ResidRefIdeal.Read

variable (m : (ℓ : Loc nD τ sig) → Buf (Elt Ideal) ℓ)

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem point (c : Dev nD) (t : Fin cfg0.N) (y) :
    k0_pay1 (F := Ideal) (iblk m c 0 t) (iblk m c 1 t) (iblk m c 2 t) y = val_main_v2 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2]
  blk_point [iblk, V, idx t]

theorem final (c : Dev nD) : (dats m 0 c).arrAt 3 (cfgs 0).N = val_main_v2 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.ResidIdeal.Tiles

namespace Cert.SinkIdeal.Tiles

open Cert.SinkIdeal Cert.SinkIdeal.Gen Cert.SinkRefIdeal.Read

variable (m : (ℓ : Loc nD τ sig) → Buf (Elt Ideal) ℓ)

theorem idx : ∀ t : Fin cfg0.N, win0_0.index t = ![t.val / 2, t.val % 2, 0] ∧ win0_1.index t = ![t.val / 2, t.val % 2, 0] ∧ win0_2.index t = ![t.val / 2, 0, 0] ∧ win0_3.index t = ![t.val / 2, t.val % 2, 0] :=
  (by decide +kernel : ∀ t : Fin grid0.N, _)

theorem point (c : Dev nD) (t : Fin cfg0.N) (y) :
    k0_pay1 (F := Ideal) (iblk m c 0 t) (iblk m c 1 t) (iblk m c 2 t) y = val_main_v9 (F := Ideal) (m ((c : Thread nD τ).loc main_arg0)) (m ((c : Thread nD τ).loc main_arg1)) (m ((c : Thread nD τ).loc main_arg2)) (((cfg0.win 3).blk t).view.emb y) := by
  pointwise [k0_pay1, val_main_v0, val_main_v1, val_main_v2, val_main_v3, val_main_v4, val_main_v5, val_main_v6, val_main_v7, val_main_v8, val_main_v9, val_main_cst, val_main_cst_0]
  rw [zero_sub]
  blk_point [iblk, V, idx t]

theorem final (c : Dev nD) : (dats m 0 c).arrAt 3 (cfgs 0).N = val_main_v9 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.SinkIdeal.Tiles

namespace Cert.AdamwIdeal.Tiles

open Cert.AdamwIdeal Cert.AdamwIdeal.Gen Cert.AdamwRefIdeal.Read

variable (m : (ℓ : Loc nD τ sig) → Buf (Elt Ideal) ℓ)

theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem point_m (c : Dev nD) (t : Fin cfg0.N) (y) :
    k0_pay1 (F := Ideal) (iblk m c 1 t) (iblk m c 2 t) y = val_main_v4 (F := Ideal) (m ((c : Thread nD τ).loc main_arg1)) (m ((c : Thread nD τ).loc main_arg2)) (((cfg0.win 5).blk t).view.emb y) := by
  pointwise [k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  blk_point [iblk, V, idx t]

theorem final_m (c : Dev nD) : (dats m 0 c).arrAt 5 (cfgs 0).N = val_main_v4 (F := Ideal) (m ((c : Thread nD τ).loc main_arg1)) (m ((c : Thread nD τ).loc main_arg2)) := by
  refine (dats m 0 c).arrAt_eq_of_covers 5 _ (by decide +kernel) fun t _ y => ?_
  blk_simp
  rw [after0_5]; frame_out
  exact point_m m c t y

theorem point_v (c : Dev nD) (t : Fin cfg0.N) (y) :
    k0_pay2 (F := Ideal) (iblk m c 1 t) (iblk m c 3 t) y = val_main_v10 (F := Ideal) (m ((c : Thread nD τ).loc main_arg1)) (m ((c : Thread nD τ).loc main_arg3)) (((cfg0.win 6).blk t).view.emb y) := by
  pointwise [k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  blk_point [iblk, V, idx t]

theorem final_v (c : Dev nD) : (dats m 0 c).arrAt 6 (cfgs 0).N = val_main_v10 (F := Ideal) (m ((c : Thread nD τ).loc main_arg1)) (m ((c : Thread nD τ).loc main_arg3)) := by
  refine (dats m 0 c).arrAt_eq_of_covers 6 _ (by decide +kernel) fun t _ y => ?_
  blk_simp
  rw [after0_6]; frame_out
  exact point_v m c t y

theorem point (c : Dev nD) (t : Fin cfg0.N) (y) :
    k0_pay3 (F := Ideal) (iblk m c 0 t) (iblk m c 1 t) (iblk m c 2 t) (iblk m c 3 t) y = val_main_v23 (F := Ideal) (m ((c : Thread nD τ).loc main_arg0)) (m ((c : Thread nD τ).loc main_arg1)) (m ((c : Thread nD τ).loc main_arg2)) (m ((c : Thread nD τ).loc main_arg3)) (((cfg0.win 4).blk t).view.emb y) := by
  pointwise [k0_pay1, k0_pay2, k0_pay3, val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, val_main_cst_6, val_main_cst_7]
  blk_point [iblk, V, idx t]

theorem final (c : Dev nD) : (dats m 0 c).arrAt 4 (cfgs 0).N = val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.AdamwIdeal.Tiles
end
-- ==== Proof.GluValue.lean ====
/- The gated linear unit's forward halves: the smooth activation and its product with the gate, tile by tile. -/
module

public import proofs.«01_k».proof.Proof.Gen.GluZIdeal.Value
public import proofs.«01_k».proof.Proof.Gen.GluZRefIdeal.Read
public import proofs.«01_k».proof.Proof.Gen.GluOutIdeal.Value
public import proofs.«01_k».proof.Proof.Gen.GluOutRefIdeal.Read
public import proofs.«01_k».proof.Proof.MixMath
public import proofs.«01_k».proof.Proof.MixReference
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Glu

/-- The smooth activation and the gate. -/
def smooth (y : EReal) : EReal := Mix.half * y * (1 + Mix.gateTanh y)
def gate (x : EReal) : EReal := Ideal.div 1 (1 + Ideal.exp (-x))

end Glu

namespace Cert.GluZIdeal.Tiles

open Cert.GluZIdeal Cert.GluZIdeal.Gen Cert.GluZRefIdeal.Read Mix Glu

variable (m : (ℓ : Loc nD τ sig) → Buf (Elt Ideal) ℓ)

theorem named_cubic : Named.named (F := Ideal) (φ := .f32) κ "gelu_a" 0x3D372713#32 = cubic := rfl

theorem idx : ∀ t : Fin cfg0.N, win0_0.index t = ![t.val, 0] ∧ win0_1.index t = ![t.val, 0] :=
  (by decide +kernel : ∀ t : Fin grid0.N, _)

theorem tile_apply (x) (j : S1024x1024.Idx) : k0_pay1 (F := Ideal) x j = smooth (x j) := by
  pointwise [k0_pay1, smooth, gateTanh]
  rw [named_cubic]

theorem whole_apply (x) (i : S2048x1024.Idx) : val_main_v14 (F := Ideal) x i = smooth (x i) := by
  pointwise [val_main_v0, val_main_v1, val_main_v2, val_main_v3, val_main_v4, val_main_v5, val_main_v6, val_main_v7, val_main_v8, val_main_v9, val_main_v10, val_main_v11, val_main_v12, val_main_v13, val_main_v14, val_main_cst, val_main_cst_0, val_main_cst_1, val_main_cst_2, val_main_cst_3, smooth, gateTanh]
  rw [Cert.ReferenceIdeal.Columns.cubic_eq]
  simp only [half, scale]
  ac_rfl

theorem final (c : Dev nD) : (dats m 0 c).arrAt 1 (cfgs 0).N = val_main_v14 (F := Ideal) (m ((c : Thread nD τ).loc main_arg0)) := by
  refine (dats m 0 c).arrAt_eq_of_covers 1 _ (by decide +kernel) fun t _ y => ?_
  blk_simp
  rw [after0_1]; frame_out
  refine (tile_apply _ y).trans ((congrArg smooth ?_).trans (whole_apply _ _).symm)
  blk_point [iblk, V, idx t]

end Cert.GluZIdeal.Tiles

namespace Cert.GluOutIdeal.Tiles

open Cert.GluOutIdeal Cert.GluOutIdeal.Gen Cert.GluOutRefIdeal.Read Mix Glu

variable (m : (ℓ : Loc nD τ sig) → Buf (Elt Ideal) ℓ)

theorem named_cubic : Named.named (F := Ideal) (φ := .f32) κ "gelu_a" 0x3D372713#32 = cubic := rfl

theorem idx : ∀ t : Fin cfg0.N, win0_0.index t = ![t.val, 0] ∧ win0_1.index t = ![t.val, 0] ∧ win0_2.index t = ![0, 0] ∧ win0_3.index t = ![t.val, 0] :=
  (by decide +kernel : ∀ t : Fin grid0.N, _)

theorem tile_apply (x g b) (j : S1024x1024.Idx) :
    k0_pay1 (F := Ideal) x g b j = smooth (x j) * gate (g j + b (ix2 0 (j 1))) := by
  pointwise [k0_pay1, smooth, gateTanh, gate]
  rw [named_cubic, zero_sub]

theorem whole_apply (x g b) (i : S2048x1024.Idx) :
    val_main_v23 (F := Ideal) x g b i = smooth (x i) * gate (g i + b (ix2 0 (i 1))) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_cst, val_main_cst_0, val_main_cst_1, val_main_cst_2, val_main_cst_3, val_main_cst_4, val_main_cst_5, smooth, gateTanh, gate]
  rw [Cert.ReferenceIdeal.Columns.cubic_eq]
  simp only [half, scale]
  ac_rfl

variable (c : Dev nD) (t : Fin cfg0.N) (y : S1024x1024.Idx)

theorem block_0 : iblk m c 0 t y = (m ((c : Thread nD τ).loc main_arg0) : FVec Ideal S2048x1024 .f32) (((cfg0.win 3).blk t).view.emb y) := by
  blk_point [iblk, V, idx t]

theorem block_1 : iblk m c 1 t y = (m ((c : Thread nD τ).loc main_arg1) : FVec Ideal S2048x1024 .f32) (((cfg0.win 3).blk t).view.emb y) := by
  blk_point [iblk, V, idx t]

theorem block_2 : iblk m c 2 t (ix2 0 (y 1)) = (m ((c : Thread nD τ).loc main_arg2) : FVec Ideal S1x1024 .f32) (ix2 0 ((((cfg0.win 3).blk t).view.emb y) 1)) := by
  blk_point [iblk, V, idx t]

theorem final : (dats m 0 c).arrAt 3 (cfgs 0).N
    = val_main_v23 (F := Ideal) (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  refine (tile_apply _ _ _ y).trans (Eq.trans ?_ (whole_apply _ _ _ _).symm)
  rw [block_0, block_1, block_2]

end Cert.GluOutIdeal.Tiles
end
-- ==== Proof.GluGrad.lean ====
/- The gradients of the residual and of the gated linear unit's gate: the rows tile by tile, and the sums over the rows, added up from one tile to the next. -/
module

public import proofs.«01_k».proof.Proof.Gen.ResidBIdeal.Value
public import proofs.«01_k».proof.Proof.Gen.ResidBRefIdeal.Read
public import proofs.«01_k».proof.Proof.Gen.GluGateIdeal.Value
public import proofs.«01_k».proof.Proof.Gen.GluGateRefIdeal.Read
public import proofs.«01_k».proof.Proof.GluValue
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ResidBIdeal.Tiles

open Cert.ResidBIdeal Cert.ResidBIdeal.Gen Cert.ResidBRefIdeal.Read

theorem rows_apply (d g) (j : S512x2048.Idx) : k0_pay2 (F := Ideal) d g j = d j * g (ix2 0 (j 1)) := by
  pointwise [k0_pay2]

theorem first_apply (d f) (j : S1x2048.Idx) : k0_pay1 (F := Ideal) d f j = 0 + ∑ k : Fin 512, d (ix2 k (j 1)) * f (ix2 k (j 1)) := by
  pointwise [k0_pay1]

theorem later_apply (d f acc) (j : S1x2048.Idx) : k0_pay3 (F := Ideal) d f acc j = acc j + ∑ k : Fin 512, d (ix2 k (j 1)) * f (ix2 k (j 1)) := by
  pointwise [k0_pay3, k0_pay1]

theorem whole_rows (d g) (i : S2048x2048.Idx) : val_main_v7 (F := Ideal) d g i = d i * g (ix2 0 (i 1)) := by
  pointwise [val_main_v0, val_main_v1, val_main_v2, val_main_v3, val_main_v4, val_main_v5, val_main_v6, val_main_v7, val_main_cst]
  exact mul_comm _ _

theorem whole_sum (d f) (i : S1x2048.Idx) : val_main_v6 (F := Ideal) d f i = ∑ k : Fin 2048, d (ix2 k (i 1)) * f (ix2 k (i 1)) := by
  pointwise [val_main_v0, val_main_v1, val_main_v2, val_main_v3, val_main_v4, val_main_v5, val_main_v6, val_main_v7, val_main_cst]

variable (m : (ℓ : Loc nD τ sig) → Buf (Elt Ideal) ℓ) (c : Dev nD)

theorem idx : ∀ t : Fin cfg0.N, win0_0.index t = ![t.val, 0] ∧ win0_1.index t = ![t.val, 0] ∧ win0_2.index t = ![0, 0]
    ∧ win0_3.index t = ![t.val, 0] ∧ win0_4.index t = ![0, 0] :=
  (by decide +kernel : ∀ t : Fin grid0.N, _)

theorem tiles (t : Fin cfg0.N) : t.val < 4 := t.isLt

theorem out_rows (t : Fin cfg0.N) : (outsAt0 m c t.val t.isLt).1 = k0_pay2 (F := Ideal) (iblk m c 0 t) (iblk m c 2 t) := by
  have := tiles t
  by_cases h : t.val % 4 = 0
  · rw [outsAt0_A m c t h (by omega)]; frame_out
  · rw [outsAt0_B m c t h (by omega)]; frame_out

theorem final : (dats m 0 c).arrAt 3 (cfgs 0).N = val_main_v7 (F := Ideal) (m ((c : Thread nD τ).loc main_arg0)) (m ((c : Thread nD τ).loc main_arg2)) := by
  refine (dats m 0 c).arrAt_eq_of_covers 3 _ (by decide +kernel) fun t _ y => ?_
  blk_simp
  rw [after0_3, out_rows]
  refine (rows_apply _ _ y).trans (Eq.trans ?_ (whole_rows _ _ _).symm)
  blk_point [iblk, V, idx t]

theorem final_sum : (dats m 0 c).arrAt 4 (cfgs 0).N = val_main_v6 (F := Ideal) (m ((c : Thread nD τ).loc main_arg0)) (m ((c : Thread nD τ).loc main_arg1)) := by
  refine (dats m 0 c).arrAt_eq_of_covers 4 _ (by decide +kernel) fun t hf y => ?_
  have := tiles t
  blk_simp
  rw [after0_4]
  rw [Pipeline.eq_sum_fin_of_reset_step_apply_of_flush (fun n h => (outsAt0 m c n h).2) 4 (fun _ => 0) _
    (fun t h j => by have := tiles t; rw [outsAt0_A m c t h (by omega)]; frame_out; rw [first_apply])
    (fun t h j => by rw [outsAt0_B m c t h (by omega)]; frame_out; rw [later_apply])
    t ((flush0_4 t).mp hf) _, zero_add]
  refine Eq.trans ?_ (whole_sum _ _ _).symm
  refine Fin.sum_mul_add_congr fun s k hl => ?_
  blk_point [iblk, V, idx t, idx ⟨_, Pipeline.run_point_lt_of_flush t ((flush0_4 t).mp hf) s⟩]

end Cert.ResidBIdeal.Tiles

namespace Cert.GluGateIdeal.Tiles

open Cert.GluGateIdeal Cert.GluGateIdeal.Gen Cert.GluGateRefIdeal.Read Mix Glu

/-- The gate's cotangent before its activation. -/
def cot (d y x b : EReal) : EReal := d * smooth y * gate (x + b) * (1 - gate (x + b))

theorem named_cubic : Named.named (F := Ideal) (φ := .f32) κ "gelu_a" 0x3D372713#32 = cubic := rfl

theorem cot_apply (d y g b) (j : S256x1024.Idx) : k0_pay2 (F := Ideal) d y g b j = cot (d j) (y j) (g j) (b (ix2 0 (j 1))) := by
  pointwise [k0_pay2, cot, smooth, gateTanh, gate]
  rw [named_cubic, zero_sub]

theorem rows_apply (d y g b) (j : S256x1024.Idx) : k0_pay4 (F := Ideal) d y g b j = cot (d j) (y j) (g j) (b (ix2 0 (j 1))) :=
  (show k0_pay4 (F := Ideal) d y g b j = k0_pay2 (F := Ideal) d y g b j by pointwise [k0_pay4]).trans (cot_apply d y g b j)

theorem first_apply (d y g b) (q : Fin 1024) :
    k0_pay3 (F := Ideal) d y g b (ix2 0 q) = 0 + ∑ k : Fin 256, cot (d (ix2 k q)) (y (ix2 k q)) (g (ix2 k q)) (b (ix2 0 q)) := by
  refine Eq.trans ?_ (congrArg (0 + ·) (Finset.sum_congr rfl fun k _ => cot_apply d y g b (ix2 k q)))
  unfold k0_pay3
  generalize k0_pay2 (F := Ideal) d y g b = z
  pointwise []

theorem later_apply (x acc) (j : S1x1024.Idx) : k0_pay1 (F := Ideal) x acc j = acc j + x j := by
  pointwise [k0_pay1]

theorem whole_rows (d y g b) (i : S2048x1024.Idx) : val_main_v28 (F := Ideal) d y g b i
    = cot (d (ix2 (i 0) ⟨1024 + (i 1).val, by have := (i 1).isLt; simp at this; omega⟩)) (y i) (g i) (b (ix2 0 (i 1))) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_cst, val_main_cst_0, val_main_cst_1, val_main_cst_2, val_main_cst_3, val_main_cst_4, val_main_cst_5, val_main_cst_6, cot, smooth, gateTanh, gate]
  rw [Cert.ReferenceIdeal.Columns.cubic_eq]
  simp only [half, scale]
  ac_rfl

theorem sum_apply (d y g b) (q : Fin 1024) : val_main_v30 (F := Ideal) d y g b (ix2 0 q) = ∑ k : Fin 2048, cot (d (ix2 k ⟨1024 + q.val, by omega⟩)) (y (ix2 k q)) (g (ix2 k q)) (b (ix2 0 q)) := by
  refine Eq.trans ?_ (Finset.sum_congr rfl fun k _ => whole_rows d y g b (ix2 k q))
  unfold val_main_v30 val_main_v29
  generalize val_main_v28 (F := Ideal) d y g b = z
  pointwise [val_main_cst_7]

theorem rows (d y g b) : val_main_v31 (F := Ideal) d y g b = val_main_v28 (F := Ideal) d y g b := rfl

variable (m : (ℓ : Loc nD τ sig) → Buf (Elt Ideal) ℓ) (c : Dev nD)

theorem idx : ∀ t : Fin cfg0.N, win0_0.index t = ![t.val, 1] ∧ win0_1.index t = ![t.val, 0] ∧ win0_2.index t = ![t.val, 0]
    ∧ win0_3.index t = ![0, 0] ∧ win0_4.index t = ![t.val, 0] ∧ win0_5.index t = ![0, 0] :=
  (by decide +kernel : ∀ t : Fin grid0.N, _)

theorem tiles (t : Fin cfg0.N) : t.val < 8 := t.isLt

/-- The row of the array that a tile's row holds. -/
def row (t : Fin cfg0.N) (k : Fin 256) : Fin 2048 := ⟨t.val * 256 + k.val, by have := tiles t; omega⟩

theorem block_0 (t) (k : Fin 256) (q : Fin 1024) : iblk m c 0 t (ix2 k q) = ((m ((c : Thread nD τ).loc main_arg0)) : FVec Ideal S2048x2048 .f32) (ix2 (row t k) ⟨1024 + q.val, by omega⟩) := by
  unfold row
  blk_point [iblk, V, idx t]

theorem block_1 (t) (k : Fin 256) (q : Fin 1024) : iblk m c 1 t (ix2 k q) = ((m ((c : Thread nD τ).loc main_arg1)) : FVec Ideal S2048x1024 .f32) (ix2 (row t k) q) := by
  unfold row
  blk_point [iblk, V, idx t]

theorem block_2 (t) (k : Fin 256) (q : Fin 1024) : iblk m c 2 t (ix2 k q) = ((m ((c : Thread nD τ).loc main_arg2)) : FVec Ideal S2048x1024 .f32) (ix2 (row t k) q) := by
  unfold row
  blk_point [iblk, V, idx t]

theorem block_3 (t) (q : Fin 1024) : iblk m c 3 t (ix2 0 q) = ((m ((c : Thread nD τ).loc main_arg3)) : FVec Ideal S1x1024 .f32) (ix2 0 q) := by
  blk_point [iblk, V, idx t]

theorem place (t : Fin cfg0.N) (k : Fin 256) (q : Fin 1024) : ((cfg0.win 4).blk t).view.emb (ix2 k q) = ix2 (row t k) q := by
  unfold row
  blk_ext [idx t]

theorem place_sum (t : Fin cfg0.N) (q : Fin 1024) : ((cfg0.win 5).blk t).view.emb (ix2 0 q) = ix2 0 q := by
  blk_ext [idx t]

theorem out_rows (t : Fin cfg0.N) : (outsAt0 m c t.val t.isLt).1 = k0_pay4 (F := Ideal) (iblk m c 0 t) (iblk m c 1 t) (iblk m c 2 t) (iblk m c 3 t) := by
  have := tiles t
  by_cases h : t.val % 8 = 0
  · rw [outsAt0_A m c t h (by omega)]; frame_out
  · rw [outsAt0_B m c t h (by omega)]; frame_out

theorem final : (dats m 0 c).arrAt 4 (cfgs 0).N = val_main_v31 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t _ y => ?_
  blk_simp
  rw [after0_4, out_rows, rows]
  obtain ⟨k, q, rfl⟩ : ∃ (k : Fin 256) (q : Fin 1024), y = ix2 k q := ⟨y 0, y 1, (ix2_eta y).symm⟩
  rw [place]
  refine (rows_apply _ _ _ _ (ix2 k q)).trans (Eq.trans ?_ (whole_rows _ _ _ _ (ix2 (row t k) q)).symm)
  show cot (iblk m c 0 t (ix2 k q)) (iblk m c 1 t (ix2 k q)) (iblk m c 2 t (ix2 k q)) (iblk m c 3 t (ix2 0 q)) = _
  rw [block_0, block_1, block_2, block_3]
  rfl

theorem final_sum : (dats m 0 c).arrAt 5 (cfgs 0).N = val_main_v30 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have := tiles t
  blk_simp
  rw [after0_5]
  obtain ⟨q, rfl⟩ : ∃ q : Fin 1024, y = ix2 0 q := ⟨y 1, by rw [← ix2_eta y]; exact congrArg (fun a => ix2 a (y 1)) (Subsingleton.elim (α := Fin 1) _ _)⟩
  rw [place_sum, sum_apply]
  refine (Pipeline.eq_sum_fin_of_reset_step_apply_of_flush (fun n h (q : Fin 1024) => (show EReal from (outsAt0 m c n h).2 (ix2 0 q))) 8 (fun _ => 0)
    (fun t q => ∑ k : Fin 256, cot (iblk m c 0 t (ix2 k q)) (iblk m c 1 t (ix2 k q)) (iblk m c 2 t (ix2 k q)) (iblk m c 3 t (ix2 0 q)))
    (fun t h q => by have := tiles t; dsimp only; rw [outsAt0_A m c t h (by omega)]; frame_out; exact first_apply _ _ _ _ q)
    (fun t h q => by
      dsimp only
      rw [outsAt0_B m c t h (by omega)]; frame_out
      refine (later_apply _ _ _).trans ?_
      rw [first_apply, zero_add])
    t ((flush0_5 t).mp hf) q).trans ((zero_add _).trans ?_)
  refine Fin.sum_mul_add_congr fun s k hl => ?_
  have e : row ⟨8 * (t.val / 8) + s.val, Pipeline.run_point_lt_of_flush t ((flush0_5 t).mp hf) s⟩ k = ⟨s.val * 256 + k.val, hl⟩ :=
    Fin.ext (by show (8 * (t.val / 8) + s.val) * 256 + k.val = s.val * 256 + k.val; omega)
  rw [block_0, block_1, block_2, block_3, e]

end Cert.GluGateIdeal.Tiles
end
-- ==== Proof.GluYValue.lean ====
/- The cotangent of the gated linear unit's smooth input: the kernel groups the activation's derivative, the reference adds it up term by term. -/
module

public import proofs.«01_k».proof.Proof.Gen.GluYIdeal.Value
public import proofs.«01_k».proof.Proof.Gen.GluYRefIdeal.Read
public import proofs.«01_k».proof.Proof.GluValue
public import proofs.«01_k».proof.Proof.MixClaim
public import proofs.«01_k».proof.Proof.Gen.Pre_finite_glu
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Glu

open Mix

/-- The gate of a real number is real. -/
theorem gate_real {x : EReal} (hx : Real' x) : Real' (gate x) := by
  obtain ⟨x, rfl⟩ := hx
  have h : (1 + Real.exp (-x) : ℝ) ≠ 0 := (add_pos one_pos (Real.exp_pos _)).ne'
  refine ⟨1 * (1 / (1 + Real.exp (-x))), ?_⟩
  unfold gate
  rw [← EReal.coe_neg, Ideal.exp_coe, ← EReal.coe_one, ← EReal.coe_add, Ideal.div_coe h, ← EReal.coe_mul]

/-- The cotangent that reaches the activation. -/
def cotY (d x b z : EReal) : EReal := d * gate (x + b) + z

theorem cotY_real {d x b z : EReal} (hd : Real' d) (hx : Real' x) (hb : Real' b) (hz : Real' z) : Real' (cotY d x b z) :=
  (hd.mul (gate_real (hx.add hb))).add hz

end Glu

namespace Cert.GluYIdeal.Tiles

open Cert.GluYIdeal Cert.GluYIdeal.Gen Cert.GluYRefIdeal.Read Mix Glu

theorem named_cubic : Named.named (F := Ideal) (φ := .f32) κ "gelu_a" 0x3D372713#32 = cubic := rfl
theorem named_square : Named.named (F := Ideal) (φ := .f32) κ "gelu_3a" 0x3E095D4F#32 = square := rfl

theorem cot_apply (d x b z) (j : S256x1024.Idx) : k0_pay2 (F := Ideal) d x b z j = cotY (d j) (x j) (b (ix2 0 (j 1))) (z j) := by
  pointwise [k0_pay2, cotY, gate]
  rw [zero_sub]

theorem tanh_apply (y) (j : S256x1024.Idx) : k0_pay3 (F := Ideal) y j = gateTanh (y j) := by
  pointwise [k0_pay3, gateTanh]
  rw [named_cubic]

theorem tile_apply (d y x b z) (j : S256x1024.Idx) :
    k0_pay1 (F := Ideal) (k0_pay2 d x b z) (k0_pay4 y) (k0_pay5 y) (k0_pay6 y) k0_pay7 j = dGate (cotY (d j) (x j) (b (ix2 0 (j 1))) (z j)) 1 (y j) := by
  rw [← cot_apply]
  unfold dGate k0_pay4 k0_pay5
  rw [← tanh_apply, mul_one]
  generalize k0_pay2 (F := Ideal) d x b z = u
  generalize k0_pay3 (F := Ideal) y = t
  pointwise [k0_pay1, k0_pay6, k0_pay7]
  rw [named_square]

theorem whole_cot (d x b z) (i : S2048x1024.Idx) : val_main_v10 (F := Ideal) d x b z i
    = cotY (d (ix2 (i 0) ⟨1024 + (i 1).val, by have := (i 1).isLt; simp at this; omega⟩)) (x i) (b (ix2 0 (i 1))) (z i) := by
  pointwise [val_main_v0, val_main_v1, val_main_v2, val_main_v3, val_main_v4, val_main_v5, val_main_v6, val_main_v7, val_main_v8, val_main_v9, val_main_v10, val_main_cst, val_main_cst_0, cotY, gate]

theorem whole_apply (d y x b z) (i : S2048x1024.Idx) : val_main_v44 (F := Ideal) d y x b z i = dGateSum (val_main_v10 (F := Ideal) d x b z i) 1 (y i) := by
  unfold val_main_v44 val_main_v43 val_main_v42 val_main_v40 val_main_v39 val_main_v37 val_main_v36 val_main_v34 val_main_v33 dGateSum
  rw [mul_one]
  generalize val_main_v10 (F := Ideal) d x b z = u
  pointwise [val_main_v0, val_main_v1, val_main_v2, val_main_v3, val_main_v4, val_main_v5, val_main_v6, val_main_v7, val_main_v8, val_main_v9, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_cst, val_main_cst_0, val_main_cst_1, val_main_cst_2, val_main_cst_3, val_main_cst_4, val_main_cst_5, val_main_cst_6, val_main_cst_7, val_main_cst_8, val_main_cst_9, val_main_cst_10]
  rw [Cert.ReferenceIdeal.Columns.cubic_eq]
  try simp only [half, scale]

/-- The precondition, read: every entry of the five arguments is a real number. -/
theorem reals (d y x b z) (h : ∀ j, Cert.Pre_finite_glu.fn (F := Ideal) d y x b z j = 1#1) :
    (∀ i, Real' (d i)) ∧ (∀ i, Real' (y i)) ∧ (∀ i, Real' (x i)) ∧ (∀ i, Real' (b i)) ∧ (∀ i, Real' (z i)) := by
  have h0 := h ix0
  haveI : Subsingleton Cert.Pre_finite_glu.S_.Idx := ⟨fun _ _ => funext fun k => k.elim0⟩
  dsimp only [Cert.Pre_finite_glu.fn, Cert.Pre_finite_glu.fn_part1] at h0
  obtain ⟨h1, hz⟩ := IntOp.andi_eq_one.1 h0
  obtain ⟨h2, hb⟩ := IntOp.andi_eq_one.1 h1
  obtain ⟨h3, hx⟩ := IntOp.andi_eq_one.1 h2
  obtain ⟨hd, hy⟩ := IntOp.andi_eq_one.1 h3
  exact ⟨fun i => Cert.ReferenceIdeal.Columns.real_of_olt _ (Host.reduce_andi_all _ _ _ _ _ hd i),
    fun i => Cert.ReferenceIdeal.Columns.real_of_olt _ (Host.reduce_andi_all _ _ _ _ _ hy i),
    fun i => Cert.ReferenceIdeal.Columns.real_of_olt _ (Host.reduce_andi_all _ _ _ _ _ hx i),
    fun i => Cert.ReferenceIdeal.Columns.real_of_olt _ (Host.reduce_andi_all _ _ _ _ _ hb i),
    fun i => Cert.ReferenceIdeal.Columns.real_of_olt _ (Host.reduce_andi_all _ _ _ _ _ hz i)⟩

/-- The kernel's grouping, over the whole arrays. -/
def grouped (d : FVec Ideal S2048x2048 .f32) (y x : FVec Ideal S2048x1024 .f32) (b : FVec Ideal S1x1024 .f32) (z : FVec Ideal S2048x1024 .f32) (k : Fin 2048) (q : Fin 1024) : EReal :=
  dGate (cotY (d (ix2 k ⟨1024 + q.val, by omega⟩)) (x (ix2 k q)) (b (ix2 0 q)) (z (ix2 k q))) 1 (y (ix2 k q))

theorem result (d y x b z) (h : ∀ j, Cert.Pre_finite_glu.fn (F := Ideal) d y x b z j = 1#1) :
    val_main_v44 (F := Ideal) d y x b z = fun i : S2048x1024.Idx => grouped d y x b z (i 0) (i 1) := by
  obtain ⟨hd, hy, hx, hb, hz⟩ := reals d y x b z h
  funext i
  obtain ⟨k, q, rfl⟩ : ∃ (k : Fin 2048) (q : Fin 1024), i = ix2 k q := ⟨i 0, i 1, (ix2_eta i).symm⟩
  rw [whole_apply, whole_cot]
  exact (dGate_eq (cotY_real (hd _) (hx _) (hb _) (hz _)) ⟨1, rfl⟩ (hy _)).symm

variable (m : (ℓ : Loc nD τ sig) → Buf (Elt Ideal) ℓ) (c : Dev nD)

theorem idx : ∀ t : Fin cfg0.N, win0_0.index t = ![t.val, 1] ∧ win0_1.index t = ![t.val, 0] ∧ win0_2.index t = ![t.val, 0]
    ∧ win0_3.index t = ![0, 0] ∧ win0_4.index t = ![t.val, 0] ∧ win0_5.index t = ![t.val, 0] :=
  (by decide +kernel : ∀ t : Fin grid0.N, _)

theorem tiles (t : Fin cfg0.N) : t.val < 8 := t.isLt

/-- The row of the array that a tile's row holds. -/
def row (t : Fin cfg0.N) (k : Fin 256) : Fin 2048 := ⟨t.val * 256 + k.val, by have := tiles t; omega⟩

theorem block_0 (t) (k : Fin 256) (q : Fin 1024) : iblk m c 0 t (ix2 k q) = ((m ((c : Thread nD τ).loc main_arg0)) : FVec Ideal S2048x2048 .f32) (ix2 (row t k) ⟨1024 + q.val, by omega⟩) := by
  unfold row
  blk_point [iblk, V, idx t]

theorem block_1 (t) (k : Fin 256) (q : Fin 1024) : iblk m c 1 t (ix2 k q) = ((m ((c : Thread nD τ).loc main_arg1)) : FVec Ideal S2048x1024 .f32) (ix2 (row t k) q) := by
  unfold row
  blk_point [iblk, V, idx t]

theorem block_2 (t) (k : Fin 256) (q : Fin 1024) : iblk m c 2 t (ix2 k q) = ((m ((c : Thread nD τ).loc main_arg2)) : FVec Ideal S2048x1024 .f32) (ix2 (row t k) q) := by
  unfold row
  blk_point [iblk, V, idx t]

theorem block_3 (t) (q : Fin 1024) : iblk m c 3 t (ix2 0 q) = ((m ((c : Thread nD τ).loc main_arg3)) : FVec Ideal S1x1024 .f32) (ix2 0 q) := by
  blk_point [iblk, V, idx t]

theorem block_4 (t) (k : Fin 256) (q : Fin 1024) : iblk m c 4 t (ix2 k q) = ((m ((c : Thread nD τ).loc main_arg4)) : FVec Ideal S2048x1024 .f32) (ix2 (row t k) q) := by
  unfold row
  blk_point [iblk, V, idx t]

theorem place (t : Fin cfg0.N) (k : Fin 256) (q : Fin 1024) : ((cfg0.win 5).blk t).view.emb (ix2 k q) = ix2 (row t k) q := by
  unfold row
  blk_ext [idx t]

theorem final : (dats m 0 c).arrAt 5 (cfgs 0).N = fun i : S2048x1024.Idx => grouped (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) := by
  refine (dats m 0 c).arrAt_eq_of_covers 5 _ (by decide +kernel) fun t _ y => ?_
  blk_simp
  rw [after0_5]; frame_out
  obtain ⟨k, q, rfl⟩ : ∃ (k : Fin 256) (q : Fin 1024), y = ix2 k q := ⟨y 0, y 1, (ix2_eta y).symm⟩
  show _ = (fun i : S2048x1024.Idx => grouped (m ((c : Thread nD τ).loc main_arg0)) (m ((c : Thread nD τ).loc main_arg1)) (m ((c : Thread nD τ).loc main_arg2)) (m ((c : Thread nD τ).loc main_arg3)) (m ((c : Thread nD τ).loc main_arg4)) (i 0) (i 1)) (((cfg0.win 5).blk t).view.emb (ix2 k q))
  rw [place]
  refine (tile_apply _ _ _ _ _ (ix2 k q)).trans ?_
  show dGate (cotY (iblk m c 0 t (ix2 k q)) (iblk m c 2 t (ix2 k q)) (iblk m c 3 t (ix2 0 q)) (iblk m c 4 t (ix2 k q))) 1 (iblk m c 1 t (ix2 k q)) = _
  rw [block_0, block_1, block_2, block_3, block_4]
  rfl

end Cert.GluYIdeal.Tiles
end
-- ==== Proof.FurtherPairs.lean ====
/- The pairs of the modulation, the residual, the gated linear unit, the sink and the optimiser's step: the kernel's run and
   the reference's run end with the same results. -/
module

public import proofs.«01_k».proof.Defs
public import proofs.«01_k».proof.Proof.Gen.AdaDwRefIdeal.Run
public import proofs.«01_k».proof.Proof.Gen.AdaDwRefIdeal.Read
public import proofs.«01_k».proof.Proof.Gen.Mod0RefIdeal.Run
public import proofs.«01_k».proof.Proof.Gen.Mod0RefIdeal.Read
public import proofs.«01_k».proof.Proof.Gen.Mod1RefIdeal.Run
public import proofs.«01_k».proof.Proof.Gen.Mod1RefIdeal.Read
public import proofs.«01_k».proof.Proof.Gen.Mod2RefIdeal.Run
public import proofs.«01_k».proof.Proof.Gen.Mod2RefIdeal.Read
public import proofs.«01_k».proof.Proof.Gen.Mod3RefIdeal.Run
public import proofs.«01_k».proof.Proof.Gen.Mod3RefIdeal.Read
public import proofs.«01_k».proof.Proof.Gen.SiluRefIdeal.Run
public import proofs.«01_k».proof.Proof.Gen.SiluRefIdeal.Read
public import proofs.«01_k».proof.Proof.Gen.ResidRefIdeal.Run
public import proofs.«01_k».proof.Proof.Gen.ResidRefIdeal.Read
public import proofs.«01_k».proof.Proof.Gen.ResidBRefIdeal.Run
public import proofs.«01_k».proof.Proof.Gen.ResidBRefIdeal.Read
public import proofs.«01_k».proof.Proof.Gen.GluZRefIdeal.Run
public import proofs.«01_k».proof.Proof.Gen.GluZRefIdeal.Read
public import proofs.«01_k».proof.Proof.Gen.GluOutRefIdeal.Run
public import proofs.«01_k».proof.Proof.Gen.GluOutRefIdeal.Read
public import proofs.«01_k».proof.Proof.Gen.GluGateRefIdeal.Run
public import proofs.«01_k».proof.Proof.Gen.GluGateRefIdeal.Read
public import proofs.«01_k».proof.Proof.Gen.GluYRefIdeal.Run
public import proofs.«01_k».proof.Proof.Gen.GluYRefIdeal.Read
public import proofs.«01_k».proof.Proof.Gen.SinkRefIdeal.Run
public import proofs.«01_k».proof.Proof.Gen.SinkRefIdeal.Read
public import proofs.«01_k».proof.Proof.Gen.AdamwRefIdeal.Run
public import proofs.«01_k».proof.Proof.Gen.AdamwRefIdeal.Read
public import proofs.«01_k».proof.Proof.ModValue
public import proofs.«01_k».proof.Proof.PointValue
public import proofs.«01_k».proof.Proof.GluValue
public import proofs.«01_k».proof.Proof.GluGrad
public import proofs.«01_k».proof.Proof.GluYValue
public import Idealize.ShloMosaic.Lib.Claim
public import Idealize.ShloMosaic.Lib.Quiescent
public import Idealize.ShloMosaic.Adequacy
public import Idealize.ShloMosaic.Init

@[expose] public section

set_option maxRecDepth 16384

noncomputable section

open Idealize.ShloMosaic Idealize.ShloMosaic.TcCoe Idealize.SL.Sem

namespace Cert.Proof

theorem adaDw : Cert.algebraic_AdaDwIdeal_AdaDwRefIdeal := by
  pair_intro
  · run_from Cert.AdaDwIdeal.Gen.run_main m g
  · run_from Cert.AdaDwRefIdeal.Value.run m' g'
    exact (Cert.AdaDwIdeal.Tiles.final m c).symm

theorem adaDw_reference : Cert.quiescent_AdaDwRefIdeal := by
  intro m g _
  refine (θ_run Cert.AdaDwRefIdeal.defs _ _).mono (fun r h => ⟨fun c => ?_, sem_eq_zero_of_no_sems (by decide) r.2⟩) (Cert.AdaDwRefIdeal.Value.run (F := Ideal) m g)
  have k := h c
  simp only [k, and_self]

theorem mod0 : Cert.algebraic_Mod0Ideal_Mod0RefIdeal := by
  pair_intro
  · run_from Cert.Mod0Ideal.Gen.run_main m g
  · run_from Cert.Mod0RefIdeal.Value.run m' g'
    exact (Cert.Mod0Ideal.Tiles.final m c).symm

theorem mod0_reference : Cert.quiescent_Mod0RefIdeal := by
  intro m g _
  refine (θ_run Cert.Mod0RefIdeal.defs _ _).mono (fun r h => ⟨fun c => ?_, sem_eq_zero_of_no_sems (by decide) r.2⟩) (Cert.Mod0RefIdeal.Value.run (F := Ideal) m g)
  have k := h c
  simp only [k, and_self]

theorem mod1 : Cert.algebraic_Mod1Ideal_Mod1RefIdeal := by
  pair_intro
  · run_from Cert.Mod1Ideal.Gen.run_main m g
  · run_from Cert.Mod1RefIdeal.Value.run m' g'
    exact (Cert.Mod1Ideal.Tiles.final m c).symm

theorem mod1_reference : Cert.quiescent_Mod1RefIdeal := by
  intro m g _
  refine (θ_run Cert.Mod1RefIdeal.defs _ _).mono (fun r h => ⟨fun c => ?_, sem_eq_zero_of_no_sems (by decide) r.2⟩) (Cert.Mod1RefIdeal.Value.run (F := Ideal) m g)
  have k := h c
  simp only [k, and_self]

theorem mod2 : Cert.algebraic_Mod2Ideal_Mod2RefIdeal := by
  pair_intro
  · run_from Cert.Mod2Ideal.Gen.run_main m g
  · run_from Cert.Mod2RefIdeal.Value.run m' g'
    exact (Cert.Mod2Ideal.Tiles.final m c).symm

theorem mod2_reference : Cert.quiescent_Mod2RefIdeal := by
  intro m g _
  refine (θ_run Cert.Mod2RefIdeal.defs _ _).mono (fun r h => ⟨fun c => ?_, sem_eq_zero_of_no_sems (by decide) r.2⟩) (Cert.Mod2RefIdeal.Value.run (F := Ideal) m g)
  have k := h c
  simp only [k, and_self]

theorem mod3 : Cert.algebraic_Mod3Ideal_Mod3RefIdeal := by
  pair_intro
  · run_from Cert.Mod3Ideal.Gen.run_main m g
  · run_from Cert.Mod3RefIdeal.Value.run m' g'
    exact (Cert.Mod3Ideal.Tiles.final m c).symm

theorem mod3_reference : Cert.quiescent_Mod3RefIdeal := by
  intro m g _
  refine (θ_run Cert.Mod3RefIdeal.defs _ _).mono (fun r h => ⟨fun c => ?_, sem_eq_zero_of_no_sems (by decide) r.2⟩) (Cert.Mod3RefIdeal.Value.run (F := Ideal) m g)
  have k := h c
  simp only [k, and_self]

theorem silu : Cert.algebraic_SiluIdeal_SiluRefIdeal := by
  pair_intro
  · run_from Cert.SiluIdeal.Gen.run_main m g
  · run_from Cert.SiluRefIdeal.Value.run m' g'
    refine (Cert.SiluRefIdeal.Read.val_main_v0_eq _).trans (Eq.trans ?_ (Cert.SiluIdeal.Tiles.final m c).symm)
    rfl

theorem silu_reference : Cert.quiescent_SiluRefIdeal := by
  intro m g _
  refine (θ_run Cert.SiluRefIdeal.defs _ _).mono (fun r h => ⟨fun c => ?_, sem_eq_zero_of_no_sems (by decide) r.2⟩) (Cert.SiluRefIdeal.Value.run (F := Ideal) m g)
  have k := h c
  simp only [k, and_self]

theorem resid : Cert.algebraic_ResidIdeal_ResidRefIdeal := by
  pair_intro
  · run_from Cert.ResidIdeal.Gen.run_main m g
  · run_from Cert.ResidRefIdeal.Value.run m' g'
    refine (Cert.ResidRefIdeal.Read.val_main_v2_eq _ _ _).trans (Eq.trans ?_ (Cert.ResidIdeal.Tiles.final m c).symm)
    rfl

theorem resid_reference : Cert.quiescent_ResidRefIdeal := by
  intro m g _
  refine (θ_run Cert.ResidRefIdeal.defs _ _).mono (fun r h => ⟨fun c => ?_, sem_eq_zero_of_no_sems (by decide) r.2⟩) (Cert.ResidRefIdeal.Value.run (F := Ideal) m g)
  have k := h c
  simp only [k, and_self]

theorem residB : Cert.algebraic_ResidBIdeal_ResidBRefIdeal := by
  pair_intro
  · run_from Cert.ResidBIdeal.Gen.run_main m g
  · refine θ_run_mono (Cert.ResidBRefIdeal.Value.run m' g') fun r h c => ?_
    obtain ⟨h0, h1, args⟩ := h c
    refine ⟨h0.trans ?_, h1.trans ?_, args⟩
    · refine (Cert.ResidBRefIdeal.Read.val_main_v7_eq _ _).trans (Eq.trans ?_ (Cert.ResidBIdeal.Tiles.final m c).symm)
      show Cert.ResidBRefIdeal.Read.val_main_v7 (F := Ideal) (m' ((c.tc : Thread Cert.ResidBRefIdeal.nD Cert.ResidBRefIdeal.τ).loc Cert.ResidBRefIdeal.main_arg0)) (m' ((c.tc : Thread Cert.ResidBRefIdeal.nD Cert.ResidBRefIdeal.τ).loc Cert.ResidBRefIdeal.main_arg2)) = _
      rw [(hagree c).1, (hagree c).2.2]
    · refine (Cert.ResidBRefIdeal.Read.val_main_v6_eq _ _).trans (Eq.trans ?_ (Cert.ResidBIdeal.Tiles.final_sum m c).symm)
      show Cert.ResidBRefIdeal.Read.val_main_v6 (F := Ideal) (m' ((c.tc : Thread Cert.ResidBRefIdeal.nD Cert.ResidBRefIdeal.τ).loc Cert.ResidBRefIdeal.main_arg0)) (m' ((c.tc : Thread Cert.ResidBRefIdeal.nD Cert.ResidBRefIdeal.τ).loc Cert.ResidBRefIdeal.main_arg1)) = _
      rw [(hagree c).1, (hagree c).2.1]

theorem residB_reference : Cert.quiescent_ResidBRefIdeal := by
  intro m g _
  refine (θ_run Cert.ResidBRefIdeal.defs _ _).mono (fun r h => ⟨fun c => ?_, sem_eq_zero_of_no_sems (by decide) r.2⟩) (Cert.ResidBRefIdeal.Value.run (F := Ideal) m g)
  have k := h c
  simp only [k, and_self]

theorem gluZ : Cert.algebraic_GluZIdeal_GluZRefIdeal := by
  pair_intro
  · run_from Cert.GluZIdeal.Gen.run_main m g
  · run_from Cert.GluZRefIdeal.Value.run m' g'
    refine (Cert.GluZRefIdeal.Read.val_main_v14_eq _).trans (Eq.trans ?_ (Cert.GluZIdeal.Tiles.final m c).symm)
    rfl

theorem gluZ_reference : Cert.quiescent_GluZRefIdeal := by
  intro m g _
  refine (θ_run Cert.GluZRefIdeal.defs _ _).mono (fun r h => ⟨fun c => ?_, sem_eq_zero_of_no_sems (by decide) r.2⟩) (Cert.GluZRefIdeal.Value.run (F := Ideal) m g)
  have k := h c
  simp only [k, and_self]

theorem gluOut : Cert.algebraic_GluOutIdeal_GluOutRefIdeal := by
  pair_intro
  · run_from Cert.GluOutIdeal.Gen.run_main m g
  · run_from Cert.GluOutRefIdeal.Value.run m' g'
    refine (Cert.GluOutRefIdeal.Read.val_main_v23_eq _ _ _).trans (Eq.trans ?_ (Cert.GluOutIdeal.Tiles.final m c).symm)
    rfl

theorem gluOut_reference : Cert.quiescent_GluOutRefIdeal := by
  intro m g _
  refine (θ_run Cert.GluOutRefIdeal.defs _ _).mono (fun r h => ⟨fun c => ?_, sem_eq_zero_of_no_sems (by decide) r.2⟩) (Cert.GluOutRefIdeal.Value.run (F := Ideal) m g)
  have k := h c
  simp only [k, and_self]

theorem gluGate : Cert.algebraic_GluGateIdeal_GluGateRefIdeal := by
  pair_intro
  · run_from Cert.GluGateIdeal.Gen.run_main m g
  · refine θ_run_mono (Cert.GluGateRefIdeal.Value.run m' g') fun r h c => ?_
    obtain ⟨h0, h1, args⟩ := h c
    refine ⟨h0.trans ?_, h1.trans ?_, args⟩
    · refine (Cert.GluGateRefIdeal.Read.val_main_v31_eq _ _ _ _).trans (Eq.trans ?_ (Cert.GluGateIdeal.Tiles.final m c).symm)
      show Cert.GluGateRefIdeal.Read.val_main_v31 (F := Ideal) (m' ((c.tc : Thread Cert.GluGateRefIdeal.nD Cert.GluGateRefIdeal.τ).loc Cert.GluGateRefIdeal.main_arg0)) (m' ((c.tc : Thread Cert.GluGateRefIdeal.nD Cert.GluGateRefIdeal.τ).loc Cert.GluGateRefIdeal.main_arg1)) (m' ((c.tc : Thread Cert.GluGateRefIdeal.nD Cert.GluGateRefIdeal.τ).loc Cert.GluGateRefIdeal.main_arg2)) (m' ((c.tc : Thread Cert.GluGateRefIdeal.nD Cert.GluGateRefIdeal.τ).loc Cert.GluGateRefIdeal.main_arg3)) = _
      rw [(hagree c).1, (hagree c).2.1, (hagree c).2.2.1, (hagree c).2.2.2]
    · refine (Cert.GluGateRefIdeal.Read.val_main_v30_eq _ _ _ _).trans (Eq.trans ?_ (Cert.GluGateIdeal.Tiles.final_sum m c).symm)
      show Cert.GluGateRefIdeal.Read.val_main_v30 (F := Ideal) (m' ((c.tc : Thread Cert.GluGateRefIdeal.nD Cert.GluGateRefIdeal.τ).loc Cert.GluGateRefIdeal.main_arg0)) (m' ((c.tc : Thread Cert.GluGateRefIdeal.nD Cert.GluGateRefIdeal.τ).loc Cert.GluGateRefIdeal.main_arg1)) (m' ((c.tc : Thread Cert.GluGateRefIdeal.nD Cert.GluGateRefIdeal.τ).loc Cert.GluGateRefIdeal.main_arg2)) (m' ((c.tc : Thread Cert.GluGateRefIdeal.nD Cert.GluGateRefIdeal.τ).loc Cert.GluGateRefIdeal.main_arg3)) = _
      rw [(hagree c).1, (hagree c).2.1, (hagree c).2.2.1, (hagree c).2.2.2]

theorem gluGate_reference : Cert.quiescent_GluGateRefIdeal := by
  intro m g _
  refine (θ_run Cert.GluGateRefIdeal.defs _ _).mono (fun r h => ⟨fun c => ?_, sem_eq_zero_of_no_sems (by decide) r.2⟩) (Cert.GluGateRefIdeal.Value.run (F := Ideal) m g)
  have k := h c
  simp only [k, and_self]

theorem gluY : Cert.algebraic_GluYIdeal_GluYRefIdeal_pre_finite_glu := by
  pair_intro
  · run_from Cert.GluYIdeal.Gen.run_main m g
  · have fin := fun c => Cert.GluYIdeal.Tiles.result _ _ _ _ _ (fun j => congrFun (hpre c) j)
    run_from Cert.GluYRefIdeal.Value.run m' g'
    refine (Cert.GluYRefIdeal.Read.val_main_v44_eq m' c).trans (Eq.trans ?_ (Cert.GluYIdeal.Tiles.final m c).symm)
    show Cert.GluYRefIdeal.Read.val_main_v44 (F := Ideal) (m' ((c.tc : Thread Cert.GluYRefIdeal.nD Cert.GluYRefIdeal.τ).loc Cert.GluYRefIdeal.main_arg0)) (m' ((c.tc : Thread Cert.GluYRefIdeal.nD Cert.GluYRefIdeal.τ).loc Cert.GluYRefIdeal.main_arg1)) (m' ((c.tc : Thread Cert.GluYRefIdeal.nD Cert.GluYRefIdeal.τ).loc Cert.GluYRefIdeal.main_arg2)) (m' ((c.tc : Thread Cert.GluYRefIdeal.nD Cert.GluYRefIdeal.τ).loc Cert.GluYRefIdeal.main_arg3)) (m' ((c.tc : Thread Cert.GluYRefIdeal.nD Cert.GluYRefIdeal.τ).loc Cert.GluYRefIdeal.main_arg4)) = _
    rw [(hagree c).1, (hagree c).2.1, (hagree c).2.2.1, (hagree c).2.2.2.1, (hagree c).2.2.2.2]
    exact fin c

theorem gluY_reference : Cert.quiescent_GluYRefIdeal := by
  intro m g _
  refine (θ_run Cert.GluYRefIdeal.defs _ _).mono (fun r h => ⟨fun c => ?_, sem_eq_zero_of_no_sems (by decide) r.2⟩) (Cert.GluYRefIdeal.Value.run (F := Ideal) m g)
  have k := h c
  simp only [k, and_self]

theorem sink : Cert.algebraic_SinkIdeal_SinkRefIdeal := by
  pair_intro
  · run_from Cert.SinkIdeal.Gen.run_main m g
  · run_from Cert.SinkRefIdeal.Value.run m' g'
    refine (Cert.SinkRefIdeal.Read.val_main_v9_eq _ _ _).trans (Eq.trans ?_ (Cert.SinkIdeal.Tiles.final m c).symm)
    rfl

theorem sink_reference : Cert.quiescent_SinkRefIdeal := by
  intro m g _
  refine (θ_run Cert.SinkRefIdeal.defs _ _).mono (fun r h => ⟨fun c => ?_, sem_eq_zero_of_no_sems (by decide) r.2⟩) (Cert.SinkRefIdeal.Value.run (F := Ideal) m g)
  have k := h c
  simp only [k, and_self]

theorem adamw : Cert.algebraic_AdamwIdeal_AdamwRefIdeal := by
  pair_intro
  · run_from Cert.AdamwIdeal.Gen.run_main m g
  · run_from Cert.AdamwRefIdeal.Value.run m' g'
    · refine (Cert.AdamwRefIdeal.Read.val_main_v23_eq _ _ _ _).trans (Eq.trans ?_ (Cert.AdamwIdeal.Tiles.final m c).symm)
      rfl
    · refine (Cert.AdamwRefIdeal.Read.val_main_v4_eq _ _).trans (Eq.trans ?_ (Cert.AdamwIdeal.Tiles.final_m m c).symm)
      rfl
    · refine (Cert.AdamwRefIdeal.Read.val_main_v10_eq _ _).trans (Eq.trans ?_ (Cert.AdamwIdeal.Tiles.final_v m c).symm)
      rfl

theorem adamw_reference : Cert.quiescent_AdamwRefIdeal := by
  intro m g _
  refine (θ_run Cert.AdamwRefIdeal.defs _ _).mono (fun r h => ⟨fun c => ?_, sem_eq_zero_of_no_sems (by decide) r.2⟩) (Cert.AdamwRefIdeal.Value.run (F := Ideal) m g)
  have k := h c
  simp only [k, and_self]

theorem named_gluZ : Cert.preserves_GluZ_GluZIdeal :=
  IdealRules.named_const.statement Cert.GluZIdeal.κ "gelu_a" .f32 0x3D372713#32 ((8943 / 200000 : ℝ) : EReal) rfl

theorem named_gluOut : Cert.preserves_GluOut_GluOutIdeal :=
  IdealRules.named_const.statement Cert.GluOutIdeal.κ "gelu_a" .f32 0x3D372713#32 ((8943 / 200000 : ℝ) : EReal) rfl

theorem named_gluGate : Cert.preserves_GluGate_GluGateIdeal :=
  IdealRules.named_const.statement Cert.GluGateIdeal.κ "gelu_a" .f32 0x3D372713#32 ((8943 / 200000 : ℝ) : EReal) rfl

theorem named_gluY : Cert.preserves_GluY_GluYIdeal :=
  ⟨IdealRules.named_const.statement Cert.GluYIdeal.κ "gelu_a" .f32 0x3D372713#32 ((8943 / 200000 : ℝ) : EReal) rfl,
    IdealRules.named_const.statement Cert.GluYIdeal.κ "gelu_3a" .f32 0x3E095D4F#32 ((26829 / 200000 : ℝ) : EReal) rfl⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Dwo
public import proofs.«01_k».proof.Proof.Gen.Dwo.Skeleton
public import proofs.«01_k».proof.Proof.Gen.Dwo.Launch
public import proofs.«01_k».proof.Proof.Gen.Dwo.Points
public import proofs.«01_k».proof.Proof.Gen.Dwo.Frame
public import proofs.«01_k».proof.Proof.Gen.DwoIdeal
public import proofs.«01_k».proof.Proof.Gen.DwoIdeal.Skeleton
public import proofs.«01_k».proof.Proof.Gen.DwoIdeal.Launch
public import proofs.«01_k».proof.Proof.Gen.DwoIdeal.Points
public import proofs.«01_k».proof.Proof.Gen.DwoIdeal.Frame
public import proofs.«01_k».proof.Proof.Gen.DwoIdeal.Value
public import proofs.«01_k».proof.Proof.Gen.DwoRefIdeal
public import proofs.«01_k».proof.Proof.Gen.DwoRefIdeal.Run
public import proofs.«01_k».proof.Proof.Gen.DwoRefIdeal.Read
public import proofs.«01_k».proof.Proof.Gen.Dwi
public import proofs.«01_k».proof.Proof.Gen.Dwi.Skeleton
public import proofs.«01_k».proof.Proof.Gen.Dwi.Launch
public import proofs.«01_k».proof.Proof.Gen.Dwi.Points
public import proofs.«01_k».proof.Proof.Gen.Dwi.Frame
public import proofs.«01_k».proof.Proof.Gen.DwiIdeal
public import proofs.«01_k».proof.Proof.Gen.DwiIdeal.Skeleton
public import proofs.«01_k».proof.Proof.Gen.DwiIdeal.Launch
public import proofs.«01_k».proof.Proof.Gen.DwiIdeal.Points
public import proofs.«01_k».proof.Proof.Gen.DwiIdeal.Frame
public import proofs.«01_k».proof.Proof.Gen.DwiIdeal.Value
public import proofs.«01_k».proof.Proof.Gen.DwiRefIdeal
public import proofs.«01_k».proof.Proof.Gen.DwiRefIdeal.Run
public import proofs.«01_k».proof.Proof.Gen.DwiRefIdeal.Read
public import proofs.«01_k».proof.Proof.Gen.Act
public import proofs.«01_k».proof.Proof.Gen.Act.Skeleton
public import proofs.«01_k».proof.Proof.Gen.Act.Launch
public import proofs.«01_k».proof.Proof.Gen.Act.Points
public import proofs.«01_k».proof.Proof.Gen.Act.Frame
public import proofs.«01_k».proof.Proof.Gen.ActIdeal
public import proofs.«01_k».proof.Proof.Gen.ActIdeal.Skeleton
public import proofs.«01_k».proof.Proof.Gen.ActIdeal.Launch
public import proofs.«01_k».proof.Proof.Gen.ActIdeal.Points
public import proofs.«01_k».proof.Proof.Gen.ActIdeal.Frame
public import proofs.«01_k».proof.Proof.Gen.ActIdeal.Value
public import proofs.«01_k».proof.Proof.Gen.ActRefIdeal
public import proofs.«01_k».proof.Proof.Gen.ActRefIdeal.Run
public import proofs.«01_k».proof.Proof.Gen.ActRefIdeal.Read
public import proofs.«01_k».proof.Proof.Gen.Dact0
public import proofs.«01_k».proof.Proof.Gen.Dact0.Skeleton
public import proofs.«01_k».proof.Proof.Gen.Dact0.Launch
public import proofs.«01_k».proof.Proof.Gen.Dact0.Points
public import proofs.«01_k».proof.Proof.Gen.Dact0.Frame
public import proofs.«01_k».proof.Proof.Gen.Dact0Ideal
public import proofs.«01_k».proof.Proof.Gen.Dact0Ideal.Skeleton
public import proofs.«01_k».proof.Proof.Gen.Dact0Ideal.Launch
public import proofs.«01_k».proof.Proof.Gen.Dact0Ideal.Points
public import proofs.«01_k».proof.Proof.Gen.Dact0Ideal.Frame
public import proofs.«01_k».proof.Proof.Gen.Dact0Ideal.Value
public import proofs.«01_k».proof.Proof.Gen.Dact0RefIdeal
public import proofs.«01_k».proof.Proof.Gen.Dact0RefIdeal.Run
public import proofs.«01_k».proof.Proof.Gen.Dact0RefIdeal.Read
public import proofs.«01_k».proof.Proof.Gen.Dh0
public import proofs.«01_k».proof.Proof.Gen.Dh0.Skeleton
public import proofs.«01_k».proof.Proof.Gen.Dh0.Launch
public import proofs.«01_k».proof.Proof.Gen.Dh0.Points
public import proofs.«01_k».proof.Proof.Gen.Dh0.Frame
public import proofs.«01_k».proof.Proof.Gen.Dh0Ideal
public import proofs.«01_k».proof.Proof.Gen.Dh0Ideal.Skeleton
public import proofs.«01_k».proof.Proof.Gen.Dh0Ideal.Launch
public import proofs.«01_k».proof.Proof.Gen.Dh0Ideal.Points
public import proofs.«01_k».proof.Proof.Gen.Dh0Ideal.Frame
public import proofs.«01_k».proof.Proof.Gen.Dh0Ideal.Value
public import proofs.«01_k».proof.Proof.Gen.Dh0RefIdeal
public import proofs.«01_k».proof.Proof.Gen.Dh0RefIdeal.Run
public import proofs.«01_k».proof.Proof.Gen.Dh0RefIdeal.Read
public import proofs.«01_k».proof.Proof.Gen.In0
public import proofs.«01_k».proof.Proof.Gen.In0.Skeleton
public import proofs.«01_k».proof.Proof.Gen.In0.Launch
public import proofs.«01_k».proof.Proof.Gen.In0.Points
public import proofs.«01_k».proof.Proof.Gen.In0.Frame
public import proofs.«01_k».proof.Proof.Gen.In0Ideal
public import proofs.«01_k».proof.Proof.Gen.In0Ideal.Skeleton
public import proofs.«01_k».proof.Proof.Gen.In0Ideal.Launch
public import proofs.«01_k».proof.Proof.Gen.In0Ideal.Points
public import proofs.«01_k».proof.Proof.Gen.In0Ideal.Frame
public import proofs.«01_k».proof.Proof.Gen.In0Ideal.Value
public import proofs.«01_k».proof.Proof.Gen.In0RefIdeal
public import proofs.«01_k».proof.Proof.Gen.In0RefIdeal.Run
public import proofs.«01_k».proof.Proof.Gen.In0RefIdeal.Read
public import proofs.«01_k».proof.Proof.Gen.Out0
public import proofs.«01_k».proof.Proof.Gen.Out0.Skeleton
public import proofs.«01_k».proof.Proof.Gen.Out0.Launch
public import proofs.«01_k».proof.Proof.Gen.Out0.Points
public import proofs.«01_k».proof.Proof.Gen.Out0.Frame
public import proofs.«01_k».proof.Proof.Gen.Out0Ideal
public import proofs.«01_k».proof.Proof.Gen.Out0Ideal.Skeleton
public import proofs.«01_k».proof.Proof.Gen.Out0Ideal.Launch
public import proofs.«01_k».proof.Proof.Gen.Out0Ideal.Points
public import proofs.«01_k».proof.Proof.Gen.Out0Ideal.Frame
public import proofs.«01_k».proof.Proof.Gen.Out0Ideal.Value
public import proofs.«01_k».proof.Proof.Gen.Out0RefIdeal
public import proofs.«01_k».proof.Proof.Gen.Out0RefIdeal.Run
public import proofs.«01_k».proof.Proof.Gen.Out0RefIdeal.Read
public import proofs.«01_k».proof.Proof.Gen.Dact1
public import proofs.«01_k».proof.Proof.Gen.Dact1.Skeleton
public import proofs.«01_k».proof.Proof.Gen.Dact1.Launch
public import proofs.«01_k».proof.Proof.Gen.Dact1.Points
public import proofs.«01_k».proof.Proof.Gen.Dact1.Frame
public import proofs.«01_k».proof.Proof.Gen.Dact1Ideal
public import proofs.«01_k».proof.Proof.Gen.Dact1Ideal.Skeleton
public import proofs.«01_k».proof.Proof.Gen.Dact1Ideal.Launch
public import proofs.«01_k».proof.Proof.Gen.Dact1Ideal.Points
public import proofs.«01_k».proof.Proof.Gen.Dact1Ideal.Frame
public import proofs.«01_k».proof.Proof.Gen.Dact1Ideal.Value
public import proofs.«01_k».proof.Proof.Gen.Dact1RefIdeal
public import proofs.«01_k».proof.Proof.Gen.Dact1RefIdeal.Run
public import proofs.«01_k».proof.Proof.Gen.Dact1RefIdeal.Read
public import proofs.«01_k».proof.Proof.Gen.Dh1
public import proofs.«01_k».proof.Proof.Gen.Dh1.Skeleton
public import proofs.«01_k».proof.Proof.Gen.Dh1.Launch
public import proofs.«01_k».proof.Proof.Gen.Dh1.Points
public import proofs.«01_k».proof.Proof.Gen.Dh1.Frame
public import proofs.«01_k».proof.Proof.Gen.Dh1Ideal
public import proofs.«01_k».proof.Proof.Gen.Dh1Ideal.Skeleton
public import proofs.«01_k».proof.Proof.Gen.Dh1Ideal.Launch
public import proofs.«01_k».proof.Proof.Gen.Dh1Ideal.Points
public import proofs.«01_k».proof.Proof.Gen.Dh1Ideal.Frame
public import proofs.«01_k».proof.Proof.Gen.Dh1Ideal.Value
public import proofs.«01_k».proof.Proof.Gen.Dh1RefIdeal
public import proofs.«01_k».proof.Proof.Gen.Dh1RefIdeal.Run
public import proofs.«01_k».proof.Proof.Gen.Dh1RefIdeal.Read
public import proofs.«01_k».proof.Proof.Gen.In1
public import proofs.«01_k».proof.Proof.Gen.In1.Skeleton
public import proofs.«01_k».proof.Proof.Gen.In1.Launch
public import proofs.«01_k».proof.Proof.Gen.In1.Points
public import proofs.«01_k».proof.Proof.Gen.In1.Frame
public import proofs.«01_k».proof.Proof.Gen.In1Ideal
public import proofs.«01_k».proof.Proof.Gen.In1Ideal.Skeleton
public import proofs.«01_k».proof.Proof.Gen.In1Ideal.Launch
public import proofs.«01_k».proof.Proof.Gen.In1Ideal.Points
public import proofs.«01_k».proof.Proof.Gen.In1Ideal.Frame
public import proofs.«01_k».proof.Proof.Gen.In1Ideal.Value
public import proofs.«01_k».proof.Proof.Gen.In1RefIdeal
public import proofs.«01_k».proof.Proof.Gen.In1RefIdeal.Run
public import proofs.«01_k».proof.Proof.Gen.In1RefIdeal.Read
public import proofs.«01_k».proof.Proof.Gen.Out1
public import proofs.«01_k».proof.Proof.Gen.Out1.Skeleton
public import proofs.«01_k».proof.Proof.Gen.Out1.Launch
public import proofs.«01_k».proof.Proof.Gen.Out1.Points
public import proofs.«01_k».proof.Proof.Gen.Out1.Frame
public import proofs.«01_k».proof.Proof.Gen.Out1Ideal
public import proofs.«01_k».proof.Proof.Gen.Out1Ideal.Skeleton
public import proofs.«01_k».proof.Proof.Gen.Out1Ideal.Launch
public import proofs.«01_k».proof.Proof.Gen.Out1Ideal.Points
public import proofs.«01_k».proof.Proof.Gen.Out1Ideal.Frame
public import proofs.«01_k».proof.Proof.Gen.Out1Ideal.Value
public import proofs.«01_k».proof.Proof.Gen.Out1RefIdeal
public import proofs.«01_k».proof.Proof.Gen.Out1RefIdeal.Run
public import proofs.«01_k».proof.Proof.Gen.Out1RefIdeal.Read
public import proofs.«01_k».proof.Proof.Gen.Dact2
public import proofs.«01_k».proof.Proof.Gen.Dact2.Skeleton
public import proofs.«01_k».proof.Proof.Gen.Dact2.Launch
public import proofs.«01_k».proof.Proof.Gen.Dact2.Points
public import proofs.«01_k».proof.Proof.Gen.Dact2.Frame
public import proofs.«01_k».proof.Proof.Gen.Dact2Ideal
public import proofs.«01_k».proof.Proof.Gen.Dact2Ideal.Skeleton
public import proofs.«01_k».proof.Proof.Gen.Dact2Ideal.Launch
public import proofs.«01_k».proof.Proof.Gen.Dact2Ideal.Points
public import proofs.«01_k».proof.Proof.Gen.Dact2Ideal.Frame
public import proofs.«01_k».proof.Proof.Gen.Dact2Ideal.Value
public import proofs.«01_k».proof.Proof.Gen.Dact2RefIdeal
public import proofs.«01_k».proof.Proof.Gen.Dact2RefIdeal.Run
public import proofs.«01_k».proof.Proof.Gen.Dact2RefIdeal.Read
public import proofs.«01_k».proof.Proof.Gen.Dh2
public import proofs.«01_k».proof.Proof.Gen.Dh2.Skeleton
public import proofs.«01_k».proof.Proof.Gen.Dh2.Launch
public import proofs.«01_k».proof.Proof.Gen.Dh2.Points
public import proofs.«01_k».proof.Proof.Gen.Dh2.Frame
public import proofs.«01_k».proof.Proof.Gen.Dh2Ideal
public import proofs.«01_k».proof.Proof.Gen.Dh2Ideal.Skeleton
public import proofs.«01_k».proof.Proof.Gen.Dh2Ideal.Launch
public import proofs.«01_k».proof.Proof.Gen.Dh2Ideal.Points
public import proofs.«01_k».proof.Proof.Gen.Dh2Ideal.Frame
public import proofs.«01_k».proof.Proof.Gen.Dh2Ideal.Value
public import proofs.«01_k».proof.Proof.Gen.Dh2RefIdeal
public import proofs.«01_k».proof.Proof.Gen.Dh2RefIdeal.Run
public import proofs.«01_k».proof.Proof.Gen.Dh2RefIdeal.Read
public import proofs.«01_k».proof.Proof.Gen.In2
public import proofs.«01_k».proof.Proof.Gen.In2.Skeleton
public import proofs.«01_k».proof.Proof.Gen.In2.Launch
public import proofs.«01_k».proof.Proof.Gen.In2.Points
public import proofs.«01_k».proof.Proof.Gen.In2.Frame
public import proofs.«01_k».proof.Proof.Gen.In2Ideal
public import proofs.«01_k».proof.Proof.Gen.In2Ideal.Skeleton
public import proofs.«01_k».proof.Proof.Gen.In2Ideal.Launch
public import proofs.«01_k».proof.Proof.Gen.In2Ideal.Points
public import proofs.«01_k».proof.Proof.Gen.In2Ideal.Frame
public import proofs.«01_k».proof.Proof.Gen.In2Ideal.Value
public import proofs.«01_k».proof.Proof.Gen.In2RefIdeal
public import proofs.«01_k».proof.Proof.Gen.In2RefIdeal.Run
public import proofs.«01_k».proof.Proof.Gen.In2RefIdeal.Read
public import proofs.«01_k».proof.Proof.Gen.Out2
public import proofs.«01_k».proof.Proof.Gen.Out2.Skeleton
public import proofs.«01_k».proof.Proof.Gen.Out2.Launch
public import proofs.«01_k».proof.Proof.Gen.Out2.Points
public import proofs.«01_k».proof.Proof.Gen.Out2.Frame
public import proofs.«01_k».proof.Proof.Gen.Out2Ideal
public import proofs.«01_k».proof.Proof.Gen.Out2Ideal.Skeleton
public import proofs.«01_k».proof.Proof.Gen.Out2Ideal.Launch
public import proofs.«01_k».proof.Proof.Gen.Out2Ideal.Points
public import proofs.«01_k».proof.Proof.Gen.Out2Ideal.Frame
public import proofs.«01_k».proof.Proof.Gen.Out2Ideal.Value
public import proofs.«01_k».proof.Proof.Gen.Out2RefIdeal
public import proofs.«01_k».proof.Proof.Gen.Out2RefIdeal.Run
public import proofs.«01_k».proof.Proof.Gen.Out2RefIdeal.Read
public import proofs.«01_k».proof.Proof.Gen.Dact3
public import proofs.«01_k».proof.Proof.Gen.Dact3.Skeleton
public import proofs.«01_k».proof.Proof.Gen.Dact3.Launch
public import proofs.«01_k».proof.Proof.Gen.Dact3.Points
public import proofs.«01_k».proof.Proof.Gen.Dact3.Frame
public import proofs.«01_k».proof.Proof.Gen.Dact3Ideal
public import proofs.«01_k».proof.Proof.Gen.Dact3Ideal.Skeleton
public import proofs.«01_k».proof.Proof.Gen.Dact3Ideal.Launch
public import proofs.«01_k».proof.Proof.Gen.Dact3Ideal.Points
public import proofs.«01_k».proof.Proof.Gen.Dact3Ideal.Frame
public import proofs.«01_k».proof.Proof.Gen.Dact3Ideal.Value
public import proofs.«01_k».proof.Proof.Gen.Dact3RefIdeal
public import proofs.«01_k».proof.Proof.Gen.Dact3RefIdeal.Run
public import proofs.«01_k».proof.Proof.Gen.Dact3RefIdeal.Read
public import proofs.«01_k».proof.Proof.Gen.Dh3
public import proofs.«01_k».proof.Proof.Gen.Dh3.Skeleton
public import proofs.«01_k».proof.Proof.Gen.Dh3.Launch
public import proofs.«01_k».proof.Proof.Gen.Dh3.Points
public import proofs.«01_k».proof.Proof.Gen.Dh3.Frame
public import proofs.«01_k».proof.Proof.Gen.Dh3Ideal
public import proofs.«01_k».proof.Proof.Gen.Dh3Ideal.Skeleton
public import proofs.«01_k».proof.Proof.Gen.Dh3Ideal.Launch
public import proofs.«01_k».proof.Proof.Gen.Dh3Ideal.Points
public import proofs.«01_k».proof.Proof.Gen.Dh3Ideal.Frame
public import proofs.«01_k».proof.Proof.Gen.Dh3Ideal.Value
public import proofs.«01_k».proof.Proof.Gen.Dh3RefIdeal
public import proofs.«01_k».proof.Proof.Gen.Dh3RefIdeal.Run
public import proofs.«01_k».proof.Proof.Gen.Dh3RefIdeal.Read
public import proofs.«01_k».proof.Proof.Gen.In3
public import proofs.«01_k».proof.Proof.Gen.In3.Skeleton
public import proofs.«01_k».proof.Proof.Gen.In3.Launch
public import proofs.«01_k».proof.Proof.Gen.In3.Points
public import proofs.«01_k».proof.Proof.Gen.In3.Frame
public import proofs.«01_k».proof.Proof.Gen.In3Ideal
public import proofs.«01_k».proof.Proof.Gen.In3Ideal.Skeleton
public import proofs.«01_k».proof.Proof.Gen.In3Ideal.Launch
public import proofs.«01_k».proof.Proof.Gen.In3Ideal.Points
public import proofs.«01_k».proof.Proof.Gen.In3Ideal.Frame
public import proofs.«01_k».proof.Proof.Gen.In3Ideal.Value
public import proofs.«01_k».proof.Proof.Gen.In3RefIdeal
public import proofs.«01_k».proof.Proof.Gen.In3RefIdeal.Run
public import proofs.«01_k».proof.Proof.Gen.In3RefIdeal.Read
public import proofs.«01_k».proof.Proof.Gen.Out3
public import proofs.«01_k».proof.Proof.Gen.Out3.Skeleton
public import proofs.«01_k».proof.Proof.Gen.Out3.Launch
public import proofs.«01_k».proof.Proof.Gen.Out3.Points
public import proofs.«01_k».proof.Proof.Gen.Out3.Frame
public import proofs.«01_k».proof.Proof.Gen.Out3Ideal
public import proofs.«01_k».proof.Proof.Gen.Out3Ideal.Skeleton
public import proofs.«01_k».proof.Proof.Gen.Out3Ideal.Launch
public import proofs.«01_k».proof.Proof.Gen.Out3Ideal.Points
public import proofs.«01_k».proof.Proof.Gen.Out3Ideal.Frame
public import proofs.«01_k».proof.Proof.Gen.Out3Ideal.Value
public import proofs.«01_k».proof.Proof.Gen.Out3RefIdeal
public import proofs.«01_k».proof.Proof.Gen.Out3RefIdeal.Run
public import proofs.«01_k».proof.Proof.Gen.Out3RefIdeal.Read
public import proofs.«01_k».proof.Proof.Gen.MixDw
public import proofs.«01_k».proof.Proof.Gen.MixDw.Skeleton
public import proofs.«01_k».proof.Proof.Gen.MixDw.Launch
public import proofs.«01_k».proof.Proof.Gen.MixDw.Points
public import proofs.«01_k».proof.Proof.Gen.MixDw.Frame
public import proofs.«01_k».proof.Proof.Gen.MixDwIdeal
public import proofs.«01_k».proof.Proof.Gen.MixDwIdeal.Skeleton
public import proofs.«01_k».proof.Proof.Gen.MixDwIdeal.Launch
public import proofs.«01_k».proof.Proof.Gen.MixDwIdeal.Points
public import proofs.«01_k».proof.Proof.Gen.MixDwIdeal.Frame
public import proofs.«01_k».proof.Proof.Gen.MixDwIdeal.Value
public import proofs.«01_k».proof.Proof.Gen.MixDwRefIdeal
public import proofs.«01_k».proof.Proof.Gen.MixDwRefIdeal.Run
public import proofs.«01_k».proof.Proof.Gen.MixDwRefIdeal.Read
public import proofs.«01_k».proof.Proof.Gen.EvDw
public import proofs.«01_k».proof.Proof.Gen.EvDw.Skeleton
public import proofs.«01_k».proof.Proof.Gen.EvDw.Launch
public import proofs.«01_k».proof.Proof.Gen.EvDw.Points
public import proofs.«01_k».proof.Proof.Gen.EvDw.Frame
public import proofs.«01_k».proof.Proof.Gen.EvDwIdeal
public import proofs.«01_k».proof.Proof.Gen.EvDwIdeal.Skeleton
public import proofs.«01_k».proof.Proof.Gen.EvDwIdeal.Launch
public import proofs.«01_k».proof.Proof.Gen.EvDwIdeal.Points
public import proofs.«01_k».proof.Proof.Gen.EvDwIdeal.Frame
public import proofs.«01_k».proof.Proof.Gen.EvDwIdeal.Value
public import proofs.«01_k».proof.Proof.Gen.EvDwRefIdeal
public import proofs.«01_k».proof.Proof.Gen.EvDwRefIdeal.Run
public import proofs.«01_k».proof.Proof.Gen.EvDwRefIdeal.Read
public import proofs.«01_k».proof.Proof.Gen.OdDw
public import proofs.«01_k».proof.Proof.Gen.OdDw.Skeleton
public import proofs.«01_k».proof.Proof.Gen.OdDw.Launch
public import proofs.«01_k».proof.Proof.Gen.OdDw.Points
public import proofs.«01_k».proof.Proof.Gen.OdDw.Frame
public import proofs.«01_k».proof.Proof.Gen.OdDwIdeal
public import proofs.«01_k».proof.Proof.Gen.OdDwIdeal.Skeleton
public import proofs.«01_k».proof.Proof.Gen.OdDwIdeal.Launch
public import proofs.«01_k».proof.Proof.Gen.OdDwIdeal.Points
public import proofs.«01_k».proof.Proof.Gen.OdDwIdeal.Frame
public import proofs.«01_k».proof.Proof.Gen.OdDwIdeal.Value
public import proofs.«01_k».proof.Proof.Gen.OdDwRefIdeal
public import proofs.«01_k».proof.Proof.Gen.OdDwRefIdeal.Run
public import proofs.«01_k».proof.Proof.Gen.OdDwRefIdeal.Read
public import proofs.«01_k».proof.Proof.Gen.GluDw
public import proofs.«01_k».proof.Proof.Gen.GluDw.Skeleton
public import proofs.«01_k».proof.Proof.Gen.GluDw.Launch
public import proofs.«01_k».proof.Proof.Gen.GluDw.Points
public import proofs.«01_k».proof.Proof.Gen.GluDw.Frame
public import proofs.«01_k».proof.Proof.Gen.GluDwIdeal
public import proofs.«01_k».proof.Proof.Gen.GluDwIdeal.Skeleton
public import proofs.«01_k».proof.Proof.Gen.GluDwIdeal.Launch
public import proofs.«01_k».proof.Proof.Gen.GluDwIdeal.Points
public import proofs.«01_k».proof.Proof.Gen.GluDwIdeal.Frame
public import proofs.«01_k».proof.Proof.Gen.GluDwIdeal.Value
public import proofs.«01_k».proof.Proof.Gen.GluDwRefIdeal
public import proofs.«01_k».proof.Proof.Gen.GluDwRefIdeal.Run
public import proofs.«01_k».proof.Proof.Gen.GluDwRefIdeal.Read
public import proofs.«01_k».proof.Proof.Gen.MixD0
public import proofs.«01_k».proof.Proof.Gen.MixD0.Skeleton
public import proofs.«01_k».proof.Proof.Gen.MixD0.Launch
public import proofs.«01_k».proof.Proof.Gen.MixD0.Points
public import proofs.«01_k».proof.Proof.Gen.MixD0.Frame
public import proofs.«01_k».proof.Proof.Gen.MixD0Ideal
public import proofs.«01_k».proof.Proof.Gen.MixD0Ideal.Skeleton
public import proofs.«01_k».proof.Proof.Gen.MixD0Ideal.Launch
public import proofs.«01_k».proof.Proof.Gen.MixD0Ideal.Points
public import proofs.«01_k».proof.Proof.Gen.MixD0Ideal.Frame
public import proofs.«01_k».proof.Proof.Gen.MixD0Ideal.Value
public import proofs.«01_k».proof.Proof.Gen.MixD0RefIdeal
public import proofs.«01_k».proof.Proof.Gen.MixD0RefIdeal.Run
public import proofs.«01_k».proof.Proof.Gen.MixD0RefIdeal.Read
public import proofs.«01_k».proof.Proof.Gen.EvDh0
public import proofs.«01_k».proof.Proof.Gen.EvDh0.Skeleton
public import proofs.«01_k».proof.Proof.Gen.EvDh0.Launch
public import proofs.«01_k».proof.Proof.Gen.EvDh0.Points
public import proofs.«01_k».proof.Proof.Gen.EvDh0.Frame
public import proofs.«01_k».proof.Proof.Gen.EvDh0Ideal
public import proofs.«01_k».proof.Proof.Gen.EvDh0Ideal.Skeleton
public import proofs.«01_k».proof.Proof.Gen.EvDh0Ideal.Launch
public import proofs.«01_k».proof.Proof.Gen.EvDh0Ideal.Points
public import proofs.«01_k».proof.Proof.Gen.EvDh0Ideal.Frame
public import proofs.«01_k».proof.Proof.Gen.EvDh0Ideal.Value
public import proofs.«01_k».proof.Proof.Gen.EvDh0RefIdeal
public import proofs.«01_k».proof.Proof.Gen.EvDh0RefIdeal.Run
public import proofs.«01_k».proof.Proof.Gen.EvDh0RefIdeal.Read
public import proofs.«01_k».proof.Proof.Gen.OdDh0
public import proofs.«01_k».proof.Proof.Gen.OdDh0.Skeleton
public import proofs.«01_k».proof.Proof.Gen.OdDh0.Launch
public import proofs.«01_k».proof.Proof.Gen.OdDh0.Points
public import proofs.«01_k».proof.Proof.Gen.OdDh0.Frame
public import proofs.«01_k».proof.Proof.Gen.OdDh0Ideal
public import proofs.«01_k».proof.Proof.Gen.OdDh0Ideal.Skeleton
public import proofs.«01_k».proof.Proof.Gen.OdDh0Ideal.Launch
public import proofs.«01_k».proof.Proof.Gen.OdDh0Ideal.Points
public import proofs.«01_k».proof.Proof.Gen.OdDh0Ideal.Frame
public import proofs.«01_k».proof.Proof.Gen.OdDh0Ideal.Value
public import proofs.«01_k».proof.Proof.Gen.OdDh0RefIdeal
public import proofs.«01_k».proof.Proof.Gen.OdDh0RefIdeal.Run
public import proofs.«01_k».proof.Proof.Gen.OdDh0RefIdeal.Read
public import proofs.«01_k».proof.Proof.Gen.GluDz0
public import proofs.«01_k».proof.Proof.Gen.GluDz0.Skeleton
public import proofs.«01_k».proof.Proof.Gen.GluDz0.Launch
public import proofs.«01_k».proof.Proof.Gen.GluDz0.Points
public import proofs.«01_k».proof.Proof.Gen.GluDz0.Frame
public import proofs.«01_k».proof.Proof.Gen.GluDz0Ideal
public import proofs.«01_k».proof.Proof.Gen.GluDz0Ideal.Skeleton
public import proofs.«01_k».proof.Proof.Gen.GluDz0Ideal.Launch
public import proofs.«01_k».proof.Proof.Gen.GluDz0Ideal.Points
public import proofs.«01_k».proof.Proof.Gen.GluDz0Ideal.Frame
public import proofs.«01_k».proof.Proof.Gen.GluDz0Ideal.Value
public import proofs.«01_k».proof.Proof.Gen.GluDz0RefIdeal
public import proofs.«01_k».proof.Proof.Gen.GluDz0RefIdeal.Run
public import proofs.«01_k».proof.Proof.Gen.GluDz0RefIdeal.Read
public import proofs.«01_k».proof.Proof.Gen.EvIn0
public import proofs.«01_k».proof.Proof.Gen.EvIn0.Skeleton
public import proofs.«01_k».proof.Proof.Gen.EvIn0.Launch
public import proofs.«01_k».proof.Proof.Gen.EvIn0.Points
public import proofs.«01_k».proof.Proof.Gen.EvIn0.Frame
public import proofs.«01_k».proof.Proof.Gen.EvIn0Ideal
public import proofs.«01_k».proof.Proof.Gen.EvIn0Ideal.Skeleton
public import proofs.«01_k».proof.Proof.Gen.EvIn0Ideal.Launch
public import proofs.«01_k».proof.Proof.Gen.EvIn0Ideal.Points
public import proofs.«01_k».proof.Proof.Gen.EvIn0Ideal.Frame
public import proofs.«01_k».proof.Proof.Gen.EvIn0Ideal.Value
public import proofs.«01_k».proof.Proof.Gen.EvIn0RefIdeal
public import proofs.«01_k».proof.Proof.Gen.EvIn0RefIdeal.Run
public import proofs.«01_k».proof.Proof.Gen.EvIn0RefIdeal.Read
public import proofs.«01_k».proof.Proof.Gen.OdIn0
public import proofs.«01_k».proof.Proof.Gen.OdIn0.Skeleton
public import proofs.«01_k».proof.Proof.Gen.OdIn0.Launch
public import proofs.«01_k».proof.Proof.Gen.OdIn0.Points
public import proofs.«01_k».proof.Proof.Gen.OdIn0.Frame
public import proofs.«01_k».proof.Proof.Gen.OdIn0Ideal
public import proofs.«01_k».proof.Proof.Gen.OdIn0Ideal.Skeleton
public import proofs.«01_k».proof.Proof.Gen.OdIn0Ideal.Launch
public import proofs.«01_k».proof.Proof.Gen.OdIn0Ideal.Points
public import proofs.«01_k».proof.Proof.Gen.OdIn0Ideal.Frame
public import proofs.«01_k».proof.Proof.Gen.OdIn0Ideal.Value
public import proofs.«01_k».proof.Proof.Gen.OdIn0RefIdeal
public import proofs.«01_k».proof.Proof.Gen.OdIn0RefIdeal.Run
public import proofs.«01_k».proof.Proof.Gen.OdIn0RefIdeal.Read
public import proofs.«01_k».proof.Proof.Gen.GluMm0
public import proofs.«01_k».proof.Proof.Gen.GluMm0.Skeleton
public import proofs.«01_k».proof.Proof.Gen.GluMm0.Launch
public import proofs.«01_k».proof.Proof.Gen.GluMm0.Points
public import proofs.«01_k».proof.Proof.Gen.GluMm0.Frame
public import proofs.«01_k».proof.Proof.Gen.GluMm0Ideal
public import proofs.«01_k».proof.Proof.Gen.GluMm0Ideal.Skeleton
public import proofs.«01_k».proof.Proof.Gen.GluMm0Ideal.Launch
public import proofs.«01_k».proof.Proof.Gen.GluMm0Ideal.Points
public import proofs.«01_k».proof.Proof.Gen.GluMm0Ideal.Frame
public import proofs.«01_k».proof.Proof.Gen.GluMm0Ideal.Value
public import proofs.«01_k».proof.Proof.Gen.GluMm0RefIdeal
public import proofs.«01_k».proof.Proof.Gen.GluMm0RefIdeal.Run
public import proofs.«01_k».proof.Proof.Gen.GluMm0RefIdeal.Read
public import proofs.«01_k».proof.Proof.Gen.MixOut0
public import proofs.«01_k».proof.Proof.Gen.MixOut0.Skeleton
public import proofs.«01_k».proof.Proof.Gen.MixOut0.Launch
public import proofs.«01_k».proof.Proof.Gen.MixOut0.Points
public import proofs.«01_k».proof.Proof.Gen.MixOut0.Frame
public import proofs.«01_k».proof.Proof.Gen.MixOut0Ideal
public import proofs.«01_k».proof.Proof.Gen.MixOut0Ideal.Skeleton
public import proofs.«01_k».proof.Proof.Gen.MixOut0Ideal.Launch
public import proofs.«01_k».proof.Proof.Gen.MixOut0Ideal.Points
public import proofs.«01_k».proof.Proof.Gen.MixOut0Ideal.Frame
public import proofs.«01_k».proof.Proof.Gen.MixOut0Ideal.Value
public import proofs.«01_k».proof.Proof.Gen.MixOut0RefIdeal
public import proofs.«01_k».proof.Proof.Gen.MixOut0RefIdeal.Run
public import proofs.«01_k».proof.Proof.Gen.MixOut0RefIdeal.Read
public import proofs.«01_k».proof.Proof.Gen.MixD1
public import proofs.«01_k».proof.Proof.Gen.MixD1.Skeleton
public import proofs.«01_k».proof.Proof.Gen.MixD1.Launch
public import proofs.«01_k».proof.Proof.Gen.MixD1.Points
public import proofs.«01_k».proof.Proof.Gen.MixD1.Frame
public import proofs.«01_k».proof.Proof.Gen.MixD1Ideal
public import proofs.«01_k».proof.Proof.Gen.MixD1Ideal.Skeleton
public import proofs.«01_k».proof.Proof.Gen.MixD1Ideal.Launch
public import proofs.«01_k».proof.Proof.Gen.MixD1Ideal.Points
public import proofs.«01_k».proof.Proof.Gen.MixD1Ideal.Frame
public import proofs.«01_k».proof.Proof.Gen.MixD1Ideal.Value
public import proofs.«01_k».proof.Proof.Gen.MixD1RefIdeal
public import proofs.«01_k».proof.Proof.Gen.MixD1RefIdeal.Run
public import proofs.«01_k».proof.Proof.Gen.MixD1RefIdeal.Read
public import proofs.«01_k».proof.Proof.Gen.EvDh1
public import proofs.«01_k».proof.Proof.Gen.EvDh1.Skeleton
public import proofs.«01_k».proof.Proof.Gen.EvDh1.Launch
public import proofs.«01_k».proof.Proof.Gen.EvDh1.Points
public import proofs.«01_k».proof.Proof.Gen.EvDh1.Frame
public import proofs.«01_k».proof.Proof.Gen.EvDh1Ideal
public import proofs.«01_k».proof.Proof.Gen.EvDh1Ideal.Skeleton
public import proofs.«01_k».proof.Proof.Gen.EvDh1Ideal.Launch
public import proofs.«01_k».proof.Proof.Gen.EvDh1Ideal.Points
public import proofs.«01_k».proof.Proof.Gen.EvDh1Ideal.Frame
public import proofs.«01_k».proof.Proof.Gen.EvDh1Ideal.Value
public import proofs.«01_k».proof.Proof.Gen.EvDh1RefIdeal
public import proofs.«01_k».proof.Proof.Gen.EvDh1RefIdeal.Run
public import proofs.«01_k».proof.Proof.Gen.EvDh1RefIdeal.Read
public import proofs.«01_k».proof.Proof.Gen.OdDh1
public import proofs.«01_k».proof.Proof.Gen.OdDh1.Skeleton
public import proofs.«01_k».proof.Proof.Gen.OdDh1.Launch
public import proofs.«01_k».proof.Proof.Gen.OdDh1.Points
public import proofs.«01_k».proof.Proof.Gen.OdDh1.Frame
public import proofs.«01_k».proof.Proof.Gen.OdDh1Ideal
public import proofs.«01_k».proof.Proof.Gen.OdDh1Ideal.Skeleton
public import proofs.«01_k».proof.Proof.Gen.OdDh1Ideal.Launch
public import proofs.«01_k».proof.Proof.Gen.OdDh1Ideal.Points
public import proofs.«01_k».proof.Proof.Gen.OdDh1Ideal.Frame
public import proofs.«01_k».proof.Proof.Gen.OdDh1Ideal.Value
public import proofs.«01_k».proof.Proof.Gen.OdDh1RefIdeal
public import proofs.«01_k».proof.Proof.Gen.OdDh1RefIdeal.Run
public import proofs.«01_k».proof.Proof.Gen.OdDh1RefIdeal.Read
public import proofs.«01_k».proof.Proof.Gen.GluDz1
public import proofs.«01_k».proof.Proof.Gen.GluDz1.Skeleton
public import proofs.«01_k».proof.Proof.Gen.GluDz1.Launch
public import proofs.«01_k».proof.Proof.Gen.GluDz1.Points
public import proofs.«01_k».proof.Proof.Gen.GluDz1.Frame
public import proofs.«01_k».proof.Proof.Gen.GluDz1Ideal
public import proofs.«01_k».proof.Proof.Gen.GluDz1Ideal.Skeleton
public import proofs.«01_k».proof.Proof.Gen.GluDz1Ideal.Launch
public import proofs.«01_k».proof.Proof.Gen.GluDz1Ideal.Points
public import proofs.«01_k».proof.Proof.Gen.GluDz1Ideal.Frame
public import proofs.«01_k».proof.Proof.Gen.GluDz1Ideal.Value
public import proofs.«01_k».proof.Proof.Gen.GluDz1RefIdeal
public import proofs.«01_k».proof.Proof.Gen.GluDz1RefIdeal.Run
public import proofs.«01_k».proof.Proof.Gen.GluDz1RefIdeal.Read
public import proofs.«01_k».proof.Proof.Gen.EvIn1
public import proofs.«01_k».proof.Proof.Gen.EvIn1.Skeleton
public import proofs.«01_k».proof.Proof.Gen.EvIn1.Launch
public import proofs.«01_k».proof.Proof.Gen.EvIn1.Points
public import proofs.«01_k».proof.Proof.Gen.EvIn1.Frame
public import proofs.«01_k».proof.Proof.Gen.EvIn1Ideal
public import proofs.«01_k».proof.Proof.Gen.EvIn1Ideal.Skeleton
public import proofs.«01_k».proof.Proof.Gen.EvIn1Ideal.Launch
public import proofs.«01_k».proof.Proof.Gen.EvIn1Ideal.Points
public import proofs.«01_k».proof.Proof.Gen.EvIn1Ideal.Frame
public import proofs.«01_k».proof.Proof.Gen.EvIn1Ideal.Value
public import proofs.«01_k».proof.Proof.Gen.EvIn1RefIdeal
public import proofs.«01_k».proof.Proof.Gen.EvIn1RefIdeal.Run
public import proofs.«01_k».proof.Proof.Gen.EvIn1RefIdeal.Read
public import proofs.«01_k».proof.Proof.Gen.OdIn1
public import proofs.«01_k».proof.Proof.Gen.OdIn1.Skeleton
public import proofs.«01_k».proof.Proof.Gen.OdIn1.Launch
public import proofs.«01_k».proof.Proof.Gen.OdIn1.Points
public import proofs.«01_k».proof.Proof.Gen.OdIn1.Frame
public import proofs.«01_k».proof.Proof.Gen.OdIn1Ideal
public import proofs.«01_k».proof.Proof.Gen.OdIn1Ideal.Skeleton
public import proofs.«01_k».proof.Proof.Gen.OdIn1Ideal.Launch
public import proofs.«01_k».proof.Proof.Gen.OdIn1Ideal.Points
public import proofs.«01_k».proof.Proof.Gen.OdIn1Ideal.Frame
public import proofs.«01_k».proof.Proof.Gen.OdIn1Ideal.Value
public import proofs.«01_k».proof.Proof.Gen.OdIn1RefIdeal
public import proofs.«01_k».proof.Proof.Gen.OdIn1RefIdeal.Run
public import proofs.«01_k».proof.Proof.Gen.OdIn1RefIdeal.Read
public import proofs.«01_k».proof.Proof.Gen.GluMm1
public import proofs.«01_k».proof.Proof.Gen.GluMm1.Skeleton
public import proofs.«01_k».proof.Proof.Gen.GluMm1.Launch
public import proofs.«01_k».proof.Proof.Gen.GluMm1.Points
public import proofs.«01_k».proof.Proof.Gen.GluMm1.Frame
public import proofs.«01_k».proof.Proof.Gen.GluMm1Ideal
public import proofs.«01_k».proof.Proof.Gen.GluMm1Ideal.Skeleton
public import proofs.«01_k».proof.Proof.Gen.GluMm1Ideal.Launch
public import proofs.«01_k».proof.Proof.Gen.GluMm1Ideal.Points
public import proofs.«01_k».proof.Proof.Gen.GluMm1Ideal.Frame
public import proofs.«01_k».proof.Proof.Gen.GluMm1Ideal.Value
public import proofs.«01_k».proof.Proof.Gen.GluMm1RefIdeal
public import proofs.«01_k».proof.Proof.Gen.GluMm1RefIdeal.Run
public import proofs.«01_k».proof.Proof.Gen.GluMm1RefIdeal.Read
public import proofs.«01_k».proof.Proof.Gen.MixOut1
public import proofs.«01_k».proof.Proof.Gen.MixOut1.Skeleton
public import proofs.«01_k».proof.Proof.Gen.MixOut1.Launch
public import proofs.«01_k».proof.Proof.Gen.MixOut1.Points
public import proofs.«01_k».proof.Proof.Gen.MixOut1.Frame
public import proofs.«01_k».proof.Proof.Gen.MixOut1Ideal
public import proofs.«01_k».proof.Proof.Gen.MixOut1Ideal.Skeleton
public import proofs.«01_k».proof.Proof.Gen.MixOut1Ideal.Launch
public import proofs.«01_k».proof.Proof.Gen.MixOut1Ideal.Points
public import proofs.«01_k».proof.Proof.Gen.MixOut1Ideal.Frame
public import proofs.«01_k».proof.Proof.Gen.MixOut1Ideal.Value
public import proofs.«01_k».proof.Proof.Gen.MixOut1RefIdeal
public import proofs.«01_k».proof.Proof.Gen.MixOut1RefIdeal.Run
public import proofs.«01_k».proof.Proof.Gen.MixOut1RefIdeal.Read
public import proofs.«01_k».proof.Proof.Gen.AdaDw
public import proofs.«01_k».proof.Proof.Gen.AdaDw.Skeleton
public import proofs.«01_k».proof.Proof.Gen.AdaDw.Launch
public import proofs.«01_k».proof.Proof.Gen.AdaDw.Points
public import proofs.«01_k».proof.Proof.Gen.AdaDw.Frame
public import proofs.«01_k».proof.Proof.Gen.AdaDwIdeal
public import proofs.«01_k».proof.Proof.Gen.AdaDwIdeal.Skeleton
public import proofs.«01_k».proof.Proof.Gen.AdaDwIdeal.Launch
public import proofs.«01_k».proof.Proof.Gen.AdaDwIdeal.Points
public import proofs.«01_k».proof.Proof.Gen.AdaDwIdeal.Frame
public import proofs.«01_k».proof.Proof.Gen.AdaDwIdeal.Value
public import proofs.«01_k».proof.Proof.Gen.AdaDwRefIdeal
public import proofs.«01_k».proof.Proof.Gen.AdaDwRefIdeal.Run
public import proofs.«01_k».proof.Proof.Gen.AdaDwRefIdeal.Read
public import proofs.«01_k».proof.Proof.Gen.Mod0
public import proofs.«01_k».proof.Proof.Gen.Mod0.Skeleton
public import proofs.«01_k».proof.Proof.Gen.Mod0.Launch
public import proofs.«01_k».proof.Proof.Gen.Mod0.Points
public import proofs.«01_k».proof.Proof.Gen.Mod0.Frame
public import proofs.«01_k».proof.Proof.Gen.Mod0Ideal
public import proofs.«01_k».proof.Proof.Gen.Mod0Ideal.Skeleton
public import proofs.«01_k».proof.Proof.Gen.Mod0Ideal.Launch
public import proofs.«01_k».proof.Proof.Gen.Mod0Ideal.Points
public import proofs.«01_k».proof.Proof.Gen.Mod0Ideal.Frame
public import proofs.«01_k».proof.Proof.Gen.Mod0Ideal.Value
public import proofs.«01_k».proof.Proof.Gen.Mod0RefIdeal
public import proofs.«01_k».proof.Proof.Gen.Mod0RefIdeal.Run
public import proofs.«01_k».proof.Proof.Gen.Mod0RefIdeal.Read
public import proofs.«01_k».proof.Proof.Gen.Mod1
public import proofs.«01_k».proof.Proof.Gen.Mod1.Skeleton
public import proofs.«01_k».proof.Proof.Gen.Mod1.Launch
public import proofs.«01_k».proof.Proof.Gen.Mod1.Points
public import proofs.«01_k».proof.Proof.Gen.Mod1.Frame
public import proofs.«01_k».proof.Proof.Gen.Mod1Ideal
public import proofs.«01_k».proof.Proof.Gen.Mod1Ideal.Skeleton
public import proofs.«01_k».proof.Proof.Gen.Mod1Ideal.Launch
public import proofs.«01_k».proof.Proof.Gen.Mod1Ideal.Points
public import proofs.«01_k».proof.Proof.Gen.Mod1Ideal.Frame
public import proofs.«01_k».proof.Proof.Gen.Mod1Ideal.Value
public import proofs.«01_k».proof.Proof.Gen.Mod1RefIdeal
public import proofs.«01_k».proof.Proof.Gen.Mod1RefIdeal.Run
public import proofs.«01_k».proof.Proof.Gen.Mod1RefIdeal.Read
public import proofs.«01_k».proof.Proof.Gen.Mod2
public import proofs.«01_k».proof.Proof.Gen.Mod2.Skeleton
public import proofs.«01_k».proof.Proof.Gen.Mod2.Launch
public import proofs.«01_k».proof.Proof.Gen.Mod2.Points
public import proofs.«01_k».proof.Proof.Gen.Mod2.Frame
public import proofs.«01_k».proof.Proof.Gen.Mod2Ideal
public import proofs.«01_k».proof.Proof.Gen.Mod2Ideal.Skeleton
public import proofs.«01_k».proof.Proof.Gen.Mod2Ideal.Launch
public import proofs.«01_k».proof.Proof.Gen.Mod2Ideal.Points
public import proofs.«01_k».proof.Proof.Gen.Mod2Ideal.Frame
public import proofs.«01_k».proof.Proof.Gen.Mod2Ideal.Value
public import proofs.«01_k».proof.Proof.Gen.Mod2RefIdeal
public import proofs.«01_k».proof.Proof.Gen.Mod2RefIdeal.Run
public import proofs.«01_k».proof.Proof.Gen.Mod2RefIdeal.Read
public import proofs.«01_k».proof.Proof.Gen.Mod3
public import proofs.«01_k».proof.Proof.Gen.Mod3.Skeleton
public import proofs.«01_k».proof.Proof.Gen.Mod3.Launch
public import proofs.«01_k».proof.Proof.Gen.Mod3.Points
public import proofs.«01_k».proof.Proof.Gen.Mod3.Frame
public import proofs.«01_k».proof.Proof.Gen.Mod3Ideal
public import proofs.«01_k».proof.Proof.Gen.Mod3Ideal.Skeleton
public import proofs.«01_k».proof.Proof.Gen.Mod3Ideal.Launch
public import proofs.«01_k».proof.Proof.Gen.Mod3Ideal.Points
public import proofs.«01_k».proof.Proof.Gen.Mod3Ideal.Frame
public import proofs.«01_k».proof.Proof.Gen.Mod3Ideal.Value
public import proofs.«01_k».proof.Proof.Gen.Mod3RefIdeal
public import proofs.«01_k».proof.Proof.Gen.Mod3RefIdeal.Run
public import proofs.«01_k».proof.Proof.Gen.Mod3RefIdeal.Read
public import proofs.«01_k».proof.Proof.Gen.Silu
public import proofs.«01_k».proof.Proof.Gen.Silu.Skeleton
public import proofs.«01_k».proof.Proof.Gen.Silu.Launch
public import proofs.«01_k».proof.Proof.Gen.Silu.Points
public import proofs.«01_k».proof.Proof.Gen.Silu.Frame
public import proofs.«01_k».proof.Proof.Gen.SiluIdeal
public import proofs.«01_k».proof.Proof.Gen.SiluIdeal.Skeleton
public import proofs.«01_k».proof.Proof.Gen.SiluIdeal.Launch
public import proofs.«01_k».proof.Proof.Gen.SiluIdeal.Points
public import proofs.«01_k».proof.Proof.Gen.SiluIdeal.Frame
public import proofs.«01_k».proof.Proof.Gen.SiluIdeal.Value
public import proofs.«01_k».proof.Proof.Gen.SiluRefIdeal
public import proofs.«01_k».proof.Proof.Gen.SiluRefIdeal.Run
public import proofs.«01_k».proof.Proof.Gen.SiluRefIdeal.Read
public import proofs.«01_k».proof.Proof.Gen.Resid
public import proofs.«01_k».proof.Proof.Gen.Resid.Skeleton
public import proofs.«01_k».proof.Proof.Gen.Resid.Launch
public import proofs.«01_k».proof.Proof.Gen.Resid.Points
public import proofs.«01_k».proof.Proof.Gen.Resid.Frame
public import proofs.«01_k».proof.Proof.Gen.ResidIdeal
public import proofs.«01_k».proof.Proof.Gen.ResidIdeal.Skeleton
public import proofs.«01_k».proof.Proof.Gen.ResidIdeal.Launch
public import proofs.«01_k».proof.Proof.Gen.ResidIdeal.Points
public import proofs.«01_k».proof.Proof.Gen.ResidIdeal.Frame
public import proofs.«01_k».proof.Proof.Gen.ResidIdeal.Value
public import proofs.«01_k».proof.Proof.Gen.ResidRefIdeal
public import proofs.«01_k».proof.Proof.Gen.ResidRefIdeal.Run
public import proofs.«01_k».proof.Proof.Gen.ResidRefIdeal.Read
public import proofs.«01_k».proof.Proof.Gen.ResidB
public import proofs.«01_k».proof.Proof.Gen.ResidB.Skeleton
public import proofs.«01_k».proof.Proof.Gen.ResidB.Launch
public import proofs.«01_k».proof.Proof.Gen.ResidB.Points
public import proofs.«01_k».proof.Proof.Gen.ResidB.Frame
public import proofs.«01_k».proof.Proof.Gen.ResidBIdeal
public import proofs.«01_k».proof.Proof.Gen.ResidBIdeal.Skeleton
public import proofs.«01_k».proof.Proof.Gen.ResidBIdeal.Launch
public import proofs.«01_k».proof.Proof.Gen.ResidBIdeal.Points
public import proofs.«01_k».proof.Proof.Gen.ResidBIdeal.Frame
public import proofs.«01_k».proof.Proof.Gen.ResidBIdeal.Value
public import proofs.«01_k».proof.Proof.Gen.ResidBRefIdeal
public import proofs.«01_k».proof.Proof.Gen.ResidBRefIdeal.Run
public import proofs.«01_k».proof.Proof.Gen.ResidBRefIdeal.Read
public import proofs.«01_k».proof.Proof.Gen.GluZ
public import proofs.«01_k».proof.Proof.Gen.GluZ.Skeleton
public import proofs.«01_k».proof.Proof.Gen.GluZ.Launch
public import proofs.«01_k».proof.Proof.Gen.GluZ.Points
public import proofs.«01_k».proof.Proof.Gen.GluZ.Frame
public import proofs.«01_k».proof.Proof.Gen.GluZIdeal
public import proofs.«01_k».proof.Proof.Gen.GluZIdeal.Skeleton
public import proofs.«01_k».proof.Proof.Gen.GluZIdeal.Launch
public import proofs.«01_k».proof.Proof.Gen.GluZIdeal.Points
public import proofs.«01_k».proof.Proof.Gen.GluZIdeal.Frame
public import proofs.«01_k».proof.Proof.Gen.GluZIdeal.Value
public import proofs.«01_k».proof.Proof.Gen.GluZRefIdeal
public import proofs.«01_k».proof.Proof.Gen.GluZRefIdeal.Run
public import proofs.«01_k».proof.Proof.Gen.GluZRefIdeal.Read
public import proofs.«01_k».proof.Proof.Gen.GluOut
public import proofs.«01_k».proof.Proof.Gen.GluOut.Skeleton
public import proofs.«01_k».proof.Proof.Gen.GluOut.Launch
public import proofs.«01_k».proof.Proof.Gen.GluOut.Points
public import proofs.«01_k».proof.Proof.Gen.GluOut.Frame
public import proofs.«01_k».proof.Proof.Gen.GluOutIdeal
public import proofs.«01_k».proof.Proof.Gen.GluOutIdeal.Skeleton
public import proofs.«01_k».proof.Proof.Gen.GluOutIdeal.Launch
public import proofs.«01_k».proof.Proof.Gen.GluOutIdeal.Points
public import proofs.«01_k».proof.Proof.Gen.GluOutIdeal.Frame
public import proofs.«01_k».proof.Proof.Gen.GluOutIdeal.Value
public import proofs.«01_k».proof.Proof.Gen.GluOutRefIdeal
public import proofs.«01_k».proof.Proof.Gen.GluOutRefIdeal.Run
public import proofs.«01_k».proof.Proof.Gen.GluOutRefIdeal.Read
public import proofs.«01_k».proof.Proof.Gen.GluGate
public import proofs.«01_k».proof.Proof.Gen.GluGate.Skeleton
public import proofs.«01_k».proof.Proof.Gen.GluGate.Launch
public import proofs.«01_k».proof.Proof.Gen.GluGate.Points
public import proofs.«01_k».proof.Proof.Gen.GluGate.Frame
public import proofs.«01_k».proof.Proof.Gen.GluGateIdeal
public import proofs.«01_k».proof.Proof.Gen.GluGateIdeal.Skeleton
public import proofs.«01_k».proof.Proof.Gen.GluGateIdeal.Launch
public import proofs.«01_k».proof.Proof.Gen.GluGateIdeal.Points
public import proofs.«01_k».proof.Proof.Gen.GluGateIdeal.Frame
public import proofs.«01_k».proof.Proof.Gen.GluGateIdeal.Value
public import proofs.«01_k».proof.Proof.Gen.GluGateRefIdeal
public import proofs.«01_k».proof.Proof.Gen.GluGateRefIdeal.Run
public import proofs.«01_k».proof.Proof.Gen.GluGateRefIdeal.Read
public import proofs.«01_k».proof.Proof.Gen.GluY
public import proofs.«01_k».proof.Proof.Gen.GluY.Skeleton
public import proofs.«01_k».proof.Proof.Gen.GluY.Launch
public import proofs.«01_k».proof.Proof.Gen.GluY.Points
public import proofs.«01_k».proof.Proof.Gen.GluY.Frame
public import proofs.«01_k».proof.Proof.Gen.GluYIdeal
public import proofs.«01_k».proof.Proof.Gen.GluYIdeal.Skeleton
public import proofs.«01_k».proof.Proof.Gen.GluYIdeal.Launch
public import proofs.«01_k».proof.Proof.Gen.GluYIdeal.Points
public import proofs.«01_k».proof.Proof.Gen.GluYIdeal.Frame
public import proofs.«01_k».proof.Proof.Gen.GluYIdeal.Value
public import proofs.«01_k».proof.Proof.Gen.GluYRefIdeal
public import proofs.«01_k».proof.Proof.Gen.GluYRefIdeal.Run
public import proofs.«01_k».proof.Proof.Gen.GluYRefIdeal.Read
public import proofs.«01_k».proof.Proof.Gen.Sink
public import proofs.«01_k».proof.Proof.Gen.Sink.Skeleton
public import proofs.«01_k».proof.Proof.Gen.Sink.Launch
public import proofs.«01_k».proof.Proof.Gen.Sink.Points
public import proofs.«01_k».proof.Proof.Gen.Sink.Frame
public import proofs.«01_k».proof.Proof.Gen.SinkIdeal
public import proofs.«01_k».proof.Proof.Gen.SinkIdeal.Skeleton
public import proofs.«01_k».proof.Proof.Gen.SinkIdeal.Launch
public import proofs.«01_k».proof.Proof.Gen.SinkIdeal.Points
public import proofs.«01_k».proof.Proof.Gen.SinkIdeal.Frame
public import proofs.«01_k».proof.Proof.Gen.SinkIdeal.Value
public import proofs.«01_k».proof.Proof.Gen.SinkRefIdeal
public import proofs.«01_k».proof.Proof.Gen.SinkRefIdeal.Run
public import proofs.«01_k».proof.Proof.Gen.SinkRefIdeal.Read
public import proofs.«01_k».proof.Proof.Gen.Adamw
public import proofs.«01_k».proof.Proof.Gen.Adamw.Skeleton
public import proofs.«01_k».proof.Proof.Gen.Adamw.Launch
public import proofs.«01_k».proof.Proof.Gen.Adamw.Points
public import proofs.«01_k».proof.Proof.Gen.Adamw.Frame
public import proofs.«01_k».proof.Proof.Gen.AdamwIdeal
public import proofs.«01_k».proof.Proof.Gen.AdamwIdeal.Skeleton
public import proofs.«01_k».proof.Proof.Gen.AdamwIdeal.Launch
public import proofs.«01_k».proof.Proof.Gen.AdamwIdeal.Points
public import proofs.«01_k».proof.Proof.Gen.AdamwIdeal.Frame
public import proofs.«01_k».proof.Proof.Gen.AdamwIdeal.Value
public import proofs.«01_k».proof.Proof.Gen.AdamwRefIdeal
public import proofs.«01_k».proof.Proof.Gen.AdamwRefIdeal.Run
public import proofs.«01_k».proof.Proof.Gen.AdamwRefIdeal.Read
public import proofs.«01_k».proof.Proof.Gen.Pre_finite_glu
public import proofs.«01_k».proof.Proof.Gen.Pre_finite
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.Pre_finite_attn
public import proofs.«01_k».proof.Proof.MixTile
public import proofs.«01_k».proof.Proof.MixClaim
public import proofs.«01_k».proof.Proof.DwoValue
public import proofs.«01_k».proof.Proof.DwiValue
public import proofs.«01_k».proof.Proof.ActValue
public import proofs.«01_k».proof.Proof.DactValue
public import proofs.«01_k».proof.Proof.DhValue
public import proofs.«01_k».proof.Proof.InValue
public import proofs.«01_k».proof.Proof.OutValue
public import proofs.«01_k».proof.Proof.MixerForward
public import proofs.«01_k».proof.Proof.MixerLeft
public import proofs.«01_k».proof.Proof.MixerWeights
public import proofs.«01_k».proof.Proof.AttnPair
public import proofs.«01_k».proof.Proof.FurtherPairs
public import Idealize.ShloMosaic.Lib.Claim
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem Cert.Kernel

set_option maxHeartbeats 1600000 in
/-- The gradient of the gated causal convolution: six results, over finite arguments. -/
theorem mix : Cert.algebraic_KernelIdeal_ReferenceIdeal_pre_finite := by
  pair_intro
  · run_from Cert.KernelIdeal.Gen.run_main m g
  · have fin := fun c => Cert.ReferenceIdeal.Columns.reals _ _ _ _ (fun j => congrFun (hpre c) j)
    run_from Cert.ReferenceIdeal.Value.run m' g'
    · refine (Cert.ReferenceIdeal.Read.val_main_v109_eq _).trans (Eq.trans ?_ (Cert.KernelIdeal.Tiles.final_7 m c).symm)
      show Cert.ReferenceIdeal.Read.val_main_v109 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [(hagree c).1, (hagree c).2.1, (hagree c).2.2.1, (hagree c).2.2.2]
      exact Cert.ReferenceIdeal.Columns.result_0 _ _ _ _ (fin c).1 (fin c).2.1 (fin c).2.2.1 (fin c).2.2.2
    · refine (Cert.ReferenceIdeal.Read.val_main_v110_eq _).trans (Eq.trans ?_ (Cert.KernelIdeal.Tiles.final_8 m c).symm)
      show Cert.ReferenceIdeal.Read.val_main_v110 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [(hagree c).1, (hagree c).2.1, (hagree c).2.2.1, (hagree c).2.2.2]
      exact Cert.ReferenceIdeal.Columns.result_1 _ _ _ _
    · refine (Cert.ReferenceIdeal.Read.val_main_v111_eq _).trans (Eq.trans ?_ (Cert.KernelIdeal.Tiles.final_9 m c).symm)
      show Cert.ReferenceIdeal.Read.val_main_v111 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [(hagree c).1, (hagree c).2.1, (hagree c).2.2.1, (hagree c).2.2.2]
      exact Cert.ReferenceIdeal.Columns.result_2 _ _ _ _ (fin c).1 (fin c).2.1 (fin c).2.2.1 (fin c).2.2.2
    · refine (Cert.ReferenceIdeal.Read.val_main_v112_eq _).trans (Eq.trans ?_ (Cert.KernelIdeal.Tiles.final_10 m c).symm)
      show Cert.ReferenceIdeal.Read.val_main_v112 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [(hagree c).1, (hagree c).2.1, (hagree c).2.2.1, (hagree c).2.2.2]
      exact Cert.ReferenceIdeal.Columns.result_3 _ _ _ _
    · refine (Cert.ReferenceIdeal.Read.val_main_v113_eq _).trans (Eq.trans ?_ (Cert.KernelIdeal.Tiles.final_11 m c).symm)
      show Cert.ReferenceIdeal.Read.val_main_v113 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [(hagree c).1, (hagree c).2.1, (hagree c).2.2.1, (hagree c).2.2.2]
      exact Cert.ReferenceIdeal.Columns.result_4 _ _ _ _ (fin c).1 (fin c).2.1 (fin c).2.2.1 (fin c).2.2.2
    · refine (Cert.ReferenceIdeal.Read.val_main_v114_eq _).trans (Eq.trans ?_ (Cert.KernelIdeal.Tiles.final_12 m c).symm)
      show Cert.ReferenceIdeal.Read.val_main_v114 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [(hagree c).1, (hagree c).2.1, (hagree c).2.2.1, (hagree c).2.2.2]
      exact Cert.ReferenceIdeal.Columns.result_5 _ _ _ _

theorem dwo : Cert.algebraic_DwoIdeal_DwoRefIdeal := by
  pair_intro
  · run_from Cert.DwoIdeal.Gen.run_main m g
  · run_from Cert.DwoRefIdeal.Value.run m' g'
    exact (Cert.DwoIdeal.Tiles.final m c).symm

theorem dwo_reference : Cert.quiescent_DwoRefIdeal := by
  intro m g _
  refine (θ_run Cert.DwoRefIdeal.defs _ _).mono (fun r h => ⟨fun c => ?_, sem_eq_zero_of_no_sems (by decide) r.2⟩) (Cert.DwoRefIdeal.Value.run (F := Ideal) m g)
  have k := h c
  simp only [k, and_self]

theorem dwi : Cert.algebraic_DwiIdeal_DwiRefIdeal := by
  pair_intro
  · run_from Cert.DwiIdeal.Gen.run_main m g
  · run_from Cert.DwiRefIdeal.Value.run m' g'
    exact (Cert.DwiIdeal.Tiles.final m c).symm

theorem dwi_reference : Cert.quiescent_DwiRefIdeal := by
  intro m g _
  refine (θ_run Cert.DwiRefIdeal.defs _ _).mono (fun r h => ⟨fun c => ?_, sem_eq_zero_of_no_sems (by decide) r.2⟩) (Cert.DwiRefIdeal.Value.run (F := Ideal) m g)
  have k := h c
  simp only [k, and_self]

theorem act : Cert.algebraic_ActIdeal_ActRefIdeal := by
  pair_intro
  · run_from Cert.ActIdeal.Gen.run_main m g
  · run_from Cert.ActRefIdeal.Value.run m' g'
    refine (Cert.ActRefIdeal.Read.val_main_v45_eq _ _).trans (Eq.trans ?_ (Cert.ActIdeal.Tiles.final m c).symm)
    show Cert.ActRefIdeal.Read.val_main_v45 (F := Ideal) (m' ((c.tc : Thread Cert.ActRefIdeal.nD Cert.ActRefIdeal.τ).loc Cert.ActRefIdeal.main_arg0)) (m' ((c.tc : Thread Cert.ActRefIdeal.nD Cert.ActRefIdeal.τ).loc Cert.ActRefIdeal.main_arg1)) (m' ((c.tc : Thread Cert.ActRefIdeal.nD Cert.ActRefIdeal.τ).loc Cert.ActRefIdeal.main_arg2)) = _
    rw [(hagree c).1, (hagree c).2.1, (hagree c).2.2]
    exact Cert.ActRefIdeal.Columns.result _ _ _

theorem act_reference : Cert.quiescent_ActRefIdeal := by
  intro m g _
  refine (θ_run Cert.ActRefIdeal.defs _ _).mono (fun r h => ⟨fun c => ?_, sem_eq_zero_of_no_sems (by decide) r.2⟩) (Cert.ActRefIdeal.Value.run (F := Ideal) m g)
  have k := h c
  simp only [k, and_self]

theorem dact0 : Cert.algebraic_Dact0Ideal_Dact0RefIdeal := by
  pair_intro
  · run_from Cert.Dact0Ideal.Gen.run_main m g
  · run_from Cert.Dact0RefIdeal.Value.run m' g'
    exact (Cert.Dact0Ideal.Tiles.final m c).symm

theorem dact0_reference : Cert.quiescent_Dact0RefIdeal := by
  intro m g _
  refine (θ_run Cert.Dact0RefIdeal.defs _ _).mono (fun r h => ⟨fun c => ?_, sem_eq_zero_of_no_sems (by decide) r.2⟩) (Cert.Dact0RefIdeal.Value.run (F := Ideal) m g)
  have k := h c
  simp only [k, and_self]

theorem dh0 : Cert.algebraic_Dh0Ideal_Dh0RefIdeal := by
  pair_intro
  · run_from Cert.Dh0Ideal.Gen.run_main m g
  · run_from Cert.Dh0RefIdeal.Value.run m' g'
    exact (Cert.Dh0Ideal.Tiles.final m c).symm

theorem dh0_reference : Cert.quiescent_Dh0RefIdeal := by
  intro m g _
  refine (θ_run Cert.Dh0RefIdeal.defs _ _).mono (fun r h => ⟨fun c => ?_, sem_eq_zero_of_no_sems (by decide) r.2⟩) (Cert.Dh0RefIdeal.Value.run (F := Ideal) m g)
  have k := h c
  simp only [k, and_self]

theorem in0 : Cert.algebraic_In0Ideal_In0RefIdeal := by
  pair_intro
  · run_from Cert.In0Ideal.Gen.run_main m g
  · run_from Cert.In0RefIdeal.Value.run m' g'
    exact (Cert.In0Ideal.Tiles.final m c).symm

theorem in0_reference : Cert.quiescent_In0RefIdeal := by
  intro m g _
  refine (θ_run Cert.In0RefIdeal.defs _ _).mono (fun r h => ⟨fun c => ?_, sem_eq_zero_of_no_sems (by decide) r.2⟩) (Cert.In0RefIdeal.Value.run (F := Ideal) m g)
  have k := h c
  simp only [k, and_self]

theorem out0 : Cert.algebraic_Out0Ideal_Out0RefIdeal := by
  pair_intro
  · run_from Cert.Out0Ideal.Gen.run_main m g
  · run_from Cert.Out0RefIdeal.Value.run m' g'
    exact (Cert.Out0Ideal.Tiles.final m c).symm

theorem out0_reference : Cert.quiescent_Out0RefIdeal := by
  intro m g _
  refine (θ_run Cert.Out0RefIdeal.defs _ _).mono (fun r h => ⟨fun c => ?_, sem_eq_zero_of_no_sems (by decide) r.2⟩) (Cert.Out0RefIdeal.Value.run (F := Ideal) m g)
  have k := h c
  simp only [k, and_self]

theorem dact1 : Cert.algebraic_Dact1Ideal_Dact1RefIdeal := by
  pair_intro
  · run_from Cert.Dact1Ideal.Gen.run_main m g
  · run_from Cert.Dact1RefIdeal.Value.run m' g'
    exact (Cert.Dact1Ideal.Tiles.final m c).symm

theorem dact1_reference : Cert.quiescent_Dact1RefIdeal := by
  intro m g _
  refine (θ_run Cert.Dact1RefIdeal.defs _ _).mono (fun r h => ⟨fun c => ?_, sem_eq_zero_of_no_sems (by decide) r.2⟩) (Cert.Dact1RefIdeal.Value.run (F := Ideal) m g)
  have k := h c
  simp only [k, and_self]

theorem dh1 : Cert.algebraic_Dh1Ideal_Dh1RefIdeal := by
  pair_intro
  · run_from Cert.Dh1Ideal.Gen.run_main m g
  · run_from Cert.Dh1RefIdeal.Value.run m' g'
    exact (Cert.Dh1Ideal.Tiles.final m c).symm

theorem dh1_reference : Cert.quiescent_Dh1RefIdeal := by
  intro m g _
  refine (θ_run Cert.Dh1RefIdeal.defs _ _).mono (fun r h => ⟨fun c => ?_, sem_eq_zero_of_no_sems (by decide) r.2⟩) (Cert.Dh1RefIdeal.Value.run (F := Ideal) m g)
  have k := h c
  simp only [k, and_self]

theorem in1 : Cert.algebraic_In1Ideal_In1RefIdeal := by
  pair_intro
  · run_from Cert.In1Ideal.Gen.run_main m g
  · run_from Cert.In1RefIdeal.Value.run m' g'
    exact (Cert.In1Ideal.Tiles.final m c).symm

theorem in1_reference : Cert.quiescent_In1RefIdeal := by
  intro m g _
  refine (θ_run Cert.In1RefIdeal.defs _ _).mono (fun r h => ⟨fun c => ?_, sem_eq_zero_of_no_sems (by decide) r.2⟩) (Cert.In1RefIdeal.Value.run (F := Ideal) m g)
  have k := h c
  simp only [k, and_self]

theorem out1 : Cert.algebraic_Out1Ideal_Out1RefIdeal := by
  pair_intro
  · run_from Cert.Out1Ideal.Gen.run_main m g
  · run_from Cert.Out1RefIdeal.Value.run m' g'
    exact (Cert.Out1Ideal.Tiles.final m c).symm

theorem out1_reference : Cert.quiescent_Out1RefIdeal := by
  intro m g _
  refine (θ_run Cert.Out1RefIdeal.defs _ _).mono (fun r h => ⟨fun c => ?_, sem_eq_zero_of_no_sems (by decide) r.2⟩) (Cert.Out1RefIdeal.Value.run (F := Ideal) m g)
  have k := h c
  simp only [k, and_self]

theorem dact2 : Cert.algebraic_Dact2Ideal_Dact2RefIdeal := by
  pair_intro
  · run_from Cert.Dact2Ideal.Gen.run_main m g
  · run_from Cert.Dact2RefIdeal.Value.run m' g'
    exact (Cert.Dact2Ideal.Tiles.final m c).symm

theorem dact2_reference : Cert.quiescent_Dact2RefIdeal := by
  intro m g _
  refine (θ_run Cert.Dact2RefIdeal.defs _ _).mono (fun r h => ⟨fun c => ?_, sem_eq_zero_of_no_sems (by decide) r.2⟩) (Cert.Dact2RefIdeal.Value.run (F := Ideal) m g)
  have k := h c
  simp only [k, and_self]

theorem dh2 : Cert.algebraic_Dh2Ideal_Dh2RefIdeal := by
  pair_intro
  · run_from Cert.Dh2Ideal.Gen.run_main m g
  · run_from Cert.Dh2RefIdeal.Value.run m' g'
    exact (Cert.Dh2Ideal.Tiles.final m c).symm

theorem dh2_reference : Cert.quiescent_Dh2RefIdeal := by
  intro m g _
  refine (θ_run Cert.Dh2RefIdeal.defs _ _).mono (fun r h => ⟨fun c => ?_, sem_eq_zero_of_no_sems (by decide) r.2⟩) (Cert.Dh2RefIdeal.Value.run (F := Ideal) m g)
  have k := h c
  simp only [k, and_self]

theorem in2 : Cert.algebraic_In2Ideal_In2RefIdeal := by
  pair_intro
  · run_from Cert.In2Ideal.Gen.run_main m g
  · run_from Cert.In2RefIdeal.Value.run m' g'
    exact (Cert.In2Ideal.Tiles.final m c).symm

theorem in2_reference : Cert.quiescent_In2RefIdeal := by
  intro m g _
  refine (θ_run Cert.In2RefIdeal.defs _ _).mono (fun r h => ⟨fun c => ?_, sem_eq_zero_of_no_sems (by decide) r.2⟩) (Cert.In2RefIdeal.Value.run (F := Ideal) m g)
  have k := h c
  simp only [k, and_self]

theorem out2 : Cert.algebraic_Out2Ideal_Out2RefIdeal := by
  pair_intro
  · run_from Cert.Out2Ideal.Gen.run_main m g
  · run_from Cert.Out2RefIdeal.Value.run m' g'
    exact (Cert.Out2Ideal.Tiles.final m c).symm

theorem out2_reference : Cert.quiescent_Out2RefIdeal := by
  intro m g _
  refine (θ_run Cert.Out2RefIdeal.defs _ _).mono (fun r h => ⟨fun c => ?_, sem_eq_zero_of_no_sems (by decide) r.2⟩) (Cert.Out2RefIdeal.Value.run (F := Ideal) m g)
  have k := h c
  simp only [k, and_self]

theorem dact3 : Cert.algebraic_Dact3Ideal_Dact3RefIdeal := by
  pair_intro
  · run_from Cert.Dact3Ideal.Gen.run_main m g
  · run_from Cert.Dact3RefIdeal.Value.run m' g'
    exact (Cert.Dact3Ideal.Tiles.final m c).symm

theorem dact3_reference : Cert.quiescent_Dact3RefIdeal := by
  intro m g _
  refine (θ_run Cert.Dact3RefIdeal.defs _ _).mono (fun r h => ⟨fun c => ?_, sem_eq_zero_of_no_sems (by decide) r.2⟩) (Cert.Dact3RefIdeal.Value.run (F := Ideal) m g)
  have k := h c
  simp only [k, and_self]

theorem dh3 : Cert.algebraic_Dh3Ideal_Dh3RefIdeal := by
  pair_intro
  · run_from Cert.Dh3Ideal.Gen.run_main m g
  · run_from Cert.Dh3RefIdeal.Value.run m' g'
    exact (Cert.Dh3Ideal.Tiles.final m c).symm

theorem dh3_reference : Cert.quiescent_Dh3RefIdeal := by
  intro m g _
  refine (θ_run Cert.Dh3RefIdeal.defs _ _).mono (fun r h => ⟨fun c => ?_, sem_eq_zero_of_no_sems (by decide) r.2⟩) (Cert.Dh3RefIdeal.Value.run (F := Ideal) m g)
  have k := h c
  simp only [k, and_self]

theorem in3 : Cert.algebraic_In3Ideal_In3RefIdeal := by
  pair_intro
  · run_from Cert.In3Ideal.Gen.run_main m g
  · run_from Cert.In3RefIdeal.Value.run m' g'
    exact (Cert.In3Ideal.Tiles.final m c).symm

theorem in3_reference : Cert.quiescent_In3RefIdeal := by
  intro m g _
  refine (θ_run Cert.In3RefIdeal.defs _ _).mono (fun r h => ⟨fun c => ?_, sem_eq_zero_of_no_sems (by decide) r.2⟩) (Cert.In3RefIdeal.Value.run (F := Ideal) m g)
  have k := h c
  simp only [k, and_self]

theorem out3 : Cert.algebraic_Out3Ideal_Out3RefIdeal := by
  pair_intro
  · run_from Cert.Out3Ideal.Gen.run_main m g
  · run_from Cert.Out3RefIdeal.Value.run m' g'
    exact (Cert.Out3Ideal.Tiles.final m c).symm

theorem out3_reference : Cert.quiescent_Out3RefIdeal := by
  intro m g _
  refine (θ_run Cert.Out3RefIdeal.defs _ _).mono (fun r h => ⟨fun c => ?_, sem_eq_zero_of_no_sems (by decide) r.2⟩) (Cert.Out3RefIdeal.Value.run (F := Ideal) m g)
  have k := h c
  simp only [k, and_self]

theorem mixDw : Cert.algebraic_MixDwIdeal_MixDwRefIdeal := by
  pair_intro
  · run_from Cert.MixDwIdeal.Gen.run_main m g
  · run_from Cert.MixDwRefIdeal.Value.run m' g'
    exact (Cert.MixDwIdeal.Tiles.final m c).symm

theorem mixDw_reference : Cert.quiescent_MixDwRefIdeal := by
  intro m g _
  refine (θ_run Cert.MixDwRefIdeal.defs _ _).mono (fun r h => ⟨fun c => ?_, sem_eq_zero_of_no_sems (by decide) r.2⟩) (Cert.MixDwRefIdeal.Value.run (F := Ideal) m g)
  have k := h c
  simp only [k, and_self]

theorem evDw : Cert.algebraic_EvDwIdeal_EvDwRefIdeal := by
  pair_intro
  · run_from Cert.EvDwIdeal.Gen.run_main m g
  · run_from Cert.EvDwRefIdeal.Value.run m' g'
    exact (Cert.EvDwIdeal.Tiles.final m c).symm

theorem evDw_reference : Cert.quiescent_EvDwRefIdeal := by
  intro m g _
  refine (θ_run Cert.EvDwRefIdeal.defs _ _).mono (fun r h => ⟨fun c => ?_, sem_eq_zero_of_no_sems (by decide) r.2⟩) (Cert.EvDwRefIdeal.Value.run (F := Ideal) m g)
  have k := h c
  simp only [k, and_self]

theorem odDw : Cert.algebraic_OdDwIdeal_OdDwRefIdeal := by
  pair_intro
  · run_from Cert.OdDwIdeal.Gen.run_main m g
  · run_from Cert.OdDwRefIdeal.Value.run m' g'
    exact (Cert.OdDwIdeal.Tiles.final m c).symm

theorem odDw_reference : Cert.quiescent_OdDwRefIdeal := by
  intro m g _
  refine (θ_run Cert.OdDwRefIdeal.defs _ _).mono (fun r h => ⟨fun c => ?_, sem_eq_zero_of_no_sems (by decide) r.2⟩) (Cert.OdDwRefIdeal.Value.run (F := Ideal) m g)
  have k := h c
  simp only [k, and_self]

theorem gluDw : Cert.algebraic_GluDwIdeal_GluDwRefIdeal := by
  pair_intro
  · run_from Cert.GluDwIdeal.Gen.run_main m g
  · run_from Cert.GluDwRefIdeal.Value.run m' g'
    exact (Cert.GluDwIdeal.Tiles.final m c).symm

theorem gluDw_reference : Cert.quiescent_GluDwRefIdeal := by
  intro m g _
  refine (θ_run Cert.GluDwRefIdeal.defs _ _).mono (fun r h => ⟨fun c => ?_, sem_eq_zero_of_no_sems (by decide) r.2⟩) (Cert.GluDwRefIdeal.Value.run (F := Ideal) m g)
  have k := h c
  simp only [k, and_self]

theorem mixD0 : Cert.algebraic_MixD0Ideal_MixD0RefIdeal := by
  pair_intro
  · run_from Cert.MixD0Ideal.Gen.run_main m g
  · run_from Cert.MixD0RefIdeal.Value.run m' g'
    exact (Cert.MixD0Ideal.Tiles.final m c).symm

theorem mixD0_reference : Cert.quiescent_MixD0RefIdeal := by
  intro m g _
  refine (θ_run Cert.MixD0RefIdeal.defs _ _).mono (fun r h => ⟨fun c => ?_, sem_eq_zero_of_no_sems (by decide) r.2⟩) (Cert.MixD0RefIdeal.Value.run (F := Ideal) m g)
  have k := h c
  simp only [k, and_self]

theorem evDh0 : Cert.algebraic_EvDh0Ideal_EvDh0RefIdeal := by
  pair_intro
  · run_from Cert.EvDh0Ideal.Gen.run_main m g
  · run_from Cert.EvDh0RefIdeal.Value.run m' g'
    exact (Cert.EvDh0Ideal.Tiles.final m c).symm

theorem evDh0_reference : Cert.quiescent_EvDh0RefIdeal := by
  intro m g _
  refine (θ_run Cert.EvDh0RefIdeal.defs _ _).mono (fun r h => ⟨fun c => ?_, sem_eq_zero_of_no_sems (by decide) r.2⟩) (Cert.EvDh0RefIdeal.Value.run (F := Ideal) m g)
  have k := h c
  simp only [k, and_self]

theorem odDh0 : Cert.algebraic_OdDh0Ideal_OdDh0RefIdeal := by
  pair_intro
  · run_from Cert.OdDh0Ideal.Gen.run_main m g
  · run_from Cert.OdDh0RefIdeal.Value.run m' g'
    exact (Cert.OdDh0Ideal.Tiles.final m c).symm

theorem odDh0_reference : Cert.quiescent_OdDh0RefIdeal := by
  intro m g _
  refine (θ_run Cert.OdDh0RefIdeal.defs _ _).mono (fun r h => ⟨fun c => ?_, sem_eq_zero_of_no_sems (by decide) r.2⟩) (Cert.OdDh0RefIdeal.Value.run (F := Ideal) m g)
  have k := h c
  simp only [k, and_self]

theorem gluDz0 : Cert.algebraic_GluDz0Ideal_GluDz0RefIdeal := by
  pair_intro
  · run_from Cert.GluDz0Ideal.Gen.run_main m g
  · run_from Cert.GluDz0RefIdeal.Value.run m' g'
    exact (Cert.GluDz0Ideal.Tiles.final m c).symm

theorem gluDz0_reference : Cert.quiescent_GluDz0RefIdeal := by
  intro m g _
  refine (θ_run Cert.GluDz0RefIdeal.defs _ _).mono (fun r h => ⟨fun c => ?_, sem_eq_zero_of_no_sems (by decide) r.2⟩) (Cert.GluDz0RefIdeal.Value.run (F := Ideal) m g)
  have k := h c
  simp only [k, and_self]

theorem evIn0 : Cert.algebraic_EvIn0Ideal_EvIn0RefIdeal := by
  pair_intro
  · run_from Cert.EvIn0Ideal.Gen.run_main m g
  · run_from Cert.EvIn0RefIdeal.Value.run m' g'
    exact (Cert.EvIn0Ideal.Tiles.final m c).symm

theorem evIn0_reference : Cert.quiescent_EvIn0RefIdeal := by
  intro m g _
  refine (θ_run Cert.EvIn0RefIdeal.defs _ _).mono (fun r h => ⟨fun c => ?_, sem_eq_zero_of_no_sems (by decide) r.2⟩) (Cert.EvIn0RefIdeal.Value.run (F := Ideal) m g)
  have k := h c
  simp only [k, and_self]

theorem odIn0 : Cert.algebraic_OdIn0Ideal_OdIn0RefIdeal := by
  pair_intro
  · run_from Cert.OdIn0Ideal.Gen.run_main m g
  · run_from Cert.OdIn0RefIdeal.Value.run m' g'
    exact (Cert.OdIn0Ideal.Tiles.final m c).symm

theorem odIn0_reference : Cert.quiescent_OdIn0RefIdeal := by
  intro m g _
  refine (θ_run Cert.OdIn0RefIdeal.defs _ _).mono (fun r h => ⟨fun c => ?_, sem_eq_zero_of_no_sems (by decide) r.2⟩) (Cert.OdIn0RefIdeal.Value.run (F := Ideal) m g)
  have k := h c
  simp only [k, and_self]

theorem gluMm0 : Cert.algebraic_GluMm0Ideal_GluMm0RefIdeal := by
  pair_intro
  · run_from Cert.GluMm0Ideal.Gen.run_main m g
  · run_from Cert.GluMm0RefIdeal.Value.run m' g'
    exact (Cert.GluMm0Ideal.Tiles.final m c).symm

theorem gluMm0_reference : Cert.quiescent_GluMm0RefIdeal := by
  intro m g _
  refine (θ_run Cert.GluMm0RefIdeal.defs _ _).mono (fun r h => ⟨fun c => ?_, sem_eq_zero_of_no_sems (by decide) r.2⟩) (Cert.GluMm0RefIdeal.Value.run (F := Ideal) m g)
  have k := h c
  simp only [k, and_self]

theorem mixOut0 : Cert.algebraic_MixOut0Ideal_MixOut0RefIdeal := by
  pair_intro
  · run_from Cert.MixOut0Ideal.Gen.run_main m g
  · run_from Cert.MixOut0RefIdeal.Value.run m' g'
    exact (Cert.MixOut0Ideal.Tiles.final m c).symm

theorem mixOut0_reference : Cert.quiescent_MixOut0RefIdeal := by
  intro m g _
  refine (θ_run Cert.MixOut0RefIdeal.defs _ _).mono (fun r h => ⟨fun c => ?_, sem_eq_zero_of_no_sems (by decide) r.2⟩) (Cert.MixOut0RefIdeal.Value.run (F := Ideal) m g)
  have k := h c
  simp only [k, and_self]

theorem mixD1 : Cert.algebraic_MixD1Ideal_MixD1RefIdeal := by
  pair_intro
  · run_from Cert.MixD1Ideal.Gen.run_main m g
  · run_from Cert.MixD1RefIdeal.Value.run m' g'
    exact (Cert.MixD1Ideal.Tiles.final m c).symm

theorem mixD1_reference : Cert.quiescent_MixD1RefIdeal := by
  intro m g _
  refine (θ_run Cert.MixD1RefIdeal.defs _ _).mono (fun r h => ⟨fun c => ?_, sem_eq_zero_of_no_sems (by decide) r.2⟩) (Cert.MixD1RefIdeal.Value.run (F := Ideal) m g)
  have k := h c
  simp only [k, and_self]

theorem evDh1 : Cert.algebraic_EvDh1Ideal_EvDh1RefIdeal := by
  pair_intro
  · run_from Cert.EvDh1Ideal.Gen.run_main m g
  · run_from Cert.EvDh1RefIdeal.Value.run m' g'
    exact (Cert.EvDh1Ideal.Tiles.final m c).symm

theorem evDh1_reference : Cert.quiescent_EvDh1RefIdeal := by
  intro m g _
  refine (θ_run Cert.EvDh1RefIdeal.defs _ _).mono (fun r h => ⟨fun c => ?_, sem_eq_zero_of_no_sems (by decide) r.2⟩) (Cert.EvDh1RefIdeal.Value.run (F := Ideal) m g)
  have k := h c
  simp only [k, and_self]

theorem odDh1 : Cert.algebraic_OdDh1Ideal_OdDh1RefIdeal := by
  pair_intro
  · run_from Cert.OdDh1Ideal.Gen.run_main m g
  · run_from Cert.OdDh1RefIdeal.Value.run m' g'
    exact (Cert.OdDh1Ideal.Tiles.final m c).symm

theorem odDh1_reference : Cert.quiescent_OdDh1RefIdeal := by
  intro m g _
  refine (θ_run Cert.OdDh1RefIdeal.defs _ _).mono (fun r h => ⟨fun c => ?_, sem_eq_zero_of_no_sems (by decide) r.2⟩) (Cert.OdDh1RefIdeal.Value.run (F := Ideal) m g)
  have k := h c
  simp only [k, and_self]

theorem gluDz1 : Cert.algebraic_GluDz1Ideal_GluDz1RefIdeal := by
  pair_intro
  · run_from Cert.GluDz1Ideal.Gen.run_main m g
  · run_from Cert.GluDz1RefIdeal.Value.run m' g'
    exact (Cert.GluDz1Ideal.Tiles.final m c).symm

theorem gluDz1_reference : Cert.quiescent_GluDz1RefIdeal := by
  intro m g _
  refine (θ_run Cert.GluDz1RefIdeal.defs _ _).mono (fun r h => ⟨fun c => ?_, sem_eq_zero_of_no_sems (by decide) r.2⟩) (Cert.GluDz1RefIdeal.Value.run (F := Ideal) m g)
  have k := h c
  simp only [k, and_self]

theorem evIn1 : Cert.algebraic_EvIn1Ideal_EvIn1RefIdeal := by
  pair_intro
  · run_from Cert.EvIn1Ideal.Gen.run_main m g
  · run_from Cert.EvIn1RefIdeal.Value.run m' g'
    exact (Cert.EvIn1Ideal.Tiles.final m c).symm

theorem evIn1_reference : Cert.quiescent_EvIn1RefIdeal := by
  intro m g _
  refine (θ_run Cert.EvIn1RefIdeal.defs _ _).mono (fun r h => ⟨fun c => ?_, sem_eq_zero_of_no_sems (by decide) r.2⟩) (Cert.EvIn1RefIdeal.Value.run (F := Ideal) m g)
  have k := h c
  simp only [k, and_self]

theorem odIn1 : Cert.algebraic_OdIn1Ideal_OdIn1RefIdeal := by
  pair_intro
  · run_from Cert.OdIn1Ideal.Gen.run_main m g
  · run_from Cert.OdIn1RefIdeal.Value.run m' g'
    exact (Cert.OdIn1Ideal.Tiles.final m c).symm

theorem odIn1_reference : Cert.quiescent_OdIn1RefIdeal := by
  intro m g _
  refine (θ_run Cert.OdIn1RefIdeal.defs _ _).mono (fun r h => ⟨fun c => ?_, sem_eq_zero_of_no_sems (by decide) r.2⟩) (Cert.OdIn1RefIdeal.Value.run (F := Ideal) m g)
  have k := h c
  simp only [k, and_self]

theorem gluMm1 : Cert.algebraic_GluMm1Ideal_GluMm1RefIdeal := by
  pair_intro
  · run_from Cert.GluMm1Ideal.Gen.run_main m g
  · run_from Cert.GluMm1RefIdeal.Value.run m' g'
    exact (Cert.GluMm1Ideal.Tiles.final m c).symm

theorem gluMm1_reference : Cert.quiescent_GluMm1RefIdeal := by
  intro m g _
  refine (θ_run Cert.GluMm1RefIdeal.defs _ _).mono (fun r h => ⟨fun c => ?_, sem_eq_zero_of_no_sems (by decide) r.2⟩) (Cert.GluMm1RefIdeal.Value.run (F := Ideal) m g)
  have k := h c
  simp only [k, and_self]

theorem mixOut1 : Cert.algebraic_MixOut1Ideal_MixOut1RefIdeal := by
  pair_intro
  · run_from Cert.MixOut1Ideal.Gen.run_main m g
  · run_from Cert.MixOut1RefIdeal.Value.run m' g'
    exact (Cert.MixOut1Ideal.Tiles.final m c).symm

theorem mixOut1_reference : Cert.quiescent_MixOut1RefIdeal := by
  intro m g _
  refine (θ_run Cert.MixOut1RefIdeal.defs _ _).mono (fun r h => ⟨fun c => ?_, sem_eq_zero_of_no_sems (by decide) r.2⟩) (Cert.MixOut1RefIdeal.Value.run (F := Ideal) m g)
  have k := h c
  simp only [k, and_self]

set_option maxHeartbeats 1600000 in
theorem mix_reference : Cert.quiescent_ReferenceIdeal := by
  intro m g _
  refine (θ_run Cert.ReferenceIdeal.defs _ _).mono (fun r h => ⟨fun c => ?_, sem_eq_zero_of_no_sems (by decide) r.2⟩) (Cert.ReferenceIdeal.Value.run (F := Ideal) m g)
  have k := h c
  simp only [k, and_self]

theorem named : Cert.preserves_Kernel_KernelIdeal :=
  ⟨IdealRules.named_const.statement Cert.KernelIdeal.κ "gelu_a" .f32 0x3D372713#32 ((8943 / 200000 : ℝ) : EReal) rfl,
    IdealRules.named_const.statement Cert.KernelIdeal.κ "gelu_3a" .f32 0x3E095D4F#32 ((26829 / 200000 : ℝ) : EReal) rfl⟩

theorem named_act : Cert.preserves_Act_ActIdeal :=
  IdealRules.named_const.statement Cert.ActIdeal.κ "gelu_a" .f32 0x3D372713#32 ((8943 / 200000 : ℝ) : EReal) rfl

theorem claim : Cert.Claim := ⟨Cert.Kernel.Gen.facts, Cert.KernelIdeal.Gen.facts, Cert.ReferenceIdeal.Gen.facts, Cert.Dwo.Gen.facts, Cert.DwoIdeal.Gen.facts, Cert.DwoRefIdeal.Gen.facts, Cert.Dwi.Gen.facts, Cert.DwiIdeal.Gen.facts, Cert.DwiRefIdeal.Gen.facts, Cert.Act.Gen.facts, Cert.ActIdeal.Gen.facts, Cert.ActRefIdeal.Gen.facts, Cert.Dact0.Gen.facts, Cert.Dact0Ideal.Gen.facts, Cert.Dact0RefIdeal.Gen.facts, Cert.Dh0.Gen.facts, Cert.Dh0Ideal.Gen.facts, Cert.Dh0RefIdeal.Gen.facts, Cert.In0.Gen.facts, Cert.In0Ideal.Gen.facts, Cert.In0RefIdeal.Gen.facts, Cert.Out0.Gen.facts, Cert.Out0Ideal.Gen.facts, Cert.Out0RefIdeal.Gen.facts, Cert.Dact1.Gen.facts, Cert.Dact1Ideal.Gen.facts, Cert.Dact1RefIdeal.Gen.facts, Cert.Dh1.Gen.facts, Cert.Dh1Ideal.Gen.facts, Cert.Dh1RefIdeal.Gen.facts, Cert.In1.Gen.facts, Cert.In1Ideal.Gen.facts, Cert.In1RefIdeal.Gen.facts, Cert.Out1.Gen.facts, Cert.Out1Ideal.Gen.facts, Cert.Out1RefIdeal.Gen.facts, Cert.Dact2.Gen.facts, Cert.Dact2Ideal.Gen.facts, Cert.Dact2RefIdeal.Gen.facts, Cert.Dh2.Gen.facts, Cert.Dh2Ideal.Gen.facts, Cert.Dh2RefIdeal.Gen.facts, Cert.In2.Gen.facts, Cert.In2Ideal.Gen.facts, Cert.In2RefIdeal.Gen.facts, Cert.Out2.Gen.facts, Cert.Out2Ideal.Gen.facts, Cert.Out2RefIdeal.Gen.facts, Cert.Dact3.Gen.facts, Cert.Dact3Ideal.Gen.facts, Cert.Dact3RefIdeal.Gen.facts, Cert.Dh3.Gen.facts, Cert.Dh3Ideal.Gen.facts, Cert.Dh3RefIdeal.Gen.facts, Cert.In3.Gen.facts, Cert.In3Ideal.Gen.facts, Cert.In3RefIdeal.Gen.facts, Cert.Out3.Gen.facts, Cert.Out3Ideal.Gen.facts, Cert.Out3RefIdeal.Gen.facts, Cert.MixDw.Gen.facts, Cert.MixDwIdeal.Gen.facts, Cert.MixDwRefIdeal.Gen.facts, Cert.EvDw.Gen.facts, Cert.EvDwIdeal.Gen.facts, Cert.EvDwRefIdeal.Gen.facts, Cert.OdDw.Gen.facts, Cert.OdDwIdeal.Gen.facts, Cert.OdDwRefIdeal.Gen.facts, Cert.GluDw.Gen.facts, Cert.GluDwIdeal.Gen.facts, Cert.GluDwRefIdeal.Gen.facts, Cert.MixD0.Gen.facts, Cert.MixD0Ideal.Gen.facts, Cert.MixD0RefIdeal.Gen.facts, Cert.EvDh0.Gen.facts, Cert.EvDh0Ideal.Gen.facts, Cert.EvDh0RefIdeal.Gen.facts, Cert.OdDh0.Gen.facts, Cert.OdDh0Ideal.Gen.facts, Cert.OdDh0RefIdeal.Gen.facts, Cert.GluDz0.Gen.facts, Cert.GluDz0Ideal.Gen.facts, Cert.GluDz0RefIdeal.Gen.facts, Cert.EvIn0.Gen.facts, Cert.EvIn0Ideal.Gen.facts, Cert.EvIn0RefIdeal.Gen.facts, Cert.OdIn0.Gen.facts, Cert.OdIn0Ideal.Gen.facts, Cert.OdIn0RefIdeal.Gen.facts, Cert.GluMm0.Gen.facts, Cert.GluMm0Ideal.Gen.facts, Cert.GluMm0RefIdeal.Gen.facts, Cert.MixOut0.Gen.facts, Cert.MixOut0Ideal.Gen.facts, Cert.MixOut0RefIdeal.Gen.facts, Cert.MixD1.Gen.facts, Cert.MixD1Ideal.Gen.facts, Cert.MixD1RefIdeal.Gen.facts, Cert.EvDh1.Gen.facts, Cert.EvDh1Ideal.Gen.facts, Cert.EvDh1RefIdeal.Gen.facts, Cert.OdDh1.Gen.facts, Cert.OdDh1Ideal.Gen.facts, Cert.OdDh1RefIdeal.Gen.facts, Cert.GluDz1.Gen.facts, Cert.GluDz1Ideal.Gen.facts, Cert.GluDz1RefIdeal.Gen.facts, Cert.EvIn1.Gen.facts, Cert.EvIn1Ideal.Gen.facts, Cert.EvIn1RefIdeal.Gen.facts, Cert.OdIn1.Gen.facts, Cert.OdIn1Ideal.Gen.facts, Cert.OdIn1RefIdeal.Gen.facts, Cert.GluMm1.Gen.facts, Cert.GluMm1Ideal.Gen.facts, Cert.GluMm1RefIdeal.Gen.facts, Cert.MixOut1.Gen.facts, Cert.MixOut1Ideal.Gen.facts, Cert.MixOut1RefIdeal.Gen.facts, Cert.Attn.Gen.facts, Cert.AttnIdeal.Gen.facts, Cert.AttnRefIdeal.Gen.facts, Cert.AdaDw.Gen.facts, Cert.AdaDwIdeal.Gen.facts, Cert.AdaDwRefIdeal.Gen.facts, Cert.Mod0.Gen.facts, Cert.Mod0Ideal.Gen.facts, Cert.Mod0RefIdeal.Gen.facts, Cert.Mod1.Gen.facts, Cert.Mod1Ideal.Gen.facts, Cert.Mod1RefIdeal.Gen.facts, Cert.Mod2.Gen.facts, Cert.Mod2Ideal.Gen.facts, Cert.Mod2RefIdeal.Gen.facts, Cert.Mod3.Gen.facts, Cert.Mod3Ideal.Gen.facts, Cert.Mod3RefIdeal.Gen.facts, Cert.Silu.Gen.facts, Cert.SiluIdeal.Gen.facts, Cert.SiluRefIdeal.Gen.facts, Cert.Resid.Gen.facts, Cert.ResidIdeal.Gen.facts, Cert.ResidRefIdeal.Gen.facts, Cert.ResidB.Gen.facts, Cert.ResidBIdeal.Gen.facts, Cert.ResidBRefIdeal.Gen.facts, Cert.GluZ.Gen.facts, Cert.GluZIdeal.Gen.facts, Cert.GluZRefIdeal.Gen.facts, Cert.GluOut.Gen.facts, Cert.GluOutIdeal.Gen.facts, Cert.GluOutRefIdeal.Gen.facts, Cert.GluGate.Gen.facts, Cert.GluGateIdeal.Gen.facts, Cert.GluGateRefIdeal.Gen.facts, Cert.GluY.Gen.facts, Cert.GluYIdeal.Gen.facts, Cert.GluYRefIdeal.Gen.facts, Cert.Sink.Gen.facts, Cert.SinkIdeal.Gen.facts, Cert.SinkRefIdeal.Gen.facts, Cert.Adamw.Gen.facts, Cert.AdamwIdeal.Gen.facts, Cert.AdamwRefIdeal.Gen.facts, Cert.Pre_finite.Gen.facts, Cert.Pre_finite_attn.Gen.facts, Cert.Pre_finite_glu.Gen.facts,
    fun m ρ _ => Cert.Kernel.Gen.frame m ρ,
    fun m ρ _ => Cert.KernelIdeal.Gen.frame m ρ,
    fun m ρ _ => Cert.KernelIdeal.Gen.frame m ρ,
    mix_reference,
    fun m ρ _ => mix_reference m ρ trivial,
    fun m ρ _ => Cert.Dwo.Gen.frame m ρ,
    fun m ρ _ => Cert.DwoIdeal.Gen.frame m ρ,
    dwo_reference,
    fun m ρ _ => Cert.Dwi.Gen.frame m ρ,
    fun m ρ _ => Cert.DwiIdeal.Gen.frame m ρ,
    dwi_reference,
    fun m ρ _ => Cert.Act.Gen.frame m ρ,
    fun m ρ _ => Cert.ActIdeal.Gen.frame m ρ,
    act_reference,
    fun m ρ _ => Cert.Dact0.Gen.frame m ρ,
    fun m ρ _ => Cert.Dact0Ideal.Gen.frame m ρ,
    dact0_reference,
    fun m ρ _ => Cert.Dh0.Gen.frame m ρ,
    fun m ρ _ => Cert.Dh0Ideal.Gen.frame m ρ,
    dh0_reference,
    fun m ρ _ => Cert.In0.Gen.frame m ρ,
    fun m ρ _ => Cert.In0Ideal.Gen.frame m ρ,
    in0_reference,
    fun m ρ _ => Cert.Out0.Gen.frame m ρ,
    fun m ρ _ => Cert.Out0Ideal.Gen.frame m ρ,
    out0_reference,
    fun m ρ _ => Cert.Dact1.Gen.frame m ρ,
    fun m ρ _ => Cert.Dact1Ideal.Gen.frame m ρ,
    dact1_reference,
    fun m ρ _ => Cert.Dh1.Gen.frame m ρ,
    fun m ρ _ => Cert.Dh1Ideal.Gen.frame m ρ,
    dh1_reference,
    fun m ρ _ => Cert.In1.Gen.frame m ρ,
    fun m ρ _ => Cert.In1Ideal.Gen.frame m ρ,
    in1_reference,
    fun m ρ _ => Cert.Out1.Gen.frame m ρ,
    fun m ρ _ => Cert.Out1Ideal.Gen.frame m ρ,
    out1_reference,
    fun m ρ _ => Cert.Dact2.Gen.frame m ρ,
    fun m ρ _ => Cert.Dact2Ideal.Gen.frame m ρ,
    dact2_reference,
    fun m ρ _ => Cert.Dh2.Gen.frame m ρ,
    fun m ρ _ => Cert.Dh2Ideal.Gen.frame m ρ,
    dh2_reference,
    fun m ρ _ => Cert.In2.Gen.frame m ρ,
    fun m ρ _ => Cert.In2Ideal.Gen.frame m ρ,
    in2_reference,
    fun m ρ _ => Cert.Out2.Gen.frame m ρ,
    fun m ρ _ => Cert.Out2Ideal.Gen.frame m ρ,
    out2_reference,
    fun m ρ _ => Cert.Dact3.Gen.frame m ρ,
    fun m ρ _ => Cert.Dact3Ideal.Gen.frame m ρ,
    dact3_reference,
    fun m ρ _ => Cert.Dh3.Gen.frame m ρ,
    fun m ρ _ => Cert.Dh3Ideal.Gen.frame m ρ,
    dh3_reference,
    fun m ρ _ => Cert.In3.Gen.frame m ρ,
    fun m ρ _ => Cert.In3Ideal.Gen.frame m ρ,
    in3_reference,
    fun m ρ _ => Cert.Out3.Gen.frame m ρ,
    fun m ρ _ => Cert.Out3Ideal.Gen.frame m ρ,
    out3_reference,
    fun m ρ _ => Cert.MixDw.Gen.frame m ρ,
    fun m ρ _ => Cert.MixDwIdeal.Gen.frame m ρ,
    mixDw_reference,
    fun m ρ _ => Cert.EvDw.Gen.frame m ρ,
    fun m ρ _ => Cert.EvDwIdeal.Gen.frame m ρ,
    evDw_reference,
    fun m ρ _ => Cert.OdDw.Gen.frame m ρ,
    fun m ρ _ => Cert.OdDwIdeal.Gen.frame m ρ,
    odDw_reference,
    fun m ρ _ => Cert.GluDw.Gen.frame m ρ,
    fun m ρ _ => Cert.GluDwIdeal.Gen.frame m ρ,
    gluDw_reference,
    fun m ρ _ => Cert.MixD0.Gen.frame m ρ,
    fun m ρ _ => Cert.MixD0Ideal.Gen.frame m ρ,
    mixD0_reference,
    fun m ρ _ => Cert.EvDh0.Gen.frame m ρ,
    fun m ρ _ => Cert.EvDh0Ideal.Gen.frame m ρ,
    evDh0_reference,
    fun m ρ _ => Cert.OdDh0.Gen.frame m ρ,
    fun m ρ _ => Cert.OdDh0Ideal.Gen.frame m ρ,
    odDh0_reference,
    fun m ρ _ => Cert.GluDz0.Gen.frame m ρ,
    fun m ρ _ => Cert.GluDz0Ideal.Gen.frame m ρ,
    gluDz0_reference,
    fun m ρ _ => Cert.EvIn0.Gen.frame m ρ,
    fun m ρ _ => Cert.EvIn0Ideal.Gen.frame m ρ,
    evIn0_reference,
    fun m ρ _ => Cert.OdIn0.Gen.frame m ρ,
    fun m ρ _ => Cert.OdIn0Ideal.Gen.frame m ρ,
    odIn0_reference,
    fun m ρ _ => Cert.GluMm0.Gen.frame m ρ,
    fun m ρ _ => Cert.GluMm0Ideal.Gen.frame m ρ,
    gluMm0_reference,
    fun m ρ _ => Cert.MixOut0.Gen.frame m ρ,
    fun m ρ _ => Cert.MixOut0Ideal.Gen.frame m ρ,
    mixOut0_reference,
    fun m ρ _ => Cert.MixD1.Gen.frame m ρ,
    fun m ρ _ => Cert.MixD1Ideal.Gen.frame m ρ,
    mixD1_reference,
    fun m ρ _ => Cert.EvDh1.Gen.frame m ρ,
    fun m ρ _ => Cert.EvDh1Ideal.Gen.frame m ρ,
    evDh1_reference,
    fun m ρ _ => Cert.OdDh1.Gen.frame m ρ,
    fun m ρ _ => Cert.OdDh1Ideal.Gen.frame m ρ,
    odDh1_reference,
    fun m ρ _ => Cert.GluDz1.Gen.frame m ρ,
    fun m ρ _ => Cert.GluDz1Ideal.Gen.frame m ρ,
    gluDz1_reference,
    fun m ρ _ => Cert.EvIn1.Gen.frame m ρ,
    fun m ρ _ => Cert.EvIn1Ideal.Gen.frame m ρ,
    evIn1_reference,
    fun m ρ _ => Cert.OdIn1.Gen.frame m ρ,
    fun m ρ _ => Cert.OdIn1Ideal.Gen.frame m ρ,
    odIn1_reference,
    fun m ρ _ => Cert.GluMm1.Gen.frame m ρ,
    fun m ρ _ => Cert.GluMm1Ideal.Gen.frame m ρ,
    gluMm1_reference,
    fun m ρ _ => Cert.MixOut1.Gen.frame m ρ,
    fun m ρ _ => Cert.MixOut1Ideal.Gen.frame m ρ,
    mixOut1_reference,
    fun m ρ _ => Cert.Attn.Gen.frame m ρ,
    fun m ρ _ => Cert.AttnIdeal.Gen.frame m ρ,
    fun m ρ _ => Cert.AttnIdeal.Gen.frame m ρ,
    Cert.AttnIdeal.Results.attn_reference,
    fun m ρ _ => Cert.AttnIdeal.Results.attn_reference m ρ trivial,
    fun m ρ _ => Cert.AdaDw.Gen.frame m ρ,
    fun m ρ _ => Cert.AdaDwIdeal.Gen.frame m ρ,
    adaDw_reference,
    fun m ρ _ => Cert.Mod0.Gen.frame m ρ,
    fun m ρ _ => Cert.Mod0Ideal.Gen.frame m ρ,
    mod0_reference,
    fun m ρ _ => Cert.Mod1.Gen.frame m ρ,
    fun m ρ _ => Cert.Mod1Ideal.Gen.frame m ρ,
    mod1_reference,
    fun m ρ _ => Cert.Mod2.Gen.frame m ρ,
    fun m ρ _ => Cert.Mod2Ideal.Gen.frame m ρ,
    mod2_reference,
    fun m ρ _ => Cert.Mod3.Gen.frame m ρ,
    fun m ρ _ => Cert.Mod3Ideal.Gen.frame m ρ,
    mod3_reference,
    fun m ρ _ => Cert.Silu.Gen.frame m ρ,
    fun m ρ _ => Cert.SiluIdeal.Gen.frame m ρ,
    silu_reference,
    fun m ρ _ => Cert.Resid.Gen.frame m ρ,
    fun m ρ _ => Cert.ResidIdeal.Gen.frame m ρ,
    resid_reference,
    fun m ρ _ => Cert.ResidB.Gen.frame m ρ,
    fun m ρ _ => Cert.ResidBIdeal.Gen.frame m ρ,
    residB_reference,
    fun m ρ _ => Cert.GluZ.Gen.frame m ρ,
    fun m ρ _ => Cert.GluZIdeal.Gen.frame m ρ,
    gluZ_reference,
    fun m ρ _ => Cert.GluOut.Gen.frame m ρ,
    fun m ρ _ => Cert.GluOutIdeal.Gen.frame m ρ,
    gluOut_reference,
    fun m ρ _ => Cert.GluGate.Gen.frame m ρ,
    fun m ρ _ => Cert.GluGateIdeal.Gen.frame m ρ,
    gluGate_reference,
    fun m ρ _ => Cert.GluY.Gen.frame m ρ,
    fun m ρ _ => Cert.GluYIdeal.Gen.frame m ρ,
    fun m ρ _ => Cert.GluYIdeal.Gen.frame m ρ,
    gluY_reference,
    fun m ρ _ => gluY_reference m ρ trivial,
    fun m ρ _ => Cert.Sink.Gen.frame m ρ,
    fun m ρ _ => Cert.SinkIdeal.Gen.frame m ρ,
    sink_reference,
    fun m ρ _ => Cert.Adamw.Gen.frame m ρ,
    fun m ρ _ => Cert.AdamwIdeal.Gen.frame m ρ,
    adamw_reference,
    named,
    mix,
    trivial,
    dwo,
    trivial,
    dwi,
    named_act,
    act,
    trivial,
    dact0,
    trivial,
    dh0,
    trivial,
    in0,
    trivial,
    out0,
    trivial,
    dact1,
    trivial,
    dh1,
    trivial,
    in1,
    trivial,
    out1,
    trivial,
    dact2,
    trivial,
    dh2,
    trivial,
    in2,
    trivial,
    out2,
    trivial,
    dact3,
    trivial,
    dh3,
    trivial,
    in3,
    trivial,
    out3,
    trivial,
    mixDw,
    trivial,
    evDw,
    trivial,
    odDw,
    trivial,
    gluDw,
    trivial,
    mixD0,
    trivial,
    evDh0,
    trivial,
    odDh0,
    trivial,
    gluDz0,
    trivial,
    evIn0,
    trivial,
    odIn0,
    trivial,
    gluMm0,
    trivial,
    mixOut0,
    trivial,
    mixD1,
    trivial,
    evDh1,
    trivial,
    odDh1,
    trivial,
    gluDz1,
    trivial,
    evIn1,
    trivial,
    odIn1,
    trivial,
    gluMm1,
    trivial,
    mixOut1,
    Cert.AttnIdeal.Results.named_attn,
    Cert.AttnIdeal.Results.attn,
    trivial,
    adaDw,
    trivial,
    mod0,
    trivial,
    mod1,
    trivial,
    mod2,
    trivial,
    mod3,
    trivial,
    silu,
    trivial,
    resid,
    trivial,
    residB,
    named_gluZ,
    gluZ,
    named_gluOut,
    gluOut,
    named_gluGate,
    gluGate,
    named_gluY,
    gluY,
    trivial,
    sink,
    trivial,
    adamw⟩

end Cert.Proof

end
